-- ==== Defs.lean ====
def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_finite_attention [hPre_finite_attention : Cert.Pre_finite_attention.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_finite_attention.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).1 = (fun _ => 1#1)
    ∧ (Cert.Pre_finite_attention.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.1 = (fun _ => 1#1)
    ∧ (Cert.Pre_finite_attention.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.2.1 = (fun _ => 1#1)
    ∧ (Cert.Pre_finite_attention.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.2.2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite_attention [hPre_finite_attention : Cert.Pre_finite_attention.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_attention.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).1 = (fun _ => 1#1)
    ∧ (Cert.Pre_finite_attention.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.1 = (fun _ => 1#1)
    ∧ (Cert.Pre_finite_attention.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.2.1 = (fun _ => 1#1)
    ∧ (Cert.Pre_finite_attention.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.2.2 = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_finite_memory [hPre_finite_memory : Cert.Pre_finite_memory.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_finite_memory.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2))).1 = (fun _ => 1#1)
    ∧ (Cert.Pre_finite_memory.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2))).2 = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_finite_memory [hPre_finite_memory : Cert.Pre_finite_memory.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_finite_memory.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2))).1 = (fun _ => 1#1)
    ∧ (Cert.Pre_finite_memory.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2))).2 = (fun _ => 1#1)

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwdownKernel (m : (ℓ : Loc Cert.DwdownKernel.nD Cert.DwdownKernel.τ Cert.DwdownKernel.sig) → Buf (Elt Bits) ℓ) : Prop :=
  True

def Pre_DwdownKernelIdeal (m : (ℓ : Loc Cert.DwdownKernelIdeal.nD Cert.DwdownKernelIdeal.τ Cert.DwdownKernelIdeal.sig) → Buf (Elt Ideal) ℓ) : Prop :=
  True

def Pre_DwdownReferenceIdeal (m : (ℓ : Loc Cert.DwdownReferenceIdeal.nD Cert.DwdownReferenceIdeal.τ Cert.DwdownReferenceIdeal.sig) → Buf (Elt Ideal) ℓ) : Prop :=
  True

def Pre_DwupKernel (m : (ℓ : Loc Cert.DwupKernel.nD Cert.DwupKernel.τ Cert.DwupKernel.sig) → Buf (Elt Bits) ℓ) : Prop :=
  True

def Pre_DwupKernelIdeal (m : (ℓ : Loc Cert.DwupKernelIdeal.nD Cert.DwupKernelIdeal.τ Cert.DwupKernelIdeal.sig) → Buf (Elt Ideal) ℓ) : Prop :=
  True

def Pre_DwupReferenceIdeal (m : (ℓ : Loc Cert.DwupReferenceIdeal.nD Cert.DwupReferenceIdeal.τ Cert.DwupReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_ConvinKernel (m : (ℓ : Loc Cert.ConvinKernel.nD Cert.ConvinKernel.τ Cert.ConvinKernel.sig) → Buf (Elt Bits) ℓ) : Prop :=
  True

def Pre_ConvinKernelIdeal (m : (ℓ : Loc Cert.ConvinKernelIdeal.nD Cert.ConvinKernelIdeal.τ Cert.ConvinKernelIdeal.sig) → Buf (Elt Ideal) ℓ) : Prop :=
  True

def Pre_ConvinReferenceIdeal (m : (ℓ : Loc Cert.ConvinReferenceIdeal.nD Cert.ConvinReferenceIdeal.τ Cert.ConvinReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DwoutKernel (m : (ℓ : Loc Cert.DwoutKernel.nD Cert.DwoutKernel.τ Cert.DwoutKernel.sig) → Buf (Elt Bits) ℓ) : Prop :=
  True

def Pre_DwoutKernelIdeal (m : (ℓ : Loc Cert.DwoutKernelIdeal.nD Cert.DwoutKernelIdeal.τ Cert.DwoutKernelIdeal.sig) → Buf (Elt Ideal) ℓ) : Prop :=
  True

def Pre_DwoutReferenceIdeal (m : (ℓ : Loc Cert.DwoutReferenceIdeal.nD Cert.DwoutReferenceIdeal.τ Cert.DwoutReferenceIdeal.sig) → Buf (Elt Ideal) ℓ) : Prop :=
  True

def Pre_DhaKernel (m : (ℓ : Loc Cert.DhaKernel.nD Cert.DhaKernel.τ Cert.DhaKernel.sig) → Buf (Elt Bits) ℓ) : Prop :=
  True

def Pre_DhaKernelIdeal (m : (ℓ : Loc Cert.DhaKernelIdeal.nD Cert.DhaKernelIdeal.τ Cert.DhaKernelIdeal.sig) → Buf (Elt Ideal) ℓ) : Prop :=
  True

def Pre_DhaReferenceIdeal (m : (ℓ : Loc Cert.DhaReferenceIdeal.nD Cert.DhaReferenceIdeal.τ Cert.DhaReferenceIdeal.sig) → Buf (Elt Ideal) ℓ) : Prop :=
  True

def Pre_DwinaKernel (m : (ℓ : Loc Cert.DwinaKernel.nD Cert.DwinaKernel.τ Cert.DwinaKernel.sig) → Buf (Elt Bits) ℓ) : Prop :=
  True

def Pre_DwinaKernelIdeal (m : (ℓ : Loc Cert.DwinaKernelIdeal.nD Cert.DwinaKernelIdeal.τ Cert.DwinaKernelIdeal.sig) → Buf (Elt Ideal) ℓ) : Prop :=
  True

def Pre_DwinaReferenceIdeal (m : (ℓ : Loc Cert.DwinaReferenceIdeal.nD Cert.DwinaReferenceIdeal.τ Cert.DwinaReferenceIdeal.sig) → Buf (Elt Ideal) ℓ) : Prop :=
  True

def Pre_FupKernel (m : (ℓ : Loc Cert.FupKernel.nD Cert.FupKernel.τ Cert.FupKernel.sig) → Buf (Elt Bits) ℓ) : Prop :=
  True

def Pre_FupKernelIdeal (m : (ℓ : Loc Cert.FupKernelIdeal.nD Cert.FupKernelIdeal.τ Cert.FupKernelIdeal.sig) → Buf (Elt Ideal) ℓ) : Prop :=
  True

def Pre_FupReferenceIdeal (m : (ℓ : Loc Cert.FupReferenceIdeal.nD Cert.FupReferenceIdeal.τ Cert.FupReferenceIdeal.sig) → Buf (Elt Ideal) ℓ) : Prop :=
  True

def Pre_FdownKernel (m : (ℓ : Loc Cert.FdownKernel.nD Cert.FdownKernel.τ Cert.FdownKernel.sig) → Buf (Elt Bits) ℓ) : Prop :=
  True

def Pre_FdownKernelIdeal (m : (ℓ : Loc Cert.FdownKernelIdeal.nD Cert.FdownKernelIdeal.τ Cert.FdownKernelIdeal.sig) → Buf (Elt Ideal) ℓ) : Prop :=
  True

def Pre_FdownReferenceIdeal (m : (ℓ : Loc Cert.FdownReferenceIdeal.nD Cert.FdownReferenceIdeal.τ Cert.FdownReferenceIdeal.sig) → Buf (Elt Ideal) ℓ) : Prop :=
  True

def Pre_FoutKernel (m : (ℓ : Loc Cert.FoutKernel.nD Cert.FoutKernel.τ Cert.FoutKernel.sig) → Buf (Elt Bits) ℓ) : Prop :=
  True

def Pre_FoutKernelIdeal (m : (ℓ : Loc Cert.FoutKernelIdeal.nD Cert.FoutKernelIdeal.τ Cert.FoutKernelIdeal.sig) → Buf (Elt Ideal) ℓ) : Prop :=
  True

def Pre_FoutReferenceIdeal (m : (ℓ : Loc Cert.FoutReferenceIdeal.nD Cert.FoutReferenceIdeal.τ Cert.FoutReferenceIdeal.sig) → Buf (Elt Ideal) ℓ) : Prop :=
  True

def Pre_FinaKernel (m : (ℓ : Loc Cert.FinaKernel.nD Cert.FinaKernel.τ Cert.FinaKernel.sig) → Buf (Elt Bits) ℓ) : Prop :=
  True

def Pre_FinaKernelIdeal (m : (ℓ : Loc Cert.FinaKernelIdeal.nD Cert.FinaKernelIdeal.τ Cert.FinaKernelIdeal.sig) → Buf (Elt Ideal) ℓ) : Prop :=
  True

def Pre_FinaReferenceIdeal (m : (ℓ : Loc Cert.FinaReferenceIdeal.nD Cert.FinaReferenceIdeal.τ Cert.FinaReferenceIdeal.sig) → Buf (Elt Ideal) ℓ) : Prop :=
  True

def Pre_DhbKernel (m : (ℓ : Loc Cert.DhbKernel.nD Cert.DhbKernel.τ Cert.DhbKernel.sig) → Buf (Elt Bits) ℓ) : Prop :=
  True

def Pre_DhbKernelIdeal (m : (ℓ : Loc Cert.DhbKernelIdeal.nD Cert.DhbKernelIdeal.τ Cert.DhbKernelIdeal.sig) → Buf (Elt Ideal) ℓ) : Prop :=
  True

def Pre_DhbReferenceIdeal (m : (ℓ : Loc Cert.DhbReferenceIdeal.nD Cert.DhbReferenceIdeal.τ Cert.DhbReferenceIdeal.sig) → Buf (Elt Ideal) ℓ) : Prop :=
  True

def Pre_DwinbKernel (m : (ℓ : Loc Cert.DwinbKernel.nD Cert.DwinbKernel.τ Cert.DwinbKernel.sig) → Buf (Elt Bits) ℓ) : Prop :=
  True

def Pre_DwinbKernelIdeal (m : (ℓ : Loc Cert.DwinbKernelIdeal.nD Cert.DwinbKernelIdeal.τ Cert.DwinbKernelIdeal.sig) → Buf (Elt Ideal) ℓ) : Prop :=
  True

def Pre_DwinbReferenceIdeal (m : (ℓ : Loc Cert.DwinbReferenceIdeal.nD Cert.DwinbReferenceIdeal.τ Cert.DwinbReferenceIdeal.sig) → Buf (Elt Ideal) ℓ) : Prop :=
  True

def Pre_MhafKernel (m : (ℓ : Loc Cert.MhafKernel.nD Cert.MhafKernel.τ Cert.MhafKernel.sig) → Buf (Elt Bits) ℓ) : Prop :=
  True

def Pre_MhafKernelIdeal (m : (ℓ : Loc Cert.MhafKernelIdeal.nD Cert.MhafKernelIdeal.τ Cert.MhafKernelIdeal.sig) → Buf (Elt Ideal) ℓ) : Prop :=
  True

def Pre_MhafKernelIdeal_finite_scores [hPre_finite_scores : Cert.Pre_finite_scores.Facts] (m : (ℓ : Loc Cert.MhafKernelIdeal.nD Cert.MhafKernelIdeal.τ Cert.MhafKernelIdeal.sig) → Buf (Elt Ideal) ℓ) : Prop :=
  ∀ c : Dev Cert.MhafKernelIdeal.nD,
    (Cert.Pre_finite_scores.fn (F := Ideal) (m ((c.tc : Thread Cert.MhafKernelIdeal.nD Cert.MhafKernelIdeal.τ).loc Cert.MhafKernelIdeal.main_arg0)) (m ((c.tc : Thread Cert.MhafKernelIdeal.nD Cert.MhafKernelIdeal.τ).loc Cert.MhafKernelIdeal.main_arg1)) (m ((c.tc : Thread Cert.MhafKernelIdeal.nD Cert.MhafKernelIdeal.τ).loc Cert.MhafKernelIdeal.main_arg2))).1 = (fun _ => 1#1)
    ∧ (Cert.Pre_finite_scores.fn (F := Ideal) (m ((c.tc : Thread Cert.MhafKernelIdeal.nD Cert.MhafKernelIdeal.τ).loc Cert.MhafKernelIdeal.main_arg0)) (m ((c.tc : Thread Cert.MhafKernelIdeal.nD Cert.MhafKernelIdeal.τ).loc Cert.MhafKernelIdeal.main_arg1)) (m ((c.tc : Thread Cert.MhafKernelIdeal.nD Cert.MhafKernelIdeal.τ).loc Cert.MhafKernelIdeal.main_arg2))).2 = (fun _ => 1#1)

def Pre_MhafReferenceIdeal (m : (ℓ : Loc Cert.MhafReferenceIdeal.nD Cert.MhafReferenceIdeal.τ Cert.MhafReferenceIdeal.sig) → Buf (Elt Ideal) ℓ) : Prop :=
  True

def Pre_MhafReferenceIdeal_finite_scores [hPre_finite_scores : Cert.Pre_finite_scores.Facts] (m : (ℓ : Loc Cert.MhafReferenceIdeal.nD Cert.MhafReferenceIdeal.τ Cert.MhafReferenceIdeal.sig) → Buf (Elt Ideal) ℓ) : Prop :=
  ∀ c : Dev Cert.MhafReferenceIdeal.nD,
    (Cert.Pre_finite_scores.fn (F := Ideal) (m ((c.tc : Thread Cert.MhafReferenceIdeal.nD Cert.MhafReferenceIdeal.τ).loc Cert.MhafReferenceIdeal.main_arg0)) (m ((c.tc : Thread Cert.MhafReferenceIdeal.nD Cert.MhafReferenceIdeal.τ).loc Cert.MhafReferenceIdeal.main_arg1)) (m ((c.tc : Thread Cert.MhafReferenceIdeal.nD Cert.MhafReferenceIdeal.τ).loc Cert.MhafReferenceIdeal.main_arg2))).1 = (fun _ => 1#1)
    ∧ (Cert.Pre_finite_scores.fn (F := Ideal) (m ((c.tc : Thread Cert.MhafReferenceIdeal.nD Cert.MhafReferenceIdeal.τ).loc Cert.MhafReferenceIdeal.main_arg0)) (m ((c.tc : Thread Cert.MhafReferenceIdeal.nD Cert.MhafReferenceIdeal.τ).loc Cert.MhafReferenceIdeal.main_arg1)) (m ((c.tc : Thread Cert.MhafReferenceIdeal.nD Cert.MhafReferenceIdeal.τ).loc Cert.MhafReferenceIdeal.main_arg2))).2 = (fun _ => 1#1)

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_FsguKernel (m : (ℓ : Loc Cert.FsguKernel.nD Cert.FsguKernel.τ Cert.FsguKernel.sig) → Buf (Elt Bits) ℓ) : Prop :=
  True

def Pre_FsguKernelIdeal (m : (ℓ : Loc Cert.FsguKernelIdeal.nD Cert.FsguKernelIdeal.τ Cert.FsguKernelIdeal.sig) → Buf (Elt Ideal) ℓ) : Prop :=
  True

def Pre_FsguReferenceIdeal (m : (ℓ : Loc Cert.FsguReferenceIdeal.nD Cert.FsguReferenceIdeal.τ Cert.FsguReferenceIdeal.sig) → Buf (Elt Ideal) ℓ) : Prop :=
  True

def Pre_FmemKernel (m : (ℓ : Loc Cert.FmemKernel.nD Cert.FmemKernel.τ Cert.FmemKernel.sig) → Buf (Elt Bits) ℓ) : Prop :=
  True

def Pre_FmemKernelIdeal (m : (ℓ : Loc Cert.FmemKernelIdeal.nD Cert.FmemKernelIdeal.τ Cert.FmemKernelIdeal.sig) → Buf (Elt Ideal) ℓ) : Prop :=
  True

def Pre_FmemReferenceIdeal (m : (ℓ : Loc Cert.FmemReferenceIdeal.nD Cert.FmemReferenceIdeal.τ Cert.FmemReferenceIdeal.sig) → Buf (Elt Ideal) ℓ) : Prop :=
  True

def Pre_FconvKernel (m : (ℓ : Loc Cert.FconvKernel.nD Cert.FconvKernel.τ Cert.FconvKernel.sig) → Buf (Elt Bits) ℓ) : Prop :=
  True

def Pre_FconvKernelIdeal (m : (ℓ : Loc Cert.FconvKernelIdeal.nD Cert.FconvKernelIdeal.τ Cert.FconvKernelIdeal.sig) → Buf (Elt Ideal) ℓ) : Prop :=
  True

def Pre_FconvReferenceIdeal (m : (ℓ : Loc Cert.FconvReferenceIdeal.nD Cert.FconvReferenceIdeal.τ Cert.FconvReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gate [hPre_finite_gate : Cert.Pre_finite_gate.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 = (fun _ => 1#1)
    ∧ (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.1 = (fun _ => 1#1)
    ∧ (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2.1 = (fun _ => 1#1)
    ∧ (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.2.1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.2.2 = (fun _ => 1#1)

def Pre_FinbKernel (m : (ℓ : Loc Cert.FinbKernel.nD Cert.FinbKernel.τ Cert.FinbKernel.sig) → Buf (Elt Bits) ℓ) : Prop :=
  True

def Pre_FinbKernelIdeal (m : (ℓ : Loc Cert.FinbKernelIdeal.nD Cert.FinbKernelIdeal.τ Cert.FinbKernelIdeal.sig) → Buf (Elt Ideal) ℓ) : Prop :=
  True

def Pre_FinbReferenceIdeal (m : (ℓ : Loc Cert.FinbReferenceIdeal.nD Cert.FinbReferenceIdeal.τ Cert.FinbReferenceIdeal.sig) → Buf (Elt Ideal) ℓ) : Prop :=
  True

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ r.2.sem = fun _ => 0)

def quiescent_MlaKernelIdeal_pre_finite_attention [hMlaKernelIdeal : Cert.MlaKernelIdeal.Facts] [hPre_finite_attention : Cert.Pre_finite_attention.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_finite_attention m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_MlaReferenceIdeal_pre_finite_attention [hMlaReferenceIdeal : Cert.MlaReferenceIdeal.Facts] [hPre_finite_attention : Cert.Pre_finite_attention.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite_attention m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemKernelIdeal_pre_finite_memory [hMemKernelIdeal : Cert.MemKernelIdeal.Facts] [hPre_finite_memory : Cert.Pre_finite_memory.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_finite_memory m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_MemReferenceIdeal_pre_finite_memory [hMemReferenceIdeal : Cert.MemReferenceIdeal.Facts] [hPre_finite_memory : Cert.Pre_finite_memory.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_finite_memory m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_DwdownKernel [hDwdownKernel : Cert.DwdownKernel.Facts] : Prop :=
  ∀ (m : (ℓ : Loc Cert.DwdownKernel.nD Cert.DwdownKernel.τ Cert.DwdownKernel.sig) → Buf (Elt Bits) ℓ) (g : Dev Cert.DwdownKernel.nD → PrngReg), Pre_DwdownKernel m →
    θ_run (Cert.DwdownKernel.defs (F := Bits)) (onTc (τ := Cert.DwdownKernel.τ) (Cert.DwdownKernel.main (F := Bits))) ⟨m, fun _ => 0, g⟩ (fun r => (∀ c : Dev Cert.DwdownKernel.nD,
      r.2.mem ((c.tc : Thread Cert.DwdownKernel.nD Cert.DwdownKernel.τ).loc Cert.DwdownKernel.main_arg0) = m ((c.tc : Thread Cert.DwdownKernel.nD Cert.DwdownKernel.τ).loc Cert.DwdownKernel.main_arg0)
      ∧ r.2.mem ((c.tc : Thread Cert.DwdownKernel.nD Cert.DwdownKernel.τ).loc Cert.DwdownKernel.main_arg1) = m ((c.tc : Thread Cert.DwdownKernel.nD Cert.DwdownKernel.τ).loc Cert.DwdownKernel.main_arg1))
      ∧ r.2.sem = fun _ => 0)

def quiescent_DwdownKernelIdeal [hDwdownKernelIdeal : Cert.DwdownKernelIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg), Pre_DwdownKernelIdeal m →
    θ_run (Cert.DwdownKernelIdeal.defs (F := Ideal)) (onTc (τ := Cert.DwdownKernelIdeal.τ) (Cert.DwdownKernelIdeal.main (F := Ideal))) ⟨m, fun _ => 0, g⟩ (fun r => (∀ c : Dev Cert.DwdownKernelIdeal.nD,
      r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
      ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ r.2.sem = fun _ => 0)

def quiescent_DwdownReferenceIdeal [hDwdownReferenceIdeal : Cert.DwdownReferenceIdeal.Facts] : Prop :=
  ∀ (m : (ℓ : Loc Cert.DwdownReferenceIdeal.nD Cert.DwdownReferenceIdeal.τ Cert.DwdownReferenceIdeal.sig) → Buf (Elt Ideal) ℓ) (g : Dev Cert.DwdownReferenceIdeal.nD → PrngReg), Pre_DwdownReferenceIdeal m →
    θ_run (Cert.DwdownReferenceIdeal.defs (F := Ideal)) (onTc (τ := Cert.DwdownReferenceIdeal.τ) (Cert.DwdownReferenceIdeal.main (F := Ideal))) ⟨m, fun _ => 0, g⟩ (fun r => (∀ c : Dev Cert.DwdownReferenceIdeal.nD,
      r.2.mem ((c.tc : Thread Cert.DwdownReferenceIdeal.nD Cert.DwdownReferenceIdeal.τ).loc Cert.DwdownReferenceIdeal.main_arg0) = m ((c.tc : Thread Cert.DwdownReferenceIdeal.nD Cert.DwdownReferenceIdeal.τ).loc Cert.DwdownReferenceIdeal.main_arg0)
      ∧ r.2.mem ((c.tc : Thread Cert.DwdownReferenceIdeal.nD Cert.DwdownReferenceIdeal.τ).loc Cert.DwdownReferenceIdeal.main_arg1) = m ((c.tc : Thread Cert.DwdownReferenceIdeal.nD Cert.DwdownReferenceIdeal.τ).loc Cert.DwdownReferenceIdeal.main_arg1))
      ∧ r.2.sem = fun _ => 0)

def quiescent_DwupKernel [hDwupKernel : Cert.DwupKernel.Facts] : Prop :=
  ∀ (m : (ℓ : Loc Cert.DwupKernel.nD Cert.DwupKernel.τ Cert.DwupKernel.sig) → Buf (Elt Bits) ℓ) (g : Dev Cert.DwupKernel.nD → PrngReg), Pre_DwupKernel m →
    θ_run (Cert.DwupKernel.defs (F := Bits)) (onTc (τ := Cert.DwupKernel.τ) (Cert.DwupKernel.main (F := Bits))) ⟨m, fun _ => 0, g⟩ (fun r => (∀ c : Dev Cert.DwupKernel.nD,
      r.2.mem ((c.tc : Thread Cert.DwupKernel.nD Cert.DwupKernel.τ).loc Cert.DwupKernel.main_arg0) = m ((c.tc : Thread Cert.DwupKernel.nD Cert.DwupKernel.τ).loc Cert.DwupKernel.main_arg0)
      ∧ r.2.mem ((c.tc : Thread Cert.DwupKernel.nD Cert.DwupKernel.τ).loc Cert.DwupKernel.main_arg1) = m ((c.tc : Thread Cert.DwupKernel.nD Cert.DwupKernel.τ).loc Cert.DwupKernel.main_arg1))
      ∧ r.2.sem = fun _ => 0)

def quiescent_DwupKernelIdeal [hDwupKernelIdeal : Cert.DwupKernelIdeal.Facts] : Prop :=
  ∀ (m : (ℓ : Loc Cert.DwupKernelIdeal.nD Cert.DwupKernelIdeal.τ Cert.DwupKernelIdeal.sig) → Buf (Elt Ideal) ℓ) (g : Dev Cert.DwupKernelIdeal.nD → PrngReg), Pre_DwupKernelIdeal m →
    θ_run (Cert.DwupKernelIdeal.defs (F := Ideal)) (onTc (τ := Cert.DwupKernelIdeal.τ) (Cert.DwupKernelIdeal.main (F := Ideal))) ⟨m, fun _ => 0, g⟩ (fun r => (∀ c : Dev Cert.DwupKernelIdeal.nD,
      r.2.mem ((c.tc : Thread Cert.DwupKernelIdeal.nD Cert.DwupKernelIdeal.τ).loc Cert.DwupKernelIdeal.main_arg0) = m ((c.tc : Thread Cert.DwupKernelIdeal.nD Cert.DwupKernelIdeal.τ).loc Cert.DwupKernelIdeal.main_arg0)
      ∧ r.2.mem ((c.tc : Thread Cert.DwupKernelIdeal.nD Cert.DwupKernelIdeal.τ).loc Cert.DwupKernelIdeal.main_arg1) = m ((c.tc : Thread Cert.DwupKernelIdeal.nD Cert.DwupKernelIdeal.τ).loc Cert.DwupKernelIdeal.main_arg1))
      ∧ r.2.sem = fun _ => 0)

def quiescent_DwupReferenceIdeal [hDwupReferenceIdeal : Cert.DwupReferenceIdeal.Facts] : Prop :=
  ∀ (m : (ℓ : Loc Cert.DwupReferenceIdeal.nD Cert.DwupReferenceIdeal.τ Cert.DwupReferenceIdeal.sig) → Buf (Elt Ideal) ℓ) (g : Dev Cert.DwupReferenceIdeal.nD → PrngReg), Pre_DwupReferenceIdeal m →
    θ_run (Cert.DwupReferenceIdeal.defs (F := Ideal)) (onTc (τ := Cert.DwupReferenceIdeal.τ) (Cert.DwupReferenceIdeal.main (F := Ideal))) ⟨m, fun _ => 0, g⟩ (fun r => (∀ c : Dev Cert.DwupReferenceIdeal.nD,
      r.2.mem ((c.tc : Thread Cert.DwupReferenceIdeal.nD Cert.DwupReferenceIdeal.τ).loc Cert.DwupReferenceIdeal.main_arg0) = m ((c.tc : Thread Cert.DwupReferenceIdeal.nD Cert.DwupReferenceIdeal.τ).loc Cert.DwupReferenceIdeal.main_arg0)
      ∧ r.2.mem ((c.tc : Thread Cert.DwupReferenceIdeal.nD Cert.DwupReferenceIdeal.τ).loc Cert.DwupReferenceIdeal.main_arg1) = m ((c.tc : Thread Cert.DwupReferenceIdeal.nD Cert.DwupReferenceIdeal.τ).loc Cert.DwupReferenceIdeal.main_arg1))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_ConvinKernel [hConvinKernel : Cert.ConvinKernel.Facts] : Prop :=
  ∀ (m : (ℓ : Loc Cert.ConvinKernel.nD Cert.ConvinKernel.τ Cert.ConvinKernel.sig) → Buf (Elt Bits) ℓ) (g : Dev Cert.ConvinKernel.nD → PrngReg), Pre_ConvinKernel m →
    θ_run (Cert.ConvinKernel.defs (F := Bits)) (onTc (τ := Cert.ConvinKernel.τ) (Cert.ConvinKernel.main (F := Bits))) ⟨m, fun _ => 0, g⟩ (fun r => (∀ c : Dev Cert.ConvinKernel.nD,
      r.2.mem ((c.tc : Thread Cert.ConvinKernel.nD Cert.ConvinKernel.τ).loc Cert.ConvinKernel.main_arg0) = m ((c.tc : Thread Cert.ConvinKernel.nD Cert.ConvinKernel.τ).loc Cert.ConvinKernel.main_arg0)
      ∧ r.2.mem ((c.tc : Thread Cert.ConvinKernel.nD Cert.ConvinKernel.τ).loc Cert.ConvinKernel.main_arg1) = m ((c.tc : Thread Cert.ConvinKernel.nD Cert.ConvinKernel.τ).loc Cert.ConvinKernel.main_arg1))
      ∧ r.2.sem = fun _ => 0)

def quiescent_ConvinKernelIdeal [hConvinKernelIdeal : Cert.ConvinKernelIdeal.Facts] : Prop :=
  ∀ (m : (ℓ : Loc Cert.ConvinKernelIdeal.nD Cert.ConvinKernelIdeal.τ Cert.ConvinKernelIdeal.sig) → Buf (Elt Ideal) ℓ) (g : Dev Cert.ConvinKernelIdeal.nD → PrngReg), Pre_ConvinKernelIdeal m →
    θ_run (Cert.ConvinKernelIdeal.defs (F := Ideal)) (onTc (τ := Cert.ConvinKernelIdeal.τ) (Cert.ConvinKernelIdeal.main (F := Ideal))) ⟨m, fun _ => 0, g⟩ (fun r => (∀ c : Dev Cert.ConvinKernelIdeal.nD,
      r.2.mem ((c.tc : Thread Cert.ConvinKernelIdeal.nD Cert.ConvinKernelIdeal.τ).loc Cert.ConvinKernelIdeal.main_arg0) = m ((c.tc : Thread Cert.ConvinKernelIdeal.nD Cert.ConvinKernelIdeal.τ).loc Cert.ConvinKernelIdeal.main_arg0)
      ∧ r.2.mem ((c.tc : Thread Cert.ConvinKernelIdeal.nD Cert.ConvinKernelIdeal.τ).loc Cert.ConvinKernelIdeal.main_arg1) = m ((c.tc : Thread Cert.ConvinKernelIdeal.nD Cert.ConvinKernelIdeal.τ).loc Cert.ConvinKernelIdeal.main_arg1))
      ∧ r.2.sem = fun _ => 0)

def quiescent_ConvinReferenceIdeal [hConvinReferenceIdeal : Cert.ConvinReferenceIdeal.Facts] : Prop :=
  ∀ (m : (ℓ : Loc Cert.ConvinReferenceIdeal.nD Cert.ConvinReferenceIdeal.τ Cert.ConvinReferenceIdeal.sig) → Buf (Elt Ideal) ℓ) (g : Dev Cert.ConvinReferenceIdeal.nD → PrngReg), Pre_ConvinReferenceIdeal m →
    θ_run (Cert.ConvinReferenceIdeal.defs (F := Ideal)) (onTc (τ := Cert.ConvinReferenceIdeal.τ) (Cert.ConvinReferenceIdeal.main (F := Ideal))) ⟨m, fun _ => 0, g⟩ (fun r => (∀ c : Dev Cert.ConvinReferenceIdeal.nD,
      r.2.mem ((c.tc : Thread Cert.ConvinReferenceIdeal.nD Cert.ConvinReferenceIdeal.τ).loc Cert.ConvinReferenceIdeal.main_arg0) = m ((c.tc : Thread Cert.ConvinReferenceIdeal.nD Cert.ConvinReferenceIdeal.τ).loc Cert.ConvinReferenceIdeal.main_arg0)
      ∧ r.2.mem ((c.tc : Thread Cert.ConvinReferenceIdeal.nD Cert.ConvinReferenceIdeal.τ).loc Cert.ConvinReferenceIdeal.main_arg1) = m ((c.tc : Thread Cert.ConvinReferenceIdeal.nD Cert.ConvinReferenceIdeal.τ).loc Cert.ConvinReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_DwoutKernel [hDwoutKernel : Cert.DwoutKernel.Facts] : Prop :=
  ∀ (m : (ℓ : Loc Cert.DwoutKernel.nD Cert.DwoutKernel.τ Cert.DwoutKernel.sig) → Buf (Elt Bits) ℓ) (g : Dev Cert.DwoutKernel.nD → PrngReg), Pre_DwoutKernel m →
    θ_run (Cert.DwoutKernel.defs (F := Bits)) (onTc (τ := Cert.DwoutKernel.τ) (Cert.DwoutKernel.main (F := Bits))) ⟨m, fun _ => 0, g⟩ (fun r => (∀ c : Dev Cert.DwoutKernel.nD,
      r.2.mem ((c.tc : Thread Cert.DwoutKernel.nD Cert.DwoutKernel.τ).loc Cert.DwoutKernel.main_arg0) = m ((c.tc : Thread Cert.DwoutKernel.nD Cert.DwoutKernel.τ).loc Cert.DwoutKernel.main_arg0)
      ∧ r.2.mem ((c.tc : Thread Cert.DwoutKernel.nD Cert.DwoutKernel.τ).loc Cert.DwoutKernel.main_arg1) = m ((c.tc : Thread Cert.DwoutKernel.nD Cert.DwoutKernel.τ).loc Cert.DwoutKernel.main_arg1))
      ∧ r.2.sem = fun _ => 0)

def quiescent_DwoutKernelIdeal [hDwoutKernelIdeal : Cert.DwoutKernelIdeal.Facts] : Prop :=
  ∀ (m : (ℓ : Loc Cert.DwoutKernelIdeal.nD Cert.DwoutKernelIdeal.τ Cert.DwoutKernelIdeal.sig) → Buf (Elt Ideal) ℓ) (g : Dev Cert.DwoutKernelIdeal.nD → PrngReg), Pre_DwoutKernelIdeal m →
    θ_run (Cert.DwoutKernelIdeal.defs (F := Ideal)) (onTc (τ := Cert.DwoutKernelIdeal.τ) (Cert.DwoutKernelIdeal.main (F := Ideal))) ⟨m, fun _ => 0, g⟩ (fun r => (∀ c : Dev Cert.DwoutKernelIdeal.nD,
      r.2.mem ((c.tc : Thread Cert.DwoutKernelIdeal.nD Cert.DwoutKernelIdeal.τ).loc Cert.DwoutKernelIdeal.main_arg0) = m ((c.tc : Thread Cert.DwoutKernelIdeal.nD Cert.DwoutKernelIdeal.τ).loc Cert.DwoutKernelIdeal.main_arg0)
      ∧ r.2.mem ((c.tc : Thread Cert.DwoutKernelIdeal.nD Cert.DwoutKernelIdeal.τ).loc Cert.DwoutKernelIdeal.main_arg1) = m ((c.tc : Thread Cert.DwoutKernelIdeal.nD Cert.DwoutKernelIdeal.τ).loc Cert.DwoutKernelIdeal.main_arg1))
      ∧ r.2.sem = fun _ => 0)

def quiescent_DwoutReferenceIdeal [hDwoutReferenceIdeal : Cert.DwoutReferenceIdeal.Facts] : Prop :=
  ∀ (m : (ℓ : Loc Cert.DwoutReferenceIdeal.nD Cert.DwoutReferenceIdeal.τ Cert.DwoutReferenceIdeal.sig) → Buf (Elt Ideal) ℓ) (g : Dev Cert.DwoutReferenceIdeal.nD → PrngReg), Pre_DwoutReferenceIdeal m →
    θ_run (Cert.DwoutReferenceIdeal.defs (F := Ideal)) (onTc (τ := Cert.DwoutReferenceIdeal.τ) (Cert.DwoutReferenceIdeal.main (F := Ideal))) ⟨m, fun _ => 0, g⟩ (fun r => (∀ c : Dev Cert.DwoutReferenceIdeal.nD,
      r.2.mem ((c.tc : Thread Cert.DwoutReferenceIdeal.nD Cert.DwoutReferenceIdeal.τ).loc Cert.DwoutReferenceIdeal.main_arg0) = m ((c.tc : Thread Cert.DwoutReferenceIdeal.nD Cert.DwoutReferenceIdeal.τ).loc Cert.DwoutReferenceIdeal.main_arg0)
      ∧ r.2.mem ((c.tc : Thread Cert.DwoutReferenceIdeal.nD Cert.DwoutReferenceIdeal.τ).loc Cert.DwoutReferenceIdeal.main_arg1) = m ((c.tc : Thread Cert.DwoutReferenceIdeal.nD Cert.DwoutReferenceIdeal.τ).loc Cert.DwoutReferenceIdeal.main_arg1))
      ∧ r.2.sem = fun _ => 0)

def quiescent_DhaKernel [hDhaKernel : Cert.DhaKernel.Facts] : Prop :=
  ∀ (m : (ℓ : Loc Cert.DhaKernel.nD Cert.DhaKernel.τ Cert.DhaKernel.sig) → Buf (Elt Bits) ℓ) (g : Dev Cert.DhaKernel.nD → PrngReg), Pre_DhaKernel m →
    θ_run (Cert.DhaKernel.defs (F := Bits)) (onTc (τ := Cert.DhaKernel.τ) (Cert.DhaKernel.main (F := Bits))) ⟨m, fun _ => 0, g⟩ (fun r => (∀ c : Dev Cert.DhaKernel.nD,
      r.2.mem ((c.tc : Thread Cert.DhaKernel.nD Cert.DhaKernel.τ).loc Cert.DhaKernel.main_arg0) = m ((c.tc : Thread Cert.DhaKernel.nD Cert.DhaKernel.τ).loc Cert.DhaKernel.main_arg0)
      ∧ r.2.mem ((c.tc : Thread Cert.DhaKernel.nD Cert.DhaKernel.τ).loc Cert.DhaKernel.main_arg1) = m ((c.tc : Thread Cert.DhaKernel.nD Cert.DhaKernel.τ).loc Cert.DhaKernel.main_arg1))
      ∧ r.2.sem = fun _ => 0)

def quiescent_DhaKernelIdeal [hDhaKernelIdeal : Cert.DhaKernelIdeal.Facts] : Prop :=
  ∀ (m : (ℓ : Loc Cert.DhaKernelIdeal.nD Cert.DhaKernelIdeal.τ Cert.DhaKernelIdeal.sig) → Buf (Elt Ideal) ℓ) (g : Dev Cert.DhaKernelIdeal.nD → PrngReg), Pre_DhaKernelIdeal m →
    θ_run (Cert.DhaKernelIdeal.defs (F := Ideal)) (onTc (τ := Cert.DhaKernelIdeal.τ) (Cert.DhaKernelIdeal.main (F := Ideal))) ⟨m, fun _ => 0, g⟩ (fun r => (∀ c : Dev Cert.DhaKernelIdeal.nD,
      r.2.mem ((c.tc : Thread Cert.DhaKernelIdeal.nD Cert.DhaKernelIdeal.τ).loc Cert.DhaKernelIdeal.main_arg0) = m ((c.tc : Thread Cert.DhaKernelIdeal.nD Cert.DhaKernelIdeal.τ).loc Cert.DhaKernelIdeal.main_arg0)
      ∧ r.2.mem ((c.tc : Thread Cert.DhaKernelIdeal.nD Cert.DhaKernelIdeal.τ).loc Cert.DhaKernelIdeal.main_arg1) = m ((c.tc : Thread Cert.DhaKernelIdeal.nD Cert.DhaKernelIdeal.τ).loc Cert.DhaKernelIdeal.main_arg1))
      ∧ r.2.sem = fun _ => 0)

def quiescent_DhaReferenceIdeal [hDhaReferenceIdeal : Cert.DhaReferenceIdeal.Facts] : Prop :=
  ∀ (m : (ℓ : Loc Cert.DhaReferenceIdeal.nD Cert.DhaReferenceIdeal.τ Cert.DhaReferenceIdeal.sig) → Buf (Elt Ideal) ℓ) (g : Dev Cert.DhaReferenceIdeal.nD → PrngReg), Pre_DhaReferenceIdeal m →
    θ_run (Cert.DhaReferenceIdeal.defs (F := Ideal)) (onTc (τ := Cert.DhaReferenceIdeal.τ) (Cert.DhaReferenceIdeal.main (F := Ideal))) ⟨m, fun _ => 0, g⟩ (fun r => (∀ c : Dev Cert.DhaReferenceIdeal.nD,
      r.2.mem ((c.tc : Thread Cert.DhaReferenceIdeal.nD Cert.DhaReferenceIdeal.τ).loc Cert.DhaReferenceIdeal.main_arg0) = m ((c.tc : Thread Cert.DhaReferenceIdeal.nD Cert.DhaReferenceIdeal.τ).loc Cert.DhaReferenceIdeal.main_arg0)
      ∧ r.2.mem ((c.tc : Thread Cert.DhaReferenceIdeal.nD Cert.DhaReferenceIdeal.τ).loc Cert.DhaReferenceIdeal.main_arg1) = m ((c.tc : Thread Cert.DhaReferenceIdeal.nD Cert.DhaReferenceIdeal.τ).loc Cert.DhaReferenceIdeal.main_arg1))
      ∧ r.2.sem = fun _ => 0)

def quiescent_DwinaKernel [hDwinaKernel : Cert.DwinaKernel.Facts] : Prop :=
  ∀ (m : (ℓ : Loc Cert.DwinaKernel.nD Cert.DwinaKernel.τ Cert.DwinaKernel.sig) → Buf (Elt Bits) ℓ) (g : Dev Cert.DwinaKernel.nD → PrngReg), Pre_DwinaKernel m →
    θ_run (Cert.DwinaKernel.defs (F := Bits)) (onTc (τ := Cert.DwinaKernel.τ) (Cert.DwinaKernel.main (F := Bits))) ⟨m, fun _ => 0, g⟩ (fun r => (∀ c : Dev Cert.DwinaKernel.nD,
      r.2.mem ((c.tc : Thread Cert.DwinaKernel.nD Cert.DwinaKernel.τ).loc Cert.DwinaKernel.main_arg0) = m ((c.tc : Thread Cert.DwinaKernel.nD Cert.DwinaKernel.τ).loc Cert.DwinaKernel.main_arg0)
      ∧ r.2.mem ((c.tc : Thread Cert.DwinaKernel.nD Cert.DwinaKernel.τ).loc Cert.DwinaKernel.main_arg1) = m ((c.tc : Thread Cert.DwinaKernel.nD Cert.DwinaKernel.τ).loc Cert.DwinaKernel.main_arg1))
      ∧ r.2.sem = fun _ => 0)

def quiescent_DwinaKernelIdeal [hDwinaKernelIdeal : Cert.DwinaKernelIdeal.Facts] : Prop :=
  ∀ (m : (ℓ : Loc Cert.DwinaKernelIdeal.nD Cert.DwinaKernelIdeal.τ Cert.DwinaKernelIdeal.sig) → Buf (Elt Ideal) ℓ) (g : Dev Cert.DwinaKernelIdeal.nD → PrngReg), Pre_DwinaKernelIdeal m →
    θ_run (Cert.DwinaKernelIdeal.defs (F := Ideal)) (onTc (τ := Cert.DwinaKernelIdeal.τ) (Cert.DwinaKernelIdeal.main (F := Ideal))) ⟨m, fun _ => 0, g⟩ (fun r => (∀ c : Dev Cert.DwinaKernelIdeal.nD,
      r.2.mem ((c.tc : Thread Cert.DwinaKernelIdeal.nD Cert.DwinaKernelIdeal.τ).loc Cert.DwinaKernelIdeal.main_arg0) = m ((c.tc : Thread Cert.DwinaKernelIdeal.nD Cert.DwinaKernelIdeal.τ).loc Cert.DwinaKernelIdeal.main_arg0)
      ∧ r.2.mem ((c.tc : Thread Cert.DwinaKernelIdeal.nD Cert.DwinaKernelIdeal.τ).loc Cert.DwinaKernelIdeal.main_arg1) = m ((c.tc : Thread Cert.DwinaKernelIdeal.nD Cert.DwinaKernelIdeal.τ).loc Cert.DwinaKernelIdeal.main_arg1))
      ∧ r.2.sem = fun _ => 0)

def quiescent_DwinaReferenceIdeal [hDwinaReferenceIdeal : Cert.DwinaReferenceIdeal.Facts] : Prop :=
  ∀ (m : (ℓ : Loc Cert.DwinaReferenceIdeal.nD Cert.DwinaReferenceIdeal.τ Cert.DwinaReferenceIdeal.sig) → Buf (Elt Ideal) ℓ) (g : Dev Cert.DwinaReferenceIdeal.nD → PrngReg), Pre_DwinaReferenceIdeal m →
    θ_run (Cert.DwinaReferenceIdeal.defs (F := Ideal)) (onTc (τ := Cert.DwinaReferenceIdeal.τ) (Cert.DwinaReferenceIdeal.main (F := Ideal))) ⟨m, fun _ => 0, g⟩ (fun r => (∀ c : Dev Cert.DwinaReferenceIdeal.nD,
      r.2.mem ((c.tc : Thread Cert.DwinaReferenceIdeal.nD Cert.DwinaReferenceIdeal.τ).loc Cert.DwinaReferenceIdeal.main_arg0) = m ((c.tc : Thread Cert.DwinaReferenceIdeal.nD Cert.DwinaReferenceIdeal.τ).loc Cert.DwinaReferenceIdeal.main_arg0)
      ∧ r.2.mem ((c.tc : Thread Cert.DwinaReferenceIdeal.nD Cert.DwinaReferenceIdeal.τ).loc Cert.DwinaReferenceIdeal.main_arg1) = m ((c.tc : Thread Cert.DwinaReferenceIdeal.nD Cert.DwinaReferenceIdeal.τ).loc Cert.DwinaReferenceIdeal.main_arg1))
      ∧ r.2.sem = fun _ => 0)

def quiescent_FupKernel [hFupKernel : Cert.FupKernel.Facts] : Prop :=
  ∀ (m : (ℓ : Loc Cert.FupKernel.nD Cert.FupKernel.τ Cert.FupKernel.sig) → Buf (Elt Bits) ℓ) (g : Dev Cert.FupKernel.nD → PrngReg), Pre_FupKernel m →
    θ_run (Cert.FupKernel.defs (F := Bits)) (onTc (τ := Cert.FupKernel.τ) (Cert.FupKernel.main (F := Bits))) ⟨m, fun _ => 0, g⟩ (fun r => (∀ c : Dev Cert.FupKernel.nD,
      r.2.mem ((c.tc : Thread Cert.FupKernel.nD Cert.FupKernel.τ).loc Cert.FupKernel.main_arg0) = m ((c.tc : Thread Cert.FupKernel.nD Cert.FupKernel.τ).loc Cert.FupKernel.main_arg0)
      ∧ r.2.mem ((c.tc : Thread Cert.FupKernel.nD Cert.FupKernel.τ).loc Cert.FupKernel.main_arg1) = m ((c.tc : Thread Cert.FupKernel.nD Cert.FupKernel.τ).loc Cert.FupKernel.main_arg1))
      ∧ r.2.sem = fun _ => 0)

def quiescent_FupKernelIdeal [hFupKernelIdeal : Cert.FupKernelIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg), Pre_FupKernelIdeal m →
    θ_run (Cert.FupKernelIdeal.defs (F := Ideal)) (onTc (τ := Cert.FupKernelIdeal.τ) (Cert.FupKernelIdeal.main (F := Ideal))) ⟨m, fun _ => 0, g⟩ (fun r => (∀ c : Dev Cert.FupKernelIdeal.nD,
      r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
      ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1))
      ∧ r.2.sem = fun _ => 0)

def quiescent_FdownKernel [hFdownKernel : Cert.FdownKernel.Facts] : Prop :=
  ∀ (m : (ℓ : Loc Cert.FdownKernel.nD Cert.FdownKernel.τ Cert.FdownKernel.sig) → Buf (Elt Bits) ℓ) (g : Dev Cert.FdownKernel.nD → PrngReg), Pre_FdownKernel m →
    θ_run (Cert.FdownKernel.defs (F := Bits)) (onTc (τ := Cert.FdownKernel.τ) (Cert.FdownKernel.main (F := Bits))) ⟨m, fun _ => 0, g⟩ (fun r => (∀ c : Dev Cert.FdownKernel.nD,
      r.2.mem ((c.tc : Thread Cert.FdownKernel.nD Cert.FdownKernel.τ).loc Cert.FdownKernel.main_arg0) = m ((c.tc : Thread Cert.FdownKernel.nD Cert.FdownKernel.τ).loc Cert.FdownKernel.main_arg0)
      ∧ r.2.mem ((c.tc : Thread Cert.FdownKernel.nD Cert.FdownKernel.τ).loc Cert.FdownKernel.main_arg1) = m ((c.tc : Thread Cert.FdownKernel.nD Cert.FdownKernel.τ).loc Cert.FdownKernel.main_arg1)
      ∧ r.2.mem ((c.tc : Thread Cert.FdownKernel.nD Cert.FdownKernel.τ).loc Cert.FdownKernel.main_arg2) = m ((c.tc : Thread Cert.FdownKernel.nD Cert.FdownKernel.τ).loc Cert.FdownKernel.main_arg2))
      ∧ r.2.sem = fun _ => 0)

def quiescent_FdownKernelIdeal [hFdownKernelIdeal : Cert.FdownKernelIdeal.Facts] : Prop :=
  ∀ (m : (ℓ : Loc Cert.FdownKernelIdeal.nD Cert.FdownKernelIdeal.τ Cert.FdownKernelIdeal.sig) → Buf (Elt Ideal) ℓ) (g : Dev Cert.FdownKernelIdeal.nD → PrngReg), Pre_FdownKernelIdeal m →
    θ_run (Cert.FdownKernelIdeal.defs (F := Ideal)) (onTc (τ := Cert.FdownKernelIdeal.τ) (Cert.FdownKernelIdeal.main (F := Ideal))) ⟨m, fun _ => 0, g⟩ (fun r => (∀ c : Dev Cert.FdownKernelIdeal.nD,
      r.2.mem ((c.tc : Thread Cert.FdownKernelIdeal.nD Cert.FdownKernelIdeal.τ).loc Cert.FdownKernelIdeal.main_arg0) = m ((c.tc : Thread Cert.FdownKernelIdeal.nD Cert.FdownKernelIdeal.τ).loc Cert.FdownKernelIdeal.main_arg0)
      ∧ r.2.mem ((c.tc : Thread Cert.FdownKernelIdeal.nD Cert.FdownKernelIdeal.τ).loc Cert.FdownKernelIdeal.main_arg1) = m ((c.tc : Thread Cert.FdownKernelIdeal.nD Cert.FdownKernelIdeal.τ).loc Cert.FdownKernelIdeal.main_arg1)
      ∧ r.2.mem ((c.tc : Thread Cert.FdownKernelIdeal.nD Cert.FdownKernelIdeal.τ).loc Cert.FdownKernelIdeal.main_arg2) = m ((c.tc : Thread Cert.FdownKernelIdeal.nD Cert.FdownKernelIdeal.τ).loc Cert.FdownKernelIdeal.main_arg2))
      ∧ r.2.sem = fun _ => 0)

def quiescent_FdownReferenceIdeal [hFdownReferenceIdeal : Cert.FdownReferenceIdeal.Facts] : Prop :=
  ∀ (m : (ℓ : Loc Cert.FdownReferenceIdeal.nD Cert.FdownReferenceIdeal.τ Cert.FdownReferenceIdeal.sig) → Buf (Elt Ideal) ℓ) (g : Dev Cert.FdownReferenceIdeal.nD → PrngReg), Pre_FdownReferenceIdeal m →
    θ_run (Cert.FdownReferenceIdeal.defs (F := Ideal)) (onTc (τ := Cert.FdownReferenceIdeal.τ) (Cert.FdownReferenceIdeal.main (F := Ideal))) ⟨m, fun _ => 0, g⟩ (fun r => (∀ c : Dev Cert.FdownReferenceIdeal.nD,
      r.2.mem ((c.tc : Thread Cert.FdownReferenceIdeal.nD Cert.FdownReferenceIdeal.τ).loc Cert.FdownReferenceIdeal.main_arg0) = m ((c.tc : Thread Cert.FdownReferenceIdeal.nD Cert.FdownReferenceIdeal.τ).loc Cert.FdownReferenceIdeal.main_arg0)
      ∧ r.2.mem ((c.tc : Thread Cert.FdownReferenceIdeal.nD Cert.FdownReferenceIdeal.τ).loc Cert.FdownReferenceIdeal.main_arg1) = m ((c.tc : Thread Cert.FdownReferenceIdeal.nD Cert.FdownReferenceIdeal.τ).loc Cert.FdownReferenceIdeal.main_arg1)
      ∧ r.2.mem ((c.tc : Thread Cert.FdownReferenceIdeal.nD Cert.FdownReferenceIdeal.τ).loc Cert.FdownReferenceIdeal.main_arg2) = m ((c.tc : Thread Cert.FdownReferenceIdeal.nD Cert.FdownReferenceIdeal.τ).loc Cert.FdownReferenceIdeal.main_arg2))
      ∧ r.2.sem = fun _ => 0)

def quiescent_FoutKernel [hFoutKernel : Cert.FoutKernel.Facts] : Prop :=
  ∀ (m : (ℓ : Loc Cert.FoutKernel.nD Cert.FoutKernel.τ Cert.FoutKernel.sig) → Buf (Elt Bits) ℓ) (g : Dev Cert.FoutKernel.nD → PrngReg), Pre_FoutKernel m →
    θ_run (Cert.FoutKernel.defs (F := Bits)) (onTc (τ := Cert.FoutKernel.τ) (Cert.FoutKernel.main (F := Bits))) ⟨m, fun _ => 0, g⟩ (fun r => (∀ c : Dev Cert.FoutKernel.nD,
      r.2.mem ((c.tc : Thread Cert.FoutKernel.nD Cert.FoutKernel.τ).loc Cert.FoutKernel.main_arg0) = m ((c.tc : Thread Cert.FoutKernel.nD Cert.FoutKernel.τ).loc Cert.FoutKernel.main_arg0)
      ∧ r.2.mem ((c.tc : Thread Cert.FoutKernel.nD Cert.FoutKernel.τ).loc Cert.FoutKernel.main_arg1) = m ((c.tc : Thread Cert.FoutKernel.nD Cert.FoutKernel.τ).loc Cert.FoutKernel.main_arg1)
      ∧ r.2.mem ((c.tc : Thread Cert.FoutKernel.nD Cert.FoutKernel.τ).loc Cert.FoutKernel.main_arg2) = m ((c.tc : Thread Cert.FoutKernel.nD Cert.FoutKernel.τ).loc Cert.FoutKernel.main_arg2))
      ∧ r.2.sem = fun _ => 0)

def quiescent_FoutKernelIdeal [hFoutKernelIdeal : Cert.FoutKernelIdeal.Facts] : Prop :=
  ∀ (m : (ℓ : Loc Cert.FoutKernelIdeal.nD Cert.FoutKernelIdeal.τ Cert.FoutKernelIdeal.sig) → Buf (Elt Ideal) ℓ) (g : Dev Cert.FoutKernelIdeal.nD → PrngReg), Pre_FoutKernelIdeal m →
    θ_run (Cert.FoutKernelIdeal.defs (F := Ideal)) (onTc (τ := Cert.FoutKernelIdeal.τ) (Cert.FoutKernelIdeal.main (F := Ideal))) ⟨m, fun _ => 0, g⟩ (fun r => (∀ c : Dev Cert.FoutKernelIdeal.nD,
      r.2.mem ((c.tc : Thread Cert.FoutKernelIdeal.nD Cert.FoutKernelIdeal.τ).loc Cert.FoutKernelIdeal.main_arg0) = m ((c.tc : Thread Cert.FoutKernelIdeal.nD Cert.FoutKernelIdeal.τ).loc Cert.FoutKernelIdeal.main_arg0)
      ∧ r.2.mem ((c.tc : Thread Cert.FoutKernelIdeal.nD Cert.FoutKernelIdeal.τ).loc Cert.FoutKernelIdeal.main_arg1) = m ((c.tc : Thread Cert.FoutKernelIdeal.nD Cert.FoutKernelIdeal.τ).loc Cert.FoutKernelIdeal.main_arg1)
      ∧ r.2.mem ((c.tc : Thread Cert.FoutKernelIdeal.nD Cert.FoutKernelIdeal.τ).loc Cert.FoutKernelIdeal.main_arg2) = m ((c.tc : Thread Cert.FoutKernelIdeal.nD Cert.FoutKernelIdeal.τ).loc Cert.FoutKernelIdeal.main_arg2))
      ∧ r.2.sem = fun _ => 0)

def quiescent_FoutReferenceIdeal [hFoutReferenceIdeal : Cert.FoutReferenceIdeal.Facts] : Prop :=
  ∀ (m : (ℓ : Loc Cert.FoutReferenceIdeal.nD Cert.FoutReferenceIdeal.τ Cert.FoutReferenceIdeal.sig) → Buf (Elt Ideal) ℓ) (g : Dev Cert.FoutReferenceIdeal.nD → PrngReg), Pre_FoutReferenceIdeal m →
    θ_run (Cert.FoutReferenceIdeal.defs (F := Ideal)) (onTc (τ := Cert.FoutReferenceIdeal.τ) (Cert.FoutReferenceIdeal.main (F := Ideal))) ⟨m, fun _ => 0, g⟩ (fun r => (∀ c : Dev Cert.FoutReferenceIdeal.nD,
      r.2.mem ((c.tc : Thread Cert.FoutReferenceIdeal.nD Cert.FoutReferenceIdeal.τ).loc Cert.FoutReferenceIdeal.main_arg0) = m ((c.tc : Thread Cert.FoutReferenceIdeal.nD Cert.FoutReferenceIdeal.τ).loc Cert.FoutReferenceIdeal.main_arg0)
      ∧ r.2.mem ((c.tc : Thread Cert.FoutReferenceIdeal.nD Cert.FoutReferenceIdeal.τ).loc Cert.FoutReferenceIdeal.main_arg1) = m ((c.tc : Thread Cert.FoutReferenceIdeal.nD Cert.FoutReferenceIdeal.τ).loc Cert.FoutReferenceIdeal.main_arg1)
      ∧ r.2.mem ((c.tc : Thread Cert.FoutReferenceIdeal.nD Cert.FoutReferenceIdeal.τ).loc Cert.FoutReferenceIdeal.main_arg2) = m ((c.tc : Thread Cert.FoutReferenceIdeal.nD Cert.FoutReferenceIdeal.τ).loc Cert.FoutReferenceIdeal.main_arg2))
      ∧ r.2.sem = fun _ => 0)

def quiescent_FinaKernel [hFinaKernel : Cert.FinaKernel.Facts] : Prop :=
  ∀ (m : (ℓ : Loc Cert.FinaKernel.nD Cert.FinaKernel.τ Cert.FinaKernel.sig) → Buf (Elt Bits) ℓ) (g : Dev Cert.FinaKernel.nD → PrngReg), Pre_FinaKernel m →
    θ_run (Cert.FinaKernel.defs (F := Bits)) (onTc (τ := Cert.FinaKernel.τ) (Cert.FinaKernel.main (F := Bits))) ⟨m, fun _ => 0, g⟩ (fun r => (∀ c : Dev Cert.FinaKernel.nD,
      r.2.mem ((c.tc : Thread Cert.FinaKernel.nD Cert.FinaKernel.τ).loc Cert.FinaKernel.main_arg0) = m ((c.tc : Thread Cert.FinaKernel.nD Cert.FinaKernel.τ).loc Cert.FinaKernel.main_arg0)
      ∧ r.2.mem ((c.tc : Thread Cert.FinaKernel.nD Cert.FinaKernel.τ).loc Cert.FinaKernel.main_arg1) = m ((c.tc : Thread Cert.FinaKernel.nD Cert.FinaKernel.τ).loc Cert.FinaKernel.main_arg1))
      ∧ r.2.sem = fun _ => 0)

def quiescent_FinaKernelIdeal [hFinaKernelIdeal : Cert.FinaKernelIdeal.Facts] : Prop :=
  ∀ (m : (ℓ : Loc Cert.FinaKernelIdeal.nD Cert.FinaKernelIdeal.τ Cert.FinaKernelIdeal.sig) → Buf (Elt Ideal) ℓ) (g : Dev Cert.FinaKernelIdeal.nD → PrngReg), Pre_FinaKernelIdeal m →
    θ_run (Cert.FinaKernelIdeal.defs (F := Ideal)) (onTc (τ := Cert.FinaKernelIdeal.τ) (Cert.FinaKernelIdeal.main (F := Ideal))) ⟨m, fun _ => 0, g⟩ (fun r => (∀ c : Dev Cert.FinaKernelIdeal.nD,
      r.2.mem ((c.tc : Thread Cert.FinaKernelIdeal.nD Cert.FinaKernelIdeal.τ).loc Cert.FinaKernelIdeal.main_arg0) = m ((c.tc : Thread Cert.FinaKernelIdeal.nD Cert.FinaKernelIdeal.τ).loc Cert.FinaKernelIdeal.main_arg0)
      ∧ r.2.mem ((c.tc : Thread Cert.FinaKernelIdeal.nD Cert.FinaKernelIdeal.τ).loc Cert.FinaKernelIdeal.main_arg1) = m ((c.tc : Thread Cert.FinaKernelIdeal.nD Cert.FinaKernelIdeal.τ).loc Cert.FinaKernelIdeal.main_arg1))
      ∧ r.2.sem = fun _ => 0)

def quiescent_FinaReferenceIdeal [hFinaReferenceIdeal : Cert.FinaReferenceIdeal.Facts] : Prop :=
  ∀ (m : (ℓ : Loc Cert.FinaReferenceIdeal.nD Cert.FinaReferenceIdeal.τ Cert.FinaReferenceIdeal.sig) → Buf (Elt Ideal) ℓ) (g : Dev Cert.FinaReferenceIdeal.nD → PrngReg), Pre_FinaReferenceIdeal m →
    θ_run (Cert.FinaReferenceIdeal.defs (F := Ideal)) (onTc (τ := Cert.FinaReferenceIdeal.τ) (Cert.FinaReferenceIdeal.main (F := Ideal))) ⟨m, fun _ => 0, g⟩ (fun r => (∀ c : Dev Cert.FinaReferenceIdeal.nD,
      r.2.mem ((c.tc : Thread Cert.FinaReferenceIdeal.nD Cert.FinaReferenceIdeal.τ).loc Cert.FinaReferenceIdeal.main_arg0) = m ((c.tc : Thread Cert.FinaReferenceIdeal.nD Cert.FinaReferenceIdeal.τ).loc Cert.FinaReferenceIdeal.main_arg0)
      ∧ r.2.mem ((c.tc : Thread Cert.FinaReferenceIdeal.nD Cert.FinaReferenceIdeal.τ).loc Cert.FinaReferenceIdeal.main_arg1) = m ((c.tc : Thread Cert.FinaReferenceIdeal.nD Cert.FinaReferenceIdeal.τ).loc Cert.FinaReferenceIdeal.main_arg1))
      ∧ r.2.sem = fun _ => 0)

def quiescent_DhbKernel [hDhbKernel : Cert.DhbKernel.Facts] : Prop :=
  ∀ (m : (ℓ : Loc Cert.DhbKernel.nD Cert.DhbKernel.τ Cert.DhbKernel.sig) → Buf (Elt Bits) ℓ) (g : Dev Cert.DhbKernel.nD → PrngReg), Pre_DhbKernel m →
    θ_run (Cert.DhbKernel.defs (F := Bits)) (onTc (τ := Cert.DhbKernel.τ) (Cert.DhbKernel.main (F := Bits))) ⟨m, fun _ => 0, g⟩ (fun r => (∀ c : Dev Cert.DhbKernel.nD,
      r.2.mem ((c.tc : Thread Cert.DhbKernel.nD Cert.DhbKernel.τ).loc Cert.DhbKernel.main_arg0) = m ((c.tc : Thread Cert.DhbKernel.nD Cert.DhbKernel.τ).loc Cert.DhbKernel.main_arg0)
      ∧ r.2.mem ((c.tc : Thread Cert.DhbKernel.nD Cert.DhbKernel.τ).loc Cert.DhbKernel.main_arg1) = m ((c.tc : Thread Cert.DhbKernel.nD Cert.DhbKernel.τ).loc Cert.DhbKernel.main_arg1))
      ∧ r.2.sem = fun _ => 0)

def quiescent_DhbKernelIdeal [hDhbKernelIdeal : Cert.DhbKernelIdeal.Facts] : Prop :=
  ∀ (m : (ℓ : Loc Cert.DhbKernelIdeal.nD Cert.DhbKernelIdeal.τ Cert.DhbKernelIdeal.sig) → Buf (Elt Ideal) ℓ) (g : Dev Cert.DhbKernelIdeal.nD → PrngReg), Pre_DhbKernelIdeal m →
    θ_run (Cert.DhbKernelIdeal.defs (F := Ideal)) (onTc (τ := Cert.DhbKernelIdeal.τ) (Cert.DhbKernelIdeal.main (F := Ideal))) ⟨m, fun _ => 0, g⟩ (fun r => (∀ c : Dev Cert.DhbKernelIdeal.nD,
      r.2.mem ((c.tc : Thread Cert.DhbKernelIdeal.nD Cert.DhbKernelIdeal.τ).loc Cert.DhbKernelIdeal.main_arg0) = m ((c.tc : Thread Cert.DhbKernelIdeal.nD Cert.DhbKernelIdeal.τ).loc Cert.DhbKernelIdeal.main_arg0)
      ∧ r.2.mem ((c.tc : Thread Cert.DhbKernelIdeal.nD Cert.DhbKernelIdeal.τ).loc Cert.DhbKernelIdeal.main_arg1) = m ((c.tc : Thread Cert.DhbKernelIdeal.nD Cert.DhbKernelIdeal.τ).loc Cert.DhbKernelIdeal.main_arg1))
      ∧ r.2.sem = fun _ => 0)

def quiescent_DhbReferenceIdeal [hDhbReferenceIdeal : Cert.DhbReferenceIdeal.Facts] : Prop :=
  ∀ (m : (ℓ : Loc Cert.DhbReferenceIdeal.nD Cert.DhbReferenceIdeal.τ Cert.DhbReferenceIdeal.sig) → Buf (Elt Ideal) ℓ) (g : Dev Cert.DhbReferenceIdeal.nD → PrngReg), Pre_DhbReferenceIdeal m →
    θ_run (Cert.DhbReferenceIdeal.defs (F := Ideal)) (onTc (τ := Cert.DhbReferenceIdeal.τ) (Cert.DhbReferenceIdeal.main (F := Ideal))) ⟨m, fun _ => 0, g⟩ (fun r => (∀ c : Dev Cert.DhbReferenceIdeal.nD,
      r.2.mem ((c.tc : Thread Cert.DhbReferenceIdeal.nD Cert.DhbReferenceIdeal.τ).loc Cert.DhbReferenceIdeal.main_arg0) = m ((c.tc : Thread Cert.DhbReferenceIdeal.nD Cert.DhbReferenceIdeal.τ).loc Cert.DhbReferenceIdeal.main_arg0)
      ∧ r.2.mem ((c.tc : Thread Cert.DhbReferenceIdeal.nD Cert.DhbReferenceIdeal.τ).loc Cert.DhbReferenceIdeal.main_arg1) = m ((c.tc : Thread Cert.DhbReferenceIdeal.nD Cert.DhbReferenceIdeal.τ).loc Cert.DhbReferenceIdeal.main_arg1))
      ∧ r.2.sem = fun _ => 0)

def quiescent_DwinbKernel [hDwinbKernel : Cert.DwinbKernel.Facts] : Prop :=
  ∀ (m : (ℓ : Loc Cert.DwinbKernel.nD Cert.DwinbKernel.τ Cert.DwinbKernel.sig) → Buf (Elt Bits) ℓ) (g : Dev Cert.DwinbKernel.nD → PrngReg), Pre_DwinbKernel m →
    θ_run (Cert.DwinbKernel.defs (F := Bits)) (onTc (τ := Cert.DwinbKernel.τ) (Cert.DwinbKernel.main (F := Bits))) ⟨m, fun _ => 0, g⟩ (fun r => (∀ c : Dev Cert.DwinbKernel.nD,
      r.2.mem ((c.tc : Thread Cert.DwinbKernel.nD Cert.DwinbKernel.τ).loc Cert.DwinbKernel.main_arg0) = m ((c.tc : Thread Cert.DwinbKernel.nD Cert.DwinbKernel.τ).loc Cert.DwinbKernel.main_arg0)
      ∧ r.2.mem ((c.tc : Thread Cert.DwinbKernel.nD Cert.DwinbKernel.τ).loc Cert.DwinbKernel.main_arg1) = m ((c.tc : Thread Cert.DwinbKernel.nD Cert.DwinbKernel.τ).loc Cert.DwinbKernel.main_arg1))
      ∧ r.2.sem = fun _ => 0)

def quiescent_DwinbKernelIdeal [hDwinbKernelIdeal : Cert.DwinbKernelIdeal.Facts] : Prop :=
  ∀ (m : (ℓ : Loc Cert.DwinbKernelIdeal.nD Cert.DwinbKernelIdeal.τ Cert.DwinbKernelIdeal.sig) → Buf (Elt Ideal) ℓ) (g : Dev Cert.DwinbKernelIdeal.nD → PrngReg), Pre_DwinbKernelIdeal m →
    θ_run (Cert.DwinbKernelIdeal.defs (F := Ideal)) (onTc (τ := Cert.DwinbKernelIdeal.τ) (Cert.DwinbKernelIdeal.main (F := Ideal))) ⟨m, fun _ => 0, g⟩ (fun r => (∀ c : Dev Cert.DwinbKernelIdeal.nD,
      r.2.mem ((c.tc : Thread Cert.DwinbKernelIdeal.nD Cert.DwinbKernelIdeal.τ).loc Cert.DwinbKernelIdeal.main_arg0) = m ((c.tc : Thread Cert.DwinbKernelIdeal.nD Cert.DwinbKernelIdeal.τ).loc Cert.DwinbKernelIdeal.main_arg0)
      ∧ r.2.mem ((c.tc : Thread Cert.DwinbKernelIdeal.nD Cert.DwinbKernelIdeal.τ).loc Cert.DwinbKernelIdeal.main_arg1) = m ((c.tc : Thread Cert.DwinbKernelIdeal.nD Cert.DwinbKernelIdeal.τ).loc Cert.DwinbKernelIdeal.main_arg1))
      ∧ r.2.sem = fun _ => 0)

def quiescent_DwinbReferenceIdeal [hDwinbReferenceIdeal : Cert.DwinbReferenceIdeal.Facts] : Prop :=
  ∀ (m : (ℓ : Loc Cert.DwinbReferenceIdeal.nD Cert.DwinbReferenceIdeal.τ Cert.DwinbReferenceIdeal.sig) → Buf (Elt Ideal) ℓ) (g : Dev Cert.DwinbReferenceIdeal.nD → PrngReg), Pre_DwinbReferenceIdeal m →
    θ_run (Cert.DwinbReferenceIdeal.defs (F := Ideal)) (onTc (τ := Cert.DwinbReferenceIdeal.τ) (Cert.DwinbReferenceIdeal.main (F := Ideal))) ⟨m, fun _ => 0, g⟩ (fun r => (∀ c : Dev Cert.DwinbReferenceIdeal.nD,
      r.2.mem ((c.tc : Thread Cert.DwinbReferenceIdeal.nD Cert.DwinbReferenceIdeal.τ).loc Cert.DwinbReferenceIdeal.main_arg0) = m ((c.tc : Thread Cert.DwinbReferenceIdeal.nD Cert.DwinbReferenceIdeal.τ).loc Cert.DwinbReferenceIdeal.main_arg0)
      ∧ r.2.mem ((c.tc : Thread Cert.DwinbReferenceIdeal.nD Cert.DwinbReferenceIdeal.τ).loc Cert.DwinbReferenceIdeal.main_arg1) = m ((c.tc : Thread Cert.DwinbReferenceIdeal.nD Cert.DwinbReferenceIdeal.τ).loc Cert.DwinbReferenceIdeal.main_arg1))
      ∧ r.2.sem = fun _ => 0)

def quiescent_MhafKernel [hMhafKernel : Cert.MhafKernel.Facts] : Prop :=
  ∀ (m : (ℓ : Loc Cert.MhafKernel.nD Cert.MhafKernel.τ Cert.MhafKernel.sig) → Buf (Elt Bits) ℓ) (g : Dev Cert.MhafKernel.nD → PrngReg), Pre_MhafKernel m →
    θ_run (Cert.MhafKernel.defs (F := Bits)) (onTc (τ := Cert.MhafKernel.τ) (Cert.MhafKernel.main (F := Bits))) ⟨m, fun _ => 0, g⟩ (fun r => (∀ c : Dev Cert.MhafKernel.nD,
      r.2.mem ((c.tc : Thread Cert.MhafKernel.nD Cert.MhafKernel.τ).loc Cert.MhafKernel.main_arg0) = m ((c.tc : Thread Cert.MhafKernel.nD Cert.MhafKernel.τ).loc Cert.MhafKernel.main_arg0)
      ∧ r.2.mem ((c.tc : Thread Cert.MhafKernel.nD Cert.MhafKernel.τ).loc Cert.MhafKernel.main_arg1) = m ((c.tc : Thread Cert.MhafKernel.nD Cert.MhafKernel.τ).loc Cert.MhafKernel.main_arg1)
      ∧ r.2.mem ((c.tc : Thread Cert.MhafKernel.nD Cert.MhafKernel.τ).loc Cert.MhafKernel.main_arg2) = m ((c.tc : Thread Cert.MhafKernel.nD Cert.MhafKernel.τ).loc Cert.MhafKernel.main_arg2))
      ∧ r.2.sem = fun _ => 0)

def quiescent_MhafKernelIdeal [hMhafKernelIdeal : Cert.MhafKernelIdeal.Facts] : Prop :=
  ∀ (m : (ℓ : Loc Cert.MhafKernelIdeal.nD Cert.MhafKernelIdeal.τ Cert.MhafKernelIdeal.sig) → Buf (Elt Ideal) ℓ) (g : Dev Cert.MhafKernelIdeal.nD → PrngReg), Pre_MhafKernelIdeal m →
    θ_run (Cert.MhafKernelIdeal.defs (F := Ideal)) (onTc (τ := Cert.MhafKernelIdeal.τ) (Cert.MhafKernelIdeal.main (F := Ideal))) ⟨m, fun _ => 0, g⟩ (fun r => (∀ c : Dev Cert.MhafKernelIdeal.nD,
      r.2.mem ((c.tc : Thread Cert.MhafKernelIdeal.nD Cert.MhafKernelIdeal.τ).loc Cert.MhafKernelIdeal.main_arg0) = m ((c.tc : Thread Cert.MhafKernelIdeal.nD Cert.MhafKernelIdeal.τ).loc Cert.MhafKernelIdeal.main_arg0)
      ∧ r.2.mem ((c.tc : Thread Cert.MhafKernelIdeal.nD Cert.MhafKernelIdeal.τ).loc Cert.MhafKernelIdeal.main_arg1) = m ((c.tc : Thread Cert.MhafKernelIdeal.nD Cert.MhafKernelIdeal.τ).loc Cert.MhafKernelIdeal.main_arg1)
      ∧ r.2.mem ((c.tc : Thread Cert.MhafKernelIdeal.nD Cert.MhafKernelIdeal.τ).loc Cert.MhafKernelIdeal.main_arg2) = m ((c.tc : Thread Cert.MhafKernelIdeal.nD Cert.MhafKernelIdeal.τ).loc Cert.MhafKernelIdeal.main_arg2))
      ∧ r.2.sem = fun _ => 0)

def quiescent_MhafKernelIdeal_pre_finite_scores [hMhafKernelIdeal : Cert.MhafKernelIdeal.Facts] [hPre_finite_scores : Cert.Pre_finite_scores.Facts] : Prop :=
  ∀ (m : (ℓ : Loc Cert.MhafKernelIdeal.nD Cert.MhafKernelIdeal.τ Cert.MhafKernelIdeal.sig) → Buf (Elt Ideal) ℓ) (g : Dev Cert.MhafKernelIdeal.nD → PrngReg), Pre_MhafKernelIdeal_finite_scores m →
    θ_run (Cert.MhafKernelIdeal.defs (F := Ideal)) (onTc (τ := Cert.MhafKernelIdeal.τ) (Cert.MhafKernelIdeal.main (F := Ideal))) ⟨m, fun _ => 0, g⟩ (fun r => (∀ c : Dev Cert.MhafKernelIdeal.nD,
      r.2.mem ((c.tc : Thread Cert.MhafKernelIdeal.nD Cert.MhafKernelIdeal.τ).loc Cert.MhafKernelIdeal.main_arg0) = m ((c.tc : Thread Cert.MhafKernelIdeal.nD Cert.MhafKernelIdeal.τ).loc Cert.MhafKernelIdeal.main_arg0)
      ∧ r.2.mem ((c.tc : Thread Cert.MhafKernelIdeal.nD Cert.MhafKernelIdeal.τ).loc Cert.MhafKernelIdeal.main_arg1) = m ((c.tc : Thread Cert.MhafKernelIdeal.nD Cert.MhafKernelIdeal.τ).loc Cert.MhafKernelIdeal.main_arg1)
      ∧ r.2.mem ((c.tc : Thread Cert.MhafKernelIdeal.nD Cert.MhafKernelIdeal.τ).loc Cert.MhafKernelIdeal.main_arg2) = m ((c.tc : Thread Cert.MhafKernelIdeal.nD Cert.MhafKernelIdeal.τ).loc Cert.MhafKernelIdeal.main_arg2))
      ∧ r.2.sem = fun _ => 0)

def quiescent_MhafReferenceIdeal [hMhafReferenceIdeal : Cert.MhafReferenceIdeal.Facts] : Prop :=
  ∀ (m : (ℓ : Loc Cert.MhafReferenceIdeal.nD Cert.MhafReferenceIdeal.τ Cert.MhafReferenceIdeal.sig) → Buf (Elt Ideal) ℓ) (g : Dev Cert.MhafReferenceIdeal.nD → PrngReg), Pre_MhafReferenceIdeal m →
    θ_run (Cert.MhafReferenceIdeal.defs (F := Ideal)) (onTc (τ := Cert.MhafReferenceIdeal.τ) (Cert.MhafReferenceIdeal.main (F := Ideal))) ⟨m, fun _ => 0, g⟩ (fun r => (∀ c : Dev Cert.MhafReferenceIdeal.nD,
      r.2.mem ((c.tc : Thread Cert.MhafReferenceIdeal.nD Cert.MhafReferenceIdeal.τ).loc Cert.MhafReferenceIdeal.main_arg0) = m ((c.tc : Thread Cert.MhafReferenceIdeal.nD Cert.MhafReferenceIdeal.τ).loc Cert.MhafReferenceIdeal.main_arg0)
      ∧ r.2.mem ((c.tc : Thread Cert.MhafReferenceIdeal.nD Cert.MhafReferenceIdeal.τ).loc Cert.MhafReferenceIdeal.main_arg1) = m ((c.tc : Thread Cert.MhafReferenceIdeal.nD Cert.MhafReferenceIdeal.τ).loc Cert.MhafReferenceIdeal.main_arg1)
      ∧ r.2.mem ((c.tc : Thread Cert.MhafReferenceIdeal.nD Cert.MhafReferenceIdeal.τ).loc Cert.MhafReferenceIdeal.main_arg2) = m ((c.tc : Thread Cert.MhafReferenceIdeal.nD Cert.MhafReferenceIdeal.τ).loc Cert.MhafReferenceIdeal.main_arg2))
      ∧ r.2.sem = fun _ => 0)

def quiescent_MhafReferenceIdeal_pre_finite_scores [hMhafReferenceIdeal : Cert.MhafReferenceIdeal.Facts] [hPre_finite_scores : Cert.Pre_finite_scores.Facts] : Prop :=
  ∀ (m : (ℓ : Loc Cert.MhafReferenceIdeal.nD Cert.MhafReferenceIdeal.τ Cert.MhafReferenceIdeal.sig) → Buf (Elt Ideal) ℓ) (g : Dev Cert.MhafReferenceIdeal.nD → PrngReg), Pre_MhafReferenceIdeal_finite_scores m →
    θ_run (Cert.MhafReferenceIdeal.defs (F := Ideal)) (onTc (τ := Cert.MhafReferenceIdeal.τ) (Cert.MhafReferenceIdeal.main (F := Ideal))) ⟨m, fun _ => 0, g⟩ (fun r => (∀ c : Dev Cert.MhafReferenceIdeal.nD,
      r.2.mem ((c.tc : Thread Cert.MhafReferenceIdeal.nD Cert.MhafReferenceIdeal.τ).loc Cert.MhafReferenceIdeal.main_arg0) = m ((c.tc : Thread Cert.MhafReferenceIdeal.nD Cert.MhafReferenceIdeal.τ).loc Cert.MhafReferenceIdeal.main_arg0)
      ∧ r.2.mem ((c.tc : Thread Cert.MhafReferenceIdeal.nD Cert.MhafReferenceIdeal.τ).loc Cert.MhafReferenceIdeal.main_arg1) = m ((c.tc : Thread Cert.MhafReferenceIdeal.nD Cert.MhafReferenceIdeal.τ).loc Cert.MhafReferenceIdeal.main_arg1)
      ∧ r.2.mem ((c.tc : Thread Cert.MhafReferenceIdeal.nD Cert.MhafReferenceIdeal.τ).loc Cert.MhafReferenceIdeal.main_arg2) = m ((c.tc : Thread Cert.MhafReferenceIdeal.nD Cert.MhafReferenceIdeal.τ).loc Cert.MhafReferenceIdeal.main_arg2))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_FsguKernel [hFsguKernel : Cert.FsguKernel.Facts] : Prop :=
  ∀ (m : (ℓ : Loc Cert.FsguKernel.nD Cert.FsguKernel.τ Cert.FsguKernel.sig) → Buf (Elt Bits) ℓ) (g : Dev Cert.FsguKernel.nD → PrngReg), Pre_FsguKernel m →
    θ_run (Cert.FsguKernel.defs (F := Bits)) (onTc (τ := Cert.FsguKernel.τ) (Cert.FsguKernel.main (F := Bits))) ⟨m, fun _ => 0, g⟩ (fun r => (∀ c : Dev Cert.FsguKernel.nD,
      r.2.mem ((c.tc : Thread Cert.FsguKernel.nD Cert.FsguKernel.τ).loc Cert.FsguKernel.main_arg0) = m ((c.tc : Thread Cert.FsguKernel.nD Cert.FsguKernel.τ).loc Cert.FsguKernel.main_arg0)
      ∧ r.2.mem ((c.tc : Thread Cert.FsguKernel.nD Cert.FsguKernel.τ).loc Cert.FsguKernel.main_arg1) = m ((c.tc : Thread Cert.FsguKernel.nD Cert.FsguKernel.τ).loc Cert.FsguKernel.main_arg1)
      ∧ r.2.mem ((c.tc : Thread Cert.FsguKernel.nD Cert.FsguKernel.τ).loc Cert.FsguKernel.main_arg2) = m ((c.tc : Thread Cert.FsguKernel.nD Cert.FsguKernel.τ).loc Cert.FsguKernel.main_arg2)
      ∧ r.2.mem ((c.tc : Thread Cert.FsguKernel.nD Cert.FsguKernel.τ).loc Cert.FsguKernel.main_arg3) = m ((c.tc : Thread Cert.FsguKernel.nD Cert.FsguKernel.τ).loc Cert.FsguKernel.main_arg3))
      ∧ r.2.sem = fun _ => 0)

def quiescent_FsguKernelIdeal [hFsguKernelIdeal : Cert.FsguKernelIdeal.Facts] : Prop :=
  ∀ (m : (ℓ : Loc Cert.FsguKernelIdeal.nD Cert.FsguKernelIdeal.τ Cert.FsguKernelIdeal.sig) → Buf (Elt Ideal) ℓ) (g : Dev Cert.FsguKernelIdeal.nD → PrngReg), Pre_FsguKernelIdeal m →
    θ_run (Cert.FsguKernelIdeal.defs (F := Ideal)) (onTc (τ := Cert.FsguKernelIdeal.τ) (Cert.FsguKernelIdeal.main (F := Ideal))) ⟨m, fun _ => 0, g⟩ (fun r => (∀ c : Dev Cert.FsguKernelIdeal.nD,
      r.2.mem ((c.tc : Thread Cert.FsguKernelIdeal.nD Cert.FsguKernelIdeal.τ).loc Cert.FsguKernelIdeal.main_arg0) = m ((c.tc : Thread Cert.FsguKernelIdeal.nD Cert.FsguKernelIdeal.τ).loc Cert.FsguKernelIdeal.main_arg0)
      ∧ r.2.mem ((c.tc : Thread Cert.FsguKernelIdeal.nD Cert.FsguKernelIdeal.τ).loc Cert.FsguKernelIdeal.main_arg1) = m ((c.tc : Thread Cert.FsguKernelIdeal.nD Cert.FsguKernelIdeal.τ).loc Cert.FsguKernelIdeal.main_arg1)
      ∧ r.2.mem ((c.tc : Thread Cert.FsguKernelIdeal.nD Cert.FsguKernelIdeal.τ).loc Cert.FsguKernelIdeal.main_arg2) = m ((c.tc : Thread Cert.FsguKernelIdeal.nD Cert.FsguKernelIdeal.τ).loc Cert.FsguKernelIdeal.main_arg2)
      ∧ r.2.mem ((c.tc : Thread Cert.FsguKernelIdeal.nD Cert.FsguKernelIdeal.τ).loc Cert.FsguKernelIdeal.main_arg3) = m ((c.tc : Thread Cert.FsguKernelIdeal.nD Cert.FsguKernelIdeal.τ).loc Cert.FsguKernelIdeal.main_arg3))
      ∧ r.2.sem = fun _ => 0)

def quiescent_FsguReferenceIdeal [hFsguReferenceIdeal : Cert.FsguReferenceIdeal.Facts] : Prop :=
  ∀ (m : (ℓ : Loc Cert.FsguReferenceIdeal.nD Cert.FsguReferenceIdeal.τ Cert.FsguReferenceIdeal.sig) → Buf (Elt Ideal) ℓ) (g : Dev Cert.FsguReferenceIdeal.nD → PrngReg), Pre_FsguReferenceIdeal m →
    θ_run (Cert.FsguReferenceIdeal.defs (F := Ideal)) (onTc (τ := Cert.FsguReferenceIdeal.τ) (Cert.FsguReferenceIdeal.main (F := Ideal))) ⟨m, fun _ => 0, g⟩ (fun r => (∀ c : Dev Cert.FsguReferenceIdeal.nD,
      r.2.mem ((c.tc : Thread Cert.FsguReferenceIdeal.nD Cert.FsguReferenceIdeal.τ).loc Cert.FsguReferenceIdeal.main_arg0) = m ((c.tc : Thread Cert.FsguReferenceIdeal.nD Cert.FsguReferenceIdeal.τ).loc Cert.FsguReferenceIdeal.main_arg0)
      ∧ r.2.mem ((c.tc : Thread Cert.FsguReferenceIdeal.nD Cert.FsguReferenceIdeal.τ).loc Cert.FsguReferenceIdeal.main_arg1) = m ((c.tc : Thread Cert.FsguReferenceIdeal.nD Cert.FsguReferenceIdeal.τ).loc Cert.FsguReferenceIdeal.main_arg1)
      ∧ r.2.mem ((c.tc : Thread Cert.FsguReferenceIdeal.nD Cert.FsguReferenceIdeal.τ).loc Cert.FsguReferenceIdeal.main_arg2) = m ((c.tc : Thread Cert.FsguReferenceIdeal.nD Cert.FsguReferenceIdeal.τ).loc Cert.FsguReferenceIdeal.main_arg2)
      ∧ r.2.mem ((c.tc : Thread Cert.FsguReferenceIdeal.nD Cert.FsguReferenceIdeal.τ).loc Cert.FsguReferenceIdeal.main_arg3) = m ((c.tc : Thread Cert.FsguReferenceIdeal.nD Cert.FsguReferenceIdeal.τ).loc Cert.FsguReferenceIdeal.main_arg3))
      ∧ r.2.sem = fun _ => 0)

def quiescent_FmemKernel [hFmemKernel : Cert.FmemKernel.Facts] : Prop :=
  ∀ (m : (ℓ : Loc Cert.FmemKernel.nD Cert.FmemKernel.τ Cert.FmemKernel.sig) → Buf (Elt Bits) ℓ) (g : Dev Cert.FmemKernel.nD → PrngReg), Pre_FmemKernel m →
    θ_run (Cert.FmemKernel.defs (F := Bits)) (onTc (τ := Cert.FmemKernel.τ) (Cert.FmemKernel.main (F := Bits))) ⟨m, fun _ => 0, g⟩ (fun r => (∀ c : Dev Cert.FmemKernel.nD,
      r.2.mem ((c.tc : Thread Cert.FmemKernel.nD Cert.FmemKernel.τ).loc Cert.FmemKernel.main_arg0) = m ((c.tc : Thread Cert.FmemKernel.nD Cert.FmemKernel.τ).loc Cert.FmemKernel.main_arg0)
      ∧ r.2.mem ((c.tc : Thread Cert.FmemKernel.nD Cert.FmemKernel.τ).loc Cert.FmemKernel.main_arg1) = m ((c.tc : Thread Cert.FmemKernel.nD Cert.FmemKernel.τ).loc Cert.FmemKernel.main_arg1)
      ∧ r.2.mem ((c.tc : Thread Cert.FmemKernel.nD Cert.FmemKernel.τ).loc Cert.FmemKernel.main_arg2) = m ((c.tc : Thread Cert.FmemKernel.nD Cert.FmemKernel.τ).loc Cert.FmemKernel.main_arg2))
      ∧ r.2.sem = fun _ => 0)

def quiescent_FmemKernelIdeal [hFmemKernelIdeal : Cert.FmemKernelIdeal.Facts] : Prop :=
  ∀ (m : (ℓ : Loc Cert.FmemKernelIdeal.nD Cert.FmemKernelIdeal.τ Cert.FmemKernelIdeal.sig) → Buf (Elt Ideal) ℓ) (g : Dev Cert.FmemKernelIdeal.nD → PrngReg), Pre_FmemKernelIdeal m →
    θ_run (Cert.FmemKernelIdeal.defs (F := Ideal)) (onTc (τ := Cert.FmemKernelIdeal.τ) (Cert.FmemKernelIdeal.main (F := Ideal))) ⟨m, fun _ => 0, g⟩ (fun r => (∀ c : Dev Cert.FmemKernelIdeal.nD,
      r.2.mem ((c.tc : Thread Cert.FmemKernelIdeal.nD Cert.FmemKernelIdeal.τ).loc Cert.FmemKernelIdeal.main_arg0) = m ((c.tc : Thread Cert.FmemKernelIdeal.nD Cert.FmemKernelIdeal.τ).loc Cert.FmemKernelIdeal.main_arg0)
      ∧ r.2.mem ((c.tc : Thread Cert.FmemKernelIdeal.nD Cert.FmemKernelIdeal.τ).loc Cert.FmemKernelIdeal.main_arg1) = m ((c.tc : Thread Cert.FmemKernelIdeal.nD Cert.FmemKernelIdeal.τ).loc Cert.FmemKernelIdeal.main_arg1)
      ∧ r.2.mem ((c.tc : Thread Cert.FmemKernelIdeal.nD Cert.FmemKernelIdeal.τ).loc Cert.FmemKernelIdeal.main_arg2) = m ((c.tc : Thread Cert.FmemKernelIdeal.nD Cert.FmemKernelIdeal.τ).loc Cert.FmemKernelIdeal.main_arg2))
      ∧ r.2.sem = fun _ => 0)

def quiescent_FmemReferenceIdeal [hFmemReferenceIdeal : Cert.FmemReferenceIdeal.Facts] : Prop :=
  ∀ (m : (ℓ : Loc Cert.FmemReferenceIdeal.nD Cert.FmemReferenceIdeal.τ Cert.FmemReferenceIdeal.sig) → Buf (Elt Ideal) ℓ) (g : Dev Cert.FmemReferenceIdeal.nD → PrngReg), Pre_FmemReferenceIdeal m →
    θ_run (Cert.FmemReferenceIdeal.defs (F := Ideal)) (onTc (τ := Cert.FmemReferenceIdeal.τ) (Cert.FmemReferenceIdeal.main (F := Ideal))) ⟨m, fun _ => 0, g⟩ (fun r => (∀ c : Dev Cert.FmemReferenceIdeal.nD,
      r.2.mem ((c.tc : Thread Cert.FmemReferenceIdeal.nD Cert.FmemReferenceIdeal.τ).loc Cert.FmemReferenceIdeal.main_arg0) = m ((c.tc : Thread Cert.FmemReferenceIdeal.nD Cert.FmemReferenceIdeal.τ).loc Cert.FmemReferenceIdeal.main_arg0)
      ∧ r.2.mem ((c.tc : Thread Cert.FmemReferenceIdeal.nD Cert.FmemReferenceIdeal.τ).loc Cert.FmemReferenceIdeal.main_arg1) = m ((c.tc : Thread Cert.FmemReferenceIdeal.nD Cert.FmemReferenceIdeal.τ).loc Cert.FmemReferenceIdeal.main_arg1)
      ∧ r.2.mem ((c.tc : Thread Cert.FmemReferenceIdeal.nD Cert.FmemReferenceIdeal.τ).loc Cert.FmemReferenceIdeal.main_arg2) = m ((c.tc : Thread Cert.FmemReferenceIdeal.nD Cert.FmemReferenceIdeal.τ).loc Cert.FmemReferenceIdeal.main_arg2))
      ∧ r.2.sem = fun _ => 0)

def quiescent_FconvKernel [hFconvKernel : Cert.FconvKernel.Facts] : Prop :=
  ∀ (m : (ℓ : Loc Cert.FconvKernel.nD Cert.FconvKernel.τ Cert.FconvKernel.sig) → Buf (Elt Bits) ℓ) (g : Dev Cert.FconvKernel.nD → PrngReg), Pre_FconvKernel m →
    θ_run (Cert.FconvKernel.defs (F := Bits)) (onTc (τ := Cert.FconvKernel.τ) (Cert.FconvKernel.main (F := Bits))) ⟨m, fun _ => 0, g⟩ (fun r => (∀ c : Dev Cert.FconvKernel.nD,
      r.2.mem ((c.tc : Thread Cert.FconvKernel.nD Cert.FconvKernel.τ).loc Cert.FconvKernel.main_arg0) = m ((c.tc : Thread Cert.FconvKernel.nD Cert.FconvKernel.τ).loc Cert.FconvKernel.main_arg0)
      ∧ r.2.mem ((c.tc : Thread Cert.FconvKernel.nD Cert.FconvKernel.τ).loc Cert.FconvKernel.main_arg1) = m ((c.tc : Thread Cert.FconvKernel.nD Cert.FconvKernel.τ).loc Cert.FconvKernel.main_arg1)
      ∧ r.2.mem ((c.tc : Thread Cert.FconvKernel.nD Cert.FconvKernel.τ).loc Cert.FconvKernel.main_arg2) = m ((c.tc : Thread Cert.FconvKernel.nD Cert.FconvKernel.τ).loc Cert.FconvKernel.main_arg2))
      ∧ r.2.sem = fun _ => 0)

def quiescent_FconvKernelIdeal [hFconvKernelIdeal : Cert.FconvKernelIdeal.Facts] : Prop :=
  ∀ (m : (ℓ : Loc Cert.FconvKernelIdeal.nD Cert.FconvKernelIdeal.τ Cert.FconvKernelIdeal.sig) → Buf (Elt Ideal) ℓ) (g : Dev Cert.FconvKernelIdeal.nD → PrngReg), Pre_FconvKernelIdeal m →
    θ_run (Cert.FconvKernelIdeal.defs (F := Ideal)) (onTc (τ := Cert.FconvKernelIdeal.τ) (Cert.FconvKernelIdeal.main (F := Ideal))) ⟨m, fun _ => 0, g⟩ (fun r => (∀ c : Dev Cert.FconvKernelIdeal.nD,
      r.2.mem ((c.tc : Thread Cert.FconvKernelIdeal.nD Cert.FconvKernelIdeal.τ).loc Cert.FconvKernelIdeal.main_arg0) = m ((c.tc : Thread Cert.FconvKernelIdeal.nD Cert.FconvKernelIdeal.τ).loc Cert.FconvKernelIdeal.main_arg0)
      ∧ r.2.mem ((c.tc : Thread Cert.FconvKernelIdeal.nD Cert.FconvKernelIdeal.τ).loc Cert.FconvKernelIdeal.main_arg1) = m ((c.tc : Thread Cert.FconvKernelIdeal.nD Cert.FconvKernelIdeal.τ).loc Cert.FconvKernelIdeal.main_arg1)
      ∧ r.2.mem ((c.tc : Thread Cert.FconvKernelIdeal.nD Cert.FconvKernelIdeal.τ).loc Cert.FconvKernelIdeal.main_arg2) = m ((c.tc : Thread Cert.FconvKernelIdeal.nD Cert.FconvKernelIdeal.τ).loc Cert.FconvKernelIdeal.main_arg2))
      ∧ r.2.sem = fun _ => 0)

def quiescent_FconvReferenceIdeal [hFconvReferenceIdeal : Cert.FconvReferenceIdeal.Facts] : Prop :=
  ∀ (m : (ℓ : Loc Cert.FconvReferenceIdeal.nD Cert.FconvReferenceIdeal.τ Cert.FconvReferenceIdeal.sig) → Buf (Elt Ideal) ℓ) (g : Dev Cert.FconvReferenceIdeal.nD → PrngReg), Pre_FconvReferenceIdeal m →
    θ_run (Cert.FconvReferenceIdeal.defs (F := Ideal)) (onTc (τ := Cert.FconvReferenceIdeal.τ) (Cert.FconvReferenceIdeal.main (F := Ideal))) ⟨m, fun _ => 0, g⟩ (fun r => (∀ c : Dev Cert.FconvReferenceIdeal.nD,
      r.2.mem ((c.tc : Thread Cert.FconvReferenceIdeal.nD Cert.FconvReferenceIdeal.τ).loc Cert.FconvReferenceIdeal.main_arg0) = m ((c.tc : Thread Cert.FconvReferenceIdeal.nD Cert.FconvReferenceIdeal.τ).loc Cert.FconvReferenceIdeal.main_arg0)
      ∧ r.2.mem ((c.tc : Thread Cert.FconvReferenceIdeal.nD Cert.FconvReferenceIdeal.τ).loc Cert.FconvReferenceIdeal.main_arg1) = m ((c.tc : Thread Cert.FconvReferenceIdeal.nD Cert.FconvReferenceIdeal.τ).loc Cert.FconvReferenceIdeal.main_arg1)
      ∧ r.2.mem ((c.tc : Thread Cert.FconvReferenceIdeal.nD Cert.FconvReferenceIdeal.τ).loc Cert.FconvReferenceIdeal.main_arg2) = m ((c.tc : Thread Cert.FconvReferenceIdeal.nD Cert.FconvReferenceIdeal.τ).loc Cert.FconvReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_finite_gate [hGateKernelIdeal : Cert.GateKernelIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gate m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_FinbKernel [hFinbKernel : Cert.FinbKernel.Facts] : Prop :=
  ∀ (m : (ℓ : Loc Cert.FinbKernel.nD Cert.FinbKernel.τ Cert.FinbKernel.sig) → Buf (Elt Bits) ℓ) (g : Dev Cert.FinbKernel.nD → PrngReg), Pre_FinbKernel m →
    θ_run (Cert.FinbKernel.defs (F := Bits)) (onTc (τ := Cert.FinbKernel.τ) (Cert.FinbKernel.main (F := Bits))) ⟨m, fun _ => 0, g⟩ (fun r => (∀ c : Dev Cert.FinbKernel.nD,
      r.2.mem ((c.tc : Thread Cert.FinbKernel.nD Cert.FinbKernel.τ).loc Cert.FinbKernel.main_arg0) = m ((c.tc : Thread Cert.FinbKernel.nD Cert.FinbKernel.τ).loc Cert.FinbKernel.main_arg0)
      ∧ r.2.mem ((c.tc : Thread Cert.FinbKernel.nD Cert.FinbKernel.τ).loc Cert.FinbKernel.main_arg1) = m ((c.tc : Thread Cert.FinbKernel.nD Cert.FinbKernel.τ).loc Cert.FinbKernel.main_arg1))
      ∧ r.2.sem = fun _ => 0)

def quiescent_FinbKernelIdeal [hFinbKernelIdeal : Cert.FinbKernelIdeal.Facts] : Prop :=
  ∀ (m : (ℓ : Loc Cert.FinbKernelIdeal.nD Cert.FinbKernelIdeal.τ Cert.FinbKernelIdeal.sig) → Buf (Elt Ideal) ℓ) (g : Dev Cert.FinbKernelIdeal.nD → PrngReg), Pre_FinbKernelIdeal m →
    θ_run (Cert.FinbKernelIdeal.defs (F := Ideal)) (onTc (τ := Cert.FinbKernelIdeal.τ) (Cert.FinbKernelIdeal.main (F := Ideal))) ⟨m, fun _ => 0, g⟩ (fun r => (∀ c : Dev Cert.FinbKernelIdeal.nD,
      r.2.mem ((c.tc : Thread Cert.FinbKernelIdeal.nD Cert.FinbKernelIdeal.τ).loc Cert.FinbKernelIdeal.main_arg0) = m ((c.tc : Thread Cert.FinbKernelIdeal.nD Cert.FinbKernelIdeal.τ).loc Cert.FinbKernelIdeal.main_arg0)
      ∧ r.2.mem ((c.tc : Thread Cert.FinbKernelIdeal.nD Cert.FinbKernelIdeal.τ).loc Cert.FinbKernelIdeal.main_arg1) = m ((c.tc : Thread Cert.FinbKernelIdeal.nD Cert.FinbKernelIdeal.τ).loc Cert.FinbKernelIdeal.main_arg1))
      ∧ r.2.sem = fun _ => 0)

def quiescent_FinbReferenceIdeal [hFinbReferenceIdeal : Cert.FinbReferenceIdeal.Facts] : Prop :=
  ∀ (m : (ℓ : Loc Cert.FinbReferenceIdeal.nD Cert.FinbReferenceIdeal.τ Cert.FinbReferenceIdeal.sig) → Buf (Elt Ideal) ℓ) (g : Dev Cert.FinbReferenceIdeal.nD → PrngReg), Pre_FinbReferenceIdeal m →
    θ_run (Cert.FinbReferenceIdeal.defs (F := Ideal)) (onTc (τ := Cert.FinbReferenceIdeal.τ) (Cert.FinbReferenceIdeal.main (F := Ideal))) ⟨m, fun _ => 0, g⟩ (fun r => (∀ c : Dev Cert.FinbReferenceIdeal.nD,
      r.2.mem ((c.tc : Thread Cert.FinbReferenceIdeal.nD Cert.FinbReferenceIdeal.τ).loc Cert.FinbReferenceIdeal.main_arg0) = m ((c.tc : Thread Cert.FinbReferenceIdeal.nD Cert.FinbReferenceIdeal.τ).loc Cert.FinbReferenceIdeal.main_arg0)
      ∧ r.2.mem ((c.tc : Thread Cert.FinbReferenceIdeal.nD Cert.FinbReferenceIdeal.τ).loc Cert.FinbReferenceIdeal.main_arg1) = m ((c.tc : Thread Cert.FinbReferenceIdeal.nD Cert.FinbReferenceIdeal.τ).loc Cert.FinbReferenceIdeal.main_arg1))
      ∧ r.2.sem = fun _ => 0)

def preserves_MlaKernel_MlaKernelIdeal : Prop :=
  True

def algebraic_MlaKernelIdeal_MlaReferenceIdeal_pre_finite_attention [hMlaKernelIdeal : Cert.MlaKernelIdeal.Facts] [hMlaReferenceIdeal : Cert.MlaReferenceIdeal.Facts] [hPre_finite_attention : Cert.Pre_finite_attention.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_finite_attention m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)) →
    ∃ (v0 : (c : Dev Cert.MlaKernelIdeal.nD) → Buf (Elt Ideal) ((c.tc : Thread Cert.MlaKernelIdeal.nD Cert.MlaKernelIdeal.τ).loc Cert.MlaKernelIdeal.main_v39_0)) (v1 : (c : Dev Cert.MlaKernelIdeal.nD) → Buf (Elt Ideal) ((c.tc : Thread Cert.MlaKernelIdeal.nD Cert.MlaKernelIdeal.τ).loc Cert.MlaKernelIdeal.main_v39_1)) (v2 : (c : Dev Cert.MlaKernelIdeal.nD) → Buf (Elt Ideal) ((c.tc : Thread Cert.MlaKernelIdeal.nD Cert.MlaKernelIdeal.τ).loc Cert.MlaKernelIdeal.main_v39_2)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v39_0) = v0 c
          ∧ r.2.mem ((c.tc : Thread Cert.MlaKernelIdeal.nD Cert.MlaKernelIdeal.τ).loc Cert.MlaKernelIdeal.main_v39_1) = v1 c
          ∧ r.2.mem ((c.tc : Thread Cert.MlaKernelIdeal.nD Cert.MlaKernelIdeal.τ).loc Cert.MlaKernelIdeal.main_v39_2) = v2 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v70) = v0 c
          ∧ r.2.mem ((c.tc : Thread Cert.MlaReferenceIdeal.nD Cert.MlaReferenceIdeal.τ).loc Cert.MlaReferenceIdeal.main_v71) = v1 c
          ∧ r.2.mem ((c.tc : Thread Cert.MlaReferenceIdeal.nD Cert.MlaReferenceIdeal.τ).loc Cert.MlaReferenceIdeal.main_v72) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4))

def preserves_MemKernel_MemKernelIdeal : Prop :=
  True

def algebraic_MemKernelIdeal_MemReferenceIdeal_pre_finite_memory [hMemKernelIdeal : Cert.MemKernelIdeal.Facts] [hMemReferenceIdeal : Cert.MemReferenceIdeal.Facts] [hPre_finite_memory : Cert.Pre_finite_memory.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_finite_memory m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v0_0)) (v1 : (c : Dev Cert.MemKernelIdeal.nD) → Buf (Elt Ideal) ((c.tc : Thread Cert.MemKernelIdeal.nD Cert.MemKernelIdeal.τ).loc Cert.MemKernelIdeal.main_v0_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v0_0) = v0 c
          ∧ r.2.mem ((c.tc : Thread Cert.MemKernelIdeal.nD Cert.MemKernelIdeal.τ).loc Cert.MemKernelIdeal.main_v0_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v73) = v0 c
          ∧ r.2.mem ((c.tc : Thread Cert.MemReferenceIdeal.nD Cert.MemReferenceIdeal.τ).loc Cert.MemReferenceIdeal.main_v71) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)) →
    ∃ (v0 : (c : Dev Cert.DactKernelIdeal.nD) → Buf (Elt Ideal) ((c.tc : Thread Cert.DactKernelIdeal.nD Cert.DactKernelIdeal.τ).loc Cert.DactKernelIdeal.main_v0)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v0) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v5) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_DwdownKernel_DwdownKernelIdeal : Prop :=
  True

def algebraic_DwdownKernelIdeal_DwdownReferenceIdeal [hDwdownKernelIdeal : Cert.DwdownKernelIdeal.Facts] [hDwdownReferenceIdeal : Cert.DwdownReferenceIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg)
    (m' : (ℓ : Loc Cert.DwdownReferenceIdeal.nD Cert.DwdownReferenceIdeal.τ Cert.DwdownReferenceIdeal.sig) → Buf (Elt Ideal) ℓ) (g' : Dev Cert.DwdownReferenceIdeal.nD → PrngReg), Pre_DwdownKernelIdeal m →
    (∀ c : Dev Cert.DwdownKernelIdeal.nD,
      m' ((c.tc : Thread Cert.DwdownReferenceIdeal.nD Cert.DwdownReferenceIdeal.τ).loc Cert.DwdownReferenceIdeal.main_arg0) = m ((c.tc : Thread Cert.DwdownKernelIdeal.nD Cert.DwdownKernelIdeal.τ).loc Cert.DwdownKernelIdeal.main_arg0)
      ∧ m' ((c.tc : Thread Cert.DwdownReferenceIdeal.nD Cert.DwdownReferenceIdeal.τ).loc Cert.DwdownReferenceIdeal.main_arg1) = m ((c.tc : Thread Cert.DwdownKernelIdeal.nD Cert.DwdownKernelIdeal.τ).loc Cert.DwdownKernelIdeal.main_arg1)) →
    ∃ (v0 : (c : Dev Cert.DwdownKernelIdeal.nD) → Buf (Elt Ideal) ((c.tc : Thread Cert.DwdownKernelIdeal.nD Cert.DwdownKernelIdeal.τ).loc Cert.DwdownKernelIdeal.main_v0)),
      θ_run (Cert.DwdownKernelIdeal.defs (F := Ideal)) (onTc (τ := Cert.DwdownKernelIdeal.τ) (Cert.DwdownKernelIdeal.main (F := Ideal))) ⟨m, fun _ => 0, g⟩ (fun r => ∀ c : Dev Cert.DwdownKernelIdeal.nD,
          r.2.mem ((c.tc : Thread Cert.DwdownKernelIdeal.nD Cert.DwdownKernelIdeal.τ).loc Cert.DwdownKernelIdeal.main_v0) = v0 c
          ∧ r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
          ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ θ_run (Cert.DwdownReferenceIdeal.defs (F := Ideal)) (onTc (τ := Cert.DwdownReferenceIdeal.τ) (Cert.DwdownReferenceIdeal.main (F := Ideal))) ⟨m', fun _ => 0, g'⟩ (fun r => ∀ c : Dev Cert.DwdownReferenceIdeal.nD,
          r.2.mem ((c.tc : Thread Cert.DwdownReferenceIdeal.nD Cert.DwdownReferenceIdeal.τ).loc Cert.DwdownReferenceIdeal.main_v6) = v0 c
          ∧ r.2.mem ((c.tc : Thread Cert.DwdownReferenceIdeal.nD Cert.DwdownReferenceIdeal.τ).loc Cert.DwdownReferenceIdeal.main_arg0) = m' ((c.tc : Thread Cert.DwdownReferenceIdeal.nD Cert.DwdownReferenceIdeal.τ).loc Cert.DwdownReferenceIdeal.main_arg0)
          ∧ r.2.mem ((c.tc : Thread Cert.DwdownReferenceIdeal.nD Cert.DwdownReferenceIdeal.τ).loc Cert.DwdownReferenceIdeal.main_arg1) = m' ((c.tc : Thread Cert.DwdownReferenceIdeal.nD Cert.DwdownReferenceIdeal.τ).loc Cert.DwdownReferenceIdeal.main_arg1))

def preserves_DwupKernel_DwupKernelIdeal : Prop :=
  True

def algebraic_DwupKernelIdeal_DwupReferenceIdeal [hDwupKernelIdeal : Cert.DwupKernelIdeal.Facts] [hDwupReferenceIdeal : Cert.DwupReferenceIdeal.Facts] : Prop :=
  ∀ (m : (ℓ : Loc Cert.DwupKernelIdeal.nD Cert.DwupKernelIdeal.τ Cert.DwupKernelIdeal.sig) → Buf (Elt Ideal) ℓ) (g : Dev Cert.DwupKernelIdeal.nD → PrngReg)
    (m' : (ℓ : Loc Cert.DwupReferenceIdeal.nD Cert.DwupReferenceIdeal.τ Cert.DwupReferenceIdeal.sig) → Buf (Elt Ideal) ℓ) (g' : Dev Cert.DwupReferenceIdeal.nD → PrngReg), Pre_DwupKernelIdeal m →
    (∀ c : Dev Cert.DwupKernelIdeal.nD,
      m' ((c.tc : Thread Cert.DwupReferenceIdeal.nD Cert.DwupReferenceIdeal.τ).loc Cert.DwupReferenceIdeal.main_arg0) = m ((c.tc : Thread Cert.DwupKernelIdeal.nD Cert.DwupKernelIdeal.τ).loc Cert.DwupKernelIdeal.main_arg0)
      ∧ m' ((c.tc : Thread Cert.DwupReferenceIdeal.nD Cert.DwupReferenceIdeal.τ).loc Cert.DwupReferenceIdeal.main_arg1) = m ((c.tc : Thread Cert.DwupKernelIdeal.nD Cert.DwupKernelIdeal.τ).loc Cert.DwupKernelIdeal.main_arg1)) →
    ∃ (v0 : (c : Dev Cert.DwupKernelIdeal.nD) → Buf (Elt Ideal) ((c.tc : Thread Cert.DwupKernelIdeal.nD Cert.DwupKernelIdeal.τ).loc Cert.DwupKernelIdeal.main_v0)),
      θ_run (Cert.DwupKernelIdeal.defs (F := Ideal)) (onTc (τ := Cert.DwupKernelIdeal.τ) (Cert.DwupKernelIdeal.main (F := Ideal))) ⟨m, fun _ => 0, g⟩ (fun r => ∀ c : Dev Cert.DwupKernelIdeal.nD,
          r.2.mem ((c.tc : Thread Cert.DwupKernelIdeal.nD Cert.DwupKernelIdeal.τ).loc Cert.DwupKernelIdeal.main_v0) = v0 c
          ∧ r.2.mem ((c.tc : Thread Cert.DwupKernelIdeal.nD Cert.DwupKernelIdeal.τ).loc Cert.DwupKernelIdeal.main_arg0) = m ((c.tc : Thread Cert.DwupKernelIdeal.nD Cert.DwupKernelIdeal.τ).loc Cert.DwupKernelIdeal.main_arg0)
          ∧ r.2.mem ((c.tc : Thread Cert.DwupKernelIdeal.nD Cert.DwupKernelIdeal.τ).loc Cert.DwupKernelIdeal.main_arg1) = m ((c.tc : Thread Cert.DwupKernelIdeal.nD Cert.DwupKernelIdeal.τ).loc Cert.DwupKernelIdeal.main_arg1))
      ∧ θ_run (Cert.DwupReferenceIdeal.defs (F := Ideal)) (onTc (τ := Cert.DwupReferenceIdeal.τ) (Cert.DwupReferenceIdeal.main (F := Ideal))) ⟨m', fun _ => 0, g'⟩ (fun r => ∀ c : Dev Cert.DwupReferenceIdeal.nD,
          r.2.mem ((c.tc : Thread Cert.DwupReferenceIdeal.nD Cert.DwupReferenceIdeal.τ).loc Cert.DwupReferenceIdeal.main_v8) = v0 c
          ∧ r.2.mem ((c.tc : Thread Cert.DwupReferenceIdeal.nD Cert.DwupReferenceIdeal.τ).loc Cert.DwupReferenceIdeal.main_arg0) = m' ((c.tc : Thread Cert.DwupReferenceIdeal.nD Cert.DwupReferenceIdeal.τ).loc Cert.DwupReferenceIdeal.main_arg0)
          ∧ r.2.mem ((c.tc : Thread Cert.DwupReferenceIdeal.nD Cert.DwupReferenceIdeal.τ).loc Cert.DwupReferenceIdeal.main_arg1) = m' ((c.tc : Thread Cert.DwupReferenceIdeal.nD Cert.DwupReferenceIdeal.τ).loc Cert.DwupReferenceIdeal.main_arg1))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)) →
    ∃ (v0 : (c : Dev Cert.DhKernelIdeal.nD) → Buf (Elt Ideal) ((c.tc : Thread Cert.DhKernelIdeal.nD Cert.DhKernelIdeal.τ).loc Cert.DhKernelIdeal.main_v0)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v0) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v7) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_ConvinKernel_ConvinKernelIdeal : Prop :=
  True

def algebraic_ConvinKernelIdeal_ConvinReferenceIdeal [hConvinKernelIdeal : Cert.ConvinKernelIdeal.Facts] [hConvinReferenceIdeal : Cert.ConvinReferenceIdeal.Facts] : Prop :=
  ∀ (m : (ℓ : Loc Cert.ConvinKernelIdeal.nD Cert.ConvinKernelIdeal.τ Cert.ConvinKernelIdeal.sig) → Buf (Elt Ideal) ℓ) (g : Dev Cert.ConvinKernelIdeal.nD → PrngReg)
    (m' : (ℓ : Loc Cert.ConvinReferenceIdeal.nD Cert.ConvinReferenceIdeal.τ Cert.ConvinReferenceIdeal.sig) → Buf (Elt Ideal) ℓ) (g' : Dev Cert.ConvinReferenceIdeal.nD → PrngReg), Pre_ConvinKernelIdeal m →
    (∀ c : Dev Cert.ConvinKernelIdeal.nD,
      m' ((c.tc : Thread Cert.ConvinReferenceIdeal.nD Cert.ConvinReferenceIdeal.τ).loc Cert.ConvinReferenceIdeal.main_arg0) = m ((c.tc : Thread Cert.ConvinKernelIdeal.nD Cert.ConvinKernelIdeal.τ).loc Cert.ConvinKernelIdeal.main_arg0)
      ∧ m' ((c.tc : Thread Cert.ConvinReferenceIdeal.nD Cert.ConvinReferenceIdeal.τ).loc Cert.ConvinReferenceIdeal.main_arg1) = m ((c.tc : Thread Cert.ConvinKernelIdeal.nD Cert.ConvinKernelIdeal.τ).loc Cert.ConvinKernelIdeal.main_arg1)) →
    ∃ (v0 : (c : Dev Cert.ConvinKernelIdeal.nD) → Buf (Elt Ideal) ((c.tc : Thread Cert.ConvinKernelIdeal.nD Cert.ConvinKernelIdeal.τ).loc Cert.ConvinKernelIdeal.main_v0)),
      θ_run (Cert.ConvinKernelIdeal.defs (F := Ideal)) (onTc (τ := Cert.ConvinKernelIdeal.τ) (Cert.ConvinKernelIdeal.main (F := Ideal))) ⟨m, fun _ => 0, g⟩ (fun r => ∀ c : Dev Cert.ConvinKernelIdeal.nD,
          r.2.mem ((c.tc : Thread Cert.ConvinKernelIdeal.nD Cert.ConvinKernelIdeal.τ).loc Cert.ConvinKernelIdeal.main_v0) = v0 c
          ∧ r.2.mem ((c.tc : Thread Cert.ConvinKernelIdeal.nD Cert.ConvinKernelIdeal.τ).loc Cert.ConvinKernelIdeal.main_arg0) = m ((c.tc : Thread Cert.ConvinKernelIdeal.nD Cert.ConvinKernelIdeal.τ).loc Cert.ConvinKernelIdeal.main_arg0)
          ∧ r.2.mem ((c.tc : Thread Cert.ConvinKernelIdeal.nD Cert.ConvinKernelIdeal.τ).loc Cert.ConvinKernelIdeal.main_arg1) = m ((c.tc : Thread Cert.ConvinKernelIdeal.nD Cert.ConvinKernelIdeal.τ).loc Cert.ConvinKernelIdeal.main_arg1))
      ∧ θ_run (Cert.ConvinReferenceIdeal.defs (F := Ideal)) (onTc (τ := Cert.ConvinReferenceIdeal.τ) (Cert.ConvinReferenceIdeal.main (F := Ideal))) ⟨m', fun _ => 0, g'⟩ (fun r => ∀ c : Dev Cert.ConvinReferenceIdeal.nD,
          r.2.mem ((c.tc : Thread Cert.ConvinReferenceIdeal.nD Cert.ConvinReferenceIdeal.τ).loc Cert.ConvinReferenceIdeal.main_v42) = v0 c
          ∧ r.2.mem ((c.tc : Thread Cert.ConvinReferenceIdeal.nD Cert.ConvinReferenceIdeal.τ).loc Cert.ConvinReferenceIdeal.main_arg0) = m' ((c.tc : Thread Cert.ConvinReferenceIdeal.nD Cert.ConvinReferenceIdeal.τ).loc Cert.ConvinReferenceIdeal.main_arg0)
          ∧ r.2.mem ((c.tc : Thread Cert.ConvinReferenceIdeal.nD Cert.ConvinReferenceIdeal.τ).loc Cert.ConvinReferenceIdeal.main_arg1) = m' ((c.tc : Thread Cert.ConvinReferenceIdeal.nD Cert.ConvinReferenceIdeal.τ).loc Cert.ConvinReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)) (v2 : (c : Dev Cert.NormKernelIdeal.nD) → Buf (Elt Ideal) ((c.tc : Thread Cert.NormKernelIdeal.nD Cert.NormKernelIdeal.τ).loc Cert.NormKernelIdeal.main_v1_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_v1_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v37) = v0 c
          ∧ r.2.mem ((c.tc : Thread Cert.NormReferenceIdeal.nD Cert.NormReferenceIdeal.τ).loc Cert.NormReferenceIdeal.main_v38) = v1 c
          ∧ r.2.mem ((c.tc : Thread Cert.NormReferenceIdeal.nD Cert.NormReferenceIdeal.τ).loc Cert.NormReferenceIdeal.main_v39) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)) →
    ∃ (v0 : (c : Dev Cert.MixKernelIdeal.nD) → Buf (Elt Ideal) ((c.tc : Thread Cert.MixKernelIdeal.nD Cert.MixKernelIdeal.τ).loc Cert.MixKernelIdeal.main_v0)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v0) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v5) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_DwoutKernel_DwoutKernelIdeal : Prop :=
  True

def algebraic_DwoutKernelIdeal_DwoutReferenceIdeal [hDwoutKernelIdeal : Cert.DwoutKernelIdeal.Facts] [hDwoutReferenceIdeal : Cert.DwoutReferenceIdeal.Facts] : Prop :=
  ∀ (m : (ℓ : Loc Cert.DwoutKernelIdeal.nD Cert.DwoutKernelIdeal.τ Cert.DwoutKernelIdeal.sig) → Buf (Elt Ideal) ℓ) (g : Dev Cert.DwoutKernelIdeal.nD → PrngReg)
    (m' : (ℓ : Loc Cert.DwoutReferenceIdeal.nD Cert.DwoutReferenceIdeal.τ Cert.DwoutReferenceIdeal.sig) → Buf (Elt Ideal) ℓ) (g' : Dev Cert.DwoutReferenceIdeal.nD → PrngReg), Pre_DwoutKernelIdeal m →
    (∀ c : Dev Cert.DwoutKernelIdeal.nD,
      m' ((c.tc : Thread Cert.DwoutReferenceIdeal.nD Cert.DwoutReferenceIdeal.τ).loc Cert.DwoutReferenceIdeal.main_arg0) = m ((c.tc : Thread Cert.DwoutKernelIdeal.nD Cert.DwoutKernelIdeal.τ).loc Cert.DwoutKernelIdeal.main_arg0)
      ∧ m' ((c.tc : Thread Cert.DwoutReferenceIdeal.nD Cert.DwoutReferenceIdeal.τ).loc Cert.DwoutReferenceIdeal.main_arg1) = m ((c.tc : Thread Cert.DwoutKernelIdeal.nD Cert.DwoutKernelIdeal.τ).loc Cert.DwoutKernelIdeal.main_arg1)) →
    ∃ (v0 : (c : Dev Cert.DwoutKernelIdeal.nD) → Buf (Elt Ideal) ((c.tc : Thread Cert.DwoutKernelIdeal.nD Cert.DwoutKernelIdeal.τ).loc Cert.DwoutKernelIdeal.main_v0)),
      θ_run (Cert.DwoutKernelIdeal.defs (F := Ideal)) (onTc (τ := Cert.DwoutKernelIdeal.τ) (Cert.DwoutKernelIdeal.main (F := Ideal))) ⟨m, fun _ => 0, g⟩ (fun r => ∀ c : Dev Cert.DwoutKernelIdeal.nD,
          r.2.mem ((c.tc : Thread Cert.DwoutKernelIdeal.nD Cert.DwoutKernelIdeal.τ).loc Cert.DwoutKernelIdeal.main_v0) = v0 c
          ∧ r.2.mem ((c.tc : Thread Cert.DwoutKernelIdeal.nD Cert.DwoutKernelIdeal.τ).loc Cert.DwoutKernelIdeal.main_arg0) = m ((c.tc : Thread Cert.DwoutKernelIdeal.nD Cert.DwoutKernelIdeal.τ).loc Cert.DwoutKernelIdeal.main_arg0)
          ∧ r.2.mem ((c.tc : Thread Cert.DwoutKernelIdeal.nD Cert.DwoutKernelIdeal.τ).loc Cert.DwoutKernelIdeal.main_arg1) = m ((c.tc : Thread Cert.DwoutKernelIdeal.nD Cert.DwoutKernelIdeal.τ).loc Cert.DwoutKernelIdeal.main_arg1))
      ∧ θ_run (Cert.DwoutReferenceIdeal.defs (F := Ideal)) (onTc (τ := Cert.DwoutReferenceIdeal.τ) (Cert.DwoutReferenceIdeal.main (F := Ideal))) ⟨m', fun _ => 0, g'⟩ (fun r => ∀ c : Dev Cert.DwoutReferenceIdeal.nD,
          r.2.mem ((c.tc : Thread Cert.DwoutReferenceIdeal.nD Cert.DwoutReferenceIdeal.τ).loc Cert.DwoutReferenceIdeal.main_v6) = v0 c
          ∧ r.2.mem ((c.tc : Thread Cert.DwoutReferenceIdeal.nD Cert.DwoutReferenceIdeal.τ).loc Cert.DwoutReferenceIdeal.main_arg0) = m' ((c.tc : Thread Cert.DwoutReferenceIdeal.nD Cert.DwoutReferenceIdeal.τ).loc Cert.DwoutReferenceIdeal.main_arg0)
          ∧ r.2.mem ((c.tc : Thread Cert.DwoutReferenceIdeal.nD Cert.DwoutReferenceIdeal.τ).loc Cert.DwoutReferenceIdeal.main_arg1) = m' ((c.tc : Thread Cert.DwoutReferenceIdeal.nD Cert.DwoutReferenceIdeal.τ).loc Cert.DwoutReferenceIdeal.main_arg1))

def preserves_DhaKernel_DhaKernelIdeal : Prop :=
  True

def algebraic_DhaKernelIdeal_DhaReferenceIdeal [hDhaKernelIdeal : Cert.DhaKernelIdeal.Facts] [hDhaReferenceIdeal : Cert.DhaReferenceIdeal.Facts] : Prop :=
  ∀ (m : (ℓ : Loc Cert.DhaKernelIdeal.nD Cert.DhaKernelIdeal.τ Cert.DhaKernelIdeal.sig) → Buf (Elt Ideal) ℓ) (g : Dev Cert.DhaKernelIdeal.nD → PrngReg)
    (m' : (ℓ : Loc Cert.DhaReferenceIdeal.nD Cert.DhaReferenceIdeal.τ Cert.DhaReferenceIdeal.sig) → Buf (Elt Ideal) ℓ) (g' : Dev Cert.DhaReferenceIdeal.nD → PrngReg), Pre_DhaKernelIdeal m →
    (∀ c : Dev Cert.DhaKernelIdeal.nD,
      m' ((c.tc : Thread Cert.DhaReferenceIdeal.nD Cert.DhaReferenceIdeal.τ).loc Cert.DhaReferenceIdeal.main_arg0) = m ((c.tc : Thread Cert.DhaKernelIdeal.nD Cert.DhaKernelIdeal.τ).loc Cert.DhaKernelIdeal.main_arg0)
      ∧ m' ((c.tc : Thread Cert.DhaReferenceIdeal.nD Cert.DhaReferenceIdeal.τ).loc Cert.DhaReferenceIdeal.main_arg1) = m ((c.tc : Thread Cert.DhaKernelIdeal.nD Cert.DhaKernelIdeal.τ).loc Cert.DhaKernelIdeal.main_arg1)) →
    ∃ (v0 : (c : Dev Cert.DhaKernelIdeal.nD) → Buf (Elt Ideal) ((c.tc : Thread Cert.DhaKernelIdeal.nD Cert.DhaKernelIdeal.τ).loc Cert.DhaKernelIdeal.main_v0)),
      θ_run (Cert.DhaKernelIdeal.defs (F := Ideal)) (onTc (τ := Cert.DhaKernelIdeal.τ) (Cert.DhaKernelIdeal.main (F := Ideal))) ⟨m, fun _ => 0, g⟩ (fun r => ∀ c : Dev Cert.DhaKernelIdeal.nD,
          r.2.mem ((c.tc : Thread Cert.DhaKernelIdeal.nD Cert.DhaKernelIdeal.τ).loc Cert.DhaKernelIdeal.main_v0) = v0 c
          ∧ r.2.mem ((c.tc : Thread Cert.DhaKernelIdeal.nD Cert.DhaKernelIdeal.τ).loc Cert.DhaKernelIdeal.main_arg0) = m ((c.tc : Thread Cert.DhaKernelIdeal.nD Cert.DhaKernelIdeal.τ).loc Cert.DhaKernelIdeal.main_arg0)
          ∧ r.2.mem ((c.tc : Thread Cert.DhaKernelIdeal.nD Cert.DhaKernelIdeal.τ).loc Cert.DhaKernelIdeal.main_arg1) = m ((c.tc : Thread Cert.DhaKernelIdeal.nD Cert.DhaKernelIdeal.τ).loc Cert.DhaKernelIdeal.main_arg1))
      ∧ θ_run (Cert.DhaReferenceIdeal.defs (F := Ideal)) (onTc (τ := Cert.DhaReferenceIdeal.τ) (Cert.DhaReferenceIdeal.main (F := Ideal))) ⟨m', fun _ => 0, g'⟩ (fun r => ∀ c : Dev Cert.DhaReferenceIdeal.nD,
          r.2.mem ((c.tc : Thread Cert.DhaReferenceIdeal.nD Cert.DhaReferenceIdeal.τ).loc Cert.DhaReferenceIdeal.main_v5) = v0 c
          ∧ r.2.mem ((c.tc : Thread Cert.DhaReferenceIdeal.nD Cert.DhaReferenceIdeal.τ).loc Cert.DhaReferenceIdeal.main_arg0) = m' ((c.tc : Thread Cert.DhaReferenceIdeal.nD Cert.DhaReferenceIdeal.τ).loc Cert.DhaReferenceIdeal.main_arg0)
          ∧ r.2.mem ((c.tc : Thread Cert.DhaReferenceIdeal.nD Cert.DhaReferenceIdeal.τ).loc Cert.DhaReferenceIdeal.main_arg1) = m' ((c.tc : Thread Cert.DhaReferenceIdeal.nD Cert.DhaReferenceIdeal.τ).loc Cert.DhaReferenceIdeal.main_arg1))

def preserves_DwinaKernel_DwinaKernelIdeal : Prop :=
  True

def algebraic_DwinaKernelIdeal_DwinaReferenceIdeal [hDwinaKernelIdeal : Cert.DwinaKernelIdeal.Facts] [hDwinaReferenceIdeal : Cert.DwinaReferenceIdeal.Facts] : Prop :=
  ∀ (m : (ℓ : Loc Cert.DwinaKernelIdeal.nD Cert.DwinaKernelIdeal.τ Cert.DwinaKernelIdeal.sig) → Buf (Elt Ideal) ℓ) (g : Dev Cert.DwinaKernelIdeal.nD → PrngReg)
    (m' : (ℓ : Loc Cert.DwinaReferenceIdeal.nD Cert.DwinaReferenceIdeal.τ Cert.DwinaReferenceIdeal.sig) → Buf (Elt Ideal) ℓ) (g' : Dev Cert.DwinaReferenceIdeal.nD → PrngReg), Pre_DwinaKernelIdeal m →
    (∀ c : Dev Cert.DwinaKernelIdeal.nD,
      m' ((c.tc : Thread Cert.DwinaReferenceIdeal.nD Cert.DwinaReferenceIdeal.τ).loc Cert.DwinaReferenceIdeal.main_arg0) = m ((c.tc : Thread Cert.DwinaKernelIdeal.nD Cert.DwinaKernelIdeal.τ).loc Cert.DwinaKernelIdeal.main_arg0)
      ∧ m' ((c.tc : Thread Cert.DwinaReferenceIdeal.nD Cert.DwinaReferenceIdeal.τ).loc Cert.DwinaReferenceIdeal.main_arg1) = m ((c.tc : Thread Cert.DwinaKernelIdeal.nD Cert.DwinaKernelIdeal.τ).loc Cert.DwinaKernelIdeal.main_arg1)) →
    ∃ (v0 : (c : Dev Cert.DwinaKernelIdeal.nD) → Buf (Elt Ideal) ((c.tc : Thread Cert.DwinaKernelIdeal.nD Cert.DwinaKernelIdeal.τ).loc Cert.DwinaKernelIdeal.main_v0)),
      θ_run (Cert.DwinaKernelIdeal.defs (F := Ideal)) (onTc (τ := Cert.DwinaKernelIdeal.τ) (Cert.DwinaKernelIdeal.main (F := Ideal))) ⟨m, fun _ => 0, g⟩ (fun r => ∀ c : Dev Cert.DwinaKernelIdeal.nD,
          r.2.mem ((c.tc : Thread Cert.DwinaKernelIdeal.nD Cert.DwinaKernelIdeal.τ).loc Cert.DwinaKernelIdeal.main_v0) = v0 c
          ∧ r.2.mem ((c.tc : Thread Cert.DwinaKernelIdeal.nD Cert.DwinaKernelIdeal.τ).loc Cert.DwinaKernelIdeal.main_arg0) = m ((c.tc : Thread Cert.DwinaKernelIdeal.nD Cert.DwinaKernelIdeal.τ).loc Cert.DwinaKernelIdeal.main_arg0)
          ∧ r.2.mem ((c.tc : Thread Cert.DwinaKernelIdeal.nD Cert.DwinaKernelIdeal.τ).loc Cert.DwinaKernelIdeal.main_arg1) = m ((c.tc : Thread Cert.DwinaKernelIdeal.nD Cert.DwinaKernelIdeal.τ).loc Cert.DwinaKernelIdeal.main_arg1))
      ∧ θ_run (Cert.DwinaReferenceIdeal.defs (F := Ideal)) (onTc (τ := Cert.DwinaReferenceIdeal.τ) (Cert.DwinaReferenceIdeal.main (F := Ideal))) ⟨m', fun _ => 0, g'⟩ (fun r => ∀ c : Dev Cert.DwinaReferenceIdeal.nD,
          r.2.mem ((c.tc : Thread Cert.DwinaReferenceIdeal.nD Cert.DwinaReferenceIdeal.τ).loc Cert.DwinaReferenceIdeal.main_v6) = v0 c
          ∧ r.2.mem ((c.tc : Thread Cert.DwinaReferenceIdeal.nD Cert.DwinaReferenceIdeal.τ).loc Cert.DwinaReferenceIdeal.main_arg0) = m' ((c.tc : Thread Cert.DwinaReferenceIdeal.nD Cert.DwinaReferenceIdeal.τ).loc Cert.DwinaReferenceIdeal.main_arg0)
          ∧ r.2.mem ((c.tc : Thread Cert.DwinaReferenceIdeal.nD Cert.DwinaReferenceIdeal.τ).loc Cert.DwinaReferenceIdeal.main_arg1) = m' ((c.tc : Thread Cert.DwinaReferenceIdeal.nD Cert.DwinaReferenceIdeal.τ).loc Cert.DwinaReferenceIdeal.main_arg1))

def preserves_FupKernel_FupKernelIdeal : Prop :=
  True

def algebraic_FupKernelIdeal_FupReferenceIdeal [hFupKernelIdeal : Cert.FupKernelIdeal.Facts] [hFupReferenceIdeal : Cert.FupReferenceIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupKernelIdeal m →
    (∀ c : Dev Cert.FupKernelIdeal.nD,
      m' ((c.tc : Thread Cert.FupReferenceIdeal.nD Cert.FupReferenceIdeal.τ).loc Cert.FupReferenceIdeal.main_arg0) = m ((c.tc : Thread Cert.FupKernelIdeal.nD Cert.FupKernelIdeal.τ).loc Cert.FupKernelIdeal.main_arg0)
      ∧ m' ((c.tc : Thread Cert.FupReferenceIdeal.nD Cert.FupReferenceIdeal.τ).loc Cert.FupReferenceIdeal.main_arg1) = m ((c.tc : Thread Cert.FupKernelIdeal.nD Cert.FupKernelIdeal.τ).loc Cert.FupKernelIdeal.main_arg1)) →
    ∃ (v0 : (c : Dev Cert.FupKernelIdeal.nD) → Buf (Elt Ideal) ((c.tc : Thread Cert.FupKernelIdeal.nD Cert.FupKernelIdeal.τ).loc Cert.FupKernelIdeal.main_v0)),
      θ_run (Cert.FupKernelIdeal.defs (F := Ideal)) (onTc (τ := Cert.FupKernelIdeal.τ) (Cert.FupKernelIdeal.main (F := Ideal))) ⟨m, fun _ => 0, g⟩ (fun r => ∀ c : Dev Cert.FupKernelIdeal.nD,
          r.2.mem ((c.tc : Thread Cert.FupKernelIdeal.nD Cert.FupKernelIdeal.τ).loc Cert.FupKernelIdeal.main_v0) = v0 c
          ∧ r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
          ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v4) = v0 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1))

def preserves_FdownKernel_FdownKernelIdeal : Prop :=
  True

def algebraic_FdownKernelIdeal_FdownReferenceIdeal [hFdownKernelIdeal : Cert.FdownKernelIdeal.Facts] [hFdownReferenceIdeal : Cert.FdownReferenceIdeal.Facts] : Prop :=
  ∀ (m : (ℓ : Loc Cert.FdownKernelIdeal.nD Cert.FdownKernelIdeal.τ Cert.FdownKernelIdeal.sig) → Buf (Elt Ideal) ℓ) (g : Dev Cert.FdownKernelIdeal.nD → PrngReg)
    (m' : (ℓ : Loc Cert.FdownReferenceIdeal.nD Cert.FdownReferenceIdeal.τ Cert.FdownReferenceIdeal.sig) → Buf (Elt Ideal) ℓ) (g' : Dev Cert.FdownReferenceIdeal.nD → PrngReg), Pre_FdownKernelIdeal m →
    (∀ c : Dev Cert.FdownKernelIdeal.nD,
      m' ((c.tc : Thread Cert.FdownReferenceIdeal.nD Cert.FdownReferenceIdeal.τ).loc Cert.FdownReferenceIdeal.main_arg0) = m ((c.tc : Thread Cert.FdownKernelIdeal.nD Cert.FdownKernelIdeal.τ).loc Cert.FdownKernelIdeal.main_arg0)
      ∧ m' ((c.tc : Thread Cert.FdownReferenceIdeal.nD Cert.FdownReferenceIdeal.τ).loc Cert.FdownReferenceIdeal.main_arg1) = m ((c.tc : Thread Cert.FdownKernelIdeal.nD Cert.FdownKernelIdeal.τ).loc Cert.FdownKernelIdeal.main_arg1)
      ∧ m' ((c.tc : Thread Cert.FdownReferenceIdeal.nD Cert.FdownReferenceIdeal.τ).loc Cert.FdownReferenceIdeal.main_arg2) = m ((c.tc : Thread Cert.FdownKernelIdeal.nD Cert.FdownKernelIdeal.τ).loc Cert.FdownKernelIdeal.main_arg2)) →
    ∃ (v0 : (c : Dev Cert.FdownKernelIdeal.nD) → Buf (Elt Ideal) ((c.tc : Thread Cert.FdownKernelIdeal.nD Cert.FdownKernelIdeal.τ).loc Cert.FdownKernelIdeal.main_v0)),
      θ_run (Cert.FdownKernelIdeal.defs (F := Ideal)) (onTc (τ := Cert.FdownKernelIdeal.τ) (Cert.FdownKernelIdeal.main (F := Ideal))) ⟨m, fun _ => 0, g⟩ (fun r => ∀ c : Dev Cert.FdownKernelIdeal.nD,
          r.2.mem ((c.tc : Thread Cert.FdownKernelIdeal.nD Cert.FdownKernelIdeal.τ).loc Cert.FdownKernelIdeal.main_v0) = v0 c
          ∧ r.2.mem ((c.tc : Thread Cert.FdownKernelIdeal.nD Cert.FdownKernelIdeal.τ).loc Cert.FdownKernelIdeal.main_arg0) = m ((c.tc : Thread Cert.FdownKernelIdeal.nD Cert.FdownKernelIdeal.τ).loc Cert.FdownKernelIdeal.main_arg0)
          ∧ r.2.mem ((c.tc : Thread Cert.FdownKernelIdeal.nD Cert.FdownKernelIdeal.τ).loc Cert.FdownKernelIdeal.main_arg1) = m ((c.tc : Thread Cert.FdownKernelIdeal.nD Cert.FdownKernelIdeal.τ).loc Cert.FdownKernelIdeal.main_arg1)
          ∧ r.2.mem ((c.tc : Thread Cert.FdownKernelIdeal.nD Cert.FdownKernelIdeal.τ).loc Cert.FdownKernelIdeal.main_arg2) = m ((c.tc : Thread Cert.FdownKernelIdeal.nD Cert.FdownKernelIdeal.τ).loc Cert.FdownKernelIdeal.main_arg2))
      ∧ θ_run (Cert.FdownReferenceIdeal.defs (F := Ideal)) (onTc (τ := Cert.FdownReferenceIdeal.τ) (Cert.FdownReferenceIdeal.main (F := Ideal))) ⟨m', fun _ => 0, g'⟩ (fun r => ∀ c : Dev Cert.FdownReferenceIdeal.nD,
          r.2.mem ((c.tc : Thread Cert.FdownReferenceIdeal.nD Cert.FdownReferenceIdeal.τ).loc Cert.FdownReferenceIdeal.main_v3) = v0 c
          ∧ r.2.mem ((c.tc : Thread Cert.FdownReferenceIdeal.nD Cert.FdownReferenceIdeal.τ).loc Cert.FdownReferenceIdeal.main_arg0) = m' ((c.tc : Thread Cert.FdownReferenceIdeal.nD Cert.FdownReferenceIdeal.τ).loc Cert.FdownReferenceIdeal.main_arg0)
          ∧ r.2.mem ((c.tc : Thread Cert.FdownReferenceIdeal.nD Cert.FdownReferenceIdeal.τ).loc Cert.FdownReferenceIdeal.main_arg1) = m' ((c.tc : Thread Cert.FdownReferenceIdeal.nD Cert.FdownReferenceIdeal.τ).loc Cert.FdownReferenceIdeal.main_arg1)
          ∧ r.2.mem ((c.tc : Thread Cert.FdownReferenceIdeal.nD Cert.FdownReferenceIdeal.τ).loc Cert.FdownReferenceIdeal.main_arg2) = m' ((c.tc : Thread Cert.FdownReferenceIdeal.nD Cert.FdownReferenceIdeal.τ).loc Cert.FdownReferenceIdeal.main_arg2))

def preserves_FoutKernel_FoutKernelIdeal : Prop :=
  True

def algebraic_FoutKernelIdeal_FoutReferenceIdeal [hFoutKernelIdeal : Cert.FoutKernelIdeal.Facts] [hFoutReferenceIdeal : Cert.FoutReferenceIdeal.Facts] : Prop :=
  ∀ (m : (ℓ : Loc Cert.FoutKernelIdeal.nD Cert.FoutKernelIdeal.τ Cert.FoutKernelIdeal.sig) → Buf (Elt Ideal) ℓ) (g : Dev Cert.FoutKernelIdeal.nD → PrngReg)
    (m' : (ℓ : Loc Cert.FoutReferenceIdeal.nD Cert.FoutReferenceIdeal.τ Cert.FoutReferenceIdeal.sig) → Buf (Elt Ideal) ℓ) (g' : Dev Cert.FoutReferenceIdeal.nD → PrngReg), Pre_FoutKernelIdeal m →
    (∀ c : Dev Cert.FoutKernelIdeal.nD,
      m' ((c.tc : Thread Cert.FoutReferenceIdeal.nD Cert.FoutReferenceIdeal.τ).loc Cert.FoutReferenceIdeal.main_arg0) = m ((c.tc : Thread Cert.FoutKernelIdeal.nD Cert.FoutKernelIdeal.τ).loc Cert.FoutKernelIdeal.main_arg0)
      ∧ m' ((c.tc : Thread Cert.FoutReferenceIdeal.nD Cert.FoutReferenceIdeal.τ).loc Cert.FoutReferenceIdeal.main_arg1) = m ((c.tc : Thread Cert.FoutKernelIdeal.nD Cert.FoutKernelIdeal.τ).loc Cert.FoutKernelIdeal.main_arg1)
      ∧ m' ((c.tc : Thread Cert.FoutReferenceIdeal.nD Cert.FoutReferenceIdeal.τ).loc Cert.FoutReferenceIdeal.main_arg2) = m ((c.tc : Thread Cert.FoutKernelIdeal.nD Cert.FoutKernelIdeal.τ).loc Cert.FoutKernelIdeal.main_arg2)) →
    ∃ (v0 : (c : Dev Cert.FoutKernelIdeal.nD) → Buf (Elt Ideal) ((c.tc : Thread Cert.FoutKernelIdeal.nD Cert.FoutKernelIdeal.τ).loc Cert.FoutKernelIdeal.main_v0)),
      θ_run (Cert.FoutKernelIdeal.defs (F := Ideal)) (onTc (τ := Cert.FoutKernelIdeal.τ) (Cert.FoutKernelIdeal.main (F := Ideal))) ⟨m, fun _ => 0, g⟩ (fun r => ∀ c : Dev Cert.FoutKernelIdeal.nD,
          r.2.mem ((c.tc : Thread Cert.FoutKernelIdeal.nD Cert.FoutKernelIdeal.τ).loc Cert.FoutKernelIdeal.main_v0) = v0 c
          ∧ r.2.mem ((c.tc : Thread Cert.FoutKernelIdeal.nD Cert.FoutKernelIdeal.τ).loc Cert.FoutKernelIdeal.main_arg0) = m ((c.tc : Thread Cert.FoutKernelIdeal.nD Cert.FoutKernelIdeal.τ).loc Cert.FoutKernelIdeal.main_arg0)
          ∧ r.2.mem ((c.tc : Thread Cert.FoutKernelIdeal.nD Cert.FoutKernelIdeal.τ).loc Cert.FoutKernelIdeal.main_arg1) = m ((c.tc : Thread Cert.FoutKernelIdeal.nD Cert.FoutKernelIdeal.τ).loc Cert.FoutKernelIdeal.main_arg1)
          ∧ r.2.mem ((c.tc : Thread Cert.FoutKernelIdeal.nD Cert.FoutKernelIdeal.τ).loc Cert.FoutKernelIdeal.main_arg2) = m ((c.tc : Thread Cert.FoutKernelIdeal.nD Cert.FoutKernelIdeal.τ).loc Cert.FoutKernelIdeal.main_arg2))
      ∧ θ_run (Cert.FoutReferenceIdeal.defs (F := Ideal)) (onTc (τ := Cert.FoutReferenceIdeal.τ) (Cert.FoutReferenceIdeal.main (F := Ideal))) ⟨m', fun _ => 0, g'⟩ (fun r => ∀ c : Dev Cert.FoutReferenceIdeal.nD,
          r.2.mem ((c.tc : Thread Cert.FoutReferenceIdeal.nD Cert.FoutReferenceIdeal.τ).loc Cert.FoutReferenceIdeal.main_v3) = v0 c
          ∧ r.2.mem ((c.tc : Thread Cert.FoutReferenceIdeal.nD Cert.FoutReferenceIdeal.τ).loc Cert.FoutReferenceIdeal.main_arg0) = m' ((c.tc : Thread Cert.FoutReferenceIdeal.nD Cert.FoutReferenceIdeal.τ).loc Cert.FoutReferenceIdeal.main_arg0)
          ∧ r.2.mem ((c.tc : Thread Cert.FoutReferenceIdeal.nD Cert.FoutReferenceIdeal.τ).loc Cert.FoutReferenceIdeal.main_arg1) = m' ((c.tc : Thread Cert.FoutReferenceIdeal.nD Cert.FoutReferenceIdeal.τ).loc Cert.FoutReferenceIdeal.main_arg1)
          ∧ r.2.mem ((c.tc : Thread Cert.FoutReferenceIdeal.nD Cert.FoutReferenceIdeal.τ).loc Cert.FoutReferenceIdeal.main_arg2) = m' ((c.tc : Thread Cert.FoutReferenceIdeal.nD Cert.FoutReferenceIdeal.τ).loc Cert.FoutReferenceIdeal.main_arg2))

def preserves_FinaKernel_FinaKernelIdeal : Prop :=
  True

def algebraic_FinaKernelIdeal_FinaReferenceIdeal [hFinaKernelIdeal : Cert.FinaKernelIdeal.Facts] [hFinaReferenceIdeal : Cert.FinaReferenceIdeal.Facts] : Prop :=
  ∀ (m : (ℓ : Loc Cert.FinaKernelIdeal.nD Cert.FinaKernelIdeal.τ Cert.FinaKernelIdeal.sig) → Buf (Elt Ideal) ℓ) (g : Dev Cert.FinaKernelIdeal.nD → PrngReg)
    (m' : (ℓ : Loc Cert.FinaReferenceIdeal.nD Cert.FinaReferenceIdeal.τ Cert.FinaReferenceIdeal.sig) → Buf (Elt Ideal) ℓ) (g' : Dev Cert.FinaReferenceIdeal.nD → PrngReg), Pre_FinaKernelIdeal m →
    (∀ c : Dev Cert.FinaKernelIdeal.nD,
      m' ((c.tc : Thread Cert.FinaReferenceIdeal.nD Cert.FinaReferenceIdeal.τ).loc Cert.FinaReferenceIdeal.main_arg0) = m ((c.tc : Thread Cert.FinaKernelIdeal.nD Cert.FinaKernelIdeal.τ).loc Cert.FinaKernelIdeal.main_arg0)
      ∧ m' ((c.tc : Thread Cert.FinaReferenceIdeal.nD Cert.FinaReferenceIdeal.τ).loc Cert.FinaReferenceIdeal.main_arg1) = m ((c.tc : Thread Cert.FinaKernelIdeal.nD Cert.FinaKernelIdeal.τ).loc Cert.FinaKernelIdeal.main_arg1)) →
    ∃ (v0 : (c : Dev Cert.FinaKernelIdeal.nD) → Buf (Elt Ideal) ((c.tc : Thread Cert.FinaKernelIdeal.nD Cert.FinaKernelIdeal.τ).loc Cert.FinaKernelIdeal.main_v0)),
      θ_run (Cert.FinaKernelIdeal.defs (F := Ideal)) (onTc (τ := Cert.FinaKernelIdeal.τ) (Cert.FinaKernelIdeal.main (F := Ideal))) ⟨m, fun _ => 0, g⟩ (fun r => ∀ c : Dev Cert.FinaKernelIdeal.nD,
          r.2.mem ((c.tc : Thread Cert.FinaKernelIdeal.nD Cert.FinaKernelIdeal.τ).loc Cert.FinaKernelIdeal.main_v0) = v0 c
          ∧ r.2.mem ((c.tc : Thread Cert.FinaKernelIdeal.nD Cert.FinaKernelIdeal.τ).loc Cert.FinaKernelIdeal.main_arg0) = m ((c.tc : Thread Cert.FinaKernelIdeal.nD Cert.FinaKernelIdeal.τ).loc Cert.FinaKernelIdeal.main_arg0)
          ∧ r.2.mem ((c.tc : Thread Cert.FinaKernelIdeal.nD Cert.FinaKernelIdeal.τ).loc Cert.FinaKernelIdeal.main_arg1) = m ((c.tc : Thread Cert.FinaKernelIdeal.nD Cert.FinaKernelIdeal.τ).loc Cert.FinaKernelIdeal.main_arg1))
      ∧ θ_run (Cert.FinaReferenceIdeal.defs (F := Ideal)) (onTc (τ := Cert.FinaReferenceIdeal.τ) (Cert.FinaReferenceIdeal.main (F := Ideal))) ⟨m', fun _ => 0, g'⟩ (fun r => ∀ c : Dev Cert.FinaReferenceIdeal.nD,
          r.2.mem ((c.tc : Thread Cert.FinaReferenceIdeal.nD Cert.FinaReferenceIdeal.τ).loc Cert.FinaReferenceIdeal.main_v3) = v0 c
          ∧ r.2.mem ((c.tc : Thread Cert.FinaReferenceIdeal.nD Cert.FinaReferenceIdeal.τ).loc Cert.FinaReferenceIdeal.main_arg0) = m' ((c.tc : Thread Cert.FinaReferenceIdeal.nD Cert.FinaReferenceIdeal.τ).loc Cert.FinaReferenceIdeal.main_arg0)
          ∧ r.2.mem ((c.tc : Thread Cert.FinaReferenceIdeal.nD Cert.FinaReferenceIdeal.τ).loc Cert.FinaReferenceIdeal.main_arg1) = m' ((c.tc : Thread Cert.FinaReferenceIdeal.nD Cert.FinaReferenceIdeal.τ).loc Cert.FinaReferenceIdeal.main_arg1))

def preserves_DhbKernel_DhbKernelIdeal : Prop :=
  True

def algebraic_DhbKernelIdeal_DhbReferenceIdeal [hDhbKernelIdeal : Cert.DhbKernelIdeal.Facts] [hDhbReferenceIdeal : Cert.DhbReferenceIdeal.Facts] : Prop :=
  ∀ (m : (ℓ : Loc Cert.DhbKernelIdeal.nD Cert.DhbKernelIdeal.τ Cert.DhbKernelIdeal.sig) → Buf (Elt Ideal) ℓ) (g : Dev Cert.DhbKernelIdeal.nD → PrngReg)
    (m' : (ℓ : Loc Cert.DhbReferenceIdeal.nD Cert.DhbReferenceIdeal.τ Cert.DhbReferenceIdeal.sig) → Buf (Elt Ideal) ℓ) (g' : Dev Cert.DhbReferenceIdeal.nD → PrngReg), Pre_DhbKernelIdeal m →
    (∀ c : Dev Cert.DhbKernelIdeal.nD,
      m' ((c.tc : Thread Cert.DhbReferenceIdeal.nD Cert.DhbReferenceIdeal.τ).loc Cert.DhbReferenceIdeal.main_arg0) = m ((c.tc : Thread Cert.DhbKernelIdeal.nD Cert.DhbKernelIdeal.τ).loc Cert.DhbKernelIdeal.main_arg0)
      ∧ m' ((c.tc : Thread Cert.DhbReferenceIdeal.nD Cert.DhbReferenceIdeal.τ).loc Cert.DhbReferenceIdeal.main_arg1) = m ((c.tc : Thread Cert.DhbKernelIdeal.nD Cert.DhbKernelIdeal.τ).loc Cert.DhbKernelIdeal.main_arg1)) →
    ∃ (v0 : (c : Dev Cert.DhbKernelIdeal.nD) → Buf (Elt Ideal) ((c.tc : Thread Cert.DhbKernelIdeal.nD Cert.DhbKernelIdeal.τ).loc Cert.DhbKernelIdeal.main_v0)),
      θ_run (Cert.DhbKernelIdeal.defs (F := Ideal)) (onTc (τ := Cert.DhbKernelIdeal.τ) (Cert.DhbKernelIdeal.main (F := Ideal))) ⟨m, fun _ => 0, g⟩ (fun r => ∀ c : Dev Cert.DhbKernelIdeal.nD,
          r.2.mem ((c.tc : Thread Cert.DhbKernelIdeal.nD Cert.DhbKernelIdeal.τ).loc Cert.DhbKernelIdeal.main_v0) = v0 c
          ∧ r.2.mem ((c.tc : Thread Cert.DhbKernelIdeal.nD Cert.DhbKernelIdeal.τ).loc Cert.DhbKernelIdeal.main_arg0) = m ((c.tc : Thread Cert.DhbKernelIdeal.nD Cert.DhbKernelIdeal.τ).loc Cert.DhbKernelIdeal.main_arg0)
          ∧ r.2.mem ((c.tc : Thread Cert.DhbKernelIdeal.nD Cert.DhbKernelIdeal.τ).loc Cert.DhbKernelIdeal.main_arg1) = m ((c.tc : Thread Cert.DhbKernelIdeal.nD Cert.DhbKernelIdeal.τ).loc Cert.DhbKernelIdeal.main_arg1))
      ∧ θ_run (Cert.DhbReferenceIdeal.defs (F := Ideal)) (onTc (τ := Cert.DhbReferenceIdeal.τ) (Cert.DhbReferenceIdeal.main (F := Ideal))) ⟨m', fun _ => 0, g'⟩ (fun r => ∀ c : Dev Cert.DhbReferenceIdeal.nD,
          r.2.mem ((c.tc : Thread Cert.DhbReferenceIdeal.nD Cert.DhbReferenceIdeal.τ).loc Cert.DhbReferenceIdeal.main_v5) = v0 c
          ∧ r.2.mem ((c.tc : Thread Cert.DhbReferenceIdeal.nD Cert.DhbReferenceIdeal.τ).loc Cert.DhbReferenceIdeal.main_arg0) = m' ((c.tc : Thread Cert.DhbReferenceIdeal.nD Cert.DhbReferenceIdeal.τ).loc Cert.DhbReferenceIdeal.main_arg0)
          ∧ r.2.mem ((c.tc : Thread Cert.DhbReferenceIdeal.nD Cert.DhbReferenceIdeal.τ).loc Cert.DhbReferenceIdeal.main_arg1) = m' ((c.tc : Thread Cert.DhbReferenceIdeal.nD Cert.DhbReferenceIdeal.τ).loc Cert.DhbReferenceIdeal.main_arg1))

def preserves_DwinbKernel_DwinbKernelIdeal : Prop :=
  True

def algebraic_DwinbKernelIdeal_DwinbReferenceIdeal [hDwinbKernelIdeal : Cert.DwinbKernelIdeal.Facts] [hDwinbReferenceIdeal : Cert.DwinbReferenceIdeal.Facts] : Prop :=
  ∀ (m : (ℓ : Loc Cert.DwinbKernelIdeal.nD Cert.DwinbKernelIdeal.τ Cert.DwinbKernelIdeal.sig) → Buf (Elt Ideal) ℓ) (g : Dev Cert.DwinbKernelIdeal.nD → PrngReg)
    (m' : (ℓ : Loc Cert.DwinbReferenceIdeal.nD Cert.DwinbReferenceIdeal.τ Cert.DwinbReferenceIdeal.sig) → Buf (Elt Ideal) ℓ) (g' : Dev Cert.DwinbReferenceIdeal.nD → PrngReg), Pre_DwinbKernelIdeal m →
    (∀ c : Dev Cert.DwinbKernelIdeal.nD,
      m' ((c.tc : Thread Cert.DwinbReferenceIdeal.nD Cert.DwinbReferenceIdeal.τ).loc Cert.DwinbReferenceIdeal.main_arg0) = m ((c.tc : Thread Cert.DwinbKernelIdeal.nD Cert.DwinbKernelIdeal.τ).loc Cert.DwinbKernelIdeal.main_arg0)
      ∧ m' ((c.tc : Thread Cert.DwinbReferenceIdeal.nD Cert.DwinbReferenceIdeal.τ).loc Cert.DwinbReferenceIdeal.main_arg1) = m ((c.tc : Thread Cert.DwinbKernelIdeal.nD Cert.DwinbKernelIdeal.τ).loc Cert.DwinbKernelIdeal.main_arg1)) →
    ∃ (v0 : (c : Dev Cert.DwinbKernelIdeal.nD) → Buf (Elt Ideal) ((c.tc : Thread Cert.DwinbKernelIdeal.nD Cert.DwinbKernelIdeal.τ).loc Cert.DwinbKernelIdeal.main_v0)),
      θ_run (Cert.DwinbKernelIdeal.defs (F := Ideal)) (onTc (τ := Cert.DwinbKernelIdeal.τ) (Cert.DwinbKernelIdeal.main (F := Ideal))) ⟨m, fun _ => 0, g⟩ (fun r => ∀ c : Dev Cert.DwinbKernelIdeal.nD,
          r.2.mem ((c.tc : Thread Cert.DwinbKernelIdeal.nD Cert.DwinbKernelIdeal.τ).loc Cert.DwinbKernelIdeal.main_v0) = v0 c
          ∧ r.2.mem ((c.tc : Thread Cert.DwinbKernelIdeal.nD Cert.DwinbKernelIdeal.τ).loc Cert.DwinbKernelIdeal.main_arg0) = m ((c.tc : Thread Cert.DwinbKernelIdeal.nD Cert.DwinbKernelIdeal.τ).loc Cert.DwinbKernelIdeal.main_arg0)
          ∧ r.2.mem ((c.tc : Thread Cert.DwinbKernelIdeal.nD Cert.DwinbKernelIdeal.τ).loc Cert.DwinbKernelIdeal.main_arg1) = m ((c.tc : Thread Cert.DwinbKernelIdeal.nD Cert.DwinbKernelIdeal.τ).loc Cert.DwinbKernelIdeal.main_arg1))
      ∧ θ_run (Cert.DwinbReferenceIdeal.defs (F := Ideal)) (onTc (τ := Cert.DwinbReferenceIdeal.τ) (Cert.DwinbReferenceIdeal.main (F := Ideal))) ⟨m', fun _ => 0, g'⟩ (fun r => ∀ c : Dev Cert.DwinbReferenceIdeal.nD,
          r.2.mem ((c.tc : Thread Cert.DwinbReferenceIdeal.nD Cert.DwinbReferenceIdeal.τ).loc Cert.DwinbReferenceIdeal.main_v6) = v0 c
          ∧ r.2.mem ((c.tc : Thread Cert.DwinbReferenceIdeal.nD Cert.DwinbReferenceIdeal.τ).loc Cert.DwinbReferenceIdeal.main_arg0) = m' ((c.tc : Thread Cert.DwinbReferenceIdeal.nD Cert.DwinbReferenceIdeal.τ).loc Cert.DwinbReferenceIdeal.main_arg0)
          ∧ r.2.mem ((c.tc : Thread Cert.DwinbReferenceIdeal.nD Cert.DwinbReferenceIdeal.τ).loc Cert.DwinbReferenceIdeal.main_arg1) = m' ((c.tc : Thread Cert.DwinbReferenceIdeal.nD Cert.DwinbReferenceIdeal.τ).loc Cert.DwinbReferenceIdeal.main_arg1))

def preserves_MhafKernel_MhafKernelIdeal : Prop :=
  IdealRules.named_const.Statement Cert.MhafKernelIdeal.κ "mask" .f32 0xF149F2CA#32 ⊥

def algebraic_MhafKernelIdeal_MhafReferenceIdeal_pre_finite_scores [hMhafKernelIdeal : Cert.MhafKernelIdeal.Facts] [hMhafReferenceIdeal : Cert.MhafReferenceIdeal.Facts] [hPre_finite_scores : Cert.Pre_finite_scores.Facts] : Prop :=
  ∀ (m : (ℓ : Loc Cert.MhafKernelIdeal.nD Cert.MhafKernelIdeal.τ Cert.MhafKernelIdeal.sig) → Buf (Elt Ideal) ℓ) (g : Dev Cert.MhafKernelIdeal.nD → PrngReg)
    (m' : (ℓ : Loc Cert.MhafReferenceIdeal.nD Cert.MhafReferenceIdeal.τ Cert.MhafReferenceIdeal.sig) → Buf (Elt Ideal) ℓ) (g' : Dev Cert.MhafReferenceIdeal.nD → PrngReg), Pre_MhafKernelIdeal_finite_scores m →
    (∀ c : Dev Cert.MhafKernelIdeal.nD,
      m' ((c.tc : Thread Cert.MhafReferenceIdeal.nD Cert.MhafReferenceIdeal.τ).loc Cert.MhafReferenceIdeal.main_arg0) = m ((c.tc : Thread Cert.MhafKernelIdeal.nD Cert.MhafKernelIdeal.τ).loc Cert.MhafKernelIdeal.main_arg0)
      ∧ m' ((c.tc : Thread Cert.MhafReferenceIdeal.nD Cert.MhafReferenceIdeal.τ).loc Cert.MhafReferenceIdeal.main_arg1) = m ((c.tc : Thread Cert.MhafKernelIdeal.nD Cert.MhafKernelIdeal.τ).loc Cert.MhafKernelIdeal.main_arg1)
      ∧ m' ((c.tc : Thread Cert.MhafReferenceIdeal.nD Cert.MhafReferenceIdeal.τ).loc Cert.MhafReferenceIdeal.main_arg2) = m ((c.tc : Thread Cert.MhafKernelIdeal.nD Cert.MhafKernelIdeal.τ).loc Cert.MhafKernelIdeal.main_arg2)) →
    ∃ (v0 : (c : Dev Cert.MhafKernelIdeal.nD) → Buf (Elt Ideal) ((c.tc : Thread Cert.MhafKernelIdeal.nD Cert.MhafKernelIdeal.τ).loc Cert.MhafKernelIdeal.main_v0_0)) (v1 : (c : Dev Cert.MhafKernelIdeal.nD) → Buf (Elt Ideal) ((c.tc : Thread Cert.MhafKernelIdeal.nD Cert.MhafKernelIdeal.τ).loc Cert.MhafKernelIdeal.main_v0_1)),
      θ_run (Cert.MhafKernelIdeal.defs (F := Ideal)) (onTc (τ := Cert.MhafKernelIdeal.τ) (Cert.MhafKernelIdeal.main (F := Ideal))) ⟨m, fun _ => 0, g⟩ (fun r => ∀ c : Dev Cert.MhafKernelIdeal.nD,
          r.2.mem ((c.tc : Thread Cert.MhafKernelIdeal.nD Cert.MhafKernelIdeal.τ).loc Cert.MhafKernelIdeal.main_v0_0) = v0 c
          ∧ r.2.mem ((c.tc : Thread Cert.MhafKernelIdeal.nD Cert.MhafKernelIdeal.τ).loc Cert.MhafKernelIdeal.main_v0_1) = v1 c
          ∧ r.2.mem ((c.tc : Thread Cert.MhafKernelIdeal.nD Cert.MhafKernelIdeal.τ).loc Cert.MhafKernelIdeal.main_arg0) = m ((c.tc : Thread Cert.MhafKernelIdeal.nD Cert.MhafKernelIdeal.τ).loc Cert.MhafKernelIdeal.main_arg0)
          ∧ r.2.mem ((c.tc : Thread Cert.MhafKernelIdeal.nD Cert.MhafKernelIdeal.τ).loc Cert.MhafKernelIdeal.main_arg1) = m ((c.tc : Thread Cert.MhafKernelIdeal.nD Cert.MhafKernelIdeal.τ).loc Cert.MhafKernelIdeal.main_arg1)
          ∧ r.2.mem ((c.tc : Thread Cert.MhafKernelIdeal.nD Cert.MhafKernelIdeal.τ).loc Cert.MhafKernelIdeal.main_arg2) = m ((c.tc : Thread Cert.MhafKernelIdeal.nD Cert.MhafKernelIdeal.τ).loc Cert.MhafKernelIdeal.main_arg2))
      ∧ θ_run (Cert.MhafReferenceIdeal.defs (F := Ideal)) (onTc (τ := Cert.MhafReferenceIdeal.τ) (Cert.MhafReferenceIdeal.main (F := Ideal))) ⟨m', fun _ => 0, g'⟩ (fun r => ∀ c : Dev Cert.MhafReferenceIdeal.nD,
          r.2.mem ((c.tc : Thread Cert.MhafReferenceIdeal.nD Cert.MhafReferenceIdeal.τ).loc Cert.MhafReferenceIdeal.main_v37) = v0 c
          ∧ r.2.mem ((c.tc : Thread Cert.MhafReferenceIdeal.nD Cert.MhafReferenceIdeal.τ).loc Cert.MhafReferenceIdeal.main_v36) = v1 c
          ∧ r.2.mem ((c.tc : Thread Cert.MhafReferenceIdeal.nD Cert.MhafReferenceIdeal.τ).loc Cert.MhafReferenceIdeal.main_arg0) = m' ((c.tc : Thread Cert.MhafReferenceIdeal.nD Cert.MhafReferenceIdeal.τ).loc Cert.MhafReferenceIdeal.main_arg0)
          ∧ r.2.mem ((c.tc : Thread Cert.MhafReferenceIdeal.nD Cert.MhafReferenceIdeal.τ).loc Cert.MhafReferenceIdeal.main_arg1) = m' ((c.tc : Thread Cert.MhafReferenceIdeal.nD Cert.MhafReferenceIdeal.τ).loc Cert.MhafReferenceIdeal.main_arg1)
          ∧ r.2.mem ((c.tc : Thread Cert.MhafReferenceIdeal.nD Cert.MhafReferenceIdeal.τ).loc Cert.MhafReferenceIdeal.main_arg2) = m' ((c.tc : Thread Cert.MhafReferenceIdeal.nD Cert.MhafReferenceIdeal.τ).loc Cert.MhafReferenceIdeal.main_arg2))

def preserves_SguKernel_SguKernelIdeal : Prop :=
  IdealRules.named_const.Statement Cert.SguKernelIdeal.κ "half_root" .f32 0x3F3504F3#32 (((Real.sqrt 2)⁻¹ : ℝ) : EReal)
  ∧ IdealRules.named_const.Statement Cert.SguKernelIdeal.κ "normal" .f32 0x3ECC422A#32 (((Real.sqrt (2 * Real.pi))⁻¹ : ℝ) : EReal)

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)) →
    ∃ (v0 : (c : Dev Cert.SguKernelIdeal.nD) → Buf (Elt Ideal) ((c.tc : Thread Cert.SguKernelIdeal.nD Cert.SguKernelIdeal.τ).loc Cert.SguKernelIdeal.main_v2_0)) (v1 : (c : Dev Cert.SguKernelIdeal.nD) → Buf (Elt Ideal) ((c.tc : Thread Cert.SguKernelIdeal.nD Cert.SguKernelIdeal.τ).loc Cert.SguKernelIdeal.main_v2_1)) (v2 : (c : Dev Cert.SguKernelIdeal.nD) → Buf (Elt Ideal) ((c.tc : Thread Cert.SguKernelIdeal.nD Cert.SguKernelIdeal.τ).loc Cert.SguKernelIdeal.main_v2_2)) (v3 : (c : Dev Cert.SguKernelIdeal.nD) → Buf (Elt Ideal) ((c.tc : Thread Cert.SguKernelIdeal.nD Cert.SguKernelIdeal.τ).loc Cert.SguKernelIdeal.main_v2_3)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v2_0) = v0 c
          ∧ r.2.mem ((c.tc : Thread Cert.SguKernelIdeal.nD Cert.SguKernelIdeal.τ).loc Cert.SguKernelIdeal.main_v2_1) = v1 c
          ∧ r.2.mem ((c.tc : Thread Cert.SguKernelIdeal.nD Cert.SguKernelIdeal.τ).loc Cert.SguKernelIdeal.main_v2_2) = v2 c
          ∧ r.2.mem ((c.tc : Thread Cert.SguKernelIdeal.nD Cert.SguKernelIdeal.τ).loc Cert.SguKernelIdeal.main_v2_3) = v3 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v129) = v0 c
          ∧ r.2.mem ((c.tc : Thread Cert.SguReferenceIdeal.nD Cert.SguReferenceIdeal.τ).loc Cert.SguReferenceIdeal.main_v103) = v1 c
          ∧ r.2.mem ((c.tc : Thread Cert.SguReferenceIdeal.nD Cert.SguReferenceIdeal.τ).loc Cert.SguReferenceIdeal.main_v130) = v2 c
          ∧ r.2.mem ((c.tc : Thread Cert.SguReferenceIdeal.nD Cert.SguReferenceIdeal.τ).loc Cert.SguReferenceIdeal.main_v131) = v3 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5))

def preserves_FsguKernel_FsguKernelIdeal : Prop :=
  IdealRules.named_const.Statement Cert.FsguKernelIdeal.κ "half_root" .f32 0x3F3504F3#32 (((Real.sqrt 2)⁻¹ : ℝ) : EReal)

def algebraic_FsguKernelIdeal_FsguReferenceIdeal [hFsguKernelIdeal : Cert.FsguKernelIdeal.Facts] [hFsguReferenceIdeal : Cert.FsguReferenceIdeal.Facts] : Prop :=
  ∀ (m : (ℓ : Loc Cert.FsguKernelIdeal.nD Cert.FsguKernelIdeal.τ Cert.FsguKernelIdeal.sig) → Buf (Elt Ideal) ℓ) (g : Dev Cert.FsguKernelIdeal.nD → PrngReg)
    (m' : (ℓ : Loc Cert.FsguReferenceIdeal.nD Cert.FsguReferenceIdeal.τ Cert.FsguReferenceIdeal.sig) → Buf (Elt Ideal) ℓ) (g' : Dev Cert.FsguReferenceIdeal.nD → PrngReg), Pre_FsguKernelIdeal m →
    (∀ c : Dev Cert.FsguKernelIdeal.nD,
      m' ((c.tc : Thread Cert.FsguReferenceIdeal.nD Cert.FsguReferenceIdeal.τ).loc Cert.FsguReferenceIdeal.main_arg0) = m ((c.tc : Thread Cert.FsguKernelIdeal.nD Cert.FsguKernelIdeal.τ).loc Cert.FsguKernelIdeal.main_arg0)
      ∧ m' ((c.tc : Thread Cert.FsguReferenceIdeal.nD Cert.FsguReferenceIdeal.τ).loc Cert.FsguReferenceIdeal.main_arg1) = m ((c.tc : Thread Cert.FsguKernelIdeal.nD Cert.FsguKernelIdeal.τ).loc Cert.FsguKernelIdeal.main_arg1)
      ∧ m' ((c.tc : Thread Cert.FsguReferenceIdeal.nD Cert.FsguReferenceIdeal.τ).loc Cert.FsguReferenceIdeal.main_arg2) = m ((c.tc : Thread Cert.FsguKernelIdeal.nD Cert.FsguKernelIdeal.τ).loc Cert.FsguKernelIdeal.main_arg2)
      ∧ m' ((c.tc : Thread Cert.FsguReferenceIdeal.nD Cert.FsguReferenceIdeal.τ).loc Cert.FsguReferenceIdeal.main_arg3) = m ((c.tc : Thread Cert.FsguKernelIdeal.nD Cert.FsguKernelIdeal.τ).loc Cert.FsguKernelIdeal.main_arg3)) →
    ∃ (v0 : (c : Dev Cert.FsguKernelIdeal.nD) → Buf (Elt Ideal) ((c.tc : Thread Cert.FsguKernelIdeal.nD Cert.FsguKernelIdeal.τ).loc Cert.FsguKernelIdeal.main_v2)),
      θ_run (Cert.FsguKernelIdeal.defs (F := Ideal)) (onTc (τ := Cert.FsguKernelIdeal.τ) (Cert.FsguKernelIdeal.main (F := Ideal))) ⟨m, fun _ => 0, g⟩ (fun r => ∀ c : Dev Cert.FsguKernelIdeal.nD,
          r.2.mem ((c.tc : Thread Cert.FsguKernelIdeal.nD Cert.FsguKernelIdeal.τ).loc Cert.FsguKernelIdeal.main_v2) = v0 c
          ∧ r.2.mem ((c.tc : Thread Cert.FsguKernelIdeal.nD Cert.FsguKernelIdeal.τ).loc Cert.FsguKernelIdeal.main_arg0) = m ((c.tc : Thread Cert.FsguKernelIdeal.nD Cert.FsguKernelIdeal.τ).loc Cert.FsguKernelIdeal.main_arg0)
          ∧ r.2.mem ((c.tc : Thread Cert.FsguKernelIdeal.nD Cert.FsguKernelIdeal.τ).loc Cert.FsguKernelIdeal.main_arg1) = m ((c.tc : Thread Cert.FsguKernelIdeal.nD Cert.FsguKernelIdeal.τ).loc Cert.FsguKernelIdeal.main_arg1)
          ∧ r.2.mem ((c.tc : Thread Cert.FsguKernelIdeal.nD Cert.FsguKernelIdeal.τ).loc Cert.FsguKernelIdeal.main_arg2) = m ((c.tc : Thread Cert.FsguKernelIdeal.nD Cert.FsguKernelIdeal.τ).loc Cert.FsguKernelIdeal.main_arg2)
          ∧ r.2.mem ((c.tc : Thread Cert.FsguKernelIdeal.nD Cert.FsguKernelIdeal.τ).loc Cert.FsguKernelIdeal.main_arg3) = m ((c.tc : Thread Cert.FsguKernelIdeal.nD Cert.FsguKernelIdeal.τ).loc Cert.FsguKernelIdeal.main_arg3))
      ∧ θ_run (Cert.FsguReferenceIdeal.defs (F := Ideal)) (onTc (τ := Cert.FsguReferenceIdeal.τ) (Cert.FsguReferenceIdeal.main (F := Ideal))) ⟨m', fun _ => 0, g'⟩ (fun r => ∀ c : Dev Cert.FsguReferenceIdeal.nD,
          r.2.mem ((c.tc : Thread Cert.FsguReferenceIdeal.nD Cert.FsguReferenceIdeal.τ).loc Cert.FsguReferenceIdeal.main_v48) = v0 c
          ∧ r.2.mem ((c.tc : Thread Cert.FsguReferenceIdeal.nD Cert.FsguReferenceIdeal.τ).loc Cert.FsguReferenceIdeal.main_arg0) = m' ((c.tc : Thread Cert.FsguReferenceIdeal.nD Cert.FsguReferenceIdeal.τ).loc Cert.FsguReferenceIdeal.main_arg0)
          ∧ r.2.mem ((c.tc : Thread Cert.FsguReferenceIdeal.nD Cert.FsguReferenceIdeal.τ).loc Cert.FsguReferenceIdeal.main_arg1) = m' ((c.tc : Thread Cert.FsguReferenceIdeal.nD Cert.FsguReferenceIdeal.τ).loc Cert.FsguReferenceIdeal.main_arg1)
          ∧ r.2.mem ((c.tc : Thread Cert.FsguReferenceIdeal.nD Cert.FsguReferenceIdeal.τ).loc Cert.FsguReferenceIdeal.main_arg2) = m' ((c.tc : Thread Cert.FsguReferenceIdeal.nD Cert.FsguReferenceIdeal.τ).loc Cert.FsguReferenceIdeal.main_arg2)
          ∧ r.2.mem ((c.tc : Thread Cert.FsguReferenceIdeal.nD Cert.FsguReferenceIdeal.τ).loc Cert.FsguReferenceIdeal.main_arg3) = m' ((c.tc : Thread Cert.FsguReferenceIdeal.nD Cert.FsguReferenceIdeal.τ).loc Cert.FsguReferenceIdeal.main_arg3))

def preserves_FmemKernel_FmemKernelIdeal : Prop :=
  True

def algebraic_FmemKernelIdeal_FmemReferenceIdeal [hFmemKernelIdeal : Cert.FmemKernelIdeal.Facts] [hFmemReferenceIdeal : Cert.FmemReferenceIdeal.Facts] : Prop :=
  ∀ (m : (ℓ : Loc Cert.FmemKernelIdeal.nD Cert.FmemKernelIdeal.τ Cert.FmemKernelIdeal.sig) → Buf (Elt Ideal) ℓ) (g : Dev Cert.FmemKernelIdeal.nD → PrngReg)
    (m' : (ℓ : Loc Cert.FmemReferenceIdeal.nD Cert.FmemReferenceIdeal.τ Cert.FmemReferenceIdeal.sig) → Buf (Elt Ideal) ℓ) (g' : Dev Cert.FmemReferenceIdeal.nD → PrngReg), Pre_FmemKernelIdeal m →
    (∀ c : Dev Cert.FmemKernelIdeal.nD,
      m' ((c.tc : Thread Cert.FmemReferenceIdeal.nD Cert.FmemReferenceIdeal.τ).loc Cert.FmemReferenceIdeal.main_arg0) = m ((c.tc : Thread Cert.FmemKernelIdeal.nD Cert.FmemKernelIdeal.τ).loc Cert.FmemKernelIdeal.main_arg0)
      ∧ m' ((c.tc : Thread Cert.FmemReferenceIdeal.nD Cert.FmemReferenceIdeal.τ).loc Cert.FmemReferenceIdeal.main_arg1) = m ((c.tc : Thread Cert.FmemKernelIdeal.nD Cert.FmemKernelIdeal.τ).loc Cert.FmemKernelIdeal.main_arg1)
      ∧ m' ((c.tc : Thread Cert.FmemReferenceIdeal.nD Cert.FmemReferenceIdeal.τ).loc Cert.FmemReferenceIdeal.main_arg2) = m ((c.tc : Thread Cert.FmemKernelIdeal.nD Cert.FmemKernelIdeal.τ).loc Cert.FmemKernelIdeal.main_arg2)) →
    ∃ (v0 : (c : Dev Cert.FmemKernelIdeal.nD) → Buf (Elt Ideal) ((c.tc : Thread Cert.FmemKernelIdeal.nD Cert.FmemKernelIdeal.τ).loc Cert.FmemKernelIdeal.main_v0)),
      θ_run (Cert.FmemKernelIdeal.defs (F := Ideal)) (onTc (τ := Cert.FmemKernelIdeal.τ) (Cert.FmemKernelIdeal.main (F := Ideal))) ⟨m, fun _ => 0, g⟩ (fun r => ∀ c : Dev Cert.FmemKernelIdeal.nD,
          r.2.mem ((c.tc : Thread Cert.FmemKernelIdeal.nD Cert.FmemKernelIdeal.τ).loc Cert.FmemKernelIdeal.main_v0) = v0 c
          ∧ r.2.mem ((c.tc : Thread Cert.FmemKernelIdeal.nD Cert.FmemKernelIdeal.τ).loc Cert.FmemKernelIdeal.main_arg0) = m ((c.tc : Thread Cert.FmemKernelIdeal.nD Cert.FmemKernelIdeal.τ).loc Cert.FmemKernelIdeal.main_arg0)
          ∧ r.2.mem ((c.tc : Thread Cert.FmemKernelIdeal.nD Cert.FmemKernelIdeal.τ).loc Cert.FmemKernelIdeal.main_arg1) = m ((c.tc : Thread Cert.FmemKernelIdeal.nD Cert.FmemKernelIdeal.τ).loc Cert.FmemKernelIdeal.main_arg1)
          ∧ r.2.mem ((c.tc : Thread Cert.FmemKernelIdeal.nD Cert.FmemKernelIdeal.τ).loc Cert.FmemKernelIdeal.main_arg2) = m ((c.tc : Thread Cert.FmemKernelIdeal.nD Cert.FmemKernelIdeal.τ).loc Cert.FmemKernelIdeal.main_arg2))
      ∧ θ_run (Cert.FmemReferenceIdeal.defs (F := Ideal)) (onTc (τ := Cert.FmemReferenceIdeal.τ) (Cert.FmemReferenceIdeal.main (F := Ideal))) ⟨m', fun _ => 0, g'⟩ (fun r => ∀ c : Dev Cert.FmemReferenceIdeal.nD,
          r.2.mem ((c.tc : Thread Cert.FmemReferenceIdeal.nD Cert.FmemReferenceIdeal.τ).loc Cert.FmemReferenceIdeal.main_v26) = v0 c
          ∧ r.2.mem ((c.tc : Thread Cert.FmemReferenceIdeal.nD Cert.FmemReferenceIdeal.τ).loc Cert.FmemReferenceIdeal.main_arg0) = m' ((c.tc : Thread Cert.FmemReferenceIdeal.nD Cert.FmemReferenceIdeal.τ).loc Cert.FmemReferenceIdeal.main_arg0)
          ∧ r.2.mem ((c.tc : Thread Cert.FmemReferenceIdeal.nD Cert.FmemReferenceIdeal.τ).loc Cert.FmemReferenceIdeal.main_arg1) = m' ((c.tc : Thread Cert.FmemReferenceIdeal.nD Cert.FmemReferenceIdeal.τ).loc Cert.FmemReferenceIdeal.main_arg1)
          ∧ r.2.mem ((c.tc : Thread Cert.FmemReferenceIdeal.nD Cert.FmemReferenceIdeal.τ).loc Cert.FmemReferenceIdeal.main_arg2) = m' ((c.tc : Thread Cert.FmemReferenceIdeal.nD Cert.FmemReferenceIdeal.τ).loc Cert.FmemReferenceIdeal.main_arg2))

def preserves_FconvKernel_FconvKernelIdeal : Prop :=
  True

def algebraic_FconvKernelIdeal_FconvReferenceIdeal [hFconvKernelIdeal : Cert.FconvKernelIdeal.Facts] [hFconvReferenceIdeal : Cert.FconvReferenceIdeal.Facts] : Prop :=
  ∀ (m : (ℓ : Loc Cert.FconvKernelIdeal.nD Cert.FconvKernelIdeal.τ Cert.FconvKernelIdeal.sig) → Buf (Elt Ideal) ℓ) (g : Dev Cert.FconvKernelIdeal.nD → PrngReg)
    (m' : (ℓ : Loc Cert.FconvReferenceIdeal.nD Cert.FconvReferenceIdeal.τ Cert.FconvReferenceIdeal.sig) → Buf (Elt Ideal) ℓ) (g' : Dev Cert.FconvReferenceIdeal.nD → PrngReg), Pre_FconvKernelIdeal m →
    (∀ c : Dev Cert.FconvKernelIdeal.nD,
      m' ((c.tc : Thread Cert.FconvReferenceIdeal.nD Cert.FconvReferenceIdeal.τ).loc Cert.FconvReferenceIdeal.main_arg0) = m ((c.tc : Thread Cert.FconvKernelIdeal.nD Cert.FconvKernelIdeal.τ).loc Cert.FconvKernelIdeal.main_arg0)
      ∧ m' ((c.tc : Thread Cert.FconvReferenceIdeal.nD Cert.FconvReferenceIdeal.τ).loc Cert.FconvReferenceIdeal.main_arg1) = m ((c.tc : Thread Cert.FconvKernelIdeal.nD Cert.FconvKernelIdeal.τ).loc Cert.FconvKernelIdeal.main_arg1)
      ∧ m' ((c.tc : Thread Cert.FconvReferenceIdeal.nD Cert.FconvReferenceIdeal.τ).loc Cert.FconvReferenceIdeal.main_arg2) = m ((c.tc : Thread Cert.FconvKernelIdeal.nD Cert.FconvKernelIdeal.τ).loc Cert.FconvKernelIdeal.main_arg2)) →
    ∃ (v0 : (c : Dev Cert.FconvKernelIdeal.nD) → Buf (Elt Ideal) ((c.tc : Thread Cert.FconvKernelIdeal.nD Cert.FconvKernelIdeal.τ).loc Cert.FconvKernelIdeal.main_v1)),
      θ_run (Cert.FconvKernelIdeal.defs (F := Ideal)) (onTc (τ := Cert.FconvKernelIdeal.τ) (Cert.FconvKernelIdeal.main (F := Ideal))) ⟨m, fun _ => 0, g⟩ (fun r => ∀ c : Dev Cert.FconvKernelIdeal.nD,
          r.2.mem ((c.tc : Thread Cert.FconvKernelIdeal.nD Cert.FconvKernelIdeal.τ).loc Cert.FconvKernelIdeal.main_v1) = v0 c
          ∧ r.2.mem ((c.tc : Thread Cert.FconvKernelIdeal.nD Cert.FconvKernelIdeal.τ).loc Cert.FconvKernelIdeal.main_arg0) = m ((c.tc : Thread Cert.FconvKernelIdeal.nD Cert.FconvKernelIdeal.τ).loc Cert.FconvKernelIdeal.main_arg0)
          ∧ r.2.mem ((c.tc : Thread Cert.FconvKernelIdeal.nD Cert.FconvKernelIdeal.τ).loc Cert.FconvKernelIdeal.main_arg1) = m ((c.tc : Thread Cert.FconvKernelIdeal.nD Cert.FconvKernelIdeal.τ).loc Cert.FconvKernelIdeal.main_arg1)
          ∧ r.2.mem ((c.tc : Thread Cert.FconvKernelIdeal.nD Cert.FconvKernelIdeal.τ).loc Cert.FconvKernelIdeal.main_arg2) = m ((c.tc : Thread Cert.FconvKernelIdeal.nD Cert.FconvKernelIdeal.τ).loc Cert.FconvKernelIdeal.main_arg2))
      ∧ θ_run (Cert.FconvReferenceIdeal.defs (F := Ideal)) (onTc (τ := Cert.FconvReferenceIdeal.τ) (Cert.FconvReferenceIdeal.main (F := Ideal))) ⟨m', fun _ => 0, g'⟩ (fun r => ∀ c : Dev Cert.FconvReferenceIdeal.nD,
          r.2.mem ((c.tc : Thread Cert.FconvReferenceIdeal.nD Cert.FconvReferenceIdeal.τ).loc Cert.FconvReferenceIdeal.main_v38) = v0 c
          ∧ r.2.mem ((c.tc : Thread Cert.FconvReferenceIdeal.nD Cert.FconvReferenceIdeal.τ).loc Cert.FconvReferenceIdeal.main_arg0) = m' ((c.tc : Thread Cert.FconvReferenceIdeal.nD Cert.FconvReferenceIdeal.τ).loc Cert.FconvReferenceIdeal.main_arg0)
          ∧ r.2.mem ((c.tc : Thread Cert.FconvReferenceIdeal.nD Cert.FconvReferenceIdeal.τ).loc Cert.FconvReferenceIdeal.main_arg1) = m' ((c.tc : Thread Cert.FconvReferenceIdeal.nD Cert.FconvReferenceIdeal.τ).loc Cert.FconvReferenceIdeal.main_arg1)
          ∧ r.2.mem ((c.tc : Thread Cert.FconvReferenceIdeal.nD Cert.FconvReferenceIdeal.τ).loc Cert.FconvReferenceIdeal.main_arg2) = m' ((c.tc : Thread Cert.FconvReferenceIdeal.nD Cert.FconvReferenceIdeal.τ).loc Cert.FconvReferenceIdeal.main_arg2))

def preserves_GateKernel_GateKernelIdeal : Prop :=
  True

def algebraic_GateKernelIdeal_GateReferenceIdeal_pre_finite_gate [hGateKernelIdeal : Cert.GateKernelIdeal.Facts] [hGateReferenceIdeal : Cert.GateReferenceIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gate m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v1_0)) (v1 : (c : Dev Cert.GateKernelIdeal.nD) → Buf (Elt Ideal) ((c.tc : Thread Cert.GateKernelIdeal.nD Cert.GateKernelIdeal.τ).loc Cert.GateKernelIdeal.main_v1_1)) (v2 : (c : Dev Cert.GateKernelIdeal.nD) → Buf (Elt Ideal) ((c.tc : Thread Cert.GateKernelIdeal.nD Cert.GateKernelIdeal.τ).loc Cert.GateKernelIdeal.main_v1_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v1_0) = v0 c
          ∧ r.2.mem ((c.tc : Thread Cert.GateKernelIdeal.nD Cert.GateKernelIdeal.τ).loc Cert.GateKernelIdeal.main_v1_1) = v1 c
          ∧ r.2.mem ((c.tc : Thread Cert.GateKernelIdeal.nD Cert.GateKernelIdeal.τ).loc Cert.GateKernelIdeal.main_v1_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v70) = v0 c
          ∧ r.2.mem ((c.tc : Thread Cert.GateReferenceIdeal.nD Cert.GateReferenceIdeal.τ).loc Cert.GateReferenceIdeal.main_v71) = v1 c
          ∧ r.2.mem ((c.tc : Thread Cert.GateReferenceIdeal.nD Cert.GateReferenceIdeal.τ).loc Cert.GateReferenceIdeal.main_v72) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_FinbKernel_FinbKernelIdeal : Prop :=
  True

def algebraic_FinbKernelIdeal_FinbReferenceIdeal [hFinbKernelIdeal : Cert.FinbKernelIdeal.Facts] [hFinbReferenceIdeal : Cert.FinbReferenceIdeal.Facts] : Prop :=
  ∀ (m : (ℓ : Loc Cert.FinbKernelIdeal.nD Cert.FinbKernelIdeal.τ Cert.FinbKernelIdeal.sig) → Buf (Elt Ideal) ℓ) (g : Dev Cert.FinbKernelIdeal.nD → PrngReg)
    (m' : (ℓ : Loc Cert.FinbReferenceIdeal.nD Cert.FinbReferenceIdeal.τ Cert.FinbReferenceIdeal.sig) → Buf (Elt Ideal) ℓ) (g' : Dev Cert.FinbReferenceIdeal.nD → PrngReg), Pre_FinbKernelIdeal m →
    (∀ c : Dev Cert.FinbKernelIdeal.nD,
      m' ((c.tc : Thread Cert.FinbReferenceIdeal.nD Cert.FinbReferenceIdeal.τ).loc Cert.FinbReferenceIdeal.main_arg0) = m ((c.tc : Thread Cert.FinbKernelIdeal.nD Cert.FinbKernelIdeal.τ).loc Cert.FinbKernelIdeal.main_arg0)
      ∧ m' ((c.tc : Thread Cert.FinbReferenceIdeal.nD Cert.FinbReferenceIdeal.τ).loc Cert.FinbReferenceIdeal.main_arg1) = m ((c.tc : Thread Cert.FinbKernelIdeal.nD Cert.FinbKernelIdeal.τ).loc Cert.FinbKernelIdeal.main_arg1)) →
    ∃ (v0 : (c : Dev Cert.FinbKernelIdeal.nD) → Buf (Elt Ideal) ((c.tc : Thread Cert.FinbKernelIdeal.nD Cert.FinbKernelIdeal.τ).loc Cert.FinbKernelIdeal.main_v0)),
      θ_run (Cert.FinbKernelIdeal.defs (F := Ideal)) (onTc (τ := Cert.FinbKernelIdeal.τ) (Cert.FinbKernelIdeal.main (F := Ideal))) ⟨m, fun _ => 0, g⟩ (fun r => ∀ c : Dev Cert.FinbKernelIdeal.nD,
          r.2.mem ((c.tc : Thread Cert.FinbKernelIdeal.nD Cert.FinbKernelIdeal.τ).loc Cert.FinbKernelIdeal.main_v0) = v0 c
          ∧ r.2.mem ((c.tc : Thread Cert.FinbKernelIdeal.nD Cert.FinbKernelIdeal.τ).loc Cert.FinbKernelIdeal.main_arg0) = m ((c.tc : Thread Cert.FinbKernelIdeal.nD Cert.FinbKernelIdeal.τ).loc Cert.FinbKernelIdeal.main_arg0)
          ∧ r.2.mem ((c.tc : Thread Cert.FinbKernelIdeal.nD Cert.FinbKernelIdeal.τ).loc Cert.FinbKernelIdeal.main_arg1) = m ((c.tc : Thread Cert.FinbKernelIdeal.nD Cert.FinbKernelIdeal.τ).loc Cert.FinbKernelIdeal.main_arg1))
      ∧ θ_run (Cert.FinbReferenceIdeal.defs (F := Ideal)) (onTc (τ := Cert.FinbReferenceIdeal.τ) (Cert.FinbReferenceIdeal.main (F := Ideal))) ⟨m', fun _ => 0, g'⟩ (fun r => ∀ c : Dev Cert.FinbReferenceIdeal.nD,
          r.2.mem ((c.tc : Thread Cert.FinbReferenceIdeal.nD Cert.FinbReferenceIdeal.τ).loc Cert.FinbReferenceIdeal.main_v3) = v0 c
          ∧ r.2.mem ((c.tc : Thread Cert.FinbReferenceIdeal.nD Cert.FinbReferenceIdeal.τ).loc Cert.FinbReferenceIdeal.main_arg0) = m' ((c.tc : Thread Cert.FinbReferenceIdeal.nD Cert.FinbReferenceIdeal.τ).loc Cert.FinbReferenceIdeal.main_arg0)
          ∧ r.2.mem ((c.tc : Thread Cert.FinbReferenceIdeal.nD Cert.FinbReferenceIdeal.τ).loc Cert.FinbReferenceIdeal.main_arg1) = m' ((c.tc : Thread Cert.FinbReferenceIdeal.nD Cert.FinbReferenceIdeal.τ).loc Cert.FinbReferenceIdeal.main_arg1))

def Claim : Prop :=
  ∃ (hMlaKernel : Cert.MlaKernel.Facts) (hMlaKernelIdeal : Cert.MlaKernelIdeal.Facts) (hMlaReferenceIdeal : Cert.MlaReferenceIdeal.Facts) (hMemKernel : Cert.MemKernel.Facts) (hMemKernelIdeal : Cert.MemKernelIdeal.Facts) (hMemReferenceIdeal : Cert.MemReferenceIdeal.Facts) (hDactKernel : Cert.DactKernel.Facts) (hDactKernelIdeal : Cert.DactKernelIdeal.Facts) (hDactReferenceIdeal : Cert.DactReferenceIdeal.Facts) (hDwdownKernel : Cert.DwdownKernel.Facts) (hDwdownKernelIdeal : Cert.DwdownKernelIdeal.Facts) (hDwdownReferenceIdeal : Cert.DwdownReferenceIdeal.Facts) (hDwupKernel : Cert.DwupKernel.Facts) (hDwupKernelIdeal : Cert.DwupKernelIdeal.Facts) (hDwupReferenceIdeal : Cert.DwupReferenceIdeal.Facts) (hDhKernel : Cert.DhKernel.Facts) (hDhKernelIdeal : Cert.DhKernelIdeal.Facts) (hDhReferenceIdeal : Cert.DhReferenceIdeal.Facts) (hConvinKernel : Cert.ConvinKernel.Facts) (hConvinKernelIdeal : Cert.ConvinKernelIdeal.Facts) (hConvinReferenceIdeal : Cert.ConvinReferenceIdeal.Facts) (hNormKernel : Cert.NormKernel.Facts) (hNormKernelIdeal : Cert.NormKernelIdeal.Facts) (hNormReferenceIdeal : Cert.NormReferenceIdeal.Facts) (hMixKernel : Cert.MixKernel.Facts) (hMixKernelIdeal : Cert.MixKernelIdeal.Facts) (hMixReferenceIdeal : Cert.MixReferenceIdeal.Facts) (hDwoutKernel : Cert.DwoutKernel.Facts) (hDwoutKernelIdeal : Cert.DwoutKernelIdeal.Facts) (hDwoutReferenceIdeal : Cert.DwoutReferenceIdeal.Facts) (hDhaKernel : Cert.DhaKernel.Facts) (hDhaKernelIdeal : Cert.DhaKernelIdeal.Facts) (hDhaReferenceIdeal : Cert.DhaReferenceIdeal.Facts) (hDwinaKernel : Cert.DwinaKernel.Facts) (hDwinaKernelIdeal : Cert.DwinaKernelIdeal.Facts) (hDwinaReferenceIdeal : Cert.DwinaReferenceIdeal.Facts) (hFupKernel : Cert.FupKernel.Facts) (hFupKernelIdeal : Cert.FupKernelIdeal.Facts) (hFupReferenceIdeal : Cert.FupReferenceIdeal.Facts) (hFdownKernel : Cert.FdownKernel.Facts) (hFdownKernelIdeal : Cert.FdownKernelIdeal.Facts) (hFdownReferenceIdeal : Cert.FdownReferenceIdeal.Facts) (hFoutKernel : Cert.FoutKernel.Facts) (hFoutKernelIdeal : Cert.FoutKernelIdeal.Facts) (hFoutReferenceIdeal : Cert.FoutReferenceIdeal.Facts) (hFinaKernel : Cert.FinaKernel.Facts) (hFinaKernelIdeal : Cert.FinaKernelIdeal.Facts) (hFinaReferenceIdeal : Cert.FinaReferenceIdeal.Facts) (hDhbKernel : Cert.DhbKernel.Facts) (hDhbKernelIdeal : Cert.DhbKernelIdeal.Facts) (hDhbReferenceIdeal : Cert.DhbReferenceIdeal.Facts) (hDwinbKernel : Cert.DwinbKernel.Facts) (hDwinbKernelIdeal : Cert.DwinbKernelIdeal.Facts) (hDwinbReferenceIdeal : Cert.DwinbReferenceIdeal.Facts) (hMhafKernel : Cert.MhafKernel.Facts) (hMhafKernelIdeal : Cert.MhafKernelIdeal.Facts) (hMhafReferenceIdeal : Cert.MhafReferenceIdeal.Facts) (hSguKernel : Cert.SguKernel.Facts) (hSguKernelIdeal : Cert.SguKernelIdeal.Facts) (hSguReferenceIdeal : Cert.SguReferenceIdeal.Facts) (hFsguKernel : Cert.FsguKernel.Facts) (hFsguKernelIdeal : Cert.FsguKernelIdeal.Facts) (hFsguReferenceIdeal : Cert.FsguReferenceIdeal.Facts) (hFmemKernel : Cert.FmemKernel.Facts) (hFmemKernelIdeal : Cert.FmemKernelIdeal.Facts) (hFmemReferenceIdeal : Cert.FmemReferenceIdeal.Facts) (hFconvKernel : Cert.FconvKernel.Facts) (hFconvKernelIdeal : Cert.FconvKernelIdeal.Facts) (hFconvReferenceIdeal : Cert.FconvReferenceIdeal.Facts) (hGateKernel : Cert.GateKernel.Facts) (hGateKernelIdeal : Cert.GateKernelIdeal.Facts) (hGateReferenceIdeal : Cert.GateReferenceIdeal.Facts) (hFinbKernel : Cert.FinbKernel.Facts) (hFinbKernelIdeal : Cert.FinbKernelIdeal.Facts) (hFinbReferenceIdeal : Cert.FinbReferenceIdeal.Facts) (hPre_finite_attention : Cert.Pre_finite_attention.Facts) (hPre_finite_memory : Cert.Pre_finite_memory.Facts) (hPre_finite_scores : Cert.Pre_finite_scores.Facts) (hPre_finite_gate : Cert.Pre_finite_gate.Facts),
    quiescent_MlaKernel (hMlaKernel := hMlaKernel)
    ∧ quiescent_MlaKernelIdeal (hMlaKernelIdeal := hMlaKernelIdeal)
    ∧ quiescent_MlaKernelIdeal_pre_finite_attention (hMlaKernelIdeal := hMlaKernelIdeal) (hPre_finite_attention := hPre_finite_attention)
    ∧ quiescent_MlaReferenceIdeal (hMlaReferenceIdeal := hMlaReferenceIdeal)
    ∧ quiescent_MlaReferenceIdeal_pre_finite_attention (hMlaReferenceIdeal := hMlaReferenceIdeal) (hPre_finite_attention := hPre_finite_attention)
    ∧ quiescent_MemKernel (hMemKernel := hMemKernel)
    ∧ quiescent_MemKernelIdeal (hMemKernelIdeal := hMemKernelIdeal)
    ∧ quiescent_MemKernelIdeal_pre_finite_memory (hMemKernelIdeal := hMemKernelIdeal) (hPre_finite_memory := hPre_finite_memory)
    ∧ quiescent_MemReferenceIdeal (hMemReferenceIdeal := hMemReferenceIdeal)
    ∧ quiescent_MemReferenceIdeal_pre_finite_memory (hMemReferenceIdeal := hMemReferenceIdeal) (hPre_finite_memory := hPre_finite_memory)
    ∧ quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_DwdownKernel (hDwdownKernel := hDwdownKernel)
    ∧ quiescent_DwdownKernelIdeal (hDwdownKernelIdeal := hDwdownKernelIdeal)
    ∧ quiescent_DwdownReferenceIdeal (hDwdownReferenceIdeal := hDwdownReferenceIdeal)
    ∧ quiescent_DwupKernel (hDwupKernel := hDwupKernel)
    ∧ quiescent_DwupKernelIdeal (hDwupKernelIdeal := hDwupKernelIdeal)
    ∧ quiescent_DwupReferenceIdeal (hDwupReferenceIdeal := hDwupReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_ConvinKernel (hConvinKernel := hConvinKernel)
    ∧ quiescent_ConvinKernelIdeal (hConvinKernelIdeal := hConvinKernelIdeal)
    ∧ quiescent_ConvinReferenceIdeal (hConvinReferenceIdeal := hConvinReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DwoutKernel (hDwoutKernel := hDwoutKernel)
    ∧ quiescent_DwoutKernelIdeal (hDwoutKernelIdeal := hDwoutKernelIdeal)
    ∧ quiescent_DwoutReferenceIdeal (hDwoutReferenceIdeal := hDwoutReferenceIdeal)
    ∧ quiescent_DhaKernel (hDhaKernel := hDhaKernel)
    ∧ quiescent_DhaKernelIdeal (hDhaKernelIdeal := hDhaKernelIdeal)
    ∧ quiescent_DhaReferenceIdeal (hDhaReferenceIdeal := hDhaReferenceIdeal)
    ∧ quiescent_DwinaKernel (hDwinaKernel := hDwinaKernel)
    ∧ quiescent_DwinaKernelIdeal (hDwinaKernelIdeal := hDwinaKernelIdeal)
    ∧ quiescent_DwinaReferenceIdeal (hDwinaReferenceIdeal := hDwinaReferenceIdeal)
    ∧ quiescent_FupKernel (hFupKernel := hFupKernel)
    ∧ quiescent_FupKernelIdeal (hFupKernelIdeal := hFupKernelIdeal)
    ∧ quiescent_FupReferenceIdeal (hFupReferenceIdeal := hFupReferenceIdeal)
    ∧ quiescent_FdownKernel (hFdownKernel := hFdownKernel)
    ∧ quiescent_FdownKernelIdeal (hFdownKernelIdeal := hFdownKernelIdeal)
    ∧ quiescent_FdownReferenceIdeal (hFdownReferenceIdeal := hFdownReferenceIdeal)
    ∧ quiescent_FoutKernel (hFoutKernel := hFoutKernel)
    ∧ quiescent_FoutKernelIdeal (hFoutKernelIdeal := hFoutKernelIdeal)
    ∧ quiescent_FoutReferenceIdeal (hFoutReferenceIdeal := hFoutReferenceIdeal)
    ∧ quiescent_FinaKernel (hFinaKernel := hFinaKernel)
    ∧ quiescent_FinaKernelIdeal (hFinaKernelIdeal := hFinaKernelIdeal)
    ∧ quiescent_FinaReferenceIdeal (hFinaReferenceIdeal := hFinaReferenceIdeal)
    ∧ quiescent_DhbKernel (hDhbKernel := hDhbKernel)
    ∧ quiescent_DhbKernelIdeal (hDhbKernelIdeal := hDhbKernelIdeal)
    ∧ quiescent_DhbReferenceIdeal (hDhbReferenceIdeal := hDhbReferenceIdeal)
    ∧ quiescent_DwinbKernel (hDwinbKernel := hDwinbKernel)
    ∧ quiescent_DwinbKernelIdeal (hDwinbKernelIdeal := hDwinbKernelIdeal)
    ∧ quiescent_DwinbReferenceIdeal (hDwinbReferenceIdeal := hDwinbReferenceIdeal)
    ∧ quiescent_MhafKernel (hMhafKernel := hMhafKernel)
    ∧ quiescent_MhafKernelIdeal (hMhafKernelIdeal := hMhafKernelIdeal)
    ∧ quiescent_MhafKernelIdeal_pre_finite_scores (hMhafKernelIdeal := hMhafKernelIdeal) (hPre_finite_scores := hPre_finite_scores)
    ∧ quiescent_MhafReferenceIdeal (hMhafReferenceIdeal := hMhafReferenceIdeal)
    ∧ quiescent_MhafReferenceIdeal_pre_finite_scores (hMhafReferenceIdeal := hMhafReferenceIdeal) (hPre_finite_scores := hPre_finite_scores)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_FsguKernel (hFsguKernel := hFsguKernel)
    ∧ quiescent_FsguKernelIdeal (hFsguKernelIdeal := hFsguKernelIdeal)
    ∧ quiescent_FsguReferenceIdeal (hFsguReferenceIdeal := hFsguReferenceIdeal)
    ∧ quiescent_FmemKernel (hFmemKernel := hFmemKernel)
    ∧ quiescent_FmemKernelIdeal (hFmemKernelIdeal := hFmemKernelIdeal)
    ∧ quiescent_FmemReferenceIdeal (hFmemReferenceIdeal := hFmemReferenceIdeal)
    ∧ quiescent_FconvKernel (hFconvKernel := hFconvKernel)
    ∧ quiescent_FconvKernelIdeal (hFconvKernelIdeal := hFconvKernelIdeal)
    ∧ quiescent_FconvReferenceIdeal (hFconvReferenceIdeal := hFconvReferenceIdeal)
    ∧ quiescent_GateKernel (hGateKernel := hGateKernel)
    ∧ quiescent_GateKernelIdeal (hGateKernelIdeal := hGateKernelIdeal)
    ∧ quiescent_GateKernelIdeal_pre_finite_gate (hGateKernelIdeal := hGateKernelIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_FinbKernel (hFinbKernel := hFinbKernel)
    ∧ quiescent_FinbKernelIdeal (hFinbKernelIdeal := hFinbKernelIdeal)
    ∧ quiescent_FinbReferenceIdeal (hFinbReferenceIdeal := hFinbReferenceIdeal)
    ∧ preserves_MlaKernel_MlaKernelIdeal
    ∧ algebraic_MlaKernelIdeal_MlaReferenceIdeal_pre_finite_attention (hMlaKernelIdeal := hMlaKernelIdeal) (hMlaReferenceIdeal := hMlaReferenceIdeal) (hPre_finite_attention := hPre_finite_attention)
    ∧ preserves_MemKernel_MemKernelIdeal
    ∧ algebraic_MemKernelIdeal_MemReferenceIdeal_pre_finite_memory (hMemKernelIdeal := hMemKernelIdeal) (hMemReferenceIdeal := hMemReferenceIdeal) (hPre_finite_memory := hPre_finite_memory)
    ∧ preserves_DactKernel_DactKernelIdeal
    ∧ algebraic_DactKernelIdeal_DactReferenceIdeal (hDactKernelIdeal := hDactKernelIdeal) (hDactReferenceIdeal := hDactReferenceIdeal)
    ∧ preserves_DwdownKernel_DwdownKernelIdeal
    ∧ algebraic_DwdownKernelIdeal_DwdownReferenceIdeal (hDwdownKernelIdeal := hDwdownKernelIdeal) (hDwdownReferenceIdeal := hDwdownReferenceIdeal)
    ∧ preserves_DwupKernel_DwupKernelIdeal
    ∧ algebraic_DwupKernelIdeal_DwupReferenceIdeal (hDwupKernelIdeal := hDwupKernelIdeal) (hDwupReferenceIdeal := hDwupReferenceIdeal)
    ∧ preserves_DhKernel_DhKernelIdeal
    ∧ algebraic_DhKernelIdeal_DhReferenceIdeal (hDhKernelIdeal := hDhKernelIdeal) (hDhReferenceIdeal := hDhReferenceIdeal)
    ∧ preserves_ConvinKernel_ConvinKernelIdeal
    ∧ algebraic_ConvinKernelIdeal_ConvinReferenceIdeal (hConvinKernelIdeal := hConvinKernelIdeal) (hConvinReferenceIdeal := hConvinReferenceIdeal)
    ∧ preserves_NormKernel_NormKernelIdeal
    ∧ algebraic_NormKernelIdeal_NormReferenceIdeal (hNormKernelIdeal := hNormKernelIdeal) (hNormReferenceIdeal := hNormReferenceIdeal)
    ∧ preserves_MixKernel_MixKernelIdeal
    ∧ algebraic_MixKernelIdeal_MixReferenceIdeal (hMixKernelIdeal := hMixKernelIdeal) (hMixReferenceIdeal := hMixReferenceIdeal)
    ∧ preserves_DwoutKernel_DwoutKernelIdeal
    ∧ algebraic_DwoutKernelIdeal_DwoutReferenceIdeal (hDwoutKernelIdeal := hDwoutKernelIdeal) (hDwoutReferenceIdeal := hDwoutReferenceIdeal)
    ∧ preserves_DhaKernel_DhaKernelIdeal
    ∧ algebraic_DhaKernelIdeal_DhaReferenceIdeal (hDhaKernelIdeal := hDhaKernelIdeal) (hDhaReferenceIdeal := hDhaReferenceIdeal)
    ∧ preserves_DwinaKernel_DwinaKernelIdeal
    ∧ algebraic_DwinaKernelIdeal_DwinaReferenceIdeal (hDwinaKernelIdeal := hDwinaKernelIdeal) (hDwinaReferenceIdeal := hDwinaReferenceIdeal)
    ∧ preserves_FupKernel_FupKernelIdeal
    ∧ algebraic_FupKernelIdeal_FupReferenceIdeal (hFupKernelIdeal := hFupKernelIdeal) (hFupReferenceIdeal := hFupReferenceIdeal)
    ∧ preserves_FdownKernel_FdownKernelIdeal
    ∧ algebraic_FdownKernelIdeal_FdownReferenceIdeal (hFdownKernelIdeal := hFdownKernelIdeal) (hFdownReferenceIdeal := hFdownReferenceIdeal)
    ∧ preserves_FoutKernel_FoutKernelIdeal
    ∧ algebraic_FoutKernelIdeal_FoutReferenceIdeal (hFoutKernelIdeal := hFoutKernelIdeal) (hFoutReferenceIdeal := hFoutReferenceIdeal)
    ∧ preserves_FinaKernel_FinaKernelIdeal
    ∧ algebraic_FinaKernelIdeal_FinaReferenceIdeal (hFinaKernelIdeal := hFinaKernelIdeal) (hFinaReferenceIdeal := hFinaReferenceIdeal)
    ∧ preserves_DhbKernel_DhbKernelIdeal
    ∧ algebraic_DhbKernelIdeal_DhbReferenceIdeal (hDhbKernelIdeal := hDhbKernelIdeal) (hDhbReferenceIdeal := hDhbReferenceIdeal)
    ∧ preserves_DwinbKernel_DwinbKernelIdeal
    ∧ algebraic_DwinbKernelIdeal_DwinbReferenceIdeal (hDwinbKernelIdeal := hDwinbKernelIdeal) (hDwinbReferenceIdeal := hDwinbReferenceIdeal)
    ∧ preserves_MhafKernel_MhafKernelIdeal
    ∧ algebraic_MhafKernelIdeal_MhafReferenceIdeal_pre_finite_scores (hMhafKernelIdeal := hMhafKernelIdeal) (hMhafReferenceIdeal := hMhafReferenceIdeal) (hPre_finite_scores := hPre_finite_scores)
    ∧ preserves_SguKernel_SguKernelIdeal
    ∧ algebraic_SguKernelIdeal_SguReferenceIdeal (hSguKernelIdeal := hSguKernelIdeal) (hSguReferenceIdeal := hSguReferenceIdeal)
    ∧ preserves_FsguKernel_FsguKernelIdeal
    ∧ algebraic_FsguKernelIdeal_FsguReferenceIdeal (hFsguKernelIdeal := hFsguKernelIdeal) (hFsguReferenceIdeal := hFsguReferenceIdeal)
    ∧ preserves_FmemKernel_FmemKernelIdeal
    ∧ algebraic_FmemKernelIdeal_FmemReferenceIdeal (hFmemKernelIdeal := hFmemKernelIdeal) (hFmemReferenceIdeal := hFmemReferenceIdeal)
    ∧ preserves_FconvKernel_FconvKernelIdeal
    ∧ algebraic_FconvKernelIdeal_FconvReferenceIdeal (hFconvKernelIdeal := hFconvKernelIdeal) (hFconvReferenceIdeal := hFconvReferenceIdeal)
    ∧ preserves_GateKernel_GateKernelIdeal
    ∧ algebraic_GateKernelIdeal_GateReferenceIdeal_pre_finite_gate (hGateKernelIdeal := hGateKernelIdeal) (hGateReferenceIdeal := hGateReferenceIdeal) (hPre_finite_gate := hPre_finite_gate)
    ∧ preserves_FinbKernel_FinbKernelIdeal
    ∧ algebraic_FinbKernelIdeal_FinbReferenceIdeal (hFinbKernelIdeal := hFinbKernelIdeal) (hFinbReferenceIdeal := hFinbReferenceIdeal)
-- ==== Pre_finite_attention.lean ====
abbrev S12x4096x192 : Shape := ⟨3, ![12, 4096, 192]⟩
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩

class Facts : Prop where
  bitsLt_bf16_f32 : FTy.bits .bf16 < FTy.bits .f32
  bcast_S_S12x4096x192 : S_.BroadcastsInDim S12x4096x192 (![] : Fin 0 → Fin S12x4096x192.rank)
  bcast_S_S4096x1536 : S_.BroadcastsInDim S4096x1536 (![] : Fin 0 → Fin S4096x1536.rank)
  slices_S4096x2048_S4096x1536_0_0 : S4096x2048.Slices ![0, 0] S4096x1536

variable [Facts]

def fn {F : FTy → Type} [FloatOps F] (main_arg0 : FVec F S12x4096x192 .bf16) (main_arg1 : FVec F S12x4096x192 .bf16) (main_arg2 : FVec F S4096x1536 .bf16) (main_arg3 : FVec F S4096x512 .bf16) (main_arg4 : FVec F S4096x2048 .bf16) : IVec S12x4096x192 1 × IVec S12x4096x192 1 × IVec S4096x1536 1 × IVec S4096x1536 1 :=
  let main_v0 : FVec F S12x4096x192 .f32 := (extf .f32 · bitsLt_bf16_f32) main_arg0
  let main_v1 : FVec F S12x4096x192 .f32 := Host.absf main_v0
  let main_cst : FVec F S_ .f32 := constant S_ .f32 0x7F800000#32
  let main_v2 : FVec F S12x4096x192 .f32 := broadcastInDim S12x4096x192 ![] bcast_S_S12x4096x192 main_cst
  let main_v3 : IVec S12x4096x192 1 := cmpf .olt main_v1 main_v2
  let main_v4 : FVec F S12x4096x192 .f32 := (extf .f32 · bitsLt_bf16_f32) main_arg1
  let main_v5 : FVec F S12x4096x192 .f32 := Host.absf main_v4
  let main_cst_0 : FVec F S_ .f32 := constant S_ .f32 0x7F800000#32
  let main_v6 : FVec F S12x4096x192 .f32 := broadcastInDim S12x4096x192 ![] bcast_S_S12x4096x192 main_cst_0
  let main_v7 : IVec S12x4096x192 1 := cmpf .olt main_v5 main_v6
  let main_v8 : FVec F S4096x1536 .f32 := (extf .f32 · bitsLt_bf16_f32) main_arg2
  let main_v9 : FVec F S4096x1536 .f32 := Host.absf main_v8
  let main_cst_1 : FVec F S_ .f32 := constant S_ .f32 0x7F800000#32
  let main_v10 : FVec F S4096x1536 .f32 := broadcastInDim S4096x1536 ![] bcast_S_S4096x1536 main_cst_1
  let main_v11 : IVec S4096x1536 1 := cmpf .olt main_v9 main_v10
  let main_v12 : FVec F S4096x1536 .bf16 := (extractStridedSlice S4096x1536 ![0, 0] · slices_S4096x2048_S4096x1536_0_0) main_arg4
  let main_v13 : FVec F S4096x1536 .f32 := (extf .f32 · bitsLt_bf16_f32) main_v12
  let main_v14 : FVec F S4096x1536 .f32 := Host.absf main_v13
  let main_cst_2 : FVec F S_ .f32 := constant S_ .f32 0x7F800000#32
  let main_v15 : FVec F S4096x1536 .f32 := broadcastInDim S4096x1536 ![] bcast_S_S4096x1536 main_cst_2
  let main_v16 : IVec S4096x1536 1 := cmpf .olt main_v14 main_v15
  (main_v3, main_v7, main_v11, main_v16)
-- ==== Pre_finite_gate.lean ====
abbrev S8x4096x1408 : Shape := ⟨3, ![8, 4096, 1408]⟩
abbrev S4096x5632 : Shape := ⟨2, ![4096, 5632]⟩
abbrev S8x4x3x1408 : Shape := ⟨4, ![8, 4, 3, 1408]⟩
abbrev S4x11264 : Shape := ⟨2, ![4, 11264]⟩
abbrev S4x4096x1408 : Shape := ⟨3, ![4, 4096, 1408]⟩
abbrev S_ : Shape := ⟨0, ![]⟩
abbrev S4x1x3x1408 : Shape := ⟨4, ![4, 1, 3, 1408]⟩
abbrev S4x3x1408 : Shape := ⟨3, ![4, 3, 1408]⟩
abbrev S1x5632 : Shape := ⟨2, ![1, 5632]⟩
abbrev S5632 : Shape := ⟨1, ![5632]⟩

class Facts : Prop where
  slices_S8x4096x1408_S4x4096x1408_4_0_0 : S8x4096x1408.Slices ![4, 0, 0] S4x4096x1408
  bitsLt_bf16_f32 : FTy.bits .bf16 < FTy.bits .f32
  bcast_S_S4x4096x1408 : S_.BroadcastsInDim S4x4096x1408 (![] : Fin 0 → Fin S4x4096x1408.rank)
  bcast_S_S4096x5632 : S_.BroadcastsInDim S4096x5632 (![] : Fin 0 → Fin S4096x5632.rank)
  slices_S8x4x3x1408_S4x1x3x1408_4_0_0_0 : S8x4x3x1408.Slices ![4, 0, 0, 0] S4x1x3x1408
  shapeCasts_S4x1x3x1408_S4x3x1408 : S4x1x3x1408.ShapeCasts S4x3x1408
  bcast_S_S4x3x1408 : S_.BroadcastsInDim S4x3x1408 (![] : Fin 0 → Fin S4x3x1408.rank)
  slices_S4x11264_S1x5632_0_5632 : S4x11264.Slices ![0, 5632] S1x5632
  shapeCasts_S1x5632_S5632 : S1x5632.ShapeCasts S5632
  bcast_S_S5632 : S_.BroadcastsInDim S5632 (![] : Fin 0 → Fin S5632.rank)

variable [Facts]

def fn {F : FTy → Type} [FloatOps F] (main_arg0 : FVec F S8x4096x1408 .bf16) (main_arg1 : FVec F S4096x5632 .bf16) (main_arg2 : FVec F S8x4x3x1408 .f32) (main_arg3 : FVec F S4x11264 .f32) : IVec S4x4096x1408 1 × IVec S4096x5632 1 × IVec S4x3x1408 1 × IVec S5632 1 :=
  let main_v0 : FVec F S4x4096x1408 .bf16 := (extractStridedSlice S4x4096x1408 ![4, 0, 0] · slices_S8x4096x1408_S4x4096x1408_4_0_0) main_arg0
  let main_v1 : FVec F S4x4096x1408 .f32 := (extf .f32 · bitsLt_bf16_f32) main_v0
  let main_v2 : FVec F S4x4096x1408 .f32 := Host.absf main_v1
  let main_cst : FVec F S_ .f32 := constant S_ .f32 0x7F800000#32
  let main_v3 : FVec F S4x4096x1408 .f32 := broadcastInDim S4x4096x1408 ![] bcast_S_S4x4096x1408 main_cst
  let main_v4 : IVec S4x4096x1408 1 := cmpf .olt main_v2 main_v3
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_v9 : FVec F S4x1x3x1408 .f32 := (extractStridedSlice S4x1x3x1408 ![4, 0, 0, 0] · slices_S8x4x3x1408_S4x1x3x1408_4_0_0_0) main_arg2
  let main_v10 : FVec F S4x3x1408 .f32 := shapeCast S4x3x1408 main_v9 shapeCasts_S4x1x3x1408_S4x3x1408
  let main_v11 : FVec F S4x3x1408 .f32 := Host.absf main_v10
  let main_cst_1 : FVec F S_ .f32 := constant S_ .f32 0x7F800000#32
  let main_v12 : FVec F S4x3x1408 .f32 := broadcastInDim S4x3x1408 ![] bcast_S_S4x3x1408 main_cst_1
  let main_v13 : IVec S4x3x1408 1 := cmpf .olt main_v11 main_v12
  let main_v14 : FVec F S1x5632 .f32 := (extractStridedSlice S1x5632 ![0, 5632] · slices_S4x11264_S1x5632_0_5632) main_arg3
  let main_v15 : FVec F S5632 .f32 := shapeCast S5632 main_v14 shapeCasts_S1x5632_S5632
  let main_v16 : FVec F S5632 .f32 := Host.absf main_v15
  let main_cst_2 : FVec F S_ .f32 := constant S_ .f32 0x7F800000#32
  let main_v17 : FVec F S5632 .f32 := broadcastInDim S5632 ![] bcast_S_S5632 main_cst_2
  let main_v18 : IVec S5632 1 := cmpf .olt main_v16 main_v17
  (main_v4, main_v8, main_v13, main_v18)
-- ==== Pre_finite_memory.lean ====
abbrev S4096x3584 : Shape := ⟨2, ![4096, 3584]⟩
abbrev S256x1024 : Shape := ⟨2, ![256, 1024]⟩
abbrev S4096x2048 : Shape := ⟨2, ![4096, 2048]⟩
abbrev S4096x512 : Shape := ⟨2, ![4096, 512]⟩
abbrev S_ : Shape := ⟨0, ![]⟩
abbrev S256x512 : Shape := ⟨2, ![256, 512]⟩

class Facts : Prop where
  slices_S4096x3584_S4096x512_0_3072 : S4096x3584.Slices ![0, 3072] S4096x512
  bitsLt_bf16_f32 : FTy.bits .bf16 < FTy.bits .f32
  bcast_S_S4096x512 : S_.BroadcastsInDim S4096x512 (![] : Fin 0 → Fin S4096x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S4096x3584 .bf16) (main_arg1 : FVec F S256x1024 .bf16) (main_arg2 : FVec F S4096x2048 .bf16) : IVec S4096x512 1 × IVec S256x512 1 :=
  let main_v0 : FVec F S4096x512 .bf16 := (extractStridedSlice S4096x512 ![0, 3072] · slices_S4096x3584_S4096x512_0_3072) main_arg0
  let main_v1 : FVec F S4096x512 .f32 := (extf .f32 · bitsLt_bf16_f32) main_v0
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S256x512 .bf16 := (extractStridedSlice S256x512 ![0, 0] · slices_S256x1024_S256x512_0_0) main_arg1
  let main_v6 : FVec F S256x512 .f32 := (extf .f32 · bitsLt_bf16_f32) main_v5
  let main_v7 : FVec F S256x512 .f32 := Host.absf main_v6
  let main_cst_0 : FVec F S_ .f32 := constant S_ .f32 0x7F800000#32
  let main_v8 : FVec F S256x512 .f32 := broadcastInDim S256x512 ![] bcast_S_S256x512 main_cst_0
  let main_v9 : IVec S256x512 1 := cmpf .olt main_v7 main_v8
  (main_v4, main_v9)
-- ==== Pre_finite_scores.lean ====
abbrev S12x4096x192 : Shape := ⟨3, ![12, 4096, 192]⟩
abbrev S4096x1536 : Shape := ⟨2, ![4096, 1536]⟩
abbrev S_ : Shape := ⟨0, ![]⟩

class Facts : Prop where
  bitsLt_bf16_f32 : FTy.bits .bf16 < FTy.bits .f32
  bcast_S_S12x4096x192 : S_.BroadcastsInDim S12x4096x192 (![] : Fin 0 → Fin S12x4096x192.rank)

variable [Facts]

def fn {F : FTy → Type} [FloatOps F] (main_arg0 : FVec F S12x4096x192 .bf16) (main_arg1 : FVec F S12x4096x192 .bf16) (main_arg2 : FVec F S4096x1536 .bf16) : IVec S12x4096x192 1 × IVec S12x4096x192 1 :=
  let main_v0 : FVec F S12x4096x192 .f32 := (extf .f32 · bitsLt_bf16_f32) main_arg0
  let main_v1 : FVec F S12x4096x192 .f32 := Host.absf main_v0
  let main_cst : FVec F S_ .f32 := constant S_ .f32 0x7F800000#32
  let main_v2 : FVec F S12x4096x192 .f32 := broadcastInDim S12x4096x192 ![] bcast_S_S12x4096x192 main_cst
  let main_v3 : IVec S12x4096x192 1 := cmpf .olt main_v1 main_v2
  let main_v4 : FVec F S12x4096x192 .f32 := (extf .f32 · bitsLt_bf16_f32) main_arg1
  let main_v5 : FVec F S12x4096x192 .f32 := Host.absf main_v4
  let main_cst_0 : FVec F S_ .f32 := constant S_ .f32 0x7F800000#32
  let main_v6 : FVec F S12x4096x192 .f32 := broadcastInDim S12x4096x192 ![] bcast_S_S12x4096x192 main_cst_0
  let main_v7 : IVec S12x4096x192 1 := cmpf .olt main_v5 main_v6
  (main_v3, main_v7)
-- ==== MlaKernel.lean ====
abbrev S12x4096x192 : Shape := ⟨3, ![12, 4096, 192]⟩
abbrev S4096x1536 : Shape := ⟨2, ![4096, 1536]⟩
abbrev S4096x512 : Shape := ⟨2, ![4096, 512]⟩
abbrev S4096x2048 : Shape := ⟨2, ![4096, 2048]⟩
abbrev S12x4096x4096 : Shape := ⟨3, ![12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x4096 : Shape := ⟨2, ![12, 4096]⟩
abbrev S12x4096x1 : Shape := ⟨3, ![12, 4096, 1]⟩
abbrev S4096x12x128 : Shape := ⟨3, ![4096, 12, 128]⟩
abbrev S12x128x4096 : Shape := ⟨3, ![12, 128, 4096]⟩
abbrev S1x1024x192 : Shape := ⟨3, ![1, 1024, 192]⟩
abbrev S1x4096x192 : Shape := ⟨3, ![1, 4096, 192]⟩
abbrev S4096x128 : Shape := ⟨2, ![4096, 128]⟩
abbrev S1024x128 : Shape := ⟨2, ![1024, 128]⟩
abbrev S1x1024x1 : Shape := ⟨3, ![1, 1024, 1]⟩
abbrev S1024x192 : Shape := ⟨2, ![1024, 192]⟩
abbrev S4096x192 : Shape := ⟨2, ![4096, 192]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 57
  | .vmem => 21
  | .smem => 0
  | _ => 0

abbrev bufTy : (tb : Table) → Fin (tcTables nBuf tb) → BufTy
  | .hbm, ⟨0, _⟩ => ⟨S12x4096x192, .bf16⟩
  | .hbm, ⟨1, _⟩ => ⟨S12x4096x192, .bf16⟩
  | .hbm, ⟨2, _⟩ => ⟨S4096x1536, .bf16⟩
  | .hbm, ⟨3, _⟩ => ⟨S4096x512, .bf16⟩
  | .hbm, ⟨4, _⟩ => ⟨S4096x2048, .bf16⟩
  | .hbm, ⟨5, _⟩ => ⟨S12x4096x192, .f32⟩
  | .hbm, ⟨6, _⟩ => ⟨S12x4096x192, .f32⟩
  | .hbm, ⟨7, _⟩ => ⟨S4096x1536, .f32⟩
  | .hbm, ⟨8, _⟩ => ⟨S12x4096x4096, .f32⟩
  | .hbm, ⟨9, _⟩ => ⟨S_, .f32⟩
  | .hbm, ⟨10, _⟩ => ⟨S12x4096x4096, .f32⟩
  | .hbm, ⟨11, _⟩ => ⟨S12x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S12x4096x4096, .i1⟩
  | .hbm, ⟨21, _⟩ => ⟨S12x4096x4096, .f32⟩
  | .hbm, ⟨22, _⟩ => ⟨S12x4096x4096, .f32⟩
  | .hbm, ⟨23, _⟩ => ⟨S_, .f32⟩
  | .hbm, ⟨24, _⟩ => ⟨S12x4096, .f32⟩
  | .hbm, ⟨25, _⟩ => ⟨S_, .f32⟩
  | .hbm, ⟨26, _⟩ => ⟨S12x4096, .f32⟩
  | .hbm, ⟨27, _⟩ => ⟨S12x4096, .f32⟩
  | .hbm, ⟨28, _⟩ => ⟨S12x4096x1, .f32⟩
  | .hbm, ⟨29, _⟩ => ⟨S12x4096x4096, .f32⟩
  | .hbm, ⟨30, _⟩ => ⟨S12x4096x4096, .f32⟩
  | .hbm, ⟨31, _⟩ => ⟨S12x4096x4096, .f32⟩
  | .hbm, ⟨32, _⟩ => ⟨S_, .f32⟩
  | .hbm, ⟨33, _⟩ => ⟨S12x4096, .f32⟩
  | .hbm, ⟨34, _⟩ => ⟨S12x4096x1, .f32⟩
  | .hbm, ⟨35, _⟩ => ⟨S12x4096x4096, .f32⟩
  | .hbm, ⟨36, _⟩ => ⟨S12x4096x4096, .f32⟩
  | .hbm, ⟨37, _⟩ => ⟨S4096x12x128, .f32⟩
  | .hbm, ⟨38, _⟩ => ⟨S12x128x4096, .f32⟩
  | .hbm, ⟨39, _⟩ => ⟨S4096x12x128, .f32⟩
  | .hbm, ⟨40, _⟩ => ⟨S4096x1536, .f32⟩
  | .hbm, ⟨41, _⟩ => ⟨S_, .f32⟩
  | .hbm, ⟨42, _⟩ => ⟨S12x4096, .f32⟩
  | .hbm, ⟨43, _⟩ => ⟨S12x4096x1, .f32⟩
  | .hbm, ⟨44, _⟩ => ⟨S12x4096x4096, .f32⟩
  | .hbm, ⟨45, _⟩ => ⟨S12x4096x4096, .f32⟩
  | .hbm, ⟨46, _⟩ => ⟨S12x4096x4096, .f32⟩
  | .hbm, ⟨47, _⟩ => ⟨S_, .f32⟩
  | .hbm, ⟨48, _⟩ => ⟨S12x4096, .f32⟩
  | .hbm, ⟨49, _⟩ => ⟨S12x4096x1, .f32⟩
  | .hbm, ⟨50, _⟩ => ⟨S12x4096x1, .f32⟩
  | .hbm, ⟨51, _⟩ => ⟨S12x4096x1, .f32⟩
  | .hbm, ⟨52, _⟩ => ⟨S4096x1536, .bf16⟩
  | .hbm, ⟨53, _⟩ => ⟨S4096x2048, .bf16⟩
  | .hbm, ⟨54, _⟩ => ⟨S12x4096x192, .bf16⟩
  | .hbm, ⟨55, _⟩ => ⟨S12x4096x192, .bf16⟩
  | .hbm, ⟨56, _⟩ => ⟨S4096x1536, .bf16⟩
  | .local _ .vmem, ⟨0, _⟩ => ⟨S1x1024x192, .bf16⟩
  | .local _ .vmem, ⟨1, _⟩ => ⟨S1x1024x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1x1024x192, .bf16⟩
  | .local _ .vmem, ⟨13, _⟩ => ⟨S1x1024x192, .bf16⟩
  | .local _ .vmem, ⟨14, _⟩ => ⟨S1x4096x192, .bf16⟩
  | .local _ .vmem, ⟨15, _⟩ => ⟨S1x4096x192, .bf16⟩
  | .local _ .vmem, ⟨16, _⟩ => ⟨S4096x128, .bf16⟩
  | .local _ .vmem, ⟨17, _⟩ => ⟨S4096x128, .bf16⟩
  | .local _ .vmem, ⟨18, _⟩ => ⟨S1024x192, .f32⟩
  | .local _ .vmem, ⟨19, _⟩ => ⟨S4096x192, .f32⟩
  | .local _ .vmem, ⟨20, _⟩ => ⟨S4096x128, .f32⟩
  | _, _ => ⟨S12x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v39_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![12, 4], ![false, false]⟩

@[reducible] def k0_t1_loop (i : grid0.Coords) : Scf.Loop 32 :=
  let c0_i32_14 : BitVec 32 := 0#32
  let arg1 : BitVec 32 := BitVec.ofNat 32 (i 1).val
  let v19 : BitVec 32 := Scalar.subi arg1 c0_i32_14
  let c1_i32 : BitVec 32 := 1#32
  let v21 : BitVec 32 := Scalar.divsi v19 c1_i32
  let v22 : BitVec 32 := Scalar.muli v21 c1_i32
  let v23 : BitVec 32 := Scalar.addi c0_i32_14 v22
  let c1_i32_15 : BitVec 32 := 1#32
  ⟨c0_i32_14, v23, c1_i32_15⟩
def k0_mult1 (i : grid0.Coords) (k0_t1 : Fin (k0_t1_loop i).trips) : BitVec 32 :=
  let c0_i32_14 : BitVec 32 := 0#32
  let c1_i32_15 : BitVec 32 := 1#32
  let arg14 : BitVec 32 := Scf.iv c0_i32_14 c1_i32_15 k0_t1
  let c1024_i32_42 : BitVec 32 := 1024#32
  let v80 : BitVec 32 := Scalar.muli arg14 c1024_i32_42
  v80
def k0_off1 (i : grid0.Coords) (k0_t1 : Fin (k0_t1_loop i).trips) : Fin 3 → Nat :=
  let c0_43 : Index := 0#32
  let c0_i32_14 : BitVec 32 := 0#32
  let c1_i32_15 : BitVec 32 := 1#32
  let arg14 : BitVec 32 := Scf.iv c0_i32_14 c1_i32_15 k0_t1
  let c1024_i32_42 : BitVec 32 := 1024#32
  let v80 : BitVec 32 := Scalar.muli arg14 c1024_i32_42
  let v81 : BitVec 32 := v80
  let v82 : Index := Scalar.indexCast v81
  let c0_44 : Index := 0#32
  ![0, v82.toNat, 0]
def k0_off2 (i : grid0.Coords) (k0_t1 : Fin (k0_t1_loop i).trips) : Fin 2 → Nat :=
  let c0_i32_14 : BitVec 32 := 0#32
  let c1_i32_15 : BitVec 32 := 1#32
  let arg14 : BitVec 32 := Scf.iv c0_i32_14 c1_i32_15 k0_t1
  let c1024_i32_42 : BitVec 32 := 1024#32
  let v80 : BitVec 32 := Scalar.muli arg14 c1024_i32_42
  let v81 : BitVec 32 := v80
  let v85 : Index := Scalar.indexCast v81
  let c0_45 : Index := 0#32
  ![v85.toNat, 0]
def k0_off3 (i : grid0.Coords) (k0_t1 : Fin (k0_t1_loop i).trips) : Fin 2 → Nat :=
  let c0_i32_14 : BitVec 32 := 0#32
  let c1_i32_15 : BitVec 32 := 1#32
  let arg14 : BitVec 32 := Scf.iv c0_i32_14 c1_i32_15 k0_t1
  let c1024_i32_42 : BitVec 32 := 1024#32
  let v80 : BitVec 32 := Scalar.muli arg14 c1024_i32_42
  let v81 : BitVec 32 := v80
  let v106 : Index := Scalar.indexCast v81
  let c0_55 : Index := 0#32
  ![v106.toNat, 0]
@[reducible] def k0_t2_loop (i : grid0.Coords) : Scf.Loop 32 :=
  let c0_i32_14 : BitVec 32 := 0#32
  let arg1 : BitVec 32 := BitVec.ofNat 32 (i 1).val
  let v19 : BitVec 32 := Scalar.subi arg1 c0_i32_14
  let c1_i32 : BitVec 32 := 1#32
  let v21 : BitVec 32 := Scalar.divsi v19 c1_i32
  let v22 : BitVec 32 := Scalar.muli v21 c1_i32
  let v23 : BitVec 32 := Scalar.addi c0_i32_14 v22
  let v20 : BitVec 32 := Scalar.addi c0_i32_14 v19
  let c1_i32_16 : BitVec 32 := 1#32
  ⟨v23, v20, c1_i32_16⟩
def k0_mult2 (i : grid0.Coords) (k0_t2 : Fin (k0_t2_loop i).trips) : BitVec 32 :=
  let c0_i32_14 : BitVec 32 := 0#32
  let arg1 : BitVec 32 := BitVec.ofNat 32 (i 1).val
  let v19 : BitVec 32 := Scalar.subi arg1 c0_i32_14
  let c1_i32 : BitVec 32 := 1#32
  let v21 : BitVec 32 := Scalar.divsi v19 c1_i32
  let v22 : BitVec 32 := Scalar.muli v21 c1_i32
  let v23 : BitVec 32 := Scalar.addi c0_i32_14 v22
  let c1_i32_16 : BitVec 32 := 1#32
  let arg14 : BitVec 32 := Scf.iv v23 c1_i32_16 k0_t2
  let c1024_i32_42 : BitVec 32 := 1024#32
  let v80 : BitVec 32 := Scalar.muli arg14 c1024_i32_42
  v80
def k0_off4 (i : grid0.Coords) (k0_t2 : Fin (k0_t2_loop i).trips) : Fin 3 → Nat :=
  let c0_43 : Index := 0#32
  let c0_i32_14 : BitVec 32 := 0#32
  let arg1 : BitVec 32 := BitVec.ofNat 32 (i 1).val
  let v19 : BitVec 32 := Scalar.subi arg1 c0_i32_14
  let c1_i32 : BitVec 32 := 1#32
  let v21 : BitVec 32 := Scalar.divsi v19 c1_i32
  let v22 : BitVec 32 := Scalar.muli v21 c1_i32
  let v23 : BitVec 32 := Scalar.addi c0_i32_14 v22
  let c1_i32_16 : BitVec 32 := 1#32
  let arg14 : BitVec 32 := Scf.iv v23 c1_i32_16 k0_t2
  let c1024_i32_42 : BitVec 32 := 1024#32
  let v80 : BitVec 32 := Scalar.muli arg14 c1024_i32_42
  let v81 : BitVec 32 := v80
  let v82 : Index := Scalar.indexCast v81
  let c0_44 : Index := 0#32
  ![0, v82.toNat, 0]
def k0_off5 (i : grid0.Coords) (k0_t2 : Fin (k0_t2_loop i).trips) : Fin 2 → Nat :=
  let c0_i32_14 : BitVec 32 := 0#32
  let arg1 : BitVec 32 := BitVec.ofNat 32 (i 1).val
  let v19 : BitVec 32 := Scalar.subi arg1 c0_i32_14
  let c1_i32 : BitVec 32 := 1#32
  let v21 : BitVec 32 := Scalar.divsi v19 c1_i32
  let v22 : BitVec 32 := Scalar.muli v21 c1_i32
  let v23 : BitVec 32 := Scalar.addi c0_i32_14 v22
  let c1_i32_16 : BitVec 32 := 1#32
  let arg14 : BitVec 32 := Scf.iv v23 c1_i32_16 k0_t2
  let c1024_i32_42 : BitVec 32 := 1024#32
  let v80 : BitVec 32 := Scalar.muli arg14 c1024_i32_42
  let v81 : BitVec 32 := v80
  let v85 : Index := Scalar.indexCast v81
  let c0_45 : Index := 0#32
  ![v85.toNat, 0]
def k0_off6 (i : grid0.Coords) (k0_t2 : Fin (k0_t2_loop i).trips) : Fin 2 → Nat :=
  let c0_i32_14 : BitVec 32 := 0#32
  let arg1 : BitVec 32 := BitVec.ofNat 32 (i 1).val
  let v19 : BitVec 32 := Scalar.subi arg1 c0_i32_14
  let c1_i32 : BitVec 32 := 1#32
  let v21 : BitVec 32 := Scalar.divsi v19 c1_i32
  let v22 : BitVec 32 := Scalar.muli v21 c1_i32
  let v23 : BitVec 32 := Scalar.addi c0_i32_14 v22
  let c1_i32_16 : BitVec 32 := 1#32
  let arg14 : BitVec 32 := Scf.iv v23 c1_i32_16 k0_t2
  let c1024_i32_42 : BitVec 32 := 1024#32
  let v80 : BitVec 32 := Scalar.muli arg14 c1024_i32_42
  let v81 : BitVec 32 := v80
  let v106 : Index := Scalar.indexCast v81
  let c0_55 : Index := 0#32
  ![v106.toNat, 0]
def k0_mult3 (i : grid0.Coords) : BitVec 32 :=
  let arg1 : BitVec 32 := BitVec.ofNat 32 (i 1).val
  let c1024_i32 : BitVec 32 := 1024#32
  let v24 : BitVec 32 := Scalar.muli arg1 c1024_i32
  v24
def k0_off7 (i : grid0.Coords) : Fin 3 → Nat :=
  let c0_17 : Index := 0#32
  let arg1 : BitVec 32 := BitVec.ofNat 32 (i 1).val
  let c1024_i32 : BitVec 32 := 1024#32
  let v24 : BitVec 32 := Scalar.muli arg1 c1024_i32
  let v25 : BitVec 32 := v24
  let v26 : Index := Scalar.indexCast v25
  let c0_18 : Index := 0#32
  ![0, v26.toNat, 0]
def k0_off8 (i : grid0.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v29 : Index := Scalar.indexCast v25
  let c0_19 : Index := 0#32
  ![v29.toNat, 0]
def k0_off9 (i : grid0.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v55 : Index := Scalar.indexCast v25
  let c0_30 : Index := 0#32
  ![v55.toNat, 0]
def k0_cond2 (i : grid0.Coords) : BitVec 1 :=
  let arg1 : BitVec 32 := BitVec.ofNat 32 (i 1).val
  let c3_i32 : BitVec 32 := 3#32
  let v77 : BitVec 1 := Scalar.cmpi .eq arg1 c3_i32
  let v78 : BitVec 32 := Scalar.extui v77
  let c0_i32_41 : BitVec 32 := 0#32
  let v79 : BitVec 1 := Scalar.cmpi .ne v78 c0_i32_41
  v79

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlaReferenceIdeal.lean ====
abbrev S12x4096x192 : Shape := ⟨3, ![12, 4096, 192]⟩
abbrev S4096x1536 : Shape := ⟨2, ![4096, 1536]⟩
abbrev S4096x512 : Shape := ⟨2, ![4096, 512]⟩
abbrev S4096x2048 : Shape := ⟨2, ![4096, 2048]⟩
abbrev S12x4096x4096 : Shape := ⟨3, ![12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x4096 : Shape := ⟨2, ![12, 4096]⟩
abbrev S12x4096x1 : Shape := ⟨3, ![12, 4096, 1]⟩
abbrev S4096x12x128 : Shape := ⟨3, ![4096, 12, 128]⟩
abbrev S12x128x4096 : Shape := ⟨3, ![12, 128, 4096]⟩

abbrev nBuf : Space → Nat
  | .hbm => 100
  | .vmem => 0
  | .smem => 0
  | _ => 0

abbrev bufTy : (tb : Table) → Fin (tcTables nBuf tb) → BufTy
  | .hbm, ⟨0, _⟩ => ⟨S12x4096x192, .bf16⟩
  | .hbm, ⟨1, _⟩ => ⟨S12x4096x192, .bf16⟩
  | .hbm, ⟨2, _⟩ => ⟨S4096x1536, .bf16⟩
  | .hbm, ⟨3, _⟩ => ⟨S4096x512, .bf16⟩
  | .hbm, ⟨4, _⟩ => ⟨S4096x2048, .bf16⟩
  | .hbm, ⟨5, _⟩ => ⟨S12x4096x192, .f32⟩
  | .hbm, ⟨6, _⟩ => ⟨S12x4096x192, .f32⟩
  | .hbm, ⟨7, _⟩ => ⟨S4096x1536, .f32⟩
  | .hbm, ⟨8, _⟩ => ⟨S12x4096x4096, .f32⟩
  | .hbm, ⟨9, _⟩ => ⟨S_, .f32⟩
  | .hbm, ⟨10, _⟩ => ⟨S12x4096x4096, .f32⟩
  | .hbm, ⟨11, _⟩ => ⟨S12x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S12x4096x4096, .i1⟩
  | .hbm, ⟨21, _⟩ => ⟨S12x4096x4096, .f32⟩
  | .hbm, ⟨22, _⟩ => ⟨S12x4096x4096, .f32⟩
  | .hbm, ⟨23, _⟩ => ⟨S_, .f32⟩
  | .hbm, ⟨24, _⟩ => ⟨S12x4096x4096, .f32⟩
  | .hbm, ⟨25, _⟩ => ⟨S_, .f32⟩
  | .hbm, ⟨26, _⟩ => ⟨S12x4096, .f32⟩
  | .hbm, ⟨27, _⟩ => ⟨S12x4096x1, .f32⟩
  | .hbm, ⟨28, _⟩ => ⟨S12x4096x4096, .f32⟩
  | .hbm, ⟨29, _⟩ => ⟨S12x4096x4096, .i1⟩
  | .hbm, ⟨30, _⟩ => ⟨S12x4096x4096, .f32⟩
  | .hbm, ⟨31, _⟩ => ⟨S_, .f32⟩
  | .hbm, ⟨32, _⟩ => ⟨S12x4096, .f32⟩
  | .hbm, ⟨33, _⟩ => ⟨S_, .f32⟩
  | .hbm, ⟨34, _⟩ => ⟨S12x4096, .f32⟩
  | .hbm, ⟨35, _⟩ => ⟨S12x4096, .f32⟩
  | .hbm, ⟨36, _⟩ => ⟨S_, .f32⟩
  | .hbm, ⟨37, _⟩ => ⟨S12x4096, .f32⟩
  | .hbm, ⟨38, _⟩ => ⟨S12x4096, .i1⟩
  | .hbm, ⟨39, _⟩ => ⟨S_, .f32⟩
  | .hbm, ⟨40, _⟩ => ⟨S12x4096, .f32⟩
  | .hbm, ⟨41, _⟩ => ⟨S12x4096, .i1⟩
  | .hbm, ⟨42, _⟩ => ⟨S_, .f32⟩
  | .hbm, ⟨43, _⟩ => ⟨S12x4096, .f32⟩
  | .hbm, ⟨44, _⟩ => ⟨S_, .f32⟩
  | .hbm, ⟨45, _⟩ => ⟨S12x4096, .f32⟩
  | .hbm, ⟨46, _⟩ => ⟨S_, .f32⟩
  | .hbm, ⟨47, _⟩ => ⟨S12x4096, .f32⟩
  | .hbm, ⟨48, _⟩ => ⟨S12x4096, .f32⟩
  | .hbm, ⟨49, _⟩ => ⟨S12x4096, .f32⟩
  | .hbm, ⟨50, _⟩ => ⟨S12x4096x1, .f32⟩
  | .hbm, ⟨51, _⟩ => ⟨S12x4096x4096, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x1, .f32⟩
  | .hbm, ⟨60, _⟩ => ⟨S_, .f32⟩
  | .hbm, ⟨61, _⟩ => ⟨S12x4096x1, .f32⟩
  | .hbm, ⟨62, _⟩ => ⟨S12x4096x1, .f32⟩
  | .hbm, ⟨63, _⟩ => ⟨S4096x12x128, .f32⟩
  | .hbm, ⟨64, _⟩ => ⟨S12x128x4096, .f32⟩
  | .hbm, ⟨65, _⟩ => ⟨S4096x12x128, .f32⟩
  | .hbm, ⟨66, _⟩ => ⟨S4096x1536, .f32⟩
  | .hbm, ⟨67, _⟩ => ⟨S4096x1536, .bf16⟩
  | .hbm, ⟨68, _⟩ => ⟨S4096x1536, .f32⟩
  | .hbm, ⟨69, _⟩ => ⟨S4096x12x128, .f32⟩
  | .hbm, ⟨70, _⟩ => ⟨S12x128x4096, .f32⟩
  | .hbm, ⟨71, _⟩ => ⟨S12x4096x4096, .f32⟩
  | .hbm, ⟨72, _⟩ => ⟨S12x128x4096, .f32⟩
  | .hbm, ⟨73, _⟩ => ⟨S4096x12x128, .f32⟩
  | .hbm, ⟨74, _⟩ => ⟨S4096x1536, .f32⟩
  | .hbm, ⟨75, _⟩ => ⟨S12x4096x4096, .f32⟩
  | .hbm, ⟨76, _⟩ => ⟨S12x4096x4096, .f32⟩
  | .hbm, ⟨77, _⟩ => ⟨S12x4096x4096, .f32⟩
  | .hbm, ⟨78, _⟩ => ⟨S_, .f32⟩
  | .hbm, ⟨79, _⟩ => ⟨S12x4096, .f32⟩
  | .hbm, ⟨80, _⟩ => ⟨S12x4096x1, .f32⟩
  | .hbm, ⟨81, _⟩ => ⟨S12x4096x1, .f32⟩
  | .hbm, ⟨82, _⟩ => ⟨S12x4096x4096, .f32⟩
  | .hbm, ⟨83, _⟩ => ⟨S12x4096x4096, .f32⟩
  | .hbm, ⟨84, _⟩ => ⟨S_, .f32⟩
  | .hbm, ⟨85, _⟩ => ⟨S12x4096, .f32⟩
  | .hbm, ⟨86, _⟩ => ⟨S12x4096x4096, .f32⟩
  | .hbm, ⟨87, _⟩ => ⟨S12x4096x4096, .f32⟩
  | .hbm, ⟨88, _⟩ => ⟨S12x4096x4096, .f32⟩
  | .hbm, ⟨89, _⟩ => ⟨S_, .f32⟩
  | .hbm, ⟨90, _⟩ => ⟨S12x4096x4096, .f32⟩
  | .hbm, ⟨91, _⟩ => ⟨S12x4096x4096, .f32⟩
  | .hbm, ⟨92, _⟩ => ⟨S_, .f32⟩
  | .hbm, ⟨93, _⟩ => ⟨S12x4096x4096, .f32⟩
  | .hbm, ⟨94, _⟩ => ⟨S12x4096x4096, .f32⟩
  | .hbm, ⟨95, _⟩ => ⟨S12x4096x192, .f32⟩
  | .hbm, ⟨96, _⟩ => ⟨S12x4096x192, .f32⟩
  | .hbm, ⟨97, _⟩ => ⟨S12x4096x192, .bf16⟩
  | .hbm, ⟨98, _⟩ => ⟨S12x4096x192, .bf16⟩
  | .hbm, ⟨99, _⟩ => ⟨S4096x1536, .bf16⟩
  | _, _ => ⟨S12x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== MemKernel.lean ====
abbrev S4096x3584 : Shape := ⟨2, ![4096, 3584]⟩
abbrev S256x1024 : Shape := ⟨2, ![256, 1024]⟩
abbrev S4096x2048 : Shape := ⟨2, ![4096, 2048]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x3584, .bf16⟩
  | .hbm, ⟨1, _⟩ => ⟨S256x1024, .bf16⟩
  | .hbm, ⟨2, _⟩ => ⟨S4096x2048, .bf16⟩
  | .hbm, ⟨3, _⟩ => ⟨S4096x512, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemReferenceIdeal.lean ====
abbrev S4096x3584 : Shape := ⟨2, ![4096, 3584]⟩
abbrev S256x1024 : Shape := ⟨2, ![256, 1024]⟩
abbrev S4096x2048 : Shape := ⟨2, ![4096, 2048]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 93
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S256x1024, .bf16⟩
  | .hbm, ⟨2, _⟩ => ⟨S4096x2048, .bf16⟩
  | .hbm, ⟨3, _⟩ => ⟨S4096x512, .bf16⟩
  | .hbm, ⟨4, _⟩ => ⟨S4096x512, .f32⟩
  | .hbm, ⟨5, _⟩ => ⟨S4096x512, .bf16⟩
  | .hbm, ⟨6, _⟩ => ⟨S4096x512, .f32⟩
  | .hbm, ⟨7, _⟩ => ⟨S256x1024, .f32⟩
  | .hbm, ⟨8, _⟩ => ⟨S4096x4x128, .f32⟩
  | .hbm, ⟨9, _⟩ => ⟨S256x512, .f32⟩
  | .hbm, ⟨10, _⟩ => ⟨S256x4x128, .f32⟩
  | .hbm, ⟨11, _⟩ => ⟨S256x512, .f32⟩
  | .hbm, ⟨12, _⟩ => ⟨S256x4x128, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .i1⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S4x4096, .i1⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x4096x256, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x256, .f32⟩
  | .hbm, ⟨50, _⟩ => ⟨S4x4096x256, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x128x4096, .f32⟩
  | .hbm, ⟨56, _⟩ => ⟨S4096x4x128, .f32⟩
  | .hbm, ⟨57, _⟩ => ⟨S4096x512, .f32⟩
  | .hbm, ⟨58, _⟩ => ⟨S4096x4x128, .f32⟩
  | .hbm, ⟨59, _⟩ => ⟨S4x128x4096, .f32⟩
  | .hbm, ⟨60, _⟩ => ⟨S4x4096x256, .f32⟩
  | .hbm, ⟨61, _⟩ => ⟨S4x128x256, .f32⟩
  | .hbm, ⟨62, _⟩ => ⟨S256x4x128, .f32⟩
  | .hbm, ⟨63, _⟩ => ⟨S4x4096x256, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x1, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S_, .f32⟩
  | .hbm, ⟨78, _⟩ => ⟨S4x4096x256, .f32⟩
  | .hbm, ⟨79, _⟩ => ⟨S4x4096x256, .f32⟩
  | .hbm, ⟨80, _⟩ => ⟨S4x256x128, .f32⟩
  | .hbm, ⟨81, _⟩ => ⟨S256x4x128, .f32⟩
  | .hbm, ⟨82, _⟩ => ⟨S4x4096x128, .f32⟩
  | .hbm, ⟨83, _⟩ => ⟨S4096x4x128, .f32⟩
  | .hbm, ⟨84, _⟩ => ⟨S256x512, .f32⟩
  | .hbm, ⟨85, _⟩ => ⟨S_, .f32⟩
  | .hbm, ⟨86, _⟩ => ⟨S256x1024, .f32⟩
  | .hbm, ⟨87, _⟩ => ⟨S256x512, .f32⟩
  | .hbm, ⟨88, _⟩ => ⟨S_, .f32⟩
  | .hbm, ⟨89, _⟩ => ⟨S256x1024, .f32⟩
  | .hbm, ⟨90, _⟩ => ⟨S256x1024, .f32⟩
  | .hbm, ⟨91, _⟩ => ⟨S4096x512, .f32⟩
  | .hbm, ⟨92, _⟩ => ⟨S4096x512, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== DactKernel.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S4096x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S4096x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwdownKernel.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwupKernel.lean ====
abbrev S4096x2048 : Shape := ⟨2, ![4096, 2048]⟩
abbrev S8x4096x1408 : Shape := ⟨3, ![8, 4096, 1408]⟩
abbrev S8x2048x1408 : Shape := ⟨3, ![8, 2048, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x4096x1408, .bf16⟩
  | .hbm, ⟨2, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupReferenceIdeal.lean ====
abbrev S4096x2048 : Shape := ⟨2, ![4096, 2048]⟩
abbrev S8x4096x1408 : Shape := ⟨3, ![8, 4096, 1408]⟩
abbrev S_ : Shape := ⟨0, ![]⟩
abbrev S8x2048x1408 : Shape := ⟨3, ![8, 2048, 1408]⟩
abbrev S8x1408x4096 : Shape := ⟨3, ![8, 1408, 4096]⟩
abbrev S8x1408x2048 : Shape := ⟨3, ![8, 1408, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x4096x1408, .bf16⟩
  | .hbm, ⟨2, _⟩ => ⟨S_, .f32⟩
  | .hbm, ⟨3, _⟩ => ⟨S8x2048x1408, .f32⟩
  | .hbm, ⟨4, _⟩ => ⟨S4096x2048, .f32⟩
  | .hbm, ⟨5, _⟩ => ⟨S8x1408x4096, .f32⟩
  | .hbm, ⟨6, _⟩ => ⟨S8x4096x1408, .f32⟩
  | .hbm, ⟨7, _⟩ => ⟨S8x4096x1408, .f32⟩
  | .hbm, ⟨8, _⟩ => ⟨S8x1408x4096, .f32⟩
  | .hbm, ⟨9, _⟩ => ⟨S8x1408x2048, .f32⟩
  | .hbm, ⟨10, _⟩ => ⟨S8x2048x1408, .f32⟩
  | .hbm, ⟨11, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DhKernel.lean ====
abbrev S8x2048x1408 : Shape := ⟨3, ![8, 2048, 1408]⟩
abbrev S8x4096x1408 : Shape := ⟨3, ![8, 4096, 1408]⟩
abbrev S4096x2048 : Shape := ⟨2, ![4096, 2048]⟩
abbrev S4x512x1408 : Shape := ⟨3, ![4, 512, 1408]⟩
abbrev S4x1024x1408 : Shape := ⟨3, ![4, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1408, .bf16⟩
  | .hbm, ⟨1, _⟩ => ⟨S8x4096x1408, .bf16⟩
  | .hbm, ⟨2, _⟩ => ⟨S4096x2048, .bf16⟩
  | .local _ .vmem, ⟨0, _⟩ => ⟨S4x512x1408, .bf16⟩
  | .local _ .vmem, ⟨1, _⟩ => ⟨S4x512x1408, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_26 : BitVec 32 := 0#32
  let v31 : BitVec 1 := Scalar.cmpi .ne v30 c0_i32_26
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhReferenceIdeal.lean ====
abbrev S8x2048x1408 : Shape := ⟨3, ![8, 2048, 1408]⟩
abbrev S8x4096x1408 : Shape := ⟨3, ![8, 4096, 1408]⟩
abbrev S_ : Shape := ⟨0, ![]⟩
abbrev S4096x2048 : Shape := ⟨2, ![4096, 2048]⟩
abbrev S8x1408x4096 : Shape := ⟨3, ![8, 1408, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x4096x1408, .bf16⟩
  | .hbm, ⟨2, _⟩ => ⟨S_, .f32⟩
  | .hbm, ⟨3, _⟩ => ⟨S4096x2048, .f32⟩
  | .hbm, ⟨4, _⟩ => ⟨S8x2048x1408, .f32⟩
  | .hbm, ⟨5, _⟩ => ⟨S8x1408x4096, .f32⟩
  | .hbm, ⟨6, _⟩ => ⟨S8x4096x1408, .f32⟩
  | .hbm, ⟨7, _⟩ => ⟨S8x4096x1408, .f32⟩
  | .hbm, ⟨8, _⟩ => ⟨S8x1408x4096, .f32⟩
  | .hbm, ⟨9, _⟩ => ⟨S4096x2048, .f32⟩
  | .hbm, ⟨10, _⟩ => ⟨S4096x2048, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvinKernel.lean ====
abbrev S8x4096x1408 : Shape := ⟨3, ![8, 4096, 1408]⟩
abbrev S8x4x3x1408 : Shape := ⟨4, ![8, 4, 3, 1408]⟩
abbrev S1x1024x1408 : Shape := ⟨3, ![1, 1024, 1408]⟩
abbrev S1x16x1408 : Shape := ⟨3, ![1, 16, 1408]⟩
abbrev S1x1x3x1408 : Shape := ⟨4, ![1, 1, 3, 1408]⟩
abbrev S1x1024x256 : Shape := ⟨3, ![1, 1024, 256]⟩
abbrev S1024x256 : Shape := ⟨2, ![1024, 256]⟩
abbrev S1x16x256 : Shape := ⟨3, ![1, 16, 256]⟩
abbrev S16x256 : Shape := ⟨2, ![16, 256]⟩
abbrev S1x1x1x256 : Shape := ⟨4, ![1, 1, 1, 256]⟩
abbrev S1x256 : Shape := ⟨2, ![1, 256]⟩
abbrev S1040x256 : Shape := ⟨2, ![1040, 256]⟩
abbrev S1024x1 : Shape := ⟨2, ![1024, 1]⟩
abbrev S1x1024x128 : Shape := ⟨3, ![1, 1024, 128]⟩
abbrev S1024x128 : Shape := ⟨2, ![1024, 128]⟩
abbrev S1x16x128 : Shape := ⟨3, ![1, 16, 128]⟩
abbrev S16x128 : Shape := ⟨2, ![16, 128]⟩
abbrev S1x1x1x128 : Shape := ⟨4, ![1, 1, 1, 128]⟩
abbrev S1x128 : Shape := ⟨2, ![1, 128]⟩
abbrev S1040x128 : Shape := ⟨2, ![1040, 128]⟩

abbrev nBuf : Space → Nat
  | .hbm => 3
  | .vmem => 8
  | .smem => 0
  | _ => 0

abbrev bufTy : (tb : Table) → Fin (tcTables nBuf tb) → BufTy
  | .hbm, ⟨0, _⟩ => ⟨S8x4096x1408, .bf16⟩
  | .hbm, ⟨1, _⟩ => ⟨S8x4x3x1408, .f32⟩
  | .hbm, ⟨2, _⟩ => ⟨S8x4096x1408, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S1x1x3x1408, .f32⟩
  | .local _ .vmem, ⟨5, _⟩ => ⟨S1x1x3x1408, .f32⟩
  | .local _ .vmem, ⟨6, _⟩ => ⟨S1x1024x1408, .bf16⟩
  | .local _ .vmem, ⟨7, _⟩ => ⟨S1x1024x1408, .bf16⟩
  | _, _ => ⟨S8x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg1.toNat, v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvinReferenceIdeal.lean ====
abbrev S8x4096x1408 : Shape := ⟨3, ![8, 4096, 1408]⟩
abbrev S8x4x3x1408 : Shape := ⟨4, ![8, 4, 3, 1408]⟩
abbrev S_ : Shape := ⟨0, ![]⟩
abbrev S8x1x3x1408 : Shape := ⟨4, ![8, 1, 3, 1408]⟩
abbrev S8x3x1408 : Shape := ⟨3, ![8, 3, 1408]⟩
abbrev S8x2x1408 : Shape := ⟨3, ![8, 2, 1408]⟩
abbrev S8x4098x1408 : Shape := ⟨3, ![8, 4098, 1408]⟩
abbrev S8x1x1408 : Shape := ⟨3, ![8, 1, 1408]⟩
abbrev S8x1408 : Shape := ⟨2, ![8, 1408]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1408, .bf16⟩
  | .hbm, ⟨1, _⟩ => ⟨S8x4x3x1408, .f32⟩
  | .hbm, ⟨2, _⟩ => ⟨S_, .f32⟩
  | .hbm, ⟨3, _⟩ => ⟨S8x4096x1408, .f32⟩
  | .hbm, ⟨4, _⟩ => ⟨S8x1x3x1408, .f32⟩
  | .hbm, ⟨5, _⟩ => ⟨S8x3x1408, .f32⟩
  | .hbm, ⟨6, _⟩ => ⟨S_, .f32⟩
  | .hbm, ⟨7, _⟩ => ⟨S8x2x1408, .f32⟩
  | .hbm, ⟨8, _⟩ => ⟨S8x4098x1408, .f32⟩
  | .hbm, ⟨9, _⟩ => ⟨S_, .f32⟩
  | .hbm, ⟨10, _⟩ => ⟨S8x2x1408, .f32⟩
  | .hbm, ⟨11, _⟩ => ⟨S8x4096x1408, .f32⟩
  | .hbm, ⟨12, _⟩ => ⟨S8x1x1408, .f32⟩
  | .hbm, ⟨13, _⟩ => ⟨S8x1408, .f32⟩
  | .hbm, ⟨14, _⟩ => ⟨S8x1x1408, .f32⟩
  | .hbm, ⟨15, _⟩ => ⟨S8x4096x1408, .f32⟩
  | .hbm, ⟨16, _⟩ => ⟨S8x4096x1408, .f32⟩
  | .hbm, ⟨17, _⟩ => ⟨S_, .f32⟩
  | .hbm, ⟨18, _⟩ => ⟨S8x4096x1408, .f32⟩
  | .hbm, ⟨19, _⟩ => ⟨S8x4096x1408, .f32⟩
  | .hbm, ⟨20, _⟩ => ⟨S8x4096x1408, .f32⟩
  | .hbm, ⟨21, _⟩ => ⟨S8x1x1408, .f32⟩
  | .hbm, ⟨22, _⟩ => ⟨S8x1408, .f32⟩
  | .hbm, ⟨23, _⟩ => ⟨S8x1x1408, .f32⟩
  | .hbm, ⟨24, _⟩ => ⟨S8x4096x1408, .f32⟩
  | .hbm, ⟨25, _⟩ => ⟨S8x4096x1408, .f32⟩
  | .hbm, ⟨26, _⟩ => ⟨S8x4096x1408, .f32⟩
  | .hbm, ⟨27, _⟩ => ⟨S8x4096x1408, .f32⟩
  | .hbm, ⟨28, _⟩ => ⟨S8x1x1408, .f32⟩
  | .hbm, ⟨29, _⟩ => ⟨S8x1408, .f32⟩
  | .hbm, ⟨30, _⟩ => ⟨S8x1x1408, .f32⟩
  | .hbm, ⟨31, _⟩ => ⟨S8x4096x1408, .f32⟩
  | .hbm, ⟨32, _⟩ => ⟨S8x4096x1408, .f32⟩
  | .hbm, ⟨33, _⟩ => ⟨S8x4096x1408, .f32⟩
  | .hbm, ⟨34, _⟩ => ⟨S8x4096x1408, .f32⟩
  | .hbm, ⟨35, _⟩ => ⟨S8x4096x1408, .f32⟩
  | .hbm, ⟨36, _⟩ => ⟨S8x4096x1408, .f32⟩
  | .hbm, ⟨37, _⟩ => ⟨S_, .f32⟩
  | .hbm, ⟨38, _⟩ => ⟨S8x4098x1408, .f32⟩
  | .hbm, ⟨39, _⟩ => ⟨S8x4096x1408, .f32⟩
  | .hbm, ⟨40, _⟩ => ⟨S8x4096x1408, .f32⟩
  | .hbm, ⟨41, _⟩ => ⟨S_, .f32⟩
  | .hbm, ⟨42, _⟩ => ⟨S8x4098x1408, .f32⟩
  | .hbm, ⟨43, _⟩ => ⟨S8x4098x1408, .f32⟩
  | .hbm, ⟨44, _⟩ => ⟨S8x4096x1408, .f32⟩
  | .hbm, ⟨45, _⟩ => ⟨S8x4096x1408, .f32⟩
  | .hbm, ⟨46, _⟩ => ⟨S_, .f32⟩
  | .hbm, ⟨47, _⟩ => ⟨S8x4098x1408, .f32⟩
  | .hbm, ⟨48, _⟩ => ⟨S8x4098x1408, .f32⟩
  | .hbm, ⟨49, _⟩ => ⟨S8x2x1408, .f32⟩
  | .hbm, ⟨50, _⟩ => ⟨S8x4096x1408, .f32⟩
  | .hbm, ⟨51, _⟩ => ⟨S8x4096x1408, .bf16⟩
  | _, _ => ⟨S8x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== NormKernel.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MixKernel.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwoutKernel.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhaKernel.lean ====
abbrev S2048x3584 : Shape := ⟨2, ![2048, 3584]⟩
abbrev S4096x3584 : Shape := ⟨2, ![4096, 3584]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3584, .bf16⟩
  | .hbm, ⟨1, _⟩ => ⟨S4096x3584, .bf16⟩
  | .hbm, ⟨2, _⟩ => ⟨S4096x2048, .bf16⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .bf16⟩
  | .local _ .vmem, ⟨5, _⟩ => ⟨S1024x1024, .bf16⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhaReferenceIdeal.lean ====
abbrev S2048x3584 : Shape := ⟨2, ![2048, 3584]⟩
abbrev S4096x3584 : Shape := ⟨2, ![4096, 3584]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S4096x3584, .bf16⟩
  | .hbm, ⟨2, _⟩ => ⟨S_, .f32⟩
  | .hbm, ⟨3, _⟩ => ⟨S4096x2048, .f32⟩
  | .hbm, ⟨4, _⟩ => ⟨S2048x3584, .f32⟩
  | .hbm, ⟨5, _⟩ => ⟨S4096x3584, .f32⟩
  | .hbm, ⟨6, _⟩ => ⟨S4096x3584, .f32⟩
  | .hbm, ⟨7, _⟩ => ⟨S4096x2048, .f32⟩
  | .hbm, ⟨8, _⟩ => ⟨S4096x2048, .bf16⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwinaKernel.lean ====
abbrev S4096x2048 : Shape := ⟨2, ![4096, 2048]⟩
abbrev S4096x3584 : Shape := ⟨2, ![4096, 3584]⟩
abbrev S2048x3584 : Shape := ⟨2, ![2048, 3584]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S2048x3584, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinaReferenceIdeal.lean ====
abbrev S4096x2048 : Shape := ⟨2, ![4096, 2048]⟩
abbrev S4096x3584 : Shape := ⟨2, ![4096, 3584]⟩
abbrev S_ : Shape := ⟨0, ![]⟩
abbrev S2048x3584 : Shape := ⟨2, ![2048, 3584]⟩
abbrev S3584x2048 : Shape := ⟨2, ![3584, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S_, .f32⟩
  | .hbm, ⟨3, _⟩ => ⟨S2048x3584, .f32⟩
  | .hbm, ⟨4, _⟩ => ⟨S4096x2048, .f32⟩
  | .hbm, ⟨5, _⟩ => ⟨S4096x3584, .f32⟩
  | .hbm, ⟨6, _⟩ => ⟨S4096x3584, .f32⟩
  | .hbm, ⟨7, _⟩ => ⟨S3584x2048, .f32⟩
  | .hbm, ⟨8, _⟩ => ⟨S2048x3584, .f32⟩
  | .hbm, ⟨9, _⟩ => ⟨S2048x3584, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FupKernel.lean ====
abbrev S4096x2048 : Shape := ⟨2, ![4096, 2048]⟩
abbrev S8x2048x1408 : Shape := ⟨3, ![8, 2048, 1408]⟩
abbrev S8x4096x1408 : Shape := ⟨3, ![8, 4096, 1408]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S8x4096x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FupReferenceIdeal.lean ====
abbrev S4096x2048 : Shape := ⟨2, ![4096, 2048]⟩
abbrev S8x2048x1408 : Shape := ⟨3, ![8, 2048, 1408]⟩
abbrev S8x1408x4096 : Shape := ⟨3, ![8, 1408, 4096]⟩
abbrev S8x4096x1408 : Shape := ⟨3, ![8, 4096, 1408]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S8x1408x4096, .f32⟩
  | .hbm, ⟨5, _⟩ => ⟨S8x4096x1408, .f32⟩
  | .hbm, ⟨6, _⟩ => ⟨S8x4096x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FdownKernel.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FdownReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FoutKernel.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoutReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FinaKernel.lean ====
abbrev S4096x2048 : Shape := ⟨2, ![4096, 2048]⟩
abbrev S2048x3584 : Shape := ⟨2, ![2048, 3584]⟩
abbrev S4096x3584 : Shape := ⟨2, ![4096, 3584]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S4096x3584, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FinaReferenceIdeal.lean ====
abbrev S4096x2048 : Shape := ⟨2, ![4096, 2048]⟩
abbrev S2048x3584 : Shape := ⟨2, ![2048, 3584]⟩
abbrev S4096x3584 : Shape := ⟨2, ![4096, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S4096x2048, .f32⟩
  | .hbm, ⟨3, _⟩ => ⟨S2048x3584, .f32⟩
  | .hbm, ⟨4, _⟩ => ⟨S4096x3584, .f32⟩
  | .hbm, ⟨5, _⟩ => ⟨S4096x3584, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DhbKernel.lean ====
abbrev S2048x1024 : Shape := ⟨2, ![2048, 1024]⟩
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhbReferenceIdeal.lean ====
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwinbKernel.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinbReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MhafKernel.lean ====
abbrev S12x4096x192 : Shape := ⟨3, ![12, 4096, 192]⟩
abbrev S4096x1536 : Shape := ⟨2, ![4096, 1536]⟩
abbrev S12x4096x1 : Shape := ⟨3, ![12, 4096, 1]⟩
abbrev S1x1024x192 : Shape := ⟨3, ![1, 1024, 192]⟩
abbrev S1x4096x192 : Shape := ⟨3, ![1, 4096, 192]⟩
abbrev S4096x128 : Shape := ⟨2, ![4096, 128]⟩
abbrev S1024x128 : Shape := ⟨2, ![1024, 128]⟩
abbrev S1x1024x1 : Shape := ⟨3, ![1, 1024, 1]⟩
abbrev S1024x1 : Shape := ⟨2, ![1024, 1]⟩
abbrev S1024x192 : Shape := ⟨2, ![1024, 192]⟩
abbrev S1024x1024 : Shape := ⟨2, ![1024, 1024]⟩
abbrev S1024 : Shape := ⟨1, ![1024]⟩

abbrev nBuf : Space → Nat
  | .hbm => 5
  | .vmem => 13
  | .smem => 0
  | _ => 0

abbrev bufTy : (tb : Table) → Fin (tcTables nBuf tb) → BufTy
  | .hbm, ⟨0, _⟩ => ⟨S12x4096x192, .bf16⟩
  | .hbm, ⟨1, _⟩ => ⟨S12x4096x192, .bf16⟩
  | .hbm, ⟨2, _⟩ => ⟨S4096x1536, .bf16⟩
  | .hbm, ⟨3, _⟩ => ⟨S4096x1536, .bf16⟩
  | .hbm, ⟨4, _⟩ => ⟨S12x4096x1, .f32⟩
  | .local _ .vmem, ⟨0, _⟩ => ⟨S1x1024x192, .bf16⟩
  | .local _ .vmem, ⟨1, _⟩ => ⟨S1x1024x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S12x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

@[reducible] def k0_t1_loop (i : grid0.Coords) : Scf.Loop 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c1024_i32_45 : BitVec 32 := 1024#32
  let v75 : BitVec 32 := Scalar.muli arg10 c1024_i32_45
  v75
def k0_off1 (i : grid0.Coords) (k0_t1 : Fin (k0_t1_loop i).trips) : Fin 3 → Nat :=
  let c0_46 : Index := 0#32
  let c0_i32_10 : BitVec 32 := 0#32
  let c1_i32_11 : BitVec 32 := 1#32
  let arg10 : BitVec 32 := Scf.iv c0_i32_10 c1_i32_11 k0_t1
  let c1024_i32_45 : BitVec 32 := 1024#32
  let v75 : BitVec 32 := Scalar.muli arg10 c1024_i32_45
  let v76 : BitVec 32 := v75
  let v77 : Index := Scalar.indexCast v76
  let c0_47 : Index := 0#32
  ![0, v77.toNat, 0]
def k0_off2 (i : grid0.Coords) (k0_t1 : Fin (k0_t1_loop i).trips) : Fin 2 → Nat :=
  let c0_i32_10 : BitVec 32 := 0#32
  let c1_i32_11 : BitVec 32 := 1#32
  let arg10 : BitVec 32 := Scf.iv c0_i32_10 c1_i32_11 k0_t1
  let c1024_i32_45 : BitVec 32 := 1024#32
  let v75 : BitVec 32 := Scalar.muli arg10 c1024_i32_45
  let v76 : BitVec 32 := v75
  let v80 : Index := Scalar.indexCast v76
  let c0_48 : Index := 0#32
  ![v80.toNat, 0]
@[reducible] def k0_t2_loop (i : grid0.Coords) : Scf.Loop 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c1024_i32_45 : BitVec 32 := 1024#32
  let v75 : BitVec 32 := Scalar.muli arg10 c1024_i32_45
  v75
def k0_off3 (i : grid0.Coords) (k0_t2 : Fin (k0_t2_loop i).trips) : Fin 3 → Nat :=
  let c0_46 : Index := 0#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c1024_i32_45 : BitVec 32 := 1024#32
  let v75 : BitVec 32 := Scalar.muli arg10 c1024_i32_45
  let v76 : BitVec 32 := v75
  let v77 : Index := Scalar.indexCast v76
  let c0_47 : Index := 0#32
  ![0, v77.toNat, 0]
def k0_off4 (i : grid0.Coords) (k0_t2 : Fin (k0_t2_loop i).trips) : Fin 2 → Nat :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c1024_i32_45 : BitVec 32 := 1024#32
  let v75 : BitVec 32 := Scalar.muli arg10 c1024_i32_45
  let v76 : BitVec 32 := v75
  let v80 : Index := Scalar.indexCast v76
  let c0_48 : Index := 0#32
  ![v80.toNat, 0]
def k0_mult3 (i : grid0.Coords) : BitVec 32 :=
  let arg1 : BitVec 32 := BitVec.ofNat 32 (i 1).val
  let c1024_i32 : BitVec 32 := 1024#32
  let v19 : BitVec 32 := Scalar.muli arg1 c1024_i32
  v19
def k0_off5 (i : grid0.Coords) : Fin 3 → Nat :=
  let c0_13 : Index := 0#32
  let arg1 : BitVec 32 := BitVec.ofNat 32 (i 1).val
  let c1024_i32 : BitVec 32 := 1024#32
  let v19 : BitVec 32 := Scalar.muli arg1 c1024_i32
  let v20 : BitVec 32 := v19
  let v21 : Index := Scalar.indexCast v20
  let c0_14 : Index := 0#32
  ![0, v21.toNat, 0]
def k0_off6 (i : grid0.Coords) : Fin 2 → Nat :=
  let arg1 : BitVec 32 := BitVec.ofNat 32 (i 1).val
  let c1024_i32 : BitVec 32 := 1024#32
  let v19 : BitVec 32 := Scalar.muli arg1 c1024_i32
  let v20 : BitVec 32 := v19
  let v24 : Index := Scalar.indexCast v20
  let c0_15 : Index := 0#32
  ![v24.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MhafKernelIdeal.lean ====
variable {F : FTy → Type} [FloatOps F] [Named F]
def κ : String → Option EReal := fun
  | "mask" => some ⊥
  | _ => none
-- ==== MhafReferenceIdeal.lean ====
abbrev S12x4096x192 : Shape := ⟨3, ![12, 4096, 192]⟩
abbrev S4096x1536 : Shape := ⟨2, ![4096, 1536]⟩
abbrev S12x4096x4096 : Shape := ⟨3, ![12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x4096 : Shape := ⟨2, ![12, 4096]⟩
abbrev S12x4096x1 : Shape := ⟨3, ![12, 4096, 1]⟩
abbrev S4096x12x128 : Shape := ⟨3, ![4096, 12, 128]⟩
abbrev S12x128x4096 : Shape := ⟨3, ![12, 128, 4096]⟩

abbrev nBuf : Space → Nat
  | .hbm => 51
  | .vmem => 0
  | .smem => 0
  | _ => 0

abbrev bufTy : (tb : Table) → Fin (tcTables nBuf tb) → BufTy
  | .hbm, ⟨0, _⟩ => ⟨S12x4096x192, .bf16⟩
  | .hbm, ⟨1, _⟩ => ⟨S12x4096x192, .bf16⟩
  | .hbm, ⟨2, _⟩ => ⟨S4096x1536, .bf16⟩
  | .hbm, ⟨3, _⟩ => ⟨S12x4096x192, .f32⟩
  | .hbm, ⟨4, _⟩ => ⟨S12x4096x192, .f32⟩
  | .hbm, ⟨5, _⟩ => ⟨S4096x1536, .f32⟩
  | .hbm, ⟨6, _⟩ => ⟨S12x4096x4096, .f32⟩
  | .hbm, ⟨7, _⟩ => ⟨S_, .f32⟩
  | .hbm, ⟨8, _⟩ => ⟨S12x4096x4096, .f32⟩
  | .hbm, ⟨9, _⟩ => ⟨S12x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S12x4096x4096, .i1⟩
  | .hbm, ⟨19, _⟩ => ⟨S12x4096x4096, .f32⟩
  | .hbm, ⟨20, _⟩ => ⟨S12x4096x4096, .f32⟩
  | .hbm, ⟨21, _⟩ => ⟨S_, .f32⟩
  | .hbm, ⟨22, _⟩ => ⟨S12x4096, .f32⟩
  | .hbm, ⟨23, _⟩ => ⟨S_, .f32⟩
  | .hbm, ⟨24, _⟩ => ⟨S12x4096, .f32⟩
  | .hbm, ⟨25, _⟩ => ⟨S12x4096, .f32⟩
  | .hbm, ⟨26, _⟩ => ⟨S12x4096x1, .f32⟩
  | .hbm, ⟨27, _⟩ => ⟨S12x4096x4096, .f32⟩
  | .hbm, ⟨28, _⟩ => ⟨S12x4096x4096, .f32⟩
  | .hbm, ⟨29, _⟩ => ⟨S12x4096x4096, .f32⟩
  | .hbm, ⟨30, _⟩ => ⟨S_, .f32⟩
  | .hbm, ⟨31, _⟩ => ⟨S12x4096, .f32⟩
  | .hbm, ⟨32, _⟩ => ⟨S12x4096x1, .f32⟩
  | .hbm, ⟨33, _⟩ => ⟨S12x4096x4096, .f32⟩
  | .hbm, ⟨34, _⟩ => ⟨S12x4096x4096, .f32⟩
  | .hbm, ⟨35, _⟩ => ⟨S4096x12x128, .f32⟩
  | .hbm, ⟨36, _⟩ => ⟨S12x128x4096, .f32⟩
  | .hbm, ⟨37, _⟩ => ⟨S4096x12x128, .f32⟩
  | .hbm, ⟨38, _⟩ => ⟨S4096x1536, .f32⟩
  | .hbm, ⟨39, _⟩ => ⟨S_, .f32⟩
  | .hbm, ⟨40, _⟩ => ⟨S12x4096, .f32⟩
  | .hbm, ⟨41, _⟩ => ⟨S12x4096x1, .f32⟩
  | .hbm, ⟨42, _⟩ => ⟨S12x4096x4096, .f32⟩
  | .hbm, ⟨43, _⟩ => ⟨S12x4096x4096, .f32⟩
  | .hbm, ⟨44, _⟩ => ⟨S12x4096x4096, .f32⟩
  | .hbm, ⟨45, _⟩ => ⟨S_, .f32⟩
  | .hbm, ⟨46, _⟩ => ⟨S12x4096, .f32⟩
  | .hbm, ⟨47, _⟩ => ⟨S12x4096x1, .f32⟩
  | .hbm, ⟨48, _⟩ => ⟨S12x4096x1, .f32⟩
  | .hbm, ⟨49, _⟩ => ⟨S12x4096x1, .f32⟩
  | .hbm, ⟨50, _⟩ => ⟨S4096x1536, .bf16⟩
  | _, _ => ⟨S12x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== SguKernel.lean ====
abbrev S4096x3584 : Shape := ⟨2, ![4096, 3584]⟩
abbrev S4096x2048 : Shape := ⟨2, ![4096, 2048]⟩
abbrev S4096x512 : Shape := ⟨2, ![4096, 512]⟩
abbrev S1536 : Shape := ⟨1, ![1536]⟩
abbrev S12x128x128 : Shape := ⟨3, ![12, 128, 128]⟩
abbrev S12x128 : Shape := ⟨2, ![12, 128]⟩
abbrev S128x12 : Shape := ⟨2, ![128, 12]⟩
abbrev S1x1536 : Shape := ⟨2, ![1, 1536]⟩
abbrev S128x1536 : Shape := ⟨2, ![128, 1536]⟩
abbrev S128x512 : Shape := ⟨2, ![128, 512]⟩
abbrev S128x3584 : Shape := ⟨2, ![128, 3584]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 12
  | .vmem => 16
  | .smem => 0
  | _ => 0

abbrev bufTy : (tb : Table) → Fin (tcTables nBuf tb) → BufTy
  | .hbm, ⟨0, _⟩ => ⟨S4096x3584, .bf16⟩
  | .hbm, ⟨1, _⟩ => ⟨S4096x2048, .bf16⟩
  | .hbm, ⟨2, _⟩ => ⟨S4096x512, .bf16⟩
  | .hbm, ⟨3, _⟩ => ⟨S1536, .f32⟩
  | .hbm, ⟨4, _⟩ => ⟨S12x128x128, .f32⟩
  | .hbm, ⟨5, _⟩ => ⟨S12x128, .f32⟩
  | .hbm, ⟨6, _⟩ => ⟨S128x12, .f32⟩
  | .hbm, ⟨7, _⟩ => ⟨S1x1536, .f32⟩
  | .hbm, ⟨8, _⟩ => ⟨S4096x3584, .bf16⟩
  | .hbm, ⟨9, _⟩ => ⟨S12x128x128, .f32⟩
  | .hbm, ⟨10, _⟩ => ⟨S128x12, .f32⟩
  | .hbm, ⟨11, _⟩ => ⟨S1x1536, .f32⟩
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S128x512, .bf16⟩
  | .local _ .vmem, ⟨7, _⟩ => ⟨S128x512, .bf16⟩
  | .local _ .vmem, ⟨8, _⟩ => ⟨S1x1536, .f32⟩
  | .local _ .vmem, ⟨9, _⟩ => ⟨S12x128x128, .f32⟩
  | .local _ .vmem, ⟨10, _⟩ => ⟨S128x12, .f32⟩
  | .local _ .vmem, ⟨11, _⟩ => ⟨S128x3584, .bf16⟩
  | .local _ .vmem, ⟨12, _⟩ => ⟨S128x3584, .bf16⟩
  | .local _ .vmem, ⟨13, _⟩ => ⟨S12x128x128, .f32⟩
  | .local _ .vmem, ⟨14, _⟩ => ⟨S128x12, .f32⟩
  | .local _ .vmem, ⟨15, _⟩ => ⟨S1x1536, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguKernelIdeal.lean ====
variable {F : FTy → Type} [FloatOps F] [Named F]
def κ : String → Option EReal := fun
  | "half_root" => some (((Real.sqrt 2)⁻¹ : ℝ) : EReal)
  | "normal" => some (((Real.sqrt (2 * Real.pi))⁻¹ : ℝ) : EReal)
  | _ => none
-- ==== SguReferenceIdeal.lean ====
abbrev S4096x3584 : Shape := ⟨2, ![4096, 3584]⟩
abbrev S4096x2048 : Shape := ⟨2, ![4096, 2048]⟩
abbrev S4096x512 : Shape := ⟨2, ![4096, 512]⟩
abbrev S1536 : Shape := ⟨1, ![1536]⟩
abbrev S12x128x128 : Shape := ⟨3, ![12, 128, 128]⟩
abbrev S12x128 : Shape := ⟨2, ![12, 128]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1536 : Shape := ⟨2, ![1, 1536]⟩
abbrev S32x128x12x128 : Shape := ⟨4, ![32, 128, 12, 128]⟩
abbrev S128x128 : Shape := ⟨2, ![128, 128]⟩
abbrev S1x128x128 : Shape := ⟨3, ![1, 128, 128]⟩
abbrev S12x32x128x128 : Shape := ⟨4, ![12, 32, 128, 128]⟩
abbrev S128x12 : Shape := ⟨2, ![128, 12]⟩
abbrev S1x128x12x1 : Shape := ⟨4, ![1, 128, 12, 1]⟩

abbrev nBuf : Space → Nat
  | .hbm => 176
  | .vmem => 0
  | .smem => 0
  | _ => 0

abbrev hbmTy0_0 (i : Nat) : BufTy := match i % 128 with
  | 0 => ⟨S4096x3584, .bf16⟩
  | 1 => ⟨S4096x2048, .bf16⟩
  | 2 => ⟨S4096x512, .bf16⟩
  | 3 => ⟨S1536, .f32⟩
  | 4 => ⟨S12x128x128, .f32⟩
  | 5 => ⟨S12x128, .f32⟩
  | 6 => ⟨S4096x3584, .f32⟩
  | 7 => ⟨S4096x1536, .f32⟩
  | 8 => ⟨S4096x1536, .f32⟩
  | 9 => ⟨S_, .f32⟩
  | 10 => ⟨S_, .f32⟩
  | 11 => ⟨S4096x1536, .f32⟩
  | 12 => ⟨S4096x1536, .f32⟩
  | 13 => ⟨S4096x1536, .f32⟩
  | 14 => ⟨S_, .f32⟩
  | 15 => ⟨S4096x1536, .f32⟩
  | 16 => ⟨S4096x1536, .f32⟩
  | 17 => ⟨S_, .f32⟩
  | 18 => ⟨S4096x1536, .f32⟩
  | 19 => ⟨S4096x1536, .f32⟩
  | 20 => ⟨S4096x1536, .f32⟩
  | 21 => ⟨S_, .f32⟩
  | 22 => ⟨S_, .f32⟩
  | 23 => ⟨S4096x1536, .f32⟩
  | 24 => ⟨S4096x1536, .f32⟩
  | 25 => ⟨S4096x1536, .f32⟩
  | 26 => ⟨S_, .f32⟩
  | 27 => ⟨S4096x1536, .f32⟩
  | 28 => ⟨S4096x1536, .f32⟩
  | 29 => ⟨S_, .f32⟩
  | 30 => ⟨S4096x1536, .f32⟩
  | 31 => ⟨S4096x1536, .f32⟩
  | 32 => ⟨S_, .f32⟩
  | 33 => ⟨S4096x1536, .f32⟩
  | 34 => ⟨S4096x1536, .f32⟩
  | 35 => ⟨S4096x1536, .f32⟩
  | 36 => ⟨S4096x1536, .f32⟩
  | 37 => ⟨S_, .f32⟩
  | 38 => ⟨S_, .f32⟩
  | 39 => ⟨S_, .f32⟩
  | 40 => ⟨S_, .f32⟩
  | 41 => ⟨S_, .f32⟩
  | 42 => ⟨S4096x1536, .f32⟩
  | 43 => ⟨S4096x1536, .f32⟩
  | 44 => ⟨S4096x1536, .f32⟩
  | 45 => ⟨S4096x1536, .f32⟩
  | 46 => ⟨S_, .f32⟩
  | 47 => ⟨S_, .f32⟩
  | 48 => ⟨S4096x1536, .f32⟩
  | 49 => ⟨S4096x1536, .f32⟩
  | 50 => ⟨S4096x1536, .f32⟩
  | 51 => ⟨S_, .f32⟩
  | 52 => ⟨S4096x1536, .f32⟩
  | 53 => ⟨S4096x1536, .f32⟩
  | 54 => ⟨S_, .f32⟩
  | 55 => ⟨S4096x1536, .f32⟩
  | 56 => ⟨S4096x1536, .f32⟩
  | 57 => ⟨S4096x1536, .f32⟩
  | 58 => ⟨S_, .f32⟩
  | 59 => ⟨S_, .f32⟩
  | 60 => ⟨S4096x1536, .f32⟩
  | 61 => ⟨S4096x1536, .f32⟩
  | 62 => ⟨S4096x1536, .f32⟩
  | 63 => ⟨S_, .f32⟩
  | 64 => ⟨S4096x1536, .f32⟩
  | 65 => ⟨S4096x1536, .f32⟩
  | 66 => ⟨S_, .f32⟩
  | 67 => ⟨S4096x1536, .f32⟩
  | 68 => ⟨S4096x1536, .f32⟩
  | 69 => ⟨S_, .f32⟩
  | 70 => ⟨S4096x1536, .f32⟩
  | 71 => ⟨S4096x1536, .f32⟩
  | 72 => ⟨S4096x1536, .f32⟩
  | 73 => ⟨S4096x1536, .f32⟩
  | 74 => ⟨S_, .f32⟩
  | 75 => ⟨S_, .f32⟩
  | 76 => ⟨S_, .f32⟩
  | 77 => ⟨S_, .f32⟩
  | 78 => ⟨S_, .f32⟩
  | 79 => ⟨S4096x1536, .f32⟩
  | 80 => ⟨S4096x1536, .f32⟩
  | 81 => ⟨S4096x1536, .f32⟩
  | 82 => ⟨S4096x1536, .f32⟩
  | 83 => ⟨S4096x1536, .f32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x1536, .f32⟩
  | 99 => ⟨S4096x1536, .f32⟩
  | 100 => ⟨S1x1536, .f32⟩
  | 101 => ⟨S4096x1536, .f32⟩
  | 102 => ⟨S4096x1536, .f32⟩
  | 103 => ⟨S32x128x12x128, .f32⟩
  | 104 => ⟨S_, .f32⟩
  | 105 => ⟨S128x128, .f32⟩
  | 106 => ⟨S128x128, .i32⟩
  | 107 => ⟨S_, .i32⟩
  | 108 => ⟨S128x128, .i32⟩
  | 109 => ⟨S128x128, .i32⟩
  | 110 => ⟨S128x128, .i32⟩
  | 111 => ⟨S128x128, .i1⟩
  | 112 => ⟨S_, .f32⟩
  | 113 => ⟨S128x128, .f32⟩
  | 114 => ⟨S128x128, .f32⟩
  | 115 => ⟨S1x128x128, .f32⟩
  | 116 => ⟨S12x128x128, .f32⟩
  | 117 => ⟨S12x128x128, .f32⟩
  | 118 => ⟨S12x32x128x128, .f32⟩
  | 119 => ⟨S32x128x12x128, .f32⟩
  | 120 => ⟨S128x12, .f32⟩
  | 121 => ⟨S1x128x12x1, .f32⟩
  | 122 => ⟨S32x128x12x128, .f32⟩
  | 123 => ⟨S32x128x12x128, .f32⟩
  | 124 => ⟨S4096x1536, .f32⟩
  | 125 => ⟨S4096x1536, .f32⟩
  | 126 => ⟨S4096x1536, .bf16⟩
  | 127 => ⟨S4096x1536, .f32⟩
  | _ => ⟨S4096x3584, .bf16⟩

abbrev hbmTy0_1 (i : Nat) : BufTy := match i % 128 with
  | 0 => ⟨S4096x1536, .f32⟩
  | 1 => ⟨S4096x1536, .f32⟩
  | 2 => ⟨S32x128x12x128, .f32⟩
  | 3 => ⟨S_, .f32⟩
  | 4 => ⟨S128x12, .f32⟩
  | 5 => ⟨S1x128x12x1, .f32⟩
  | 6 => ⟨S_, .f32⟩
  | 7 => ⟨S128x12, .f32⟩
  | 8 => ⟨S12x128, .f32⟩
  | 9 => ⟨S12x32x128x128, .f32⟩
  | 10 => ⟨S12x128x128, .f32⟩
  | 11 => ⟨S12x32x128x128, .f32⟩
  | 12 => ⟨S32x128x12x128, .f32⟩
  | 13 => ⟨S12x128x128, .f32⟩
  | 14 => ⟨S12x128x128, .f32⟩
  | 15 => ⟨S4096x1536, .f32⟩
  | 16 => ⟨S4096x1536, .f32⟩
  | 17 => ⟨S_, .f32⟩
  | 18 => ⟨S1536, .f32⟩
  | 19 => ⟨S1x1536, .f32⟩
  | 20 => ⟨S4096x1536, .f32⟩
  | 21 => ⟨S4096x1536, .f32⟩
  | 22 => ⟨S_, .f32⟩
  | 23 => ⟨S1536, .f32⟩
  | 24 => ⟨S4096x1536, .f32⟩
  | 25 => ⟨S_, .f32⟩
  | 26 => ⟨S4096, .f32⟩
  | 27 => ⟨S4096x1, .f32⟩
  | 28 => ⟨S4096x1536, .f32⟩
  | 29 => ⟨S4096x1536, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x1536, .f32⟩
  | 37 => ⟨S4096x1536, .f32⟩
  | 38 => ⟨S4096x1536, .f32⟩
  | 39 => ⟨S4096x1536, .f32⟩
  | 40 => ⟨S4096x1536, .f32⟩
  | 41 => ⟨S4096x1536, .f32⟩
  | 42 => ⟨S4096x1536, .f32⟩
  | 43 => ⟨S4096x512, .f32⟩
  | 44 => ⟨S4096x3584, .f32⟩
  | 45 => ⟨S4096x3584, .bf16⟩
  | 46 => ⟨S128x12, .f32⟩
  | 47 => ⟨S1x1536, .f32⟩
  | _ => ⟨S4096x3584, .bf16⟩

abbrev hbmTy (i : Nat) : BufTy := match i / 128 with
  | 0 => hbmTy0_0 i
  | 1 => hbmTy0_1 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_21 : Ref sig .tc := ⟨.hbm, 104, rfl⟩
abbrev main_v76 : Ref sig .tc := ⟨.hbm, 105, rfl⟩
abbrev main_call0_v0 : Ref sig .tc := ⟨.hbm, 106, rfl⟩
abbrev main_call0_c : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_cst : Ref sig .tc := ⟨.hbm, 112, rfl⟩
abbrev main_call0_v5 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_cst_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_27 : Ref sig .tc := ⟨.hbm, 159, rfl⟩
abbrev main_v117 : Ref sig .tc := ⟨.hbm, 160, rfl⟩
abbrev main_v118 : Ref sig .tc := ⟨.hbm, 161, rfl⟩
abbrev main_cst_28 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]
-- ==== FsguKernel.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S128x12 : Shape := ⟨2, ![128, 12]⟩
abbrev S1x1536 : Shape := ⟨2, ![1, 1536]⟩
abbrev S4096x1536 : Shape := ⟨2, ![4096, 1536]⟩
abbrev S128x1536 : Shape := ⟨2, ![128, 1536]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 7
  | .vmem => 9
  | .smem => 0
  | _ => 0

abbrev bufTy : (tb : Table) → Fin (tcTables nBuf tb) → BufTy
  | .hbm, ⟨0, _⟩ => ⟨S4096x3584, .bf16⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S128x12, .f32⟩
  | .hbm, ⟨5, _⟩ => ⟨S1x1536, .f32⟩
  | .hbm, ⟨6, _⟩ => ⟨S4096x1536, .bf16⟩
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S1x1536, .f32⟩
  | .local _ .vmem, ⟨5, _⟩ => ⟨S12x128x128, .f32⟩
  | .local _ .vmem, ⟨6, _⟩ => ⟨S128x12, .f32⟩
  | .local _ .vmem, ⟨7, _⟩ => ⟨S128x1536, .bf16⟩
  | .local _ .vmem, ⟨8, _⟩ => ⟨S128x1536, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FsguKernelIdeal.lean ====
variable {F : FTy → Type} [FloatOps F] [Named F]
def κ : String → Option EReal := fun
  | "half_root" => some (((Real.sqrt 2)⁻¹ : ℝ) : EReal)
  | _ => none
-- ==== FsguReferenceIdeal.lean ====
abbrev S4096x3584 : Shape := ⟨2, ![4096, 3584]⟩
abbrev S1536 : Shape := ⟨1, ![1536]⟩
abbrev S12x128x128 : Shape := ⟨3, ![12, 128, 128]⟩
abbrev S12x128 : Shape := ⟨2, ![12, 128]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1536 : Shape := ⟨2, ![1, 1536]⟩
abbrev S32x128x12x128 : Shape := ⟨4, ![32, 128, 12, 128]⟩
abbrev S128x128 : Shape := ⟨2, ![128, 128]⟩
abbrev S1x128x128 : Shape := ⟨3, ![1, 128, 128]⟩
abbrev S12x32x128x128 : Shape := ⟨4, ![12, 32, 128, 128]⟩
abbrev S128x12 : Shape := ⟨2, ![128, 12]⟩
abbrev S1x128x12x1 : Shape := ⟨4, ![1, 128, 12, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S4096x3584, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S_, .f32⟩
  | .hbm, ⟨9, _⟩ => ⟨S4096x1536, .f32⟩
  | .hbm, ⟨10, _⟩ => ⟨S4096x1536, .f32⟩
  | .hbm, ⟨11, _⟩ => ⟨S4096x1536, .f32⟩
  | .hbm, ⟨12, _⟩ => ⟨S_, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S_, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S_, .f32⟩
  | .hbm, ⟨25, _⟩ => ⟨S4096x1536, .f32⟩
  | .hbm, ⟨26, _⟩ => ⟨S4096x1536, .f32⟩
  | .hbm, ⟨27, _⟩ => ⟨S_, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1536, .f32⟩
  | .hbm, ⟨43, _⟩ => ⟨S4096x1536, .f32⟩
  | .hbm, ⟨44, _⟩ => ⟨S1x1536, .f32⟩
  | .hbm, ⟨45, _⟩ => ⟨S4096x1536, .f32⟩
  | .hbm, ⟨46, _⟩ => ⟨S4096x1536, .f32⟩
  | .hbm, ⟨47, _⟩ => ⟨S32x128x12x128, .f32⟩
  | .hbm, ⟨48, _⟩ => ⟨S_, .f32⟩
  | .hbm, ⟨49, _⟩ => ⟨S128x128, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S1x128x128, .f32⟩
  | .hbm, ⟨60, _⟩ => ⟨S12x128x128, .f32⟩
  | .hbm, ⟨61, _⟩ => ⟨S12x128x128, .f32⟩
  | .hbm, ⟨62, _⟩ => ⟨S12x32x128x128, .f32⟩
  | .hbm, ⟨63, _⟩ => ⟨S32x128x12x128, .f32⟩
  | .hbm, ⟨64, _⟩ => ⟨S128x12, .f32⟩
  | .hbm, ⟨65, _⟩ => ⟨S1x128x12x1, .f32⟩
  | .hbm, ⟨66, _⟩ => ⟨S32x128x12x128, .f32⟩
  | .hbm, ⟨67, _⟩ => ⟨S32x128x12x128, .f32⟩
  | .hbm, ⟨68, _⟩ => ⟨S4096x1536, .f32⟩
  | .hbm, ⟨69, _⟩ => ⟨S4096x1536, .f32⟩
  | .hbm, ⟨70, _⟩ => ⟨S4096x1536, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_cst : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== FmemKernel.lean ====
abbrev S4096x3584 : Shape := ⟨2, ![4096, 3584]⟩
abbrev S256x1024 : Shape := ⟨2, ![256, 1024]⟩
abbrev S4096x1536 : Shape := ⟨2, ![4096, 1536]⟩
abbrev S4096x2048 : Shape := ⟨2, ![4096, 2048]⟩
abbrev S512x512 : Shape := ⟨2, ![512, 512]⟩
abbrev S512x1536 : Shape := ⟨2, ![512, 1536]⟩
abbrev S512x2048 : Shape := ⟨2, ![512, 2048]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S256x1024, .bf16⟩
  | .hbm, ⟨2, _⟩ => ⟨S4096x1536, .bf16⟩
  | .hbm, ⟨3, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x1536, .bf16⟩
  | .local _ .vmem, ⟨4, _⟩ => ⟨S512x1536, .bf16⟩
  | .local _ .vmem, ⟨5, _⟩ => ⟨S512x2048, .bf16⟩
  | .local _ .vmem, ⟨6, _⟩ => ⟨S512x2048, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FmemReferenceIdeal.lean ====
abbrev S4096x3584 : Shape := ⟨2, ![4096, 3584]⟩
abbrev S256x1024 : Shape := ⟨2, ![256, 1024]⟩
abbrev S4096x1536 : Shape := ⟨2, ![4096, 1536]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096x2048 : Shape := ⟨2, ![4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S256x1024, .bf16⟩
  | .hbm, ⟨2, _⟩ => ⟨S4096x1536, .bf16⟩
  | .hbm, ⟨3, _⟩ => ⟨S4096x512, .bf16⟩
  | .hbm, ⟨4, _⟩ => ⟨S4096x512, .f32⟩
  | .hbm, ⟨5, _⟩ => ⟨S256x1024, .f32⟩
  | .hbm, ⟨6, _⟩ => ⟨S4096x4x128, .f32⟩
  | .hbm, ⟨7, _⟩ => ⟨S256x512, .f32⟩
  | .hbm, ⟨8, _⟩ => ⟨S256x4x128, .f32⟩
  | .hbm, ⟨9, _⟩ => ⟨S256x512, .f32⟩
  | .hbm, ⟨10, _⟩ => ⟨S256x4x128, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S4x4096, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x256, .f32⟩
  | .hbm, ⟨28, _⟩ => ⟨S4x4096x256, .f32⟩
  | .hbm, ⟨29, _⟩ => ⟨S4x128x4096, .f32⟩
  | .hbm, ⟨30, _⟩ => ⟨S4096x4x128, .f32⟩
  | .hbm, ⟨31, _⟩ => ⟨S4096x512, .f32⟩
  | .hbm, ⟨32, _⟩ => ⟨S4096x512, .bf16⟩
  | .hbm, ⟨33, _⟩ => ⟨S4096x2048, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== FconvKernel.lean ====
abbrev S8x4096x1408 : Shape := ⟨3, ![8, 4096, 1408]⟩
abbrev S8x4x3x1408 : Shape := ⟨4, ![8, 4, 3, 1408]⟩
abbrev S4x11264 : Shape := ⟨2, ![4, 11264]⟩
abbrev S32x1x1408 : Shape := ⟨3, ![32, 1, 1408]⟩
abbrev S4096x5632 : Shape := ⟨2, ![4096, 5632]⟩
abbrev S1x16x1408 : Shape := ⟨3, ![1, 16, 1408]⟩
abbrev S1x1024x1408 : Shape := ⟨3, ![1, 1024, 1408]⟩
abbrev S1x1x3x1408 : Shape := ⟨4, ![1, 1, 3, 1408]⟩
abbrev S1x1x1408 : Shape := ⟨3, ![1, 1, 1408]⟩
abbrev S1024x1408 : Shape := ⟨2, ![1024, 1408]⟩
abbrev S1x1024x256 : Shape := ⟨3, ![1, 1024, 256]⟩
abbrev S1024x256 : Shape := ⟨2, ![1024, 256]⟩
abbrev S1x16x256 : Shape := ⟨3, ![1, 16, 256]⟩
abbrev S16x256 : Shape := ⟨2, ![16, 256]⟩
abbrev S1040x256 : Shape := ⟨2, ![1040, 256]⟩
abbrev S1024x1 : Shape := ⟨2, ![1024, 1]⟩
abbrev S1x1x1x256 : Shape := ⟨4, ![1, 1, 1, 256]⟩
abbrev S1x256 : Shape := ⟨2, ![1, 256]⟩
abbrev S1x1x256 : Shape := ⟨3, ![1, 1, 256]⟩
abbrev S1x1024x128 : Shape := ⟨3, ![1, 1024, 128]⟩
abbrev S1024x128 : Shape := ⟨2, ![1024, 128]⟩
abbrev S1x16x128 : Shape := ⟨3, ![1, 16, 128]⟩
abbrev S16x128 : Shape := ⟨2, ![16, 128]⟩
abbrev S1040x128 : Shape := ⟨2, ![1040, 128]⟩
abbrev S1x1x1x128 : Shape := ⟨4, ![1, 1, 1, 128]⟩
abbrev S1x128 : Shape := ⟨2, ![1, 128]⟩
abbrev S1x1x128 : Shape := ⟨3, ![1, 1, 128]⟩

abbrev nBuf : Space → Nat
  | .hbm => 5
  | .vmem => 18
  | .smem => 0
  | _ => 0

abbrev bufTy : (tb : Table) → Fin (tcTables nBuf tb) → BufTy
  | .hbm, ⟨0, _⟩ => ⟨S8x4096x1408, .bf16⟩
  | .hbm, ⟨1, _⟩ => ⟨S8x4x3x1408, .f32⟩
  | .hbm, ⟨2, _⟩ => ⟨S4x11264, .f32⟩
  | .hbm, ⟨3, _⟩ => ⟨S32x1x1408, .f32⟩
  | .hbm, ⟨4, _⟩ => ⟨S4096x5632, .bf16⟩
  | .local _ .vmem, ⟨0, _⟩ => ⟨S1x16x1408, .bf16⟩
  | .local _ .vmem, ⟨1, _⟩ => ⟨S1x16x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x16x1408, .bf16⟩
  | .local _ .vmem, ⟨5, _⟩ => ⟨S1x16x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1x3x1408, .f32⟩
  | .local _ .vmem, ⟨9, _⟩ => ⟨S1x1x3x1408, .f32⟩
  | .local _ .vmem, ⟨10, _⟩ => ⟨S1x1x3x1408, .f32⟩
  | .local _ .vmem, ⟨11, _⟩ => ⟨S1x1x3x1408, .f32⟩
  | .local _ .vmem, ⟨12, _⟩ => ⟨S1x1x1408, .f32⟩
  | .local _ .vmem, ⟨13, _⟩ => ⟨S1x1x1408, .f32⟩
  | .local _ .vmem, ⟨14, _⟩ => ⟨S1x1x1408, .f32⟩
  | .local _ .vmem, ⟨15, _⟩ => ⟨S1x1x1408, .f32⟩
  | .local _ .vmem, ⟨16, _⟩ => ⟨S1024x1408, .bf16⟩
  | .local _ .vmem, ⟨17, _⟩ => ⟨S1024x1408, .bf16⟩
  | _, _ => ⟨S8x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c64_i32 : BitVec 32 := 64#32
  let v1 : BitVec 32 := Scalar.muli arg0 c64_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c64_i32 : BitVec 32 := 64#32
  let v1 : BitVec 32 := Scalar.muli arg0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi v0 c0_i32_0
  let c0_i32_1 : BitVec 32 := 0#32
  let c0_i32_2 : BitVec 32 := 0#32
  let c0_i32_3 : BitVec 32 := 0#32
  ![v1.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.addi v0 c4_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x16x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FconvReferenceIdeal.lean ====
abbrev S8x4096x1408 : Shape := ⟨3, ![8, 4096, 1408]⟩
abbrev S8x4x3x1408 : Shape := ⟨4, ![8, 4, 3, 1408]⟩
abbrev S4x11264 : Shape := ⟨2, ![4, 11264]⟩
abbrev S8x1x3x1408 : Shape := ⟨4, ![8, 1, 3, 1408]⟩
abbrev S8x3x1408 : Shape := ⟨3, ![8, 3, 1408]⟩
abbrev S_ : Shape := ⟨0, ![]⟩
abbrev S8x2x1408 : Shape := ⟨3, ![8, 2, 1408]⟩
abbrev S8x4098x1408 : Shape := ⟨3, ![8, 4098, 1408]⟩
abbrev S8x1x1408 : Shape := ⟨3, ![8, 1, 1408]⟩
abbrev S8x1408 : Shape := ⟨2, ![8, 1408]⟩
abbrev S1x11264 : Shape := ⟨2, ![1, 11264]⟩
abbrev S11264 : Shape := ⟨1, ![11264]⟩
abbrev S4x4096x1408 : Shape := ⟨3, ![4, 4096, 1408]⟩
abbrev S4096x4x1408 : Shape := ⟨3, ![4096, 4, 1408]⟩
abbrev S4096x5632 : Shape := ⟨2, ![4096, 5632]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1408, .bf16⟩
  | .hbm, ⟨1, _⟩ => ⟨S8x4x3x1408, .f32⟩
  | .hbm, ⟨2, _⟩ => ⟨S4x11264, .f32⟩
  | .hbm, ⟨3, _⟩ => ⟨S8x4096x1408, .f32⟩
  | .hbm, ⟨4, _⟩ => ⟨S8x1x3x1408, .f32⟩
  | .hbm, ⟨5, _⟩ => ⟨S8x3x1408, .f32⟩
  | .hbm, ⟨6, _⟩ => ⟨S_, .f32⟩
  | .hbm, ⟨7, _⟩ => ⟨S8x2x1408, .f32⟩
  | .hbm, ⟨8, _⟩ => ⟨S8x4098x1408, .f32⟩
  | .hbm, ⟨9, _⟩ => ⟨S8x4096x1408, .f32⟩
  | .hbm, ⟨10, _⟩ => ⟨S8x1x1408, .f32⟩
  | .hbm, ⟨11, _⟩ => ⟨S8x1408, .f32⟩
  | .hbm, ⟨12, _⟩ => ⟨S8x1x1408, .f32⟩
  | .hbm, ⟨13, _⟩ => ⟨S8x4096x1408, .f32⟩
  | .hbm, ⟨14, _⟩ => ⟨S8x4096x1408, .f32⟩
  | .hbm, ⟨15, _⟩ => ⟨S_, .f32⟩
  | .hbm, ⟨16, _⟩ => ⟨S8x4096x1408, .f32⟩
  | .hbm, ⟨17, _⟩ => ⟨S8x4096x1408, .f32⟩
  | .hbm, ⟨18, _⟩ => ⟨S8x4096x1408, .f32⟩
  | .hbm, ⟨19, _⟩ => ⟨S8x1x1408, .f32⟩
  | .hbm, ⟨20, _⟩ => ⟨S8x1408, .f32⟩
  | .hbm, ⟨21, _⟩ => ⟨S8x1x1408, .f32⟩
  | .hbm, ⟨22, _⟩ => ⟨S8x4096x1408, .f32⟩
  | .hbm, ⟨23, _⟩ => ⟨S8x4096x1408, .f32⟩
  | .hbm, ⟨24, _⟩ => ⟨S8x4096x1408, .f32⟩
  | .hbm, ⟨25, _⟩ => ⟨S8x4096x1408, .f32⟩
  | .hbm, ⟨26, _⟩ => ⟨S8x1x1408, .f32⟩
  | .hbm, ⟨27, _⟩ => ⟨S8x1408, .f32⟩
  | .hbm, ⟨28, _⟩ => ⟨S8x1x1408, .f32⟩
  | .hbm, ⟨29, _⟩ => ⟨S8x4096x1408, .f32⟩
  | .hbm, ⟨30, _⟩ => ⟨S8x4096x1408, .f32⟩
  | .hbm, ⟨31, _⟩ => ⟨S8x4096x1408, .f32⟩
  | .hbm, ⟨32, _⟩ => ⟨S1x11264, .f32⟩
  | .hbm, ⟨33, _⟩ => ⟨S11264, .f32⟩
  | .hbm, ⟨34, _⟩ => ⟨S8x1x1408, .f32⟩
  | .hbm, ⟨35, _⟩ => ⟨S8x4096x1408, .f32⟩
  | .hbm, ⟨36, _⟩ => ⟨S8x4096x1408, .f32⟩
  | .hbm, ⟨37, _⟩ => ⟨S4x4096x1408, .f32⟩
  | .hbm, ⟨38, _⟩ => ⟨S4x4096x1408, .f32⟩
  | .hbm, ⟨39, _⟩ => ⟨S4x4096x1408, .f32⟩
  | .hbm, ⟨40, _⟩ => ⟨S_, .f32⟩
  | .hbm, ⟨41, _⟩ => ⟨S4x4096x1408, .f32⟩
  | .hbm, ⟨42, _⟩ => ⟨S4x4096x1408, .f32⟩
  | .hbm, ⟨43, _⟩ => ⟨S_, .f32⟩
  | .hbm, ⟨44, _⟩ => ⟨S4x4096x1408, .f32⟩
  | .hbm, ⟨45, _⟩ => ⟨S4x4096x1408, .f32⟩
  | .hbm, ⟨46, _⟩ => ⟨S4x4096x1408, .f32⟩
  | .hbm, ⟨47, _⟩ => ⟨S4x4096x1408, .f32⟩
  | .hbm, ⟨48, _⟩ => ⟨S4x4096x1408, .f32⟩
  | .hbm, ⟨49, _⟩ => ⟨S4096x4x1408, .f32⟩
  | .hbm, ⟨50, _⟩ => ⟨S4096x5632, .f32⟩
  | .hbm, ⟨51, _⟩ => ⟨S4096x5632, .bf16⟩
  | _, _ => ⟨S8x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GateKernel.lean ====
abbrev S8x4096x1408 : Shape := ⟨3, ![8, 4096, 1408]⟩
abbrev S4096x5632 : Shape := ⟨2, ![4096, 5632]⟩
abbrev S8x4x3x1408 : Shape := ⟨4, ![8, 4, 3, 1408]⟩
abbrev S4x11264 : Shape := ⟨2, ![4, 11264]⟩
abbrev S32x1x1408 : Shape := ⟨3, ![32, 1, 1408]⟩
abbrev S2x4x4096x1408 : Shape := ⟨4, ![2, 4, 4096, 1408]⟩
abbrev S2x4x3x1408 : Shape := ⟨4, ![2, 4, 3, 1408]⟩
abbrev S2x4x1x1408 : Shape := ⟨4, ![2, 4, 1, 1408]⟩
abbrev S1x16x1408 : Shape := ⟨3, ![1, 16, 1408]⟩
abbrev S1x1024x1408 : Shape := ⟨3, ![1, 1024, 1408]⟩
abbrev S1x1x3x1408 : Shape := ⟨4, ![1, 1, 3, 1408]⟩
abbrev S1x1x1408 : Shape := ⟨3, ![1, 1, 1408]⟩
abbrev S1024x1408 : Shape := ⟨2, ![1024, 1408]⟩
abbrev S2x1x1024x1408 : Shape := ⟨4, ![2, 1, 1024, 1408]⟩
abbrev S2x1x3x1408 : Shape := ⟨4, ![2, 1, 3, 1408]⟩
abbrev S2x1x1x1408 : Shape := ⟨4, ![2, 1, 1, 1408]⟩
abbrev S2x3x1408 : Shape := ⟨3, ![2, 3, 1408]⟩
abbrev S2x1x1408 : Shape := ⟨3, ![2, 1, 1408]⟩
abbrev S1x1024x128 : Shape := ⟨3, ![1, 1024, 128]⟩
abbrev S1024x128 : Shape := ⟨2, ![1024, 128]⟩
abbrev S1x16x128 : Shape := ⟨3, ![1, 16, 128]⟩
abbrev S16x128 : Shape := ⟨2, ![16, 128]⟩
abbrev S1040x128 : Shape := ⟨2, ![1040, 128]⟩
abbrev S1024x1 : Shape := ⟨2, ![1024, 1]⟩
abbrev S1x1x1x128 : Shape := ⟨4, ![1, 1, 1, 128]⟩
abbrev S1x128 : Shape := ⟨2, ![1, 128]⟩
abbrev S1x1x128 : Shape := ⟨3, ![1, 1, 128]⟩
abbrev S1x1x1024x128 : Shape := ⟨4, ![1, 1, 1024, 128]⟩
abbrev S128 : Shape := ⟨1, ![128]⟩

abbrev nBuf : Space → Nat
  | .hbm => 8
  | .vmem => 24
  | .smem => 0
  | _ => 0

abbrev bufTy : (tb : Table) → Fin (tcTables nBuf tb) → BufTy
  | .hbm, ⟨0, _⟩ => ⟨S8x4096x1408, .bf16⟩
  | .hbm, ⟨1, _⟩ => ⟨S4096x5632, .bf16⟩
  | .hbm, ⟨2, _⟩ => ⟨S8x4x3x1408, .f32⟩
  | .hbm, ⟨3, _⟩ => ⟨S4x11264, .f32⟩
  | .hbm, ⟨4, _⟩ => ⟨S32x1x1408, .f32⟩
  | .hbm, ⟨5, _⟩ => ⟨S2x4x4096x1408, .bf16⟩
  | .hbm, ⟨6, _⟩ => ⟨S2x4x3x1408, .f32⟩
  | .hbm, ⟨7, _⟩ => ⟨S2x4x1x1408, .f32⟩
  | .local _ .vmem, ⟨0, _⟩ => ⟨S1x16x1408, .bf16⟩
  | .local _ .vmem, ⟨1, _⟩ => ⟨S1x16x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x16x1408, .bf16⟩
  | .local _ .vmem, ⟨5, _⟩ => ⟨S1x16x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1x3x1408, .f32⟩
  | .local _ .vmem, ⟨9, _⟩ => ⟨S1x1x3x1408, .f32⟩
  | .local _ .vmem, ⟨10, _⟩ => ⟨S1x1x3x1408, .f32⟩
  | .local _ .vmem, ⟨11, _⟩ => ⟨S1x1x3x1408, .f32⟩
  | .local _ .vmem, ⟨12, _⟩ => ⟨S1x1x1408, .f32⟩
  | .local _ .vmem, ⟨13, _⟩ => ⟨S1x1x1408, .f32⟩
  | .local _ .vmem, ⟨14, _⟩ => ⟨S1x1x1408, .f32⟩
  | .local _ .vmem, ⟨15, _⟩ => ⟨S1x1x1408, .f32⟩
  | .local _ .vmem, ⟨16, _⟩ => ⟨S1024x1408, .bf16⟩
  | .local _ .vmem, ⟨17, _⟩ => ⟨S1024x1408, .bf16⟩
  | .local _ .vmem, ⟨18, _⟩ => ⟨S2x1x1024x1408, .bf16⟩
  | .local _ .vmem, ⟨19, _⟩ => ⟨S2x1x1024x1408, .bf16⟩
  | .local _ .vmem, ⟨20, _⟩ => ⟨S2x1x3x1408, .f32⟩
  | .local _ .vmem, ⟨21, _⟩ => ⟨S2x1x3x1408, .f32⟩
  | .local _ .vmem, ⟨22, _⟩ => ⟨S2x1x1x1408, .f32⟩
  | .local _ .vmem, ⟨23, _⟩ => ⟨S2x1x1x1408, .f32⟩
  | _, _ => ⟨S8x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c64_i32 : BitVec 32 := 64#32
  let v1 : BitVec 32 := Scalar.muli arg1 c64_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c64_i32 : BitVec 32 := 64#32
  let v1 : BitVec 32 := Scalar.muli arg1 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi v0 c0_i32_0
  let c0_i32_1 : BitVec 32 := 0#32
  let c0_i32_2 : BitVec 32 := 0#32
  let c0_i32_3 : BitVec 32 := 0#32
  ![v1.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi v0 c4_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x16x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== GateReferenceIdeal.lean ====
abbrev S8x4096x1408 : Shape := ⟨3, ![8, 4096, 1408]⟩
abbrev S4096x5632 : Shape := ⟨2, ![4096, 5632]⟩
abbrev S8x4x3x1408 : Shape := ⟨4, ![8, 4, 3, 1408]⟩
abbrev S4x11264 : Shape := ⟨2, ![4, 11264]⟩
abbrev S8x1x3x1408 : Shape := ⟨4, ![8, 1, 3, 1408]⟩
abbrev S8x3x1408 : Shape := ⟨3, ![8, 3, 1408]⟩
abbrev S1x11264 : Shape := ⟨2, ![1, 11264]⟩
abbrev S11264 : Shape := ⟨1, ![11264]⟩
abbrev S8x1408 : Shape := ⟨2, ![8, 1408]⟩
abbrev S_ : Shape := ⟨0, ![]⟩
abbrev S8x2x1408 : Shape := ⟨3, ![8, 2, 1408]⟩
abbrev S8x4098x1408 : Shape := ⟨3, ![8, 4098, 1408]⟩
abbrev S8x1x1408 : Shape := ⟨3, ![8, 1, 1408]⟩
abbrev S4x4096x1408 : Shape := ⟨3, ![4, 4096, 1408]⟩
abbrev S4096x4x1408 : Shape := ⟨3, ![4096, 4, 1408]⟩
abbrev S2x4x4096x1408 : Shape := ⟨4, ![2, 4, 4096, 1408]⟩
abbrev S2x4x3x1408 : Shape := ⟨4, ![2, 4, 3, 1408]⟩
abbrev S2x4x1x1408 : Shape := ⟨4, ![2, 4, 1, 1408]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1408, .bf16⟩
  | .hbm, ⟨1, _⟩ => ⟨S4096x5632, .bf16⟩
  | .hbm, ⟨2, _⟩ => ⟨S8x4x3x1408, .f32⟩
  | .hbm, ⟨3, _⟩ => ⟨S4x11264, .f32⟩
  | .hbm, ⟨4, _⟩ => ⟨S8x4096x1408, .f32⟩
  | .hbm, ⟨5, _⟩ => ⟨S8x1x3x1408, .f32⟩
  | .hbm, ⟨6, _⟩ => ⟨S8x3x1408, .f32⟩
  | .hbm, ⟨7, _⟩ => ⟨S1x11264, .f32⟩
  | .hbm, ⟨8, _⟩ => ⟨S11264, .f32⟩
  | .hbm, ⟨9, _⟩ => ⟨S8x1408, .f32⟩
  | .hbm, ⟨10, _⟩ => ⟨S_, .f32⟩
  | .hbm, ⟨11, _⟩ => ⟨S8x2x1408, .f32⟩
  | .hbm, ⟨12, _⟩ => ⟨S8x4098x1408, .f32⟩
  | .hbm, ⟨13, _⟩ => ⟨S8x4096x1408, .f32⟩
  | .hbm, ⟨14, _⟩ => ⟨S8x1x1408, .f32⟩
  | .hbm, ⟨15, _⟩ => ⟨S8x1408, .f32⟩
  | .hbm, ⟨16, _⟩ => ⟨S8x1x1408, .f32⟩
  | .hbm, ⟨17, _⟩ => ⟨S8x4096x1408, .f32⟩
  | .hbm, ⟨18, _⟩ => ⟨S8x4096x1408, .f32⟩
  | .hbm, ⟨19, _⟩ => ⟨S_, .f32⟩
  | .hbm, ⟨20, _⟩ => ⟨S8x4096x1408, .f32⟩
  | .hbm, ⟨21, _⟩ => ⟨S8x4096x1408, .f32⟩
  | .hbm, ⟨22, _⟩ => ⟨S8x4096x1408, .f32⟩
  | .hbm, ⟨23, _⟩ => ⟨S8x1x1408, .f32⟩
  | .hbm, ⟨24, _⟩ => ⟨S8x1408, .f32⟩
  | .hbm, ⟨25, _⟩ => ⟨S8x1x1408, .f32⟩
  | .hbm, ⟨26, _⟩ => ⟨S8x4096x1408, .f32⟩
  | .hbm, ⟨27, _⟩ => ⟨S8x4096x1408, .f32⟩
  | .hbm, ⟨28, _⟩ => ⟨S8x4096x1408, .f32⟩
  | .hbm, ⟨29, _⟩ => ⟨S8x4096x1408, .f32⟩
  | .hbm, ⟨30, _⟩ => ⟨S8x1x1408, .f32⟩
  | .hbm, ⟨31, _⟩ => ⟨S8x1408, .f32⟩
  | .hbm, ⟨32, _⟩ => ⟨S8x1x1408, .f32⟩
  | .hbm, ⟨33, _⟩ => ⟨S8x4096x1408, .f32⟩
  | .hbm, ⟨34, _⟩ => ⟨S8x4096x1408, .f32⟩
  | .hbm, ⟨35, _⟩ => ⟨S8x4096x1408, .f32⟩
  | .hbm, ⟨36, _⟩ => ⟨S8x1x1408, .f32⟩
  | .hbm, ⟨37, _⟩ => ⟨S8x4096x1408, .f32⟩
  | .hbm, ⟨38, _⟩ => ⟨S8x4096x1408, .f32⟩
  | .hbm, ⟨39, _⟩ => ⟨S4x4096x1408, .f32⟩
  | .hbm, ⟨40, _⟩ => ⟨S4x4096x1408, .f32⟩
  | .hbm, ⟨41, _⟩ => ⟨S4x4096x1408, .f32⟩
  | .hbm, ⟨42, _⟩ => ⟨S_, .f32⟩
  | .hbm, ⟨43, _⟩ => ⟨S4x4096x1408, .f32⟩
  | .hbm, ⟨44, _⟩ => ⟨S4x4096x1408, .f32⟩
  | .hbm, ⟨45, _⟩ => ⟨S_, .f32⟩
  | .hbm, ⟨46, _⟩ => ⟨S4x4096x1408, .f32⟩
  | .hbm, ⟨47, _⟩ => ⟨S4x4096x1408, .f32⟩
  | .hbm, ⟨48, _⟩ => ⟨S_, .f32⟩
  | .hbm, ⟨49, _⟩ => ⟨S4x4096x1408, .f32⟩
  | .hbm, ⟨50, _⟩ => ⟨S4x4096x1408, .f32⟩
  | .hbm, ⟨51, _⟩ => ⟨S4x4096x1408, .f32⟩
  | .hbm, ⟨52, _⟩ => ⟨S4x4096x1408, .f32⟩
  | .hbm, ⟨53, _⟩ => ⟨S4x4096x1408, .f32⟩
  | .hbm, ⟨54, _⟩ => ⟨S4x4096x1408, .f32⟩
  | .hbm, ⟨55, _⟩ => ⟨S4096x5632, .f32⟩
  | .hbm, ⟨56, _⟩ => ⟨S4096x4x1408, .f32⟩
  | .hbm, ⟨57, _⟩ => ⟨S4x4096x1408, .f32⟩
  | .hbm, ⟨58, _⟩ => ⟨S4x4096x1408, .f32⟩
  | .hbm, ⟨59, _⟩ => ⟨S4x4096x1408, .f32⟩
  | .hbm, ⟨60, _⟩ => ⟨S_, .f32⟩
  | .hbm, ⟨61, _⟩ => ⟨S8x4096x1408, .f32⟩
  | .hbm, ⟨62, _⟩ => ⟨S4x4096x1408, .f32⟩
  | .hbm, ⟨63, _⟩ => ⟨S4x4096x1408, .f32⟩
  | .hbm, ⟨64, _⟩ => ⟨S4x4096x1408, .f32⟩
  | .hbm, ⟨65, _⟩ => ⟨S4x4096x1408, .f32⟩
  | .hbm, ⟨66, _⟩ => ⟨S_, .f32⟩
  | .hbm, ⟨67, _⟩ => ⟨S8x4096x1408, .f32⟩
  | .hbm, ⟨68, _⟩ => ⟨S8x4096x1408, .f32⟩
  | .hbm, ⟨69, _⟩ => ⟨S_, .f32⟩
  | .hbm, ⟨70, _⟩ => ⟨S8x1408, .f32⟩
  | .hbm, ⟨71, _⟩ => ⟨S8x1x1408, .f32⟩
  | .hbm, ⟨72, _⟩ => ⟨S_, .f32⟩
  | .hbm, ⟨73, _⟩ => ⟨S8x1408, .f32⟩
  | .hbm, ⟨74, _⟩ => ⟨S8x4096x1408, .f32⟩
  | .hbm, ⟨75, _⟩ => ⟨S_, .f32⟩
  | .hbm, ⟨76, _⟩ => ⟨S8x1408, .f32⟩
  | .hbm, ⟨77, _⟩ => ⟨S8x1x1408, .f32⟩
  | .hbm, ⟨78, _⟩ => ⟨S_, .f32⟩
  | .hbm, ⟨79, _⟩ => ⟨S8x1408, .f32⟩
  | .hbm, ⟨80, _⟩ => ⟨S8x1x1408, .f32⟩
  | .hbm, ⟨81, _⟩ => ⟨S_, .f32⟩
  | .hbm, ⟨82, _⟩ => ⟨S8x3x1408, .f32⟩
  | .hbm, ⟨83, _⟩ => ⟨S8x4096x1408, .f32⟩
  | .hbm, ⟨84, _⟩ => ⟨S_, .f32⟩
  | .hbm, ⟨85, _⟩ => ⟨S8x1408, .f32⟩
  | .hbm, ⟨86, _⟩ => ⟨S8x1x1408, .f32⟩
  | .hbm, ⟨87, _⟩ => ⟨S_, .f32⟩
  | .hbm, ⟨88, _⟩ => ⟨S8x1408, .f32⟩
  | .hbm, ⟨89, _⟩ => ⟨S8x1x1408, .f32⟩
  | .hbm, ⟨90, _⟩ => ⟨S_, .f32⟩
  | .hbm, ⟨91, _⟩ => ⟨S8x3x1408, .f32⟩
  | .hbm, ⟨92, _⟩ => ⟨S8x3x1408, .f32⟩
  | .hbm, ⟨93, _⟩ => ⟨S8x4096x1408, .f32⟩
  | .hbm, ⟨94, _⟩ => ⟨S_, .f32⟩
  | .hbm, ⟨95, _⟩ => ⟨S8x1408, .f32⟩
  | .hbm, ⟨96, _⟩ => ⟨S8x1x1408, .f32⟩
  | .hbm, ⟨97, _⟩ => ⟨S_, .f32⟩
  | .hbm, ⟨98, _⟩ => ⟨S8x1408, .f32⟩
  | .hbm, ⟨99, _⟩ => ⟨S8x1x1408, .f32⟩
  | .hbm, ⟨100, _⟩ => ⟨S_, .f32⟩
  | .hbm, ⟨101, _⟩ => ⟨S8x3x1408, .f32⟩
  | .hbm, ⟨102, _⟩ => ⟨S8x3x1408, .f32⟩
  | .hbm, ⟨103, _⟩ => ⟨S8x4096x1408, .bf16⟩
  | .hbm, ⟨104, _⟩ => ⟨S2x4x4096x1408, .bf16⟩
  | .hbm, ⟨105, _⟩ => ⟨S2x4x3x1408, .f32⟩
  | .hbm, ⟨106, _⟩ => ⟨S2x4x1x1408, .f32⟩
  | _, _ => ⟨S8x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== FinbKernel.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FinbReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.MlaHead.lean ====
module

public import proofs.«01_k».proof.Proof.Gen.MlaKernelIdeal.Frame
public import Idealize.ShloMosaic.Lib.Pipeline.ValueKit
public import Idealize.ShloMosaic.Lib.Pointwise
public import Idealize.ShloMosaic.Lib.WordCmp

/-!
# One tile of the causal attention's gradient

Over the extended reals: the weight of a key for a query whose log-sum-exp is known, the gradient
of the score, and the fact that the kernel's body computes these on every tile of 1024 queries by
1024 keys, masked on the diagonal tile.
-/

@[expose] public section

set_option maxRecDepth 16384

noncomputable section

open Idealize.ShloMosaic Idealize.ShloMosaic.TcCoe Idealize.SL.Sem

namespace Cert.MlaHead

/-- The scale of the scores: the printed literal for `192 ** -0.5`. -/
def scale : EReal := Ideal.ofBits .f32 0x3D93CD3A#32

/-- The softmax weight of the key `k` for the query `q` whose row has the log-sum-exp `l`. -/
def weight (q : Fin 192 → EReal) (l : EReal) (k : Fin 192 → EReal) : EReal :=
  Ideal.exp ((∑ e : Fin 192, q e * k e) * scale - l)

/-- The cotangent of the unscaled score, from the weight `p`, the output's cotangent `w`, the
value `v` and the row's `delta`. -/
def dscore (p : EReal) (w : Fin 128 → EReal) (delta : EReal) (v : Fin 128 → EReal) : EReal :=
  p * ((∑ d : Fin 128, w d * v d) - delta) * scale

end Cert.MlaHead

namespace Cert.MlaKernelIdeal.Tiles

open Cert.MlaKernelIdeal Cert.MlaKernelIdeal.Gen Cert.MlaHead

/-- The weight of key `c` for row `r` of a block of queries. -/
def keyWeight (q : FVec Ideal S1x1024x192 .bf16) (l : FVec Ideal S1x1024x1 .f32) (K : FVec Ideal S1x4096x192 .bf16)
    (r : Fin 1024) (c : Fin 4096) : EReal :=
  weight (fun e => q (ix3 0 r e)) (l (ix3 0 r 0)) (fun e => K (ix3 0 c e))

/-- The score's cotangent of row `r` of a block of queries and key `c`, from the weight `p`. -/
def keyGrad (p : EReal) (w o : FVec Ideal S1024x128 .bf16) (V : FVec Ideal S4096x128 .bf16)
    (r : Fin 1024) (c : Fin 4096) : EReal :=
  dscore p (fun d => w (ix2 r d)) (∑ d : Fin 128, w (ix2 r d) * o (ix2 r d)) (fun d => V (ix2 c d))

/-- A key without weight has no gradient. -/
theorem keyGrad_zero (w o : FVec Ideal S1024x128 .bf16) (V : FVec Ideal S4096x128 .bf16) (r : Fin 1024) (c : Fin 4096) :
    keyGrad 0 w o V r c = 0 := by
  rw [keyGrad, dscore, zero_mul, zero_mul]

variable (q : FVec Ideal S1024x192 .bf16) (w : FVec Ideal S1024x128 .bf16) (o : FVec Ideal S1024x128 .bf16)
  (de l : FVec Ideal S1024x1 .f32)
  (K : FVec Ideal S1x1024x192 .bf16) (Kd : FVec Ideal S1024x192 .bf16) (V : FVec Ideal S1024x128 .bf16)

/-- The weights off the diagonal. -/
theorem weight_off (r c : Fin 1024) :
    k0_pay6 (F := Ideal) q l K (ix2 r c)
      = weight (fun e => q (ix2 r e)) (l (ix2 r 0)) (fun e => K (ix3 0 c e)) := by
  pointwise [k0_pay6, k0_pay5, weight, scale]

/-- The score cotangents off the diagonal. -/
theorem grad_off (r c : Fin 1024) :
    k0_pay7 (F := Ideal) q w de l K V (ix2 r c)
      = dscore (weight (fun e => q (ix2 r e)) (l (ix2 r 0)) (fun e => K (ix3 0 c e)))
          (fun d => w (ix2 r d)) (de (ix2 r 0)) (fun d => V (ix2 c d)) := by
  pointwise [k0_pay7, weight_off, dscore, scale]

theorem query_off (a : FVec Ideal S1024x192 .f32) (r : Fin 1024) (d : Fin 192) :
    k0_pay8 (F := Ideal) q w de l K V a (ix2 r d)
      = a (ix2 r d) + ∑ c : Fin 1024, k0_pay7 (F := Ideal) q w de l K V (ix2 r c) * K (ix3 0 c d) := by
  pointwise [k0_pay8, k0_pay5]

theorem key_off (a : FVec Ideal S1024x192 .f32) (c : Fin 1024) (d : Fin 192) :
    k0_pay9 (F := Ideal) q w de l K V a (ix2 c d)
      = a (ix2 c d) + ∑ r : Fin 1024, k0_pay7 (F := Ideal) q w de l K V (ix2 r c) * q (ix2 r d) := by
  pointwise [k0_pay9]

theorem value_off (a : FVec Ideal S1024x128 .f32) (c : Fin 1024) (d : Fin 128) :
    k0_pay23 (k0_pay10 (F := Ideal) q w l K a) (ix2 c d)
      = a (ix2 c d) + ∑ r : Fin 1024, k0_pay6 (F := Ideal) q l K (ix2 r c) * w (ix2 r d) := by
  pointwise [k0_pay10, k0_pay23]

/-- The weights on the diagonal tile: a key after the query has none. -/
theorem weight_diag (r c : Fin 1024) :
    k0_pay26 (F := Ideal) q l Kd (ix2 r c)
      = if c.val ≤ r.val then weight (fun e => q (ix2 r e)) (l (ix2 r 0)) (fun e => Kd (ix2 c e)) else 0 := by
  pointwise [k0_pay26, weight, scale]
  rw [WordCmp.cmpi_sle_ofNat (w := 32) (by have := c.isLt; omega) (by have := r.isLt; omega)]
  by_cases h : c.val ≤ r.val
  · rw [if_pos h]; simp only [h, decide_true]; rfl
  · rw [if_neg h]; simp only [h, decide_false]; rfl

theorem grad_diag (r c : Fin 1024) :
    k0_pay27 (F := Ideal) q w de l Kd V (ix2 r c)
      = dscore (if c.val ≤ r.val then weight (fun e => q (ix2 r e)) (l (ix2 r 0)) (fun e => Kd (ix2 c e)) else 0)
          (fun d => w (ix2 r d)) (de (ix2 r 0)) (fun d => V (ix2 c d)) := by
  pointwise [k0_pay27, weight_diag, dscore, scale]

theorem query_diag (a : FVec Ideal S1024x192 .f32) (r : Fin 1024) (d : Fin 192) :
    k0_pay28 (F := Ideal) q w de l Kd V a (ix2 r d)
      = a (ix2 r d) + ∑ c : Fin 1024, k0_pay27 (F := Ideal) q w de l Kd V (ix2 r c) * Kd (ix2 c d) := by
  pointwise [k0_pay28]

theorem key_diag (a : FVec Ideal S1024x192 .f32) (c : Fin 1024) (d : Fin 192) :
    k0_pay29 (F := Ideal) q w de l Kd V a (ix2 c d)
      = a (ix2 c d) + ∑ r : Fin 1024, k0_pay27 (F := Ideal) q w de l Kd V (ix2 r c) * q (ix2 r d) := by
  pointwise [k0_pay29]

theorem value_diag (a : FVec Ideal S1024x128 .f32) (c : Fin 1024) (d : Fin 128) :
    k0_pay1 (k0_pay30 (F := Ideal) q w l Kd a) (ix2 c d)
      = a (ix2 c d) + ∑ r : Fin 1024, k0_pay26 (F := Ideal) q l Kd (ix2 r c) * w (ix2 r d) := by
  pointwise [k0_pay30, k0_pay1]

theorem query_block (x : FVec Ideal S1x1024x192 .bf16) (r : Fin 1024) (d : Fin 192) :
    k0_pay19 (F := Ideal) x (ix2 r d) = x (ix3 0 r d) := by
  pointwise [k0_pay19]

theorem key_block (x : FVec Ideal S1x1024x192 .bf16) (r : Fin 1024) (d : Fin 192) :
    k0_pay25 (F := Ideal) x (ix2 r d) = x (ix3 0 r d) := by
  pointwise [k0_pay25]

theorem lse_block (x : FVec Ideal S1x1024x1 .f32) (r : Fin 1024) :
    k0_pay21 (F := Ideal) x (ix2 r 0) = x (ix3 0 r 0) := by
  pointwise [k0_pay21]

theorem delta_block (r : Fin 1024) :
    k0_pay20 (F := Ideal) w o (ix2 r 0) = ∑ d : Fin 128, w (ix2 r d) * o (ix2 r d) := by
  pointwise [k0_pay20]

theorem zero_q (r : Fin 1024) (d : Fin 192) : k0_pay22 (F := Ideal) (ix2 r d) = (0 : EReal) := by
  pointwise [k0_pay22]

theorem zero_k (r : Fin 4096) (d : Fin 192) : k0_pay17 (F := Ideal) (ix2 r d) = (0 : EReal) := by
  pointwise [k0_pay17]

theorem zero_v (r : Fin 4096) (d : Fin 128) : k0_pay18 (F := Ideal) (ix2 r d) = (0 : EReal) := by
  pointwise [k0_pay18]

end Cert.MlaKernelIdeal.Tiles

end
-- ==== Proof.MlaLoop.lean ====
module

public import proofs.«01_k».proof.Proof.MlaHead
public import Idealize.ShloMosaic.Lib.Pipeline.ReadBack
public import Idealize.ShloMosaic.Lib.VecWindow

/-!
# The key blocks before the diagonal

The body walks the key blocks that lie wholly before the block of queries. What the walk leaves in
the three running sums is one closed form: a sum over all 4096 keys of a term that is present for
the keys already walked.
-/

@[expose] public section

set_option maxRecDepth 16384

noncomputable section

open Idealize.ShloMosaic Idealize.ShloMosaic.TcCoe Idealize.SL.Sem

namespace Cert.MlaKernelIdeal.Tiles

open Cert.MlaKernelIdeal Cert.MlaKernelIdeal.Gen Cert.MlaHead

/-- A load of 1024 rows of a rank-2 buffer. -/
theorem readAt_rows {κ : Kind} {sp : Space} {R C : ℕ} {e : EltTy} (v : View sig κ sp (⟨2, ![R, C]⟩ : Shape) e)
    (f : v.ty.Contents (Elt Ideal)) {off : Fin 2 → ℕ} (inb : ∀ a, off a + (![1024, C] : Fin 2 → ℕ) a ≤ (⟨2, ![R, C]⟩ : Shape).size a)
    (o : ℕ) (hoff : off = ![o, 0]) (ho : o + 1024 ≤ R) (r : Fin 1024) (d : Fin C) :
    v.readAt (Elt Ideal) (Rect.unit (s := ⟨2, ![R, C]⟩) off ![1024, C] inb).toLoadRect f (ix2 r d)
      = v.read (Elt Ideal) f (ix2 ⟨o + r.val, by omega⟩ d) := by
  subst hoff
  refine congrArg (v.read (Elt Ideal) f) (funext fun a => Fin.ext ?_)
  fin_cases a
  · show o + 1 * r.val = o + r.val
    omega
  · show 0 + 1 * d.val = d.val
    omega

/-- A load of 1024 rows of the one matrix of a rank-3 buffer. -/
theorem readAt_rows3 {κ : Kind} {sp : Space} {R C : ℕ} {e : EltTy} (v : View sig κ sp (⟨3, ![1, R, C]⟩ : Shape) e)
    (f : v.ty.Contents (Elt Ideal)) {off : Fin 3 → ℕ} (inb : ∀ a, off a + (![1, 1024, C] : Fin 3 → ℕ) a ≤ (⟨3, ![1, R, C]⟩ : Shape).size a)
    (o : ℕ) (hoff : off = ![0, o, 0]) (ho : o + 1024 ≤ R) (r : Fin 1024) (d : Fin C) :
    v.readAt (Elt Ideal) (Rect.unit (s := ⟨3, ![1, R, C]⟩) off ![1, 1024, C] inb).toLoadRect f (ix3 0 r d)
      = v.read (Elt Ideal) f (ix3 0 ⟨o + r.val, by omega⟩ d) := by
  subst hoff
  refine congrArg (v.read (Elt Ideal) f) (funext fun a => Fin.ext ?_)
  fin_cases a
  · rfl
  · show o + 1 * r.val = o + r.val
    omega
  · show 0 + 1 * d.val = d.val
    omega

/-- A store of 1024 rows of a rank-2 buffer, read at any row. -/
theorem read_store_rows {κ : Kind} {sp : Space} {R C : ℕ} {e : EltTy} (v : View sig κ sp (⟨2, ![R, C]⟩ : Shape) e)
    (f : v.ty.Contents (Elt Ideal)) {off : Fin 2 → ℕ} (inb : ∀ a, off a + (![1024, C] : Fin 2 → ℕ) a ≤ (⟨2, ![R, C]⟩ : Shape).size a)
    (w : (Rect.unit (s := ⟨2, ![R, C]⟩) off ![1024, C] inb).shape.Idx → Elt Ideal e)
    (L : List (View.Piece (Elt Ideal) (⟨2, ![R, C]⟩ : Shape) e))
    (o : ℕ) (hoff : off = ![o, 0]) (r : Fin R) (d : Fin C) :
    v.read (Elt Ideal) (v.writes (Elt Ideal) f (⟨Rect.unit (s := ⟨2, ![R, C]⟩) off ![1024, C] inb, w⟩ :: L)) (ix2 r d)
      = if h : o ≤ r.val ∧ r.val < o + 1024 then w (ix2 ⟨r.val - o, by omega⟩ d)
        else v.read (Elt Ideal) (v.writes (Elt Ideal) f L) (ix2 r d) := by
  by_cases h : o ≤ r.val ∧ r.val < o + 1024
  · rw [dif_pos h]
    exact View.read_writes_cons_rows_of_mem v f inb w L (ix2 r d) (ix2 ⟨r.val - o, by omega⟩ d) hoff
      (by show r.val = o + (r.val - o); omega) rfl
  · rw [dif_neg h]
    exact View.read_writes_cons_rows_of_not_mem v f inb w L (ix2 r d) hoff (W := 1024) rfl
      (by show r.val < o ∨ o + 1024 ≤ r.val; omega)

/-- The part of a sum over 4096 keys that the blocks of 1024 before block `k` hold. -/
theorem sum_blocks (k : ℕ) (g : Fin 4096 → EReal) :
    (∑ c : Fin 4096, if c.val < 1024 * k then g c else 0)
      = ∑ j : Fin 4, if j.val < k then ∑ x : Fin 1024, g ⟨j.val * 1024 + x.val, by omega⟩ else 0 := by
  rw [Fin.sum_univ_tiles 4 1024 rfl (fun c : Fin 4096 => if c.val < 1024 * k then g c else 0)]
  refine Finset.sum_congr rfl fun j _ => ?_
  by_cases h : j.val < k
  · rw [if_pos h]
    exact Finset.sum_congr rfl fun x _ => if_pos (by show j.val * 1024 + x.val < 1024 * k; omega)
  · rw [if_neg h]
    exact Finset.sum_eq_zero fun x _ => if_neg (by show ¬ j.val * 1024 + x.val < 1024 * k; omega)

/-- One more block of 1024 of the 4096 keys. -/
theorem sum_next (k : ℕ) (hk : k < 4) (g : Fin 4096 → EReal) :
    (∑ c : Fin 4096, if c.val < 1024 * (k + 1) then g c else 0)
      = (∑ c : Fin 4096, if c.val < 1024 * k then g c else 0)
        + ∑ x : Fin 1024, g ⟨1024 * k + x.val, by have := x.isLt; omega⟩ := by
  rw [sum_blocks, sum_blocks]
  have hb : ∀ j (hj : j < 4), (∑ x : Fin 1024, g ⟨1024 * j + x.val, by omega⟩) = ∑ x : Fin 1024, g ⟨j * 1024 + x.val, by omega⟩ :=
    fun j hj => Finset.sum_congr rfl fun x _ => congrArg g (Fin.ext (by show 1024 * j + x.val = j * 1024 + x.val; omega))
  rw [hb k hk]
  simp only [Fin.sum_univ_four]
  interval_cases k <;> simp

section
variable (𝒱 : Variants) (dv : Dev nD) (bd : Option 𝒱.V) (i : grid0.Coords) (arg2 : Memref sig .tc .vmem S1x1024x192 .bf16) (harg2 : arg2.IsWhole) (arg3 : Memref sig .tc .vmem S1x4096x192 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x1 .f32) (harg7 : arg7.IsWhole) (arg8 : Memref sig .tc .vmem S1x1024x192 .bf16) (harg8 : arg8.IsWhole) (arg9 : Memref sig .tc .vmem S1x4096x192 .bf16) (harg9 : arg9.IsWhole) (arg10 : Memref sig .tc .vmem S4096x128 .bf16) (harg10 : arg10.IsWhole) (arg11 : Memref sig .tc .vmem S1024x192 .f32) (harg11 : arg11.IsWhole) (arg12 : Memref sig .tc .vmem S4096x192 .f32) (harg12 : arg12.IsWhole) (arg13 : Memref sig .tc .vmem S4096x128 .f32) (harg13 : arg13.IsWhole) (v3 : FVec Ideal S1x1024x192 .bf16) (v5 : FVec Ideal S1024x128 .bf16) (v7 : FVec Ideal S1024x128 .bf16) (v13 : FVec Ideal S1x1024x1 .f32) (X_arg3 : BufTy.Contents (Elt Ideal) arg3.view.ty) (X_arg4 : BufTy.Contents (Elt Ideal) arg4.view.ty) (G_arg11 : BufTy.Contents (Elt Ideal) arg11.view.ty) (G_arg12 : BufTy.Contents (Elt Ideal) arg12.view.ty) (G_arg13 : BufTy.Contents (Elt Ideal) arg13.view.ty)

/-- One walked block: its three pieces. -/
theorem trip_pieces (k : Fin (k0_t1_loop i).trips) :
    tripL_k0_t1 (F := Ideal) 𝒱 dv bd i arg2 harg2 arg3 harg3 arg4 harg4 arg5 harg5 arg6 harg6 arg7 harg7 arg8 harg8 arg9 harg9 arg10 harg10 arg11 harg11 arg12 harg12 arg13 harg13 v3 v5 v7 v13 X_arg3 X_arg4 k G_arg11 G_arg12 G_arg13
      = ([⟨Rect.unit ![0, 0] ![1024, 192] inb_S1024x192_S1024x192_0_0, k0_pay8 (k0_pay19 v3) v5 (k0_pay20 v5 v7) (k0_pay21 v13)
          (View.readAt (Elt Ideal) arg3.view (Rect.unit (s := S1x4096x192) (k0_off1 i k) S1x1024x192.size (k0_off1_inb i k)).toLoadRect X_arg3)
          (View.readAt (Elt Ideal) arg4.view (Rect.unit (s := S4096x128) (k0_off2 i k) S1024x128.size (k0_off2_inb i k)).toLoadRect X_arg4)
          (View.readAt (Elt Ideal) arg11.view (Rect.unit (s := S1024x192) ![0, 0] ![1024, 192] inb_S1024x192_S1024x192_0_0).toLoadRect G_arg11)⟩],
        [⟨Rect.unit (k0_off3 i k) ![1024, 192] (k0_off3_inb i k), k0_pay9 (k0_pay19 v3) v5 (k0_pay20 v5 v7) (k0_pay21 v13)
          (View.readAt (Elt Ideal) arg3.view (Rect.unit (s := S1x4096x192) (k0_off1 i k) S1x1024x192.size (k0_off1_inb i k)).toLoadRect X_arg3)
          (View.readAt (Elt Ideal) arg4.view (Rect.unit (s := S4096x128) (k0_off2 i k) S1024x128.size (k0_off2_inb i k)).toLoadRect X_arg4)
          (View.readAt (Elt Ideal) arg12.view (Rect.unit (s := S4096x192) (k0_off3 i k) S1024x192.size (k0_off3_inb i k)).toLoadRect G_arg12)⟩],
        [⟨Rect.unit (k0_off2 i k) ![1024, 128] (k0_off2_inb i k), k0_pay23 (k0_pay10 (k0_pay19 v3) v5 (k0_pay21 v13)
          (View.readAt (Elt Ideal) arg3.view (Rect.unit (s := S1x4096x192) (k0_off1 i k) S1x1024x192.size (k0_off1_inb i k)).toLoadRect X_arg3)
          (View.readAt (Elt Ideal) arg13.view (Rect.unit (s := S4096x128) (k0_off2 i k) S1024x128.size (k0_off2_inb i k)).toLoadRect G_arg13))⟩]) := by
  unfold tripL_k0_t1 trip_k0_t1
  sl_unfold_words
  rfl

/-- The weights of one walked block. -/
theorem walk_weight (k : Fin (k0_t1_loop i).trips) (hk : k.val < 4) (r x : Fin 1024) :
    k0_pay6 (F := Ideal) (k0_pay19 v3) (k0_pay21 v13)
        (View.readAt (Elt Ideal) arg3.view (Rect.unit (s := S1x4096x192) (k0_off1 i k) S1x1024x192.size (k0_off1_inb i k)).toLoadRect X_arg3) (ix2 r x)
      = keyWeight v3 v13 (arg3.view.read (Elt Ideal) X_arg3) r ⟨1024 * k.val + x.val, by omega⟩ := by
  rw [weight_off, keyWeight, lse_block]
  have e1 : (fun e => k0_pay19 (F := Ideal) v3 (ix2 r e)) = fun e => v3 (ix3 0 r e) := funext fun e => query_block v3 r e
  have e2 : (fun e => View.readAt (Elt Ideal) arg3.view (Rect.unit (s := S1x4096x192) (k0_off1 i k) S1x1024x192.size (k0_off1_inb i k)).toLoadRect X_arg3 (ix3 0 x e))
      = fun e => arg3.view.read (Elt Ideal) X_arg3 (ix3 0 ⟨1024 * k.val + x.val, by omega⟩ e) :=
    funext fun e => readAt_rows3 arg3.view X_arg3 _ (1024 * k.val) (k0_off1_eq i k) (by omega) x e
  exact (congrArg (fun f => weight f _ _) e1).trans (congrArg (weight _ _) e2)

/-- The score cotangents of one walked block. -/
theorem walk_grad (k : Fin (k0_t1_loop i).trips) (hk : k.val < 4) (r x : Fin 1024) :
    k0_pay7 (F := Ideal) (k0_pay19 v3) v5 (k0_pay20 v5 v7) (k0_pay21 v13)
        (View.readAt (Elt Ideal) arg3.view (Rect.unit (s := S1x4096x192) (k0_off1 i k) S1x1024x192.size (k0_off1_inb i k)).toLoadRect X_arg3)
        (View.readAt (Elt Ideal) arg4.view (Rect.unit (s := S4096x128) (k0_off2 i k) S1024x128.size (k0_off2_inb i k)).toLoadRect X_arg4) (ix2 r x)
      = keyGrad (keyWeight v3 v13 (arg3.view.read (Elt Ideal) X_arg3) r ⟨1024 * k.val + x.val, by omega⟩) v5 v7
          (arg4.view.read (Elt Ideal) X_arg4) r ⟨1024 * k.val + x.val, by omega⟩ := by
  rw [grad_off, ← weight_off, walk_weight i arg3 v3 v13 X_arg3 k hk r x, delta_block, keyGrad]
  have e2 : (fun d => View.readAt (Elt Ideal) arg4.view (Rect.unit (s := S4096x128) (k0_off2 i k) S1024x128.size (k0_off2_inb i k)).toLoadRect X_arg4 (ix2 x d))
      = fun d => arg4.view.read (Elt Ideal) X_arg4 (ix2 ⟨1024 * k.val + x.val, by omega⟩ d) :=
    funext fun d => readAt_rows arg4.view X_arg4 _ (1024 * k.val) (k0_off2_eq i k) (by omega) x d
  exact congrArg (dscore _ _ _) e2

variable {i} in
/-- THE WALK over the first `k` blocks of keys, in the three running sums. -/
theorem walk (k : ℕ) (hk : k ≤ (k0_t1_loop i).trips) :
    (∀ (r : Fin 1024) (d : Fin 192), (arg11.view.read (Elt Ideal) (arg11.view.writes (Elt Ideal) G_arg11 (pb_k0_t1 (F := Ideal) 𝒱 dv bd i arg2 harg2 arg3 harg3 arg4 harg4 arg5 harg5 arg6 harg6 arg7 harg7 arg8 harg8 arg9 harg9 arg10 harg10 arg11 harg11 arg12 harg12 arg13 harg13 v3 v5 v7 v13 X_arg3 X_arg4 G_arg11 G_arg12 G_arg13 k).1) (ix2 r d) : EReal)
      = (arg11.view.read (Elt Ideal) G_arg11 (ix2 r d) : EReal)
        + ∑ c : Fin 4096, if c.val < 1024 * k then
            keyGrad (keyWeight v3 v13 (arg3.view.read (Elt Ideal) X_arg3) r c) v5 v7 (arg4.view.read (Elt Ideal) X_arg4) r c
              * (arg3.view.read (Elt Ideal) X_arg3 (ix3 0 c d) : EReal) else 0)
    ∧ (∀ (c : Fin 4096) (d : Fin 192), (arg12.view.read (Elt Ideal) (arg12.view.writes (Elt Ideal) G_arg12 (pb_k0_t1 (F := Ideal) 𝒱 dv bd i arg2 harg2 arg3 harg3 arg4 harg4 arg5 harg5 arg6 harg6 arg7 harg7 arg8 harg8 arg9 harg9 arg10 harg10 arg11 harg11 arg12 harg12 arg13 harg13 v3 v5 v7 v13 X_arg3 X_arg4 G_arg11 G_arg12 G_arg13 k).2.1) (ix2 c d) : EReal)
      = (arg12.view.read (Elt Ideal) G_arg12 (ix2 c d) : EReal)
        + if c.val < 1024 * k then ∑ r : Fin 1024,
            keyGrad (keyWeight v3 v13 (arg3.view.read (Elt Ideal) X_arg3) r c) v5 v7 (arg4.view.read (Elt Ideal) X_arg4) r c
              * (v3 (ix3 0 r d) : EReal) else 0)
    ∧ (∀ (c : Fin 4096) (d : Fin 128), (arg13.view.read (Elt Ideal) (arg13.view.writes (Elt Ideal) G_arg13 (pb_k0_t1 (F := Ideal) 𝒱 dv bd i arg2 harg2 arg3 harg3 arg4 harg4 arg5 harg5 arg6 harg6 arg7 harg7 arg8 harg8 arg9 harg9 arg10 harg10 arg11 harg11 arg12 harg12 arg13 harg13 v3 v5 v7 v13 X_arg3 X_arg4 G_arg11 G_arg12 G_arg13 k).2.2) (ix2 c d) : EReal)
      = (arg13.view.read (Elt Ideal) G_arg13 (ix2 c d) : EReal)
        + if c.val < 1024 * k then ∑ r : Fin 1024,
            keyWeight v3 v13 (arg3.view.read (Elt Ideal) X_arg3) r c * (v5 (ix2 r d) : EReal) else 0) := by
  induction k with
  | zero =>
    refine ⟨fun r d => ?_, fun c d => ?_, fun c d => ?_⟩
    · simp only [Nat.mul_zero, Nat.not_lt_zero, if_false, Finset.sum_const_zero, add_zero]; rfl
    · simp only [Nat.mul_zero, Nat.not_lt_zero, if_false, add_zero]; rfl
    · simp only [Nat.mul_zero, Nat.not_lt_zero, if_false, add_zero]; rfl
  | succ k ih =>
    obtain ⟨h1, h2, h3⟩ := ih (Nat.le_of_succ_le hk)
    have h4 : k < 4 := lt_of_lt_of_le hk (le_trans (k0_t1_abs i).2.1 (by decide))
    rw [pb_k0_t1_succ 𝒱 dv bd i arg2 harg2 arg3 harg3 arg4 harg4 arg5 harg5 arg6 harg6 arg7 harg7 arg8 harg8 arg9 harg9 arg10 harg10 arg11 harg11 arg12 harg12 arg13 harg13 v3 v5 v7 v13 X_arg3 X_arg4 G_arg11 G_arg12 G_arg13 ⟨k, hk⟩, trip_pieces]
    refine ⟨fun r d => ?_, fun c d => ?_, fun c d => ?_⟩
    · refine (congrFun (View.read_writes_full arg11.view G_arg11 _ _ _) (ix2 r d)).trans ?_
      refine (query_off _ _ _ _ _ _ _ r d).trans ?_
      rw [View.readAt_full, sum_next k h4, ← add_assoc, ← h1 r d]
      refine congrArg (_ + ·) (Finset.sum_congr rfl fun x _ => ?_)
      rw [walk_grad i arg3 arg4 v3 v5 v7 v13 X_arg3 X_arg4 ⟨k, hk⟩ h4 r x]
      exact congrArg (_ * ·) (readAt_rows3 arg3.view X_arg3 _ (1024 * k) (k0_off1_eq i ⟨k, hk⟩) (by omega) x d)
    · refine (read_store_rows arg12.view G_arg12 _ _ _ (1024 * k) (k0_off3_eq i ⟨k, hk⟩) c d).trans ?_
      by_cases h : 1024 * k ≤ c.val ∧ c.val < 1024 * k + 1024
      · have hc : (⟨1024 * k + (c.val - 1024 * k), by omega⟩ : Fin 4096) = c := Fin.ext (by show 1024 * k + (c.val - 1024 * k) = c.val; omega)
        rw [dif_pos h, if_pos (by omega)]
        refine (key_off _ _ _ _ _ _ _ _ d).trans ?_
        rw [readAt_rows arg12.view _ _ (1024 * k) (k0_off3_eq i ⟨k, hk⟩) (by omega) _ d]
        refine congrArg₂ (· + ·) ?_ (Finset.sum_congr rfl fun r _ => ?_)
        · refine (congrArg (fun y => arg12.view.read (Elt Ideal) _ (ix2 y d)) hc).trans ((h2 c d).trans ?_)
          rw [if_neg (by omega), add_zero]
        · rw [walk_grad i arg3 arg4 v3 v5 v7 v13 X_arg3 X_arg4 ⟨k, hk⟩ h4 r _, query_block]
          exact congrArg (fun y => keyGrad (keyWeight v3 v13 (arg3.view.read (Elt Ideal) X_arg3) r y) v5 v7 (arg4.view.read (Elt Ideal) X_arg4) r y * _) hc
      · rw [dif_neg h]
        refine (h2 c d).trans ?_
        by_cases h' : c.val < 1024 * k
        · rw [if_pos h', if_pos (by omega)]
        · rw [if_neg h', if_neg (by omega)]
    · refine (read_store_rows arg13.view G_arg13 _ _ _ (1024 * k) (k0_off2_eq i ⟨k, hk⟩) c d).trans ?_
      by_cases h : 1024 * k ≤ c.val ∧ c.val < 1024 * k + 1024
      · have hc : (⟨1024 * k + (c.val - 1024 * k), by omega⟩ : Fin 4096) = c := Fin.ext (by show 1024 * k + (c.val - 1024 * k) = c.val; omega)
        rw [dif_pos h, if_pos (by omega)]
        refine (value_off _ _ _ _ _ _ d).trans ?_
        rw [readAt_rows arg13.view _ _ (1024 * k) (k0_off2_eq i ⟨k, hk⟩) (by omega) _ d]
        refine congrArg₂ (· + ·) ?_ (Finset.sum_congr rfl fun r _ => ?_)
        · refine (congrArg (fun y => arg13.view.read (Elt Ideal) _ (ix2 y d)) hc).trans ((h3 c d).trans ?_)
          rw [if_neg (by omega), add_zero]
        · rw [walk_weight i arg3 v3 v13 X_arg3 ⟨k, hk⟩ h4 r _]
          exact congrArg (fun y => keyWeight v3 v13 (arg3.view.read (Elt Ideal) X_arg3) r y * _) hc
      · rw [dif_neg h]
        refine (h3 c d).trans ?_
        by_cases h' : c.val < 1024 * k
        · rw [if_pos h', if_pos (by omega)]
        · rw [if_neg h', if_neg (by omega)]
end

end Cert.MlaKernelIdeal.Tiles

end
-- ==== Proof.MlaDiag.lean ====
module

public import proofs.«01_k».proof.Proof.MlaLoop
public import proofs.«01_k».proof.Proof.Gen.MlaKernelIdeal.Value

/-!
# What one grid point of the causal attention's gradient leaves

The walk over the blocks of keys before the diagonal and the masked diagonal block together: the
query gradient's block is a sum over all 4096 keys, and the two running sums of the head take, for
every key, what this block of queries gives it.
-/

@[expose] public section

set_option maxRecDepth 16384

noncomputable section

open Idealize.ShloMosaic Idealize.ShloMosaic.TcCoe Idealize.SL.Sem
open Idealize.ShloMosaic.Pipeline (Dat)

namespace Cert.MlaKernelIdeal.Tiles

open Cert.MlaKernelIdeal Cert.MlaKernelIdeal.Gen Cert.MlaHead

section
variable (q : FVec Ideal S1x1024x192 .bf16) (K : FVec Ideal S1x4096x192 .bf16) (V : FVec Ideal S4096x128 .bf16)
  (o w : FVec Ideal S1024x128 .bf16) (l : FVec Ideal S1x1024x1 .f32) (n : ℕ)

/-- The causal weight of key `c` for row `r` of the `n`-th block of queries. -/
def causalWeight (r : Fin 1024) (c : Fin 4096) : EReal :=
  if c.val ≤ 1024 * n + r.val then keyWeight q l K r c else 0

/-- The score's cotangent under the causal mask. -/
def causalGrad (r : Fin 1024) (c : Fin 4096) : EReal :=
  keyGrad (causalWeight q K l n r c) w o V r c

theorem row_lt {n : ℕ} (hn : n < 4) (x : Fin 1024) : 1024 * n + x.val < 4096 := by omega

variable (kb : FVec Ideal S1x1024x192 .bf16) (vb : FVec Ideal S1024x128 .bf16) (hn : n < 4)
  (hkb : ∀ (x : Fin 1024) (e : Fin 192), kb (ix3 0 x e) = K (ix3 0 ⟨1024 * n + x.val, row_lt hn x⟩ e))
  (hvb : ∀ (x : Fin 1024) (e : Fin 128), vb (ix2 x e) = V (ix2 ⟨1024 * n + x.val, row_lt hn x⟩ e))

include hkb in
theorem diag_weight (r x : Fin 1024) :
    k0_pay26 (F := Ideal) (k0_pay19 q) (k0_pay21 l) (k0_pay25 kb) (ix2 r x)
      = causalWeight q K l n r ⟨1024 * n + x.val, by omega⟩ := by
  rw [weight_diag, causalWeight, keyWeight, lse_block]
  have e1 : (fun e => k0_pay19 (F := Ideal) q (ix2 r e)) = fun e => q (ix3 0 r e) := funext fun e => query_block q r e
  have e2 : (fun e => k0_pay25 (F := Ideal) kb (ix2 x e)) = fun e => K (ix3 0 ⟨1024 * n + x.val, by omega⟩ e) :=
    funext fun e => (key_block kb x e).trans (hkb x e)
  have e3 := (congrArg (fun f => weight f (l (ix3 0 r 0)) (fun e => k0_pay25 (F := Ideal) kb (ix2 x e))) e1).trans
    (congrArg (weight _ _) e2)
  by_cases h : x.val ≤ r.val
  · rw [if_pos h, if_pos (by show 1024 * n + x.val ≤ 1024 * n + r.val; omega)]
    exact e3
  · rw [if_neg h, if_neg (by show ¬ 1024 * n + x.val ≤ 1024 * n + r.val; omega)]

include hkb hvb in
theorem diag_grad (r x : Fin 1024) :
    k0_pay27 (F := Ideal) (k0_pay19 q) w (k0_pay20 w o) (k0_pay21 l) (k0_pay25 kb) vb (ix2 r x)
      = causalGrad q K V o w l n r ⟨1024 * n + x.val, by omega⟩ := by
  rw [grad_diag, ← weight_diag, diag_weight q K l n kb hn hkb r x, delta_block, causalGrad, keyGrad]
  exact congrArg (dscore _ _ _) (funext fun e => hvb x e)

/-- Keys before the block are unmasked, keys after it are masked away. -/
theorem causal_before (r : Fin 1024) (c : Fin 4096) (h : c.val < 1024 * n) : causalWeight q K l n r c = keyWeight q l K r c :=
  if_pos (by omega)

theorem causal_after (r : Fin 1024) (c : Fin 4096) (h : 1024 * n + 1024 ≤ c.val) : causalWeight q K l n r c = 0 :=
  if_neg (by omega)

theorem causalGrad_before (r : Fin 1024) (c : Fin 4096) (h : c.val < 1024 * n) :
    causalGrad q K V o w l n r c = keyGrad (keyWeight q l K r c) w o V r c := by
  rw [causalGrad, causal_before q K l n r c h]

theorem causalGrad_after (r : Fin 1024) (c : Fin 4096) (h : 1024 * n + 1024 ≤ c.val) :
    causalGrad q K V o w l n r c = 0 := by
  rw [causalGrad, causal_after q K l n r c h, keyGrad_zero]

include hkb hvb in
/-- The diagonal block completes the query gradient's sum over the keys. -/
theorem diag_query (a : FVec Ideal S1024x192 .f32) (r : Fin 1024) (d : Fin 192)
    (ha : (a (ix2 r d) : EReal) = ∑ c : Fin 4096, if c.val < 1024 * n then
      keyGrad (keyWeight q l K r c) w o V r c * (K (ix3 0 c d) : EReal) else 0) :
    (k0_pay28 (F := Ideal) (k0_pay19 q) w (k0_pay20 w o) (k0_pay21 l) (k0_pay25 kb) vb a (ix2 r d) : EReal)
      = ∑ c : Fin 4096, causalGrad q K V o w l n r c * (K (ix3 0 c d) : EReal) := by
  refine (query_diag _ _ _ _ _ _ a r d).trans ?_
  have h1 : (∑ c : Fin 4096, if c.val < 1024 * n then keyGrad (keyWeight q l K r c) w o V r c * (K (ix3 0 c d) : EReal) else 0)
      = ∑ c : Fin 4096, if c.val < 1024 * n then causalGrad q K V o w l n r c * (K (ix3 0 c d) : EReal) else 0 :=
    Finset.sum_congr rfl fun c _ => by
      by_cases h : c.val < 1024 * n
      · rw [if_pos h, if_pos h, causalGrad_before q K V o w l n r c h]
      · rw [if_neg h, if_neg h]
  have h2 : (∑ c : Fin 4096, causalGrad q K V o w l n r c * (K (ix3 0 c d) : EReal))
      = ∑ c : Fin 4096, if c.val < 1024 * (n + 1) then causalGrad q K V o w l n r c * (K (ix3 0 c d) : EReal) else 0 :=
    Finset.sum_congr rfl fun c _ => by
      by_cases h : c.val < 1024 * (n + 1)
      · rw [if_pos h]
      · rw [if_neg h, causalGrad_after q K V o w l n r c (by omega), zero_mul]
  rw [h2, sum_next n hn, ← h1, ← ha]
  refine congrArg (_ + ·) (Finset.sum_congr rfl fun x _ => ?_)
  rw [diag_grad q K V o w l n kb vb hn hkb hvb r x, key_block]
  exact congrArg (_ * ·) (hkb x d)

include hkb hvb in
/-- The diagonal block's rows of the key gradient, stored over what the walk left. -/
theorem diag_key {κ : Kind} {sp : Space} (v : View sig κ sp S4096x192 .f32) (f : v.ty.Contents (Elt Ideal))
    (L : List (View.Piece (Elt Ideal) S4096x192 .f32)) (B : Fin 4096 → Fin 192 → EReal)
    (hL : ∀ (c : Fin 4096) (d : Fin 192), (v.read (Elt Ideal) (v.writes (Elt Ideal) f L) (ix2 c d) : EReal)
      = B c d + if c.val < 1024 * n then ∑ r : Fin 1024, keyGrad (keyWeight q l K r c) w o V r c * (q (ix3 0 r d) : EReal) else 0)
    {off : Fin 2 → ℕ} (inb : ∀ a, off a + (![1024, 192] : Fin 2 → ℕ) a ≤ S4096x192.size a) (hoff : off = ![1024 * n, 0])
    (c : Fin 4096) (d : Fin 192) :
    (v.read (Elt Ideal) (v.writes (Elt Ideal) f (⟨Rect.unit (s := S4096x192) off ![1024, 192] inb,
        k0_pay29 (k0_pay19 q) w (k0_pay20 w o) (k0_pay21 l) (k0_pay25 kb) vb
          (v.readAt (Elt Ideal) (Rect.unit (s := S4096x192) off ![1024, 192] inb).toLoadRect (v.writes (Elt Ideal) f L))⟩ :: L)) (ix2 c d) : EReal)
      = B c d + ∑ r : Fin 1024, causalGrad q K V o w l n r c * (q (ix3 0 r d) : EReal) := by
  refine (read_store_rows v f inb _ L (1024 * n) hoff c d).trans ?_
  by_cases h : 1024 * n ≤ c.val ∧ c.val < 1024 * n + 1024
  · have hc : (⟨1024 * n + (c.val - 1024 * n), by omega⟩ : Fin 4096) = c := Fin.ext (by show 1024 * n + (c.val - 1024 * n) = c.val; omega)
    rw [dif_pos h]
    refine (key_diag _ _ _ _ _ _ _ _ d).trans ?_
    rw [readAt_rows v _ _ (1024 * n) hoff (by omega) _ d]
    refine congrArg₂ (· + ·) ?_ (Finset.sum_congr rfl fun r _ => ?_)
    · refine (congrArg (fun y => v.read (Elt Ideal) _ (ix2 y d)) hc).trans ((hL c d).trans ?_)
      rw [if_neg (by omega), add_zero]
    · rw [diag_grad q K V o w l n kb vb hn hkb hvb r _, query_block]
      exact congrArg (fun y => causalGrad q K V o w l n r y * _) hc
  · rw [dif_neg h]
    refine (hL c d).trans (congrArg (B c d + ·) ?_)
    by_cases h' : c.val < 1024 * n
    · rw [if_pos h']
      exact Finset.sum_congr rfl fun r _ => by rw [causalGrad_before q K V o w l n r c h']
    · rw [if_neg h']
      exact (Finset.sum_eq_zero fun r _ => by rw [causalGrad_after q K V o w l n r c (by omega), zero_mul]).symm

include hkb in
/-- The diagonal block's rows of the value gradient, stored over what the walk left. -/
theorem diag_value {κ : Kind} {sp : Space} (v : View sig κ sp S4096x128 .f32) (f : v.ty.Contents (Elt Ideal))
    (L : List (View.Piece (Elt Ideal) S4096x128 .f32)) (B : Fin 4096 → Fin 128 → EReal)
    (hL : ∀ (c : Fin 4096) (d : Fin 128), (v.read (Elt Ideal) (v.writes (Elt Ideal) f L) (ix2 c d) : EReal)
      = B c d + if c.val < 1024 * n then ∑ r : Fin 1024, keyWeight q l K r c * (w (ix2 r d) : EReal) else 0)
    {off : Fin 2 → ℕ} (inb : ∀ a, off a + (![1024, 128] : Fin 2 → ℕ) a ≤ S4096x128.size a) (hoff : off = ![1024 * n, 0])
    (c : Fin 4096) (d : Fin 128) :
    (v.read (Elt Ideal) (v.writes (Elt Ideal) f (⟨Rect.unit (s := S4096x128) off ![1024, 128] inb,
        k0_pay1 (k0_pay30 (k0_pay19 q) w (k0_pay21 l) (k0_pay25 kb)
          (v.readAt (Elt Ideal) (Rect.unit (s := S4096x128) off ![1024, 128] inb).toLoadRect (v.writes (Elt Ideal) f L)))⟩ :: L)) (ix2 c d) : EReal)
      = B c d + ∑ r : Fin 1024, causalWeight q K l n r c * (w (ix2 r d) : EReal) := by
  refine (read_store_rows v f inb _ L (1024 * n) hoff c d).trans ?_
  by_cases h : 1024 * n ≤ c.val ∧ c.val < 1024 * n + 1024
  · have hc : (⟨1024 * n + (c.val - 1024 * n), by omega⟩ : Fin 4096) = c := Fin.ext (by show 1024 * n + (c.val - 1024 * n) = c.val; omega)
    rw [dif_pos h]
    refine (value_diag _ _ _ _ _ _ d).trans ?_
    rw [readAt_rows v _ _ (1024 * n) hoff (by omega) _ d]
    refine congrArg₂ (· + ·) ?_ (Finset.sum_congr rfl fun r _ => ?_)
    · refine (congrArg (fun y => v.read (Elt Ideal) _ (ix2 y d)) hc).trans ((hL c d).trans ?_)
      rw [if_neg (by omega), add_zero]
    · rw [diag_weight q K l n kb hn hkb r _]
      exact congrArg (fun y => causalWeight q K l n r y * _) hc
  · rw [dif_neg h]
    refine (hL c d).trans (congrArg (B c d + ·) ?_)
    by_cases h' : c.val < 1024 * n
    · rw [if_pos h']
      exact Finset.sum_congr rfl fun r _ => by rw [causal_before q K l n r c h']
    · rw [if_neg h']
      exact (Finset.sum_eq_zero fun r _ => by rw [causal_after q K l n r c (by omega), zero_mul]).symm

end

end Cert.MlaKernelIdeal.Tiles

end
-- ==== Proof.MlaPoint.lean ====
module

public import proofs.«01_k».proof.Proof.MlaDiag

@[expose] public section

set_option maxRecDepth 16384

noncomputable section

open Idealize.ShloMosaic Idealize.ShloMosaic.TcCoe Idealize.SL.Sem
open Idealize.ShloMosaic.Pipeline (Dat)

namespace Cert.MlaKernelIdeal.Value

open Cert.MlaKernelIdeal Cert.MlaKernelIdeal.Gen Cert.MlaHead Cert.MlaKernelIdeal.Tiles

/-- The block of queries of a grid point. -/
theorem coord (t : Fin cfg0.N) : (grid0.coords t 1).val = t.val % 4 := by
  revert t; decide

theorem trips_words (n : Fin 4) :
    Scf.trips (0#32) (Scalar.addi (0#32) (Scalar.muli (Scalar.divsi (Scalar.subi (BitVec.ofNat 32 n.val) 0#32) 1#32) 1#32)) 1#32 = n.val := by
  revert n; decide

theorem rest_words (n : Fin 4) :
    Scf.trips (Scalar.addi (0#32) (Scalar.muli (Scalar.divsi (Scalar.subi (BitVec.ofNat 32 n.val) 0#32) 1#32) 1#32))
      (Scalar.addi (0#32) (Scalar.subi (BitVec.ofNat 32 n.val) 0#32)) 1#32 = 0 := by
  revert n; decide

theorem offset_words (n : Fin 4) :
    BitVec.toNat (Scalar.indexCast (Scalar.muli (BitVec.ofNat 32 n.val) 1024#32)) = 1024 * n.val := by
  revert n; decide

variable (m : (ℓ : Loc nD τ sig) → Buf (Elt Ideal) ℓ) (c : Dev nD)

/-- The block of queries of a grid point, as a number. -/
def blockOf (t : Fin cfg0.N) : ℕ := t.val % 4

theorem blockOf_lt (t : Fin cfg0.N) : blockOf t < 4 := Nat.mod_lt _ (by decide)

theorem ht (t : Fin cfg0.N) :
    Scf.trips (0#32) (Scalar.addi (0#32) (Scalar.muli (Scalar.divsi (Scalar.subi (BitVec.ofNat 32 ↑(grid0.coords t 1)) 0#32) 1#32) 1#32)) 1#32
      = blockOf t := by
  rw [coord t]; exact trips_words ⟨t.val % 4, Nat.mod_lt _ (by decide)⟩

theorem ht2 (t : Fin cfg0.N) :
    Scf.trips (Scalar.addi (0#32) (Scalar.muli (Scalar.divsi (Scalar.subi (BitVec.ofNat 32 ↑(grid0.coords t 1)) 0#32) 1#32) 1#32))
      (Scalar.addi (0#32) (Scalar.subi (BitVec.ofNat 32 ↑(grid0.coords t 1)) 0#32)) 1#32 = 0 := by
  rw [coord t]; exact rest_words ⟨t.val % 4, Nat.mod_lt _ (by decide)⟩

theorem hoff (t : Fin cfg0.N) :
    BitVec.toNat (Scalar.indexCast (Scalar.muli (BitVec.ofNat 32 ↑(grid0.coords t 1)) 1024#32)) = 1024 * blockOf t := by
  rw [coord t]; exact offset_words ⟨t.val % 4, Nat.mod_lt _ (by decide)⟩

theorem trips_le (t : Fin cfg0.N) : blockOf t ≤ (k0_t1_loop (grid0.coords t)).trips := (ht t).symm.le

theorem hq (t : Fin cfg0.N) : View.readAt (Elt Ideal) (ms0_0 t).view
    (Rect.unit (s := S1x1024x192) ![0, 0, 0] ![1, 1024, 192] inb_S1x1024x192_S1x1024x192_0_0_0).toLoadRect ((hs0_0 t).unread (iblk m c 0 t)) = iblk m c 0 t :=
  (View.readAt_full _ _ _).trans ((hs0_0 t).read_unread _)

theorem hw (t : Fin cfg0.N) : View.readAt (Elt Ideal) (ms0_4 t).view
    (Rect.unit (s := S1024x128) ![0, 0] ![1024, 128] inb_S1024x128_S1024x128_0_0).toLoadRect ((hs0_4 t).unread (iblk m c 4 t)) = iblk m c 4 t :=
  (View.readAt_full _ _ _).trans ((hs0_4 t).read_unread _)

theorem ho (t : Fin cfg0.N) : View.readAt (Elt Ideal) (ms0_3 t).view
    (Rect.unit (s := S1024x128) ![0, 0] ![1024, 128] inb_S1024x128_S1024x128_0_0).toLoadRect ((hs0_3 t).unread (iblk m c 3 t)) = iblk m c 3 t :=
  (View.readAt_full _ _ _).trans ((hs0_3 t).read_unread _)

theorem hl (t : Fin cfg0.N) : View.readAt (Elt Ideal) (ms0_5 t).view
    (Rect.unit (s := S1x1024x1) ![0, 0, 0] ![1, 1024, 1] inb_S1x1024x1_S1x1024x1_0_0_0).toLoadRect ((hs0_5 t).unread (iblk m c 5 t)) = iblk m c 5 t :=
  (View.readAt_full _ _ _).trans ((hs0_5 t).read_unread _)

theorem hK (t : Fin cfg0.N) : View.read (Elt Ideal) (ms0_1 t).view ((hs0_1 t).unread (iblk m c 1 t)) = iblk m c 1 t := (hs0_1 t).read_unread _

theorem hV (t : Fin cfg0.N) : View.read (Elt Ideal) (ms0_2 t).view ((hs0_2 t).unread (iblk m c 2 t)) = iblk m c 2 t := (hs0_2 t).read_unread _

theorem off_rows (t : Fin cfg0.N) :
    (![BitVec.toNat (Scalar.indexCast (Scalar.muli (BitVec.ofNat 32 ↑(grid0.coords t 1)) 1024#32)), 0] : Fin 2 → ℕ) = ![1024 * blockOf t, 0] := by
  rw [hoff t]

theorem off_rows3 (t : Fin cfg0.N) :
    (![0, BitVec.toNat (Scalar.indexCast (Scalar.muli (BitVec.ofNat 32 ↑(grid0.coords t 1)) 1024#32)), 0] : Fin 3 → ℕ) = ![0, 1024 * blockOf t, 0] := by
  rw [hoff t]

/-- The rows of the keys the diagonal block loads. -/
theorem key_rows (t : Fin cfg0.N) {off : Fin 3 → ℕ} (inb : ∀ a, off a + (![1, 1024, 192] : Fin 3 → ℕ) a ≤ S1x4096x192.size a)
    (h : off = ![0, 1024 * blockOf t, 0]) (x : Fin 1024) (e : Fin 192) :
    View.readAt (Elt Ideal) (ms0_1 t).view (Rect.unit (s := S1x4096x192) off ![1, 1024, 192] inb).toLoadRect ((hs0_1 t).unread (iblk m c 1 t)) (ix3 0 x e)
      = iblk m c 1 t (ix3 0 ⟨1024 * blockOf t + x.val, by have := blockOf_lt t; omega⟩ e) :=
  (readAt_rows3 _ _ _ _ h (by have := blockOf_lt t; omega) x e).trans (congrFun (hK m c t) _)

/-- The rows of the values the diagonal block loads. -/
theorem value_rows (t : Fin cfg0.N) {off : Fin 2 → ℕ} (inb : ∀ a, off a + (![1024, 128] : Fin 2 → ℕ) a ≤ S4096x128.size a)
    (h : off = ![1024 * blockOf t, 0]) (x : Fin 1024) (e : Fin 128) :
    View.readAt (Elt Ideal) (ms0_2 t).view (Rect.unit (s := S4096x128) off ![1024, 128] inb).toLoadRect ((hs0_2 t).unread (iblk m c 2 t)) (ix2 x e)
      = iblk m c 2 t (ix2 ⟨1024 * blockOf t + x.val, by have := blockOf_lt t; omega⟩ e) :=
  (readAt_rows _ _ _ _ h (by have := blockOf_lt t; omega) x e).trans (congrFun (hV m c t) _)

/-- What the blocks of queries before this one gave the head's key gradient. -/
def keyBefore (t : Fin cfg0.N) : FVec Ideal S4096x192 .f32 := (outsAt0 m c (t.val - 1) (Nat.lt_of_le_of_lt (Nat.sub_le _ _) t.isLt)).2.2.2.1

/-- What the blocks of queries before this one gave the head's value gradient. -/
def valueBefore (t : Fin cfg0.N) : FVec Ideal S4096x128 .f32 := (outsAt0 m c (t.val - 1) (Nat.lt_of_le_of_lt (Nat.sub_le _ _) t.isLt)).2.2.2.2

/-- What this block of queries gives the head's key gradient. -/
def keyPart (t : Fin cfg0.N) (k : Fin 4096) (d : Fin 192) : EReal :=
  ∑ r : Fin 1024, causalGrad (iblk m c 0 t) (iblk m c 1 t) (iblk m c 2 t) (iblk m c 3 t) (iblk m c 4 t) (iblk m c 5 t) (blockOf t) r k
    * (iblk m c 0 t (ix3 0 r d) : EReal)

/-- What this block of queries gives the head's value gradient. -/
def valuePart (t : Fin cfg0.N) (k : Fin 4096) (d : Fin 128) : EReal :=
  ∑ r : Fin 1024, causalWeight (iblk m c 0 t) (iblk m c 1 t) (iblk m c 5 t) (blockOf t) r k * (iblk m c 4 t (ix2 r d) : EReal)

/-- The query gradient of this block of queries. -/
def queryPart (t : Fin cfg0.N) (r : Fin 1024) (d : Fin 192) : EReal :=
  ∑ k : Fin 4096, causalGrad (iblk m c 0 t) (iblk m c 1 t) (iblk m c 2 t) (iblk m c 3 t) (iblk m c 4 t) (iblk m c 5 t) (blockOf t) r k
    * (iblk m c 1 t (ix3 0 k d) : EReal)

theorem out_query (a : FVec Ideal S1024x192 .f32) (r : Fin 1024) (d : Fin 192) :
    (k0_pay2 (F := Ideal) a (ix3 0 r d) : EReal) = a (ix2 r d) := by
  pointwise [k0_pay2]

theorem out_key (a : FVec Ideal S4096x192 .f32) (r : Fin 4096) (d : Fin 192) :
    (k0_pay3 (F := Ideal) a (ix3 0 r d) : EReal) = a (ix2 r d) := by
  pointwise [k0_pay3]

theorem out_value (a : FVec Ideal S4096x128 .f32) (r : Fin 4096) (d : Fin 128) :
    (k0_pay4 (F := Ideal) a (ix2 r d) : EReal) = a (ix2 r d) := by
  pointwise [k0_pay4]

/-- The running key gradient after the head's first block of queries. -/
theorem key_A (t : Fin cfg0.N) (h0 : t.val % 4 = 0) (k : Fin 4096) (d : Fin 192) :
    ((outsAt0 m c t.val t.isLt).2.2.2.1 (ix2 k d) : EReal) = (0 : EReal) + keyPart m c t k d := by
  have h1 : ¬ t.val % 4 = 3 := by omega
  rw [outsAt0_A m c t h0 h1]
  dsimp only
  unfold sout0_A_1 kernelRun0_A
  sl_unfold_words
  dsimp only
  simp only [ht t, ht2 t, pb_k0_t2, List.nil_append, hq m c t, hw m c t, ho m c t, hl m c t]
  refine (diag_key (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ _ _ (fun k d => (0 : EReal)) ?_ _ (off_rows t) k d)
  intro k d
  rw [View.writes_append]
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.1 k d |>.trans ?_
  rw [hK, hV]
  refine congrArg (· + _) ?_
  exact (congrFun (View.read_writes_full _ _ _ _ _) _).trans (zero_k k d)

/-- The running value gradient after the head's first block of queries. -/
theorem value_A (t : Fin cfg0.N) (h0 : t.val % 4 = 0) (k : Fin 4096) (d : Fin 128) :
    ((outsAt0 m c t.val t.isLt).2.2.2.2 (ix2 k d) : EReal) = (0 : EReal) + valuePart m c t k d := by
  have h1 : ¬ t.val % 4 = 3 := by omega
  rw [outsAt0_A m c t h0 h1]
  dsimp only
  unfold sout0_A_2 kernelRun0_A
  sl_unfold_words
  dsimp only
  simp only [ht t, ht2 t, pb_k0_t2, List.nil_append, hq m c t, hw m c t, ho m c t, hl m c t]
  refine (diag_value (iblk m c 0 t) (iblk m c 1 t) (iblk m c 4 t) (iblk m c 5 t) (blockOf t) _ (blockOf_lt t)
    (key_rows m c t _ (off_rows3 t)) _ _ _ (fun k d => (0 : EReal)) ?_ _ (off_rows t) k d)
  intro k d
  rw [View.writes_append]
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.2 k d |>.trans ?_
  rw [hK]
  refine congrArg (· + _) ?_
  exact (congrFun (View.read_writes_full _ _ _ _ _) _).trans (zero_v k d)

/-- The query gradient's block at the head's first block of queries. -/
theorem query_A (t : Fin cfg0.N) (h0 : t.val % 4 = 0) (r : Fin 1024) (d : Fin 192) :
    ((outsAt0 m c t.val t.isLt).1 (ix3 0 r d) : EReal) = queryPart m c t r d := by
  have h1 : ¬ t.val % 4 = 3 := by omega
  rw [outsAt0_A m c t h0 h1]
  dsimp only
  unfold out0_A_6 kernelRun0_A
  sl_unfold_words
  dsimp only
  simp only [ht t, ht2 t, pb_k0_t2, List.nil_append, hq m c t, hw m c t, ho m c t, hl m c t]
  refine (congrFun (View.read_writes_full VO0_6 _ _ _ _) (ix3 0 r d)).trans ?_
  refine (out_query _ r d).trans ?_
  rw [View.readCov_full]
  refine diag_query (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ r d ?_
  refine (congrFun (View.readAt_full (View.whole cc0_scratch0) _ _) (ix2 r d)).trans ?_
  rw [View.writes_append]
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).1 r d |>.trans ?_
  rw [hK, hV]
  refine (congrArg (· + _) ((congrFun (View.read_writes_full _ _ _ _ _) _).trans (zero_q r d))).trans (zero_add _)

/-- The running key gradient after a block between the first and the last of queries. -/
theorem key_B (t : Fin cfg0.N) (h0 : ¬ t.val % 4 = 0) (h1 : ¬ t.val % 4 = 3) (k : Fin 4096) (d : Fin 192) :
    ((outsAt0 m c t.val t.isLt).2.2.2.1 (ix2 k d) : EReal) = keyBefore m c t (ix2 k d) + keyPart m c t k d := by
  rw [outsAt0_B m c t h0 h1]
  dsimp only
  unfold sout0_B_1 kernelRun0_B
  sl_unfold_words
  dsimp only
  simp only [ht t, ht2 t, pb_k0_t2, List.nil_append, hq m c t, hw m c t, ho m c t, hl m c t]
  refine (diag_key (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ _ _ (fun k d => keyBefore m c t (ix2 k d)) ?_ _ (off_rows t) k d)
  intro k d
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.1 k d |>.trans ?_
  rw [hK, hV]
  refine congrArg (· + _) ?_
  exact congrFun (read_unread_whole _ _ _) _

/-- The running value gradient after a block between the first and the last of queries. -/
theorem value_B (t : Fin cfg0.N) (h0 : ¬ t.val % 4 = 0) (h1 : ¬ t.val % 4 = 3) (k : Fin 4096) (d : Fin 128) :
    ((outsAt0 m c t.val t.isLt).2.2.2.2 (ix2 k d) : EReal) = valueBefore m c t (ix2 k d) + valuePart m c t k d := by
  rw [outsAt0_B m c t h0 h1]
  dsimp only
  unfold sout0_B_2 kernelRun0_B
  sl_unfold_words
  dsimp only
  simp only [ht t, ht2 t, pb_k0_t2, List.nil_append, hq m c t, hw m c t, ho m c t, hl m c t]
  refine (diag_value (iblk m c 0 t) (iblk m c 1 t) (iblk m c 4 t) (iblk m c 5 t) (blockOf t) _ (blockOf_lt t)
    (key_rows m c t _ (off_rows3 t)) _ _ _ (fun k d => valueBefore m c t (ix2 k d)) ?_ _ (off_rows t) k d)
  intro k d
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.2 k d |>.trans ?_
  rw [hK]
  refine congrArg (· + _) ?_
  exact congrFun (read_unread_whole _ _ _) _

/-- The query gradient's block at a block between the first and the last of queries. -/
theorem query_B (t : Fin cfg0.N) (h0 : ¬ t.val % 4 = 0) (h1 : ¬ t.val % 4 = 3) (r : Fin 1024) (d : Fin 192) :
    ((outsAt0 m c t.val t.isLt).1 (ix3 0 r d) : EReal) = queryPart m c t r d := by
  rw [outsAt0_B m c t h0 h1]
  dsimp only
  unfold out0_B_6 kernelRun0_B
  sl_unfold_words
  dsimp only
  simp only [ht t, ht2 t, pb_k0_t2, List.nil_append, hq m c t, hw m c t, ho m c t, hl m c t]
  refine (congrFun (View.read_writes_full VO0_6 _ _ _ _) (ix3 0 r d)).trans ?_
  refine (out_query _ r d).trans ?_
  rw [View.readCov_full]
  refine diag_query (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ r d ?_
  refine (congrFun (View.readAt_full (View.whole cc0_scratch0) _ _) (ix2 r d)).trans ?_
  rw [View.writes_append]
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).1 r d |>.trans ?_
  rw [hK, hV]
  refine (congrArg (· + _) ((congrFun (View.read_writes_full _ _ _ _ _) _).trans (zero_q r d))).trans (zero_add _)

/-- The running key gradient after the head's last block of queries. -/
theorem key_C (t : Fin cfg0.N) (h1 : t.val % 4 = 3) (k : Fin 4096) (d : Fin 192) :
    ((outsAt0 m c t.val t.isLt).2.2.2.1 (ix2 k d) : EReal) = keyBefore m c t (ix2 k d) + keyPart m c t k d := by
  have h0 : ¬ t.val % 4 = 0 := by omega
  rw [outsAt0_C m c t h0 h1]
  dsimp only
  unfold sout0_C_1 kernelRun0_C
  sl_unfold_words
  dsimp only
  simp only [ht t, ht2 t, pb_k0_t2, List.nil_append, hq m c t, hw m c t, ho m c t, hl m c t]
  refine (diag_key (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ _ _ (fun k d => keyBefore m c t (ix2 k d)) ?_ _ (off_rows t) k d)
  intro k d
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.1 k d |>.trans ?_
  rw [hK, hV]
  refine congrArg (· + _) ?_
  exact congrFun (read_unread_whole _ _ _) _

/-- The running value gradient after the head's last block of queries. -/
theorem value_C (t : Fin cfg0.N) (h1 : t.val % 4 = 3) (k : Fin 4096) (d : Fin 128) :
    ((outsAt0 m c t.val t.isLt).2.2.2.2 (ix2 k d) : EReal) = valueBefore m c t (ix2 k d) + valuePart m c t k d := by
  have h0 : ¬ t.val % 4 = 0 := by omega
  rw [outsAt0_C m c t h0 h1]
  dsimp only
  unfold sout0_C_2 kernelRun0_C
  sl_unfold_words
  dsimp only
  simp only [ht t, ht2 t, pb_k0_t2, List.nil_append, hq m c t, hw m c t, ho m c t, hl m c t]
  refine (diag_value (iblk m c 0 t) (iblk m c 1 t) (iblk m c 4 t) (iblk m c 5 t) (blockOf t) _ (blockOf_lt t)
    (key_rows m c t _ (off_rows3 t)) _ _ _ (fun k d => valueBefore m c t (ix2 k d)) ?_ _ (off_rows t) k d)
  intro k d
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.2 k d |>.trans ?_
  rw [hK]
  refine congrArg (· + _) ?_
  exact congrFun (read_unread_whole _ _ _) _

/-- The query gradient's block at the head's last block of queries. -/
theorem query_C (t : Fin cfg0.N) (h1 : t.val % 4 = 3) (r : Fin 1024) (d : Fin 192) :
    ((outsAt0 m c t.val t.isLt).1 (ix3 0 r d) : EReal) = queryPart m c t r d := by
  have h0 : ¬ t.val % 4 = 0 := by omega
  rw [outsAt0_C m c t h0 h1]
  dsimp only
  unfold out0_C_6 kernelRun0_C
  sl_unfold_words
  dsimp only
  simp only [ht t, ht2 t, pb_k0_t2, List.nil_append, hq m c t, hw m c t, ho m c t, hl m c t]
  refine (congrFun (View.read_writes_full VO0_6 _ _ _ _) (ix3 0 r d)).trans ?_
  refine (out_query _ r d).trans ?_
  rw [View.readCov_full]
  refine diag_query (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ r d ?_
  refine (congrFun (View.readAt_full (View.whole cc0_scratch0) _ _) (ix2 r d)).trans ?_
  rw [View.writes_append]
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).1 r d |>.trans ?_
  rw [hK, hV]
  refine (congrArg (· + _) ((congrFun (View.read_writes_full _ _ _ _ _) _).trans (zero_q r d))).trans (zero_add _)

/-- The head's key gradient as written at its last block of queries. -/
theorem key_out (t : Fin cfg0.N) (h1 : t.val % 4 = 3) (k : Fin 4096) (d : Fin 192) :
    ((outsAt0 m c t.val t.isLt).2.1 (ix3 0 k d) : EReal) = keyBefore m c t (ix2 k d) + keyPart m c t k d := by
  have h0 : ¬ t.val % 4 = 0 := by omega
  rw [outsAt0_C m c t h0 h1]
  dsimp only
  unfold out0_C_7 kernelRun0_C
  sl_unfold_words
  dsimp only
  simp only [ht t, ht2 t, pb_k0_t2, List.nil_append, hq m c t, hw m c t, ho m c t, hl m c t]
  refine (congrFun (View.read_writes_full VO0_7 _ _ _ _) (ix3 0 k d)).trans ?_
  refine (out_key _ k d).trans ?_
  refine (congrFun (View.readAt_full (View.whole cc0_scratch1) _ _) (ix2 k d)).trans ?_
  refine (diag_key (iblk m c 0 t) (iblk m c 1 t) (iblk m c 2 t) (iblk m c 3 t) (iblk m c 4 t) (iblk m c 5 t) (blockOf t) _ _ (blockOf_lt t)
    (key_rows m c t _ (off_rows3 t)) (value_rows m c t _ (off_rows t)) _ _ _ (fun k d => keyBefore m c t (ix2 k d)) ?_ _ (off_rows t) k d)
  intro k d
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.1 k d |>.trans ?_
  rw [hK, hV]
  refine congrArg (· + _) ?_
  exact congrFun (read_unread_whole _ _ _) _

/-- The head's value gradient as written at its last block of queries. -/
theorem value_out (t : Fin cfg0.N) (h1 : t.val % 4 = 3) (k : Fin 4096) (d : Fin 128) :
    ((outsAt0 m c t.val t.isLt).2.2.1 (ix2 k d) : EReal) = valueBefore m c t (ix2 k d) + valuePart m c t k d := by
  have h0 : ¬ t.val % 4 = 0 := by omega
  rw [outsAt0_C m c t h0 h1]
  dsimp only
  unfold out0_C_8 kernelRun0_C
  sl_unfold_words
  dsimp only
  simp only [ht t, ht2 t, pb_k0_t2, List.nil_append, hq m c t, hw m c t, ho m c t, hl m c t]
  refine (congrFun (View.read_writes_full VO0_8 _ _ _ _) (ix2 k d)).trans ?_
  refine (out_value _ k d).trans ?_
  refine (congrFun (View.readAt_full (View.whole cc0_scratch2) _ _) (ix2 k d)).trans ?_
  refine (diag_value (iblk m c 0 t) (iblk m c 1 t) (iblk m c 4 t) (iblk m c 5 t) (blockOf t) _ (blockOf_lt t)
    (key_rows m c t _ (off_rows3 t)) _ _ _ (fun k d => valueBefore m c t (ix2 k d)) ?_ _ (off_rows t) k d)
  intro k d
  refine (walk Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ _ _ (blockOf t) (trips_le t)).2.2 k d |>.trans ?_
  rw [hK]
  refine congrArg (· + _) ?_
  exact congrFun (read_unread_whole _ _ _) _

end Cert.MlaKernelIdeal.Value

end
-- ==== Proof.MlaArrays.lean ====
module

public import proofs.«01_k».proof.Proof.MlaPoint

/-!
# The three arrays the causal attention's gradient leaves, over the arrays the kernel is given

Over the queries, keys, values, outputs, their cotangents and the rows' log-sum-exps: the query
gradient, and the key and value gradients as sums over all queries, collected by the kernel from the
four blocks of queries of each head.
-/

@[expose] public section

set_option maxRecDepth 16384

noncomputable section

open Idealize.ShloMosaic Idealize.ShloMosaic.TcCoe Idealize.SL.Sem
open Idealize.ShloMosaic.Pipeline (Dat)

namespace Cert.MlaKernelIdeal.Value

open Cert.MlaKernelIdeal Cert.MlaKernelIdeal.Gen Cert.MlaHead Cert.MlaKernelIdeal.Tiles

section
variable (Q K : FVec Ideal S12x4096x192 .bf16) (VV : FVec Ideal S4096x1536 .bf16) (O W : FVec Ideal S4096x2048 .bf16)
  (L : FVec Ideal S12x4096x1 .f32)

/-- The causal weight of key `c` for query `r` at head `h`. -/
def headWeight (h : Fin 12) (r c : Fin 4096) : EReal :=
  if c.val ≤ r.val then weight (fun e => Q (ix3 h r e)) (L (ix3 h r 0)) (fun e => K (ix3 h c e)) else 0

/-- Column `d` of head `h` among the values' columns. -/
def col (h : Fin 12) (d : Fin 128) : Fin 1536 := ⟨h.val * 128 + d.val, by omega⟩

/-- Column `d` of head `h` among the mixer's 2048 columns. -/
def mixCol (h : Fin 12) (d : Fin 128) : Fin 2048 := ⟨h.val * 128 + d.val, by omega⟩

/-- The cotangent of the unscaled score. -/
def headGrad (h : Fin 12) (r c : Fin 4096) : EReal :=
  dscore (headWeight Q K L h r c) (fun d => W (ix2 r (mixCol h d)))
    (∑ d : Fin 128, W (ix2 r (mixCol h d)) * O (ix2 r (mixCol h d))) (fun d => VV (ix2 c (col h d)))

def dQ (h : Fin 12) (r : Fin 4096) (d : Fin 192) : EReal :=
  ∑ c : Fin 4096, headGrad Q K VV O W L h r c * (K (ix3 h c d) : EReal)

def dK (h : Fin 12) (c : Fin 4096) (d : Fin 192) : EReal :=
  ∑ r : Fin 4096, headGrad Q K VV O W L h r c * (Q (ix3 h r d) : EReal)

def dV (h : Fin 12) (c : Fin 4096) (d : Fin 128) : EReal :=
  ∑ r : Fin 4096, headWeight Q K L h r c * (W (ix2 r (mixCol h d)) : EReal)

end

variable (m : (ℓ : Loc nD τ sig) → Buf (Elt Ideal) ℓ) (c : Dev nD)

theorem idx : ∀ t : Fin cfg0.N, win0_0.index t = ![t.val / 4, t.val % 4, 0] ∧ win0_1.index t = ![t.val / 4, 0, 0]
    ∧ win0_2.index t = ![0, t.val / 4] ∧ win0_3.index t = ![t.val % 4, t.val / 4] ∧ win0_4.index t = ![t.val % 4, t.val / 4]
    ∧ win0_5.index t = ![t.val / 4, t.val % 4, 0] ∧ win0_6.index t = ![t.val / 4, t.val % 4, 0] ∧ win0_7.index t = ![t.val / 4, 0, 0]
    ∧ win0_8.index t = ![0, t.val / 4] ∧ t.val < 48 :=
  (by decide +kernel : ∀ t : Fin grid0.N, _)

/-- The head of a grid point. -/
def headOf (t : Fin cfg0.N) : Fin 12 := ⟨t.val / 4, by have := (idx t).2.2.2.2.2.2.2.2.2; omega⟩

/-- The row of the whole array at row `r` of the point's block of queries. -/
def rowAt (t : Fin cfg0.N) (r : Fin 1024) : Fin 4096 := ⟨1024 * (t.val % 4) + r.val, by omega⟩

abbrev aQ : FVec Ideal S12x4096x192 .bf16 := V m c main_arg0
abbrev aK : FVec Ideal S12x4096x192 .bf16 := V m c main_arg1
abbrev aV : FVec Ideal S4096x1536 .bf16 := V m c main_arg2
abbrev aO : FVec Ideal S4096x2048 .bf16 := V m c main_v38
abbrev aW : FVec Ideal S4096x2048 .bf16 := V m c main_arg4
abbrev aL : FVec Ideal S12x4096x1 .f32 := V m c main_v36

/-! Where the block a grid point reads lies in its array, for any contents of the array. -/

theorem read_q (t : Fin cfg0.N) (x : FVec Ideal S12x4096x192 .bf16) (r : Fin 1024) (e : Fin 192) :
    ((cfg0.win 0).blk t).view.read (Elt Ideal) x (ix3 0 r e) = x (ix3 (headOf t) (rowAt t r) e) := by
  unfold rowAt headOf
  blk_point [idx t]

theorem read_k (t : Fin cfg0.N) (x : FVec Ideal S12x4096x192 .bf16) (r : Fin 4096) (e : Fin 192) :
    ((cfg0.win 1).blk t).view.read (Elt Ideal) x (ix3 0 r e) = x (ix3 (headOf t) r e) := by
  unfold headOf
  blk_point [idx t]

theorem read_v (t : Fin cfg0.N) (x : FVec Ideal S4096x1536 .bf16) (r : Fin 4096) (d : Fin 128) :
    ((cfg0.win 2).blk t).view.read (Elt Ideal) x (ix2 r d) = x (ix2 r (col (headOf t) d)) := by
  unfold headOf col
  blk_point [idx t]

theorem read_o (t : Fin cfg0.N) (x : FVec Ideal S4096x2048 .bf16) (r : Fin 1024) (d : Fin 128) :
    ((cfg0.win 3).blk t).view.read (Elt Ideal) x (ix2 r d) = x (ix2 (rowAt t r) (mixCol (headOf t) d)) := by
  unfold headOf rowAt mixCol
  blk_point [idx t]

theorem read_w (t : Fin cfg0.N) (x : FVec Ideal S4096x2048 .bf16) (r : Fin 1024) (d : Fin 128) :
    ((cfg0.win 4).blk t).view.read (Elt Ideal) x (ix2 r d) = x (ix2 (rowAt t r) (mixCol (headOf t) d)) := by
  unfold headOf rowAt mixCol
  blk_point [idx t]

theorem read_l (t : Fin cfg0.N) (x : FVec Ideal S12x4096x1 .f32) (r : Fin 1024) :
    ((cfg0.win 5).blk t).view.read (Elt Ideal) x (ix3 0 r 0) = x (ix3 (headOf t) (rowAt t r) 0) := by
  unfold headOf rowAt
  blk_point [idx t]

theorem block_q (t : Fin cfg0.N) (r : Fin 1024) (e : Fin 192) : iblk m c 0 t (ix3 0 r e) = aQ m c (ix3 (headOf t) (rowAt t r) e) :=
  read_q t (aQ m c) r e

theorem block_k (t : Fin cfg0.N) (r : Fin 4096) (e : Fin 192) : iblk m c 1 t (ix3 0 r e) = aK m c (ix3 (headOf t) r e) :=
  read_k t (aK m c) r e

theorem block_v (t : Fin cfg0.N) (r : Fin 4096) (d : Fin 128) : iblk m c 2 t (ix2 r d) = aV m c (ix2 r (col (headOf t) d)) :=
  read_v t (aV m c) r d

theorem block_o (t : Fin cfg0.N) (r : Fin 1024) (d : Fin 128) : iblk m c 3 t (ix2 r d) = aO m c (ix2 (rowAt t r) (mixCol (headOf t) d)) :=
  read_o t (aO m c) r d

theorem block_w (t : Fin cfg0.N) (r : Fin 1024) (d : Fin 128) : iblk m c 4 t (ix2 r d) = aW m c (ix2 (rowAt t r) (mixCol (headOf t) d)) :=
  read_w t (aW m c) r d

theorem block_l (t : Fin cfg0.N) (r : Fin 1024) : iblk m c 5 t (ix3 0 r 0) = aL m c (ix3 (headOf t) (rowAt t r) 0) :=
  read_l t (aL m c) r

theorem block_weight (t : Fin cfg0.N) (r : Fin 1024) (k : Fin 4096) :
    causalWeight (iblk m c 0 t) (iblk m c 1 t) (iblk m c 5 t) (blockOf t) r k
      = headWeight (aQ m c) (aK m c) (aL m c) (headOf t) (rowAt t r) k := by
  rw [causalWeight, headWeight, keyWeight, block_l]
  have e1 : (fun e => iblk m c 0 t (ix3 0 r e)) = fun e => aQ m c (ix3 (headOf t) (rowAt t r) e) := funext fun e => block_q m c t r e
  have e2 : (fun e => iblk m c 1 t (ix3 0 k e)) = fun e => aK m c (ix3 (headOf t) k e) := funext fun e => block_k m c t k e
  have e3 := (congrArg (fun f => weight f (aL m c (ix3 (headOf t) (rowAt t r) 0)) (fun e => iblk m c 1 t (ix3 0 k e))) e1).trans
    (congrArg (weight _ _) e2)
  exact if_congr Iff.rfl e3 rfl

theorem block_grad (t : Fin cfg0.N) (r : Fin 1024) (k : Fin 4096) :
    causalGrad (iblk m c 0 t) (iblk m c 1 t) (iblk m c 2 t) (iblk m c 3 t) (iblk m c 4 t) (iblk m c 5 t) (blockOf t) r k
      = headGrad (aQ m c) (aK m c) (aV m c) (aO m c) (aW m c) (aL m c) (headOf t) (rowAt t r) k := by
  rw [causalGrad, headGrad, keyGrad, block_weight]
  have e1 : (fun d => iblk m c 4 t (ix2 r d)) = fun d => aW m c (ix2 (rowAt t r) (mixCol (headOf t) d)) := funext fun d => block_w m c t r d
  have e2 : (fun d => iblk m c 2 t (ix2 k d)) = fun d => aV m c (ix2 k (col (headOf t) d)) := funext fun d => block_v m c t k d
  have e3 := Finset.sum_congr rfl fun (d : Fin 128) (_ : d ∈ Finset.univ) =>
    congrArg₂ (fun x y : EReal => x * y) (block_w m c t r d) (block_o m c t r d)
  exact (congrArg (fun f => dscore _ f _ _) e1).trans ((congrArg (fun z => dscore _ _ z _) e3).trans (congrArg (dscore _ _ _) e2))

theorem block_dq (t : Fin cfg0.N) (r : Fin 1024) (d : Fin 192) :
    queryPart m c t r d = dQ (aQ m c) (aK m c) (aV m c) (aO m c) (aW m c) (aL m c) (headOf t) (rowAt t r) d := by
  rw [queryPart, dQ]
  exact Finset.sum_congr rfl fun k _ => congrArg₂ (· * ·) (block_grad m c t r k) (block_k m c t k d)

theorem block_dk (t : Fin cfg0.N) (k : Fin 4096) (d : Fin 192) :
    keyPart m c t k d = ∑ r : Fin 1024, headGrad (aQ m c) (aK m c) (aV m c) (aO m c) (aW m c) (aL m c) (headOf t) (rowAt t r) k
      * (aQ m c (ix3 (headOf t) (rowAt t r) d) : EReal) := by
  rw [keyPart]
  exact Finset.sum_congr rfl fun r _ => congrArg₂ (· * ·) (block_grad m c t r k) (block_q m c t r d)

theorem block_dv (t : Fin cfg0.N) (k : Fin 4096) (d : Fin 128) :
    valuePart m c t k d = ∑ r : Fin 1024, headWeight (aQ m c) (aK m c) (aL m c) (headOf t) (rowAt t r) k
      * (aW m c (ix2 (rowAt t r) (mixCol (headOf t) d)) : EReal) := by
  rw [valuePart]
  exact Finset.sum_congr rfl fun r _ => congrArg₂ (· * ·) (block_weight m c t r k) (block_w m c t r d)

/-- The four blocks of queries of a head make up its 4096 queries. -/
theorem four_blocks (f : Fin 4096 → EReal) :
    (∑ r : Fin 4096, f r) = (0 + (∑ x : Fin 1024, f ⟨1024 * 0 + x.val, by omega⟩) + (∑ x : Fin 1024, f ⟨1024 * 1 + x.val, by omega⟩)
      + (∑ x : Fin 1024, f ⟨1024 * 2 + x.val, by omega⟩)) + ∑ x : Fin 1024, f ⟨1024 * 3 + x.val, by omega⟩ := by
  rw [Fin.sum_univ_tiles 4 1024 rfl f, Fin.sum_univ_four, zero_add]
  refine congrArg₂ (· + ·) (congrArg₂ (· + ·) (congrArg₂ (· + ·) ?_ ?_) ?_) ?_ <;>
    exact Finset.sum_congr rfl fun x _ => congrArg f (Fin.ext rfl)

end Cert.MlaKernelIdeal.Value

end
-- ==== Proof.MlaFinal.lean ====
module

public import proofs.«01_k».proof.Proof.MlaArrays

/-!
# The three gradient arrays when the causal attention's backward kernel has run

The query gradient is written block by block; the key and value gradients of a head are written after
its fourth block of queries and are then the sums over all 4096 queries.
-/

@[expose] public section

set_option maxRecDepth 16384

noncomputable section

open Idealize.ShloMosaic Idealize.ShloMosaic.TcCoe Idealize.SL.Sem
open Idealize.ShloMosaic.Pipeline (Dat)

namespace Cert.MlaKernelIdeal.Value

open Cert.MlaKernelIdeal Cert.MlaKernelIdeal.Gen Cert.MlaHead Cert.MlaKernelIdeal.Tiles

variable (m : (ℓ : Loc nD τ sig) → Buf (Elt Ideal) ℓ) (c : Dev nD)

/-- The grid point before `t` in the same head. -/
def before (t : Fin cfg0.N) : Fin cfg0.N := ⟨t.val - 1, Nat.lt_of_le_of_lt (Nat.sub_le _ _) t.isLt⟩

theorem head_before (t : Fin cfg0.N) (h : ¬ t.val % 4 = 0) : headOf (before t) = headOf t := by
  apply Fin.ext
  show (t.val - 1) / 4 = t.val / 4
  omega

/-- Row `r` of the `n`-th block of queries. -/
def blockRow (n : Fin 4) (r : Fin 1024) : Fin 4096 := ⟨1024 * n.val + r.val, by omega⟩

theorem rowAt_eq (t : Fin cfg0.N) (n : Fin 4) (h : t.val % 4 = n.val) (r : Fin 1024) : rowAt t r = blockRow n r := by
  apply Fin.ext
  show 1024 * (t.val % 4) + r.val = 1024 * n.val + r.val
  rw [h]

/-- What the `n`-th block of queries of head `h` gives the key gradient. -/
def keyShare (h : Fin 12) (n : Fin 4) (k : Fin 4096) (d : Fin 192) : EReal :=
  ∑ r : Fin 1024, headGrad (aQ m c) (aK m c) (aV m c) (aO m c) (aW m c) (aL m c) h (blockRow n r) k
    * (aQ m c (ix3 h (blockRow n r) d) : EReal)

/-- What the `n`-th block of queries of head `h` gives the value gradient. -/
def valueShare (h : Fin 12) (n : Fin 4) (k : Fin 4096) (d : Fin 128) : EReal :=
  ∑ r : Fin 1024, headWeight (aQ m c) (aK m c) (aL m c) h (blockRow n r) k * (aW m c (ix2 (blockRow n r) (mixCol h d)) : EReal)

theorem keyPart_eq (t : Fin cfg0.N) (n : Fin 4) (h : t.val % 4 = n.val) (k : Fin 4096) (d : Fin 192) :
    keyPart m c t k d = keyShare m c (headOf t) n k d := by
  rw [block_dk, keyShare]
  exact Finset.sum_congr rfl fun r _ => by rw [rowAt_eq t n h r]

theorem valuePart_eq (t : Fin cfg0.N) (n : Fin 4) (h : t.val % 4 = n.val) (k : Fin 4096) (d : Fin 128) :
    valuePart m c t k d = valueShare m c (headOf t) n k d := by
  rw [block_dv, valueShare]
  exact Finset.sum_congr rfl fun r _ => by rw [rowAt_eq t n h r]

theorem key_after0 (t : Fin cfg0.N) (h : t.val % 4 = 0) (k : Fin 4096) (d : Fin 192) :
    ((outsAt0 m c t.val t.isLt).2.2.2.1 (ix2 k d) : EReal) = 0 + keyShare m c (headOf t) 0 k d := by
  rw [key_A m c t h k d, keyPart_eq m c t 0 h]

theorem key_after1 (t : Fin cfg0.N) (h : t.val % 4 = 1) (k : Fin 4096) (d : Fin 192) :
    ((outsAt0 m c t.val t.isLt).2.2.2.1 (ix2 k d) : EReal) = 0 + keyShare m c (headOf t) 0 k d + keyShare m c (headOf t) 1 k d := by
  rw [key_B m c t (by omega) (by omega) k d, keyPart_eq m c t 1 h]
  refine congrArg (fun z : EReal => z + keyShare m c (headOf t) 1 k d) ?_
  rw [← head_before t (by omega)]
  exact key_after0 m c (before t) (by show (t.val - 1) % 4 = 0; omega) k d

theorem key_after2 (t : Fin cfg0.N) (h : t.val % 4 = 2) (k : Fin 4096) (d : Fin 192) :
    ((outsAt0 m c t.val t.isLt).2.2.2.1 (ix2 k d) : EReal)
      = 0 + keyShare m c (headOf t) 0 k d + keyShare m c (headOf t) 1 k d + keyShare m c (headOf t) 2 k d := by
  rw [key_B m c t (by omega) (by omega) k d, keyPart_eq m c t 2 h]
  refine congrArg (fun z : EReal => z + keyShare m c (headOf t) 2 k d) ?_
  rw [← head_before t (by omega)]
  exact key_after1 m c (before t) (by show (t.val - 1) % 4 = 1; omega) k d

theorem value_after0 (t : Fin cfg0.N) (h : t.val % 4 = 0) (k : Fin 4096) (d : Fin 128) :
    ((outsAt0 m c t.val t.isLt).2.2.2.2 (ix2 k d) : EReal) = 0 + valueShare m c (headOf t) 0 k d := by
  rw [value_A m c t h k d, valuePart_eq m c t 0 h]

theorem value_after1 (t : Fin cfg0.N) (h : t.val % 4 = 1) (k : Fin 4096) (d : Fin 128) :
    ((outsAt0 m c t.val t.isLt).2.2.2.2 (ix2 k d) : EReal) = 0 + valueShare m c (headOf t) 0 k d + valueShare m c (headOf t) 1 k d := by
  rw [value_B m c t (by omega) (by omega) k d, valuePart_eq m c t 1 h]
  refine congrArg (fun z : EReal => z + valueShare m c (headOf t) 1 k d) ?_
  rw [← head_before t (by omega)]
  exact value_after0 m c (before t) (by show (t.val - 1) % 4 = 0; omega) k d

theorem value_after2 (t : Fin cfg0.N) (h : t.val % 4 = 2) (k : Fin 4096) (d : Fin 128) :
    ((outsAt0 m c t.val t.isLt).2.2.2.2 (ix2 k d) : EReal)
      = 0 + valueShare m c (headOf t) 0 k d + valueShare m c (headOf t) 1 k d + valueShare m c (headOf t) 2 k d := by
  rw [value_B m c t (by omega) (by omega) k d, valuePart_eq m c t 2 h]
  refine congrArg (fun z : EReal => z + valueShare m c (headOf t) 2 k d) ?_
  rw [← head_before t (by omega)]
  exact value_after1 m c (before t) (by show (t.val - 1) % 4 = 1; omega) k d

theorem key_total (h : Fin 12) (k : Fin 4096) (d : Fin 192) :
    0 + keyShare m c h 0 k d + keyShare m c h 1 k d + keyShare m c h 2 k d + keyShare m c h 3 k d
      = dK (aQ m c) (aK m c) (aV m c) (aO m c) (aW m c) (aL m c) h k d :=
  (four_blocks fun r => headGrad (aQ m c) (aK m c) (aV m c) (aO m c) (aW m c) (aL m c) h r k * (aQ m c (ix3 h r d) : EReal)).symm

theorem value_total (h : Fin 12) (k : Fin 4096) (d : Fin 128) :
    0 + valueShare m c h 0 k d + valueShare m c h 1 k d + valueShare m c h 2 k d + valueShare m c h 3 k d
      = dV (aQ m c) (aK m c) (aW m c) (aL m c) h k d :=
  (four_blocks fun r => headWeight (aQ m c) (aK m c) (aL m c) h r k * (aW m c (ix2 r (mixCol h d)) : EReal)).symm

/-- The key gradient written after a head's last block of queries. -/
theorem key_written (t : Fin cfg0.N) (h : t.val % 4 = 3) (k : Fin 4096) (d : Fin 192) :
    ((outsAt0 m c t.val t.isLt).2.1 (ix3 0 k d) : EReal)
      = dK (aQ m c) (aK m c) (aV m c) (aO m c) (aW m c) (aL m c) (headOf t) k d := by
  rw [key_out m c t h k d, keyPart_eq m c t 3 h, ← key_total]
  refine congrArg (fun z : EReal => z + keyShare m c (headOf t) 3 k d) ?_
  rw [← head_before t (by omega)]
  exact key_after2 m c (before t) (by show (t.val - 1) % 4 = 2; omega) k d

/-- The value gradient written after a head's last block of queries. -/
theorem value_written (t : Fin cfg0.N) (h : t.val % 4 = 3) (k : Fin 4096) (d : Fin 128) :
    ((outsAt0 m c t.val t.isLt).2.2.1 (ix2 k d) : EReal) = dV (aQ m c) (aK m c) (aW m c) (aL m c) (headOf t) k d := by
  rw [value_out m c t h k d, valuePart_eq m c t 3 h, ← value_total]
  refine congrArg (fun z : EReal => z + valueShare m c (headOf t) 3 k d) ?_
  rw [← head_before t (by omega)]
  exact value_after2 m c (before t) (by show (t.val - 1) % 4 = 2; omega) k d

theorem query_written (t : Fin cfg0.N) (r : Fin 1024) (d : Fin 192) :
    ((outsAt0 m c t.val t.isLt).1 (ix3 0 r d) : EReal)
      = dQ (aQ m c) (aK m c) (aV m c) (aO m c) (aW m c) (aL m c) (headOf t) (rowAt t r) d := by
  rw [← block_dq]
  by_cases h0 : t.val % 4 = 0
  · exact query_A m c t h0 r d
  by_cases h1 : t.val % 4 = 3
  · exact query_C m c t h1 r d
  · exact query_B m c t h0 h1 r d

/-- The head and column within it of a column of the values. -/
def headCol (j : Fin 1536) : Fin 12 := ⟨j.val / 128, by omega⟩

def colIn (j : Fin 1536) : Fin 128 := ⟨j.val % 128, by omega⟩

/-- THE QUERY GRADIENT, whole. -/
theorem queryArray : (dats m 0 c).arrAt 6 (cfgs 0).N
    = fun i => dQ (aQ m c) (aK m c) (aV m c) (aO m c) (aW m c) (aL m c) (i 0) (i 1) (i 2) := by
  refine (dats m 0 c).arrAt_eq_of_covers 6 _ (by decide +kernel) fun t _ y => ?_
  blk_simp
  rw [after0_6]
  have hy : y = ix3 0 (y 1) (y 2) := by
    funext a
    match a with
    | ⟨0, _⟩ => exact Fin.ext (by have := (y 0).isLt; show (y 0).val = 0; change (y 0).val < 1 at this; omega)
    | ⟨1, _⟩ => rfl
    | ⟨2, _⟩ => rfl
  have hp := query_written m c t (y 1) (y 2)
  have hq := congrArg (outsAt0 m c t.val t.isLt).1 hy
  refine hq.trans (hp.trans ?_)
  have e0 : (((cfg0.win 6).blk t).view.emb y) 0 = headOf t := by
    apply Fin.ext
    have := (y 0).isLt
    change (y 0).val < 1 at this
    blk_simp [idx t, headOf]
    try omega
  have e1 : (((cfg0.win 6).blk t).view.emb y) 1 = rowAt t (y 1) := by
    apply Fin.ext
    blk_simp [idx t, rowAt]
    try (show t.val % 4 * 1024 + (y 1).val = 1024 * (t.val % 4) + (y 1).val; omega)
  have e2 : (((cfg0.win 6).blk t).view.emb y) 2 = y 2 := by
    apply Fin.ext
    blk_simp [idx t]
    try omega
  rw [e0, e1, e2]

/-- THE KEY GRADIENT, whole. -/
theorem keyArray : (dats m 0 c).arrAt 7 (cfgs 0).N
    = fun i => dK (aQ m c) (aK m c) (aV m c) (aO m c) (aW m c) (aL m c) (i 0) (i 1) (i 2) := by
  refine (dats m 0 c).arrAt_eq_of_covers 7 _ (by decide +kernel) fun t hf y => ?_
  blk_simp
  rw [after0_7]
  have hy : y = ix3 0 (y 1) (y 2) := by
    funext a
    match a with
    | ⟨0, _⟩ => exact Fin.ext (by have := (y 0).isLt; show (y 0).val = 0; change (y 0).val < 1 at this; omega)
    | ⟨1, _⟩ => rfl
    | ⟨2, _⟩ => rfl
  have hp := key_written m c t ((flush0_7 t).1 hf) (y 1) (y 2)
  have hq := congrArg (outsAt0 m c t.val t.isLt).2.1 hy
  refine hq.trans (hp.trans ?_)
  have e0 : (((cfg0.win 7).blk t).view.emb y) 0 = headOf t := by
    apply Fin.ext
    have := (y 0).isLt
    change (y 0).val < 1 at this
    blk_simp [idx t, headOf]
    try omega
  have e1 : (((cfg0.win 7).blk t).view.emb y) 1 = y 1 := by
    apply Fin.ext
    blk_simp [idx t]
    try omega
  have e2 : (((cfg0.win 7).blk t).view.emb y) 2 = y 2 := by
    apply Fin.ext
    blk_simp [idx t]
    try omega
  rw [e0, e1, e2]

/-- THE VALUE GRADIENT, whole. -/
theorem valueArray : (dats m 0 c).arrAt 8 (cfgs 0).N
    = fun i => dV (aQ m c) (aK m c) (aW m c) (aL m c) (headCol (i 1)) (i 0) (colIn (i 1)) := by
  refine (dats m 0 c).arrAt_eq_of_covers 8 _ (by decide +kernel) fun t hf y => ?_
  blk_simp
  rw [after0_8]
  have hy : y = ix2 (y 0) (y 1) := eq_ix2 y
  have hp := value_written m c t ((flush0_8 t).1 hf) (y 0) (y 1)
  have hq := congrArg (outsAt0 m c t.val t.isLt).2.2.1 hy
  refine hq.trans (hp.trans ?_)
  have b1 := (y 1).isLt
  change (y 1).val < 128 at b1
  have v1 : ((((cfg0.win 8).blk t).view.emb y) 1).val = t.val / 4 * 128 + (y 1).val := by
    blk_simp [idx t]
  have e0 : (((cfg0.win 8).blk t).view.emb y) 0 = y 0 := by
    apply Fin.ext
    blk_simp [idx t]
    try omega
  have e1 : headCol ((((cfg0.win 8).blk t).view.emb y) 1) = headOf t := by
    apply Fin.ext
    show ((((cfg0.win 8).blk t).view.emb y) 1).val / 128 = t.val / 4
    rw [v1]
    omega
  have e2 : colIn ((((cfg0.win 8).blk t).view.emb y) 1) = y 1 := by
    apply Fin.ext
    show ((((cfg0.win 8).blk t).view.emb y) 1).val % 128 = (y 1).val
    rw [v1]
    omega
  rw [e0, e1, e2]

end Cert.MlaKernelIdeal.Value

end
-- ==== Proof.MlaPrefix.lean ====
module

public import proofs.«01_k».proof.Proof.Gen.MlaKernelIdeal.Frame
public import Idealize.ShloMosaic.Lib.StableHlo.Run
public import proofs.«01_k».proof.Proof.MlaHead

/-!
# What the causal attention's backward kernel is given for the forward pass

The forward pass is the plain causal softmax on the host: the masked scores, each row's log-sum-exp, and
the outputs, put beside the memory attention's outputs as the mixer takes them.
-/

@[expose] public section

set_option maxRecDepth 16384

noncomputable section

open Idealize.ShloMosaic Idealize.ShloMosaic.TcCoe Idealize.SL.Sem

namespace Cert.MlaKernelIdeal.Forward

open Cert.MlaKernelIdeal Cert.MlaKernelIdeal.Gen Idealize.ShloMosaic.StableHlo

/-- Key `c` is not after query `r`. -/
def notAfter : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The scaled scores, before the mask. -/
def scaled (Q K : FVec Ideal S12x4096x192 .bf16) : FVec Ideal S12x4096x4096 .f32 :=
  mulf (Host.dotGeneral dot_S12x4096x192_S12x4096x192_S12x4096x4096_2_2_1_1_0_0 none (extf .f32 Q bitsLt_bf16_f32) (extf .f32 K bitsLt_bf16_f32))
    (broadcastInDim S12x4096x4096 ![] bcast_S_S12x4096x4096 (constant (F := Ideal) S_ .f32 0x3D93CD3A#32))

/-- The scores, those of later keys replaced by −∞. -/
def masked (Q K : FVec Ideal S12x4096x192 .bf16) : FVec Ideal S12x4096x4096 .f32 :=
  select (broadcastInDim S12x4096x4096 ![1, 2] bcast_S4096x4096_S12x4096x4096_1_2 notAfter) (scaled Q K)
    (broadcastInDim S12x4096x4096 ![] bcast_S_S12x4096x4096 (constant (F := Ideal) S_ .f32 0xFF800000#32))

/-- Each row's largest score. -/
def rowTop (X : FVec Ideal S12x4096x4096 .f32) : FVec Ideal S12x4096 .f32 :=
  Host.reduce FloatOps.maximumf X (constant (F := Ideal) S_ .f32 0xFF800000#32) reducesTo_S12x4096x4096_S12x4096_d2 h_S_

/-- A number per row, along the row. -/
def along (T : FVec Ideal S12x4096 .f32) : FVec Ideal S12x4096x4096 .f32 :=
  broadcastInDim S12x4096x4096 ![0, 1, 2] bcast_S12x4096x1_S12x4096x4096_0_1_2 (broadcastInDim S12x4096x1 ![0, 1] bcast_S12x4096_S12x4096x1_0_1 T)

/-- The exponentials of the scores less their row's number. -/
def expos (X : FVec Ideal S12x4096x4096 .f32) (T : FVec Ideal S12x4096 .f32) : FVec Ideal S12x4096x4096 .f32 :=
  Host.exp (subf X (along T))

/-- Each row's sum. -/
def rowSum (X : FVec Ideal S12x4096x4096 .f32) : FVec Ideal S12x4096 .f32 :=
  Host.reduceAdd X (constant (F := Ideal) S_ .f32 0x00000000#32) reducesTo_S12x4096x4096_S12x4096_d2 h_S_

/-- Each row's log-sum-exp. -/
def logSum (X : FVec Ideal S12x4096x4096 .f32) : FVec Ideal S12x4096x1 .f32 :=
  addf (broadcastInDim S12x4096x1 ![0, 1] bcast_S12x4096_S12x4096x1_0_1 (rowTop X))
    (Host.log (broadcastInDim S12x4096x1 ![0, 1] bcast_S12x4096_S12x4096x1_0_1 (rowSum (expos X (rowTop X)))))

/-- The larger of −∞ and a row's largest score. -/
def rowTop' (X : FVec Ideal S12x4096x4096 .f32) : FVec Ideal S12x4096 .f32 :=
  maximumf (broadcastInDim S12x4096 ![] bcast_S_S12x4096 (constant (F := Ideal) S_ .f32 0xFF800000#32)) (rowTop X)

/-- The softmax. -/
def softmax (X : FVec Ideal S12x4096x4096 .f32) : FVec Ideal S12x4096x4096 .f32 :=
  Host.divf (expos X (rowTop' X)) (along (rowSum (expos X (rowTop' X))))

/-- The values, by head. -/
def heads (VV : FVec Ideal S4096x1536 .bf16) : FVec Ideal S4096x12x128 .f32 :=
  shapeCast S4096x12x128 (extf .f32 VV bitsLt_bf16_f32) shapeCasts_S4096x1536_S4096x12x128

/-- The attention's outputs, by head. -/
def outputs (Pr : FVec Ideal S12x4096x4096 .f32) (Vh : FVec Ideal S4096x12x128 .f32) : FVec Ideal S4096x12x128 .f32 :=
  transpose S4096x12x128 [2, 0, 1] (Host.dotGeneral dot_S4096x12x128_S12x4096x4096_S12x128x4096_0_2_2_1_1_0 none Vh Pr)
    transposes_S12x128x4096_S4096x12x128_2_0_1

/-- The outputs beside the memory attention's. -/
def mixed (Out : FVec Ideal S4096x12x128 .f32) (MO : FVec Ideal S4096x512 .bf16) : FVec Ideal S4096x2048 .bf16 :=
  concatenate S4096x2048 1 [⟨S4096x1536, truncf .bf16 (shapeCast S4096x1536 Out shapeCasts_S4096x12x128_S4096x1536) bitsLt_bf16_f32⟩, ⟨S4096x512, MO⟩]
    concatenates_S4096x1536_S4096x512_S4096x2048_d1

variable (m : (ℓ : Loc nD τ sig) → Buf (Elt Ideal) ℓ) (c : Dev nD)

theorem V_lse : V m c main_v36 = logSum (masked (m ((c : Thread nD τ).loc main_arg0)) (m ((c : Thread nD τ).loc main_arg1))) := by
  unfold V
  simp only [hostOps0, hostOps0_1, hostOps0_2, List.flatten_cons, List.flatten_nil, List.append_nil, List.cons_append, List.nil_append, TRef.unary, TRef.ternary, TRef.toBuf, TRef.ofBuf, cast_eq]
  after_results_simp
  rfl

theorem V_mix : V m c main_v38 = mixed (outputs (softmax (masked (m ((c : Thread nD τ).loc main_arg0)) (m ((c : Thread nD τ).loc main_arg1))))
    (heads (m ((c : Thread nD τ).loc main_arg2)))) (m ((c : Thread nD τ).loc main_arg3)) := by
  unfold V
  simp only [hostOps0, hostOps0_1, hostOps0_2, List.flatten_cons, List.flatten_nil, List.append_nil, List.cons_append, List.nil_append, TRef.unary, TRef.ternary, TRef.toBuf, TRef.ofBuf, cast_eq]
  after_results_simp
  refine congrArg₂ (fun a b => concatenate S4096x2048 1 [⟨S4096x1536, a⟩, ⟨S4096x512, b⟩] concatenates_S4096x1536_S4096x512_S4096x2048_d1) ?_ ?_
  · after_results_simp
    rfl
  · after_results_simp

end Cert.MlaKernelIdeal.Forward

end
-- ==== Proof.Softmax.lean ====
module

public import Idealize.ShloMosaic.Lib.IdealHost

/-!
# IsReal values, and the gradient of a softmax over the extended reals

A value is finite if it is a real number. Sums and products of finite values are finite, and the
exponential of a finite value is finite and positive. With finite scores the quotient rule followed by the
exponential's gradient is the softmax gradient in its short form, whatever the cotangents are.
-/

@[expose] public section

noncomputable section

open Idealize.ShloMosaic

namespace Cert.Softmax

/-- The value is a real number. -/
def IsReal (x : EReal) : Prop := ∃ r : ℝ, x = (r : EReal)

theorem finite_iff (x : EReal) : IsReal x ↔ x ≠ ⊥ ∧ x ≠ ⊤ :=
  ⟨fun ⟨r, h⟩ => h ▸ ⟨EReal.coe_ne_bot r, EReal.coe_ne_top r⟩, fun h => ⟨x.toReal, (EReal.coe_toReal h.2 h.1).symm⟩⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

theorem finite_zero : IsReal 0 := ⟨0, rfl⟩

theorem finite_sum {ι : Type*} (s : Finset ι) (f : ι → EReal) (h : ∀ i, IsReal (f i)) : IsReal (∑ i ∈ s, f i) := by
  classical
  refine Finset.induction_on s (by simpa using finite_zero) fun a t ha ih => ?_
  rw [Finset.sum_insert ha]
  exact (h a).add ih

/-- The largest of finitely many finite values, over a start below `⊤`. -/
theorem finite_fold_max {ι : Type*} [Fintype ι] [Nonempty ι] (b : EReal) (f : ι → EReal) (hb : b ≠ ⊤) (h : ∀ i, IsReal (f i)) :
    IsReal (Finset.univ.fold max b f) := by
  refine (finite_iff _).2 ⟨?_, ?_⟩
  · refine ne_of_gt ((Finset.lt_fold_max _).2 (Or.inr ⟨Classical.arbitrary ι, Finset.mem_univ _, ?_⟩))
    exact bot_lt_iff_ne_bot.2 ((finite_iff _).1 (h _)).1
  · refine ne_of_lt ((Finset.fold_max_lt _).2 ⟨lt_top_iff_ne_top.2 hb, fun i _ => ?_⟩)
    exact lt_top_iff_ne_top.2 ((finite_iff _).1 (h i)).2

/-- A positive real number. -/
def Positive (x : EReal) : Prop := ∃ r : ℝ, 0 < r ∧ x = (r : EReal)

theorem Positive.finite {x : EReal} (h : Positive x) : IsReal x := let ⟨r, _, e⟩ := h; ⟨r, e⟩

theorem positive_exp {x : EReal} (h : IsReal x) : Positive (Ideal.exp x) := by
  obtain ⟨r, rfl⟩ := h
  exact ⟨Real.exp r, Real.exp_pos r, rfl⟩

theorem coe_sum {ι : Type*} (s : Finset ι) (g : ι → ℝ) : ((∑ i ∈ s, g i : ℝ) : EReal) = ∑ i ∈ s, (g i : EReal) := by
  classical
  refine Finset.induction_on s (by simp) fun a t ha ih => ?_
  rw [Finset.sum_insert ha, Finset.sum_insert ha, EReal.coe_add, ih]

theorem positive_sum {ι : Type*} [Fintype ι] [Nonempty ι] (f : ι → EReal) (h : ∀ i, Positive (f i)) : Positive (∑ i, f i) := by
  choose g hg e using h
  refine ⟨∑ i, g i, Finset.sum_pos (fun i _ => hg i) Finset.univ_nonempty, ?_⟩
  rw [coe_sum]
  exact Finset.sum_congr rfl fun i _ => e i

/-- Division by a positive real number is multiplication by its inverse. -/
theorem div_positive {l : ℝ} (hl : 0 < l) (x : EReal) : Ideal.div x (l : EReal) = x * ((l⁻¹ : ℝ) : EReal) := by
  unfold Ideal.div
  rw [if_neg (by exact_mod_cast hl.ne'), EReal.coe_inv]

/-- A real number that is not negative distributes over a sum. -/
theorem sum_mul_real {ι : Type*} (s : Finset ι) (f : ι → EReal) {r : ℝ} (hr : 0 ≤ r) :
    (∑ i ∈ s, f i) * (r : EReal) = ∑ i ∈ s, f i * (r : EReal) := by
  classical
  refine Finset.induction_on s (by simp) fun a t ha ih => ?_
  rw [Finset.sum_insert ha, Finset.sum_insert ha, ← ih]
  exact EReal.right_distrib_of_nonneg_of_ne_top (by exact_mod_cast hr) (EReal.coe_ne_top r) _ _

/-- The softmax gradient: the quotient rule, then the exponential, against the short form. The cotangents `D`
are arbitrary. -/
theorem softmax_grad {ι : Type*} [Fintype ι] (e D : ι → EReal) (c : ι) (l : EReal) (hl : Positive l) :
    (Ideal.div (D c) l + -(∑ k, D k * Ideal.div 1 (l * l) * e k)) * e c
      = Ideal.div (e c) l * (D c - ∑ k, D k * Ideal.div (e k) l) := by
  obtain ⟨L, hL, rfl⟩ := hl
  have hr : (0 : ℝ) ≤ L⁻¹ := (inv_pos.2 hL).le
  rw [← EReal.coe_mul]
  simp only [div_positive hL, div_positive (mul_pos hL hL)]
  have hs : ∑ k, D k * (1 * (((L * L)⁻¹ : ℝ) : EReal)) * e k = (∑ k, D k * (e k * ((L⁻¹ : ℝ) : EReal))) * ((L⁻¹ : ℝ) : EReal) := by
    rw [sum_mul_real _ _ hr]
    refine Finset.sum_congr rfl fun k _ => ?_
    rw [mul_inv, EReal.coe_mul, one_mul]
    ac_rfl
  rw [hs, ← EReal.neg_mul, ← EReal.right_distrib_of_nonneg_of_ne_top (by exact_mod_cast hr) (EReal.coe_ne_top _), ← sub_eq_add_neg]
  ac_rfl

/-- The printed start of a maximum is `⊥`. -/
theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- A value whose magnitude is below `⊤` is finite. -/
theorem isReal_of_abs_lt {x : EReal} (h : max x (-x) < ⊤) : IsReal x := by
  obtain ⟨h1, h2⟩ := max_lt_iff.1 h
  refine (finite_iff x).2 ⟨fun e => ?_, h1.ne⟩
  subst e
  simp at h2

/-- The printed test of finiteness. -/
theorem isReal_of_cmp {x : EReal} (h : Ideal.cmp .olt (max x (-x)) (Ideal.ofBits .f32 0x7F800000#32) = 1#1) : IsReal x := by
  refine isReal_of_abs_lt (Classical.byContradiction fun hn => ?_)
  rw [pos_inf] at h
  simp [Ideal.cmp, hn] at h

end Cert.Softmax
-- ==== Proof.MlaRow.lean ====
module

public import proofs.«01_k».proof.Proof.MlaHead
public import proofs.«01_k».proof.Proof.Softmax

/-!
# One row of a causal softmax and its gradient, over the extended reals

The kernel rebuilds a row's weights from its log-sum-exp and takes the cotangent's mean from the saved
output; the plain gradient differentiates numerator and denominator. The two agree on real entries.
-/

@[expose] public section

noncomputable section

open Idealize.ShloMosaic Idealize.ShloMosaic.TcCoe Idealize.SL.Sem

namespace Cert.MlaRow

open Cert.MlaHead Cert.Softmax

variable (q : Fin 192 → EReal) (K : Fin 4096 → Fin 192 → EReal) (V : Fin 4096 → Fin 128 → EReal) (w : Fin 128 → EReal) (r : Fin 4096)

/-- The row's score at key `c`: −∞ where the key is later than the query. -/
def score (c : Fin 4096) : EReal := if c.val ≤ r.val then (∑ e : Fin 192, q e * K c e) * scale else Ideal.ofBits .f32 0xFF800000#32

/-- The row's largest score. -/
def top : EReal := Finset.univ.fold max (Ideal.ofBits .f32 0xFF800000#32) (score q K r)

def expo (c : Fin 4096) : EReal := Ideal.exp (score q K r c - top q K r)

/-- The sum of the row's exponentials. -/
def total : EReal := ∑ c : Fin 4096, expo q K r c

/-- The row's softmax. -/
def prob (c : Fin 4096) : EReal := Ideal.div (expo q K r c) (total q K r)

/-- The row's log-sum-exp. -/
def logSum : EReal := top q K r + Ideal.log (total q K r)

/-- The row's output at column `d`. -/
def output (d : Fin 128) : EReal := ∑ c : Fin 4096, V c d * prob q K r c

/-- The cotangent of the softmax at key `c`. -/
def dprob (c : Fin 4096) : EReal := ∑ d : Fin 128, w d * V c d

/-- The cotangent of the unscaled score as the plain gradient writes it. -/
def rscore (c : Fin 4096) : EReal :=
  (if c.val ≤ r.val then
    (Ideal.div (dprob V w c) (total q K r) + -(∑ k : Fin 4096, dprob V w k * Ideal.div 1 (total q K r * total q K r) * expo q K r k))
      * expo q K r c
   else 0) * scale

/-- The weight the kernel rebuilds. -/
def kweight (c : Fin 4096) : EReal := if c.val ≤ r.val then weight q (logSum q K r) (K c) else 0

/-- The cotangent of the unscaled score as the kernel computes it. -/
def kscore (c : Fin 4096) : EReal := dscore (kweight q K r c) w (∑ d : Fin 128, w d * output q K V r d) (V c)

/-- The scale of the scores is a real number. -/
theorem scale_finite : IsReal scale := by
  unfold scale IsReal
  simp [Ideal.ofBits, Ideal.ieee, -EReal.coe_mul]

section Real

variable (hq : ∀ e, IsReal (q e)) (hK : ∀ c e, IsReal (K c e))

include hq hK

theorem score_le_real (c : Fin 4096) (h : c.val ≤ r.val) : IsReal (score q K r c) := by
  unfold score
  rw [if_pos h]
  exact (finite_sum _ _ fun e => (hq e).mul (hK c e)).mul scale_finite

omit hq hK in
theorem score_later (c : Fin 4096) (h : ¬ c.val ≤ r.val) : score q K r c = ⊥ := by
  unfold score
  rw [if_neg h, neg_inf]

theorem score_lt_top (c : Fin 4096) : score q K r c < ⊤ := by
  by_cases h : c.val ≤ r.val
  · exact lt_top_iff_ne_top.2 ((finite_iff _).1 (score_le_real q K r hq hK c h)).2
  · rw [score_later q K r c h]
    exact bot_lt_top

theorem top_real : IsReal (top q K r) := by
  refine (finite_iff _).2 ⟨?_, ?_⟩
  · refine ne_of_gt ((Finset.lt_fold_max _).2 (Or.inr ⟨r, Finset.mem_univ _, ?_⟩))
    exact bot_lt_iff_ne_bot.2 ((finite_iff _).1 (score_le_real q K r hq hK r le_rfl)).1
  · refine ne_of_lt ((Finset.fold_max_lt _).2 ⟨?_, fun c _ => score_lt_top q K r hq hK c⟩)
    rw [neg_inf]
    exact bot_lt_top

theorem expo_positive (c : Fin 4096) (h : c.val ≤ r.val) : Positive (expo q K r c) :=
  positive_exp ((score_le_real q K r hq hK c h).sub (top_real q K r hq hK))

omit hq hK in
theorem expo_later (c : Fin 4096) (h : ¬ c.val ≤ r.val) : expo q K r c = 0 := by
  unfold expo
  rw [score_later q K r c h, EReal.bot_sub]
  rfl

/-- Every exponential is a real number that is not negative. -/
theorem expo_real (c : Fin 4096) : ∃ x : ℝ, 0 ≤ x ∧ expo q K r c = (x : EReal) := by
  by_cases h : c.val ≤ r.val
  · obtain ⟨x, hx, e⟩ := expo_positive q K r hq hK c h
    exact ⟨x, hx.le, e⟩
  · exact ⟨0, le_rfl, expo_later q K r c h⟩

theorem total_positive : Positive (total q K r) := by
  choose g hg e using expo_real q K r hq hK
  refine ⟨∑ c, g c, Finset.sum_pos' (fun c _ => hg c) ⟨r, Finset.mem_univ _, ?_⟩, ?_⟩
  · obtain ⟨x, hx, ex⟩ := expo_positive q K r hq hK r le_rfl
    rw [e r] at ex
    rw [EReal.coe_eq_coe_iff.1 ex]
    exact hx
  · rw [coe_sum]
    exact Finset.sum_congr rfl fun c _ => e c

theorem prob_real (c : Fin 4096) : IsReal (prob q K r c) := by
  obtain ⟨L, hL, e⟩ := total_positive q K r hq hK
  obtain ⟨x, _, ex⟩ := expo_real q K r hq hK c
  unfold prob
  rw [e, div_positive hL, ex]
  exact ⟨x * L⁻¹, (EReal.coe_mul _ _).symm⟩

/-- The weight rebuilt from the log-sum-exp is the softmax. -/
theorem kweight_eq (c : Fin 4096) : kweight q K r c = prob q K r c := by
  obtain ⟨L, hL, e⟩ := total_positive q K r hq hK
  unfold kweight prob
  by_cases h : c.val ≤ r.val
  · obtain ⟨t, ht⟩ := top_real q K r hq hK
    obtain ⟨s, hs⟩ := score_le_real q K r hq hK c h
    have hs' : (∑ x : Fin 192, q x * K c x) * scale = (s : EReal) := by
      rw [← hs]
      unfold score
      rw [if_pos h]
    rw [if_pos h, e, div_positive hL]
    unfold weight logSum expo
    rw [hs', hs, ht, e]
    have hlog : Ideal.log (L : EReal) = ((Real.log L : ℝ) : EReal) := by
      show (if L ≤ 0 then (⊥ : EReal) else ((Real.log L : ℝ) : EReal)) = _
      rw [if_neg (not_le.2 hL)]
    rw [hlog]
    have h1 : Ideal.exp ((s : EReal) - ((t : EReal) + ((Real.log L : ℝ) : EReal))) = ((Real.exp (s - (t + Real.log L)) : ℝ) : EReal) := rfl
    have h2 : Ideal.exp ((s : EReal) - (t : EReal)) = ((Real.exp (s - t) : ℝ) : EReal) := rfl
    rw [h1, h2, ← EReal.coe_mul]
    refine congrArg _ ?_
    rw [← sub_sub, Real.exp_sub, Real.exp_log hL, div_eq_mul_inv]
  · rw [if_neg h, expo_later q K r c h, e, div_positive hL, zero_mul]

variable (hV : ∀ c d, IsReal (V c d)) (hw : ∀ d, IsReal (w d))

include hV hw

/-- The cotangent's mean under the softmax is the output's product with the output's cotangent. -/
theorem mean_eq : (∑ d : Fin 128, w d * output q K V r d) = ∑ c : Fin 4096, dprob V w c * prob q K r c := by
  choose p hp using prob_real q K r hq hK
  choose v hv using hV
  choose y hy using hw
  unfold output dprob
  simp only [hp, hv, hy, ← EReal.coe_mul, ← coe_sum]
  refine congrArg _ ?_
  simp only [Finset.mul_sum, Finset.sum_mul]
  rw [Finset.sum_comm]
  exact Finset.sum_congr rfl fun c _ => Finset.sum_congr rfl fun d _ => (mul_assoc _ _ _).symm

/-- The two cotangents of a score agree. -/
theorem rscore_eq (c : Fin 4096) : rscore q K V w r c = kscore q K V w r c := by
  unfold rscore kscore dscore
  rw [kweight_eq q K r hq hK c, mean_eq q K V w r hq hK hV hw]
  refine congrArg (· * scale) ?_
  by_cases h : c.val ≤ r.val
  · rw [if_pos h]
    exact softmax_grad (expo q K r) (dprob V w) c _ (total_positive q K r hq hK)
  · obtain ⟨L, hL, e⟩ := total_positive q K r hq hK
    rw [if_neg h]
    unfold prob
    rw [expo_later q K r c h, e, div_positive hL, zero_mul, zero_mul]

end Real

end Cert.MlaRow

end
-- ==== Proof.MlaForward.lean ====
module

public import proofs.«01_k».proof.Proof.MlaPrefix
public import proofs.«01_k».proof.Proof.MlaRow
public import Idealize.ShloMosaic.Lib.WordCmp

/-!
# The forward pass's arrays, read at an index
-/

@[expose] public section

set_option maxRecDepth 16384

noncomputable section

open Idealize.ShloMosaic Idealize.ShloMosaic.TcCoe Idealize.SL.Sem

namespace Cert.MlaKernelIdeal.Forward

open Cert.MlaKernelIdeal Cert.MlaKernelIdeal.Gen Cert.MlaHead

variable (Q K : FVec Ideal S12x4096x192 .bf16) (VV : FVec Ideal S4096x1536 .bf16) (MO : FVec Ideal S4096x512 .bf16)

/-- The query of row `r` at head `h`. -/
def qh (h : Fin 12) (r : Fin 4096) (e : Fin 192) : EReal := Q (ix3 h r e)

/-- The values of head `h`. -/
def vh (h : Fin 12) (c : Fin 4096) (d : Fin 128) : EReal := VV (ix2 c ⟨h.val * 128 + d.val, by omega⟩)

theorem scaled_at (h : Fin 12) (r c : Fin 4096) :
    scaled Q K (ix3 h r c) = (∑ e : Fin 192, qh Q h r e * qh K h c e) * scale := by
  pointwise [scaled, scale, qh]

theorem notAfter_at (r c : Fin 4096) : notAfter (ix2 r c) = BitVec.ofBool (decide (c.val ≤ r.val)) := by
  pointwise [notAfter]
  exact WordCmp.cmpi_sle_ofNat (w := 32) (by have := c.isLt; omega) (by have := r.isLt; omega)

theorem masked_at (h : Fin 12) (r c : Fin 4096) : masked Q K (ix3 h r c) = MlaRow.score (qh Q h r) (qh K h) r c := by
  pointwise [masked, scaled_at, notAfter_at, MlaRow.score]

theorem row_max (X : FVec Ideal S12x4096x4096 .f32) (Y : FVec Ideal S_ .f32) (h : Fin 12) (r : Fin 4096) :
    Host.reduce FloatOps.maximumf X Y reducesTo_S12x4096x4096_S12x4096_d2 h_S_ (ix2 h r)
      = Finset.univ.fold max (Y (Shape.Idx.first h_S_)) fun c : Fin 4096 => X (ix3 h r c) := by
  pointwise

theorem top_at (h : Fin 12) (r : Fin 4096) : rowTop (masked Q K) (ix2 h r) = MlaRow.top (qh Q h r) (qh K h) r := by
  unfold rowTop
  rw [row_max]
  simp only [masked_at]
  rfl

theorem max_bot (T : FVec Ideal S12x4096 .f32) (h : Fin 12) (r : Fin 4096) :
    maximumf (broadcastInDim S12x4096 ![] bcast_S_S12x4096 (constant (F := Ideal) S_ .f32 0xFF800000#32)) T (ix2 h r)
      = max (Ideal.ofBits .f32 0xFF800000#32) (T (ix2 h r)) := by
  pointwise

theorem top_at' (h : Fin 12) (r : Fin 4096) : rowTop' (masked Q K) (ix2 h r) = MlaRow.top (qh Q h r) (qh K h) r := by
  unfold rowTop'
  rw [max_bot, top_at]
  exact max_eq_right (Finset.le_fold_max _ |>.2 (Or.inl le_rfl))

theorem expo_at (T : FVec Ideal S12x4096 .f32) (h : Fin 12) (r c : Fin 4096) (hT : T (ix2 h r) = MlaRow.top (qh Q h r) (qh K h) r) :
    expos (masked Q K) T (ix3 h r c) = MlaRow.expo (qh Q h r) (qh K h) r c := by
  pointwise [expos, along, masked_at, MlaRow.expo]
  rw [hT]

theorem rowSum_at (X : FVec Ideal S12x4096x4096 .f32) (h : Fin 12) (r : Fin 4096) :
    rowSum X (ix2 h r) = ∑ c : Fin 4096, (X (ix3 h r c) : EReal) := by
  pointwise [rowSum]

theorem total_at (T : FVec Ideal S12x4096 .f32) (h : Fin 12) (r : Fin 4096) (hT : T (ix2 h r) = MlaRow.top (qh Q h r) (qh K h) r) :
    rowSum (expos (masked Q K) T) (ix2 h r) = MlaRow.total (qh Q h r) (qh K h) r := by
  rw [rowSum_at]
  exact Finset.sum_congr rfl fun c _ => expo_at Q K T h r c hT

theorem add_log (A B : FVec Ideal S12x4096 .f32) (h : Fin 12) (r : Fin 4096) :
    addf (broadcastInDim S12x4096x1 ![0, 1] bcast_S12x4096_S12x4096x1_0_1 A)
        (Host.log (broadcastInDim S12x4096x1 ![0, 1] bcast_S12x4096_S12x4096x1_0_1 B)) (ix3 h r 0)
      = (A (ix2 h r) : EReal) + Ideal.log (B (ix2 h r)) := by
  pointwise

theorem logSum_at (h : Fin 12) (r : Fin 4096) : logSum (masked Q K) (ix3 h r 0) = MlaRow.logSum (qh Q h r) (qh K h) r := by
  unfold logSum MlaRow.logSum
  rw [add_log, top_at, total_at Q K _ h r (top_at Q K h r)]

theorem softmax_at (h : Fin 12) (r c : Fin 4096) : softmax (masked Q K) (ix3 h r c) = MlaRow.prob (qh Q h r) (qh K h) r c := by
  pointwise [softmax, along, MlaRow.prob]
  rw [expo_at Q K _ h r c (top_at' Q K h r), total_at Q K _ h r (top_at' Q K h r)]

theorem outputs_at (Pr : FVec Ideal S12x4096x4096 .f32) (h : Fin 12) (r : Fin 4096) (d : Fin 128) :
    outputs Pr (heads VV) (ix3 r h d) = ∑ c : Fin 4096, vh VV h c d * (Pr (ix3 h r c) : EReal) := by
  pointwise [outputs, heads, vh]

theorem mixed_at (Out : FVec Ideal S4096x12x128 .f32) (h : Fin 12) (r : Fin 4096) (d : Fin 128) :
    mixed Out MO (ix2 r ⟨h.val * 128 + d.val, by omega⟩) = Out (ix3 r h d) := by
  pointwise [mixed]
  exact dif_pos (by omega)

end Cert.MlaKernelIdeal.Forward

end
-- ==== Proof.MlaRef.lean ====
module

public import proofs.«01_k».proof.Proof.MlaRow
public import proofs.«01_k».proof.Proof.Gen.MlaReferenceIdeal.Read
public import Idealize.ShloMosaic.Lib.WordCmp

/-!
# The plain gradient of the causal attention, read at an index
-/

@[expose] public section

set_option maxRecDepth 16384

noncomputable section

open Idealize.ShloMosaic Idealize.ShloMosaic.TcCoe Idealize.SL.Sem

namespace Cert.MlaReferenceIdeal.Value

open Cert.MlaReferenceIdeal Cert.MlaReferenceIdeal.Gen Cert.MlaReferenceIdeal.Read Cert.MlaHead

variable (Q K : FVec Ideal S12x4096x192 .bf16) (VV : FVec Ideal S4096x1536 .bf16) (W : FVec Ideal S4096x2048 .bf16)

/-- The query of row `r` at head `h`. -/
def qh (h : Fin 12) (r : Fin 4096) (e : Fin 192) : EReal := Q (ix3 h r e)

/-- The values of head `h`. -/
def vh (h : Fin 12) (c : Fin 4096) (d : Fin 128) : EReal := VV (ix2 c ⟨h.val * 128 + d.val, by omega⟩)

/-- The cotangent of row `r`'s output at head `h`. -/
def wh (h : Fin 12) (r : Fin 4096) (d : Fin 128) : EReal := W (ix2 r ⟨h.val * 128 + d.val, by omega⟩)

theorem ref_scaled (h : Fin 12) (r c : Fin 4096) :
    val_main_v5 (F := Ideal) Q K (ix3 h r c) = (∑ e : Fin 192, qh Q h r e * qh K h c e) * scale := by
  pointwise [val_main_v5, val_main_v4, val_main_cst, val_main_v3, val_main_v1, val_main_v0, scale, qh]

theorem ref_mask (h : Fin 12) (r c : Fin 4096) : val_main_v12_1 (F := Ideal) (ix3 h r c) = BitVec.ofBool (decide (c.val ≤ r.val)) := by
  pointwise [val_main_v12_1, val_main_v11, val_main_v10, val_main_v9, val_main_v8, val_main_v7, val_main_v6]
  exact WordCmp.cmpi_sle_ofNat (w := 32) (by have := c.isLt; omega) (by have := r.isLt; omega)

theorem ref_score (h : Fin 12) (r c : Fin 4096) :
    val_main_v12_0 (F := Ideal) Q K (ix3 h r c) = MlaRow.score (qh Q h r) (qh K h) r c := by
  pointwise [val_main_v12_0, val_main_call0_v2, val_main_call0_v0, val_main_cst_0, ref_scaled, ref_mask, MlaRow.score]
  rfl

theorem row_max (X : FVec Ideal S12x4096x4096 .f32) (Y : FVec Ideal S_ .f32) (h : Fin 12) (r : Fin 4096) :
    Host.reduce FloatOps.maximumf X Y reducesTo_S12x4096x4096_S12x4096_d2 h_S_ (ix2 h r)
      = Finset.univ.fold max (Y (Shape.Idx.first h_S_)) fun c : Fin 4096 => X (ix3 h r c) := by
  pointwise

theorem ref_top (h : Fin 12) (r : Fin 4096) :
    val_main_v20 (F := Ideal) Q K (ix2 h r) = MlaRow.top (qh Q h r) (qh K h) r := by
  rw [val_main_v20_apply, val_main_v19_apply, val_main_cst_3_apply]
  unfold val_main_v13
  rw [row_max]
  simp only [ref_score]
  exact max_eq_right (Finset.le_fold_max _ |>.2 (Or.inl le_rfl))

theorem ref_expo (h : Fin 12) (r c : Fin 4096) :
    val_main_v33 (F := Ideal) Q K (ix3 h r c) = MlaRow.expo (qh Q h r) (qh K h) r c := by
  pointwise [val_main_v33, val_main_v32, val_main_v31, val_main_v30, ref_score, ref_top, MlaRow.expo]

theorem ref_total (h : Fin 12) (r : Fin 4096) :
    val_main_v34 (F := Ideal) Q K (ix2 h r) = MlaRow.total (qh Q h r) (qh K h) r := by
  pointwise [val_main_v34, val_main_cst_9, ref_expo, MlaRow.total]

theorem ref_prob (h : Fin 12) (r c : Fin 4096) :
    val_main_v37 (F := Ideal) Q K (ix3 h r c) = MlaRow.prob (qh Q h r) (qh K h) r c := by
  pointwise [val_main_v37, val_main_v36, val_main_v35, ref_expo, ref_total, MlaRow.prob]

theorem ref_dprob (h : Fin 12) (r c : Fin 4096) :
    val_main_v49 (F := Ideal) VV W (ix3 h r c) = MlaRow.dprob (vh VV h) (wh W h r) c := by
  pointwise [val_main_v49, val_main_v48, val_main_v47, val_main_v46, val_main_v45, val_main_v41, val_main_v2, MlaRow.dprob, wh, vh]

theorem ref_quot (h : Fin 12) (r : Fin 4096) :
    val_main_v61 (F := Ideal) Q K VV W (ix2 h r)
      = -(∑ k : Fin 4096, MlaRow.dprob (vh VV h) (wh W h r) k
          * Ideal.div 1 (MlaRow.total (qh Q h r) (qh K h) r * MlaRow.total (qh Q h r) (qh K h) r) * MlaRow.expo (qh Q h r) (qh K h) r k) := by
  pointwise [val_main_v61, val_main_v58, val_main_v57, val_main_v56, val_main_cst_11, val_main_cst_12, val_main_v55, val_main_v54, val_main_v53, val_main_v40,
    val_main_v39, val_main_cst_10, val_main_v38, val_main_v35, ref_total, ref_expo, ref_dprob]
  exact Fin.sum_univ_one _

theorem ref_cot (h : Fin 12) (r c : Fin 4096) :
    val_main_v64 (F := Ideal) Q K VV W (ix3 h r c)
      = (Ideal.div (MlaRow.dprob (vh VV h) (wh W h r) c) (MlaRow.total (qh Q h r) (qh K h) r)
          + -(∑ k : Fin 4096, MlaRow.dprob (vh VV h) (wh W h r) k
            * Ideal.div 1 (MlaRow.total (qh Q h r) (qh K h) r * MlaRow.total (qh Q h r) (qh K h) r) * MlaRow.expo (qh Q h r) (qh K h) r k))
        * MlaRow.expo (qh Q h r) (qh K h) r c := by
  pointwise [val_main_v64, val_main_v63, val_main_v62, val_main_v60, val_main_v59, val_main_v35, ref_quot, ref_total, ref_expo, ref_dprob]

theorem ref_dscore (h : Fin 12) (r c : Fin 4096) :
    val_main_v67 (F := Ideal) Q K VV W (ix3 h r c) = MlaRow.rscore (qh Q h r) (qh K h) (vh VV h) (wh W h r) r c := by
  pointwise [val_main_v67, val_main_v66, val_main_cst_13, val_main_v65, val_main_call1_v0, val_main_call1_cst, ref_mask, ref_cot, MlaRow.rscore, scale]

theorem ref_dq (h : Fin 12) (r : Fin 4096) (d : Fin 192) :
    val_main_v70 (F := Ideal) Q K VV W (ix3 h r d)
      = ∑ c : Fin 4096, MlaRow.rscore (qh Q h r) (qh K h) (vh VV h) (wh W h r) r c * qh K h c d := by
  pointwise [val_main_v70, val_main_v69, val_main_v1, ref_dscore, qh]

theorem ref_dk (h : Fin 12) (c : Fin 4096) (d : Fin 192) :
    val_main_v71 (F := Ideal) Q K VV W (ix3 h c d)
      = ∑ r : Fin 4096, MlaRow.rscore (qh Q h r) (qh K h) (vh VV h) (wh W h r) r c * qh Q h r d := by
  pointwise [val_main_v71, val_main_v68, val_main_v0, ref_dscore, qh]

theorem ref_dv (c : Fin 4096) (j : Fin 1536) :
    val_main_v72 (F := Ideal) Q K W (ix2 c j)
      = ∑ r : Fin 4096, wh W ⟨j.val / 128, by omega⟩ r ⟨j.val % 128, by omega⟩
          * MlaRow.prob (qh Q ⟨j.val / 128, by omega⟩ r) (qh K ⟨j.val / 128, by omega⟩) r c := by
  pointwise [val_main_v72, val_main_v52, val_main_v51, val_main_v50, ref_prob, val_main_v48, val_main_v47, val_main_v46, val_main_v45, wh]
  refine Finset.sum_congr rfl fun r _ => congrArg (· * _) (congrArg W (congrArg (ix2 r) (Fin.ext ?_)))
  change j.val = j.val / 128 * 128 + j.val % 128
  omega

end Cert.MlaReferenceIdeal.Value

end
-- ==== Proof.MlaEq.lean ====
module

public import proofs.«01_k».proof.Defs
public import proofs.«01_k».proof.Proof.MlaFinal
public import proofs.«01_k».proof.Proof.MlaForward
public import proofs.«01_k».proof.Proof.MlaRef

/-!
# The two gradients of the causal attention agree on finite entries
-/

@[expose] public section

set_option maxRecDepth 16384

noncomputable section

open Idealize.ShloMosaic Idealize.ShloMosaic.TcCoe Idealize.SL.Sem

namespace Cert.MlaEq

open Cert.MlaHead Cert.Softmax

theorem facts : Cert.Pre_finite_attention.Facts where
  bitsLt_bf16_f32 := by decide
  bcast_S_S12x4096x192 := by decide
  bcast_S_S4096x1536 := by decide
  slices_S4096x2048_S4096x1536_0_0 := by decide

open Cert.MlaReferenceIdeal.Value Cert.MlaReferenceIdeal.Read

variable (Q K : FVec Ideal ⟨3, ![12, 4096, 192]⟩ .bf16) (VV : FVec Ideal ⟨2, ![4096, 1536]⟩ .bf16) (MO : FVec Ideal ⟨2, ![4096, 512]⟩ .bf16)
  (W : FVec Ideal ⟨2, ![4096, 2048]⟩ .bf16)

/-! ### The precondition, entry by entry -/

section Pre

attribute [local instance] facts

theorem pre_query (h : Fin 12) (r : Fin 4096) (e : Fin 192) :
    (Cert.Pre_finite_attention.fn (F := Ideal) Q K VV MO W).1 (ix3 h r e)
      = Ideal.cmp .olt (max (Q (ix3 h r e)) (-Q (ix3 h r e))) (Ideal.ofBits .f32 0x7F800000#32) := by
  pointwise [Cert.Pre_finite_attention.fn]
  rfl

theorem pre_key (h : Fin 12) (r : Fin 4096) (e : Fin 192) :
    (Cert.Pre_finite_attention.fn (F := Ideal) Q K VV MO W).2.1 (ix3 h r e)
      = Ideal.cmp .olt (max (K (ix3 h r e)) (-K (ix3 h r e))) (Ideal.ofBits .f32 0x7F800000#32) := by
  pointwise [Cert.Pre_finite_attention.fn]
  rfl

theorem pre_value (c : Fin 4096) (j : Fin 1536) :
    (Cert.Pre_finite_attention.fn (F := Ideal) Q K VV MO W).2.2.1 (ix2 c j)
      = Ideal.cmp .olt (max (VV (ix2 c j)) (-VV (ix2 c j))) (Ideal.ofBits .f32 0x7F800000#32) := by
  pointwise [Cert.Pre_finite_attention.fn]
  rfl

theorem pre_cot (r : Fin 4096) (j : Fin 1536) :
    (Cert.Pre_finite_attention.fn (F := Ideal) Q K VV MO W).2.2.2 (ix2 r j)
      = Ideal.cmp .olt (max (W (ix2 r ⟨j.val, by omega⟩)) (-W (ix2 r ⟨j.val, by omega⟩))) (Ideal.ofBits .f32 0x7F800000#32) := by
  pointwise [Cert.Pre_finite_attention.fn]
  rfl

theorem isReal_query (h : (Cert.Pre_finite_attention.fn (F := Ideal) Q K VV MO W).1 = fun _ => 1#1) (a : Fin 12) (r : Fin 4096) (e : Fin 192) :
    IsReal (Q (ix3 a r e)) :=
  isReal_of_cmp ((pre_query Q K VV MO W a r e).symm.trans (congrFun h _))

theorem isReal_key (h : (Cert.Pre_finite_attention.fn (F := Ideal) Q K VV MO W).2.1 = fun _ => 1#1) (a : Fin 12) (r : Fin 4096) (e : Fin 192) :
    IsReal (K (ix3 a r e)) :=
  isReal_of_cmp ((pre_key Q K VV MO W a r e).symm.trans (congrFun h _))

theorem isReal_value (h : (Cert.Pre_finite_attention.fn (F := Ideal) Q K VV MO W).2.2.1 = fun _ => 1#1) (c : Fin 4096) (j : Fin 1536) :
    IsReal (VV (ix2 c j)) :=
  isReal_of_cmp ((pre_value Q K VV MO W c j).symm.trans (congrFun h _))

theorem isReal_cot (h : (Cert.Pre_finite_attention.fn (F := Ideal) Q K VV MO W).2.2.2 = fun _ => 1#1) (r : Fin 4096) (j : Fin 1536) :
    IsReal (W (ix2 r ⟨j.val, by omega⟩)) :=
  isReal_of_cmp ((pre_cot Q K VV MO W r j).symm.trans (congrFun h _))

end Pre

/-! ### The results -/

/-- The outputs the kernel is given, beside the memory attention's. -/
abbrev savedOut : FVec Ideal ⟨2, ![4096, 2048]⟩ .bf16 :=
  Cert.MlaKernelIdeal.Forward.mixed (Cert.MlaKernelIdeal.Forward.outputs (Cert.MlaKernelIdeal.Forward.softmax (Cert.MlaKernelIdeal.Forward.masked Q K))
    (Cert.MlaKernelIdeal.Forward.heads VV)) MO

/-- The log-sum-exps the kernel is given. -/
abbrev savedSum : FVec Ideal ⟨3, ![12, 4096, 1]⟩ .f32 := Cert.MlaKernelIdeal.Forward.logSum (Cert.MlaKernelIdeal.Forward.masked Q K)

theorem savedOut_at (h : Fin 12) (r : Fin 4096) (d : Fin 128) :
    savedOut Q K VV MO (ix2 r (Cert.MlaKernelIdeal.Value.mixCol h d)) = MlaRow.output (qh Q h r) (qh K h) (vh VV h) r d := by
  refine (Cert.MlaKernelIdeal.Forward.mixed_at MO _ h r d).trans ((Cert.MlaKernelIdeal.Forward.outputs_at VV _ h r d).trans ?_)
  exact Finset.sum_congr rfl fun c _ => congrArg (_ * ·) (Cert.MlaKernelIdeal.Forward.softmax_at Q K h r c)

theorem weight_eq (h : Fin 12) (r c : Fin 4096) :
    Cert.MlaKernelIdeal.Value.headWeight Q K (savedSum Q K) h r c = MlaRow.kweight (qh Q h r) (qh K h) r c := by
  unfold Cert.MlaKernelIdeal.Value.headWeight MlaRow.kweight
  exact congrArg (fun z => if c.val ≤ r.val then weight (qh Q h r) z (qh K h c) else 0) (Cert.MlaKernelIdeal.Forward.logSum_at Q K h r)

theorem grad_eq (h : Fin 12) (r c : Fin 4096) :
    Cert.MlaKernelIdeal.Value.headGrad Q K VV (savedOut Q K VV MO) W (savedSum Q K) h r c
      = MlaRow.kscore (qh Q h r) (qh K h) (vh VV h) (wh W h r) r c := by
  unfold Cert.MlaKernelIdeal.Value.headGrad MlaRow.kscore
  rw [weight_eq]
  have e := Finset.sum_congr rfl fun (d : Fin 128) (_ : d ∈ Finset.univ) =>
    congrArg (fun x : EReal => wh W h r d * x) (savedOut_at Q K VV MO h r d)
  exact congrArg (fun z => dscore _ (wh W h r) z (vh VV h c)) e

variable
  (hQ : ∀ (h : Fin 12) (r : Fin 4096) (e : Fin 192), IsReal (Q (ix3 h r e)))
  (hK : ∀ (h : Fin 12) (r : Fin 4096) (e : Fin 192), IsReal (K (ix3 h r e)))

include hQ hK

theorem dv_eq (c : Fin 4096) (j : Fin 1536) :
    val_main_v72 (F := Ideal) Q K W (ix2 c j)
      = Cert.MlaKernelIdeal.Value.dV Q K W (savedSum Q K) (Cert.MlaKernelIdeal.Value.headCol j) c (Cert.MlaKernelIdeal.Value.colIn j) := by
  rw [ref_dv]
  refine Finset.sum_congr rfl fun r _ => ?_
  rw [weight_eq, MlaRow.kweight_eq (qh Q _ r) (qh K _) r (hQ _ r) (hK _)]
  exact mul_comm _ _

variable
  (hV : ∀ (c : Fin 4096) (j : Fin 1536), IsReal (VV (ix2 c j)))
  (hW : ∀ (r : Fin 4096) (j : Fin 1536), IsReal (W (ix2 r ⟨j.val, by omega⟩)))

include hV hW

theorem rscore_head (h : Fin 12) (r c : Fin 4096) :
    MlaRow.rscore (qh Q h r) (qh K h) (vh VV h) (wh W h r) r c
      = Cert.MlaKernelIdeal.Value.headGrad Q K VV (savedOut Q K VV MO) W (savedSum Q K) h r c := by
  rw [grad_eq]
  exact MlaRow.rscore_eq _ _ _ _ r (hQ h r) (hK h) (fun c d => hV c ⟨h.val * 128 + d.val, by omega⟩) (fun d => hW r ⟨h.val * 128 + d.val, by omega⟩) c

theorem dq_eq (h : Fin 12) (r : Fin 4096) (d : Fin 192) :
    val_main_v70 (F := Ideal) Q K VV W (ix3 h r d)
      = Cert.MlaKernelIdeal.Value.dQ Q K VV (savedOut Q K VV MO) W (savedSum Q K) h r d := by
  rw [ref_dq]
  exact Finset.sum_congr rfl fun c _ => congrArg (· * qh K h c d) (rscore_head Q K VV MO W hQ hK hV hW h r c)

theorem dk_eq (h : Fin 12) (c : Fin 4096) (d : Fin 192) :
    val_main_v71 (F := Ideal) Q K VV W (ix3 h c d)
      = Cert.MlaKernelIdeal.Value.dK Q K VV (savedOut Q K VV MO) W (savedSum Q K) h c d := by
  rw [ref_dk]
  exact Finset.sum_congr rfl fun r _ => congrArg (· * qh Q h r d) (rscore_head Q K VV MO W hQ hK hV hW h r c)

/-- The plain gradient of the queries. -/
theorem reference_dq : val_main_v70 (F := Ideal) Q K VV W
    = fun i => Cert.MlaKernelIdeal.Value.dQ Q K VV (savedOut Q K VV MO) W (savedSum Q K) (i 0) (i 1) (i 2) :=
  funext fun i => (congrArg (val_main_v70 (F := Ideal) Q K VV W) (eq_ix3 i)).trans (dq_eq Q K VV MO W hQ hK hV hW (i 0) (i 1) (i 2))

/-- The plain gradient of the keys. -/
theorem reference_dk : val_main_v71 (F := Ideal) Q K VV W
    = fun i => Cert.MlaKernelIdeal.Value.dK Q K VV (savedOut Q K VV MO) W (savedSum Q K) (i 0) (i 1) (i 2) :=
  funext fun i => (congrArg (val_main_v71 (F := Ideal) Q K VV W) (eq_ix3 i)).trans (dk_eq Q K VV MO W hQ hK hV hW (i 0) (i 1) (i 2))

omit hV hW in
/-- The plain gradient of the values. -/
theorem reference_dv : val_main_v72 (F := Ideal) Q K W
    = fun i => Cert.MlaKernelIdeal.Value.dV Q K W (savedSum Q K) (Cert.MlaKernelIdeal.Value.headCol (i 1)) (i 0) (Cert.MlaKernelIdeal.Value.colIn (i 1)) :=
  funext fun i => (congrArg (val_main_v72 (F := Ideal) Q K W) (eq_ix2 i)).trans (dv_eq Q K W hQ hK (i 0) (i 1))

end Cert.MlaEq
-- ==== Proof.MlaClaim.lean ====
module

public import proofs.«01_k».proof.Proof.MlaEq
public import proofs.«01_k».proof.Proof.Gen.MlaKernelIdeal.Value

/-!
# The value claim of the causal attention's gradient
-/

@[expose] public section

noncomputable section

namespace Cert.Proof

open Idealize.ShloMosaic Idealize.ShloMosaic.TcCoe Idealize.SL.Sem

attribute [local instance] Cert.MlaKernelIdeal.Gen.facts Cert.MlaReferenceIdeal.Gen.facts Cert.MlaEq.facts

open Cert.MlaKernelIdeal Cert.MlaKernelIdeal.Gen in
/-- The query gradient the kernel leaves, over its arguments. -/
theorem query_left (m : (ℓ : Loc nD τ sig) → Buf (Elt Ideal) ℓ) (c : Dev nD) :
    (dats m 0 c).arrAt 6 cfg0.N
      = fun i => Cert.MlaKernelIdeal.Value.dQ (m ((c : Thread nD τ).loc main_arg0)) (m ((c : Thread nD τ).loc main_arg1)) (m ((c : Thread nD τ).loc main_arg2))
          (Cert.MlaEq.savedOut (m ((c : Thread nD τ).loc main_arg0)) (m ((c : Thread nD τ).loc main_arg1)) (m ((c : Thread nD τ).loc main_arg2)) (m ((c : Thread nD τ).loc main_arg3)))
          (m ((c : Thread nD τ).loc main_arg4)) (Cert.MlaEq.savedSum (m ((c : Thread nD τ).loc main_arg0)) (m ((c : Thread nD τ).loc main_arg1))) (i 0) (i 1) (i 2) := by
  refine (Cert.MlaKernelIdeal.Value.queryArray m c).trans ?_
  unfold Cert.MlaKernelIdeal.Value.aQ Cert.MlaKernelIdeal.Value.aK Cert.MlaKernelIdeal.Value.aV Cert.MlaKernelIdeal.Value.aO Cert.MlaKernelIdeal.Value.aW Cert.MlaKernelIdeal.Value.aL
  rw [V_main_arg0, V_main_arg1, V_main_arg2, V_main_arg4, Cert.MlaKernelIdeal.Forward.V_mix, Cert.MlaKernelIdeal.Forward.V_lse]

open Cert.MlaKernelIdeal Cert.MlaKernelIdeal.Gen in
/-- The key gradient the kernel leaves, over its arguments. -/
theorem key_left (m : (ℓ : Loc nD τ sig) → Buf (Elt Ideal) ℓ) (c : Dev nD) :
    (dats m 0 c).arrAt 7 cfg0.N
      = fun i => Cert.MlaKernelIdeal.Value.dK (m ((c : Thread nD τ).loc main_arg0)) (m ((c : Thread nD τ).loc main_arg1)) (m ((c : Thread nD τ).loc main_arg2))
          (Cert.MlaEq.savedOut (m ((c : Thread nD τ).loc main_arg0)) (m ((c : Thread nD τ).loc main_arg1)) (m ((c : Thread nD τ).loc main_arg2)) (m ((c : Thread nD τ).loc main_arg3)))
          (m ((c : Thread nD τ).loc main_arg4)) (Cert.MlaEq.savedSum (m ((c : Thread nD τ).loc main_arg0)) (m ((c : Thread nD τ).loc main_arg1))) (i 0) (i 1) (i 2) := by
  refine (Cert.MlaKernelIdeal.Value.keyArray m c).trans ?_
  unfold Cert.MlaKernelIdeal.Value.aQ Cert.MlaKernelIdeal.Value.aK Cert.MlaKernelIdeal.Value.aV Cert.MlaKernelIdeal.Value.aO Cert.MlaKernelIdeal.Value.aW Cert.MlaKernelIdeal.Value.aL
  rw [V_main_arg0, V_main_arg1, V_main_arg2, V_main_arg4, Cert.MlaKernelIdeal.Forward.V_mix, Cert.MlaKernelIdeal.Forward.V_lse]

open Cert.MlaKernelIdeal Cert.MlaKernelIdeal.Gen in
/-- The value gradient the kernel leaves, over its arguments. -/
theorem value_left (m : (ℓ : Loc nD τ sig) → Buf (Elt Ideal) ℓ) (c : Dev nD) :
    (dats m 0 c).arrAt 8 cfg0.N
      = fun i => Cert.MlaKernelIdeal.Value.dV (m ((c : Thread nD τ).loc main_arg0)) (m ((c : Thread nD τ).loc main_arg1)) (m ((c : Thread nD τ).loc main_arg4))
          (Cert.MlaEq.savedSum (m ((c : Thread nD τ).loc main_arg0)) (m ((c : Thread nD τ).loc main_arg1)))
          (Cert.MlaKernelIdeal.Value.headCol (i 1)) (i 0) (Cert.MlaKernelIdeal.Value.colIn (i 1)) := by
  refine (Cert.MlaKernelIdeal.Value.valueArray m c).trans ?_
  unfold Cert.MlaKernelIdeal.Value.aQ Cert.MlaKernelIdeal.Value.aK Cert.MlaKernelIdeal.Value.aW Cert.MlaKernelIdeal.Value.aL
  rw [V_main_arg0, V_main_arg1, V_main_arg4, Cert.MlaKernelIdeal.Forward.V_lse]

/-- On finite queries, keys, values and cotangents the kernel's three results are the plain gradient's. -/
theorem attention_value : Cert.algebraic_MlaKernelIdeal_MlaReferenceIdeal_pre_finite_attention := by
  intro m g m' g' hpre hag
  refine ⟨fun c => (Cert.MlaKernelIdeal.Gen.dats m 0 c).arrAt 6 Cert.MlaKernelIdeal.cfg0.N,
    fun c => (Cert.MlaKernelIdeal.Gen.dats m 0 c).arrAt 7 Cert.MlaKernelIdeal.cfg0.N,
    fun c => (Cert.MlaKernelIdeal.Gen.dats m 0 c).arrAt 8 Cert.MlaKernelIdeal.cfg0.N, Cert.MlaKernelIdeal.Value.run_blocks m g,
    (θ_run _ _ _).mono (fun r h c => ?_) (Cert.MlaReferenceIdeal.Value.run m' g')⟩
  obtain ⟨h0, h1, h2, h3⟩ := h c
  obtain ⟨e0, e1, e2, e3, e4⟩ := hag c
  have hQ := Cert.MlaEq.isReal_query _ _ _ _ _ (hpre c).1
  have hK := Cert.MlaEq.isReal_key _ _ _ _ _ (hpre c).2.1
  have hV := Cert.MlaEq.isReal_value _ _ _ _ _ (hpre c).2.2.1
  have hW := Cert.MlaEq.isReal_cot _ _ _ _ _ (hpre c).2.2.2
  refine ⟨h0.trans ((Cert.MlaReferenceIdeal.Read.val_main_v70_eq m' c).trans ?_),
    h1.trans ((Cert.MlaReferenceIdeal.Read.val_main_v71_eq m' c).trans ?_),
    h2.trans ((Cert.MlaReferenceIdeal.Read.val_main_v72_eq m' c).trans ?_), h3⟩
  · rw [e0, e1, e2, e4]
    exact (Cert.MlaEq.reference_dq _ _ _ _ _ hQ hK hV hW).trans (query_left m c).symm
  · rw [e0, e1, e2, e4]
    exact (Cert.MlaEq.reference_dk _ _ _ _ _ hQ hK hV hW).trans (key_left m c).symm
  · rw [e0, e1, e4]
    exact (Cert.MlaEq.reference_dv _ _ _ hQ hK).trans (value_left m c).symm

end Cert.Proof
-- ==== Proof.MemHead.lean ====
module

public import proofs.«01_k».proof.Proof.Gen.MemKernelIdeal.Frame
public import Idealize.ShloMosaic.Lib.Pipeline.ValueKit
public import Idealize.ShloMosaic.Lib.Pointwise

/-!
# One head of the memory attention's gradient, at one block of queries

Over the extended reals: the softmax weights of a query row over the 256 memory slots, the gradient
of the scores, and the fact that every head of the kernel's body computes these.
-/

@[expose] public section

set_option maxRecDepth 16384

noncomputable section

open Idealize.ShloMosaic Idealize.ShloMosaic.TcCoe Idealize.SL.Sem

namespace Cert.MemHead

/-- The scale of the scores: the printed literal for `128 ** -0.5`. -/
def scale : EReal := Ideal.ofBits .f32 0x3DB504F3#32

/-- The scaled score of a query against the slot `c`. -/
def score (q : Fin 128 → EReal) (K : Fin 256 → Fin 128 → EReal) (c : Fin 256) : EReal :=
  (∑ d : Fin 128, q d * K c d) * scale

/-- The largest score of the row. -/
def top (q : Fin 128 → EReal) (K : Fin 256 → Fin 128 → EReal) : EReal :=
  Finset.univ.fold max (Ideal.ofBits .f32 0xFF800000#32) fun c => score q K c

/-- The exponential of a score, shifted by the row's largest. -/
def expo (q : Fin 128 → EReal) (K : Fin 256 → Fin 128 → EReal) (c : Fin 256) : EReal :=
  Ideal.exp (score q K c - top q K)

/-- The softmax weight of the slot `c`. -/
def prob (q : Fin 128 → EReal) (K : Fin 256 → Fin 128 → EReal) (c : Fin 256) : EReal :=
  Ideal.div (expo q K c) (∑ k : Fin 256, expo q K k)

/-- The cotangent of the weight of the slot `c`. -/
def dprob (w : Fin 128 → EReal) (V : Fin 256 → Fin 128 → EReal) (c : Fin 256) : EReal :=
  ∑ d : Fin 128, w d * V c d

/-- The cotangent of the unscaled score of the slot `c`. -/
def dscore (q : Fin 128 → EReal) (K V : Fin 256 → Fin 128 → EReal) (w : Fin 128 → EReal) (c : Fin 256) : EReal :=
  prob q K c * (dprob w V c - ∑ k : Fin 256, dprob w V k * prob q K k) * scale

end Cert.MemHead

namespace Cert.MemKernelIdeal.Heads

open Cert.MemKernelIdeal Cert.MemKernelIdeal.Gen Cert.MemHead

variable (x : FVec Ideal S512x128 .bf16) (k v : FVec Ideal S256x128 .bf16) (w : FVec Ideal S512x128 .bf16)

/-- The weights the body computes are the softmax weights of the block's rows. -/
theorem weight (r : Fin 512) (c : Fin 256) :
    k0_pay7 (F := Ideal) x k (ix2 r c) = prob (fun d => x (ix2 r d)) (fun c d => k (ix2 c d)) c := by
  pointwise [k0_pay7, prob, expo, top, score, scale]

/-- The score cotangents the body computes. -/
theorem grad (r : Fin 512) (c : Fin 256) :
    k0_pay8 (F := Ideal) x k v w (ix2 r c)
      = dscore (fun d => x (ix2 r d)) (fun c d => k (ix2 c d)) (fun c d => v (ix2 c d)) (fun d => w (ix2 r d)) c := by
  pointwise [k0_pay8, weight, dscore, dprob, scale]

/-- A head's block of the query gradient. -/
theorem query0 (r : Fin 512) (d : Fin 128) :
    k0_pay9 (F := Ideal) x k v w (ix2 r d)
      = ∑ c : Fin 256, dscore (fun d => x (ix2 r d)) (fun c d => k (ix2 c d)) (fun c d => v (ix2 c d)) (fun d => w (ix2 r d)) c * k (ix2 c d) := by
  pointwise [k0_pay9, grad]

theorem query1 (r : Fin 512) (d : Fin 128) :
    k0_pay15 (F := Ideal) k (k0_pay14 x k v w) (constant S512x128 .f32 0x00000000#32) (ix2 r d)
      = ∑ c : Fin 256, dscore (fun d => x (ix2 r d)) (fun c d => k (ix2 c d)) (fun c d => v (ix2 c d)) (fun d => w (ix2 r d)) c * k (ix2 c d) :=
  query0 x k v w r d

theorem query2 (r : Fin 512) (d : Fin 128) :
    k0_pay22 (F := Ideal) k (k0_pay18 x k) (k0_pay19 v w) (k0_pay20 x k v w) (ix2 r d)
      = ∑ c : Fin 256, dscore (fun d => x (ix2 r d)) (fun c d => k (ix2 c d)) (fun c d => v (ix2 c d)) (fun d => w (ix2 r d)) c * k (ix2 c d) :=
  query0 x k v w r d

theorem query3 (r : Fin 512) (d : Fin 128) :
    k0_pay3 (F := Ideal) k v w (k0_pay25 x k) (k0_pay26 x k) (ix2 r d)
      = ∑ c : Fin 256, dscore (fun d => x (ix2 r d)) (fun c d => k (ix2 c d)) (fun c d => v (ix2 c d)) (fun d => w (ix2 r d)) c * k (ix2 c d) :=
  query0 x k v w r d

variable (a : FVec Ideal S256x128 .f32)

/-- A head's contribution to the key gradient: what was there, and the block's rows. -/
theorem key0 (c : Fin 256) (d : Fin 128) :
    k0_pay11 (F := Ideal) x (k0_pay8 x k v w) (k0_pay10 a) (constant S256x128 .f32 0x00000000#32) (ix2 c d)
      = a (ix2 c d) + ∑ r : Fin 512, dscore (fun d => x (ix2 r d)) (fun c d => k (ix2 c d)) (fun c d => v (ix2 c d)) (fun d => w (ix2 r d)) c * x (ix2 r d) := by
  pointwise [k0_pay11, k0_pay10, grad]

theorem key1 (c : Fin 256) (d : Fin 128) :
    k0_pay16 (F := Ideal) x (k0_pay14 x k v w) a (ix2 c d)
      = a (ix2 c d) + ∑ r : Fin 512, dscore (fun d => x (ix2 r d)) (fun c d => k (ix2 c d)) (fun c d => v (ix2 c d)) (fun d => w (ix2 r d)) c * x (ix2 r d) :=
  key0 x k v w a c d

theorem key2 (c : Fin 256) (d : Fin 128) :
    k0_pay23 (F := Ideal) x (k0_pay18 x k) (k0_pay19 v w) (k0_pay20 x k v w) a (ix2 c d)
      = a (ix2 c d) + ∑ r : Fin 512, dscore (fun d => x (ix2 r d)) (fun c d => k (ix2 c d)) (fun c d => v (ix2 c d)) (fun d => w (ix2 r d)) c * x (ix2 r d) :=
  key0 x k v w a c d

theorem key3 (c : Fin 256) (d : Fin 128) :
    k0_pay4 (F := Ideal) x v w (k0_pay25 x k) (k0_pay26 x k) a (ix2 c d)
      = a (ix2 c d) + ∑ r : Fin 512, dscore (fun d => x (ix2 r d)) (fun c d => k (ix2 c d)) (fun c d => v (ix2 c d)) (fun d => w (ix2 r d)) c * x (ix2 r d) :=
  key0 x k v w a c d

/-- A head's contribution to the value gradient: what was there, and the block's rows. -/
theorem value0 (c : Fin 256) (d : Fin 128) :
    k0_pay12 (F := Ideal) w (k0_pay7 x k) a (ix2 c d)
      = a (ix2 c d) + ∑ r : Fin 512, prob (fun d => x (ix2 r d)) (fun c d => k (ix2 c d)) c * w (ix2 r d) := by
  pointwise [k0_pay12, weight]

theorem value1 (c : Fin 256) (d : Fin 128) :
    k0_pay17 (F := Ideal) w (k0_pay13 x k) a (ix2 c d)
      = a (ix2 c d) + ∑ r : Fin 512, prob (fun d => x (ix2 r d)) (fun c d => k (ix2 c d)) c * w (ix2 r d) :=
  value0 x k w a c d

theorem value2 (c : Fin 256) (d : Fin 128) :
    k0_pay24 (F := Ideal) w (k0_pay18 x k) a (ix2 c d)
      = a (ix2 c d) + ∑ r : Fin 512, prob (fun d => x (ix2 r d)) (fun c d => k (ix2 c d)) c * w (ix2 r d) :=
  value0 x k w a c d

theorem value3 (c : Fin 256) (d : Fin 128) :
    k0_pay5 (F := Ideal) w (k0_pay25 x k) (k0_pay26 x k) a (ix2 c d)
      = a (ix2 c d) + ∑ r : Fin 512, prob (fun d => x (ix2 r d)) (fun c d => k (ix2 c d)) c * w (ix2 r d) :=
  value0 x k w a c d

/-- The zero fill. -/
theorem fill (y : S256x1024.Idx) : k0_pay6 (F := Ideal) y = 0 := by
  pointwise [k0_pay6]

end Cert.MemKernelIdeal.Heads

end

end
-- ==== Proof.MemPoint.lean ====
module

public import proofs.«01_k».proof.Proof.MemHead
public import Idealize.ShloMosaic.Lib.Pipeline.ReadBack

/-!
# What one grid point of the memory attention's gradient leaves in its two outputs

The query gradient's block is written column block by column block (one per head); the slots'
gradient is added into, head by head.
-/

@[expose] public section

set_option maxRecDepth 16384

noncomputable section

open Idealize.ShloMosaic Idealize.ShloMosaic.TcCoe Idealize.SL.Sem
open Idealize.ShloMosaic.Pipeline (Dat)

namespace Cert.MemKernelIdeal.Value

open Cert.MemKernelIdeal Cert.MemKernelIdeal.Gen Cert.MemHead Cert.MemKernelIdeal.Heads

/-- The head that holds column `j` of the 512 head columns: its columns of a row block. -/
def rowOf (z : FVec Ideal S512x512 .bf16) (r : Fin 512) (j : Fin 512) (d : Fin 128) : EReal :=
  z (ix2 r ⟨j.val / 128 * 128 + d.val, by omega⟩)

/-- That head's keys. -/
def keysOf (kv : FVec Ideal S256x1024 .bf16) (j : Fin 512) (c : Fin 256) (d : Fin 128) : EReal :=
  kv (ix2 c ⟨j.val / 128 * 128 + d.val, by omega⟩)

/-- That head's values. -/
def valsOf (kv : FVec Ideal S256x1024 .bf16) (j : Fin 512) (c : Fin 256) (d : Fin 128) : EReal :=
  kv (ix2 c ⟨512 + (j.val / 128 * 128 + d.val), by omega⟩)

/-- The query gradient of a row block, at a row and a head column. -/
def dqAt (z : FVec Ideal S512x512 .bf16) (kv : FVec Ideal S256x1024 .bf16) (dm : FVec Ideal S512x512 .bf16)
    (r : Fin 512) (j : Fin 512) : EReal :=
  ∑ c : Fin 256, dscore (rowOf z r j) (keysOf kv j) (valsOf kv j) (rowOf dm r j) c * kv (ix2 c ⟨j.val, by omega⟩)

/-- The key gradient's part of a row block, at a slot and a head column. -/
def dkAt (z : FVec Ideal S512x512 .bf16) (kv : FVec Ideal S256x1024 .bf16) (dm : FVec Ideal S512x512 .bf16)
    (c : Fin 256) (j : Fin 512) : EReal :=
  ∑ r : Fin 512, dscore (rowOf z r j) (keysOf kv j) (valsOf kv j) (rowOf dm r j) c * z (ix2 r j)

/-- The value gradient's part of a row block, at a slot and a head column. -/
def dvAt (z : FVec Ideal S512x512 .bf16) (kv : FVec Ideal S256x1024 .bf16) (dm : FVec Ideal S512x512 .bf16)
    (c : Fin 256) (j : Fin 512) : EReal :=
  ∑ r : Fin 512, prob (rowOf z r j) (keysOf kv j) c * dm (ix2 r j)

/-- The slots' gradient's part of a row block: keys in the low columns, values in the high ones. -/
def dkvAt (z : FVec Ideal S512x512 .bf16) (kv : FVec Ideal S256x1024 .bf16) (dm : FVec Ideal S512x512 .bf16)
    (y : S256x1024.Idx) : EReal :=
  if h : (y 1 : ℕ) < 512 then dkAt z kv dm (y 0) ⟨y 1, h⟩ else dvAt z kv dm (y 0) ⟨(y 1 : ℕ) - 512, by have := (y 1).isLt; change (y 1 : ℕ) < 1024 at this; omega⟩

section
variable (z : FVec Ideal S512x512 .bf16) (kv : FVec Ideal S256x1024 .bf16) (dm : FVec Ideal S512x512 .bf16)
  (x : FVec Ideal S512x128 .bf16) (k v : FVec Ideal S256x128 .bf16) (w : FVec Ideal S512x128 .bf16)
  (o : ℕ) (ho : o + 128 ≤ 512) (ho' : o % 128 = 0)
  (hx : ∀ (r : Fin 512) (d : Fin 128), x (ix2 r d) = z (ix2 r ⟨o + d.val, by omega⟩))
  (hk : ∀ (c : Fin 256) (d : Fin 128), k (ix2 c d) = kv (ix2 c ⟨o + d.val, by omega⟩))
  (hv : ∀ (c : Fin 256) (d : Fin 128), v (ix2 c d) = kv (ix2 c ⟨512 + o + d.val, by omega⟩))
  (hw : ∀ (r : Fin 512) (d : Fin 128), w (ix2 r d) = dm (ix2 r ⟨o + d.val, by omega⟩))

include ho' hx in
theorem rowOf_eq (r : Fin 512) (d : Fin 128) (hj : o + d.val < 512) :
    (fun e => x (ix2 r e)) = rowOf z r ⟨o + d.val, hj⟩ := by
  funext e
  rw [hx, rowOf]
  blk_ext

include ho' hk in
theorem keysOf_eq (d : Fin 128) (hj : o + d.val < 512) :
    (fun c e => k (ix2 c e)) = keysOf kv ⟨o + d.val, hj⟩ := by
  funext c e
  rw [hk, keysOf]
  blk_ext

include ho' hv in
theorem valsOf_eq (d : Fin 128) (hj : o + d.val < 512) :
    (fun c e => v (ix2 c e)) = valsOf kv ⟨o + d.val, hj⟩ := by
  funext c e
  rw [hv, valsOf]
  blk_ext

include ho ho' hx hk hv hw in
/-- A head's block of the query gradient is its columns of `dqAt`. -/
theorem dq_piece (r : Fin 512) (d : Fin 128) :
    ∑ c : Fin 256, dscore (fun d => x (ix2 r d)) (fun c d => k (ix2 c d)) (fun c d => v (ix2 c d)) (fun d => w (ix2 r d)) c * k (ix2 c d)
      = dqAt z kv dm r ⟨o + d.val, by omega⟩ := by
  have hj : o + d.val < 512 := by omega
  rw [rowOf_eq z x o ho ho' hx r d hj, keysOf_eq kv k o ho ho' hk d hj, valsOf_eq kv v o ho ho' hv d hj,
    rowOf_eq dm w o ho ho' hw r d hj, dqAt]
  exact Finset.sum_congr rfl fun c _ => by rw [hk]

include ho ho' hx hk hv hw in
/-- A head's contribution to the key gradient is its columns of `dkvAt`. -/
theorem dk_piece (c : Fin 256) (d : Fin 128) :
    ∑ r : Fin 512, dscore (fun d => x (ix2 r d)) (fun c d => k (ix2 c d)) (fun c d => v (ix2 c d)) (fun d => w (ix2 r d)) c * x (ix2 r d)
      = dkvAt z kv dm (ix2 c ⟨o + d.val, by omega⟩) := by
  have hj : o + d.val < 512 := by omega
  rw [dkvAt, dif_pos (by simpa using hj)]
  refine Finset.sum_congr rfl fun r _ => ?_
  rw [rowOf_eq z x o ho ho' hx r d hj, keysOf_eq kv k o ho ho' hk d hj, valsOf_eq kv v o ho ho' hv d hj,
    rowOf_eq dm w o ho ho' hw r d hj, hx]
  rfl

include ho ho' hx hk hw in
/-- A head's contribution to the value gradient is its columns of `dkvAt`. -/
theorem dv_piece (c : Fin 256) (d : Fin 128) :
    ∑ r : Fin 512, prob (fun d => x (ix2 r d)) (fun c d => k (ix2 c d)) c * w (ix2 r d)
      = dkvAt z kv dm (ix2 c ⟨512 + o + d.val, by omega⟩) := by
  have hj : o + d.val < 512 := by omega
  have hn : 512 + o + d.val - 512 = o + d.val := by omega
  rw [dkvAt, dif_neg (by simp only [ix2_1]; omega)]
  refine Finset.sum_congr rfl fun r _ => ?_
  simp only [ix2_1, ix2_0, hn]
  rw [rowOf_eq z x o ho ho' hx r d hj, keysOf_eq kv k o ho ho' hk d hj, hw]

end

variable (m : (ℓ : Loc nD τ sig) → Buf (Elt Ideal) ℓ)

/-- Pieces that cover an index hide every piece stored before them. -/
theorem canon_hide {S : Shape} {e : EltTy} {Val : EltTy → Type} [∀ e, Nonempty (Val e)] (f : View.Piece Val S e) (y : S.Idx) :
    ∀ (L : List (View.Piece Val S e)) (_ : ∃ p ∈ L, y ∈ p.1.set), View.canon (L ++ [f]) y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 _ x).trans (View.canon_cons_emb p.1 p.2 L x).symm
    · rw [List.cons_append, View.canon_cons_of_not_mem p _ hm, View.canon_cons_of_not_mem p _ hm]
      refine canon_hide f y L ?_
      obtain ⟨q, hq, hy⟩ := h
      rcases List.mem_cons.mp hq with rfl | hq
      · exact absurd hy hm
      · exact ⟨q, hq, hy⟩

/-- THE QUERY GRADIENT at a point that adds into the slots' gradient. -/
theorem dq_later (c : Dev nD) (t : Fin cfg0.N) (h : ¬ t.val % 8 = 0) (y : S512x512.Idx) :
    (outsAt0 m c t.val t.isLt).1 y = dqAt (iblk m c 0 t) (iblk m c 1 t) (iblk m c 2 t) (y 0) (y 1) := by
  rw [outsAt0_B m c t h]; frame_out
  canon_tiles x hx
  case piece0 =>
    idx_vars x
    have hl : 384 + (x1 : ℕ) < 512 := Nat.lt_of_lt_of_le (Nat.add_lt_add_left x1.isLt 384) (by decide)
    obtain rfl : y = ix2 x0 ⟨384 + x1.val, hl⟩ := by idx_ext
    refine (query3 _ _ _ _ x0 x1).trans ?_
    exact dq_piece (iblk m c 0 t) (iblk m c 1 t) (iblk m c 2 t) _ _ _ _ 384 (by decide) (by decide) (fun r d => by pointwise) (fun r d => by pointwise) (fun r d => by pointwise) (fun r d => by pointwise) x0 x1
  case piece1 =>
    idx_vars x
    have hl : 256 + (x1 : ℕ) < 512 := Nat.lt_of_lt_of_le (Nat.add_lt_add_left x1.isLt 256) (by decide)
    obtain rfl : y = ix2 x0 ⟨256 + x1.val, hl⟩ := by idx_ext
    refine (query2 _ _ _ _ x0 x1).trans ?_
    exact dq_piece (iblk m c 0 t) (iblk m c 1 t) (iblk m c 2 t) _ _ _ _ 256 (by decide) (by decide) (fun r d => by pointwise) (fun r d => by pointwise) (fun r d => by pointwise) (fun r d => by pointwise) x0 x1
  case piece2 =>
    idx_vars x
    have hl : 128 + (x1 : ℕ) < 512 := Nat.lt_of_lt_of_le (Nat.add_lt_add_left x1.isLt 128) (by decide)
    obtain rfl : y = ix2 x0 ⟨128 + x1.val, hl⟩ := by idx_ext
    refine (query1 _ _ _ _ x0 x1).trans ?_
    exact dq_piece (iblk m c 0 t) (iblk m c 1 t) (iblk m c 2 t) _ _ _ _ 128 (by decide) (by decide) (fun r d => by pointwise) (fun r d => by pointwise) (fun r d => by pointwise) (fun r d => by pointwise) x0 x1
  case piece3 =>
    idx_vars x
    have hl : 0 + (x1 : ℕ) < 512 := Nat.lt_of_lt_of_le (Nat.add_lt_add_left x1.isLt 0) (by decide)
    obtain rfl : y = ix2 x0 ⟨0 + x1.val, hl⟩ := by idx_ext
    refine (query0 _ _ _ _ x0 x1).trans ?_
    exact dq_piece (iblk m c 0 t) (iblk m c 1 t) (iblk m c 2 t) _ _ _ _ 0 (by decide) (by decide) (fun r d => by pointwise) (fun r d => by pointwise) (fun r d => by pointwise) (fun r d => by pointwise) x0 x1

/-- THE QUERY GRADIENT at the first point. -/
theorem dq_first (c : Dev nD) (t : Fin cfg0.N) (h : t.val % 8 = 0) (y : S512x512.Idx) :
    (outsAt0 m c t.val t.isLt).1 y = dqAt (iblk m c 0 t) (iblk m c 1 t) (iblk m c 2 t) (y 0) (y 1) := by
  rw [outsAt0_A m c t h]; frame_out
  canon_tiles x hx
  case piece0 =>
    idx_vars x
    have hl : 384 + (x1 : ℕ) < 512 := Nat.lt_of_lt_of_le (Nat.add_lt_add_left x1.isLt 384) (by decide)
    obtain rfl : y = ix2 x0 ⟨384 + x1.val, hl⟩ := by idx_ext
    refine (query3 _ _ _ _ x0 x1).trans ?_
    exact dq_piece (iblk m c 0 t) (iblk m c 1 t) (iblk m c 2 t) _ _ _ _ 384 (by decide) (by decide) (fun r d => by pointwise) (fun r d => by pointwise) (fun r d => by pointwise) (fun r d => by pointwise) x0 x1
  case piece1 =>
    idx_vars x
    have hl : 256 + (x1 : ℕ) < 512 := Nat.lt_of_lt_of_le (Nat.add_lt_add_left x1.isLt 256) (by decide)
    obtain rfl : y = ix2 x0 ⟨256 + x1.val, hl⟩ := by idx_ext
    refine (query2 _ _ _ _ x0 x1).trans ?_
    exact dq_piece (iblk m c 0 t) (iblk m c 1 t) (iblk m c 2 t) _ _ _ _ 256 (by decide) (by decide) (fun r d => by pointwise) (fun r d => by pointwise) (fun r d => by pointwise) (fun r d => by pointwise) x0 x1
  case piece2 =>
    idx_vars x
    have hl : 128 + (x1 : ℕ) < 512 := Nat.lt_of_lt_of_le (Nat.add_lt_add_left x1.isLt 128) (by decide)
    obtain rfl : y = ix2 x0 ⟨128 + x1.val, hl⟩ := by idx_ext
    refine (query1 _ _ _ _ x0 x1).trans ?_
    exact dq_piece (iblk m c 0 t) (iblk m c 1 t) (iblk m c 2 t) _ _ _ _ 128 (by decide) (by decide) (fun r d => by pointwise) (fun r d => by pointwise) (fun r d => by pointwise) (fun r d => by pointwise) x0 x1
  case piece3 =>
    idx_vars x
    have hl : 0 + (x1 : ℕ) < 512 := Nat.lt_of_lt_of_le (Nat.add_lt_add_left x1.isLt 0) (by decide)
    obtain rfl : y = ix2 x0 ⟨0 + x1.val, hl⟩ := by idx_ext
    refine (query0 _ _ _ _ x0 x1).trans ?_
    exact dq_piece (iblk m c 0 t) (iblk m c 1 t) (iblk m c 2 t) _ _ _ _ 0 (by decide) (by decide) (fun r d => by pointwise) (fun r d => by pointwise) (fun r d => by pointwise) (fun r d => by pointwise) x0 x1

/-- THE SLOTS' GRADIENT at a later point: what the point before left, and this point's part. -/
theorem dkv_later (c : Dev nD) (t : Fin cfg0.N) (h : ¬ t.val % 8 = 0) (y : S256x1024.Idx) :
    (outsAt0 m c t.val t.isLt).2 y = (show FVec Ideal S256x1024 .f32 from (outsAt0 m c (t.val - 1) (Nat.lt_of_le_of_lt (Nat.sub_le _ _) t.isLt)).2) y
      + dkvAt (iblk m c 0 t) (iblk m c 1 t) (iblk m c 2 t) y := by
  rw [outsAt0_B m c t h]; frame_out
  canon_tiles x hx
  case piece0 =>
    idx_vars x
    have hl : 896 + (x1 : ℕ) < 1024 := Nat.lt_of_lt_of_le (Nat.add_lt_add_left x1.isLt 896) (by decide)
    obtain rfl : y = ix2 x0 ⟨896 + x1.val, hl⟩ := by idx_ext
    refine (value3 _ _ _ _ x0 x1).trans ?_
    rw [dv_piece (iblk m c 0 t) (iblk m c 1 t) (iblk m c 2 t) _ _ _ 384 (by decide) (by decide) (fun r d => by pointwise) (fun r d => by pointwise) (fun r d => by pointwise)]
    pointwise
  case piece1 =>
    idx_vars x
    have hl : 384 + (x1 : ℕ) < 1024 := Nat.lt_of_lt_of_le (Nat.add_lt_add_left x1.isLt 384) (by decide)
    obtain rfl : y = ix2 x0 ⟨384 + x1.val, hl⟩ := by idx_ext
    refine (key3 _ _ _ _ _ x0 x1).trans ?_
    rw [dk_piece (iblk m c 0 t) (iblk m c 1 t) (iblk m c 2 t) _ _ _ _ 384 (by decide) (by decide) (fun r d => by pointwise) (fun r d => by pointwise) (fun r d => by pointwise) (fun r d => by pointwise)]
    pointwise
  case piece2 =>
    idx_vars x
    have hl : 768 + (x1 : ℕ) < 1024 := Nat.lt_of_lt_of_le (Nat.add_lt_add_left x1.isLt 768) (by decide)
    obtain rfl : y = ix2 x0 ⟨768 + x1.val, hl⟩ := by idx_ext
    refine (value2 _ _ _ _ x0 x1).trans ?_
    rw [dv_piece (iblk m c 0 t) (iblk m c 1 t) (iblk m c 2 t) _ _ _ 256 (by decide) (by decide) (fun r d => by pointwise) (fun r d => by pointwise) (fun r d => by pointwise)]
    pointwise
  case piece3 =>
    idx_vars x
    have hl : 256 + (x1 : ℕ) < 1024 := Nat.lt_of_lt_of_le (Nat.add_lt_add_left x1.isLt 256) (by decide)
    obtain rfl : y = ix2 x0 ⟨256 + x1.val, hl⟩ := by idx_ext
    refine (key2 _ _ _ _ _ x0 x1).trans ?_
    rw [dk_piece (iblk m c 0 t) (iblk m c 1 t) (iblk m c 2 t) _ _ _ _ 256 (by decide) (by decide) (fun r d => by pointwise) (fun r d => by pointwise) (fun r d => by pointwise) (fun r d => by pointwise)]
    pointwise
  case piece4 =>
    idx_vars x
    have hl : 640 + (x1 : ℕ) < 1024 := Nat.lt_of_lt_of_le (Nat.add_lt_add_left x1.isLt 640) (by decide)
    obtain rfl : y = ix2 x0 ⟨640 + x1.val, hl⟩ := by idx_ext
    refine (value1 _ _ _ _ x0 x1).trans ?_
    rw [dv_piece (iblk m c 0 t) (iblk m c 1 t) (iblk m c 2 t) _ _ _ 128 (by decide) (by decide) (fun r d => by pointwise) (fun r d => by pointwise) (fun r d => by pointwise)]
    pointwise
  case piece5 =>
    idx_vars x
    have hl : 128 + (x1 : ℕ) < 1024 := Nat.lt_of_lt_of_le (Nat.add_lt_add_left x1.isLt 128) (by decide)
    obtain rfl : y = ix2 x0 ⟨128 + x1.val, hl⟩ := by idx_ext
    refine (key1 _ _ _ _ _ x0 x1).trans ?_
    rw [dk_piece (iblk m c 0 t) (iblk m c 1 t) (iblk m c 2 t) _ _ _ _ 128 (by decide) (by decide) (fun r d => by pointwise) (fun r d => by pointwise) (fun r d => by pointwise) (fun r d => by pointwise)]
    pointwise
  case piece6 =>
    idx_vars x
    have hl : 512 + (x1 : ℕ) < 1024 := Nat.lt_of_lt_of_le (Nat.add_lt_add_left x1.isLt 512) (by decide)
    obtain rfl : y = ix2 x0 ⟨512 + x1.val, hl⟩ := by idx_ext
    refine (value0 _ _ _ _ x0 x1).trans ?_
    rw [dv_piece (iblk m c 0 t) (iblk m c 1 t) (iblk m c 2 t) _ _ _ 0 (by decide) (by decide) (fun r d => by pointwise) (fun r d => by pointwise) (fun r d => by pointwise)]
    pointwise
  case piece7 =>
    idx_vars x
    have hl : 0 + (x1 : ℕ) < 1024 := Nat.lt_of_lt_of_le (Nat.add_lt_add_left x1.isLt 0) (by decide)
    obtain rfl : y = ix2 x0 ⟨0 + x1.val, hl⟩ := by idx_ext
    refine (key0 _ _ _ _ _ x0 x1).trans ?_
    rw [dk_piece (iblk m c 0 t) (iblk m c 1 t) (iblk m c 2 t) _ _ _ _ 0 (by decide) (by decide) (fun r d => by pointwise) (fun r d => by pointwise) (fun r d => by pointwise) (fun r d => by pointwise)]
    pointwise

/-- THE SLOTS' GRADIENT at the first point: this point's part, over the zero fill. -/
theorem dkv_first (c : Dev nD) (t : Fin cfg0.N) (h : t.val % 8 = 0) (y : S256x1024.Idx) :
    (outsAt0 m c t.val t.isLt).2 y = dkvAt (iblk m c 0 t) (iblk m c 1 t) (iblk m c 2 t) y := by
  rw [outsAt0_A m c t h]; frame_open
  simp (disch := decide) only [↓ View.readCov_skip, ↓ View.readCov_fill]
  frame_out
  refine (canon_hide _ y [_, _, _, _, _, _, _, _] (View.cover_of_tiledL _ ![256, 128] (by sl_kernel_rfl) y)).trans ?_
  canon_tiles x hx
  case piece0 =>
    idx_vars x
    have hl : 896 + (x1 : ℕ) < 1024 := Nat.lt_of_lt_of_le (Nat.add_lt_add_left x1.isLt 896) (by decide)
    obtain rfl : y = ix2 x0 ⟨896 + x1.val, hl⟩ := by idx_ext
    refine (value3 _ _ _ _ x0 x1).trans ?_
    rw [dv_piece (iblk m c 0 t) (iblk m c 1 t) (iblk m c 2 t) _ _ _ 384 (by decide) (by decide) (fun r d => by pointwise) (fun r d => by pointwise) (fun r d => by pointwise)]
    pointwise [fill]
  case piece1 =>
    idx_vars x
    have hl : 384 + (x1 : ℕ) < 1024 := Nat.lt_of_lt_of_le (Nat.add_lt_add_left x1.isLt 384) (by decide)
    obtain rfl : y = ix2 x0 ⟨384 + x1.val, hl⟩ := by idx_ext
    refine (key3 _ _ _ _ _ x0 x1).trans ?_
    rw [dk_piece (iblk m c 0 t) (iblk m c 1 t) (iblk m c 2 t) _ _ _ _ 384 (by decide) (by decide) (fun r d => by pointwise) (fun r d => by pointwise) (fun r d => by pointwise) (fun r d => by pointwise)]
    pointwise [fill]
  case piece2 =>
    idx_vars x
    have hl : 768 + (x1 : ℕ) < 1024 := Nat.lt_of_lt_of_le (Nat.add_lt_add_left x1.isLt 768) (by decide)
    obtain rfl : y = ix2 x0 ⟨768 + x1.val, hl⟩ := by idx_ext
    refine (value2 _ _ _ _ x0 x1).trans ?_
    rw [dv_piece (iblk m c 0 t) (iblk m c 1 t) (iblk m c 2 t) _ _ _ 256 (by decide) (by decide) (fun r d => by pointwise) (fun r d => by pointwise) (fun r d => by pointwise)]
    pointwise [fill]
  case piece3 =>
    idx_vars x
    have hl : 256 + (x1 : ℕ) < 1024 := Nat.lt_of_lt_of_le (Nat.add_lt_add_left x1.isLt 256) (by decide)
    obtain rfl : y = ix2 x0 ⟨256 + x1.val, hl⟩ := by idx_ext
    refine (key2 _ _ _ _ _ x0 x1).trans ?_
    rw [dk_piece (iblk m c 0 t) (iblk m c 1 t) (iblk m c 2 t) _ _ _ _ 256 (by decide) (by decide) (fun r d => by pointwise) (fun r d => by pointwise) (fun r d => by pointwise) (fun r d => by pointwise)]
    pointwise [fill]
  case piece4 =>
    idx_vars x
    have hl : 640 + (x1 : ℕ) < 1024 := Nat.lt_of_lt_of_le (Nat.add_lt_add_left x1.isLt 640) (by decide)
    obtain rfl : y = ix2 x0 ⟨640 + x1.val, hl⟩ := by idx_ext
    refine (value1 _ _ _ _ x0 x1).trans ?_
    rw [dv_piece (iblk m c 0 t) (iblk m c 1 t) (iblk m c 2 t) _ _ _ 128 (by decide) (by decide) (fun r d => by pointwise) (fun r d => by pointwise) (fun r d => by pointwise)]
    pointwise [fill]
  case piece5 =>
    idx_vars x
    have hl : 128 + (x1 : ℕ) < 1024 := Nat.lt_of_lt_of_le (Nat.add_lt_add_left x1.isLt 128) (by decide)
    obtain rfl : y = ix2 x0 ⟨128 + x1.val, hl⟩ := by idx_ext
    refine (key1 _ _ _ _ _ x0 x1).trans ?_
    rw [dk_piece (iblk m c 0 t) (iblk m c 1 t) (iblk m c 2 t) _ _ _ _ 128 (by decide) (by decide) (fun r d => by pointwise) (fun r d => by pointwise) (fun r d => by pointwise) (fun r d => by pointwise)]
    pointwise [fill]
  case piece6 =>
    idx_vars x
    have hl : 512 + (x1 : ℕ) < 1024 := Nat.lt_of_lt_of_le (Nat.add_lt_add_left x1.isLt 512) (by decide)
    obtain rfl : y = ix2 x0 ⟨512 + x1.val, hl⟩ := by idx_ext
    refine (value0 _ _ _ _ x0 x1).trans ?_
    rw [dv_piece (iblk m c 0 t) (iblk m c 1 t) (iblk m c 2 t) _ _ _ 0 (by decide) (by decide) (fun r d => by pointwise) (fun r d => by pointwise) (fun r d => by pointwise)]
    pointwise [fill]
  case piece7 =>
    idx_vars x
    have hl : 0 + (x1 : ℕ) < 1024 := Nat.lt_of_lt_of_le (Nat.add_lt_add_left x1.isLt 0) (by decide)
    obtain rfl : y = ix2 x0 ⟨0 + x1.val, hl⟩ := by idx_ext
    refine (key0 _ _ _ _ _ x0 x1).trans ?_
    rw [dk_piece (iblk m c 0 t) (iblk m c 1 t) (iblk m c 2 t) _ _ _ _ 0 (by decide) (by decide) (fun r d => by pointwise) (fun r d => by pointwise) (fun r d => by pointwise) (fun r d => by pointwise)]
    pointwise [fill]

end Cert.MemKernelIdeal.Value

end

end
-- ==== Proof.MemArrays.lean ====
module

public import proofs.«01_k».proof.Proof.MemPoint

/-!
# The two arrays the memory attention's gradient leaves, over its argument arrays
-/

@[expose] public section

set_option maxRecDepth 16384

noncomputable section

open Idealize.ShloMosaic Idealize.ShloMosaic.TcCoe Idealize.SL.Sem
open Idealize.ShloMosaic.Pipeline (Dat)

namespace Cert.MemKernelIdeal.Value

open Cert.MemKernelIdeal Cert.MemKernelIdeal.Gen Cert.MemHead Cert.MemKernelIdeal.Heads

section
variable (Z : FVec Ideal S4096x3584 .bf16) (KV : FVec Ideal S256x1024 .bf16) (DM : FVec Ideal S4096x2048 .bf16)

/-- The query of row `r` at the head of column `j`: the last 512 columns of the input projection. -/
def query (r : Fin 4096) (j : Fin 512) (d : Fin 128) : EReal :=
  Z (ix2 r ⟨3072 + (j.val / 128 * 128 + d.val), by omega⟩)

/-- The cotangent of row `r`'s output at the head of column `j`: the last 512 columns. -/
def cot (r : Fin 4096) (j : Fin 512) (d : Fin 128) : EReal :=
  DM (ix2 r ⟨1536 + (j.val / 128 * 128 + d.val), by omega⟩)

/-- The gradient of the queries. -/
def dQ (r : Fin 4096) (j : Fin 512) : EReal :=
  ∑ c : Fin 256, dscore (query Z r j) (keysOf KV j) (valsOf KV j) (cot DM r j) c * KV (ix2 c ⟨j.val, by omega⟩)

/-- The gradient of the keys. -/
def dK (c : Fin 256) (j : Fin 512) : EReal :=
  ∑ r : Fin 4096, dscore (query Z r j) (keysOf KV j) (valsOf KV j) (cot DM r j) c * Z (ix2 r ⟨3072 + j.val, by omega⟩)

/-- The gradient of the values. -/
def dV (c : Fin 256) (j : Fin 512) : EReal :=
  ∑ r : Fin 4096, prob (query Z r j) (keysOf KV j) c * DM (ix2 r ⟨1536 + j.val, by omega⟩)

/-- The gradient of the slots: keys in the low columns, values in the high ones. -/
def dKV (y : S256x1024.Idx) : EReal :=
  if h : (y 1 : ℕ) < 512 then dK Z KV DM (y 0) ⟨y 1, h⟩
  else dV Z KV DM (y 0) ⟨(y 1 : ℕ) - 512, by have := (y 1).isLt; change (y 1 : ℕ) < 1024 at this; omega⟩

end

variable (m : (ℓ : Loc nD τ sig) → Buf (Elt Ideal) ℓ)

theorem idx : ∀ t : Fin cfg0.N, win0_0.index t = ![t.val, 6] ∧ win0_1.index t = ![0, 0] ∧ win0_2.index t = ![t.val, 3]
    ∧ win0_3.index t = ![t.val, 0] ∧ win0_4.index t = ![0, 0] ∧ t.val < 8 :=
  (by decide +kernel : ∀ t : Fin grid0.N, _)

/-- The row of the whole array at row `r` of block `t`. -/
def rowAt (t : Fin cfg0.N) (r : Fin 512) : Fin 4096 := ⟨t.val * 512 + r.val, by have := (idx t).2.2.2.2.2; omega⟩

theorem block_query (c : Dev nD) (t : Fin cfg0.N) (r : Fin 512) (j : Fin 512) :
    rowOf (iblk m c 0 t) r j = query (m ((c : Thread nD τ).loc main_arg0)) (rowAt t r) j := by
  funext d
  unfold rowOf query rowAt
  blk_point [iblk, V, idx t]

theorem block_cot (c : Dev nD) (t : Fin cfg0.N) (r : Fin 512) (j : Fin 512) :
    rowOf (iblk m c 2 t) r j = cot (m ((c : Thread nD τ).loc main_arg2)) (rowAt t r) j := by
  funext d
  unfold rowOf cot rowAt
  blk_point [iblk, V, idx t]

theorem block_slots (c : Dev nD) (t : Fin cfg0.N) : iblk m c 1 t = m ((c : Thread nD τ).loc main_arg1) := by
  blk_ext! [iblk, V, idx t]

theorem block_dq (c : Dev nD) (t : Fin cfg0.N) (r : Fin 512) (j : Fin 512) :
    dqAt (iblk m c 0 t) (iblk m c 1 t) (iblk m c 2 t) r j
      = dQ (m ((c : Thread nD τ).loc main_arg0)) (m ((c : Thread nD τ).loc main_arg1)) (m ((c : Thread nD τ).loc main_arg2)) (rowAt t r) j := by
  unfold dqAt dQ
  rw [block_query, block_cot, block_slots]

theorem block_dkv (c : Dev nD) (t : Fin cfg0.N) (y : S256x1024.Idx) :
    dkvAt (iblk m c 0 t) (iblk m c 1 t) (iblk m c 2 t) y
      = if h : (y 1 : ℕ) < 512 then
          ∑ r : Fin 512, dscore (query (m ((c : Thread nD τ).loc main_arg0)) (rowAt t r) ⟨y 1, h⟩) (keysOf (m ((c : Thread nD τ).loc main_arg1)) ⟨y 1, h⟩)
            (valsOf (m ((c : Thread nD τ).loc main_arg1)) ⟨y 1, h⟩) (cot (m ((c : Thread nD τ).loc main_arg2)) (rowAt t r) ⟨y 1, h⟩) (y 0)
            * (show FVec Ideal S4096x3584 .bf16 from m ((c : Thread nD τ).loc main_arg0)) (ix2 (rowAt t r) ⟨3072 + (y 1 : ℕ), by omega⟩)
        else ∑ r : Fin 512, prob (query (m ((c : Thread nD τ).loc main_arg0)) (rowAt t r) ⟨(y 1 : ℕ) - 512, by have := (y 1).isLt; change (y 1 : ℕ) < 1024 at this; omega⟩)
            (keysOf (m ((c : Thread nD τ).loc main_arg1)) ⟨(y 1 : ℕ) - 512, by have := (y 1).isLt; change (y 1 : ℕ) < 1024 at this; omega⟩) (y 0)
            * (show FVec Ideal S4096x2048 .bf16 from m ((c : Thread nD τ).loc main_arg2)) (ix2 (rowAt t r) ⟨1536 + ((y 1 : ℕ) - 512), by have := (y 1).isLt; change (y 1 : ℕ) < 1024 at this; omega⟩) := by
  unfold dkvAt dkAt dvAt
  split
  · refine Finset.sum_congr rfl fun r _ => ?_
    rw [block_query, block_cot, block_slots]
    refine congrArg _ ?_
    unfold rowAt
    blk_point [iblk, V, idx t]
  · refine Finset.sum_congr rfl fun r _ => ?_
    rw [block_query, block_slots]
    refine congrArg _ ?_
    unfold rowAt
    blk_point [iblk, V, idx t]

/-- THE QUERY GRADIENT, whole. -/
theorem final3 (c : Dev nD) : (dats m 0 c).arrAt 3 (cfgs 0).N
    = fun i => dQ (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]
  have hp : (outsAt0 m c t.val t.isLt).1 y = dqAt (iblk m c 0 t) (iblk m c 1 t) (iblk m c 2 t) (y 0) (y 1) := by
    by_cases h : t.val % 8 = 0
    · exact dq_first m c t h y
    · exact dq_later m c t h y
  refine hp.trans ?_
  have e0 : (((cfg0.win 3).blk t).view.emb y) 0 = rowAt t (y 0) := by
    apply Fin.ext
    blk_simp [idx t, rowAt]
  have e1 : (((cfg0.win 3).blk t).view.emb y) 1 = y 1 := by
    apply Fin.ext
    blk_simp [idx t]
  rw [e0, e1]
  exact block_dq m c t (y 0) (y 1)

/-- The row blocks' parts sum to the whole. -/
theorem sum_dkv (c : Dev nD) (j : S256x1024.Idx) :
    (∑ p : Fin cfg0.N, dkvAt (iblk m c 0 p) (iblk m c 1 p) (iblk m c 2 p) j)
      = dKV (m ((c : Thread nD τ).loc main_arg0)) (m ((c : Thread nD τ).loc main_arg1)) (m ((c : Thread nD τ).loc main_arg2)) j := by
  simp only [block_dkv]
  unfold dKV dK dV
  split
  · symm
    refine (Fin.sum_univ_tiles 8 512 rfl _).trans ?_
    rfl
  · symm
    refine (Fin.sum_univ_tiles 8 512 rfl _).trans ?_
    rfl

/-- THE SLOTS' GRADIENT, whole. -/
theorem final4 (c : Dev nD) : (dats m 0 c).arrAt 4 (cfgs 0).N
    = dKV (m ((c : Thread nD τ).loc main_arg0)) (m ((c : Thread nD τ).loc main_arg1)) (m ((c : Thread nD τ).loc main_arg2)) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0)
    (fun t j => dkvAt (iblk m c 0 t) (iblk m c 1 t) (iblk m c 2 t) j)
    (fun t h j => by rw [zero_add]; exact dkv_first m c t h j)
    (fun t h j => dkv_later m c t h j)
    (le_of_eq N_0) t0_7 rfl j, zero_add]
  exact sum_dkv m c j

end Cert.MemKernelIdeal.Value

end

end
-- ==== Proof.MemRef.lean ====
module

public import proofs.«01_k».proof.Proof.MemHead
public import proofs.«01_k».proof.Proof.Gen.MemReferenceIdeal.Read

/-!
# The plain gradient of the memory attention, read at an index
-/

@[expose] public section

set_option maxRecDepth 16384

noncomputable section

open Idealize.ShloMosaic Idealize.ShloMosaic.TcCoe Idealize.SL.Sem

namespace Cert.MemReferenceIdeal.Value

open Cert.MemReferenceIdeal Cert.MemReferenceIdeal.Gen Cert.MemReferenceIdeal.Read Cert.MemHead

variable (Z : FVec Ideal S4096x3584 .bf16) (KV : FVec Ideal S256x1024 .bf16) (DM : FVec Ideal S4096x2048 .bf16)

/-- The query of row `r` at head `h`. -/
def qh (h : Fin 4) (r : Fin 4096) (d : Fin 128) : EReal := Z (ix2 r ⟨3072 + (h.val * 128 + d.val), by omega⟩)

/-- The keys of head `h`. -/
def kh (h : Fin 4) (c : Fin 256) (d : Fin 128) : EReal := KV (ix2 c ⟨h.val * 128 + d.val, by omega⟩)

/-- The values of head `h`. -/
def vh (h : Fin 4) (c : Fin 256) (d : Fin 128) : EReal := KV (ix2 c ⟨512 + (h.val * 128 + d.val), by omega⟩)

/-- The cotangent of row `r`'s output at head `h`. -/
def wh (h : Fin 4) (r : Fin 4096) (d : Fin 128) : EReal := DM (ix2 r ⟨1536 + (h.val * 128 + d.val), by omega⟩)

theorem ref_score (h : Fin 4) (r : Fin 4096) (c : Fin 256) :
    val_main_v12 (F := Ideal) Z KV (ix3 h r c) = score (qh Z h r) (kh KV h) c := by
  pointwise [val_main_v12, val_main_v11, val_main_cst, val_main_v10, val_main_v5, val_main_v7, val_main_v6, val_main_v4, val_main_v1, val_main_v0,
    score, scale, qh, kh]

theorem row_max (X : FVec Ideal S4x4096x256 .f32) (Y : FVec Ideal S_ .f32) (h : Fin 4) (r : Fin 4096) :
    Host.reduce FloatOps.maximumf X Y reducesTo_S4x4096x256_S4x4096_d2 h_S_ (ix2 h r)
      = Finset.univ.fold max (Y (Shape.Idx.first h_S_)) fun c : Fin 256 => X (ix3 h r c) := by
  pointwise

theorem top_ge (q : Fin 128 → EReal) (K : Fin 256 → Fin 128 → EReal) : max (Ideal.ofBits .f32 0xFF800000#32) (top q K) = top q K :=
  max_eq_right (Finset.le_fold_max _ |>.2 (Or.inl le_rfl))

theorem ref_top (h : Fin 4) (r : Fin 4096) :
    val_main_v20 (F := Ideal) Z KV (ix2 h r) = top (qh Z h r) (kh KV h) := by
  rw [val_main_v20_apply, val_main_v19_apply, val_main_cst_2_apply]
  unfold val_main_v13
  rw [row_max]
  simp only [ref_score]
  exact top_ge _ _

theorem ref_expo (h : Fin 4) (r : Fin 4096) (c : Fin 256) :
    val_main_v33 (F := Ideal) Z KV (ix3 h r c) = expo (qh Z h r) (kh KV h) c := by
  pointwise [val_main_v33, val_main_v32, val_main_v31, val_main_v30, ref_score, ref_top, expo]

/-- The sum of a row's exponentials. -/
def total (q : Fin 128 → EReal) (K : Fin 256 → Fin 128 → EReal) : EReal := ∑ k : Fin 256, expo q K k

theorem ref_total (h : Fin 4) (r : Fin 4096) :
    val_main_v34 (F := Ideal) Z KV (ix2 h r) = total (qh Z h r) (kh KV h) := by
  pointwise [val_main_v34, val_main_cst_8, ref_expo, total]

theorem ref_prob (h : Fin 4) (r : Fin 4096) (c : Fin 256) :
    val_main_v37 (F := Ideal) Z KV (ix3 h r c) = prob (qh Z h r) (kh KV h) c := by
  pointwise [val_main_v37, val_main_v36, val_main_v35, ref_expo, ref_total, prob, total]

theorem ref_dprob (h : Fin 4) (r : Fin 4096) (c : Fin 256) :
    val_main_v46 (F := Ideal) KV DM (ix3 h r c) = dprob (wh DM h r) (vh KV h) c := by
  pointwise [val_main_v46, val_main_v45, val_main_v44, val_main_v9, val_main_v8, val_main_v4, val_main_v3, val_main_v2, dprob, wh, vh]

/-- The cotangent of a score as the plain gradient writes it: the quotient rule, then the exponential. -/
def rscore (q : Fin 128 → EReal) (K V : Fin 256 → Fin 128 → EReal) (w : Fin 128 → EReal) (c : Fin 256) : EReal :=
  (Ideal.div (dprob w V c) (total q K)
    + -(∑ k : Fin 256, dprob w V k * Ideal.div 1 (total q K * total q K) * expo q K k)) * expo q K c * scale

theorem ref_quot (h : Fin 4) (r : Fin 4096) :
    val_main_v57 (F := Ideal) Z KV DM (ix2 h r)
      = -(∑ k : Fin 256, dprob (wh DM h r) (vh KV h) k * Ideal.div 1 (total (qh Z h r) (kh KV h) * total (qh Z h r) (kh KV h)) * expo (qh Z h r) (kh KV h) k) := by
  pointwise [val_main_v57, val_main_v54, val_main_v53, val_main_v52, val_main_cst_11, val_main_cst_10, val_main_v51, val_main_v50, val_main_v49, val_main_v40,
    val_main_v39, val_main_cst_9, val_main_v38, val_main_v35, ref_total, ref_expo, ref_dprob]
  exact Fin.sum_univ_one _

theorem ref_dscore (h : Fin 4) (r : Fin 4096) (c : Fin 256) :
    val_main_v62 (F := Ideal) Z KV DM (ix3 h r c) = rscore (qh Z h r) (kh KV h) (vh KV h) (wh DM h r) c := by
  pointwise [val_main_v62, val_main_v61, val_main_cst_12, val_main_v60, val_main_v59, val_main_v58, val_main_v56, val_main_v55, val_main_v35,
    ref_quot, ref_total, ref_expo, ref_dprob, rscore, scale]

theorem ref_dq (r : Fin 4096) (j : Fin 512) :
    val_main_v73 (F := Ideal) Z KV DM (ix2 r j)
      = ∑ c : Fin 256, rscore (qh Z ⟨j.val / 128, by omega⟩ r) (kh KV ⟨j.val / 128, by omega⟩) (vh KV ⟨j.val / 128, by omega⟩) (wh DM ⟨j.val / 128, by omega⟩ r) c
          * kh KV ⟨j.val / 128, by omega⟩ c ⟨j.val % 128, by omega⟩ := by
  pointwise [val_main_v73, val_main_v72, val_main_v66, val_main_v65, ref_dscore, val_main_v7, val_main_v6, val_main_v4]
  refine Finset.sum_congr rfl fun c _ => congrArg (_ * ·) (congrArg KV (congrArg (ix2 c) (Fin.ext ?_)))
  change j.val = j.val / 128 * 128 + j.val % 128
  omega

theorem ref_dk (c : Fin 256) (j : Fin 512) :
    val_main_v69 (F := Ideal) Z KV DM (ix2 c j)
      = ∑ r : Fin 4096, rscore (qh Z ⟨j.val / 128, by omega⟩ r) (kh KV ⟨j.val / 128, by omega⟩) (vh KV ⟨j.val / 128, by omega⟩) (wh DM ⟨j.val / 128, by omega⟩ r) c
          * qh Z ⟨j.val / 128, by omega⟩ r ⟨j.val % 128, by omega⟩ := by
  pointwise [val_main_v69, val_main_v64, val_main_v63, ref_dscore, val_main_v5, val_main_v1, val_main_v0]
  refine Finset.sum_congr rfl fun r _ => congrArg (_ * ·) (congrArg Z (congrArg (ix2 r) (Fin.ext ?_)))
  change 3072 + j.val = 3072 + (j.val / 128 * 128 + j.val % 128)
  omega

theorem ref_dv (c : Fin 256) (j : Fin 512) :
    val_main_v67 (F := Ideal) Z KV DM (ix2 c j)
      = ∑ r : Fin 4096, wh DM ⟨j.val / 128, by omega⟩ r ⟨j.val % 128, by omega⟩ * prob (qh Z ⟨j.val / 128, by omega⟩ r) (kh KV ⟨j.val / 128, by omega⟩) c := by
  pointwise [val_main_v67, val_main_v48, val_main_v47, ref_prob, val_main_v45, val_main_v44, val_main_v3, val_main_v2]
  refine Finset.sum_congr rfl fun r _ => congrArg (· * _) (congrArg DM (congrArg (ix2 r) (Fin.ext ?_)))
  change 1536 + j.val = 1536 + (j.val / 128 * 128 + j.val % 128)
  omega

theorem ref_dkv (c : Fin 256) (j : Fin 1024) :
    val_main_v71 (F := Ideal) Z KV DM (ix2 c j)
      = if h : (j : ℕ) < 512 then val_main_v69 (F := Ideal) Z KV DM (ix2 c ⟨j, h⟩)
        else val_main_v67 (F := Ideal) Z KV DM (ix2 c ⟨j - 512, by omega⟩) := by
  pointwise [val_main_v71, val_main_v70, val_main_v68, val_main_cst_13, val_main_cst_14]
  by_cases hj : j.val < 512
  · rw [dif_neg (by omega), dif_pos hj, dif_pos hj, zero_add]
  · rw [dif_pos (by omega), dif_neg hj, dif_neg hj, add_zero]

end Cert.MemReferenceIdeal.Value

end

end
-- ==== Proof.MemEq.lean ====
module

public import proofs.«01_k».proof.Defs
public import proofs.«01_k».proof.Proof.Softmax
public import proofs.«01_k».proof.Proof.MemArrays
public import proofs.«01_k».proof.Proof.MemRef

/-!
# The two gradients of the memory attention agree where queries and keys are finite
-/

@[expose] public section

set_option maxRecDepth 16384

noncomputable section

open Idealize.ShloMosaic Idealize.ShloMosaic.TcCoe Idealize.SL.Sem

namespace Cert.MemEq

open Cert.MemHead Cert.Softmax

theorem facts : Cert.Pre_finite_memory.Facts where
  slices_S4096x3584_S4096x512_0_3072 := by decide
  bitsLt_bf16_f32 := by decide
  bcast_S_S4096x512 := by decide
  slices_S256x1024_S256x512_0_0 := by decide
  bcast_S_S256x512 := by decide

/-- The scale of the scores is a real number. -/
theorem scale_finite : IsReal scale := by
  unfold scale IsReal
  simp [Ideal.ofBits, Ideal.ieee, -EReal.coe_mul]

section Row

variable (q : Fin 128 → EReal) (K V : Fin 256 → Fin 128 → EReal) (w : Fin 128 → EReal)
  (hq : ∀ d, IsReal (q d)) (hK : ∀ c d, IsReal (K c d))

include hq hK

theorem score_finite (c : Fin 256) : IsReal (score q K c) :=
  (finite_sum _ _ fun d => (hq d).mul (hK c d)).mul scale_finite

theorem top_finite : IsReal (top q K) :=
  finite_fold_max _ _ (by rw [neg_inf]; exact bot_ne_top) (score_finite q K hq hK)

theorem total_positive : Positive (Cert.MemReferenceIdeal.Value.total q K) :=
  positive_sum _ fun c => positive_exp ((score_finite q K hq hK c).sub (top_finite q K hq hK))

theorem rscore_eq (c : Fin 256) : Cert.MemReferenceIdeal.Value.rscore q K V w c = dscore q K V w c :=
  congrArg (· * scale) (softmax_grad (expo q K) (dprob w V) c _ (total_positive q K hq hK))

end Row

open Cert.MemReferenceIdeal.Value Cert.MemReferenceIdeal.Read

variable (Z : FVec Ideal ⟨2, ![4096, 3584]⟩ .bf16) (KV : FVec Ideal ⟨2, ![256, 1024]⟩ .bf16) (DM : FVec Ideal ⟨2, ![4096, 2048]⟩ .bf16)

/-! ### The precondition, entry by entry -/

section Pre

attribute [local instance] facts

theorem pre_query (r : Fin 4096) (j : Fin 512) :
    (Cert.Pre_finite_memory.fn (F := Ideal) Z KV DM).1 (ix2 r j)
      = Ideal.cmp .olt (max (Z (ix2 r ⟨3072 + j.val, by omega⟩)) (-Z (ix2 r ⟨3072 + j.val, by omega⟩))) (Ideal.ofBits .f32 0x7F800000#32) := by
  pointwise [Cert.Pre_finite_memory.fn]
  rfl

theorem pre_key (c : Fin 256) (j : Fin 512) :
    (Cert.Pre_finite_memory.fn (F := Ideal) Z KV DM).2 (ix2 c j)
      = Ideal.cmp .olt (max (KV (ix2 c ⟨j.val, by omega⟩)) (-KV (ix2 c ⟨j.val, by omega⟩))) (Ideal.ofBits .f32 0x7F800000#32) := by
  pointwise [Cert.Pre_finite_memory.fn]
  rfl

theorem isReal_query (h : (Cert.Pre_finite_memory.fn (F := Ideal) Z KV DM).1 = fun _ => 1#1) (r : Fin 4096) (j : Fin 512) :
    IsReal (Z (ix2 r ⟨3072 + j.val, by omega⟩)) :=
  isReal_of_cmp ((pre_query Z KV DM r j).symm.trans (congrFun h _))

theorem isReal_key (h : (Cert.Pre_finite_memory.fn (F := Ideal) Z KV DM).2 = fun _ => 1#1) (c : Fin 256) (j : Fin 512) :
    IsReal (KV (ix2 c ⟨j.val, by omega⟩)) :=
  isReal_of_cmp ((pre_key Z KV DM c j).symm.trans (congrFun h _))

end Pre

/-! ### The results -/

variable
  (hZ : ∀ (r : Fin 4096) (j : Fin 512), IsReal (Z (ix2 r ⟨3072 + j.val, by omega⟩)))
  (hKV : ∀ (c : Fin 256) (j : Fin 512), IsReal (KV (ix2 c ⟨j.val, by omega⟩)))

include hZ hKV

theorem rscore_head (r : Fin 4096) (j : Fin 512) (c : Fin 256) :
    rscore (qh Z ⟨j.val / 128, by omega⟩ r) (kh KV ⟨j.val / 128, by omega⟩) (vh KV ⟨j.val / 128, by omega⟩) (wh DM ⟨j.val / 128, by omega⟩ r) c
      = dscore (Cert.MemKernelIdeal.Value.query Z r j) (Cert.MemKernelIdeal.Value.keysOf KV j) (Cert.MemKernelIdeal.Value.valsOf KV j)
          (Cert.MemKernelIdeal.Value.cot DM r j) c :=
  rscore_eq _ _ _ _ (fun d => hZ r ⟨j.val / 128 * 128 + d.val, by omega⟩) (fun c d => hKV c ⟨j.val / 128 * 128 + d.val, by omega⟩) c

theorem dq_eq (r : Fin 4096) (j : Fin 512) : val_main_v73 (F := Ideal) Z KV DM (ix2 r j) = Cert.MemKernelIdeal.Value.dQ Z KV DM r j := by
  rw [ref_dq]
  refine Finset.sum_congr rfl fun c _ => ?_
  rw [rscore_head Z KV DM hZ hKV]
  refine congrArg (_ * ·) (congrArg KV (congrArg (ix2 c) (Fin.ext ?_)))
  change j.val / 128 * 128 + j.val % 128 = j.val
  omega

theorem dk_eq (c : Fin 256) (j : Fin 512) : val_main_v69 (F := Ideal) Z KV DM (ix2 c j) = Cert.MemKernelIdeal.Value.dK Z KV DM c j := by
  rw [ref_dk]
  refine Finset.sum_congr rfl fun r _ => ?_
  rw [rscore_head Z KV DM hZ hKV]
  refine congrArg (_ * ·) (congrArg Z (congrArg (ix2 r) (Fin.ext ?_)))
  change 3072 + (j.val / 128 * 128 + j.val % 128) = 3072 + j.val
  omega

omit hZ hKV in
theorem dv_eq (c : Fin 256) (j : Fin 512) : val_main_v67 (F := Ideal) Z KV DM (ix2 c j) = Cert.MemKernelIdeal.Value.dV Z KV DM c j := by
  rw [ref_dv]
  refine Finset.sum_congr rfl fun r _ => ?_
  refine (mul_comm _ _).trans (congrArg (_ * ·) (congrArg DM (congrArg (ix2 r) (Fin.ext ?_))))
  change 1536 + (j.val / 128 * 128 + j.val % 128) = 1536 + j.val
  omega

/-- The plain gradient of the queries. -/
theorem reference_dq : val_main_v73 (F := Ideal) Z KV DM = fun i => Cert.MemKernelIdeal.Value.dQ Z KV DM (i 0) (i 1) :=
  funext fun i => (congrArg (val_main_v73 (F := Ideal) Z KV DM) (eq_ix2 i)).trans (dq_eq Z KV DM hZ hKV (i 0) (i 1))

/-- The plain gradient of the slots' keys and values. -/
theorem reference_dkv : val_main_v71 (F := Ideal) Z KV DM = Cert.MemKernelIdeal.Value.dKV Z KV DM := by
  funext i
  refine (congrArg (val_main_v71 (F := Ideal) Z KV DM) (eq_ix2 i)).trans ((ref_dkv Z KV DM (i 0) (i 1)).trans ?_)
  unfold Cert.MemKernelIdeal.Value.dKV
  split
  · exact dk_eq Z KV DM hZ hKV _ _
  · exact dv_eq Z KV DM _ _

end Cert.MemEq
-- ==== Proof.MemClaim.lean ====
module

public import proofs.«01_k».proof.Proof.MemEq
public import proofs.«01_k».proof.Proof.Gen.MemKernelIdeal.Value

/-!
# The value claim of the memory attention's gradient
-/

@[expose] public section

noncomputable section

namespace Cert.Proof

open Idealize.ShloMosaic Idealize.SL.Sem

attribute [local instance] Cert.MemKernelIdeal.Gen.facts Cert.MemReferenceIdeal.Gen.facts Cert.MemEq.facts

/-- On finite queries and keys the kernel's two results are the plain gradient's. -/
theorem memory_value : Cert.algebraic_MemKernelIdeal_MemReferenceIdeal_pre_finite_memory := by
  intro m g m' g' hpre hag
  refine ⟨fun c => (Cert.MemKernelIdeal.Gen.dats m 0 c).arrAt 3 Cert.MemKernelIdeal.cfg0.N,
    fun c => (Cert.MemKernelIdeal.Gen.dats m 0 c).arrAt 4 Cert.MemKernelIdeal.cfg0.N, Cert.MemKernelIdeal.Value.run_blocks m g,
    (θ_run _ _ _).mono (fun r h c => ?_) (Cert.MemReferenceIdeal.Value.run m' g')⟩
  obtain ⟨h0, h1, h2⟩ := h c
  obtain ⟨e0, e1, e2⟩ := hag c
  have hZ := Cert.MemEq.isReal_query _ _ _ (hpre c).1
  have hKV := Cert.MemEq.isReal_key _ _ _ (hpre c).2
  refine ⟨h0.trans ((Cert.MemReferenceIdeal.Read.val_main_v73_eq m' c).trans ?_),
    h1.trans ((Cert.MemReferenceIdeal.Read.val_main_v71_eq m' c).trans ?_), h2⟩
  · rw [e0, e1, e2]
    exact (Cert.MemEq.reference_dq _ _ _ hZ hKV).trans (Cert.MemKernelIdeal.Value.final3 m c).symm
  · rw [e0, e1, e2]
    exact (Cert.MemEq.reference_dkv _ _ _ hZ hKV).trans (Cert.MemKernelIdeal.Value.final4 m c).symm

end Cert.Proof
-- ==== Proof.Dact.lean ====
module

public import proofs.«01_k».proof.Defs
public import proofs.«01_k».proof.Proof.Gen.DactKernelIdeal.Value
public import proofs.«01_k».proof.Proof.Gen.DactReferenceIdeal.Read
public import Idealize.ShloMosaic.Lib.Pipeline.ValueKit
public import Idealize.ShloMosaic.Lib.Pointwise

/-!
# The gradient of the feed-forward's activations: the cotangent against the down-projection's rows
-/

@[expose] public section

set_option maxRecDepth 16384

noncomputable section

open Idealize.ShloMosaic Idealize.ShloMosaic.TcCoe Idealize.SL.Sem

namespace Cert.DactKernelIdeal.Value

open Cert.DactKernelIdeal Cert.DactKernelIdeal.Gen

/-- The activation gradient of row `r` and channel `j`. -/
def dAct (W : FVec Ideal S5632x2048 .bf16) (D : FVec Ideal S4096x2048 .bf16) (r : Fin 4096) (j : Fin 5632) : EReal :=
  ∑ k : Fin 2048, D (ix2 r k) * W (ix2 j k)

/-- One tile of the body: rows of the one block against rows of the other. -/
theorem tile_at (x : FVec Ideal S1024x2048 .bf16) (w : FVec Ideal S1408x2048 .bf16) (r : Fin 1024) (j : Fin 1408) :
    k0_pay1 (F := Ideal) x w (ix2 r j) = ∑ k : Fin 2048, x (ix2 r k) * w (ix2 j k) := by
  pointwise [k0_pay1]

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] ∧ t.val < 16 :=
  (by decide +kernel : ∀ t : Fin grid0.N, _)

/-- The row of the whole array at row `r` of block `t`. -/
def rowAt (t : Fin cfg0.N) (r : Fin 1024) : Fin 4096 := ⟨t.val / 4 * 1024 + r.val, by have := (idx t).2.2.2; omega⟩

/-- The channel of the whole array at channel `j` of block `t`. -/
def chanAt (t : Fin cfg0.N) (j : Fin 1408) : Fin 5632 := ⟨t.val % 4 * 1408 + j.val, by omega⟩

theorem read_rows (D : FVec Ideal S4096x2048 .bf16) (t : Fin cfg0.N) (r : Fin 1024) (k : Fin 2048) :
    ((cfg0.win 0).blk t).view.read (Elt Ideal) D (ix2 r k) = D (ix2 (rowAt t r) k) := by
  unfold rowAt
  blk_point [idx t]

theorem read_weight (W : FVec Ideal S5632x2048 .bf16) (t : Fin cfg0.N) (j : Fin 1408) (k : Fin 2048) :
    ((cfg0.win 1).blk t).view.read (Elt Ideal) W (ix2 j k) = W (ix2 (chanAt t j) k) := by
  unfold chanAt
  blk_point [idx t]

/-- The activation gradient, whole. -/
theorem actArray (c : Dev nD) : (dats m 0 c).arrAt 2 (cfgs 0).N
    = fun i => dAct (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = rowAt t (y 0) := by
    apply Fin.ext
    blk_simp [idx t, rowAt]
  have e1 : (((cfg0.win 2).blk t).view.emb y) 1 = chanAt t (y 1) := by
    apply Fin.ext
    blk_simp [idx t, chanAt]
  rw [e0, e1]
  refine (congrArg _ (eq_ix2 y)).trans ((tile_at _ _ (y 0) (y 1)).trans ?_)
  refine Finset.sum_congr rfl fun k _ => ?_
  exact congrArg₂ (fun a b : EReal => a * b) (read_rows _ t (y 0) k) (read_weight _ t (y 1) k)

end Cert.DactKernelIdeal.Value

namespace Cert.DactReferenceIdeal.Value

open Cert.DactReferenceIdeal Cert.DactReferenceIdeal.Read

theorem ref_at (W : FVec Ideal S5632x2048 .bf16) (D : FVec Ideal S4096x2048 .bf16) (r : Fin 4096) (j : Fin 5632) :
    val_main_v5 (F := Ideal) W D (ix2 r j) = Cert.DactKernelIdeal.Value.dAct W D r j := by
  unfold Cert.DactKernelIdeal.Value.dAct
  pointwise [val_main_v5, val_main_v4, val_main_v3, val_main_v1]

end Cert.DactReferenceIdeal.Value

namespace Cert.Proof

attribute [local instance] Cert.DactKernelIdeal.Gen.facts Cert.DactReferenceIdeal.Gen.facts

/-- The kernel's activation gradient is the plain gradient. -/
theorem act_value : Cert.algebraic_DactKernelIdeal_DactReferenceIdeal := by
  intro m g m' g' hpre hag
  refine ⟨fun c => (Cert.DactKernelIdeal.Gen.dats m 0 c).arrAt 2 Cert.DactKernelIdeal.cfg0.N, Cert.DactKernelIdeal.Value.run_blocks m g,
    (θ_run _ _ _).mono (fun r h c => ?_) (Cert.DactReferenceIdeal.Value.run m' g')⟩
  obtain ⟨h0, h1⟩ := h c
  obtain ⟨e0, e1⟩ := hag c
  refine ⟨h0.trans ((Cert.DactReferenceIdeal.Read.val_main_v5_eq _ _).trans ?_), h1⟩
  rw [e0, e1]
  refine Eq.trans ?_ (Cert.DactKernelIdeal.Value.actArray m c).symm
  funext i
  exact (congrArg _ (eq_ix2 i)).trans (Cert.DactReferenceIdeal.Value.ref_at _ _ (i 0) (i 1))

end Cert.Proof
-- ==== Proof.Dwdown.lean ====
module

public import proofs.«01_k».proof.Defs
public import proofs.«01_k».proof.Proof.Gen.DwdownKernelIdeal.Value
public import proofs.«01_k».proof.Proof.Gen.DwdownReferenceIdeal.Read
public import Idealize.ShloMosaic.Lib.Pipeline.ValueKit
public import Idealize.ShloMosaic.Lib.Pointwise

/-!
# The gradient of the down-projection: the activations' columns against the cotangent's
-/

@[expose] public section

set_option maxRecDepth 16384

noncomputable section

open Idealize.ShloMosaic Idealize.ShloMosaic.TcCoe Idealize.SL.Sem

namespace Cert.DwdownKernelIdeal.Value

open Cert.DwdownKernelIdeal Cert.DwdownKernelIdeal.Gen

/-- The weight gradient of channel `j` and column `k`. -/
def dDown (A : FVec Ideal S4096x5632 .bf16) (D : FVec Ideal S4096x2048 .bf16) (j : Fin 5632) (k : Fin 2048) : EReal :=
  ∑ r : Fin 4096, A (ix2 r j) * D (ix2 r k)

/-- One tile of the body: columns of the one block against columns of the other. -/
theorem tile_at (x : FVec Ideal S4096x1408 .bf16) (w : FVec Ideal S4096x512 .bf16) (j : Fin 1408) (k : Fin 512) :
    k0_pay1 (F := Ideal) x w (ix2 j k) = ∑ r : Fin 4096, x (ix2 r j) * w (ix2 r k) := by
  pointwise [k0_pay1]

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] ∧ t.val < 16 :=
  (by decide +kernel : ∀ t : Fin grid0.N, _)

/-- The channel of the whole array at channel `j` of block `t`. -/
def chanAt (t : Fin cfg0.N) (j : Fin 1408) : Fin 5632 := ⟨t.val / 4 * 1408 + j.val, by have := (idx t).2.2.2; omega⟩

/-- The column of the whole array at column `k` of block `t`. -/
def colAt (t : Fin cfg0.N) (k : Fin 512) : Fin 2048 := ⟨t.val % 4 * 512 + k.val, by omega⟩

theorem read_act (A : FVec Ideal S4096x5632 .bf16) (t : Fin cfg0.N) (r : Fin 4096) (j : Fin 1408) :
    ((cfg0.win 0).blk t).view.read (Elt Ideal) A (ix2 r j) = A (ix2 r (chanAt t j)) := by
  unfold chanAt
  blk_point [idx t]

theorem read_cot (D : FVec Ideal S4096x2048 .bf16) (t : Fin cfg0.N) (r : Fin 4096) (k : Fin 512) :
    ((cfg0.win 1).blk t).view.read (Elt Ideal) D (ix2 r k) = D (ix2 r (colAt t k)) := by
  unfold colAt
  blk_point [idx t]

/-- The weight gradient, whole. -/
theorem downArray (c : Dev nD) : (dats m 0 c).arrAt 2 (cfgs 0).N
    = fun i => dDown (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = chanAt t (y 0) := by
    apply Fin.ext
    blk_simp [idx t, chanAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_act _ t k (y 0)) (read_cot _ t k (y 1))

end Cert.DwdownKernelIdeal.Value

namespace Cert.DwdownReferenceIdeal.Value

open Cert.DwdownReferenceIdeal Cert.DwdownReferenceIdeal.Read

theorem ref_at (A : FVec Ideal S4096x5632 .bf16) (D : FVec Ideal S4096x2048 .bf16) (j : Fin 5632) (k : Fin 2048) :
    val_main_v6 (F := Ideal) A D (ix2 j k) = Cert.DwdownKernelIdeal.Value.dDown A D j k := by
  unfold Cert.DwdownKernelIdeal.Value.dDown
  refine Eq.trans ?_ (Finset.sum_congr rfl fun r _ => mul_comm _ _)
  pointwise [val_main_v6, val_main_v5, val_main_v4, val_main_v3, val_main_v1, val_main_v0]

end Cert.DwdownReferenceIdeal.Value

namespace Cert.Proof

attribute [local instance] Cert.DwdownKernelIdeal.Gen.facts Cert.DwdownReferenceIdeal.Gen.facts

/-- The kernel's down-projection gradient is the plain gradient. -/
theorem down_value : Cert.algebraic_DwdownKernelIdeal_DwdownReferenceIdeal := by
  intro m g m' g' hpre hag
  refine ⟨fun c => (Cert.DwdownKernelIdeal.Gen.dats m 0 c).arrAt 2 Cert.DwdownKernelIdeal.cfg0.N, Cert.DwdownKernelIdeal.Value.run_blocks m g,
    (θ_run _ _ _).mono (fun r h c => ?_) (Cert.DwdownReferenceIdeal.Value.run m' g')⟩
  obtain ⟨h0, h1⟩ := h c
  obtain ⟨e0, e1⟩ := hag c
  refine ⟨h0.trans ((Cert.DwdownReferenceIdeal.Read.val_main_v6_eq _ _).trans ?_), h1⟩
  rw [e0, e1]
  refine Eq.trans ?_ (Cert.DwdownKernelIdeal.Value.downArray m c).symm
  funext i
  exact (congrArg _ (eq_ix2 i)).trans (Cert.DwdownReferenceIdeal.Value.ref_at _ _ (i 0) (i 1))

end Cert.Proof
-- ==== Proof.Dwup.lean ====
module

public import proofs.«01_k».proof.Defs
public import proofs.«01_k».proof.Proof.Gen.DwupKernelIdeal.Value
public import proofs.«01_k».proof.Proof.Gen.DwupReferenceIdeal.Read
public import Idealize.ShloMosaic.Lib.Pipeline.ValueKit
public import Idealize.ShloMosaic.Lib.Pointwise

/-!
# The gradient of the up-projection: the normed rows' columns against the cotangent's, in the devices' eight blocks
-/

@[expose] public section

set_option maxRecDepth 16384

noncomputable section

open Idealize.ShloMosaic Idealize.ShloMosaic.TcCoe Idealize.SL.Sem

namespace Cert.DwupKernelIdeal.Value

open Cert.DwupKernelIdeal Cert.DwupKernelIdeal.Gen

/-- The weight gradient of input column `k` and channel `j` of block `n`. -/
def dUp (H : FVec Ideal S4096x2048 .bf16) (D : FVec Ideal S8x4096x1408 .bf16) (n : Fin 8) (k : Fin 2048) (j : Fin 1408) : EReal :=
  ∑ r : Fin 4096, H (ix2 r k) * D (ix3 n r j)

/-- One tile of the body: columns of the one block against columns of the other. -/
theorem tile_at (x : FVec Ideal S4096x512 .bf16) (w : FVec Ideal S1x4096x1408 .bf16) (z : Fin 1) (k : Fin 512) (j : Fin 1408) :
    k0_pay1 (F := Ideal) x w (ix3 z k j) = ∑ r : Fin 4096, x (ix2 r k) * w (ix3 0 r j) := by
  pointwise [k0_pay1]

variable (m : (ℓ : Loc nD τ sig) → Buf (Elt Ideal) ℓ)

theorem idx : ∀ t : Fin cfg0.N, win0_0.index t = ![0, t.val % 4] ∧ win0_1.index t = ![t.val / 4, 0, 0] ∧ win0_2.index t = ![t.val / 4, t.val % 4, 0] ∧ t.val < 32 :=
  (by decide +kernel : ∀ t : Fin grid0.N, _)

/-- The block of the whole array that point `t` computes. -/
def blockAt (t : Fin cfg0.N) : Fin 8 := ⟨t.val / 4, by have := (idx t).2.2.2; omega⟩

/-- The column of the whole array at column `k` of block `t`. -/
def colAt (t : Fin cfg0.N) (k : Fin 512) : Fin 2048 := ⟨t.val % 4 * 512 + k.val, by omega⟩

theorem read_rows (H : FVec Ideal S4096x2048 .bf16) (t : Fin cfg0.N) (r : Fin 4096) (k : Fin 512) :
    ((cfg0.win 0).blk t).view.read (Elt Ideal) H (ix2 r k) = H (ix2 r (colAt t k)) := by
  unfold colAt
  blk_point [idx t]

theorem read_cot (D : FVec Ideal S8x4096x1408 .bf16) (t : Fin cfg0.N) (r : Fin 4096) (j : Fin 1408) :
    ((cfg0.win 1).blk t).view.read (Elt Ideal) D (ix3 0 r j) = D (ix3 (blockAt t) r j) := by
  unfold blockAt
  blk_point [idx t]

/-- The weight gradient, whole. -/
theorem upArray (c : Dev nD) : (dats m 0 c).arrAt 2 (cfgs 0).N
    = fun i => dUp (m ((c : Thread nD τ).loc main_arg0)) (m ((c : Thread nD τ).loc main_arg1)) (i 0) (i 1) (i 2) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = blockAt t := by
    have := (y 0).isLt
    change (y 0 : ℕ) < 1 at this
    apply Fin.ext
    blk_simp [idx t, blockAt]
    try omega
  have e1 : (((cfg0.win 2).blk t).view.emb y) 1 = colAt t (y 1) := by
    apply Fin.ext
    blk_simp [idx t, colAt]
  have e2 : (((cfg0.win 2).blk t).view.emb y) 2 = y 2 := by
    apply Fin.ext
    blk_simp [idx t]
  rw [e0, e1, e2]
  refine (congrArg _ (eq_ix3 y)).trans ((tile_at _ _ (y 0) (y 1) (y 2)).trans ?_)
  refine Finset.sum_congr rfl fun r _ => ?_
  exact congrArg₂ (fun a b : EReal => a * b) (read_rows _ t r (y 1)) (read_cot _ t r (y 2))

end Cert.DwupKernelIdeal.Value

namespace Cert.DwupReferenceIdeal.Value

open Cert.DwupReferenceIdeal Cert.DwupReferenceIdeal.Read

theorem ref_at (H : FVec Ideal S4096x2048 .bf16) (D : FVec Ideal S8x4096x1408 .bf16) (n : Fin 8) (k : Fin 2048) (j : Fin 1408) :
    val_main_v8 (F := Ideal) H D (ix3 n k j) = Cert.DwupKernelIdeal.Value.dUp H D n k j := by
  unfold Cert.DwupKernelIdeal.Value.dUp
  refine Eq.trans ?_ (Finset.sum_congr rfl fun r _ => mul_comm _ _)
  pointwise [val_main_v8, val_main_v7, val_main_v6, val_main_v5, val_main_v4, val_main_v3, val_main_v2, val_main_v1, val_main_v0]

end Cert.DwupReferenceIdeal.Value

namespace Cert.Proof

attribute [local instance] Cert.DwupKernelIdeal.Gen.facts Cert.DwupReferenceIdeal.Gen.facts

/-- The kernel's up-projection gradient is the plain gradient. -/
theorem up_value : Cert.algebraic_DwupKernelIdeal_DwupReferenceIdeal := by
  intro m g m' g' hpre hag
  refine ⟨fun c => (Cert.DwupKernelIdeal.Gen.dats m 0 c).arrAt 2 Cert.DwupKernelIdeal.cfg0.N, Cert.DwupKernelIdeal.Value.run_blocks m g,
    (θ_run _ _ _).mono (fun r h c => ?_) (Cert.DwupReferenceIdeal.Value.run m' g')⟩
  obtain ⟨h0, h1⟩ := h c
  obtain ⟨e0, e1⟩ := hag c
  refine ⟨h0.trans ((Cert.DwupReferenceIdeal.Read.val_main_v8_eq _ _).trans ?_), h1⟩
  rw [e0, e1]
  refine Eq.trans ?_ (Cert.DwupKernelIdeal.Value.upArray m c).symm
  funext i
  exact (congrArg _ (eq_ix3 i)).trans (Cert.DwupReferenceIdeal.Value.ref_at _ _ (i 0) (i 1) (i 2))

end Cert.Proof
-- ==== Proof.Dh.lean ====
module

public import proofs.«01_k».proof.Defs
public import proofs.«01_k».proof.Proof.Gen.DhKernelIdeal.Value
public import proofs.«01_k».proof.Proof.Gen.DhReferenceIdeal.Read
public import Idealize.ShloMosaic.Lib.Pipeline.ValueKit
public import Idealize.ShloMosaic.Lib.Pointwise

/-!
# The gradient of the normed rows: the cotangent's eight blocks against the up-projection's
-/

@[expose] public section

set_option maxRecDepth 16384

noncomputable section

open Idealize.ShloMosaic Idealize.ShloMosaic.TcCoe Idealize.SL.Sem

namespace Cert.DhKernelIdeal.Value

open Cert.DhKernelIdeal Cert.DhKernelIdeal.Gen

/-- What the block `n` adds to the row gradient at row `r` and column `j`. -/
def blockPart (W : FVec Ideal S8x2048x1408 .bf16) (D : FVec Ideal S8x4096x1408 .bf16) (r : Fin 4096) (j : Fin 2048) (n : Fin 8) : EReal :=
  ∑ k : Fin 1408, D (ix3 n r k) * W (ix3 n j k)

/-- The row gradient. -/
def dRow (W : FVec Ideal S8x2048x1408 .bf16) (D : FVec Ideal S8x4096x1408 .bf16) (r : Fin 4096) (j : Fin 2048) : EReal :=
  ∑ n : Fin 8, blockPart W D r j n

/-- One of the four products of a point. -/
def tilePart (x : FVec Ideal S4x512x1408 .bf16) (w : FVec Ideal S4x1024x1408 .bf16) (r : Fin 512) (j : Fin 1024) (n : Fin 4) : EReal :=
  ∑ k : Fin 1408, x (ix3 n r k) * w (ix3 n j k)

theorem tile_at (x0 x1 x2 x3 : FVec Ideal S1x512x1408 .bf16) (w0 w1 w2 w3 : FVec Ideal S1x1024x1408 .bf16) (r : Fin 512) (j : Fin 1024) :
    k0_pay3 (F := Ideal) x0 w0 x1 w1 x2 w2 x3 w3 (ix2 r j)
      = (∑ k : Fin 1408, x0 (ix3 0 r k) * w0 (ix3 0 j k)) + (∑ k : Fin 1408, x1 (ix3 0 r k) * w1 (ix3 0 j k))
        + (∑ k : Fin 1408, x2 (ix3 0 r k) * w2 (ix3 0 j k)) + (∑ k : Fin 1408, x3 (ix3 0 r k) * w3 (ix3 0 j k)) := by
  pointwise [k0_pay3]

/-- The four products of a point, over its blocks. -/
def fourParts (x : FVec Ideal S4x512x1408 .bf16) (w : FVec Ideal S4x1024x1408 .bf16) (r : Fin 512) (j : Fin 1024) : EReal :=
  tilePart x w r j 0 + tilePart x w r j 1 + tilePart x w r j 2 + tilePart x w r j 3

theorem four_at (x : FVec Ideal S4x512x1408 .bf16) (w : FVec Ideal S4x1024x1408 .bf16) (x0 x1 x2 x3 : FVec Ideal S1x512x1408 .bf16)
    (w0 w1 w2 w3 : FVec Ideal S1x1024x1408 .bf16) (r : Fin 512) (j : Fin 1024)
    (hx0 : ∀ r k, x0 (ix3 0 r k) = x (ix3 0 r k)) (hx1 : ∀ r k, x1 (ix3 0 r k) = x (ix3 1 r k))
    (hx2 : ∀ r k, x2 (ix3 0 r k) = x (ix3 2 r k)) (hx3 : ∀ r k, x3 (ix3 0 r k) = x (ix3 3 r k))
    (hw0 : ∀ j k, w0 (ix3 0 j k) = w (ix3 0 j k)) (hw1 : ∀ j k, w1 (ix3 0 j k) = w (ix3 1 j k))
    (hw2 : ∀ j k, w2 (ix3 0 j k) = w (ix3 2 j k)) (hw3 : ∀ j k, w3 (ix3 0 j k) = w (ix3 3 j k)) :
    k0_pay3 (F := Ideal) x0 w0 x1 w1 x2 w2 x3 w3 (ix2 r j) = fourParts x w r j := by
  rw [tile_at]
  simp only [hx0, hx1, hx2, hx3, hw0, hw1, hw2, hw3]
  rfl

theorem stored_first (x0 x1 x2 x3 : FVec Ideal S1x512x1408 .bf16) (w0 w1 w2 w3 : FVec Ideal S1x1024x1408 .bf16) (r : Fin 512) (j : Fin 1024) :
    k0_pay4 (F := Ideal) x0 w0 x1 w1 x2 w2 x3 w3 (ix2 r j) = k0_pay3 (F := Ideal) x0 w0 x1 w1 x2 w2 x3 w3 (ix2 r j) := by
  unfold k0_pay4
  generalize k0_pay3 (F := Ideal) x0 w0 x1 w1 x2 w2 x3 w3 = y
  pointwise

theorem stored_second (y z : FVec Ideal S512x1024 .f32) (r : Fin 512) (j : Fin 1024) :
    k0_pay2 (F := Ideal) (k0_pay1 y z) (ix2 r j) = z (ix2 r j) + y (ix2 r j) := by
  pointwise [k0_pay2, k0_pay1]

variable (m : (ℓ : Loc nD τ sig) → Buf (Elt Ideal) ℓ)

theorem idx : ∀ t : Fin cfg0.N, win0_0.index t = ![t.val % 2, t.val / 4, 0] ∧ win0_1.index t = ![t.val % 2, t.val / 2 % 2, 0]
    ∧ win0_2.index t = ![t.val / 4, t.val / 2 % 2] ∧ t.val < 32 :=
  (by decide +kernel : ∀ t : Fin grid0.N, _)

/-- The row of the whole array at row `r` of point `t`'s block. -/
def rowAt (t : Fin cfg0.N) (r : Fin 512) : Fin 4096 := ⟨t.val / 4 * 512 + r.val, by have := (idx t).2.2.2; omega⟩

/-- The column of the whole array at column `j` of point `t`'s block. -/
def colAt (t : Fin cfg0.N) (j : Fin 1024) : Fin 2048 := ⟨t.val / 2 % 2 * 1024 + j.val, by omega⟩

/-- The block of the whole arrays at block `n` of point `t`. -/
def blockAt (t : Fin cfg0.N) (n : Fin 4) : Fin 8 := ⟨t.val % 2 * 4 + n.val, by omega⟩

theorem read_cot (D : FVec Ideal S8x4096x1408 .bf16) (t : Fin cfg0.N) (n : Fin 4) (r : Fin 512) (k : Fin 1408) :
    ((cfg0.win 0).blk t).view.read (Elt Ideal) D (ix3 n r k) = D (ix3 (blockAt t n) (rowAt t r) k) := by
  unfold blockAt rowAt
  blk_point [idx t]

theorem read_weight (W : FVec Ideal S8x2048x1408 .bf16) (t : Fin cfg0.N) (n : Fin 4) (j : Fin 1024) (k : Fin 1408) :
    ((cfg0.win 1).blk t).view.read (Elt Ideal) W (ix3 n j k) = W (ix3 (blockAt t n) (colAt t j) k) := by
  unfold blockAt colAt
  blk_point [idx t]

theorem part_at (c : Dev nD) (t : Fin cfg0.N) (r : Fin 512) (j : Fin 1024) (n : Fin 4) :
    tilePart (iblk m c 0 t) (iblk m c 1 t) r j n
      = blockPart (m ((c : Thread nD τ).loc main_arg0)) (m ((c : Thread nD τ).loc main_arg1)) (rowAt t r) (colAt t j) (blockAt t n) :=
  Finset.sum_congr rfl fun k _ => congrArg₂ (fun a b : EReal => a * b) (read_cot _ t n r k) (read_weight _ t n j k)

/-- The first point of a pair sets the accumulator. -/
theorem acc_first (c : Dev nD) (t : Fin cfg0.N) (h : t.val % 2 = 0) (r : Fin 512) (j : Fin 1024) :
    (outsAt0 m c t.val t.isLt).2 (ix2 r j) = fourParts (iblk m c 0 t) (iblk m c 1 t) r j := by
  rw [outsAt0_A m c t h (by omega) (by omega)]
  frame_out
  refine (stored_first _ _ _ _ _ _ _ _ r j).trans ?_
  exact four_at (iblk m c 0 t) (iblk m c 1 t) _ _ _ _ _ _ _ _ r j (fun r k => by pointwise) (fun r k => by pointwise)
    (fun r k => by pointwise) (fun r k => by pointwise) (fun r k => by pointwise) (fun r k => by pointwise)
    (fun r k => by pointwise) (fun r k => by pointwise)

/-- The second point of a pair writes the sum of both. -/
theorem out_second (c : Dev nD) (t : Fin cfg0.N) (h : t.val % 2 = 1) (r : Fin 512) (j : Fin 1024) :
    (outsAt0 m c t.val t.isLt).1 (ix2 r j)
      = (outsAt0 m c (t.val - 1) (Nat.lt_of_le_of_lt (Nat.sub_le _ _) t.isLt)).2 (ix2 r j) + fourParts (iblk m c 0 t) (iblk m c 1 t) r j := by
  rw [outsAt0_B m c t (by omega) h h]
  frame_out
  refine (stored_second _ _ r j).trans ?_
  refine congrArg₂ (fun a b : EReal => a + b) ?_ ?_
  · rw [(Memref.isWhole_whole cc0_scratch0).read_unread]
  · exact four_at (iblk m c 0 t) (iblk m c 1 t) _ _ _ _ _ _ _ _ r j (fun r k => by pointwise) (fun r k => by pointwise)
      (fun r k => by pointwise) (fun r k => by pointwise) (fun r k => by pointwise) (fun r k => by pointwise)
      (fun r k => by pointwise) (fun r k => by pointwise)

/-- A pair's two points hold the eight blocks' parts. -/
theorem pair_sum (c : Dev nD) (t s : Fin cfg0.N) (h : t.val % 2 = 1) (hs : s.val = t.val - 1) (r : Fin 512) (j : Fin 1024) :
    fourParts (iblk m c 0 s) (iblk m c 1 s) r j + fourParts (iblk m c 0 t) (iblk m c 1 t) r j
      = dRow (m ((c : Thread nD τ).loc main_arg0)) (m ((c : Thread nD τ).loc main_arg1)) (rowAt t r) (colAt t j) := by
  unfold fourParts dRow
  have er : rowAt s r = rowAt t r := Fin.ext (by unfold rowAt; simp only; omega)
  have ec : colAt s j = colAt t j := Fin.ext (by unfold colAt; simp only; omega)
  have b0 : ∀ n : Fin 4, blockAt s n = ⟨n.val, by omega⟩ := fun n => Fin.ext (by unfold blockAt; simp only; omega)
  have b1 : ∀ n : Fin 4, blockAt t n = ⟨4 + n.val, by omega⟩ := fun n => Fin.ext (by unfold blockAt; simp only; omega)
  simp only [part_at, er, ec, b0, b1]
  rw [Fin.sum_univ_eight]
  simp only [add_assoc]
  rfl

/-- The row gradient, whole. -/
theorem rowArray (c : Dev nD) : (dats m 0 c).arrAt 2 (cfgs 0).N
    = fun i => dRow (m ((c : Thread nD τ).loc main_arg0)) (m ((c : Thread nD τ).loc main_arg1)) (i 0) (i 1) := by
  refine (dats m 0 c).arrAt_eq_of_covers 2 _ (by decide +kernel) fun t hf y => ?_
  have h : t.val % 2 = 1 := (by decide +kernel : ∀ t : Fin cfg0.N, (cfg0.win 2).flush t = true → t.val % 2 = 1) t hf
  blk_simp
  rw [after0_2]
  have e0 : (((cfg0.win 2).blk t).view.emb y) 0 = rowAt t (y 0) := by
    apply Fin.ext
    blk_simp [idx t, rowAt]
  have e1 : (((cfg0.win 2).blk t).view.emb y) 1 = colAt t (y 1) := by
    apply Fin.ext
    blk_simp [idx t, colAt]
  rw [e0, e1]
  refine (congrArg _ (eq_ix2 y)).trans ((out_second m c t h (y 0) (y 1)).trans ?_)
  rw [acc_first m c ⟨t.val - 1, Nat.lt_of_le_of_lt (Nat.sub_le _ _) t.isLt⟩ (by simp only; omega) (y 0) (y 1)]
  exact pair_sum m c t _ h rfl (y 0) (y 1)

end Cert.DhKernelIdeal.Value

namespace Cert.DhReferenceIdeal.Value

open Cert.DhReferenceIdeal Cert.DhReferenceIdeal.Read

theorem ref_at (W : FVec Ideal S8x2048x1408 .bf16) (D : FVec Ideal S8x4096x1408 .bf16) (r : Fin 4096) (j : Fin 2048) :
    val_main_v7 (F := Ideal) W D (ix2 r j) = Cert.DhKernelIdeal.Value.dRow W D r j := by
  unfold Cert.DhKernelIdeal.Value.dRow Cert.DhKernelIdeal.Value.blockPart
  pointwise [val_main_v7, val_main_v6, val_main_v5, val_main_v4, val_main_v1]

end Cert.DhReferenceIdeal.Value

namespace Cert.Proof

attribute [local instance] Cert.DhKernelIdeal.Gen.facts Cert.DhReferenceIdeal.Gen.facts

/-- The kernel's row gradient is the plain gradient. -/
theorem row_value : Cert.algebraic_DhKernelIdeal_DhReferenceIdeal := by
  intro m g m' g' hpre hag
  refine ⟨fun c => (Cert.DhKernelIdeal.Gen.dats m 0 c).arrAt 2 Cert.DhKernelIdeal.cfg0.N, Cert.DhKernelIdeal.Value.run_blocks m g,
    (θ_run _ _ _).mono (fun r h c => ?_) (Cert.DhReferenceIdeal.Value.run m' g')⟩
  obtain ⟨h0, h1⟩ := h c
  obtain ⟨e0, e1⟩ := hag c
  refine ⟨h0.trans ((Cert.DhReferenceIdeal.Read.val_main_v7_eq _ _).trans ?_), h1⟩
  rw [e0, e1]
  refine Eq.trans ?_ (Cert.DhKernelIdeal.Value.rowArray m c).symm
  funext i
  exact (congrArg _ (eq_ix2 i)).trans (Cert.DhReferenceIdeal.Value.ref_at _ _ (i 0) (i 1))

end Cert.Proof
-- ==== Proof.Convin.lean ====
module

public import proofs.«01_k».proof.Defs
public import proofs.«01_k».proof.Proof.Gen.ConvinKernelIdeal.Value
public import proofs.«01_k».proof.Proof.Gen.ConvinReferenceIdeal.Read
public import Idealize.ShloMosaic.Lib.Pipeline.ValueKit
public import Idealize.ShloMosaic.Lib.Pointwise

/-!
# The gradient of the causal convolution's input

The convolution adds three rows — its own and the two before it — each times a tap's weights, so
the gradient of its input at a row adds the cotangent's own row and the two after it, as far as the
sequence goes. The kernel computes it tile by tile of 1024 rows, with a halo of the next tile's
first rows, and column chunk by column chunk.
-/

@[expose] public section

set_option maxRecDepth 16384

noncomputable section

open Idealize.ShloMosaic Idealize.ShloMosaic.TcCoe Idealize.SL.Sem

namespace Cert.ConvinKernelIdeal.Value

open Cert.ConvinKernelIdeal Cert.ConvinKernelIdeal.Gen

/-- The gradient of the convolution's input at row `r` and channel `j` of block `n`. -/
def dIn (D : FVec Ideal S8x4096x1408 .bf16) (W : FVec Ideal S8x4x3x1408 .f32) (n : Fin 8) (r : Fin 4096) (j : Fin 1408) : EReal :=
  D (ix3 n r j) * W (ix4 n 0 2 j)
    + (if h : r.val + 1 < 4096 then D (ix3 n ⟨r.val + 1, h⟩ j) * W (ix4 n 0 1 j) else 0)
    + (if h : r.val + 2 < 4096 then D (ix3 n ⟨r.val + 2, h⟩ j) * W (ix4 n 0 0 j) else 0)

/-- The row `k` after row `r` of a column of a tile: in the tile while it lasts, then in the halo. -/
def after (x : Fin 1024 → EReal) (n : Fin 16 → EReal) (k : ℕ) (hk : k ≤ 16) (r : Fin 1024) : EReal :=
  if h : r.val + k < 1024 then x ⟨r.val + k, h⟩ else n ⟨r.val + k - 1024, by omega⟩

/-- The gradient at row `r` of a column of the tile of rows `q`: nothing follows the last tile's last rows. -/
def taps (q : ℕ) (x : Fin 1024 → EReal) (n : Fin 16 → EReal) (w2 w1 w0 : EReal) (r : Fin 1024) : EReal :=
  x r * w2 + (if q = 3 ∧ 1023 ≤ r.val then 0 else after x n 1 (by decide) r * w1)
    + (if q = 3 ∧ 1022 ≤ r.val then 0 else after x n 2 (by decide) r * w0)

theorem taps_congr (q : ℕ) {x x' : Fin 1024 → EReal} {n n' : Fin 16 → EReal} {w2 w2' w1 w1' w0 w0' : EReal} (r : Fin 1024)
    (hx : ∀ r, x r = x' r) (hn : ∀ r, n r = n' r) (h2 : w2 = w2') (h1 : w1 = w1') (h0 : w0 = w0') :
    taps q x n w2 w1 w0 r = taps q x' n' w2' w1' w0' r := by
  rw [funext hx, funext hn, h2, h1, h0]

/-- The rows from the last one on, as the body's comparison finds them. -/
theorem from1 : ∀ r : Fin 1024, IntOp.cmpi .sge (BitVec.ofNat 32 r.val) 1023#32 = if 1023 ≤ r.val then 1#1 else 0#1 := by
  decide +kernel

/-- The rows from the last but one on. -/
theorem from2 : ∀ r : Fin 1024, IntOp.cmpi .sge (BitVec.ofNat 32 r.val) 1022#32 = if 1022 ≤ r.val then 1#1 else 0#1 := by
  decide +kernel

/-- A tap is masked in the last tile, from a row on. -/
theorem masked (q : Fin 4) (p : Prop) [Decidable p] (a b : EReal) :
    Scalar.select (IntOp.andi (Scalar.cmpi .eq (BitVec.ofNat 32 q.val) 3#32) (if p then 1#1 else 0#1)) a b
      = if q.val = 3 ∧ p then a else b := by
  have hq : ∀ q : Fin 4, Scalar.cmpi .eq (BitVec.ofNat 32 q.val) 3#32 = if q.val = 3 then 1#1 else 0#1 := by decide
  rw [hq]
  by_cases h : p <;> by_cases h' : q.val = 3 <;> simp only [h, h', if_true, if_false, and_true, and_false, true_and, false_and] <;> rfl

/-- A rotated tile's row is a row after. -/
theorem after_rot (x : Fin 1024 → EReal) (n : Fin 16 → EReal) (k : ℕ) (hk : k ≤ 16) (r : Fin 1024) (s : ℕ) (hs : s = (r.val + k) % 1040) (h' : ¬ s < 1024 → s - 1024 < 16) :
    (if h : s < 1024 then x ⟨s, h⟩ else n ⟨s - 1024, h' h⟩) = after x n k hk r := by
  have := r.isLt
  have e : s = r.val + k := by omega
  subst e
  rfl

section
variable (i : grid0.Coords) (x : FVec Ideal S1x1024x256 .bf16) (n : FVec Ideal S1x16x256 .bf16) (w2 w1 w0 : FVec Ideal S1x1x1x256 .f32)
  (z : Fin 1) (r : Fin 1024) (l : Fin 256)

/-- A chunk's gradient, as the body's masks and rotations say it. -/
theorem taps_raw (q : Fin 4) (x : Fin 1024 → EReal) (n : Fin 16 → EReal) (w2 w1 w0 : EReal) (r : Fin 1024)
    (h1 : ¬ (r.val + 1040 - 1039) % 1040 < 1024 → (r.val + 1040 - 1039) % 1040 - 1024 < 16)
    (h2 : ¬ (r.val + 1040 - 1038) % 1040 < 1024 → (r.val + 1040 - 1038) % 1040 - 1024 < 16) :
    x r * w2
      + Scalar.select (IntOp.andi (Scalar.cmpi .eq (BitVec.ofNat 32 q.val) 3#32) (IntOp.cmpi .sge (BitVec.ofNat 32 r.val) 1023#32)) 0
          ((if h : (r.val + 1040 - 1039) % 1040 < 1024 then x ⟨(r.val + 1040 - 1039) % 1040, h⟩ else n ⟨(r.val + 1040 - 1039) % 1040 - 1024, h1 h⟩) * w1)
      + Scalar.select (IntOp.andi (Scalar.cmpi .eq (BitVec.ofNat 32 q.val) 3#32) (IntOp.cmpi .sge (BitVec.ofNat 32 r.val) 1022#32)) 0
          ((if h : (r.val + 1040 - 1038) % 1040 < 1024 then x ⟨(r.val + 1040 - 1038) % 1040, h⟩ else n ⟨(r.val + 1040 - 1038) % 1040 - 1024, h2 h⟩) * w0)
      = taps q.val x n w2 w1 w0 r := by
  rw [from1, from2, masked, masked, after_rot x n 1 (by decide) r _ (by omega), after_rot x n 2 (by decide) r _ (by omega), taps]

theorem chunk0 : k0_pay7 (F := Ideal) (k0_pay4 i x n w2 w1) (k0_pay5 x n) (Scalar.ofBits .f32 0x00000000#32) (k0_pay6 i) w0 (ix3 z r l)
    = taps (i 0).val (fun r => x (ix3 0 r l)) (fun r => n (ix3 0 r l)) (w2 (ix4 0 0 0 l)) (w1 (ix4 0 0 0 l)) (w0 (ix4 0 0 0 l)) r := by
  refine Eq.trans ?_ (taps_raw (i 0) (fun r => x (ix3 0 r l)) (fun r => n (ix3 0 r l)) _ _ _ r (by omega) (by omega))
  pointwise [k0_pay7, k0_pay4, k0_pay5, k0_pay6, k0_pay2, k0_pay3]

theorem chunk1 : k0_pay12 (F := Ideal) (Scalar.cmpi .eq (BitVec.ofNat 32 (i 0).val) 3#32) (k0_pay8 x) (k0_pay9 n) (k0_pay10 x w2) (k0_pay11 (Scalar.cmpi .eq (BitVec.ofNat 32 (i 0).val) 3#32) x n) w1 w0 (ix3 z r l)
    = taps (i 0).val (fun r => x (ix3 0 r l)) (fun r => n (ix3 0 r l)) (w2 (ix4 0 0 0 l)) (w1 (ix4 0 0 0 l)) (w0 (ix4 0 0 0 l)) r := by
  refine Eq.trans ?_ (taps_raw (i 0) (fun r => x (ix3 0 r l)) (fun r => n (ix3 0 r l)) _ _ _ r (by omega) (by omega))
  pointwise [k0_pay8, k0_pay9, k0_pay10, k0_pay11, k0_pay12]

theorem chunk2 : k0_pay17 (F := Ideal) (Scalar.cmpi .eq (BitVec.ofNat 32 (i 0).val) 3#32) (k0_pay13 x) (k0_pay14 n) (k0_pay15 x w2) (k0_pay16 x n) w1 w0 (ix3 z r l)
    = taps (i 0).val (fun r => x (ix3 0 r l)) (fun r => n (ix3 0 r l)) (w2 (ix4 0 0 0 l)) (w1 (ix4 0 0 0 l)) (w0 (ix4 0 0 0 l)) r := by
  refine Eq.trans ?_ (taps_raw (i 0) (fun r => x (ix3 0 r l)) (fun r => n (ix3 0 r l)) _ _ _ r (by omega) (by omega))
  pointwise [k0_pay13, k0_pay14, k0_pay15, k0_pay16, k0_pay17]

theorem chunk3 : k0_pay20 (F := Ideal) (k0_pay19 (Scalar.cmpi .eq (BitVec.ofNat 32 (i 0).val) 3#32) (k0_pay18 x) n w2 w1 w0) (ix3 z r l)
    = taps (i 0).val (fun r => x (ix3 0 r l)) (fun r => n (ix3 0 r l)) (w2 (ix4 0 0 0 l)) (w1 (ix4 0 0 0 l)) (w0 (ix4 0 0 0 l)) r := by
  refine Eq.trans ?_ (taps_raw (i 0) (fun r => x (ix3 0 r l)) (fun r => n (ix3 0 r l)) _ _ _ r (by omega) (by omega))
  pointwise [k0_pay18, k0_pay19, k0_pay20]

theorem chunk4 : k0_pay26 (F := Ideal) (Scalar.cmpi .eq (BitVec.ofNat 32 (i 0).val) 3#32) (k0_pay23 (Scalar.cmpi .eq (BitVec.ofNat 32 (i 0).val) 3#32) x n w2 w1) (k0_pay24 x n) k0_pay25 w0 (ix3 z r l)
    = taps (i 0).val (fun r => x (ix3 0 r l)) (fun r => n (ix3 0 r l)) (w2 (ix4 0 0 0 l)) (w1 (ix4 0 0 0 l)) (w0 (ix4 0 0 0 l)) r := by
  refine Eq.trans ?_ (taps_raw (i 0) (fun r => x (ix3 0 r l)) (fun r => n (ix3 0 r l)) _ _ _ r (by omega) (by omega))
  pointwise [k0_pay21, k0_pay22, k0_pay23, k0_pay24, k0_pay25, k0_pay26]

theorem chunk5 (x : FVec Ideal S1x1024x128 .bf16) (n : FVec Ideal S1x16x128 .bf16) (w2 w1 w0 : FVec Ideal S1x1x1x128 .f32) (l : Fin 128) :
    k0_pay1 (F := Ideal) (Scalar.cmpi .eq (BitVec.ofNat 32 (i 0).val) 3#32) (k0_pay27 x) (k0_pay28 n) (k0_pay29 x w2) (k0_pay30 (Scalar.cmpi .eq (BitVec.ofNat 32 (i 0).val) 3#32) x n) w1 w0 (ix3 z r l)
    = taps (i 0).val (fun r => x (ix3 0 r l)) (fun r => n (ix3 0 r l)) (w2 (ix4 0 0 0 l)) (w1 (ix4 0 0 0 l)) (w0 (ix4 0 0 0 l)) r := by
  refine Eq.trans ?_ (taps_raw (i 0) (fun r => x (ix3 0 r l)) (fun r => n (ix3 0 r l)) _ _ _ r (by omega) (by omega))
  pointwise [k0_pay27, k0_pay28, k0_pay29, k0_pay30, k0_pay1]

end

variable (m : (ℓ : Loc nD τ sig) → Buf (Elt Ideal) ℓ)

/-- The gradient of a point's tile at a row and a channel. -/
def tapsAt (c : Dev nD) (t : Fin cfg0.N) (r : Fin 1024) (j : Fin 1408) : EReal :=
  taps (t.val / 8) (fun r => iblk m c 0 t (ix3 0 r j)) (fun r => iblk m c 1 t (ix3 0 r j))
    (iblk m c 2 t (ix4 0 0 2 j)) (iblk m c 2 t (ix4 0 0 1 j)) (iblk m c 2 t (ix4 0 0 0 j)) r

theorem coord : ∀ t : Fin cfg0.N, (grid0.coords t 0).val = t.val / 8 := (by decide +kernel : ∀ t : Fin grid0.N, _)

/-- What a grid point leaves in its block. -/
theorem out_at (c : Dev nD) (t : Fin cfg0.N) (y : S1x1024x1408.Idx) : outsAt0 m c t y = tapsAt m c t (y 1) (y 2) := by
  unfold outsAt0
  frame_out
  canon_tiles x hx using View.cover_of_tiledBy _ ![1, 1024, 128] (by sl_kernel_rfl) y
  all_goals
    unfold tapsAt
    rw [← coord t]
    idx_vars x
  case piece0 =>
    have hl : 1280 + (x2 : ℕ) < 1408 := Nat.lt_of_lt_of_le (Nat.add_lt_add_left x2.isLt 1280) (by decide)
    obtain rfl : y = ix3 x0 x1 ⟨1280 + x2.val, hl⟩ := by idx_ext
    refine (chunk5 (grid0.coords t) x0 x1 _ _ _ _ _ x2).trans ?_
    exact taps_congr _ x1 (fun r => by pointwise) (fun r => by pointwise) (by pointwise) (by pointwise) (by pointwise)
  case piece1 =>
    have hl : 1024 + (x2 : ℕ) < 1408 := Nat.lt_of_lt_of_le (Nat.add_lt_add_left x2.isLt 1024) (by decide)
    obtain rfl : y = ix3 x0 x1 ⟨1024 + x2.val, hl⟩ := by idx_ext
    refine (chunk4 (grid0.coords t) _ _ _ _ _ x0 x1 x2).trans ?_
    exact taps_congr _ x1 (fun r => by pointwise) (fun r => by pointwise) (by pointwise) (by pointwise) (by pointwise)
  case piece2 =>
    have hl : 768 + (x2 : ℕ) < 1408 := Nat.lt_of_lt_of_le (Nat.add_lt_add_left x2.isLt 768) (by decide)
    obtain rfl : y = ix3 x0 x1 ⟨768 + x2.val, hl⟩ := by idx_ext
    refine (chunk3 (grid0.coords t) _ _ _ _ _ x0 x1 x2).trans ?_
    exact taps_congr _ x1 (fun r => by pointwise) (fun r => by pointwise) (by pointwise) (by pointwise) (by pointwise)
  case piece3 =>
    have hl : 512 + (x2 : ℕ) < 1408 := Nat.lt_of_lt_of_le (Nat.add_lt_add_left x2.isLt 512) (by decide)
    obtain rfl : y = ix3 x0 x1 ⟨512 + x2.val, hl⟩ := by idx_ext
    refine (chunk2 (grid0.coords t) _ _ _ _ _ x0 x1 x2).trans ?_
    exact taps_congr _ x1 (fun r => by pointwise) (fun r => by pointwise) (by pointwise) (by pointwise) (by pointwise)
  case piece4 =>
    have hl : 256 + (x2 : ℕ) < 1408 := Nat.lt_of_lt_of_le (Nat.add_lt_add_left x2.isLt 256) (by decide)
    obtain rfl : y = ix3 x0 x1 ⟨256 + x2.val, hl⟩ := by idx_ext
    refine (chunk1 (grid0.coords t) _ _ _ _ _ x0 x1 x2).trans ?_
    exact taps_congr _ x1 (fun r => by pointwise) (fun r => by pointwise) (by pointwise) (by pointwise) (by pointwise)
  case piece5 =>
    have hl : 0 + (x2 : ℕ) < 1408 := Nat.lt_of_lt_of_le (Nat.add_lt_add_left x2.isLt 0) (by decide)
    obtain rfl : y = ix3 x0 x1 ⟨0 + x2.val, hl⟩ := by idx_ext
    refine (chunk0 (grid0.coords t) _ _ _ _ _ x0 x1 x2).trans ?_
    exact taps_congr _ x1 (fun r => by pointwise) (fun r => by pointwise) (by pointwise) (by pointwise) (by pointwise)

theorem idx : ∀ t : Fin cfg0.N, win0_0.index t = ![t.val % 8, t.val / 8, 0] ∧ win0_1.index t = ![t.val % 8, min ((t.val / 8 + 1) * 64) 255, 0]
    ∧ win0_2.index t = ![t.val % 8, 0, 0, 0] ∧ win0_3.index t = ![t.val % 8, t.val / 8, 0] ∧ t.val < 32 :=
  (by decide +kernel : ∀ t : Fin grid0.N, _)

/-- The block of the whole array that point `t` computes. -/
def blockAt (t : Fin cfg0.N) : Fin 8 := ⟨t.val % 8, Nat.mod_lt _ (by decide)⟩

/-- The row of the whole array at row `r` of point `t`'s tile. -/
def rowAt (t : Fin cfg0.N) (r : Fin 1024) : Fin 4096 := ⟨t.val / 8 * 1024 + r.val, by have := (idx t).2.2.2.2; omega⟩

theorem read_cot (D : FVec Ideal S8x4096x1408 .bf16) (t : Fin cfg0.N) (r : Fin 1024) (j : Fin 1408) :
    ((cfg0.win 0).blk t).view.read (Elt Ideal) D (ix3 0 r j) = D (ix3 (blockAt t) (rowAt t r) j) := by
  unfold blockAt rowAt
  blk_point [idx t]

theorem read_halo (D : FVec Ideal S8x4096x1408 .bf16) (t : Fin cfg0.N) (r : Fin 16) (j : Fin 1408) :
    ((cfg0.win 1).blk t).view.read (Elt Ideal) D (ix3 0 r j) = D (ix3 (blockAt t) ⟨min ((t.val / 8 + 1) * 64) 255 * 16 + r.val, by omega⟩ j) := by
  unfold blockAt
  blk_point [idx t]

theorem read_taps (W : FVec Ideal S8x4x3x1408 .f32) (t : Fin cfg0.N) (k : Fin 3) (j : Fin 1408) :
    ((cfg0.win 2).blk t).view.read (Elt Ideal) W (ix4 0 0 k j) = W (ix4 (blockAt t) 0 k j) := by
  unfold blockAt
  blk_point [idx t]

/-- A later row of a column, read from the tile and its halo, is the whole array's later row. -/
theorem after_whole (D : FVec Ideal S8x4096x1408 .bf16) (t : Fin cfg0.N) (j : Fin 1408) (k : ℕ) (hk : k ≤ 16) (r : Fin 1024)
    (h : (rowAt t r).val + k < 4096) :
    after (fun r => D (ix3 (blockAt t) (rowAt t r) j)) (fun r => D (ix3 (blockAt t) ⟨min ((t.val / 8 + 1) * 64) 255 * 16 + r.val, by omega⟩ j)) k hk r
      = D (ix3 (blockAt t) ⟨(rowAt t r).val + k, h⟩ j) := by
  have ht := (idx t).2.2.2.2
  have hr := r.isLt
  simp only [rowAt] at h
  unfold after
  split
  · refine congrArg (fun q : Fin 4096 => D (ix3 (blockAt t) q j)) (Fin.ext ?_)
    simp only [rowAt]
    omega
  · refine congrArg (fun q : Fin 4096 => D (ix3 (blockAt t) q j)) (Fin.ext ?_)
    simp only [rowAt]
    omega

/-- A tile's gradient is the whole array's. -/
theorem taps_whole (D : FVec Ideal S8x4096x1408 .bf16) (W : FVec Ideal S8x4x3x1408 .f32) (t : Fin cfg0.N) (r : Fin 1024) (j : Fin 1408) :
    taps (t.val / 8) (fun r => D (ix3 (blockAt t) (rowAt t r) j)) (fun r => D (ix3 (blockAt t) ⟨min ((t.val / 8 + 1) * 64) 255 * 16 + r.val, by omega⟩ j))
        (W (ix4 (blockAt t) 0 2 j)) (W (ix4 (blockAt t) 0 1 j)) (W (ix4 (blockAt t) 0 0 j)) r
      = dIn D W (blockAt t) (rowAt t r) j := by
  have ht := (idx t).2.2.2.2
  have hr := r.isLt
  have last : ∀ k : ℕ, k ≤ 16 → ((t.val / 8 = 3 ∧ 1024 - k ≤ r.val) ↔ ¬ (rowAt t r).val + k < 4096) := by
    intro k hk
    simp only [rowAt]
    omega
  unfold taps dIn
  rw [if_congr (last 1 (by decide)) rfl rfl, if_congr (last 2 (by decide)) rfl rfl]
  refine congrArg₂ (fun a b : EReal => a + b) (congrArg₂ (fun a b : EReal => a + b) rfl ?_) ?_
  · by_cases h : (rowAt t r).val + 1 < 4096
    · rw [if_neg (not_not.mpr h), dif_pos h, after_whole D t j 1 _ r h]
    · rw [if_pos h, dif_neg h]
  · by_cases h : (rowAt t r).val + 2 < 4096
    · rw [if_neg (not_not.mpr h), dif_pos h, after_whole D t j 2 _ r h]
    · rw [if_pos h, dif_neg h]

/-- The gradient of the convolution's input, whole. -/
theorem inArray (c : Dev nD) : (dats m 0 c).arrAt 3 (cfgs 0).N
    = fun i => dIn (m ((c : Thread nD τ).loc main_arg0)) (m ((c : Thread nD τ).loc main_arg1)) (i 0) (i 1) (i 2) := by
  refine (dats m 0 c).arrAt_eq_of_covers 3 _ (by decide +kernel) fun t _ y => ?_
  blk_simp
  rw [after0_3, out_at m c t y]
  have e0 : (((cfg0.win 3).blk t).view.emb y) 0 = blockAt t := by
    have := (y 0).isLt
    change (y 0 : ℕ) < 1 at this
    apply Fin.ext
    blk_simp [idx t, blockAt]
    try omega
  have e1 : (((cfg0.win 3).blk t).view.emb y) 1 = rowAt t (y 1) := by
    apply Fin.ext
    blk_simp [idx t, rowAt]
  have e2 : (((cfg0.win 3).blk t).view.emb y) 2 = y 2 := by
    apply Fin.ext
    blk_simp [idx t]
  rw [e0, e1, e2]
  refine Eq.trans ?_ (taps_whole _ _ t (y 1) (y 2))
  exact taps_congr _ (y 1) (fun r => read_cot _ t r (y 2)) (fun r => read_halo _ t r (y 2)) (read_taps _ t 2 (y 2)) (read_taps _ t 1 (y 2)) (read_taps _ t 0 (y 2))

end Cert.ConvinKernelIdeal.Value

namespace Cert.ConvinReferenceIdeal.Value

open Cert.ConvinReferenceIdeal Cert.ConvinReferenceIdeal.Read

theorem ref_at (D : FVec Ideal S8x4096x1408 .bf16) (W : FVec Ideal S8x4x3x1408 .f32) (n : Fin 8) (r : Fin 4096) (j : Fin 1408) :
    val_main_v42 (F := Ideal) D W (ix3 n r j) = Cert.ConvinKernelIdeal.Value.dIn D W n r j := by
  have hr := r.isLt
  have p1 : (r.val + 1 < 4096) ↔ (1 ≤ 2 + r.val ∧ 2 + r.val - 1 < 4096) := by omega
  have p2 : (r.val + 2 < 4096) ↔ (2 + r.val < 4096) := by omega
  have e1 : 2 + r.val - 1 = r.val + 1 := by omega
  have e2 : 2 + r.val = r.val + 2 := by omega
  unfold Cert.ConvinKernelIdeal.Value.dIn
  pointwise [val_main_v42, val_main_v41, val_main_v39, val_main_v38, val_main_v37, val_main_v36, val_main_v35, val_main_v34, val_main_v33, val_main_v32, val_main_v31, val_main_v30, val_main_v29, val_main_v28, val_main_v24, val_main_v23, val_main_v22, val_main_v17, val_main_v16, val_main_v15, val_main_v9, val_main_v8, val_main_v7, val_main_v2, val_main_v1, val_main_cst_3, val_main_cst_4, val_main_cst_5]
  refine congrArg₂ (fun a b : EReal => a + b) (congrArg₂ (fun a b : EReal => a + b) rfl ?_) ?_
  · by_cases h : r.val + 1 < 4096
    · rw [dif_pos (p1.mp h), dif_pos h]
      simp only [e1]
    · rw [dif_neg (fun q => h (p1.mpr q)), dif_neg h]
  · by_cases h : r.val + 2 < 4096
    · rw [dif_pos (p2.mp h), dif_pos h]
      simp only [e2]
    · rw [dif_neg (fun q => h (p2.mpr q)), dif_neg h]

end Cert.ConvinReferenceIdeal.Value

namespace Cert.Proof

attribute [local instance] Cert.ConvinKernelIdeal.Gen.facts Cert.ConvinReferenceIdeal.Gen.facts

/-- The kernel's gradient of the convolution's input is the plain gradient. -/
theorem convin_value : Cert.algebraic_ConvinKernelIdeal_ConvinReferenceIdeal := by
  intro m g m' g' hpre hag
  refine ⟨fun c => (Cert.ConvinKernelIdeal.Gen.dats m 0 c).arrAt 3 Cert.ConvinKernelIdeal.cfg0.N, Cert.ConvinKernelIdeal.Value.run_blocks m g,
    (θ_run _ _ _).mono (fun r h c => ?_) (Cert.ConvinReferenceIdeal.Value.run m' g')⟩
  obtain ⟨h0, h1⟩ := h c
  obtain ⟨e0, e1⟩ := hag c
  refine ⟨h0.trans ((Cert.ConvinReferenceIdeal.Read.val_main_v42_eq _ _).trans ?_), h1⟩
  rw [e0, e1]
  refine Eq.trans ?_ (Cert.ConvinKernelIdeal.Value.inArray m c).symm
  funext i
  exact (congrArg _ (eq_ix3 i)).trans (Cert.ConvinReferenceIdeal.Value.ref_at _ _ (i 0) (i 1) (i 2))

end Cert.Proof
-- ==== Proof.NormRow.lean ====
module

public import proofs.«01_k».proof.Proof.Softmax

/-!
# The gradient of a row's norm

A row divided by the root of its mean square plus a small number, times a gain. The kernel's
gradient subtracts the row's projection and scales; the plain gradient adds the gradient through
the mean to the gradient through the scaled row. Both are the same for every row, finite or not:
the root's reciprocal is a real number that is not negative — zero where the row is not finite.
The row's width is given as a float word.
-/

@[expose] public section

noncomputable section

open Idealize.ShloMosaic

namespace Cert.NormRow

open Cert.Softmax

variable {n : ℕ} (w : BitVec 32) (x g d : Fin n → EReal)

/-- The row's mean square plus the small number. -/
def meanSq : EReal := Ideal.div (∑ k, x k * x k) (Ideal.ofBits .f32 w) + Ideal.ofBits .f32 0x358637BD#32

/-- The reciprocal of its root. -/
def rstd : EReal := Ideal.rsqrt (meanSq w x)

/-- The gradient of the row as the kernel computes it, beside another gradient `u` of the row. -/
def dRow (u : EReal) (j : Fin n) : EReal :=
  rstd w x * (d j * g j - x j * rstd w x * Ideal.div (∑ k, d k * g k * (x k * rstd w x)) (Ideal.ofBits .f32 w)) + u

/-- The gradient through the mean, as the plain gradient computes it. -/
def dMean : EReal :=
  Ideal.div ((∑ k, x k * (d k * g k)) * (Ideal.ofBits .f32 0xBF000000#32 * Ideal.div (rstd w x) (meanSq w x))) (Ideal.ofBits .f32 w)

/-- A float word that is a positive real number. -/
def Positive : Prop := ∃ q : ℝ, 0 < q ∧ Ideal.ofBits .f32 w = (q : EReal)

theorem width : Positive 0x45000000#32 :=
  ⟨2048, by norm_num, by simp [Ideal.ofBits, Ideal.ieee, -EReal.coe_mul]; norm_num⟩

theorem minus_half : Ideal.ofBits .f32 0xBF000000#32 = ((-(1 / 2) : ℝ) : EReal) := by
  simp [Ideal.ofBits, Ideal.ieee, -EReal.coe_mul]
  norm_num

theorem small : ∃ e : ℝ, 0 < e ∧ Ideal.ofBits .f32 0x358637BD#32 = (e : EReal) := by
  simp [Ideal.ofBits, Ideal.ieee, -EReal.coe_mul]

theorem sq_nonneg (a : EReal) : 0 ≤ a * a := by
  induction a with
  | bot => simp
  | top => simp
  | coe r => exact_mod_cast mul_self_nonneg r

/-- The mean square plus the small number is a positive real number, or infinite. -/
theorem meanSq_pos (hw : Positive w) : meanSq w x = ⊤ ∨ ∃ q : ℝ, 0 < q ∧ meanSq w x = (q : EReal) := by
  obtain ⟨e, he, hs⟩ := small
  obtain ⟨N, hN, hw⟩ := hw
  unfold meanSq
  rw [hw, hs, Ideal.div_coe hN.ne']
  have h0 : 0 ≤ ∑ k, x k * x k := Finset.sum_nonneg fun k _ => sq_nonneg (x k)
  generalize ∑ k, x k * x k = s at h0
  induction s with
  | bot => simp at h0
  | top => left; rw [EReal.top_mul_coe_of_pos (by positivity)]; rfl
  | coe r =>
    right
    have hr : 0 ≤ r := by exact_mod_cast h0
    exact ⟨r * (1 / N) + e, by positivity, by push_cast; rfl⟩

/-- The reciprocal root is a real number that is not negative, and so is its quotient by the mean square. -/
theorem rstd_real (hw : Positive w) : ∃ c : ℝ, 0 ≤ c ∧ rstd w x = (c : EReal) ∧ Ideal.div (rstd w x) (meanSq w x) = ((c * c * c : ℝ) : EReal) := by
  unfold rstd
  rcases meanSq_pos w x hw with h | ⟨q, hq, h⟩
  · rw [h]
    refine ⟨0, le_refl _, rfl, ?_⟩
    simp [Ideal.div]
  · rw [h, Ideal.rsqrt_coe, if_neg (not_lt.mpr hq.le), if_neg hq.ne', Ideal.div_coe hq.ne']
    refine ⟨(Real.sqrt q)⁻¹, by positivity, rfl, ?_⟩
    rw [← EReal.coe_mul]
    refine congrArg _ ?_
    have hs : Real.sqrt q * Real.sqrt q = q := Real.mul_self_sqrt hq.le
    have hp : 0 < Real.sqrt q := Real.sqrt_pos.2 hq
    nth_rw 2 [← hs]
    field_simp

/-- Twice a value. -/
theorem add_self (z : EReal) : z + z = z * ((2 : ℝ) : EReal) := by
  induction z with
  | bot => rw [EReal.bot_mul_coe_of_pos (by norm_num)]; rfl
  | top => rw [EReal.top_mul_coe_of_pos (by norm_num)]; rfl
  | coe r => norm_cast; ring

/-- The plain gradient of the row is the kernel's. -/
theorem dRow_eq (hw : Positive w) (u : EReal) (j : Fin n) :
    u + d j * g j * rstd w x + x j * dMean w x g d + dMean w x g d * x j = dRow w x g d u j := by
  obtain ⟨c, hc, hr, hq⟩ := rstd_real w x hw
  obtain ⟨N, hN, hw⟩ := hw
  unfold dRow dMean
  rw [hq, hr, hw, minus_half]
  have hsum : (∑ k, d k * g k * (x k * (c : EReal))) = (∑ k, x k * (d k * g k)) * (c : EReal) := by
    rw [sum_mul_real _ _ hc]
    exact Finset.sum_congr rfl fun k _ => by rw [← mul_assoc, mul_comm (d k * g k) (x k)]
  rw [hsum]
  generalize ∑ k, x k * (d k * g k) = T
  rw [Ideal.div_coe hN.ne', Ideal.div_coe hN.ne']
  generalize d j * g j = b
  generalize x j = y
  have hk : y * (c : EReal) * (T * (c : EReal) * ((1 / N : ℝ) : EReal)) = y * T * ((c * c * (1 / N) : ℝ) : EReal) := by
    push_cast
    ac_rfl
  have hp : y * (T * (((-(1 / 2) : ℝ) : EReal) * ((c * c * c : ℝ) : EReal)) * ((1 / N : ℝ) : EReal))
      = y * T * ((-(1 / 2) * (c * c * c) * (1 / N) : ℝ) : EReal) := by
    rw [EReal.coe_mul (-(1 / 2) * (c * c * c)), EReal.coe_mul (-(1 / 2))]
    ac_rfl
  rw [hk, mul_comm (_ * ((1 / N : ℝ) : EReal)) y, hp, add_assoc (u + _), add_self, mul_assoc (y * T), ← EReal.coe_mul,
    sub_eq_add_neg, EReal.left_distrib_of_nonneg_of_ne_top (by exact_mod_cast hc) (EReal.coe_ne_top c), ← mul_neg (y * T),
    mul_comm (c : EReal) (y * T * _), mul_assoc (y * T), ← EReal.coe_neg, ← EReal.coe_mul, mul_comm (c : EReal) b, add_assoc u, add_comm u]
  refine congrArg (fun w : EReal => b * (c : EReal) + w + u) (congrArg (fun w : ℝ => y * T * (w : EReal)) ?_)
  ring

end Cert.NormRow
-- ==== Proof.Norm.lean ====
module

public import proofs.«01_k».proof.Defs
public import proofs.«01_k».proof.Proof.NormRow
public import proofs.«01_k».proof.Proof.Gen.NormKernelIdeal.Value
public import proofs.«01_k».proof.Proof.Gen.NormReferenceIdeal.Read
public import Idealize.ShloMosaic.Lib.Pipeline.ValueKit
public import Idealize.ShloMosaic.Lib.Pointwise

/-!
# The gradient of the norm of the rows

Three results: the rows' gradient beside the residual's, its narrow copy, and the gain's gradient,
which is added up over the blocks of 512 rows.
-/

@[expose] public section

set_option maxRecDepth 16384

noncomputable section

open Idealize.ShloMosaic Idealize.ShloMosaic.TcCoe Idealize.SL.Sem

namespace Cert.NormKernelIdeal.Value

open Cert.NormKernelIdeal Cert.NormKernelIdeal.Gen Cert.NormRow

section
variable (X : FVec Ideal S4096x2048 .f32) (G : FVec Ideal S2048 .f32) (D : FVec Ideal S4096x2048 .bf16) (U : FVec Ideal S4096x2048 .f32)

/-- The gradient of row `r` at column `j`. -/
def dX (r : Fin 4096) (j : Fin 2048) : EReal :=
  dRow 0x45000000#32 (fun k => X (ix2 r k)) (fun k => G (ix1 k)) (fun k => D (ix2 r k)) (U (ix2 r j)) j

/-- The gradient of the gain at column `j`. -/
def dG (j : Fin 2048) : EReal :=
  ∑ r : Fin 4096, D (ix2 r j) * (X (ix2 r j) * rstd 0x45000000#32 fun k => X (ix2 r k))

end

section
variable (x : FVec Ideal S512x2048 .f32) (d : FVec Ideal S512x2048 .bf16) (g : FVec Ideal S1x2048 .f32) (u : FVec Ideal S512x2048 .f32)

theorem dx_at (r : Fin 512) (j : Fin 2048) :
    k0_pay5 (F := Ideal) x d g u (ix2 r j) = dRow 0x45000000#32 (fun k => x (ix2 r k)) (fun k => g (ix2 0 k)) (fun k => d (ix2 r k)) (u (ix2 r j)) j := by
  unfold dRow rstd meanSq
  pointwise [k0_pay5, k0_pay2, k0_pay3, k0_pay4]

theorem copy_at (r : Fin 512) (j : Fin 2048) :
    k0_pay6 (F := Ideal) x d g u (ix2 r j) = dRow 0x45000000#32 (fun k => x (ix2 r k)) (fun k => g (ix2 0 k)) (fun k => d (ix2 r k)) (u (ix2 r j)) j := by
  unfold dRow rstd meanSq
  pointwise [k0_pay6, k0_pay5, k0_pay2, k0_pay3, k0_pay4]

/-- A block's part of the gain's gradient. -/
def partG (j : Fin 2048) : EReal := ∑ r : Fin 512, d (ix2 r j) * (x (ix2 r j) * rstd 0x45000000#32 fun k => x (ix2 r k))

theorem part_at (z : Fin 1) (j : Fin 2048) : k0_pay7 (F := Ideal) x d (ix2 z j) = partG x d j := by
  unfold partG rstd meanSq
  pointwise [k0_pay7, k0_pay2, k0_pay3, k0_pay4]

theorem sum_at (p o : FVec Ideal S1x2048 .f32) (z : Fin 1) (j : Fin 2048) : k0_pay1 (F := Ideal) p o (ix2 z j) = o (ix2 z j) + p (ix2 z j) := by
  pointwise [k0_pay1]

end

variable (m : (ℓ : Loc nD τ sig) → Buf (Elt Ideal) ℓ)

theorem dx_point (c : Dev nD) (t : Fin cfg0.N) (y : S512x2048.Idx) :
    (outsAt0 m c t.val t.isLt).1 y = k0_pay5 (F := Ideal) (iblk m c 0 t) (iblk m c 2 t) (iblk m c 1 t) (iblk m c 3 t) y := by
  by_cases h : t.val % 8 = 0
  · have h1 : ¬ 1 ≤ t.val := by have := t.isLt; change t.val < 8 at this; omega
    rw [outsAt0_A m c t h h1]; frame_out
  · rw [outsAt0_B m c t h (by omega)]; frame_out

theorem copy_point (c : Dev nD) (t : Fin cfg0.N) (y : S512x2048.Idx) :
    (outsAt0 m c t.val t.isLt).2.1 y = k0_pay6 (F := Ideal) (iblk m c 0 t) (iblk m c 2 t) (iblk m c 1 t) (iblk m c 3 t) y := by
  by_cases h : t.val % 8 = 0
  · have h1 : ¬ 1 ≤ t.val := by have := t.isLt; change t.val < 8 at this; omega
    rw [outsAt0_A m c t h h1]; frame_out
  · rw [outsAt0_B m c t h (by omega)]; frame_out

/-- A block's part, at an index of the result. -/
def partAt (c : Dev nD) (t : Fin cfg0.N) (y : S1x2048.Idx) : EReal := partG (iblk m c 0 t) (iblk m c 2 t) (y 1)

theorem dg_first (c : Dev nD) (t : Fin cfg0.N) (h : t.val % 8 = 0) (y : S1x2048.Idx) :
    (outsAt0 m c t.val t.isLt).2.2 y = partAt m c t y := by
  have h1 : ¬ 1 ≤ t.val := by have := t.isLt; change t.val < 8 at this; omega
  rw [outsAt0_A m c t h h1]; frame_out
  exact (congrArg _ (eq_ix2 y)).trans (part_at _ _ (y 0) (y 1))

theorem dg_later (c : Dev nD) (t : Fin cfg0.N) (h : ¬ t.val % 8 = 0) (y : S1x2048.Idx) :
    (outsAt0 m c t.val t.isLt).2.2 y
      = (outsAt0 m c (t.val - 1) (Nat.lt_of_le_of_lt (Nat.sub_le _ _) t.isLt)).2.2 y + partAt m c t y := by
  rw [outsAt0_B m c t h (by omega)]; frame_out
  refine (congrArg _ (eq_ix2 y)).trans ((sum_at _ _ (y 0) (y 1)).trans ?_)
  refine congrArg₂ (fun a b : EReal => a + b) (congrArg _ (eq_ix2 y).symm) (part_at _ _ (y 0) (y 1))

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] ∧ t.val < 8 :=
  (by decide +kernel : ∀ t : Fin grid0.N, _)

/-- The row of the whole array at row `r` of block `t`. -/
def rowAt (t : Fin cfg0.N) (r : Fin 512) : Fin 4096 := ⟨t.val * 512 + r.val, by have := (idx t).2.2.2.2.2.2.2; omega⟩

theorem read_x (c : Dev nD) (t : Fin cfg0.N) (r : Fin 512) (j : Fin 2048) :
    iblk m c 0 t (ix2 r j) = (show FVec Ideal S4096x2048 .f32 from m ((c : Thread nD τ).loc main_arg0)) (ix2 (rowAt t r) j) := by
  unfold rowAt
  blk_point [iblk, V, idx t]

theorem read_d (c : Dev nD) (t : Fin cfg0.N) (r : Fin 512) (j : Fin 2048) :
    iblk m c 2 t (ix2 r j) = (show FVec Ideal S4096x2048 .bf16 from m ((c : Thread nD τ).loc main_arg2)) (ix2 (rowAt t r) j) := by
  unfold rowAt
  blk_point [iblk, V, idx t]

theorem read_u (c : Dev nD) (t : Fin cfg0.N) (r : Fin 512) (j : Fin 2048) :
    iblk m c 3 t (ix2 r j) = (show FVec Ideal S4096x2048 .f32 from m ((c : Thread nD τ).loc main_arg3)) (ix2 (rowAt t r) j) := by
  unfold rowAt
  blk_point [iblk, V, idx t]

theorem read_g (c : Dev nD) (t : Fin cfg0.N) (j : Fin 2048) :
    iblk m c 1 t (ix2 0 j) = (show FVec Ideal S2048 .f32 from m ((c : Thread nD τ).loc main_arg1)) (ix1 j) := by
  blk_simp [iblk]
  entry_read
  have e : (((cfg0.win 1).blk t).view.emb (ix2 0 j)) = ix2 0 j := by
    blk_ext [idx t]
  refine (congrArg (shapeCast main_v0.ty.shape (m (c, Proc.tc.devRef main_arg1)) shapeCasts_S2048_S1x2048) e).trans ?_
  pointwise

/-- The rows' gradient at a block is the whole array's. -/
theorem row_whole (c : Dev nD) (t : Fin cfg0.N) (r : Fin 512) (j : Fin 2048) :
    dRow 0x45000000#32 (fun k => iblk m c 0 t (ix2 r k)) (fun k => iblk m c 1 t (ix2 0 k)) (fun k => iblk m c 2 t (ix2 r k)) (iblk m c 3 t (ix2 r j)) j
      = dX (m ((c : Thread nD τ).loc main_arg0)) (m ((c : Thread nD τ).loc main_arg1)) (m ((c : Thread nD τ).loc main_arg2)) (m ((c : Thread nD τ).loc main_arg3)) (rowAt t r) j := by
  unfold dX
  rw [funext fun k => read_x m c t r k, funext fun k => read_g m c t k, funext fun k => read_d m c t r k, read_u m c t r j]

/-- THE ROWS' GRADIENT, whole. -/
theorem final4 (c : Dev nD) : (dats m 0 c).arrAt 4 (cfgs 0).N
    = fun i => dX (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t _ y => ?_
  blk_simp
  rw [after0_4, dx_point m c t y]
  have e0 : (((cfg0.win 4).blk t).view.emb y) 0 = rowAt t (y 0) := by
    apply Fin.ext
    blk_simp [idx t, rowAt]
  have e1 : (((cfg0.win 4).blk t).view.emb y) 1 = y 1 := by
    apply Fin.ext
    blk_simp [idx t]
  rw [e0, e1]
  exact (congrArg _ (eq_ix2 y)).trans ((dx_at _ _ _ _ (y 0) (y 1)).trans (row_whole m c t (y 0) (y 1)))

/-- ITS NARROW COPY, whole. -/
theorem final5 (c : Dev nD) : (dats m 0 c).arrAt 5 (cfgs 0).N
    = fun i => dX (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t _ y => ?_
  blk_simp
  rw [after0_5, copy_point m c t y]
  have e0 : (((cfg0.win 5).blk t).view.emb y) 0 = rowAt t (y 0) := by
    apply Fin.ext
    blk_simp [idx t, rowAt]
  have e1 : (((cfg0.win 5).blk t).view.emb y) 1 = y 1 := by
    apply Fin.ext
    blk_simp [idx t]
  rw [e0, e1]
  exact (congrArg _ (eq_ix2 y)).trans ((copy_at _ _ _ _ (y 0) (y 1)).trans (row_whole m c t (y 0) (y 1)))

/-- The blocks' parts sum to the gain's gradient. -/
theorem sum_parts (c : Dev nD) (j : S1x2048.Idx) :
    (∑ p : Fin cfg0.N, partAt m c p j) = dG (m ((c : Thread nD τ).loc main_arg0)) (m ((c : Thread nD τ).loc main_arg2)) (j 1) := by
  unfold dG
  symm
  refine (Fin.sum_univ_tiles 8 512 rfl _).trans ?_
  refine Finset.sum_congr rfl fun p _ => ?_
  unfold partAt partG
  refine Finset.sum_congr rfl fun r _ => ?_
  rw [funext fun k => read_x m c p r k, read_x m c p r (j 1), read_d m c p r (j 1)]
  rfl

/-- THE GAIN'S GRADIENT, whole. -/
theorem final6 (c : Dev nD) : (dats m 0 c).arrAt 6 (cfgs 0).N
    = fun i => dG (m ((c : Thread nD τ).loc main_arg0)) (m ((c : Thread nD τ).loc main_arg2)) (i 1) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun t j => partAt m c t j)
    (fun t h j => by rw [zero_add]; exact dg_first m c t h j)
    (fun t h j => dg_later m c t h j)
    (le_of_eq N_0) t0_7 rfl j, zero_add]
  exact sum_parts m c j

end Cert.NormKernelIdeal.Value

namespace Cert.NormReferenceIdeal.Value

open Cert.NormReferenceIdeal Cert.NormReferenceIdeal.Read Cert.NormRow

theorem ref_dx (X : FVec Ideal S4096x2048 .f32) (G : FVec Ideal S2048 .f32) (D : FVec Ideal S4096x2048 .bf16) (U : FVec Ideal S4096x2048 .f32) (r : Fin 4096) (j : Fin 2048) :
    val_main_v37 (F := Ideal) X G D U (ix2 r j) = Cert.NormKernelIdeal.Value.dX X G D U r j := by
  unfold Cert.NormKernelIdeal.Value.dX
  rw [← dRow_eq _ _ _ _ width]
  unfold dMean rstd meanSq
  pointwise [val_main_v37, val_main_v36, val_main_v35, val_main_v34, val_main_v33, val_main_v32, val_main_v31, val_main_v30, val_main_v29, val_main_v28, val_main_v27, val_main_v26, val_main_v25, val_main_v24, val_main_v23, val_main_v21, val_main_v20, val_main_v16, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]

theorem ref_copy (X : FVec Ideal S4096x2048 .f32) (G : FVec Ideal S2048 .f32) (D : FVec Ideal S4096x2048 .bf16) (U : FVec Ideal S4096x2048 .f32) (r : Fin 4096) (j : Fin 2048) :
    val_main_v38 (F := Ideal) X G D U (ix2 r j) = Cert.NormKernelIdeal.Value.dX X G D U r j := by
  rw [val_main_v38_apply]
  exact ref_dx X G D U r j

theorem ref_dg (X : FVec Ideal S4096x2048 .f32) (D : FVec Ideal S4096x2048 .bf16) (z : Fin 1) (j : Fin 2048) :
    val_main_v39 (F := Ideal) X D (ix2 z j) = Cert.NormKernelIdeal.Value.dG X D j := by
  unfold Cert.NormKernelIdeal.Value.dG rstd meanSq
  refine Eq.trans ?_ (Finset.sum_congr rfl fun r _ => mul_comm _ _)
  pointwise [val_main_v39, val_main_v22, val_main_v19, val_main_v18, val_main_v17, val_main_v12, val_main_v11, val_main_v16, val_main_v7, val_main_v6, val_main_v5, val_main_v4, val_main_v3, val_main_v2, val_main_v1, val_main_v0, val_main_cst, val_main_cst_0, val_main_cst_1, val_main_cst_3, val_main_cst_4]
  simp only [Fin.sum_univ_one]

end Cert.NormReferenceIdeal.Value

namespace Cert.Proof

attribute [local instance] Cert.NormKernelIdeal.Gen.facts Cert.NormReferenceIdeal.Gen.facts

/-- The kernel's three gradients of the norm are the plain ones, for every row. -/
theorem norm_value : Cert.algebraic_NormKernelIdeal_NormReferenceIdeal := by
  intro m g m' g' hpre hag
  refine ⟨fun c => (Cert.NormKernelIdeal.Gen.dats m 0 c).arrAt 4 Cert.NormKernelIdeal.cfg0.N,
    fun c => (Cert.NormKernelIdeal.Gen.dats m 0 c).arrAt 5 Cert.NormKernelIdeal.cfg0.N,
    fun c => (Cert.NormKernelIdeal.Gen.dats m 0 c).arrAt 6 Cert.NormKernelIdeal.cfg0.N, Cert.NormKernelIdeal.Value.run_blocks m g,
    (θ_run _ _ _).mono (fun r h c => ?_) (Cert.NormReferenceIdeal.Value.run m' g')⟩
  obtain ⟨h0, h1, h2, h3⟩ := h c
  obtain ⟨e0, e1, e2, e3⟩ := hag c
  refine ⟨h0.trans ((Cert.NormReferenceIdeal.Read.val_main_v37_eq _ _ _ _).trans ?_),
    h1.trans ((Cert.NormReferenceIdeal.Read.val_main_v38_eq m' c).trans ?_),
    h2.trans ((Cert.NormReferenceIdeal.Read.val_main_v39_eq _ _).trans ?_), h3⟩
  · rw [e0, e1, e2, e3]
    refine Eq.trans ?_ (Cert.NormKernelIdeal.Value.final4 m c).symm
    funext i
    exact (congrArg _ (eq_ix2 i)).trans (Cert.NormReferenceIdeal.Value.ref_dx _ _ _ _ (i 0) (i 1))
  · rw [e0, e1, e2, e3]
    refine Eq.trans ?_ (Cert.NormKernelIdeal.Value.final5 m c).symm
    funext i
    exact (congrArg _ (eq_ix2 i)).trans (Cert.NormReferenceIdeal.Value.ref_copy _ _ _ _ (i 0) (i 1))
  · rw [e0, e2]
    refine Eq.trans ?_ (Cert.NormKernelIdeal.Value.final6 m c).symm
    funext i
    exact (congrArg _ (eq_ix2 i)).trans (Cert.NormReferenceIdeal.Value.ref_dg _ _ (i 0) (i 1))

end Cert.Proof
-- ==== Proof.Mix.lean ====
module

public import proofs.«01_k».proof.Defs
public import proofs.«01_k».proof.Proof.Gen.MixKernelIdeal.Value
public import proofs.«01_k».proof.Proof.Gen.MixReferenceIdeal.Read
public import Idealize.ShloMosaic.Lib.Pipeline.ValueKit
public import Idealize.ShloMosaic.Lib.Pointwise

/-!
# The gradient of the mixed heads: the cotangent against the output projection's rows
-/

@[expose] public section

set_option maxRecDepth 16384

noncomputable section

open Idealize.ShloMosaic Idealize.ShloMosaic.TcCoe Idealize.SL.Sem

namespace Cert.MixKernelIdeal.Value

open Cert.MixKernelIdeal Cert.MixKernelIdeal.Gen

/-- The gradient of the mixed heads, of row `r` and column `j`. -/
def dMix (W : FVec Ideal S2048x2048 .bf16) (D : FVec Ideal S4096x2048 .bf16) (r : Fin 4096) (j : Fin 2048) : EReal :=
  ∑ k : Fin 2048, D (ix2 r k) * W (ix2 j k)

/-- One tile of the body: rows of the one block against rows of the other. -/
theorem tile_at (x : FVec Ideal S1024x2048 .bf16) (w : FVec Ideal S1024x2048 .bf16) (r : Fin 1024) (j : Fin 1024) :
    k0_pay1 (F := Ideal) x w (ix2 r j) = ∑ k : Fin 2048, x (ix2 r k) * w (ix2 j k) := by
  pointwise [k0_pay1]

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ t.val < 8 :=
  (by decide +kernel : ∀ t : Fin grid0.N, _)

/-- The row of the whole array at row `r` of block `t`. -/
def rowAt (t : Fin cfg0.N) (r : Fin 1024) : Fin 4096 := ⟨t.val / 2 * 1024 + r.val, by have := (idx t).2.2.2; omega⟩

/-- The column of the whole array at column `j` of block `t`. -/
def colAt (t : Fin cfg0.N) (j : Fin 1024) : Fin 2048 := ⟨t.val % 2 * 1024 + j.val, by omega⟩

theorem read_rows (D : FVec Ideal S4096x2048 .bf16) (t : Fin cfg0.N) (r : Fin 1024) (k : Fin 2048) :
    ((cfg0.win 0).blk t).view.read (Elt Ideal) D (ix2 r k) = D (ix2 (rowAt t r) k) := by
  unfold rowAt
  blk_point [idx t]

theorem read_weight (W : FVec Ideal S2048x2048 .bf16) (t : Fin cfg0.N) (j : Fin 1024) (k : Fin 2048) :
    ((cfg0.win 1).blk t).view.read (Elt Ideal) W (ix2 j k) = W (ix2 (colAt t j) k) := by
  unfold colAt
  blk_point [idx t]

/-- The gradient of the mixed heads, whole. -/
theorem mixArray (c : Dev nD) : (dats m 0 c).arrAt 2 (cfgs 0).N
    = fun i => dMix (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = rowAt t (y 0) := by
    apply Fin.ext
    blk_simp [idx t, rowAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_rows _ t (y 0) k) (read_weight _ t (y 1) k)

end Cert.MixKernelIdeal.Value

namespace Cert.MixReferenceIdeal.Value

open Cert.MixReferenceIdeal Cert.MixReferenceIdeal.Read

theorem ref_at (W : FVec Ideal S2048x2048 .bf16) (D : FVec Ideal S4096x2048 .bf16) (r : Fin 4096) (j : Fin 2048) :
    val_main_v5 (F := Ideal) W D (ix2 r j) = Cert.MixKernelIdeal.Value.dMix W D r j := by
  unfold Cert.MixKernelIdeal.Value.dMix
  pointwise [val_main_v5, val_main_v4, val_main_v3, val_main_v1]

end Cert.MixReferenceIdeal.Value

namespace Cert.Proof

attribute [local instance] Cert.MixKernelIdeal.Gen.facts Cert.MixReferenceIdeal.Gen.facts

/-- The kernel's gradient of the mixed heads is the plain gradient. -/
theorem mix_value : Cert.algebraic_MixKernelIdeal_MixReferenceIdeal := by
  intro m g m' g' hpre hag
  refine ⟨fun c => (Cert.MixKernelIdeal.Gen.dats m 0 c).arrAt 2 Cert.MixKernelIdeal.cfg0.N, Cert.MixKernelIdeal.Value.run_blocks m g,
    (θ_run _ _ _).mono (fun r h c => ?_) (Cert.MixReferenceIdeal.Value.run m' g')⟩
  obtain ⟨h0, h1⟩ := h c
  obtain ⟨e0, e1⟩ := hag c
  refine ⟨h0.trans ((Cert.MixReferenceIdeal.Read.val_main_v5_eq _ _).trans ?_), h1⟩
  rw [e0, e1]
  refine Eq.trans ?_ (Cert.MixKernelIdeal.Value.mixArray m c).symm
  funext i
  exact (congrArg _ (eq_ix2 i)).trans (Cert.MixReferenceIdeal.Value.ref_at _ _ (i 0) (i 1))

end Cert.Proof
-- ==== Proof.Dwout.lean ====
module

public import proofs.«01_k».proof.Defs
public import proofs.«01_k».proof.Proof.Gen.DwoutKernelIdeal.Value
public import proofs.«01_k».proof.Proof.Gen.DwoutReferenceIdeal.Read
public import Idealize.ShloMosaic.Lib.Pipeline.ValueKit
public import Idealize.ShloMosaic.Lib.Pointwise

/-!
# The gradient of the output projection: the mixed heads' columns against the cotangent's
-/

@[expose] public section

set_option maxRecDepth 16384

noncomputable section

open Idealize.ShloMosaic Idealize.ShloMosaic.TcCoe Idealize.SL.Sem

namespace Cert.DwoutKernelIdeal.Value

open Cert.DwoutKernelIdeal Cert.DwoutKernelIdeal.Gen

/-- The weight gradient of input column `j` and column `k`. -/
def dOut (A : FVec Ideal S4096x2048 .bf16) (D : FVec Ideal S4096x2048 .bf16) (j : Fin 2048) (k : Fin 2048) : EReal :=
  ∑ r : Fin 4096, A (ix2 r j) * D (ix2 r k)

/-- One tile of the body: columns of the one block against columns of the other. -/
theorem tile_at (x : FVec Ideal S4096x1024 .bf16) (w : FVec Ideal S4096x512 .bf16) (j : Fin 1024) (k : Fin 512) :
    k0_pay1 (F := Ideal) x w (ix2 j k) = ∑ r : Fin 4096, x (ix2 r j) * w (ix2 r k) := by
  pointwise [k0_pay1]

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] ∧ t.val < 8 :=
  (by decide +kernel : ∀ t : Fin grid0.N, _)

/-- The input column of the whole array at column `j` of block `t`. -/
def inAt (t : Fin cfg0.N) (j : Fin 1024) : Fin 2048 := ⟨t.val / 4 * 1024 + j.val, by have := (idx t).2.2.2; omega⟩

/-- The column of the whole array at column `k` of block `t`. -/
def colAt (t : Fin cfg0.N) (k : Fin 512) : Fin 2048 := ⟨t.val % 4 * 512 + k.val, by omega⟩

theorem read_act (A : FVec Ideal S4096x2048 .bf16) (t : Fin cfg0.N) (r : Fin 4096) (j : Fin 1024) :
    ((cfg0.win 0).blk t).view.read (Elt Ideal) A (ix2 r j) = A (ix2 r (inAt t j)) := by
  unfold inAt
  blk_point [idx t]

theorem read_cot (D : FVec Ideal S4096x2048 .bf16) (t : Fin cfg0.N) (r : Fin 4096) (k : Fin 512) :
    ((cfg0.win 1).blk t).view.read (Elt Ideal) D (ix2 r k) = D (ix2 r (colAt t k)) := by
  unfold colAt
  blk_point [idx t]

/-- The weight gradient, whole. -/
theorem outArray (c : Dev nD) : (dats m 0 c).arrAt 2 (cfgs 0).N
    = fun i => dOut (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = inAt t (y 0) := by
    apply Fin.ext
    blk_simp [idx t, inAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_act _ t k (y 0)) (read_cot _ t k (y 1))

end Cert.DwoutKernelIdeal.Value

namespace Cert.DwoutReferenceIdeal.Value

open Cert.DwoutReferenceIdeal Cert.DwoutReferenceIdeal.Read

theorem ref_at (A : FVec Ideal S4096x2048 .bf16) (D : FVec Ideal S4096x2048 .bf16) (j : Fin 2048) (k : Fin 2048) :
    val_main_v6 (F := Ideal) A D (ix2 j k) = Cert.DwoutKernelIdeal.Value.dOut A D j k := by
  unfold Cert.DwoutKernelIdeal.Value.dOut
  refine Eq.trans ?_ (Finset.sum_congr rfl fun r _ => mul_comm _ _)
  pointwise [val_main_v6, val_main_v5, val_main_v4, val_main_v3, val_main_v1, val_main_v0]

end Cert.DwoutReferenceIdeal.Value

namespace Cert.Proof

attribute [local instance] Cert.DwoutKernelIdeal.Gen.facts Cert.DwoutReferenceIdeal.Gen.facts

/-- The kernel's gradient of the output projection is the plain gradient. -/
theorem out_value : Cert.algebraic_DwoutKernelIdeal_DwoutReferenceIdeal := by
  intro m g m' g' hpre hag
  refine ⟨fun c => (Cert.DwoutKernelIdeal.Gen.dats m 0 c).arrAt 2 Cert.DwoutKernelIdeal.cfg0.N, Cert.DwoutKernelIdeal.Value.run_blocks m g,
    (θ_run _ _ _).mono (fun r h c => ?_) (Cert.DwoutReferenceIdeal.Value.run m' g')⟩
  obtain ⟨h0, h1⟩ := h c
  obtain ⟨e0, e1⟩ := hag c
  refine ⟨h0.trans ((Cert.DwoutReferenceIdeal.Read.val_main_v6_eq _ _).trans ?_), h1⟩
  rw [e0, e1]
  refine Eq.trans ?_ (Cert.DwoutKernelIdeal.Value.outArray m c).symm
  funext i
  exact (congrArg _ (eq_ix2 i)).trans (Cert.DwoutReferenceIdeal.Value.ref_at _ _ (i 0) (i 1))

end Cert.Proof
-- ==== Proof.Dha.lean ====
module

public import proofs.«01_k».proof.Defs
public import proofs.«01_k».proof.Proof.Gen.DhaKernelIdeal.Value
public import proofs.«01_k».proof.Proof.Gen.DhaReferenceIdeal.Read
public import Idealize.ShloMosaic.Lib.Pipeline.ValueKit
public import Idealize.ShloMosaic.Lib.Pointwise

/-!
# The gradient of the input projection's rows: the cotangent against the projection's rows
-/

@[expose] public section

set_option maxRecDepth 16384

noncomputable section

open Idealize.ShloMosaic Idealize.ShloMosaic.TcCoe Idealize.SL.Sem

namespace Cert.DhaKernelIdeal.Value

open Cert.DhaKernelIdeal Cert.DhaKernelIdeal.Gen

/-- The gradient of the input projection's rows, of row `r` and column `j`. -/
def dIn (W : FVec Ideal S2048x3584 .bf16) (D : FVec Ideal S4096x3584 .bf16) (r : Fin 4096) (j : Fin 2048) : EReal :=
  ∑ k : Fin 3584, D (ix2 r k) * W (ix2 j k)

/-- One tile of the body: rows of the one block against rows of the other. -/
theorem tile_at (x : FVec Ideal S1024x3584 .bf16) (w : FVec Ideal S1024x3584 .bf16) (r : Fin 1024) (j : Fin 1024) :
    k0_pay1 (F := Ideal) x w (ix2 r j) = ∑ k : Fin 3584, x (ix2 r k) * w (ix2 j k) := by
  pointwise [k0_pay1]

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ t.val < 8 :=
  (by decide +kernel : ∀ t : Fin grid0.N, _)

/-- The row of the whole array at row `r` of block `t`. -/
def rowAt (t : Fin cfg0.N) (r : Fin 1024) : Fin 4096 := ⟨t.val / 2 * 1024 + r.val, by have := (idx t).2.2.2; omega⟩

/-- The column of the whole array at column `j` of block `t`. -/
def colAt (t : Fin cfg0.N) (j : Fin 1024) : Fin 2048 := ⟨t.val % 2 * 1024 + j.val, by omega⟩

theorem read_rows (D : FVec Ideal S4096x3584 .bf16) (t : Fin cfg0.N) (r : Fin 1024) (k : Fin 3584) :
    ((cfg0.win 0).blk t).view.read (Elt Ideal) D (ix2 r k) = D (ix2 (rowAt t r) k) := by
  unfold rowAt
  blk_point [idx t]

theorem read_weight (W : FVec Ideal S2048x3584 .bf16) (t : Fin cfg0.N) (j : Fin 1024) (k : Fin 3584) :
    ((cfg0.win 1).blk t).view.read (Elt Ideal) W (ix2 j k) = W (ix2 (colAt t j) k) := by
  unfold colAt
  blk_point [idx t]

/-- The gradient of the input projection's rows, whole. -/
theorem inRowArray (c : Dev nD) : (dats m 0 c).arrAt 2 (cfgs 0).N
    = fun i => dIn (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = rowAt t (y 0) := by
    apply Fin.ext
    blk_simp [idx t, rowAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_rows _ t (y 0) k) (read_weight _ t (y 1) k)

end Cert.DhaKernelIdeal.Value

namespace Cert.DhaReferenceIdeal.Value

open Cert.DhaReferenceIdeal Cert.DhaReferenceIdeal.Read

theorem ref_at (W : FVec Ideal S2048x3584 .bf16) (D : FVec Ideal S4096x3584 .bf16) (r : Fin 4096) (j : Fin 2048) :
    val_main_v5 (F := Ideal) W D (ix2 r j) = Cert.DhaKernelIdeal.Value.dIn W D r j := by
  unfold Cert.DhaKernelIdeal.Value.dIn
  pointwise [val_main_v5, val_main_v4, val_main_v3, val_main_v1]

end Cert.DhaReferenceIdeal.Value

namespace Cert.Proof

attribute [local instance] Cert.DhaKernelIdeal.Gen.facts Cert.DhaReferenceIdeal.Gen.facts

/-- The kernel's gradient of the input projection's rows is the plain gradient. -/
theorem inrow_value : Cert.algebraic_DhaKernelIdeal_DhaReferenceIdeal := by
  intro m g m' g' hpre hag
  refine ⟨fun c => (Cert.DhaKernelIdeal.Gen.dats m 0 c).arrAt 2 Cert.DhaKernelIdeal.cfg0.N, Cert.DhaKernelIdeal.Value.run_blocks m g,
    (θ_run _ _ _).mono (fun r h c => ?_) (Cert.DhaReferenceIdeal.Value.run m' g')⟩
  obtain ⟨h0, h1⟩ := h c
  obtain ⟨e0, e1⟩ := hag c
  refine ⟨h0.trans ((Cert.DhaReferenceIdeal.Read.val_main_v5_eq _ _).trans ?_), h1⟩
  rw [e0, e1]
  refine Eq.trans ?_ (Cert.DhaKernelIdeal.Value.inRowArray m c).symm
  funext i
  exact (congrArg _ (eq_ix2 i)).trans (Cert.DhaReferenceIdeal.Value.ref_at _ _ (i 0) (i 1))

end Cert.Proof
-- ==== Proof.Dwina.lean ====
module

public import proofs.«01_k».proof.Defs
public import proofs.«01_k».proof.Proof.Gen.DwinaKernelIdeal.Value
public import proofs.«01_k».proof.Proof.Gen.DwinaReferenceIdeal.Read
public import Idealize.ShloMosaic.Lib.Pipeline.ValueKit
public import Idealize.ShloMosaic.Lib.Pointwise

/-!
# The gradient of the input projection: the normed rows' columns against the cotangent's
-/

@[expose] public section

set_option maxRecDepth 16384

noncomputable section

open Idealize.ShloMosaic Idealize.ShloMosaic.TcCoe Idealize.SL.Sem

namespace Cert.DwinaKernelIdeal.Value

open Cert.DwinaKernelIdeal Cert.DwinaKernelIdeal.Gen

/-- The weight gradient of input column `j` and column `k`. -/
def dProj (A : FVec Ideal S4096x2048 .bf16) (D : FVec Ideal S4096x3584 .bf16) (j : Fin 2048) (k : Fin 3584) : EReal :=
  ∑ r : Fin 4096, A (ix2 r j) * D (ix2 r k)

/-- One tile of the body: columns of the one block against columns of the other. -/
theorem tile_at (x : FVec Ideal S4096x1024 .bf16) (w : FVec Ideal S4096x512 .bf16) (j : Fin 1024) (k : Fin 512) :
    k0_pay1 (F := Ideal) x w (ix2 j k) = ∑ r : Fin 4096, x (ix2 r j) * w (ix2 r k) := by
  pointwise [k0_pay1]

variable (m : (ℓ : Loc nD τ sig) → Buf (Elt Ideal) ℓ)

theorem idx : ∀ t : Fin cfg0.N, win0_0.index t = ![0, t.val / 7] ∧ win0_1.index t = ![0, t.val % 7] ∧ win0_2.index t = ![t.val / 7, t.val % 7] ∧ t.val < 14 :=
  (by decide +kernel : ∀ t : Fin grid0.N, _)

/-- The input column of the whole array at column `j` of block `t`. -/
def inAt (t : Fin cfg0.N) (j : Fin 1024) : Fin 2048 := ⟨t.val / 7 * 1024 + j.val, by have := (idx t).2.2.2; omega⟩

/-- The column of the whole array at column `k` of block `t`. -/
def colAt (t : Fin cfg0.N) (k : Fin 512) : Fin 3584 := ⟨t.val % 7 * 512 + k.val, by omega⟩

theorem read_act (A : FVec Ideal S4096x2048 .bf16) (t : Fin cfg0.N) (r : Fin 4096) (j : Fin 1024) :
    ((cfg0.win 0).blk t).view.read (Elt Ideal) A (ix2 r j) = A (ix2 r (inAt t j)) := by
  unfold inAt
  blk_point [idx t]

theorem read_cot (D : FVec Ideal S4096x3584 .bf16) (t : Fin cfg0.N) (r : Fin 4096) (k : Fin 512) :
    ((cfg0.win 1).blk t).view.read (Elt Ideal) D (ix2 r k) = D (ix2 r (colAt t k)) := by
  unfold colAt
  blk_point [idx t]

/-- The weight gradient, whole. -/
theorem inArray (c : Dev nD) : (dats m 0 c).arrAt 2 (cfgs 0).N
    = fun i => dProj (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = inAt t (y 0) := by
    apply Fin.ext
    blk_simp [idx t, inAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_act _ t k (y 0)) (read_cot _ t k (y 1))

end Cert.DwinaKernelIdeal.Value

namespace Cert.DwinaReferenceIdeal.Value

open Cert.DwinaReferenceIdeal Cert.DwinaReferenceIdeal.Read

theorem ref_at (A : FVec Ideal S4096x2048 .bf16) (D : FVec Ideal S4096x3584 .bf16) (j : Fin 2048) (k : Fin 3584) :
    val_main_v6 (F := Ideal) A D (ix2 j k) = Cert.DwinaKernelIdeal.Value.dProj A D j k := by
  unfold Cert.DwinaKernelIdeal.Value.dProj
  refine Eq.trans ?_ (Finset.sum_congr rfl fun r _ => mul_comm _ _)
  pointwise [val_main_v6, val_main_v5, val_main_v4, val_main_v3, val_main_v1, val_main_v0]

end Cert.DwinaReferenceIdeal.Value

namespace Cert.Proof

attribute [local instance] Cert.DwinaKernelIdeal.Gen.facts Cert.DwinaReferenceIdeal.Gen.facts

/-- The kernel's gradient of the input projection is the plain gradient. -/
theorem in_value : Cert.algebraic_DwinaKernelIdeal_DwinaReferenceIdeal := by
  intro m g m' g' hpre hag
  refine ⟨fun c => (Cert.DwinaKernelIdeal.Gen.dats m 0 c).arrAt 2 Cert.DwinaKernelIdeal.cfg0.N, Cert.DwinaKernelIdeal.Value.run_blocks m g,
    (θ_run _ _ _).mono (fun r h c => ?_) (Cert.DwinaReferenceIdeal.Value.run m' g')⟩
  obtain ⟨h0, h1⟩ := h c
  obtain ⟨e0, e1⟩ := hag c
  refine ⟨h0.trans ((Cert.DwinaReferenceIdeal.Read.val_main_v6_eq _ _).trans ?_), h1⟩
  rw [e0, e1]
  refine Eq.trans ?_ (Cert.DwinaKernelIdeal.Value.inArray m c).symm
  funext i
  exact (congrArg _ (eq_ix2 i)).trans (Cert.DwinaReferenceIdeal.Value.ref_at _ _ (i 0) (i 1))

end Cert.Proof
-- ==== Proof.Fup.lean ====
module

public import proofs.«01_k».proof.Defs
public import proofs.«01_k».proof.Proof.Gen.FupKernelIdeal.Value
public import proofs.«01_k».proof.Proof.Gen.FupReferenceIdeal.Read
public import Idealize.ShloMosaic.Lib.Pipeline.ValueKit
public import Idealize.ShloMosaic.Lib.Pointwise

/-!
# The up-projection: the normed rows against the weights' eight column blocks

The result lies in the same eight blocks: point `t` computes 1024 rows of block `t % 8`.
-/

@[expose] public section

set_option maxRecDepth 16384

noncomputable section

open Idealize.ShloMosaic Idealize.ShloMosaic.TcCoe Idealize.SL.Sem

namespace Cert.FupKernelIdeal.Value

open Cert.FupKernelIdeal Cert.FupKernelIdeal.Gen

/-- The up-projection of row `r` at channel `j` of block `n`. -/
def upOf (H : FVec Ideal S4096x2048 .bf16) (W : FVec Ideal S8x2048x1408 .bf16) (n : Fin 8) (r : Fin 4096) (j : Fin 1408) : EReal :=
  ∑ k : Fin 2048, H (ix2 r k) * W (ix3 n k j)

/-- One tile of the body: rows of the one block against columns of the other. -/
theorem tile_at (x : FVec Ideal S1024x2048 .bf16) (w : FVec Ideal S1x2048x1408 .bf16) (z : Fin 1) (r : Fin 1024) (j : Fin 1408) :
    k0_pay1 (F := Ideal) x w (ix3 z r j) = ∑ k : Fin 2048, x (ix2 r k) * w (ix3 0 k j) := by
  pointwise [k0_pay1]

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val % 8, t.val / 8, 0] ∧ t.val < 32 :=
  (by decide +kernel : ∀ t : Fin grid0.N, _)

/-- The block of columns that point `t` computes. -/
def blockAt (t : Fin cfg0.N) : Fin 8 := ⟨t.val % 8, by omega⟩

/-- The row of the whole array at row `r` of point `t`. -/
def rowAt (t : Fin cfg0.N) (r : Fin 1024) : Fin 4096 := ⟨t.val / 8 * 1024 + r.val, by have := (idx t).2.2.2; omega⟩

theorem read_rows (H : FVec Ideal S4096x2048 .bf16) (t : Fin cfg0.N) (r : Fin 1024) (k : Fin 2048) :
    ((cfg0.win 0).blk t).view.read (Elt Ideal) H (ix2 r k) = H (ix2 (rowAt t r) k) := by
  unfold rowAt
  blk_point [idx t]

theorem read_weight (W : FVec Ideal S8x2048x1408 .bf16) (t : Fin cfg0.N) (k : Fin 2048) (j : Fin 1408) :
    ((cfg0.win 1).blk t).view.read (Elt Ideal) W (ix3 0 k j) = W (ix3 (blockAt t) k j) := by
  unfold blockAt
  blk_point [idx t]

/-- The up-projection, whole. -/
theorem upArray (c : Dev nD) : (dats m 0 c).arrAt 2 (cfgs 0).N
    = fun i => upOf (m ((c : Thread nD τ).loc main_arg0)) (m ((c : Thread nD τ).loc main_arg1)) (i 0) (i 1) (i 2) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = blockAt t := by
    have := (y 0).isLt
    change (y 0 : ℕ) < 1 at this
    apply Fin.ext
    blk_simp [idx t, blockAt]
    try omega
  have e1 : (((cfg0.win 2).blk t).view.emb y) 1 = rowAt t (y 1) := by
    apply Fin.ext
    blk_simp [idx t, rowAt]
  have e2 : (((cfg0.win 2).blk t).view.emb y) 2 = y 2 := by
    apply Fin.ext
    blk_simp [idx t]
  rw [e0, e1, e2]
  refine (congrArg _ (eq_ix3 y)).trans ((tile_at _ _ (y 0) (y 1) (y 2)).trans ?_)
  refine Finset.sum_congr rfl fun k _ => ?_
  exact congrArg₂ (fun a b : EReal => a * b) (read_rows _ t (y 1) k) (read_weight _ t k (y 2))

end Cert.FupKernelIdeal.Value

namespace Cert.FupReferenceIdeal.Value

open Cert.FupReferenceIdeal Cert.FupReferenceIdeal.Read

theorem ref_at (H : FVec Ideal S4096x2048 .bf16) (W : FVec Ideal S8x2048x1408 .bf16) (n : Fin 8) (r : Fin 4096) (j : Fin 1408) :
    val_main_v4 (F := Ideal) H W (ix3 n r j) = Cert.FupKernelIdeal.Value.upOf H W n r j := by
  unfold Cert.FupKernelIdeal.Value.upOf
  refine Eq.trans ?_ (Finset.sum_congr rfl fun k _ => mul_comm _ _)
  pointwise [val_main_v4, val_main_v3, val_main_v2, val_main_v1, val_main_v0]

end Cert.FupReferenceIdeal.Value

namespace Cert.Proof

attribute [local instance] Cert.FupKernelIdeal.Gen.facts Cert.FupReferenceIdeal.Gen.facts

/-- The kernel's up-projection is the plain one. -/
theorem fup_value : Cert.algebraic_FupKernelIdeal_FupReferenceIdeal := by
  intro m g m' g' hpre hag
  refine ⟨fun c => (Cert.FupKernelIdeal.Gen.dats m 0 c).arrAt 2 Cert.FupKernelIdeal.cfg0.N, Cert.FupKernelIdeal.Value.run_blocks m g,
    (θ_run _ _ _).mono (fun r h c => ?_) (Cert.FupReferenceIdeal.Value.run m' g')⟩
  obtain ⟨h0, h1⟩ := h c
  obtain ⟨e0, e1⟩ := hag c
  refine ⟨h0.trans ((Cert.FupReferenceIdeal.Read.val_main_v4_eq _ _).trans ?_), h1⟩
  rw [e0, e1]
  refine Eq.trans ?_ (Cert.FupKernelIdeal.Value.upArray m c).symm
  funext i
  exact (congrArg _ (eq_ix3 i)).trans (Cert.FupReferenceIdeal.Value.ref_at _ _ (i 0) (i 1) (i 2))

end Cert.Proof
-- ==== Proof.Fdown.lean ====
module

public import proofs.«01_k».proof.Defs
public import proofs.«01_k».proof.Proof.Gen.FdownKernelIdeal.Value
public import proofs.«01_k».proof.Proof.Gen.FdownReferenceIdeal.Read
public import Idealize.ShloMosaic.Lib.Pipeline.ValueKit
public import Idealize.ShloMosaic.Lib.Pointwise

/-!
# The down-projection added to the residual rows
-/

@[expose] public section

set_option maxRecDepth 16384

noncomputable section

open Idealize.ShloMosaic Idealize.ShloMosaic.TcCoe Idealize.SL.Sem

namespace Cert.FdownKernelIdeal.Value

open Cert.FdownKernelIdeal Cert.FdownKernelIdeal.Gen

/-- The residual row `r` at column `j`, with the down-projection of the activations' row. -/
def downOf (A : FVec Ideal S4096x5632 .bf16) (W : FVec Ideal S5632x2048 .bf16) (X : FVec Ideal S4096x2048 .f32) (r : Fin 4096) (j : Fin 2048) : EReal :=
  X (ix2 r j) + ∑ k : Fin 5632, A (ix2 r k) * W (ix2 k j)

/-- One tile of the body: rows of the one block against columns of the other, and the residual's tile. -/
theorem tile_at (a : FVec Ideal S512x5632 .bf16) (w : FVec Ideal S5632x1024 .bf16) (x : FVec Ideal S512x1024 .f32) (r : Fin 512) (j : Fin 1024) :
    k0_pay1 (F := Ideal) a w x (ix2 r j) = x (ix2 r j) + ∑ k : Fin 5632, a (ix2 r k) * w (ix2 k j) := by
  refine Eq.trans ?_ (add_comm _ _)
  pointwise [k0_pay1]

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2]
    ∧ win0_3.index t = ![t.val / 2, t.val % 2] ∧ t.val < 16 :=
  (by decide +kernel : ∀ t : Fin grid0.N, _)

/-- The row of the whole array at row `r` of point `t`. -/
def rowAt (t : Fin cfg0.N) (r : Fin 512) : Fin 4096 := ⟨t.val / 2 * 512 + r.val, by have := (idx t).2.2.2.2; omega⟩

/-- The column of the whole array at column `j` of point `t`. -/
def colAt (t : Fin cfg0.N) (j : Fin 1024) : Fin 2048 := ⟨t.val % 2 * 1024 + j.val, by omega⟩

theorem read_act (A : FVec Ideal S4096x5632 .bf16) (t : Fin cfg0.N) (r : Fin 512) (k : Fin 5632) :
    ((cfg0.win 0).blk t).view.read (Elt Ideal) A (ix2 r k) = A (ix2 (rowAt t r) k) := by
  unfold rowAt
  blk_point [idx t]

theorem read_weight (W : FVec Ideal S5632x2048 .bf16) (t : Fin cfg0.N) (k : Fin 5632) (j : Fin 1024) :
    ((cfg0.win 1).blk t).view.read (Elt Ideal) W (ix2 k j) = W (ix2 k (colAt t j)) := by
  unfold colAt
  blk_point [idx t]

theorem read_res (X : FVec Ideal S4096x2048 .f32) (t : Fin cfg0.N) (r : Fin 512) (j : Fin 1024) :
    ((cfg0.win 2).blk t).view.read (Elt Ideal) X (ix2 r j) = X (ix2 (rowAt t r) (colAt t j)) := by
  unfold rowAt colAt
  blk_point [idx t]

/-- The rows after the down-projection, whole. -/
theorem downArray (c : Dev nD) : (dats m 0 c).arrAt 3 (cfgs 0).N
    = fun i => downOf (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]
  have hp : out0_3 (iblk m c 0 t) (iblk m c 1 t) (iblk m c 2 t) y = k0_pay1 (F := Ideal) (iblk m c 0 t) (iblk m c 1 t) (iblk m c 2 t) y := by
    frame_out
  refine hp.trans ?_
  have e0 : (((cfg0.win 3).blk t).view.emb y) 0 = rowAt t (y 0) := by
    apply Fin.ext
    blk_simp [idx t, rowAt]
  have e1 : (((cfg0.win 3).blk t).view.emb y) 1 = colAt t (y 1) := by
    apply Fin.ext
    blk_simp [idx t, colAt]
  rw [e0, e1]
  refine (congrArg _ (eq_ix2 y)).trans ((tile_at _ _ _ (y 0) (y 1)).trans ?_)
  refine congrArg₂ (fun a b : EReal => a + b) (read_res _ t (y 0) (y 1)) (Finset.sum_congr rfl fun k _ => ?_)
  exact congrArg₂ (fun a b : EReal => a * b) (read_act _ t (y 0) k) (read_weight _ t k (y 1))

end Cert.FdownKernelIdeal.Value

namespace Cert.FdownReferenceIdeal.Value

open Cert.FdownReferenceIdeal Cert.FdownReferenceIdeal.Read

theorem ref_at (A : FVec Ideal S4096x5632 .bf16) (W : FVec Ideal S5632x2048 .bf16) (X : FVec Ideal S4096x2048 .f32) (r : Fin 4096) (j : Fin 2048) :
    val_main_v3 (F := Ideal) A W X (ix2 r j) = Cert.FdownKernelIdeal.Value.downOf A W X r j := by
  unfold Cert.FdownKernelIdeal.Value.downOf
  pointwise [val_main_v3, val_main_v2, val_main_v1, val_main_v0]

end Cert.FdownReferenceIdeal.Value

namespace Cert.Proof

attribute [local instance] Cert.FdownKernelIdeal.Gen.facts Cert.FdownReferenceIdeal.Gen.facts

/-- The kernel's down-projection with the residual is the plain one. -/
theorem fdown_value : Cert.algebraic_FdownKernelIdeal_FdownReferenceIdeal := by
  intro m g m' g' hpre hag
  refine ⟨fun c => (Cert.FdownKernelIdeal.Gen.dats m 0 c).arrAt 3 Cert.FdownKernelIdeal.cfg0.N, Cert.FdownKernelIdeal.Value.run_blocks m g,
    (θ_run _ _ _).mono (fun r h c => ?_) (Cert.FdownReferenceIdeal.Value.run m' g')⟩
  obtain ⟨h0, h1⟩ := h c
  obtain ⟨e0, e1, e2⟩ := hag c
  refine ⟨h0.trans ((Cert.FdownReferenceIdeal.Read.val_main_v3_eq _ _ _).trans ?_), h1⟩
  rw [e0, e1, e2]
  refine Eq.trans ?_ (Cert.FdownKernelIdeal.Value.downArray m c).symm
  funext i
  exact (congrArg _ (eq_ix2 i)).trans (Cert.FdownReferenceIdeal.Value.ref_at _ _ _ (i 0) (i 1))

end Cert.Proof
-- ==== Proof.Fout.lean ====
module

public import proofs.«01_k».proof.Defs
public import proofs.«01_k».proof.Proof.Gen.FoutKernelIdeal.Value
public import proofs.«01_k».proof.Proof.Gen.FoutReferenceIdeal.Read
public import Idealize.ShloMosaic.Lib.Pipeline.ValueKit
public import Idealize.ShloMosaic.Lib.Pointwise

/-!
# The output projection added to the residual rows
-/

@[expose] public section

set_option maxRecDepth 16384

noncomputable section

open Idealize.ShloMosaic Idealize.ShloMosaic.TcCoe Idealize.SL.Sem

namespace Cert.FoutKernelIdeal.Value

open Cert.FoutKernelIdeal Cert.FoutKernelIdeal.Gen

/-- The residual row `r` at column `j`, with the output projection of the mixed heads' row. -/
def outOf (A : FVec Ideal S4096x2048 .bf16) (W : FVec Ideal S2048x2048 .bf16) (X : FVec Ideal S4096x2048 .f32) (r : Fin 4096) (j : Fin 2048) : EReal :=
  X (ix2 r j) + ∑ k : Fin 2048, A (ix2 r k) * W (ix2 k j)

/-- One tile of the body: rows of the one block against columns of the other, and the residual's tile. -/
theorem tile_at (a : FVec Ideal S1024x2048 .bf16) (w : FVec Ideal S2048x1024 .bf16) (x : FVec Ideal S1024x1024 .f32) (r : Fin 1024) (j : Fin 1024) :
    k0_pay1 (F := Ideal) a w x (ix2 r j) = x (ix2 r j) + ∑ k : Fin 2048, a (ix2 r k) * w (ix2 k j) := by
  refine Eq.trans ?_ (add_comm _ _)
  pointwise [k0_pay1]

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2]
    ∧ win0_3.index t = ![t.val / 2, t.val % 2] ∧ t.val < 8 :=
  (by decide +kernel : ∀ t : Fin grid0.N, _)

/-- The row of the whole array at row `r` of point `t`. -/
def rowAt (t : Fin cfg0.N) (r : Fin 1024) : Fin 4096 := ⟨t.val / 2 * 1024 + r.val, by have := (idx t).2.2.2.2; omega⟩

/-- The column of the whole array at column `j` of point `t`. -/
def colAt (t : Fin cfg0.N) (j : Fin 1024) : Fin 2048 := ⟨t.val % 2 * 1024 + j.val, by omega⟩

theorem read_mix (A : FVec Ideal S4096x2048 .bf16) (t : Fin cfg0.N) (r : Fin 1024) (k : Fin 2048) :
    ((cfg0.win 0).blk t).view.read (Elt Ideal) A (ix2 r k) = A (ix2 (rowAt t r) k) := by
  unfold rowAt
  blk_point [idx t]

theorem read_weight (W : FVec Ideal S2048x2048 .bf16) (t : Fin cfg0.N) (k : Fin 2048) (j : Fin 1024) :
    ((cfg0.win 1).blk t).view.read (Elt Ideal) W (ix2 k j) = W (ix2 k (colAt t j)) := by
  unfold colAt
  blk_point [idx t]

theorem read_res (X : FVec Ideal S4096x2048 .f32) (t : Fin cfg0.N) (r : Fin 1024) (j : Fin 1024) :
    ((cfg0.win 2).blk t).view.read (Elt Ideal) X (ix2 r j) = X (ix2 (rowAt t r) (colAt t j)) := by
  unfold rowAt colAt
  blk_point [idx t]

/-- The rows after the output projection, whole. -/
theorem outArray (c : Dev nD) : (dats m 0 c).arrAt 3 (cfgs 0).N
    = fun i => outOf (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]
  have hp : out0_3 (iblk m c 0 t) (iblk m c 1 t) (iblk m c 2 t) y = k0_pay1 (F := Ideal) (iblk m c 0 t) (iblk m c 1 t) (iblk m c 2 t) y := by
    frame_out
  refine hp.trans ?_
  have e0 : (((cfg0.win 3).blk t).view.emb y) 0 = rowAt t (y 0) := by
    apply Fin.ext
    blk_simp [idx t, rowAt]
  have e1 : (((cfg0.win 3).blk t).view.emb y) 1 = colAt t (y 1) := by
    apply Fin.ext
    blk_simp [idx t, colAt]
  rw [e0, e1]
  refine (congrArg _ (eq_ix2 y)).trans ((tile_at _ _ _ (y 0) (y 1)).trans ?_)
  refine congrArg₂ (fun a b : EReal => a + b) (read_res _ t (y 0) (y 1)) (Finset.sum_congr rfl fun k _ => ?_)
  exact congrArg₂ (fun a b : EReal => a * b) (read_mix _ t (y 0) k) (read_weight _ t k (y 1))

end Cert.FoutKernelIdeal.Value

namespace Cert.FoutReferenceIdeal.Value

open Cert.FoutReferenceIdeal Cert.FoutReferenceIdeal.Read

theorem ref_at (A : FVec Ideal S4096x2048 .bf16) (W : FVec Ideal S2048x2048 .bf16) (X : FVec Ideal S4096x2048 .f32) (r : Fin 4096) (j : Fin 2048) :
    val_main_v3 (F := Ideal) A W X (ix2 r j) = Cert.FoutKernelIdeal.Value.outOf A W X r j := by
  unfold Cert.FoutKernelIdeal.Value.outOf
  pointwise [val_main_v3, val_main_v2, val_main_v1, val_main_v0]

end Cert.FoutReferenceIdeal.Value

namespace Cert.Proof

attribute [local instance] Cert.FoutKernelIdeal.Gen.facts Cert.FoutReferenceIdeal.Gen.facts

/-- The kernel's output projection with the residual is the plain one. -/
theorem fout_value : Cert.algebraic_FoutKernelIdeal_FoutReferenceIdeal := by
  intro m g m' g' hpre hag
  refine ⟨fun c => (Cert.FoutKernelIdeal.Gen.dats m 0 c).arrAt 3 Cert.FoutKernelIdeal.cfg0.N, Cert.FoutKernelIdeal.Value.run_blocks m g,
    (θ_run _ _ _).mono (fun r h c => ?_) (Cert.FoutReferenceIdeal.Value.run m' g')⟩
  obtain ⟨h0, h1⟩ := h c
  obtain ⟨e0, e1, e2⟩ := hag c
  refine ⟨h0.trans ((Cert.FoutReferenceIdeal.Read.val_main_v3_eq _ _ _).trans ?_), h1⟩
  rw [e0, e1, e2]
  refine Eq.trans ?_ (Cert.FoutKernelIdeal.Value.outArray m c).symm
  funext i
  exact (congrArg _ (eq_ix2 i)).trans (Cert.FoutReferenceIdeal.Value.ref_at _ _ _ (i 0) (i 1))

end Cert.Proof
-- ==== Proof.Fina.lean ====
module

public import proofs.«01_k».proof.Defs
public import proofs.«01_k».proof.Proof.Gen.FinaKernelIdeal.Value
public import proofs.«01_k».proof.Proof.Gen.FinaReferenceIdeal.Read
public import Idealize.ShloMosaic.Lib.Pipeline.ValueKit
public import Idealize.ShloMosaic.Lib.Pointwise

/-!
# The first two layers' input projection: the normed rows against the projection's columns
-/

@[expose] public section

set_option maxRecDepth 16384

noncomputable section

open Idealize.ShloMosaic Idealize.ShloMosaic.TcCoe Idealize.SL.Sem

namespace Cert.FinaKernelIdeal.Value

open Cert.FinaKernelIdeal Cert.FinaKernelIdeal.Gen

/-- The input projection of row `r` at column `j`. -/
def inOf (H : FVec Ideal S4096x2048 .bf16) (W : FVec Ideal S2048x3584 .bf16) (r : Fin 4096) (j : Fin 3584) : EReal :=
  ∑ k : Fin 2048, H (ix2 r k) * W (ix2 k j)

/-- One tile of the body: rows of the one block against columns of the other. -/
theorem tile_at (x : FVec Ideal S1024x2048 .bf16) (w : FVec Ideal S2048x1792 .bf16) (r : Fin 1024) (j : Fin 1792) :
    k0_pay1 (F := Ideal) x w (ix2 r j) = ∑ k : Fin 2048, x (ix2 r k) * w (ix2 k j) := by
  pointwise [k0_pay1]

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] ∧ t.val < 8 :=
  (by decide +kernel : ∀ t : Fin grid0.N, _)

/-- The row of the whole array at row `r` of point `t`. -/
def rowAt (t : Fin cfg0.N) (r : Fin 1024) : Fin 4096 := ⟨t.val / 2 * 1024 + r.val, by have := (idx t).2.2.2; omega⟩

/-- The column of the whole array at column `j` of point `t`. -/
def colAt (t : Fin cfg0.N) (j : Fin 1792) : Fin 3584 := ⟨t.val % 2 * 1792 + j.val, by omega⟩

theorem read_rows (H : FVec Ideal S4096x2048 .bf16) (t : Fin cfg0.N) (r : Fin 1024) (k : Fin 2048) :
    ((cfg0.win 0).blk t).view.read (Elt Ideal) H (ix2 r k) = H (ix2 (rowAt t r) k) := by
  unfold rowAt
  blk_point [idx t]

theorem read_weight (W : FVec Ideal S2048x3584 .bf16) (t : Fin cfg0.N) (k : Fin 2048) (j : Fin 1792) :
    ((cfg0.win 1).blk t).view.read (Elt Ideal) W (ix2 k j) = W (ix2 k (colAt t j)) := by
  unfold colAt
  blk_point [idx t]

/-- The input projection, whole. -/
theorem inArray (c : Dev nD) : (dats m 0 c).arrAt 2 (cfgs 0).N
    = fun i => inOf (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = rowAt t (y 0) := by
    apply Fin.ext
    blk_simp [idx t, rowAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_rows _ t (y 0) k) (read_weight _ t k (y 1))

end Cert.FinaKernelIdeal.Value

namespace Cert.FinaReferenceIdeal.Value

open Cert.FinaReferenceIdeal Cert.FinaReferenceIdeal.Read

theorem ref_at (H : FVec Ideal S4096x2048 .bf16) (W : FVec Ideal S2048x3584 .bf16) (r : Fin 4096) (j : Fin 3584) :
    val_main_v3 (F := Ideal) H W (ix2 r j) = Cert.FinaKernelIdeal.Value.inOf H W r j := by
  unfold Cert.FinaKernelIdeal.Value.inOf
  pointwise [val_main_v3, val_main_v2, val_main_v1, val_main_v0]

end Cert.FinaReferenceIdeal.Value

namespace Cert.Proof

attribute [local instance] Cert.FinaKernelIdeal.Gen.facts Cert.FinaReferenceIdeal.Gen.facts

/-- The kernel's input projection is the plain one. -/
theorem fin_value : Cert.algebraic_FinaKernelIdeal_FinaReferenceIdeal := by
  intro m g m' g' hpre hag
  refine ⟨fun c => (Cert.FinaKernelIdeal.Gen.dats m 0 c).arrAt 2 Cert.FinaKernelIdeal.cfg0.N, Cert.FinaKernelIdeal.Value.run_blocks m g,
    (θ_run _ _ _).mono (fun r h c => ?_) (Cert.FinaReferenceIdeal.Value.run m' g')⟩
  obtain ⟨h0, h1⟩ := h c
  obtain ⟨e0, e1⟩ := hag c
  refine ⟨h0.trans ((Cert.FinaReferenceIdeal.Read.val_main_v3_eq _ _).trans ?_), h1⟩
  rw [e0, e1]
  refine Eq.trans ?_ (Cert.FinaKernelIdeal.Value.inArray m c).symm
  funext i
  exact (congrArg _ (eq_ix2 i)).trans (Cert.FinaReferenceIdeal.Value.ref_at _ _ (i 0) (i 1))

end Cert.Proof
-- ==== Proof.Dhb.lean ====
module

public import proofs.«01_k».proof.Defs
public import proofs.«01_k».proof.Proof.Gen.DhbKernelIdeal.Value
public import proofs.«01_k».proof.Proof.Gen.DhbReferenceIdeal.Read
public import Idealize.ShloMosaic.Lib.Pipeline.ValueKit
public import Idealize.ShloMosaic.Lib.Pointwise

/-!
# The gradient of the last two layers' input projection's rows: the cotangent against the projection's rows
-/

@[expose] public section

set_option maxRecDepth 16384

noncomputable section

open Idealize.ShloMosaic Idealize.ShloMosaic.TcCoe Idealize.SL.Sem

namespace Cert.DhbKernelIdeal.Value

open Cert.DhbKernelIdeal Cert.DhbKernelIdeal.Gen

/-- The gradient of the input projection's rows, of row `r` and column `j`. -/
def dIn (W : FVec Ideal S2048x1024 .bf16) (D : FVec Ideal S4096x1024 .bf16) (r : Fin 4096) (j : Fin 2048) : EReal :=
  ∑ k : Fin 1024, D (ix2 r k) * W (ix2 j k)

/-- One tile of the body: rows of the one block against rows of the other. -/
theorem tile_at (x : FVec Ideal S1024x1024 .bf16) (w : FVec Ideal S1024x1024 .bf16) (r : Fin 1024) (j : Fin 1024) :
    k0_pay1 (F := Ideal) x w (ix2 r j) = ∑ k : Fin 1024, x (ix2 r k) * w (ix2 j k) := by
  pointwise [k0_pay1]

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ t.val < 8 :=
  (by decide +kernel : ∀ t : Fin grid0.N, _)

/-- The row of the whole array at row `r` of block `t`. -/
def rowAt (t : Fin cfg0.N) (r : Fin 1024) : Fin 4096 := ⟨t.val / 2 * 1024 + r.val, by have := (idx t).2.2.2; omega⟩

/-- The column of the whole array at column `j` of block `t`. -/
def colAt (t : Fin cfg0.N) (j : Fin 1024) : Fin 2048 := ⟨t.val % 2 * 1024 + j.val, by omega⟩

theorem read_rows (D : FVec Ideal S4096x1024 .bf16) (t : Fin cfg0.N) (r : Fin 1024) (k : Fin 1024) :
    ((cfg0.win 0).blk t).view.read (Elt Ideal) D (ix2 r k) = D (ix2 (rowAt t r) k) := by
  unfold rowAt
  blk_point [idx t]

theorem read_weight (W : FVec Ideal S2048x1024 .bf16) (t : Fin cfg0.N) (j : Fin 1024) (k : Fin 1024) :
    ((cfg0.win 1).blk t).view.read (Elt Ideal) W (ix2 j k) = W (ix2 (colAt t j) k) := by
  unfold colAt
  blk_point [idx t]

/-- The gradient of the input projection's rows, whole. -/
theorem inRowArray (c : Dev nD) : (dats m 0 c).arrAt 2 (cfgs 0).N
    = fun i => dIn (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = rowAt t (y 0) := by
    apply Fin.ext
    blk_simp [idx t, rowAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_rows _ t (y 0) k) (read_weight _ t (y 1) k)

end Cert.DhbKernelIdeal.Value

namespace Cert.DhbReferenceIdeal.Value

open Cert.DhbReferenceIdeal Cert.DhbReferenceIdeal.Read

theorem ref_at (W : FVec Ideal S2048x1024 .bf16) (D : FVec Ideal S4096x1024 .bf16) (r : Fin 4096) (j : Fin 2048) :
    val_main_v5 (F := Ideal) W D (ix2 r j) = Cert.DhbKernelIdeal.Value.dIn W D r j := by
  unfold Cert.DhbKernelIdeal.Value.dIn
  pointwise [val_main_v5, val_main_v4, val_main_v3, val_main_v1]

end Cert.DhbReferenceIdeal.Value

namespace Cert.Proof

attribute [local instance] Cert.DhbKernelIdeal.Gen.facts Cert.DhbReferenceIdeal.Gen.facts

/-- The kernel's gradient of the input projection's rows is the plain gradient. -/
theorem inrowb_value : Cert.algebraic_DhbKernelIdeal_DhbReferenceIdeal := by
  intro m g m' g' hpre hag
  refine ⟨fun c => (Cert.DhbKernelIdeal.Gen.dats m 0 c).arrAt 2 Cert.DhbKernelIdeal.cfg0.N, Cert.DhbKernelIdeal.Value.run_blocks m g,
    (θ_run _ _ _).mono (fun r h c => ?_) (Cert.DhbReferenceIdeal.Value.run m' g')⟩
  obtain ⟨h0, h1⟩ := h c
  obtain ⟨e0, e1⟩ := hag c
  refine ⟨h0.trans ((Cert.DhbReferenceIdeal.Read.val_main_v5_eq _ _).trans ?_), h1⟩
  rw [e0, e1]
  refine Eq.trans ?_ (Cert.DhbKernelIdeal.Value.inRowArray m c).symm
  funext i
  exact (congrArg _ (eq_ix2 i)).trans (Cert.DhbReferenceIdeal.Value.ref_at _ _ (i 0) (i 1))

end Cert.Proof
-- ==== Proof.Dwinb.lean ====
module

public import proofs.«01_k».proof.Defs
public import proofs.«01_k».proof.Proof.Gen.DwinbKernelIdeal.Value
public import proofs.«01_k».proof.Proof.Gen.DwinbReferenceIdeal.Read
public import Idealize.ShloMosaic.Lib.Pipeline.ValueKit
public import Idealize.ShloMosaic.Lib.Pointwise

/-!
# The gradient of the last two layers' input projection: the normed rows' columns against the cotangent's
-/

@[expose] public section

set_option maxRecDepth 16384

noncomputable section

open Idealize.ShloMosaic Idealize.ShloMosaic.TcCoe Idealize.SL.Sem

namespace Cert.DwinbKernelIdeal.Value

open Cert.DwinbKernelIdeal Cert.DwinbKernelIdeal.Gen

/-- The weight gradient of input column `j` and column `k`. -/
def dProj (A : FVec Ideal S4096x2048 .bf16) (D : FVec Ideal S4096x1024 .bf16) (j : Fin 2048) (k : Fin 1024) : EReal :=
  ∑ r : Fin 4096, A (ix2 r j) * D (ix2 r k)

/-- One tile of the body: columns of the one block against columns of the other. -/
theorem tile_at (x : FVec Ideal S4096x1024 .bf16) (w : FVec Ideal S4096x512 .bf16) (j : Fin 1024) (k : Fin 512) :
    k0_pay1 (F := Ideal) x w (ix2 j k) = ∑ r : Fin 4096, x (ix2 r j) * w (ix2 r k) := by
  pointwise [k0_pay1]

variable (m : (ℓ : Loc nD τ sig) → Buf (Elt Ideal) ℓ)

theorem idx : ∀ t : Fin cfg0.N, win0_0.index t = ![0, t.val / 2] ∧ win0_1.index t = ![0, t.val % 2] ∧ win0_2.index t = ![t.val / 2, t.val % 2] ∧ t.val < 4 :=
  (by decide +kernel : ∀ t : Fin grid0.N, _)

/-- The input column of the whole array at column `j` of block `t`. -/
def inAt (t : Fin cfg0.N) (j : Fin 1024) : Fin 2048 := ⟨t.val / 2 * 1024 + j.val, by have := (idx t).2.2.2; omega⟩

/-- The column of the whole array at column `k` of block `t`. -/
def colAt (t : Fin cfg0.N) (k : Fin 512) : Fin 1024 := ⟨t.val % 2 * 512 + k.val, by omega⟩

theorem read_act (A : FVec Ideal S4096x2048 .bf16) (t : Fin cfg0.N) (r : Fin 4096) (j : Fin 1024) :
    ((cfg0.win 0).blk t).view.read (Elt Ideal) A (ix2 r j) = A (ix2 r (inAt t j)) := by
  unfold inAt
  blk_point [idx t]

theorem read_cot (D : FVec Ideal S4096x1024 .bf16) (t : Fin cfg0.N) (r : Fin 4096) (k : Fin 512) :
    ((cfg0.win 1).blk t).view.read (Elt Ideal) D (ix2 r k) = D (ix2 r (colAt t k)) := by
  unfold colAt
  blk_point [idx t]

/-- The weight gradient, whole. -/
theorem inArray (c : Dev nD) : (dats m 0 c).arrAt 2 (cfgs 0).N
    = fun i => dProj (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = inAt t (y 0) := by
    apply Fin.ext
    blk_simp [idx t, inAt]
  have e1 : (((cfg0.win 2).blk t).view.emb y) 1 = colAt t (y 1) := by
    apply Fin.ext
    blk_simp [idx t, colAt]
  rw [e0, e1]
  refine (congrArg _ (eq_ix2 y)).trans ((tile_at _ _ (y 0) (y 1)).trans ?_)
  refine Finset.sum_congr rfl fun k _ => ?_
  exact congrArg₂ (fun a b : EReal => a * b) (read_act _ t k (y 0)) (read_cot _ t k (y 1))

end Cert.DwinbKernelIdeal.Value

namespace Cert.DwinbReferenceIdeal.Value

open Cert.DwinbReferenceIdeal Cert.DwinbReferenceIdeal.Read

theorem ref_at (A : FVec Ideal S4096x2048 .bf16) (D : FVec Ideal S4096x1024 .bf16) (j : Fin 2048) (k : Fin 1024) :
    val_main_v6 (F := Ideal) A D (ix2 j k) = Cert.DwinbKernelIdeal.Value.dProj A D j k := by
  unfold Cert.DwinbKernelIdeal.Value.dProj
  refine Eq.trans ?_ (Finset.sum_congr rfl fun r _ => mul_comm _ _)
  pointwise [val_main_v6, val_main_v5, val_main_v4, val_main_v3, val_main_v1, val_main_v0]

end Cert.DwinbReferenceIdeal.Value

namespace Cert.Proof

attribute [local instance] Cert.DwinbKernelIdeal.Gen.facts Cert.DwinbReferenceIdeal.Gen.facts

/-- The kernel's gradient of the input projection is the plain gradient. -/
theorem inb_value : Cert.algebraic_DwinbKernelIdeal_DwinbReferenceIdeal := by
  intro m g m' g' hpre hag
  refine ⟨fun c => (Cert.DwinbKernelIdeal.Gen.dats m 0 c).arrAt 2 Cert.DwinbKernelIdeal.cfg0.N, Cert.DwinbKernelIdeal.Value.run_blocks m g,
    (θ_run _ _ _).mono (fun r h c => ?_) (Cert.DwinbReferenceIdeal.Value.run m' g')⟩
  obtain ⟨h0, h1⟩ := h c
  obtain ⟨e0, e1⟩ := hag c
  refine ⟨h0.trans ((Cert.DwinbReferenceIdeal.Read.val_main_v6_eq _ _).trans ?_), h1⟩
  rw [e0, e1]
  refine Eq.trans ?_ (Cert.DwinbKernelIdeal.Value.inArray m c).symm
  funext i
  exact (congrArg _ (eq_ix2 i)).trans (Cert.DwinbReferenceIdeal.Value.ref_at _ _ (i 0) (i 1))

end Cert.Proof
-- ==== Proof.MhafRow.lean ====
module

public import proofs.«01_k».proof.Proof.MlaRow
public import proofs.«01_k».proof.Proof.MlaLoop

/-!
# One row of a softmax taken block by block

The kernel walks a row's keys in blocks of 1024. It keeps the largest score so far, and sums of the
exponentials taken against that maximum; when a block raises the maximum, the sums are first scaled by
the exponential of the old maximum less the new one. After the last block the sums are the plain ones.
A row that has met no key yet has the maximum −∞.
-/

@[expose] public section

noncomputable section

open Idealize.ShloMosaic Idealize.ShloMosaic.TcCoe Idealize.SL.Sem

namespace Cert.MhafRow

open Cert.Softmax Cert.MlaHead

/-- Key `x` of block `k`. -/
def key (k : ℕ) (hk : k < 4) (x : Fin 1024) : Fin 4096 := ⟨1024 * k + x.val, by omega⟩

variable (s v : Fin 4096 → EReal)

/-- The largest score among the first `k` blocks. -/
def runTop (k : ℕ) : EReal := Finset.univ.fold max ⊥ fun c : Fin 4096 => if c.val < 1024 * k then s c else ⊥

/-- The sum over the first `k` blocks of `v`, weighted by the exponentials against `M`. -/
def runSum (k : ℕ) (M : EReal) : EReal := ∑ c : Fin 4096, if c.val < 1024 * k then Ideal.exp (s c - M) * v c else 0

theorem runTop_zero : runTop s 0 = ⊥ := by
  unfold runTop
  refine le_bot_iff.1 ((Finset.fold_max_le _).2 ⟨le_rfl, fun c _ => ?_⟩)
  rw [if_neg (by omega)]

theorem runSum_zero (M : EReal) : runSum s v 0 M = 0 :=
  Finset.sum_eq_zero fun c _ => if_neg (by omega)

/-- One more block of the maximum. -/
theorem runTop_next (k : ℕ) (hk : k < 4) :
    max (runTop s k) (Finset.univ.fold max ⊥ fun x : Fin 1024 => s (key k hk x)) = runTop s (k + 1) := by
  refine eq_of_forall_ge_iff fun z => ?_
  unfold runTop
  rw [max_le_iff, Finset.fold_max_le, Finset.fold_max_le, Finset.fold_max_le]
  constructor
  · rintro ⟨⟨_, h1⟩, _, h2⟩
    refine ⟨bot_le, fun c _ => ?_⟩
    by_cases h : c.val < 1024 * k
    · have := h1 c (Finset.mem_univ _)
      rw [if_pos h] at this
      rwa [if_pos (by omega)]
    · by_cases h' : c.val < 1024 * (k + 1)
      · rw [if_pos h']
        have := h2 ⟨c.val - 1024 * k, by omega⟩ (Finset.mem_univ _)
        have hc : key k hk ⟨c.val - 1024 * k, by omega⟩ = c := Fin.ext (by show 1024 * k + (c.val - 1024 * k) = c.val; omega)
        rwa [hc] at this
      · rw [if_neg h']
        exact bot_le
  · rintro ⟨_, h1⟩
    refine ⟨⟨bot_le, fun c _ => ?_⟩, bot_le, fun x _ => ?_⟩
    · by_cases h : c.val < 1024 * k
      · have := h1 c (Finset.mem_univ _)
        rw [if_pos (by omega)] at this
        rwa [if_pos h]
      · rw [if_neg h]
        exact bot_le
    · have := h1 (key k hk x) (Finset.mem_univ _)
      rwa [if_pos (by show 1024 * k + x.val < 1024 * (k + 1); omega)] at this

theorem runTop_lt_top (hs : ∀ c, s c < ⊤) (k : ℕ) : runTop s k < ⊤ := by
  refine (Finset.fold_max_lt _).2 ⟨bot_lt_top, fun c _ => ?_⟩
  split_ifs
  · exact hs c
  · exact bot_lt_top

/-- A row that has met a real score has a real maximum. -/
theorem runTop_real (hs : ∀ c, s c < ⊤) (k : ℕ) (c : Fin 4096) (hc : c.val < 1024 * k) (hr : IsReal (s c)) : IsReal (runTop s k) := by
  refine (finite_iff _).2 ⟨?_, (runTop_lt_top s hs k).ne⟩
  refine ne_of_gt ((Finset.lt_fold_max _).2 (Or.inr ⟨c, Finset.mem_univ _, ?_⟩))
  rw [if_pos hc]
  exact bot_lt_iff_ne_bot.2 ((finite_iff _).1 hr).1

theorem exp_bot_sub (M : EReal) : Ideal.exp (⊥ - M) = 0 := by
  rw [EReal.bot_sub]
  rfl

/-- Scaling an exponential from one maximum to another. -/
theorem exp_scale (hs : ∀ c, s c < ⊤) (k : ℕ) (c : Fin 4096) (hc : c.val < 1024 * k) {M' : EReal} (hM' : IsReal M') :
    Ideal.exp (s c - runTop s k) * Ideal.exp (runTop s k - M') = Ideal.exp (s c - M') := by
  obtain ⟨t', rfl⟩ := hM'
  by_cases hb : s c = ⊥
  · rw [hb, exp_bot_sub, exp_bot_sub, zero_mul]
  · have hr : IsReal (s c) := (finite_iff _).2 ⟨hb, (hs c).ne⟩
    obtain ⟨t, ht⟩ := runTop_real s hs k c hc hr
    obtain ⟨x, hx⟩ := hr
    rw [ht, hx]
    have h1 : ∀ a b : ℝ, Ideal.exp ((a : EReal) - (b : EReal)) = ((Real.exp (a - b) : ℝ) : EReal) := fun _ _ => rfl
    rw [h1, h1, h1, ← EReal.coe_mul, ← Real.exp_add]
    exact congrArg (fun y : ℝ => ((Real.exp y : ℝ) : EReal)) (by ring)

/-- The scale is a real number that is not negative. -/
theorem scale_real (hs : ∀ c, s c < ⊤) (k : ℕ) {M' : EReal} (hM' : IsReal M') :
    ∃ x : ℝ, 0 ≤ x ∧ Ideal.exp (runTop s k - M') = (x : EReal) := by
  by_cases hb : runTop s k = ⊥
  · exact ⟨0, le_rfl, by rw [hb, exp_bot_sub]; rfl⟩
  · obtain ⟨x, hx, e⟩ := positive_exp (((finite_iff _).2 ⟨hb, (runTop_lt_top s hs k).ne⟩ : IsReal (runTop s k)).sub hM')
    exact ⟨x, hx.le, e⟩

/-- One more block of a weighted sum. -/
theorem runSum_next (hs : ∀ c, s c < ⊤) (k : ℕ) (hk : k < 4) {M' : EReal} (hM' : IsReal M') :
    Ideal.exp (runTop s k - M') * runSum s v k (runTop s k) + ∑ x : Fin 1024, Ideal.exp (s (key k hk x) - M') * v (key k hk x)
      = runSum s v (k + 1) M' := by
  obtain ⟨x, hx, e⟩ := scale_real s hs k hM'
  unfold runSum
  rw [Cert.MlaKernelIdeal.Tiles.sum_next k hk]
  refine congrArg (· + _) ?_
  rw [mul_comm, e, sum_mul_real _ _ hx, ← e]
  refine Finset.sum_congr rfl fun c _ => ?_
  by_cases h : c.val < 1024 * k
  · rw [if_pos h, if_pos h, mul_right_comm, exp_scale s hs k c h hM']
  · rw [if_neg h, if_neg h, zero_mul]

/-! ### The causal row -/

variable (q : Fin 192 → EReal) (K : Fin 4096 → Fin 192 → EReal) (V : Fin 4096 → Fin 128 → EReal) (r : Fin 4096)

/-- Once the blocks reach past the query, the largest score so far is the largest of the row. -/
theorem runTop_all (k : ℕ) (hr : r.val < 1024 * k) : runTop (MlaRow.score q K r) k = MlaRow.top q K r := by
  unfold runTop MlaRow.top
  rw [neg_inf]
  refine congrArg (Finset.univ.fold max ⊥) (funext fun c => ?_)
  by_cases h : c.val < 1024 * k
  · rw [if_pos h]
  · rw [if_neg h, MlaRow.score_later q K r c (by omega)]

/-- Once the blocks reach past the query, the weighted sum is over the whole row. -/
theorem runSum_all (k : ℕ) (hr : r.val < 1024 * k) :
    runSum (MlaRow.score q K r) v k (MlaRow.top q K r) = ∑ c : Fin 4096, MlaRow.expo q K r c * v c := by
  refine Finset.sum_congr rfl fun c _ => ?_
  by_cases h : c.val < 1024 * k
  · rw [if_pos h]
    rfl
  · rw [if_neg h, MlaRow.expo_later q K r c (by omega), zero_mul]

/-- Dividing the weighted sum by the total gives the plain output. -/
theorem output_eq (hq : ∀ e, IsReal (q e)) (hK : ∀ c e, IsReal (K c e)) (d : Fin 128) :
    Ideal.div (∑ c : Fin 4096, MlaRow.expo q K r c * V c d) (MlaRow.total q K r) = MlaRow.output q K V r d := by
  obtain ⟨L, hL, e⟩ := MlaRow.total_positive q K r hq hK
  unfold MlaRow.output MlaRow.prob
  rw [e, div_positive hL, sum_mul_real _ _ (inv_pos.2 hL).le]
  refine Finset.sum_congr rfl fun c _ => ?_
  rw [div_positive hL]
  ac_rfl

end Cert.MhafRow

end
-- ==== Proof.MhafHead.lean ====
module

public import proofs.«01_k».proof.Proof.MhafRow
public import proofs.«01_k».proof.Proof.Gen.MhafKernelIdeal.Frame
public import Idealize.ShloMosaic.Lib.Pointwise
public import Idealize.ShloMosaic.Lib.WordCmp

/-!
# The causal attention's forward pass, one block of keys

What the body computes from a block of queries, a block of keys and values, and the three running values
of each row: the maximum, the sum of the exponentials, and the weighted sum of the values.
-/

@[expose] public section

set_option maxRecDepth 16384

noncomputable section

open Idealize.ShloMosaic Idealize.ShloMosaic.TcCoe Idealize.SL.Sem

namespace Cert.MhafHead

open Cert.MhafKernelIdeal Cert.MhafKernelIdeal.Gen Cert.MlaHead Cert.Softmax

/-- The named mask stands for −∞. -/
theorem mask : (Named.named κ "mask" (0xF149F2CA#32 : BitVec (FTy.bits .f32)) : Ideal .f32) = (⊥ : EReal) :=
  IdealRules.named_const.ideal_named_scalar _ _ _ _ rfl

variable (q : FVec Ideal S1024x192 .bf16) (k : FVec Ideal S1x1024x192 .bf16) (v : FVec Ideal S1024x128 .bf16)
  (M l : FVec Ideal S1024x1 .f32) (a : FVec Ideal S1024x128 .f32) (r x : Fin 1024) (d : Fin 128)

/-- The scaled score of row `r` against the block's key `x`. -/
def dot : EReal := (∑ e : Fin 192, (q (ix2 r e) : EReal) * k (ix3 0 x e)) * scale

theorem score_off : k0_pay3 (F := Ideal) q k (ix2 r x) = dot q k r x := by
  pointwise [k0_pay3, dot, scale]

theorem top_off : k0_pay4 (F := Ideal) q k M (ix2 r 0) = max (M (ix2 r 0)) (Finset.univ.fold max ⊥ fun x => dot q k r x) := by
  pointwise [k0_pay4, score_off]
  rw [neg_inf]

theorem exp_off : k0_pay5 (F := Ideal) q k M (ix2 r x) = Ideal.exp (dot q k r x - k0_pay4 (F := Ideal) q k M (ix2 r 0)) := by
  pointwise [k0_pay5, score_off]

theorem alpha_off : k0_pay6 (F := Ideal) q k M (ix2 r 0) = Ideal.exp (M (ix2 r 0) - k0_pay4 (F := Ideal) q k M (ix2 r 0)) := by
  pointwise [k0_pay6]

theorem sum_off : (k0_pay7 (F := Ideal) q k M l (ix2 r 0) : EReal)
    = Ideal.exp (M (ix2 r 0) - k0_pay4 (F := Ideal) q k M (ix2 r 0)) * l (ix2 r 0)
      + ∑ x : Fin 1024, Ideal.exp (dot q k r x - k0_pay4 (F := Ideal) q k M (ix2 r 0)) := by
  pointwise [k0_pay7, alpha_off, exp_off]

theorem acc_off : (k0_pay8 (F := Ideal) q k v M a (ix2 r d) : EReal)
    = Ideal.exp (M (ix2 r 0) - k0_pay4 (F := Ideal) q k M (ix2 r 0)) * a (ix2 r d)
      + ∑ x : Fin 1024, Ideal.exp (dot q k r x - k0_pay4 (F := Ideal) q k M (ix2 r 0)) * (v (ix2 x d) : EReal) := by
  pointwise [k0_pay8, alpha_off, exp_off]

theorem keep_off : k0_pay19 (F := Ideal) M (ix2 r 0) = M (ix2 r 0) := by
  pointwise [k0_pay19]

theorem query_block (y : FVec Ideal S1x1024x192 .bf16) (e : Fin 192) : k0_pay15 (F := Ideal) y (ix2 r e) = y (ix3 0 r e) := by
  pointwise [k0_pay15]

theorem start_top : k0_pay16 (F := Ideal) (ix2 r 0) = (⊥ : EReal) := by
  pointwise [k0_pay16]
  exact mask

theorem start_sum : k0_pay17 (F := Ideal) (ix2 r 0) = (0 : EReal) := by
  pointwise [k0_pay17]

theorem start_acc : k0_pay18 (F := Ideal) (ix2 r d) = (0 : EReal) := by
  pointwise [k0_pay18]

/-! ### The diagonal block -/

variable (y : FVec Ideal S1x1024x192 .bf16)

/-- The row numbers of the diagonal block. -/
def rows : IVec S1024x1024 32 := iota .tc S1024x1024 32 [0] iota_S1024x1024_d0_w32

/-- The masked score of row `r` against the diagonal block's key `x`. -/
def mdot : EReal := if x.val ≤ r.val then dot (k0_pay15 y) k r x else ⊥

theorem score_diag : k0_pay22 (F := Ideal) (k0_pay21 y k) rows (ix2 r x) = mdot k r x y := by
  have hw := WordCmp.cmpi_sle_ofNat (w := 32) (a := x.val) (b := r.val) (by have := x.isLt; omega) (by have := r.isLt; omega)
  pointwise [k0_pay22, k0_pay21, rows, hw, mdot, dot, scale]
  rw [mask]

theorem top_diag : k0_pay23 (F := Ideal) (k0_pay21 y k) rows M (ix2 r 0)
    = max (M (ix2 r 0)) (Finset.univ.fold max ⊥ fun x => mdot k r x y) := by
  pointwise [k0_pay23, score_diag]
  rw [neg_inf]

theorem exp_diag : k0_pay24 (F := Ideal) (k0_pay21 y k) rows M (ix2 r x)
    = Ideal.exp (mdot k r x y - k0_pay23 (F := Ideal) (k0_pay21 y k) rows M (ix2 r 0)) := by
  pointwise [k0_pay24, score_diag]

theorem alpha_diag : k0_pay25 (F := Ideal) (k0_pay21 y k) rows M (ix2 r 0)
    = Ideal.exp (M (ix2 r 0) - k0_pay23 (F := Ideal) (k0_pay21 y k) rows M (ix2 r 0)) := by
  pointwise [k0_pay25]

theorem sum_diag : (k0_pay26 (F := Ideal) (k0_pay21 y k) rows M l (ix2 r 0) : EReal)
    = Ideal.exp (M (ix2 r 0) - k0_pay23 (F := Ideal) (k0_pay21 y k) rows M (ix2 r 0)) * l (ix2 r 0)
      + ∑ x : Fin 1024, Ideal.exp (mdot k r x y - k0_pay23 (F := Ideal) (k0_pay21 y k) rows M (ix2 r 0)) := by
  pointwise [k0_pay26, alpha_diag, exp_diag]

theorem acc_diag : (k0_pay27 (F := Ideal) v (k0_pay21 y k) rows M a (ix2 r d) : EReal)
    = Ideal.exp (M (ix2 r 0) - k0_pay23 (F := Ideal) (k0_pay21 y k) rows M (ix2 r 0)) * a (ix2 r d)
      + ∑ x : Fin 1024, Ideal.exp (mdot k r x y - k0_pay23 (F := Ideal) (k0_pay21 y k) rows M (ix2 r 0)) * (v (ix2 x d) : EReal) := by
  pointwise [k0_pay27, alpha_diag, exp_diag]

theorem keep_diag : k0_pay28 (F := Ideal) (k0_pay21 y k) rows M (ix2 r 0) = k0_pay23 (F := Ideal) (k0_pay21 y k) rows M (ix2 r 0) := by
  pointwise [k0_pay28]

/-! ### The results -/

theorem out_at : k0_pay1 (F := Ideal) (k0_pay29 l a) (ix2 r d) = Ideal.div (a (ix2 r d)) (l (ix2 r 0)) := by
  pointwise [k0_pay1, k0_pay29]

theorem sums_at : (k0_pay2 (F := Ideal) l M (ix3 0 r 0) : EReal) = M (ix2 r 0) + Ideal.log (l (ix2 r 0)) := by
  pointwise [k0_pay2]

end Cert.MhafHead

end
-- ==== Proof.MhafLoop.lean ====
module

public import proofs.«01_k».proof.Proof.MhafHead
public import Idealize.ShloMosaic.Lib.Pipeline.ReadBack
public import Idealize.ShloMosaic.Lib.VecWindow

/-!
# The forward pass's walk over the key blocks before the diagonal

After the first `k` blocks of keys the three running values of a row are the maximum, the sum of
exponentials and the weighted sum of values over the keys of those blocks.
-/

@[expose] public section

set_option maxRecDepth 16384

noncomputable section

open Idealize.ShloMosaic Idealize.ShloMosaic.TcCoe Idealize.SL.Sem

namespace Cert.MhafLoop

open Cert.MhafKernelIdeal Cert.MhafKernelIdeal.Gen Cert.MhafHead Cert.MhafRow Cert.Softmax

/-- A load of 1024 rows of a rank-2 buffer. -/
theorem readAt_rows {κ : Kind} {sp : Space} {R C : ℕ} {e : EltTy} (v : View sig κ sp (⟨2, ![R, C]⟩ : Shape) e)
    (f : v.ty.Contents (Elt Ideal)) {off : Fin 2 → ℕ} (inb : ∀ a, off a + (![1024, C] : Fin 2 → ℕ) a ≤ (⟨2, ![R, C]⟩ : Shape).size a)
    (o : ℕ) (hoff : off = ![o, 0]) (ho : o + 1024 ≤ R) (r : Fin 1024) (d : Fin C) :
    v.readAt (Elt Ideal) (Rect.unit (s := ⟨2, ![R, C]⟩) off ![1024, C] inb).toLoadRect f (ix2 r d)
      = v.read (Elt Ideal) f (ix2 ⟨o + r.val, by omega⟩ d) := by
  subst hoff
  refine congrArg (v.read (Elt Ideal) f) (funext fun a => Fin.ext ?_)
  fin_cases a
  · show o + 1 * r.val = o + r.val
    omega
  · show 0 + 1 * d.val = d.val
    omega

/-- A load of 1024 rows of the one matrix of a rank-3 buffer. -/
theorem readAt_rows3 {κ : Kind} {sp : Space} {R C : ℕ} {e : EltTy} (v : View sig κ sp (⟨3, ![1, R, C]⟩ : Shape) e)
    (f : v.ty.Contents (Elt Ideal)) {off : Fin 3 → ℕ} (inb : ∀ a, off a + (![1, 1024, C] : Fin 3 → ℕ) a ≤ (⟨3, ![1, R, C]⟩ : Shape).size a)
    (o : ℕ) (hoff : off = ![0, o, 0]) (ho : o + 1024 ≤ R) (r : Fin 1024) (d : Fin C) :
    v.readAt (Elt Ideal) (Rect.unit (s := ⟨3, ![1, R, C]⟩) off ![1, 1024, C] inb).toLoadRect f (ix3 0 r d)
      = v.read (Elt Ideal) f (ix3 0 ⟨o + r.val, by omega⟩ d) := by
  subst hoff
  refine congrArg (v.read (Elt Ideal) f) (funext fun a => Fin.ext ?_)
  fin_cases a
  · rfl
  · show o + 1 * r.val = o + r.val
    omega
  · show 0 + 1 * d.val = d.val
    omega

section
variable (q : FVec Ideal S1x1024x192 .bf16) (K : FVec Ideal S1x4096x192 .bf16) (V : FVec Ideal S4096x128 .bf16) (n : ℕ) (hn : n < 4)

/-- The place in the sequence of row `r` of the `n`-th block of queries. -/
def rowOf (r : Fin 1024) : Fin 4096 := ⟨1024 * n + r.val, by omega⟩

/-- The scores of row `r` of the `n`-th block of queries. -/
def scores (r : Fin 1024) : Fin 4096 → EReal :=
  MlaRow.score (fun e => q (ix3 0 r e)) (fun c e => K (ix3 0 c e)) (rowOf n hn r)

/-- The three running values after `k` blocks of keys. -/
structure Running (M l : FVec Ideal S1024x1 .f32) (a : FVec Ideal S1024x128 .f32) (k : ℕ) : Prop where
  top : ∀ r : Fin 1024, (M (ix2 r 0) : EReal) = runTop (scores q K n hn r) k
  sum : ∀ r : Fin 1024, (l (ix2 r 0) : EReal) = runSum (scores q K n hn r) (fun _ => 1) k (runTop (scores q K n hn r) k)
  acc : ∀ (r : Fin 1024) (d : Fin 128), (a (ix2 r d) : EReal) = runSum (scores q K n hn r) (fun c => V (ix2 c d)) k (runTop (scores q K n hn r) k)

variable (hq : ∀ r e, IsReal (q (ix3 0 r e))) (hK : ∀ c e, IsReal (K (ix3 0 c e)))

include hq hK in
theorem scores_lt (r : Fin 1024) (c : Fin 4096) : scores q K n hn r c < ⊤ :=
  MlaRow.score_lt_top _ _ _ (fun e => hq r e) (fun c e => hK c e) c

include hq hK in
theorem scores_real (r : Fin 1024) (c : Fin 4096) (h : c.val ≤ 1024 * n + r.val) : IsReal (scores q K n hn r c) :=
  MlaRow.score_le_real _ _ _ (fun e => hq r e) (fun c e => hK c e) c h

/-- The step of the running values: what a block of scores `b` and of values makes of them. -/
theorem running_next {M l : FVec Ideal S1024x1 .f32} {a : FVec Ideal S1024x128 .f32} {k : ℕ} (hk : k < 4)
    (hkn : k ≤ n) (h : Running q K V n hn M l a k) (hq : ∀ r e, IsReal (q (ix3 0 r e))) (hK : ∀ c e, IsReal (K (ix3 0 c e)))
    {M' l' : FVec Ideal S1024x1 .f32} {a' : FVec Ideal S1024x128 .f32}
    (b : Fin 1024 → Fin 1024 → EReal) (hb : ∀ r x, b r x = scores q K n hn r (key k hk x))
    (p : FVec Ideal S1024x1 .f32) (hp : ∀ r : Fin 1024, (M' (ix2 r 0) : EReal) = (p (ix2 r 0) : EReal))
    (hM : ∀ r : Fin 1024, (p (ix2 r 0) : EReal) = max ((M (ix2 r 0) : EReal)) (Finset.univ.fold max ⊥ fun x => b r x))
    (hl : ∀ r : Fin 1024, (l' (ix2 r 0) : EReal) = Ideal.exp ((M (ix2 r 0) : EReal) - (p (ix2 r 0) : EReal)) * (l (ix2 r 0) : EReal) + ∑ x : Fin 1024, Ideal.exp (b r x - (p (ix2 r 0) : EReal)))
    (ha : ∀ (r : Fin 1024) (d : Fin 128), (a' (ix2 r d) : EReal) = Ideal.exp ((M (ix2 r 0) : EReal) - (p (ix2 r 0) : EReal)) * (a (ix2 r d) : EReal)
      + ∑ x : Fin 1024, Ideal.exp (b r x - (p (ix2 r 0) : EReal)) * (V (ix2 (key k hk x) d) : EReal)) :
    Running q K V n hn M' l' a' (k + 1) := by
  have e : ∀ r, p (ix2 r 0) = runTop (scores q K n hn r) (k + 1) := fun r => by
    rw [hM r, h.top r, ← runTop_next _ k hk]
    exact congrArg (fun f => max _ (Finset.univ.fold max ⊥ f)) (funext fun x => hb r x)
  have hr : ∀ r, IsReal (runTop (scores q K n hn r) (k + 1)) := fun r =>
    runTop_real _ (scores_lt q K n hn hq hK r) (k + 1) ⟨1024 * k, by omega⟩ (by show 1024 * k < 1024 * (k + 1); omega)
      (scores_real q K n hn hq hK r _ (by show 1024 * k ≤ 1024 * n + r.val; omega))
  refine ⟨fun r => (hp r).trans (e r), fun r => ?_, fun r d => ?_⟩
  · rw [hl r, h.sum r, h.top r, e r, ← runSum_next _ _ (scores_lt q K n hn hq hK r) k hk (hr r)]
    simp only [hb, mul_one]
  · rw [ha r d, h.acc r d, h.top r, e r, ← runSum_next _ _ (scores_lt q K n hn hq hK r) k hk (hr r)]
    simp only [hb]
end

section
variable (𝒱 : Variants) (dv : Dev nD) (bd : Option 𝒱.V) (i : grid0.Coords) (arg2 : Memref sig .tc .vmem S1x1024x192 .bf16) (harg2 : arg2.IsWhole) (arg3 : Memref sig .tc .vmem S1x4096x192 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (v0 : Vec Ideal S1x1024x192 .bf16) (X_arg3 : BufTy.Contents (Elt Ideal) arg3.view.ty) (X_arg4 : BufTy.Contents (Elt Ideal) arg4.view.ty) (G_arg7 : BufTy.Contents (Elt Ideal) arg7.view.ty) (G_arg8 : BufTy.Contents (Elt Ideal) arg8.view.ty) (G_arg9 : BufTy.Contents (Elt Ideal) arg9.view.ty)

/-- One walked block: its three pieces. -/
theorem trip_pieces (k : Fin (k0_t1_loop i).trips) :
    tripL_k0_t1 (F := Ideal) 𝒱 dv bd i arg2 harg2 arg3 harg3 arg4 harg4 arg5 harg5 arg6 harg6 arg7 harg7 arg8 harg8 arg9 harg9 v0 X_arg3 X_arg4 k G_arg7 G_arg8 G_arg9
      = ([⟨Rect.unit ![0, 0] ![1024, 1] inb_S1024x1_S1024x1_0_0, k0_pay19 (k0_pay4 (k0_pay15 v0)
          (View.readAt (Elt Ideal) arg3.view (Rect.unit (s := S1x4096x192) (k0_off1 i k) S1x1024x192.size (k0_off1_inb i k)).toLoadRect X_arg3)
          (View.readAt (Elt Ideal) arg7.view (Rect.unit (s := S1024x1) ![0, 0] ![1024, 1] inb_S1024x1_S1024x1_0_0).toLoadRect G_arg7))⟩],
        [⟨Rect.unit ![0, 0] ![1024, 1] inb_S1024x1_S1024x1_0_0, k0_pay7 (k0_pay15 v0)
          (View.readAt (Elt Ideal) arg3.view (Rect.unit (s := S1x4096x192) (k0_off1 i k) S1x1024x192.size (k0_off1_inb i k)).toLoadRect X_arg3)
          (View.readAt (Elt Ideal) arg7.view (Rect.unit (s := S1024x1) ![0, 0] ![1024, 1] inb_S1024x1_S1024x1_0_0).toLoadRect G_arg7)
          (View.readAt (Elt Ideal) arg8.view (Rect.unit (s := S1024x1) ![0, 0] ![1024, 1] inb_S1024x1_S1024x1_0_0).toLoadRect G_arg8)⟩],
        [⟨Rect.unit ![0, 0] ![1024, 128] inb_S1024x128_S1024x128_0_0, k0_pay8 (k0_pay15 v0)
          (View.readAt (Elt Ideal) arg3.view (Rect.unit (s := S1x4096x192) (k0_off1 i k) S1x1024x192.size (k0_off1_inb i k)).toLoadRect X_arg3)
          (View.readAt (Elt Ideal) arg4.view (Rect.unit (s := S4096x128) (k0_off2 i k) S1024x128.size (k0_off2_inb i k)).toLoadRect X_arg4)
          (View.readAt (Elt Ideal) arg7.view (Rect.unit (s := S1024x1) ![0, 0] ![1024, 1] inb_S1024x1_S1024x1_0_0).toLoadRect G_arg7)
          (View.readAt (Elt Ideal) arg9.view (Rect.unit (s := S1024x128) ![0, 0] ![1024, 128] inb_S1024x128_S1024x128_0_0).toLoadRect G_arg9)⟩]) := by
  unfold tripL_k0_t1 trip_k0_t1
  sl_unfold_words
  rfl

variable {i} in
/-- The walk over the first `k` blocks of keys, which all lie before the block of queries. -/
theorem walk (n : ℕ) (hn : n < 4)
    (hq : ∀ r e, IsReal (v0 (ix3 0 r e))) (hK : ∀ c e, IsReal (arg3.view.read (Elt Ideal) X_arg3 (ix3 0 c e)))
    (h0 : Running v0 (arg3.view.read (Elt Ideal) X_arg3) (arg4.view.read (Elt Ideal) X_arg4) n hn
      (arg7.view.read (Elt Ideal) G_arg7) (arg8.view.read (Elt Ideal) G_arg8) (arg9.view.read (Elt Ideal) G_arg9) 0)
    (k : ℕ) (hk : k ≤ (k0_t1_loop i).trips) (hkn : k ≤ n) :
    Running v0 (arg3.view.read (Elt Ideal) X_arg3) (arg4.view.read (Elt Ideal) X_arg4) n hn
      (arg7.view.read (Elt Ideal) (arg7.view.writes (Elt Ideal) G_arg7 (pb_k0_t1 (F := Ideal) 𝒱 dv bd i arg2 harg2 arg3 harg3 arg4 harg4 arg5 harg5 arg6 harg6 arg7 harg7 arg8 harg8 arg9 harg9 v0 X_arg3 X_arg4 G_arg7 G_arg8 G_arg9 k).1))
      (arg8.view.read (Elt Ideal) (arg8.view.writes (Elt Ideal) G_arg8 (pb_k0_t1 (F := Ideal) 𝒱 dv bd i arg2 harg2 arg3 harg3 arg4 harg4 arg5 harg5 arg6 harg6 arg7 harg7 arg8 harg8 arg9 harg9 v0 X_arg3 X_arg4 G_arg7 G_arg8 G_arg9 k).2.1))
      (arg9.view.read (Elt Ideal) (arg9.view.writes (Elt Ideal) G_arg9 (pb_k0_t1 (F := Ideal) 𝒱 dv bd i arg2 harg2 arg3 harg3 arg4 harg4 arg5 harg5 arg6 harg6 arg7 harg7 arg8 harg8 arg9 harg9 v0 X_arg3 X_arg4 G_arg7 G_arg8 G_arg9 k).2.2)) k := by
  induction k with
  | zero => exact h0
  | succ k ih =>
    have h4 : k < 4 := by omega
    have hp := ih (Nat.le_of_succ_le hk) (by omega)
    rw [pb_k0_t1_succ 𝒱 dv bd i arg2 harg2 arg3 harg3 arg4 harg4 arg5 harg5 arg6 harg6 arg7 harg7 arg8 harg8 arg9 harg9 v0 X_arg3 X_arg4 G_arg7 G_arg8 G_arg9 ⟨k, hk⟩, trip_pieces]
    refine running_next v0 _ _ n hn h4 (by omega) hp hq hK
      (fun r x => dot (k0_pay15 v0)
        (View.readAt (Elt Ideal) arg3.view (Rect.unit (s := S1x4096x192) (k0_off1 i ⟨k, hk⟩) S1x1024x192.size (k0_off1_inb i ⟨k, hk⟩)).toLoadRect X_arg3) r x)
      (fun r x => ?_) _ (fun r => (congrFun (View.read_writes_full arg7.view G_arg7 _ _ _) (ix2 r 0)).trans (keep_off _ r))
      (fun r => ?_) (fun r => ?_) (fun r d => ?_)
    · unfold scores MlaRow.score dot
      rw [if_pos (by show 1024 * k + x.val ≤ 1024 * n + r.val; omega)]
      refine congrArg (· * MlaHead.scale) (Finset.sum_congr rfl fun e _ => ?_)
      rw [query_block]
      exact congrArg (_ * ·) (readAt_rows3 arg3.view X_arg3 _ (1024 * k) (k0_off1_eq i ⟨k, hk⟩) (by omega) x e)
    · refine (top_off _ _ _ r).trans ?_
      rw [View.readAt_full]
    · refine (congrFun (View.read_writes_full arg8.view G_arg8 _ _ _) (ix2 r 0)).trans ?_
      refine (sum_off _ _ _ _ r).trans ?_
      rw [View.readAt_full, View.readAt_full]
    · refine (congrFun (View.read_writes_full arg9.view G_arg9 _ _ _) (ix2 r d)).trans ?_
      refine (acc_off _ _ _ _ _ r d).trans ?_
      rw [View.readAt_full, View.readAt_full]
      refine congrArg (_ + ·) (Finset.sum_congr rfl fun x _ => ?_)
      exact congrArg (_ * ·) (readAt_rows arg4.view X_arg4 _ (1024 * k) (k0_off2_eq i ⟨k, hk⟩) (by omega) x d)
end

end Cert.MhafLoop

end
-- ==== Proof.MhafPoint.lean ====
module

public import proofs.«01_k».proof.Proof.MhafLoop
public import proofs.«01_k».proof.Proof.Gen.MhafKernelIdeal.Value
public import Idealize.ShloMosaic.Lib.Pipeline.ValueKit

/-!
# What one grid point of the causal attention's forward pass leaves

The walk over the blocks of keys before the diagonal, then the masked diagonal block: the running values
are then those of the whole row, and the two results are the row's output and its log-sum-exp.
-/

@[expose] public section

set_option maxRecDepth 16384

noncomputable section

open Idealize.ShloMosaic Idealize.ShloMosaic.TcCoe Idealize.SL.Sem
open Idealize.ShloMosaic.Pipeline (Dat)

namespace Cert.MhafPoint

open Cert.MhafKernelIdeal Cert.MhafKernelIdeal.Gen Cert.MhafHead Cert.MhafRow Cert.MhafLoop Cert.Softmax

section
variable (q : FVec Ideal S1x1024x192 .bf16) (K : FVec Ideal S1x4096x192 .bf16) (V : FVec Ideal S4096x128 .bf16) (n : ℕ) (hn : n < 4)
  (hq : ∀ r e, IsReal (q (ix3 0 r e))) (hK : ∀ c e, IsReal (K (ix3 0 c e)))
  (kb : FVec Ideal S1x1024x192 .bf16) (vb : FVec Ideal S1024x128 .bf16)
  (hkb : ∀ (x : Fin 1024) (e : Fin 192), kb (ix3 0 x e) = K (ix3 0 (key n hn x) e))
  (hvb : ∀ (x : Fin 1024) (e : Fin 128), vb (ix2 x e) = V (ix2 (key n hn x) e))

/-- The running values before any key. -/
theorem start : Running q K V n hn (k0_pay16 (F := Ideal)) (k0_pay17 (F := Ideal)) (k0_pay18 (F := Ideal)) 0 :=
  ⟨fun r => (start_top r).trans (runTop_zero _).symm, fun r => (start_sum r).trans (runSum_zero _ _ _).symm,
    fun r d => (start_acc r d).trans (runSum_zero _ _ _).symm⟩

include hq hK hkb hvb in
/-- The diagonal block's step. -/
theorem diagonal {M l : FVec Ideal S1024x1 .f32} {a : FVec Ideal S1024x128 .f32} (h : Running q K V n hn M l a n) :
    Running q K V n hn (k0_pay28 (F := Ideal) (k0_pay21 q kb) rows M) (k0_pay26 (F := Ideal) (k0_pay21 q kb) rows M l)
      (k0_pay27 (F := Ideal) vb (k0_pay21 q kb) rows M a) (n + 1) := by
  refine running_next q K V n hn hn le_rfl h hq hK (fun r x => mdot kb r x q) (fun r x => ?_) _ (fun r => keep_diag kb M r q)
    (fun r => top_diag kb M r q) (fun r => sum_diag kb M l r q) (fun r d => ?_)
  · unfold mdot scores MlaRow.score dot
    by_cases hx : x.val ≤ r.val
    · rw [if_pos hx, if_pos (by show 1024 * n + x.val ≤ 1024 * n + r.val; omega)]
      refine congrArg (· * MlaHead.scale) (Finset.sum_congr rfl fun e _ => ?_)
      rw [query_block, hkb]
    · rw [if_neg hx, if_neg (by show ¬ 1024 * n + x.val ≤ 1024 * n + r.val; omega), neg_inf]
  · refine (acc_diag kb vb M a r d q).trans ?_
    simp only [hvb]

variable {n hn} {M l : FVec Ideal S1024x1 .f32} {a : FVec Ideal S1024x128 .f32} (h : Running q K V n hn M l a (n + 1))

include h in
theorem all_top (r : Fin 1024) : (M (ix2 r 0) : EReal) = MlaRow.top (fun e => q (ix3 0 r e)) (fun c e => K (ix3 0 c e)) (rowOf n hn r) :=
  (h.top r).trans (runTop_all _ _ _ _ (by show 1024 * n + r.val < 1024 * (n + 1); omega))

include h in
theorem all_sum (r : Fin 1024) : (l (ix2 r 0) : EReal) = MlaRow.total (fun e => q (ix3 0 r e)) (fun c e => K (ix3 0 c e)) (rowOf n hn r) := by
  have hr : (rowOf n hn r).val < 1024 * (n + 1) := by show 1024 * n + r.val < 1024 * (n + 1); omega
  refine (h.sum r).trans ?_
  unfold scores
  rw [runTop_all _ _ _ _ hr, runSum_all _ _ _ _ _ hr]
  unfold MlaRow.total
  simp only [mul_one]

include h in
theorem all_acc (r : Fin 1024) (d : Fin 128) : (a (ix2 r d) : EReal)
    = ∑ c : Fin 4096, MlaRow.expo (fun e => q (ix3 0 r e)) (fun c e => K (ix3 0 c e)) (rowOf n hn r) c * (V (ix2 c d) : EReal) := by
  have hr : (rowOf n hn r).val < 1024 * (n + 1) := by show 1024 * n + r.val < 1024 * (n + 1); omega
  refine (h.acc r d).trans ?_
  unfold scores
  rw [runTop_all _ _ _ _ hr, runSum_all _ _ _ _ _ hr]

include h hq hK in
/-- The output after the last block. -/
theorem result_out (r : Fin 1024) (d : Fin 128) : (k0_pay1 (F := Ideal) (k0_pay29 l a) (ix2 r d) : EReal)
    = MlaRow.output (fun e => q (ix3 0 r e)) (fun c e => K (ix3 0 c e)) (fun c d => V (ix2 c d)) (rowOf n hn r) d := by
  refine (out_at l a r d).trans ?_
  rw [all_sum q K V h r, all_acc q K V h r d]
  exact output_eq _ _ (fun c d => V (ix2 c d)) _ (fun e => hq r e) (fun c e => hK c e) d

include h in
/-- The log-sum-exp after the last block. -/
theorem result_sum (r : Fin 1024) : (k0_pay2 (F := Ideal) l M (ix3 0 r 0) : EReal)
    = MlaRow.logSum (fun e => q (ix3 0 r e)) (fun c e => K (ix3 0 c e)) (rowOf n hn r) := by
  refine (sums_at M l r).trans ?_
  rw [all_sum q K V h r, all_top q K V h r]
  rfl

end

/-- The block of queries of a grid point. -/
theorem coord (t : Fin cfg0.N) : (grid0.coords t 1).val = t.val % 4 := by
  revert t; decide

theorem trips_words (n : Fin 4) :
    Scf.trips (0#32) (Scalar.addi (0#32) (Scalar.muli (Scalar.divsi (Scalar.subi (BitVec.ofNat 32 n.val) 0#32) 1#32) 1#32)) 1#32 = n.val := by
  revert n; decide

theorem rest_words (n : Fin 4) :
    Scf.trips (Scalar.addi (0#32) (Scalar.muli (Scalar.divsi (Scalar.subi (BitVec.ofNat 32 n.val) 0#32) 1#32) 1#32))
      (Scalar.addi (0#32) (Scalar.subi (BitVec.ofNat 32 n.val) 0#32)) 1#32 = 0 := by
  revert n; decide

theorem offset_words (n : Fin 4) :
    BitVec.toNat (Scalar.indexCast (Scalar.muli (BitVec.ofNat 32 n.val) 1024#32)) = 1024 * n.val := by
  revert n; decide

variable (m : (ℓ : Loc nD τ sig) → Buf (Elt Ideal) ℓ) (c : Dev nD)

/-- The block of queries of a grid point, as a number. -/
def blockOf (t : Fin cfg0.N) : ℕ := t.val % 4

theorem blockOf_lt (t : Fin cfg0.N) : blockOf t < 4 := Nat.mod_lt _ (by decide)

theorem ht (t : Fin cfg0.N) :
    Scf.trips (0#32) (Scalar.addi (0#32) (Scalar.muli (Scalar.divsi (Scalar.subi (BitVec.ofNat 32 ↑(grid0.coords t 1)) 0#32) 1#32) 1#32)) 1#32
      = blockOf t := by
  rw [coord t]; exact trips_words ⟨t.val % 4, Nat.mod_lt _ (by decide)⟩

theorem ht2 (t : Fin cfg0.N) :
    Scf.trips (Scalar.addi (0#32) (Scalar.muli (Scalar.divsi (Scalar.subi (BitVec.ofNat 32 ↑(grid0.coords t 1)) 0#32) 1#32) 1#32))
      (Scalar.addi (0#32) (Scalar.subi (BitVec.ofNat 32 ↑(grid0.coords t 1)) 0#32)) 1#32 = 0 := by
  rw [coord t]; exact rest_words ⟨t.val % 4, Nat.mod_lt _ (by decide)⟩

theorem hoff (t : Fin cfg0.N) :
    BitVec.toNat (Scalar.indexCast (Scalar.muli (BitVec.ofNat 32 ↑(grid0.coords t 1)) 1024#32)) = 1024 * blockOf t := by
  rw [coord t]; exact offset_words ⟨t.val % 4, Nat.mod_lt _ (by decide)⟩

theorem trips_le (t : Fin cfg0.N) : blockOf t ≤ (k0_t1_loop (grid0.coords t)).trips := (ht t).symm.le

theorem hq (t : Fin cfg0.N) : View.readAt (Elt Ideal) (ms0_0 t).view
    (Rect.unit (s := S1x1024x192) ![0, 0, 0] ![1, 1024, 192] inb_S1x1024x192_S1x1024x192_0_0_0).toLoadRect ((hs0_0 t).unread (iblk m c 0 t)) = iblk m c 0 t :=
  (View.readAt_full _ _ _).trans ((hs0_0 t).read_unread _)

theorem hK (t : Fin cfg0.N) : View.read (Elt Ideal) (ms0_1 t).view ((hs0_1 t).unread (iblk m c 1 t)) = iblk m c 1 t := (hs0_1 t).read_unread _

theorem hV (t : Fin cfg0.N) : View.read (Elt Ideal) (ms0_2 t).view ((hs0_2 t).unread (iblk m c 2 t)) = iblk m c 2 t := (hs0_2 t).read_unread _

/-- The rows of the keys the diagonal block loads. -/
theorem key_rows (t : Fin cfg0.N) {off : Fin 3 → ℕ} (inb : ∀ a, off a + (![1, 1024, 192] : Fin 3 → ℕ) a ≤ S1x4096x192.size a)
    (h : off = ![0, 1024 * blockOf t, 0]) (x : Fin 1024) (e : Fin 192) :
    View.readAt (Elt Ideal) (ms0_1 t).view (Rect.unit (s := S1x4096x192) off ![1, 1024, 192] inb).toLoadRect ((hs0_1 t).unread (iblk m c 1 t)) (ix3 0 x e)
      = iblk m c 1 t (ix3 0 (key (blockOf t) (blockOf_lt t) x) e) :=
  (readAt_rows3 _ _ _ _ h (by have := blockOf_lt t; omega) x e).trans (congrFun (hK m c t) _)

/-- The rows of the values the diagonal block loads. -/
theorem value_rows (t : Fin cfg0.N) {off : Fin 2 → ℕ} (inb : ∀ a, off a + (![1024, 128] : Fin 2 → ℕ) a ≤ S4096x128.size a)
    (h : off = ![1024 * blockOf t, 0]) (x : Fin 1024) (e : Fin 128) :
    View.readAt (Elt Ideal) (ms0_2 t).view (Rect.unit (s := S4096x128) off ![1024, 128] inb).toLoadRect ((hs0_2 t).unread (iblk m c 2 t)) (ix2 x e)
      = iblk m c 2 t (ix2 (key (blockOf t) (blockOf_lt t) x) e) :=
  (readAt_rows _ _ _ _ h (by have := blockOf_lt t; omega) x e).trans (congrFun (hV m c t) _)

theorem off_rows (t : Fin cfg0.N) :
    (![BitVec.toNat (Scalar.indexCast (Scalar.muli (BitVec.ofNat 32 ↑(grid0.coords t 1)) 1024#32)), 0] : Fin 2 → ℕ) = ![1024 * blockOf t, 0] := by
  rw [hoff t]

theorem off_rows3 (t : Fin cfg0.N) :
    (![0, BitVec.toNat (Scalar.indexCast (Scalar.muli (BitVec.ofNat 32 ↑(grid0.coords t 1)) 1024#32)), 0] : Fin 3 → ℕ) = ![0, 1024 * blockOf t, 0] := by
  rw [hoff t]

/-- The pieces of the walk at a grid point. -/
abbrev walkPieces (t : Fin cfg0.N) : List (View.Piece (Elt Ideal) S1024x1 .f32) × List (View.Piece (Elt Ideal) S1024x1 .f32) × List (View.Piece (Elt Ideal) S1024x128 .f32) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
    (iblk m c 0 t) ((hs0_1 t).unread (iblk m c 1 t)) ((hs0_2 t).unread (iblk m c 2 t))
    ((View.whole cc0_scratch0).writes (Elt Ideal) (View.whole cc0_scratch0).junk [⟨Rect.unit ![0, 0] ![1024, 1] inb_S1024x1_S1024x1_0_0, k0_pay16 (F := Ideal)⟩])
    ((View.whole cc0_scratch1).writes (Elt Ideal) (View.whole cc0_scratch1).junk [⟨Rect.unit ![0, 0] ![1024, 1] inb_S1024x1_S1024x1_0_0, k0_pay17 (F := Ideal)⟩])
    ((View.whole cc0_scratch2).writes (Elt Ideal) (View.whole cc0_scratch2).junk [⟨Rect.unit ![0, 0] ![1024, 128] inb_S1024x128_S1024x128_0_0, k0_pay18 (F := Ideal)⟩])
    (blockOf t)

variable (hQ : ∀ t r e, IsReal (iblk m c 0 t (ix3 0 r e))) (hKey : ∀ t x e, IsReal (iblk m c 1 t (ix3 0 x e)))

include hQ hKey in
/-- The running values when the walk has ended. -/
theorem walked (t : Fin cfg0.N) : Running (iblk m c 0 t) (iblk m c 1 t) (iblk m c 2 t) (blockOf t) (blockOf_lt t)
    ((View.whole cc0_scratch0).readCov (Val := Elt Ideal) ((walkPieces m c t).1 ++ [⟨Rect.unit ![0, 0] ![1024, 1] inb_S1024x1_S1024x1_0_0, k0_pay16 (F := Ideal)⟩])
      (Rect.unit (s := S1024x1) ![0, 0] ![1024, 1] inb_S1024x1_S1024x1_0_0).toLoadRect)
    ((View.whole cc0_scratch1).readCov (Val := Elt Ideal) ((walkPieces m c t).2.1 ++ [⟨Rect.unit ![0, 0] ![1024, 1] inb_S1024x1_S1024x1_0_0, k0_pay17 (F := Ideal)⟩])
      (Rect.unit (s := S1024x1) ![0, 0] ![1024, 1] inb_S1024x1_S1024x1_0_0).toLoadRect)
    ((View.whole cc0_scratch2).readCov (Val := Elt Ideal) ((walkPieces m c t).2.2 ++ [⟨Rect.unit ![0, 0] ![1024, 128] inb_S1024x128_S1024x128_0_0, k0_pay18 (F := Ideal)⟩])
      (Rect.unit (s := S1024x128) ![0, 0] ![1024, 128] inb_S1024x128_S1024x128_0_0).toLoadRect) (blockOf t) := by
  have h := walk Variants.none c none (i := grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
    (iblk m c 0 t) ((hs0_1 t).unread (iblk m c 1 t)) ((hs0_2 t).unread (iblk m c 2 t))
    ((View.whole cc0_scratch0).writes (Elt Ideal) (View.whole cc0_scratch0).junk [⟨Rect.unit ![0, 0] ![1024, 1] inb_S1024x1_S1024x1_0_0, k0_pay16 (F := Ideal)⟩])
    ((View.whole cc0_scratch1).writes (Elt Ideal) (View.whole cc0_scratch1).junk [⟨Rect.unit ![0, 0] ![1024, 1] inb_S1024x1_S1024x1_0_0, k0_pay17 (F := Ideal)⟩])
    ((View.whole cc0_scratch2).writes (Elt Ideal) (View.whole cc0_scratch2).junk [⟨Rect.unit ![0, 0] ![1024, 128] inb_S1024x128_S1024x128_0_0, k0_pay18 (F := Ideal)⟩])
    (blockOf t) (blockOf_lt t) (hQ t) (by rw [hK]; exact hKey t)
    (by
      rw [hK, hV]
      have h0 := start (iblk m c 0 t) (iblk m c 1 t) (iblk m c 2 t) (blockOf t) (blockOf_lt t)
      exact ⟨fun r => (congrFun (View.read_writes_full (View.whole cc0_scratch0) _ _ _ _) (ix2 r 0)).trans (h0.top r),
        fun r => (congrFun (View.read_writes_full (View.whole cc0_scratch1) _ _ _ _) (ix2 r 0)).trans (h0.sum r),
        fun r d => (congrFun (View.read_writes_full (View.whole cc0_scratch2) _ _ _ _) (ix2 r d)).trans (h0.acc r d)⟩)
    (blockOf t) (trips_le t) le_rfl
  rw [hK, hV] at h
  unfold View.readCov
  refine ⟨fun r => (congrFun (View.readAt_full (View.whole cc0_scratch0) _ _) (ix2 r 0)).trans ?_,
    fun r => (congrFun (View.readAt_full (View.whole cc0_scratch1) _ _) (ix2 r 0)).trans ?_,
    fun r d => (congrFun (View.readAt_full (View.whole cc0_scratch2) _ _) (ix2 r d)).trans ?_⟩
  · rw [View.writes_append]
    exact h.top r
  · rw [View.writes_append]
    exact h.sum r
  · rw [View.writes_append]
    exact h.acc r d

include hQ hKey in
theorem out_point (t : Fin cfg0.N) (r : Fin 1024) (d : Fin 128) :
    ((outsAt0 m c t).1 (ix2 r d) : EReal)
      = MlaRow.output (fun e => iblk m c 0 t (ix3 0 r e)) (fun x e => iblk m c 1 t (ix3 0 x e)) (fun x d => iblk m c 2 t (ix2 x d))
          (rowOf (blockOf t) (blockOf_lt t) r) d := by
  unfold outsAt0
  dsimp only
  unfold out0_A_3 kernelRun0_A
  sl_unfold_words
  dsimp only
  simp only [ht t, ht2 t, pb_k0_t2, List.nil_append, hq m c t]
  refine (congrFun (View.read_writes_full VO0_3 _ _ _ _) (ix2 r d)).trans ?_
  rw [View.readCov_full, View.readCov_full]
  exact result_out _ _ _ (hQ t) (hKey t) (diagonal _ _ _ _ (blockOf_lt t) (hQ t) (hKey t) _ _ (key_rows m c t _ (off_rows3 t))
    (value_rows m c t _ (off_rows t)) (walked m c hQ hKey t)) r d

include hQ hKey in
theorem sum_point (t : Fin cfg0.N) (r : Fin 1024) :
    ((outsAt0 m c t).2 (ix3 0 r 0) : EReal)
      = MlaRow.logSum (fun e => iblk m c 0 t (ix3 0 r e)) (fun x e => iblk m c 1 t (ix3 0 x e))
          (rowOf (blockOf t) (blockOf_lt t) r) := by
  unfold outsAt0
  dsimp only
  unfold out0_A_4 kernelRun0_A
  sl_unfold_words
  dsimp only
  simp only [ht t, ht2 t, pb_k0_t2, List.nil_append, hq m c t]
  refine (congrFun (View.read_writes_full VO0_4 _ _ _ _) (ix3 0 r 0)).trans ?_
  rw [View.readCov_full, View.readCov_full]
  exact result_sum _ _ _ (diagonal _ _ _ _ (blockOf_lt t) (hQ t) (hKey t) _
    (fun i => iblk m c 2 t (ix2 (key (blockOf t) (blockOf_lt t) (i 0)) (i 1))) (key_rows m c t _ (off_rows3 t))
    (fun _ _ => rfl) (walked m c hQ hKey t)) r

end Cert.MhafPoint

end
-- ==== Proof.MhafArrays.lean ====
module

public import proofs.«01_k».proof.Proof.MhafPoint

/-!
# The two arrays the causal attention's forward pass leaves

Over the queries, keys and values the kernel is given: at every head and row, the plain softmax's output
and the log-sum-exp of the row's scores.
-/

@[expose] public section

set_option maxRecDepth 16384

noncomputable section

open Idealize.ShloMosaic Idealize.ShloMosaic.TcCoe Idealize.SL.Sem
open Idealize.ShloMosaic.Pipeline (Dat)

namespace Cert.MhafArrays

open Cert.MhafKernelIdeal Cert.MhafKernelIdeal.Gen Cert.MhafPoint Cert.MhafLoop Cert.Softmax

/-- Column `d` of head `h` among the values' columns. -/
def col (h : Fin 12) (d : Fin 128) : Fin 1536 := ⟨h.val * 128 + d.val, by omega⟩

/-- The head of a column of the values, and the column within it. -/
def headCol (j : Fin 1536) : Fin 12 := ⟨j.val / 128, by omega⟩

def colIn (j : Fin 1536) : Fin 128 := ⟨j.val % 128, by omega⟩

section
variable (Q K : FVec Ideal S12x4096x192 .bf16) (VV : FVec Ideal S4096x1536 .bf16)

/-- The attention's output. -/
def output (h : Fin 12) (r : Fin 4096) (d : Fin 128) : EReal :=
  MlaRow.output (fun e => Q (ix3 h r e)) (fun c e => K (ix3 h c e)) (fun c d => VV (ix2 c (col h d))) r d

/-- The log-sum-exp of a row's scores. -/
def logSum (h : Fin 12) (r : Fin 4096) : EReal := MlaRow.logSum (fun e => Q (ix3 h r e)) (fun c e => K (ix3 h c e)) r

end

variable (m : (ℓ : Loc nD τ sig) → Buf (Elt Ideal) ℓ) (c : Dev nD)

theorem idx : ∀ t : Fin cfg0.N, win0_0.index t = ![t.val / 4, t.val % 4, 0] ∧ win0_1.index t = ![t.val / 4, 0, 0]
    ∧ win0_2.index t = ![0, t.val / 4] ∧ win0_3.index t = ![t.val % 4, t.val / 4] ∧ win0_4.index t = ![t.val / 4, t.val % 4, 0]
    ∧ t.val < 48 :=
  (by decide +kernel : ∀ t : Fin grid0.N, _)

/-- The head of a grid point. -/
def headOf (t : Fin cfg0.N) : Fin 12 := ⟨t.val / 4, by have := (idx t).2.2.2.2.2; omega⟩

abbrev aQ : FVec Ideal S12x4096x192 .bf16 := V m c main_arg0
abbrev aK : FVec Ideal S12x4096x192 .bf16 := V m c main_arg1
abbrev aV : FVec Ideal S4096x1536 .bf16 := V m c main_arg2

theorem read_q (t : Fin cfg0.N) (x : FVec Ideal S12x4096x192 .bf16) (r : Fin 1024) (e : Fin 192) :
    ((cfg0.win 0).blk t).view.read (Elt Ideal) x (ix3 0 r e) = x (ix3 (headOf t) (rowOf (blockOf t) (blockOf_lt t) r) e) := by
  unfold rowOf blockOf headOf
  blk_point [idx t]

theorem read_k (t : Fin cfg0.N) (x : FVec Ideal S12x4096x192 .bf16) (r : Fin 4096) (e : Fin 192) :
    ((cfg0.win 1).blk t).view.read (Elt Ideal) x (ix3 0 r e) = x (ix3 (headOf t) r e) := by
  unfold headOf
  blk_point [idx t]

theorem read_v (t : Fin cfg0.N) (x : FVec Ideal S4096x1536 .bf16) (r : Fin 4096) (d : Fin 128) :
    ((cfg0.win 2).blk t).view.read (Elt Ideal) x (ix2 r d) = x (ix2 r (col (headOf t) d)) := by
  unfold headOf col
  blk_point [idx t]

variable (hQ : ∀ h r e, IsReal (aQ m c (ix3 h r e))) (hK : ∀ h x e, IsReal (aK m c (ix3 h x e)))

include hQ hK in
theorem out_written (t : Fin cfg0.N) (r : Fin 1024) (d : Fin 128) :
    ((outsAt0 m c t).1 (ix2 r d) : EReal) = output (aQ m c) (aK m c) (aV m c) (headOf t) (rowOf (blockOf t) (blockOf_lt t) r) d := by
  have e0 : ∀ t r e, iblk m c 0 t (ix3 0 r e) = aQ m c (ix3 (headOf t) (rowOf (blockOf t) (blockOf_lt t) r) e) := fun t r e => read_q t _ r e
  have e1 : ∀ t x e, iblk m c 1 t (ix3 0 x e) = aK m c (ix3 (headOf t) x e) := fun t x e => read_k t _ x e
  have e2 : ∀ t x d, iblk m c 2 t (ix2 x d) = aV m c (ix2 x (col (headOf t) d)) := fun t x d => read_v t _ x d
  refine (out_point m c (fun t r e => by rw [e0]; exact hQ _ _ _) (fun t x e => by rw [e1]; exact hK _ _ _) t r d).trans ?_
  simp only [e0, e1, e2]
  rfl

include hQ hK in
theorem sum_written (t : Fin cfg0.N) (r : Fin 1024) :
    ((outsAt0 m c t).2 (ix3 0 r 0) : EReal) = logSum (aQ m c) (aK m c) (headOf t) (rowOf (blockOf t) (blockOf_lt t) r) := by
  have e0 : ∀ t r e, iblk m c 0 t (ix3 0 r e) = aQ m c (ix3 (headOf t) (rowOf (blockOf t) (blockOf_lt t) r) e) := fun t r e => read_q t _ r e
  have e1 : ∀ t x e, iblk m c 1 t (ix3 0 x e) = aK m c (ix3 (headOf t) x e) := fun t x e => read_k t _ x e
  refine (sum_point m c (fun t r e => by rw [e0]; exact hQ _ _ _) (fun t x e => by rw [e1]; exact hK _ _ _) t r).trans ?_
  simp only [e0, e1]
  rfl

include hQ hK in
/-- The output, whole. -/
theorem outArray : (dats m 0 c).arrAt 3 cfg0.N
    = fun i => output (aQ m c) (aK m c) (aV m c) (headCol (i 1)) (i 0) (colIn (i 1)) := by
  refine (dats m 0 c).arrAt_eq_of_covers 3 _ (by decide +kernel) fun t _ y => ?_
  blk_simp
  rw [after0_3]
  have hy : y = ix2 (y 0) (y 1) := eq_ix2 y
  have hp := out_written m c hQ hK t (y 0) (y 1)
  have hq := congrArg (outsAt0 m c t).1 hy
  refine hq.trans (hp.trans ?_)
  have b1 := (y 1).isLt
  change (y 1).val < 128 at b1
  have v1 : ((((cfg0.win 3).blk t).view.emb y) 1).val = t.val / 4 * 128 + (y 1).val := by
    blk_simp [idx t]
  have e0 : (((cfg0.win 3).blk t).view.emb y) 0 = rowOf (blockOf t) (blockOf_lt t) (y 0) := by
    apply Fin.ext
    blk_simp [idx t, rowOf, blockOf]
    try (show t.val % 4 * 1024 + (y 0).val = 1024 * (t.val % 4) + (y 0).val; omega)
  have e1 : headCol ((((cfg0.win 3).blk t).view.emb y) 1) = headOf t := by
    apply Fin.ext
    show ((((cfg0.win 3).blk t).view.emb y) 1).val / 128 = t.val / 4
    rw [v1]
    omega
  have e2 : colIn ((((cfg0.win 3).blk t).view.emb y) 1) = y 1 := by
    apply Fin.ext
    show ((((cfg0.win 3).blk t).view.emb y) 1).val % 128 = (y 1).val
    rw [v1]
    omega
  rw [e0, e1, e2]

include hQ hK in
/-- The log-sum-exps, whole. -/
theorem sumArray : (dats m 0 c).arrAt 4 cfg0.N = fun i => logSum (aQ m c) (aK m c) (i 0) (i 1) := by
  refine (dats m 0 c).arrAt_eq_of_covers 4 _ (by decide +kernel) fun t _ y => ?_
  blk_simp
  rw [after0_4]
  have hy : y = ix3 0 (y 1) 0 := by
    funext a
    match a with
    | ⟨0, _⟩ => exact Fin.ext (by have := (y 0).isLt; show (y 0).val = 0; change (y 0).val < 1 at this; omega)
    | ⟨1, _⟩ => rfl
    | ⟨2, _⟩ => exact Fin.ext (by have := (y 2).isLt; show (y 2).val = 0; change (y 2).val < 1 at this; omega)
  have hp := sum_written m c hQ hK t (y 1)
  have hq := congrArg (outsAt0 m c t).2 hy
  refine hq.trans (hp.trans ?_)
  have e0 : (((cfg0.win 4).blk t).view.emb y) 0 = headOf t := by
    apply Fin.ext
    have := (y 0).isLt
    change (y 0).val < 1 at this
    blk_simp [idx t, headOf]
    try omega
  have e1 : (((cfg0.win 4).blk t).view.emb y) 1 = rowOf (blockOf t) (blockOf_lt t) (y 1) := by
    apply Fin.ext
    blk_simp [idx t, rowOf, blockOf]
    try (show t.val % 4 * 1024 + (y 1).val = 1024 * (t.val % 4) + (y 1).val; omega)
  rw [e0, e1]

end Cert.MhafArrays

end
-- ==== Proof.MhafClaim.lean ====
module

public import proofs.«01_k».proof.Defs
public import proofs.«01_k».proof.Proof.MhafArrays
public import proofs.«01_k».proof.Proof.MlaForward
public import proofs.«01_k».proof.Proof.Gen.MhafReferenceIdeal.Read

/-!
# The value claim of the causal attention's forward pass
-/

@[expose] public section

set_option maxRecDepth 16384

noncomputable section

open Idealize.ShloMosaic Idealize.ShloMosaic.TcCoe Idealize.SL.Sem

namespace Cert.MhafClaim

open Cert.Softmax

theorem facts : Cert.Pre_finite_scores.Facts where
  bitsLt_bf16_f32 := by decide
  bcast_S_S12x4096x192 := by decide

variable (Q K : FVec Ideal ⟨3, ![12, 4096, 192]⟩ .bf16) (VV : FVec Ideal ⟨2, ![4096, 1536]⟩ .bf16)

section Pre

attribute [local instance] facts

theorem pre_query (h : Fin 12) (r : Fin 4096) (e : Fin 192) :
    (Cert.Pre_finite_scores.fn (F := Ideal) Q K VV).1 (ix3 h r e)
      = Ideal.cmp .olt (max (Q (ix3 h r e)) (-Q (ix3 h r e))) (Ideal.ofBits .f32 0x7F800000#32) := by
  pointwise [Cert.Pre_finite_scores.fn]
  rfl

theorem pre_key (h : Fin 12) (r : Fin 4096) (e : Fin 192) :
    (Cert.Pre_finite_scores.fn (F := Ideal) Q K VV).2 (ix3 h r e)
      = Ideal.cmp .olt (max (K (ix3 h r e)) (-K (ix3 h r e))) (Ideal.ofBits .f32 0x7F800000#32) := by
  pointwise [Cert.Pre_finite_scores.fn]
  rfl

theorem isReal_query (h : (Cert.Pre_finite_scores.fn (F := Ideal) Q K VV).1 = fun _ => 1#1) (a : Fin 12) (r : Fin 4096) (e : Fin 192) :
    IsReal (Q (ix3 a r e)) :=
  isReal_of_cmp ((pre_query Q K VV a r e).symm.trans (congrFun h _))

theorem isReal_key (h : (Cert.Pre_finite_scores.fn (F := Ideal) Q K VV).2 = fun _ => 1#1) (a : Fin 12) (r : Fin 4096) (e : Fin 192) :
    IsReal (K (ix3 a r e)) :=
  isReal_of_cmp ((pre_key Q K VV a r e).symm.trans (congrFun h _))

end Pre

/-! ### The reference, entry by entry -/

attribute [local instance] Cert.MhafReferenceIdeal.Gen.facts Cert.MlaKernelIdeal.Gen.facts

open Cert.MhafReferenceIdeal.Read Cert.MlaKernelIdeal.Forward

theorem reference_sums (h : Fin 12) (r : Fin 4096) (z : Fin 1) :
    (val_main_v36 (F := Ideal) Q K (ix3 h r z) : EReal) = MhafArrays.logSum Q K h r := by
  obtain rfl : z = 0 := Subsingleton.elim _ _
  exact logSum_at Q K h r

theorem heads_beside (Out : FVec Ideal Cert.MhafReferenceIdeal.S4096x12x128 .f32) (r : Fin 4096) (j : Fin 1536) :
    (truncf .bf16 (shapeCast Cert.MhafReferenceIdeal.S4096x1536 Out Cert.MhafReferenceIdeal.Facts₀.shapeCasts_S4096x12x128_S4096x1536)
        Cert.MhafReferenceIdeal.Facts₀.bitsLt_bf16_f32 (ix2 r j) : EReal)
      = Out (ix3 r (MhafArrays.headCol j) (MhafArrays.colIn j)) := by
  unfold MhafArrays.headCol MhafArrays.colIn
  pointwise

theorem reference_out (r : Fin 4096) (j : Fin 1536) :
    (val_main_v37 (F := Ideal) Q K VV (ix2 r j) : EReal) = MhafArrays.output Q K VV (MhafArrays.headCol j) r (MhafArrays.colIn j) := by
  refine (heads_beside _ r j).trans ((outputs_at VV (softmax (masked Q K)) _ r _).trans ?_)
  unfold MhafArrays.output MlaRow.output
  refine Finset.sum_congr rfl fun c _ => ?_
  rw [softmax_at]
  rfl

end Cert.MhafClaim

namespace Cert.Proof

attribute [local instance] Cert.MhafKernelIdeal.Gen.facts Cert.MhafReferenceIdeal.Gen.facts Cert.MhafClaim.facts

/-- On finite queries and keys the kernel's output and log-sum-exps are the plain softmax's. -/
theorem forward_value : Cert.algebraic_MhafKernelIdeal_MhafReferenceIdeal_pre_finite_scores := by
  intro m g m' g' hpre hag
  refine ⟨fun c => (Cert.MhafKernelIdeal.Gen.dats m 0 c).arrAt 3 Cert.MhafKernelIdeal.cfg0.N,
    fun c => (Cert.MhafKernelIdeal.Gen.dats m 0 c).arrAt 4 Cert.MhafKernelIdeal.cfg0.N, Cert.MhafKernelIdeal.Value.run_blocks m g,
    (θ_run _ _ _).mono (fun r h c => ?_) (Cert.MhafReferenceIdeal.Value.run m' g')⟩
  obtain ⟨h0, h1, h2⟩ := h c
  obtain ⟨e0, e1, e2⟩ := hag c
  have hQ := Cert.MhafClaim.isReal_query _ _ _ (hpre c).1
  have hK := Cert.MhafClaim.isReal_key _ _ _ (hpre c).2
  refine ⟨h0.trans ((Cert.MhafReferenceIdeal.Read.val_main_v37_eq m' c).trans ?_),
    h1.trans ((Cert.MhafReferenceIdeal.Read.val_main_v36_eq _ _).trans ?_), h2⟩
  · rw [e0, e1, e2]
    refine Eq.trans (funext fun i => ?_) (Cert.MhafArrays.outArray m c hQ hK).symm
    exact (congrArg _ (eq_ix2 i)).trans (Cert.MhafClaim.reference_out _ _ _ (i 0) (i 1))
  · rw [e0, e1]
    refine Eq.trans (funext fun i => ?_) (Cert.MhafArrays.sumArray m c hQ hK).symm
    exact (congrArg _ (eq_ix3 i)).trans (Cert.MhafClaim.reference_sums _ _ (i 0) (i 1) (i 2))

end Cert.Proof
-- ==== Proof.SguGate.lean ====
module

public import proofs.«01_k».proof.Defs
public import Idealize.ShloMosaic.Lib.Pointwise

/-!
# The gradient of the spatial gate, chunk by chunk

The gate normalises the activated rows of its second half, mixes the 128 rows of a chunk by a lower
triangular matrix for each of twelve groups of channels, adds a bias, and multiplies the activated
first half. Its gradient on one chunk, as functions of the chunk's rows.
-/

@[expose] public section

noncomputable section

open Idealize.ShloMosaic

namespace Cert.SguGate

/-- A half, one, minus a half, the width of a row and the small number, as float words. -/
abbrev half : EReal := Ideal.ofBits .f32 0x3F000000#32
abbrev one : EReal := Ideal.ofBits .f32 0x3F800000#32
abbrev minusHalf : EReal := Ideal.ofBits .f32 0xBF000000#32
abbrev width : EReal := Ideal.ofBits .f32 0x44C00000#32
abbrev small : EReal := Ideal.ofBits .f32 0x358637BD#32

/-- 1/√2 and 1/√(2π). -/
abbrev halfRoot : EReal := ((Real.sqrt 2)⁻¹ : ℝ)
abbrev normal : EReal := ((Real.sqrt (2 * Real.pi))⁻¹ : ℝ)

/-- The activation, x Φ(x). -/
def gelu (x : EReal) : EReal := half * x * (one + Ideal.erf (x * halfRoot))

/-- Its derivative, Φ(x) + x φ(x). -/
def dgelu (x : EReal) : EReal :=
  half * (one + Ideal.erf (x * halfRoot)) + x * (Ideal.exp (minusHalf * x * x) * normal)

/-- The reciprocal of the root of an activated row's mean square. -/
def rstd (x : Fin 1536 → EReal) : EReal :=
  Ideal.rsqrt (Ideal.div (∑ k, gelu (x k) * gelu (x k)) width + small)

/-- A matrix entry below or on the diagonal, zero above it. -/
def lower (t s : Fin 128) (a : EReal) : EReal :=
  Scalar.select (IntOp.cmpi .sge (BitVec.ofNat 32 t.val) (BitVec.ofNat 32 s.val)) a 0

theorem lower_eq (t s : Fin 128) (a : EReal) : lower t s a = if s.val ≤ t.val then a else 0 := by
  have h : ∀ t s : Fin 128, IntOp.cmpi .sge (BitVec.ofNat 32 t.val) (BitVec.ofNat 32 s.val) = if s.val ≤ t.val then 1#1 else 0#1 := by
    decide +kernel
  unfold lower
  rw [h]
  split <;> rfl

/-- The group of a channel, and a group's channels. -/
def group (j : Fin 1536) : Fin 12 := ⟨j.val / 128, by omega⟩
def chan (g : Fin 12) (l : Fin 128) : Fin 1536 := ⟨128 * g.val + l.val, by omega⟩

section
variable (U V D : Fin 128 → Fin 1536 → EReal) (G : Fin 1536 → EReal) (W : Fin 12 → Fin 128 → Fin 128 → EReal) (B : Fin 128 → Fin 12 → EReal)

/-- The normalised rows, and the rows with the gain. -/
def hat (s : Fin 128) (j : Fin 1536) : EReal := gelu (V s j) * rstd (V s)
def gained (s : Fin 128) (j : Fin 1536) : EReal := hat V s j * G j

/-- The mixed rows of a group. -/
def mixed (g : Fin 12) (t : Fin 128) (j : Fin 1536) : EReal := ∑ s, lower t s (W g t s) * gained V G s j + B t g

/-- The gradient of the mixed rows. -/
def dMixed (t : Fin 128) (j : Fin 1536) : EReal := D t j * gelu (U t j)

/-- The gradient of the first half, of the matrices, of the bias. -/
def dU (g : Fin 12) (t : Fin 128) (j : Fin 1536) : EReal := D t j * mixed V G W B g t j * dgelu (U t j)
def dW (g : Fin 12) (t s : Fin 128) : EReal := lower t s (∑ l, dMixed U D t (chan g l) * gained V G s (chan g l))
def dB (t : Fin 128) (g : Fin 12) : EReal := ∑ l, dMixed U D t (chan g l)

/-- The gradient of the rows with the gain, of the gain, of the second half. -/
def dGained (s : Fin 128) (j : Fin 1536) : EReal := ∑ t, lower t s (W (group j) t s) * dMixed U D t j
def dGain (j : Fin 1536) : EReal := ∑ s, dGained U D W s j * hat V s j
def dV (s : Fin 128) (j : Fin 1536) : EReal :=
  rstd (V s) * (dGained U D W s j * G j - hat V s j * Ideal.div (∑ k, dGained U D W s k * G k * hat V s k) width) * dgelu (V s j)

end

end Cert.SguGate
-- ==== Proof.SguBlock.lean ====
module

public import proofs.«01_k».proof.Proof.SguGate
public import proofs.«01_k».proof.Proof.Gen.SguKernelIdeal.Value
public import Idealize.ShloMosaic.Lib.Pipeline.ValueKit
public import Idealize.ShloMosaic.Lib.Pipeline.ReadBack

/-!
# What a grid point of the spatial gate's gradient writes
-/

@[expose] public section

set_option maxRecDepth 16384

noncomputable section

open Idealize.ShloMosaic Idealize.ShloMosaic.TcCoe Cert.SguKernelIdeal Cert.SguKernelIdeal.Gen Cert.SguGate

namespace Cert.SguBlock

attribute [local instance] Cert.SguKernelIdeal.Gen.facts

variable (m : (ℓ : Loc nD τ sig) → Buf (Elt Ideal) ℓ)

section
variable (c : Dev nD) (t : Fin cfg0.N)

/-- A point's rows. -/
abbrev rU (s : Fin 128) (j : Fin 1536) : EReal := X0_0 m c t (ix2 s j)
abbrev rV (s : Fin 128) (j : Fin 1536) : EReal := X0_1 m c t (ix2 s j)
abbrev rD (s : Fin 128) (j : Fin 1536) : EReal := X0_2 m c t (ix2 s j)
abbrev rG (j : Fin 1536) : EReal := iblk m c 4 t (ix2 0 j)
abbrev rW (g : Fin 12) (a s : Fin 128) : EReal := iblk m c 5 t (ix3 g a s)
abbrev rB (a : Fin 128) (g : Fin 12) : EReal := iblk m c 6 t (ix2 a g)
end

/-- A coordinate inside a piece one wide. -/
theorem at_piece {N n : ℕ} {y : Fin N} {x : Fin 1} (h : y.val = n + x.val) (hn : n < N) : y = ⟨n, hn⟩ := by
  apply Fin.ext
  simp only [h]
  omega
theorem at_piece0 {N : ℕ} {y : Fin N} {x : Fin 1} (h : y.val = x.val) (hn : 0 < N) : y = ⟨0, hn⟩ := by
  apply Fin.ext
  simp only [h]
  omega

/-- Stores under others that cover a cell do not show there. -/
theorem canon_drop {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

/-- A later point adds its matrices' gradient. -/
theorem dw_later (c : Dev nD) (t : Fin cfg0.N) (h0 : ¬ t.val % 32 = 0) (y : S12x128x128.Idx) :
    (outsAt0 m c t.val t.isLt).2.1 y
      = (outsAt0 m c (t.val - 1) (Nat.lt_of_le_of_lt (Nat.sub_le _ _) t.isLt)).2.1 y
        + dW (rU m c t) (rV m c t) (rD m c t) (rG m c t) (y 0) (y 1) (y 2) := by
  rw [outsAt0_B m c t h0]
  unfold rU rV rD
  frame_out
  generalize X0_0 m c t = zu
  generalize X0_1 m c t = zv
  generalize X0_2 m c t = dm
  idx_vars y
  canon_tiles x hx using View.cover_of_tiledBy _ ![1, 128, 128] (by sl_kernel_rfl) (ix3 y0 y1 y2)
  all_goals
    idx_vars x
    obtain rfl : y1 = x1 := Fin.ext hx1
    obtain rfl : y2 = x2 := Fin.ext hx2
    first
      | obtain rfl := at_piece hx0 (by decide)
      | obtain rfl := at_piece0 hx0 (by decide)
    open_payloads
    pointwise [dW, dMixed, gained, hat, rstd, gelu, lower, chan]
    exact rfl

/-- A later point adds its bias's gradient. -/
theorem db_later (c : Dev nD) (t : Fin cfg0.N) (h0 : ¬ t.val % 32 = 0) (y : S128x12.Idx) :
    (outsAt0 m c t.val t.isLt).2.2.1 y
      = (outsAt0 m c (t.val - 1) (Nat.lt_of_le_of_lt (Nat.sub_le _ _) t.isLt)).2.2.1 y
        + dB (rU m c t) (rD m c t) (y 0) (y 1) := by
  rw [outsAt0_B m c t h0]
  unfold rU rD
  frame_out
  generalize X0_0 m c t = zu
  generalize X0_1 m c t = zv
  generalize X0_2 m c t = dm
  idx_vars y
  canon_tiles x hx using View.cover_of_tiledBy _ ![128, 1] (by sl_kernel_rfl) (ix2 y0 y1)
  all_goals
    idx_vars x
    obtain rfl : y0 = x0 := Fin.ext hx0
    first
      | obtain rfl := at_piece hx1 (by decide)
      | obtain rfl := at_piece0 hx1 (by decide)
    open_payloads
    pointwise [dB, dMixed, gelu, chan]
    exact rfl

/-- The first point's matrices' gradient. -/
theorem dw_first (c : Dev nD) (t : Fin cfg0.N) (h0 : t.val % 32 = 0) (y : S12x128x128.Idx) :
    (outsAt0 m c t.val t.isLt).2.1 y = dW (rU m c t) (rV m c t) (rD m c t) (rG m c t) (y 0) (y 1) (y 2) := by
  rw [outsAt0_A m c t h0]
  unfold rU rV rD
  frame_open
  simp (disch := decide) only [↓ View.readCov_skip, ↓ View.readCov_cons_toLoadRect, ↓ View.readCov_fill]
  frame_out
  generalize X0_0 m c t = zu
  generalize X0_1 m c t = zv
  generalize X0_2 m c t = dm
  idx_vars y
  refine (canon_drop [_] [_, _, _, _, _, _, _, _, _, _, _, _] (ix3 y0 y1 y2) (View.cover_of_tiledBy _ ![1, 128, 128] (by sl_kernel_rfl) (ix3 y0 y1 y2))).trans ?_
  canon_tiles x hx using View.cover_of_tiledBy _ ![1, 128, 128] (by sl_kernel_rfl) (ix3 y0 y1 y2)
  all_goals
    idx_vars x
    obtain rfl : y1 = x1 := Fin.ext hx1
    obtain rfl : y2 = x2 := Fin.ext hx2
    first
      | obtain rfl := at_piece hx0 (by decide)
      | obtain rfl := at_piece0 hx0 (by decide)
    open_payloads
    pointwise [dW, dMixed, gained, hat, rstd, gelu, lower, chan]
    exact rfl

/-- The first point's bias's gradient. -/
theorem db_first (c : Dev nD) (t : Fin cfg0.N) (h0 : t.val % 32 = 0) (y : S128x12.Idx) :
    (outsAt0 m c t.val t.isLt).2.2.1 y = dB (rU m c t) (rD m c t) (y 0) (y 1) := by
  rw [outsAt0_A m c t h0]
  unfold rU rD
  frame_open
  simp (disch := decide) only [↓ View.readCov_skip, ↓ View.readCov_cons_toLoadRect, ↓ View.readCov_fill]
  frame_out
  generalize X0_0 m c t = zu
  generalize X0_1 m c t = zv
  generalize X0_2 m c t = dm
  idx_vars y
  refine (canon_drop [_] [_, _, _, _, _, _, _, _, _, _, _, _] (ix2 y0 y1) (View.cover_of_tiledBy _ ![128, 1] (by sl_kernel_rfl) (ix2 y0 y1))).trans ?_
  canon_tiles x hx using View.cover_of_tiledBy _ ![128, 1] (by sl_kernel_rfl) (ix2 y0 y1)
  all_goals
    idx_vars x
    obtain rfl : y0 = x0 := Fin.ext hx0
    first
      | obtain rfl := at_piece hx1 (by decide)
      | obtain rfl := at_piece0 hx1 (by decide)
    open_payloads
    pointwise [dB, dMixed, gelu, chan]
    exact rfl

/-- Twelve groups side by side. -/
theorem parts_at (p : Fin 12 → FVec Ideal S128x128 .f32) (g : Fin 12) (s l : Fin 128) :
    concatenate S128x1536 1 [⟨S128x128, p 0⟩, ⟨S128x128, p 1⟩, ⟨S128x128, p 2⟩, ⟨S128x128, p 3⟩, ⟨S128x128, p 4⟩, ⟨S128x128, p 5⟩,
        ⟨S128x128, p 6⟩, ⟨S128x128, p 7⟩, ⟨S128x128, p 8⟩, ⟨S128x128, p 9⟩, ⟨S128x128, p 10⟩, ⟨S128x128, p 11⟩]
      concatenates_S128x128_S128x128_S128x128_S128x128_S128x128_S128x128_S128x128_S128x128_S128x128_S128x128_S128x128_S128x128_S128x1536_d1
      (ix2 s (chan g l)) = p g (ix2 s l) := by
  refine concatenate_apply_piece (t := S128x1536) 1 _ _ (ix2 s (chan g l)) g.val ?_ S128x128 (p g) ?_ rfl (128 * g.val) ?_ (ix2 s l) ?_ ?_
  · exact g.isLt
  · fin_cases g <;> rfl
  · fin_cases g <;> rfl
  · intro b hb
    fin_cases b
    · rfl
    · exact absurd rfl hb
  · exact rfl

/-- Every channel is one of a group's. -/
theorem chan_of (j : Fin 1536) : ∃ g l, j = chan g l :=
  ⟨group j, ⟨j.val % 128, by omega⟩, Fin.ext (by simp only [group, chan]; omega)⟩

theorem group_chan (g : Fin 12) (l : Fin 128) : group (chan g l) = g :=
  Fin.ext (by simp only [group, chan]; omega)

/-- The gradient of the gain, added to what was there at a later point. -/
theorem dg_point (c : Dev nD) (t : Fin cfg0.N) (j : Fin 1536) :
    (outsAt0 m c t.val t.isLt).2.2.2 (ix2 0 j)
      = (if t.val % 32 = 0 then 0 else (outsAt0 m c (t.val - 1) (Nat.lt_of_le_of_lt (Nat.sub_le _ _) t.isLt)).2.2.2 (ix2 0 j))
        + dGain (rU m c t) (rV m c t) (rD m c t) (rW m c t) j := by
  unfold rU rV rD
  by_cases h0 : t.val % 32 = 0
  on_goal 2 =>
    rw [outsAt0_B m c t h0, if_neg h0]
    frame_out
  on_goal 1 =>
    rw [outsAt0_A m c t h0, if_pos h0]
    frame_open
    simp (disch := decide) only [↓ View.readCov_skip, ↓ View.readCov_cons_toLoadRect, ↓ View.readCov_fill]
    frame_out
  all_goals
    generalize X0_0 m c t = zu
    generalize X0_1 m c t = zv
    generalize X0_2 m c t = dm
    generalize hC : concatenate S128x1536 1 _ _ = C
    have hD : ∀ s j, C (ix2 s j) = dGained (fun s j => zu (ix2 s j)) (fun s j => dm (ix2 s j)) (rW m c t) s j := by
      intro s j
      obtain ⟨g, l, rfl⟩ := chan_of j
      rw [← hC]
      refine (parts_at ![_, _, _, _, _, _, _, _, _, _, _, _] g s l).trans ?_
      unfold dGained
      rw [group_chan]
      clear hC
      fin_cases g
      all_goals
        dsimp only [Fin.isValue, Matrix.cons_val]
        open_payloads
        pointwise [dMixed, gelu, lower, chan, Memref.IsWhole.read_unread]
        exact rfl
    open_payloads
    pointwise [dGain, hat, rstd, gelu, hD]
    exact rfl

/-- A point's rows of the gradient: the first half, the second half, the columns carried over. -/
def dZ (U V D : Fin 128 → Fin 1536 → EReal) (G : Fin 1536 → EReal) (W : Fin 12 → Fin 128 → Fin 128 → EReal)
    (B : Fin 128 → Fin 12 → EReal) (Q : Fin 128 → Fin 512 → EReal) (s : Fin 128) (j : Fin 3584) : EReal :=
  if h : j.val < 1536 then dU U V D G W B (group ⟨j.val, h⟩) s ⟨j.val, h⟩
  else if h' : j.val < 3072 then dV U V D G W s ⟨j.val - 1536, by omega⟩
  else Q s ⟨j.val - 3072, by omega⟩

section
variable {U V D : Fin 128 → Fin 1536 → EReal} {G : Fin 1536 → EReal} {W : Fin 12 → Fin 128 → Fin 128 → EReal}
  {B : Fin 128 → Fin 12 → EReal} {Q : Fin 128 → Fin 512 → EReal}

theorem dZ_first {o : ℕ} {s l : Fin 128} {j : Fin 3584} (h : j.val = o + l.val) (ho : o % 128 = 0 ∧ o / 128 < 12) :
    dZ U V D G W B Q s j = dU U V D G W B ⟨o / 128, ho.2⟩ s (chan ⟨o / 128, ho.2⟩ l) := by
  have e : (⟨j.val, by omega⟩ : Fin 1536) = chan ⟨o / 128, ho.2⟩ l := Fin.ext (by simp only [chan]; omega)
  unfold dZ
  rw [dif_pos (by omega), e, group_chan]

theorem dZ_zero {s l : Fin 128} {j : Fin 3584} (h : j.val = l.val) : dZ U V D G W B Q s j = dU U V D G W B 0 s (chan 0 l) :=
  dZ_first (o := 0) (by omega) (by decide)

theorem dZ_second {s : Fin 128} {l : Fin 1536} {j : Fin 3584} (h : j.val = 1536 + l.val) : dZ U V D G W B Q s j = dV U V D G W s l := by
  unfold dZ
  rw [dif_neg (by omega), dif_pos (by omega)]
  exact congrArg _ (Fin.ext (by simp only [h]; omega))

theorem dZ_rest {s : Fin 128} {l : Fin 512} {j : Fin 3584} (h : j.val = 3072 + l.val) : dZ U V D G W B Q s j = Q s l := by
  unfold dZ
  rw [dif_neg (by omega), dif_neg (by omega)]
  exact congrArg _ (Fin.ext (by simp only [h]; omega))
end

set_option maxHeartbeats 2000000 in
/-- What a point writes of the gradient of its rows. -/
theorem dz_point (c : Dev nD) (t : Fin cfg0.N) (y : S128x3584.Idx) :
    (outsAt0 m c t.val t.isLt).1 y
      = dZ (rU m c t) (rV m c t) (rD m c t) (rG m c t) (rW m c t) (rB m c t) (fun s j => iblk m c 3 t (ix2 s j)) (y 0) (y 1) := by
  unfold rU rV rD
  by_cases h0 : t.val % 32 = 0
  on_goal 2 =>
    rw [outsAt0_B m c t h0]
    frame_out
  on_goal 1 =>
    rw [outsAt0_A m c t h0]
    frame_open
    simp (disch := decide) only [↓ View.readCov_skip, ↓ View.readCov_cons_toLoadRect, ↓ View.readCov_fill]
    frame_out
  all_goals
    generalize X0_0 m c t = zu
    generalize X0_1 m c t = zv
    generalize X0_2 m c t = dm
    idx_vars y
    canon_tiles x hx using View.cover_of_tiledBy _ ![128, 128] (by sl_kernel_rfl) (ix2 y0 y1)
    case piece0 =>
      idx_vars x
      obtain rfl : y0 = x0 := Fin.ext hx0
      refine Eq.trans ?_ (dZ_rest hx1).symm
      rfl
    case piece1 =>
      idx_vars x
      obtain rfl : y0 = x0 := Fin.ext hx0
      refine Eq.trans ?_ (dZ_second hx1).symm
      generalize hC : concatenate S128x1536 1 _ _ = C
      have hD : ∀ s j, C (ix2 s j) = dGained (fun s j => zu (ix2 s j)) (fun s j => dm (ix2 s j)) (rW m c t) s j := by
        intro s j
        obtain ⟨g, l, rfl⟩ := chan_of j
        rw [← hC]
        refine (parts_at ![_, _, _, _, _, _, _, _, _, _, _, _] g s l).trans ?_
        unfold dGained
        rw [group_chan]
        clear hC
        fin_cases g
        all_goals
          dsimp only [Fin.isValue, Matrix.cons_val]
          open_payloads
          pointwise [dMixed, gelu, lower, chan, Memref.IsWhole.read_unread]
          exact rfl
      open_payloads
      pointwise [dV, hat, rstd, gelu, dgelu, hD]
      exact rfl
    all_goals
      idx_vars x
      obtain rfl : y0 = x0 := Fin.ext hx0
      first
        | refine Eq.trans ?_ (dZ_first hx1 (by decide)).symm; simp only [Nat.reduceDiv]
        | refine Eq.trans ?_ (dZ_zero hx1).symm
      open_payloads
      pointwise [dU, mixed, gained, hat, rstd, gelu, dgelu, lower, chan]
      exact rfl

end Cert.SguBlock
-- ==== Proof.SguArrays.lean ====
module

public import proofs.«01_k».proof.Proof.SguBlock

/-!
# The arrays the spatial gate's gradient leaves
-/

@[expose] public section

set_option maxRecDepth 16384

noncomputable section

open Idealize.ShloMosaic Idealize.ShloMosaic.TcCoe Idealize.SL.Sem Cert.SguKernelIdeal Cert.SguKernelIdeal.Gen Cert.SguGate Cert.SguBlock

namespace Cert.SguArrays

attribute [local instance] Cert.SguKernelIdeal.Gen.facts

/-- Row `s` of chunk `t`. -/
def row (t : Fin 32) (s : Fin 128) : Fin 4096 := ⟨t.val * 128 + s.val, by omega⟩

/-- The chunk of a row, and its place there. -/
def chunk (r : Fin 4096) : Fin 32 := ⟨r.val / 128, by omega⟩
def place (r : Fin 4096) : Fin 128 := ⟨r.val % 128, by omega⟩

theorem row_of (r : Fin 4096) : row (chunk r) (place r) = r := Fin.ext (by simp only [row, chunk, place]; omega)
theorem chunk_row (t : Fin 32) (s : Fin 128) : chunk (row t s) = t := Fin.ext (by simp only [row, chunk]; omega)
theorem place_row (t : Fin 32) (s : Fin 128) : place (row t s) = s := Fin.ext (by simp only [row, place]; omega)

section
variable (Z : FVec Ideal S4096x3584 .bf16) (D : FVec Ideal S4096x2048 .bf16) (Q : FVec Ideal S4096x512 .bf16) (G : FVec Ideal S1536 .f32)
  (W : FVec Ideal S12x128x128 .f32) (B : FVec Ideal S12x128 .f32)

/-- A chunk's rows of the whole arrays. -/
def cU (t : Fin 32) (s : Fin 128) (j : Fin 1536) : EReal := Z (ix2 (row t s) ⟨j.val, by omega⟩)
def cV (t : Fin 32) (s : Fin 128) (j : Fin 1536) : EReal := Z (ix2 (row t s) ⟨1536 + j.val, by omega⟩)
def cD (t : Fin 32) (s : Fin 128) (j : Fin 1536) : EReal := D (ix2 (row t s) ⟨j.val, by omega⟩)
def cQ (t : Fin 32) (s : Fin 128) (j : Fin 512) : EReal := Q (ix2 (row t s) j)
def aG (j : Fin 1536) : EReal := G (ix1 j)
def aW (g : Fin 12) (a s : Fin 128) : EReal := W (ix3 g a s)
def aB (a : Fin 128) (g : Fin 12) : EReal := B (ix2 g a)

/-- The four gradients. -/
def rowsGrad (r : Fin 4096) (j : Fin 3584) : EReal :=
  dZ (cU Z (chunk r)) (cV Z (chunk r)) (cD D (chunk r)) (aG G) (aW W) (aB B) (cQ Q (chunk r)) (place r) j
theorem rowsGrad_row (t : Fin 32) (s : Fin 128) (j : Fin 3584) :
    rowsGrad Z D Q G W B (row t s) j = dZ (cU Z t) (cV Z t) (cD D t) (aG G) (aW W) (aB B) (cQ Q t) s j := by
  unfold rowsGrad
  rw [chunk_row, place_row]
def matGrad (g : Fin 12) (a s : Fin 128) : EReal := ∑ t, dW (cU Z t) (cV Z t) (cD D t) (aG G) g a s
def biasGrad (a : Fin 128) (g : Fin 12) : EReal := ∑ t, dB (cU Z t) (cD D t) a g
def gainGrad (j : Fin 1536) : EReal := ∑ t, dGain (cU Z t) (cV Z t) (cD D t) (aW W) j
end

variable (m : (ℓ : Loc nD τ sig) → Buf (Elt Ideal) ℓ) (c : Dev nD)

abbrev vZ : FVec Ideal S4096x3584 .bf16 := m ((c : Thread nD τ).loc main_arg0)
abbrev vD : FVec Ideal S4096x2048 .bf16 := m ((c : Thread nD τ).loc main_arg1)
abbrev vQ : FVec Ideal S4096x512 .bf16 := m ((c : Thread nD τ).loc main_arg2)
abbrev vG : FVec Ideal S1536 .f32 := m ((c : Thread nD τ).loc main_arg3)
abbrev vW : FVec Ideal S12x128x128 .f32 := m ((c : Thread nD τ).loc main_arg4)
abbrev vB : FVec Ideal S12x128 .f32 := m ((c : Thread nD τ).loc main_arg5)

theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![0, 0, 0] ∧ win0_6.index t = ![0, 0]
    ∧ win0_7.index t = ![t.val, 0] ∧ win0_8.index t = ![0, 0, 0] ∧ win0_9.index t = ![0, 0] ∧ win0_10.index t = ![0, 0] ∧ t.val < 32 :=
  (by decide +kernel : ∀ t : Fin grid0.N, _)

/-- The last point. -/
def lastPoint : Fin cfg0.N := ⟨31, (by decide +kernel : 31 < grid0.N)⟩

/-- The chunk of a grid point. -/
def point (t : Fin cfg0.N) : Fin 32 := ⟨t.val, (idx t).2.2.2.2.2.2.2.2.2.2.2⟩

theorem read_u (t : Fin cfg0.N) : rU m c t = cU (vZ m c) (point t) := by
  funext s j
  unfold rU X0_0 Pipeline.Window.fill
  rw [dif_pos (moved0_0 t _)]
  unfold cU row point
  blk_point [iblk, V, idx t]

theorem read_v (t : Fin cfg0.N) : rV m c t = cV (vZ m c) (point t) := by
  funext s j
  unfold rV X0_1 Pipeline.Window.fill
  rw [dif_pos (moved0_1 t _)]
  unfold cV row point
  blk_point [iblk, V, idx t]

theorem read_d (t : Fin cfg0.N) : rD m c t = cD (vD m c) (point t) := by
  funext s j
  unfold rD X0_2 Pipeline.Window.fill
  rw [dif_pos (moved0_2 t _)]
  unfold cD row point
  blk_point [iblk, V, idx t]

theorem read_q (t : Fin cfg0.N) : (fun s j => iblk m c 3 t (ix2 s j)) = cQ (vQ m c) (point t) := by
  funext s j
  unfold cQ row point
  blk_point [iblk, V, idx t]

theorem read_w (t : Fin cfg0.N) : rW m c t = aW (vW m c) := by
  funext g a s
  unfold rW aW
  blk_point [iblk, V, idx t]

theorem read_g (t : Fin cfg0.N) : rG m c t = aG (vG m c) := by
  funext j
  unfold rG aG
  blk_simp [iblk]
  entry_read
  have e : (((cfg0.win 4).blk t).view.emb (ix2 0 j)) = ix2 0 j := by
    blk_ext [idx t]
  refine (congrArg (shapeCast main_v1.ty.shape (m (c, Proc.tc.devRef main_arg3)) shapeCasts_S1536_S1x1536) e).trans ?_
  pointwise

theorem read_b (t : Fin cfg0.N) : rB m c t = aB (vB m c) := by
  funext a g
  unfold rB aB
  blk_simp [iblk]
  entry_read
  have e : (((cfg0.win 6).blk t).view.emb (ix2 a g)) = ix2 a g := by
    blk_ext [idx t]
  refine (congrArg (transpose S128x12 [1, 0] (m (c, Proc.tc.devRef main_arg5)) transposes_S12x128_S128x12_1_0) e).trans ?_
  pointwise

/-- The rows' gradient, whole. -/
theorem final7 : (dats m 0 c).arrAt 7 (cfgs 0).N
    = fun i => rowsGrad (vZ m c) (vD m c) (vQ m c) (vG m c) (vW m c) (vB m c) (i 0) (i 1) := by
  refine (dats m 0 c).arrAt_eq_of_covers 7 _ (by decide +kernel) fun t _ y => ?_
  blk_simp
  rw [after0_7, dz_point m c t y, read_u, read_v, read_d, read_g, read_w, read_b, read_q]
  have e0 : (((cfg0.win 7).blk t).view.emb y) 0 = row (point t) (y 0) := by
    apply Fin.ext
    blk_simp [idx t, row, point]
  have e1 : (((cfg0.win 7).blk t).view.emb y) 1 = y 1 := by
    apply Fin.ext
    blk_simp [idx t]
  rw [e0, e1]
  exact (rowsGrad_row _ _ _ _ _ _ (point t) (y 0) (y 1)).symm

/-- The matrices' gradient, whole. -/
theorem final8 : (dats m 0 c).arrAt 8 (cfgs 0).N = fun i => matGrad (vZ m c) (vD m c) (vG m c) (i 0) (i 1) (i 2) := by
  refine (dats m 0 c).arrAt_eq_of_after_last 8 lastPoint (by decide +kernel) _ fun j => ?_
  blk_simp
  rw [after0_8, Pipeline.eq_sum_fin_of_reset_step_apply_last (fun n h => (outsAt0 m c n h).2.1) 32 (fun _ => 0)
    (fun t j => dW (rU m c t) (rV m c t) (rD m c t) (rG m c t) (j 0) (j 1) (j 2))
    (fun t h j => by rw [zero_add]; exact dw_first m c t h j)
    (fun t h j => dw_later m c t h j)
    (le_of_eq N_0) lastPoint rfl j, zero_add]
  simp only [read_u, read_v, read_d, read_g]
  rfl

/-- The bias's gradient, whole. -/
theorem final9 : (dats m 0 c).arrAt 9 (cfgs 0).N = fun i => biasGrad (vZ m c) (vD m c) (i 0) (i 1) := by
  refine (dats m 0 c).arrAt_eq_of_after_last 9 lastPoint (by decide +kernel) _ fun j => ?_
  blk_simp
  rw [after0_9, Pipeline.eq_sum_fin_of_reset_step_apply_last (fun n h => (outsAt0 m c n h).2.2.1) 32 (fun _ => 0)
    (fun t j => dB (rU m c t) (rD m c t) (j 0) (j 1))
    (fun t h j => by rw [zero_add]; exact db_first m c t h j)
    (fun t h j => db_later m c t h j)
    (le_of_eq N_0) lastPoint rfl j, zero_add]
  simp only [read_u, read_d]
  rfl

/-- The gain's gradient, whole. -/
theorem final10 : (dats m 0 c).arrAt 10 (cfgs 0).N = fun i => gainGrad (vZ m c) (vD m c) (vW m c) (i 1) := by
  refine (dats m 0 c).arrAt_eq_of_after_last 10 lastPoint (by decide +kernel) _ fun j => ?_
  blk_simp
  have hp : ∀ (t : Fin cfg0.N) (j : S1x1536.Idx), (outsAt0 m c t.val t.isLt).2.2.2 j
      = (if t.val % 32 = 0 then 0 else (outsAt0 m c (t.val - 1) (Nat.lt_of_le_of_lt (Nat.sub_le _ _) t.isLt)).2.2.2 j)
        + dGain (rU m c t) (rV m c t) (rD m c t) (rW m c t) (j 1) := by
    intro t j
    idx_vars j
    obtain rfl : j0 = 0 := Subsingleton.elim _ _
    exact dg_point m c t j1
  rw [after0_10, Pipeline.eq_sum_fin_of_reset_step_apply_last (fun n h => (outsAt0 m c n h).2.2.2) 32 (fun _ => 0)
    (fun t j => dGain (rU m c t) (rV m c t) (rD m c t) (rW m c t) (j 1))
    (fun t h j => by have := hp t j; rw [if_pos h] at this; exact this)
    (fun t h j => by have := hp t j; rw [if_neg h] at this; exact this)
    (le_of_eq N_0) lastPoint rfl j, zero_add]
  simp only [read_u, read_v, read_d, read_w]
  rfl

end Cert.SguArrays
-- ==== Proof.SguReference.lean ====
module

public import proofs.«01_k».proof.Proof.SguArrays
public import proofs.«01_k».proof.Proof.NormRow
public import proofs.«01_k».proof.Proof.Gen.SguReferenceIdeal.Read

/-!
# The plain gradient of the spatial gate

The derivative of the plain gate, read entry by entry, is the gradient that the kernel's blocks gather: the rows are cut
into 32 chunks of 128, the columns into 12 groups of 128, and a sum over all rows is a sum over chunks. The gradient through
the norm of a row is the identity of the norm's own module, at a row of 1536 entries.
-/

@[expose] public section

set_option maxRecDepth 16384

noncomputable section

open Idealize.ShloMosaic Cert.SguReferenceIdeal Cert.SguReferenceIdeal.Read Cert.SguGate Cert.SguArrays

namespace Cert.SguReference

attribute [local instance] Cert.SguReferenceIdeal.Gen.facts

/-- The word of two. -/
theorem two_word : Ideal.ofBits .f32 0x40000000#32 = ((2 : ℝ) : EReal) := by
  simp [Ideal.ofBits, Ideal.ieee, -EReal.coe_mul]
  norm_num

/-- The reciprocal root of two. -/
theorem half_root : Ideal.rsqrt (Ideal.ofBits .f32 0x40000000#32) = halfRoot := by
  rw [two_word, Ideal.rsqrt_coe, if_neg (by norm_num), if_neg (by norm_num)]

/-- The word of minus one. -/
theorem minus_one_word : Ideal.ofBits .f32 0xBF800000#32 = ((-1 : ℝ) : EReal) := by
  simp [Ideal.ofBits, Ideal.ieee, -EReal.coe_mul]
  norm_num

/-- The reciprocal root of twice the angle whose cosine is minus one. -/
theorem normal_root : Ideal.rsqrt (Ideal.ofBits .f32 0x40000000#32 * Ideal.acos (Ideal.ofBits .f32 0xBF800000#32)) = normal := by
  have e : Ideal.acos (((-1 : ℝ) : EReal)) = ((Real.pi : ℝ) : EReal) := by
    show (if (-1 : ℝ) ≤ -1 ∧ (-1 : ℝ) ≤ 1 then (Real.arccos (-1) : EReal) else ⊥) = _
    rw [if_pos (by norm_num), Real.arccos_neg_one]
  have hp : 0 < 2 * Real.pi := by positivity
  rw [two_word, minus_one_word, e, ← EReal.coe_mul, Ideal.rsqrt_coe, if_neg (not_lt.mpr hp.le), if_neg hp.ne']

/-- The activation as the plain text has it. -/
theorem gelu_plain (x : EReal) : x * (half * (1 + Ideal.erf (x * halfRoot))) = gelu x := by
  unfold gelu
  rw [← mul_assoc, mul_comm x half]
  pointwise

variable (Z : FVec Ideal S4096x3584 .bf16) (D : FVec Ideal S4096x2048 .bf16) (Q : FVec Ideal S4096x512 .bf16) (G : FVec Ideal S1536 .f32)
  (W : FVec Ideal S12x128x128 .f32) (B : FVec Ideal S12x128 .f32)

/-- The factors' activation, at a row and a column. -/
theorem u_at (t : Fin 32) (s : Fin 128) (j : Fin 1536) : val_main_v11 (F := Ideal) Z (ix2 (row t s) j) = gelu (cU Z t s j) := by
  rw [← gelu_plain, ← half_root]
  pointwise [val_main_v0, val_main_v1, val_main_cst, val_main_v3, val_main_v4, val_main_v5, val_main_v6, val_main_cst_0, val_main_v7, val_main_v8, val_main_cst_1, val_main_v9, val_main_v10, val_main_v11, cU]

/-- The gated half's activation. -/
theorem v_at (t : Fin 32) (s : Fin 128) (j : Fin 1536) : val_main_v39 (F := Ideal) Z (ix2 (row t s) j) = gelu (cV Z t s j) := by
  rw [← gelu_plain, ← half_root]
  pointwise [val_main_v0, val_main_v2, val_main_cst_8, val_main_v31, val_main_v32, val_main_v33, val_main_v34, val_main_cst_9, val_main_v35, val_main_v36, val_main_cst_10, val_main_v37, val_main_v38, val_main_v39, cV]

/-- The derivative of the factors' activation. -/
theorem du_at (t : Fin 32) (s : Fin 128) (j : Fin 1536) : val_main_v30 (F := Ideal) Z (ix2 (row t s) j) = dgelu (cU Z t s j) := by
  unfold dgelu
  rw [← half_root, ← normal_root]
  pointwise [val_main_v0, val_main_v1, val_main_cst_2, val_main_v12, val_main_v13, val_main_v14, val_main_v15, val_main_cst_3, val_main_v16, val_main_v17, val_main_cst_4, val_main_v18, val_main_v19, val_main_cst_5, val_main_v20, val_main_v21, val_main_v22, val_main_v23, val_main_cst_6, val_main_v24, val_main_cst_7, val_main_v25, val_main_v26, val_main_v27, val_main_v28, val_main_v29, val_main_v30, cU]

/-- The derivative of the gated half's activation. -/
theorem dv_at (t : Fin 32) (s : Fin 128) (j : Fin 1536) : val_main_v58 (F := Ideal) Z (ix2 (row t s) j) = dgelu (cV Z t s j) := by
  unfold dgelu
  rw [← half_root, ← normal_root]
  pointwise [val_main_v0, val_main_v2, val_main_cst_11, val_main_v40, val_main_v41, val_main_v42, val_main_v43, val_main_cst_12, val_main_v44, val_main_v45, val_main_cst_13, val_main_v46, val_main_v47, val_main_cst_14, val_main_v48, val_main_v49, val_main_v50, val_main_v51, val_main_cst_15, val_main_v52, val_main_cst_16, val_main_v53, val_main_v54, val_main_v55, val_main_v56, val_main_v57, val_main_v58, cV]

/-- The reciprocal root of a row's mean square. -/
theorem rstd_at (t : Fin 32) (s : Fin 128) (z : Fin 1) : val_main_v66 (F := Ideal) Z (ix2 (row t s) z) = rstd (cV Z t s) := by
  unfold rstd
  pointwise [val_main_v59, val_main_v60, val_main_v61, val_main_v62, val_main_v63, val_main_v64, val_main_v65, val_main_v66, val_main_cst_17, val_main_cst_18, val_main_cst_19, v_at]

/-- The normed row. -/
theorem hat_at (t : Fin 32) (s : Fin 128) (j : Fin 1536) : val_main_v71 (F := Ideal) Z (ix2 (row t s) j) = hat (cV Z t) s j := by
  unfold hat
  pointwise [val_main_v71, val_main_v70, v_at, rstd_at]

/-- The normed row times its gain. -/
theorem gained_at (t : Fin 32) (s : Fin 128) (j : Fin 1536) : val_main_v74 (F := Ideal) Z G (ix2 (row t s) j) = gained (cV Z t) (aG G) s j := by
  unfold gained aG
  pointwise [val_main_v74, val_main_v73, val_main_v72, hat_at]

/-- The cotangent of the gated columns. -/
theorem d_at (t : Fin 32) (s : Fin 128) (j : Fin 1536) : val_main_v90 (F := Ideal) D (ix2 (row t s) j) = cD D t s j := by
  unfold cD
  pointwise [val_main_v90, val_main_v89]

/-- The cotangent of the mixed rows. -/
theorem dMixed_at (t : Fin 32) (s : Fin 128) (j : Fin 1536) : val_main_v91 (F := Ideal) Z D (ix2 (row t s) j) = dMixed (cU Z t) (cD D t) s j := by
  unfold dMixed
  rw [mul_comm]
  pointwise [val_main_v91, u_at, d_at]

/-- The mixing weights, with their upper part zero. -/
theorem low_at (g : Fin 12) (a s : Fin 128) : val_main_v80 (F := Ideal) W (ix3 g a s) = lower a s (aW W g a s) := by
  unfold lower aW
  pointwise [val_main_v80, val_main_v79, val_main_v78, val_main_v77, val_main_v76, val_main_cst_21, val_main_call0_v0, val_main_call0_c, val_main_call0_v1, val_main_call0_v2, val_main_call0_v3, val_main_call0_v4, val_main_call0_cst, val_main_call0_v5]
  rw [IntOp.addi, BitVec.add_zero]

/-- The chunk of a row, its place in the chunk, the group of a channel and its place in the group. -/
theorem at_chunk (t : Fin 32) (a : Fin 128) (h : (row t a).val / 128 < 32) : (⟨(row t a).val / 128, h⟩ : Fin 32) = t := chunk_row t a
theorem at_place (t : Fin 32) (a : Fin 128) (h : (row t a).val % 128 < 128) : (⟨(row t a).val % 128, h⟩ : Fin 128) = a := place_row t a
theorem at_group (g : Fin 12) (l : Fin 128) (h : (chan g l).val / 128 < 12) : (⟨(chan g l).val / 128, h⟩ : Fin 12) = g := Cert.SguBlock.group_chan g l
theorem at_lane (g : Fin 12) (l : Fin 128) (h : (chan g l).val % 128 < 128) : (⟨(chan g l).val % 128, h⟩ : Fin 128) = l :=
  Fin.ext (by simp only [chan]; omega)
theorem to_chan (g : Fin 12) (l : Fin 128) (h : g.val * 128 + l.val < 1536) : (⟨g.val * 128 + l.val, h⟩ : Fin 1536) = chan g l :=
  Fin.ext (by simp only [chan]; omega)

/-- The gained rows, cut into chunks and groups. -/
theorem cut_at (t : Fin 32) (a : Fin 128) (g : Fin 12) (l : Fin 128) : val_main_v75 (F := Ideal) Z G (ix4 t a g l) = gained (cV Z t) (aG G) a (chan g l) := by
  rw [← gained_at]
  pointwise [val_main_v75]
  rw [to_chan]
  rfl

/-- The mixed rows' cotangent, cut likewise. -/
theorem dCut_at (t : Fin 32) (a : Fin 128) (g : Fin 12) (l : Fin 128) : val_main_v93 (F := Ideal) Z D (ix4 t a g l) = dMixed (cU Z t) (cD D t) a (chan g l) := by
  rw [← dMixed_at]
  pointwise [val_main_v93]
  rw [to_chan]
  rfl

/-- THE MIXED ROWS: in a chunk, each group by its own lower triangular weights. -/
theorem mixed_at (t : Fin 32) (a : Fin 128) (g : Fin 12) (l : Fin 128) :
    val_main_v87 (F := Ideal) Z G W B (ix2 (row t a) (chan g l)) = mixed (cV Z t) (aG G) (aW W) (aB B) g a (chan g l) := by
  unfold mixed aB
  pointwise [val_main_v87, val_main_v86, val_main_v85, val_main_v84, val_main_v83, val_main_v82, val_main_v81, cut_at, low_at]
  simp only [at_chunk, at_place, at_group, at_lane]
  exact congrArg (· + _) (Finset.sum_congr rfl fun s _ => mul_comm _ _)

/-- A sum over the outermost and the innermost of four axes. -/
theorem two_axes {n p : ℕ} (h : (⟨4, ![n, 128, 12, p]⟩ : Shape).ReducesTo [0, 3] S128x12) (v : (⟨4, ![n, 128, 12, p]⟩ : Shape).Idx → EReal)
    (z : EReal) (a : Fin 128) (g : Fin 12) : Ideal.hostReduceAdd h v z (ix2 a g) = z + ∑ k, ∑ l, v (ix4 k a g l) := by
  refine congrArg (z + ·) ?_
  rw [← Fintype.sum_prod_type' (fun k l => v (ix4 k a g l))]
  refine Finset.sum_filter_eq_sum_of_fiber _ (fun q : Fin n × Fin p => ix4 q.1 a g q.2)
    (fun q r e => Prod.ext (congrFun e 0) (congrFun e 3)) (fun i => ?_) v
  constructor
  · intro e
    refine ⟨(i 0, i 3), ?_⟩
    rw [show a = i 1 from (congrFun e 0).symm, show g = i 2 from (congrFun e 1).symm]
    exact (eq_ix4 i).symm
  · rintro ⟨q, rfl⟩
    exact (eq_ix2 _)

/-- THE BIAS'S GRADIENT. -/
theorem bias_at (a : Fin 128) (g : Fin 12) : val_main_v130 (F := Ideal) Z D (ix2 a g) = biasGrad Z D a g := by
  unfold biasGrad dB
  pointwise [val_main_v130, val_main_v97, val_main_v96, val_main_v95, val_main_v94, val_main_cst_22, val_main_cst_23, two_axes, dCut_at]
  simp only [Fin.sum_univ_one]

/-- The lower part of a sum. -/
theorem lower_sum (a s : Fin 128) (f : Fin 32 → EReal) : lower a s (∑ t, f t) = ∑ t, lower a s (f t) := by
  simp only [lower_eq]
  split
  · rfl
  · simp

/-- THE MIXING WEIGHTS' GRADIENT. -/
theorem mat_at (g : Fin 12) (a s : Fin 128) : val_main_v103 (F := Ideal) Z D G (ix3 g a s) = matGrad Z D G g a s := by
  unfold matGrad dW
  rw [← lower_sum]
  unfold lower
  pointwise [val_main_v103, val_main_v102, val_main_v99, val_main_v98, dCut_at, cut_at, val_main_v78, val_main_v77, val_main_v76, val_main_cst_21, val_main_call0_v0, val_main_call0_c, val_main_call0_v1, val_main_call0_v2, val_main_call0_v3, val_main_call0_v4, val_main_call0_cst, val_main_call0_v5]
  rw [IntOp.addi, BitVec.add_zero]

/-- The gradient of the gained rows, in a group. -/
theorem dGained_at (t : Fin 32) (s : Fin 128) (g : Fin 12) (l : Fin 128) :
    val_main_v104 (F := Ideal) Z D W (ix2 (row t s) (chan g l)) = dGained (cU Z t) (cD D t) (aW W) s (chan g l) := by
  unfold dGained
  pointwise [val_main_v104, val_main_v101, val_main_v100, val_main_v98, dCut_at, low_at]
  simp only [at_chunk, at_place, at_group, at_lane, Cert.SguBlock.group_chan]
  exact Finset.sum_congr rfl fun s _ => mul_comm _ _

/-- The gradient of the gained rows. -/
theorem dGained_all (t : Fin 32) (s : Fin 128) (j : Fin 1536) :
    val_main_v104 (F := Ideal) Z D W (ix2 (row t s) j) = dGained (cU Z t) (cD D t) (aW W) s j := by
  obtain ⟨g, l, rfl⟩ := Cert.SguBlock.chan_of j
  exact dGained_at Z D W t s g l

/-- THE GAIN'S GRADIENT: over all rows, chunk by chunk. -/
theorem gain_at (z : Fin 1) (j : Fin 1536) : val_main_v131 (F := Ideal) Z D W (ix2 z j) = gainGrad Z D W j := by
  unfold gainGrad dGain
  trans ∑ r : Fin 4096, val_main_v104 (F := Ideal) Z D W (ix2 r j) * val_main_v71 (F := Ideal) Z (ix2 r j)
  · pointwise [val_main_v131, val_main_v107, val_main_v106, val_main_v105, val_main_v110, val_main_cst_24, val_main_cst_25]
    simp only [Fin.sum_univ_one]
    exact Finset.sum_congr rfl fun r _ => mul_comm _ _
  · refine (Fin.sum_univ_tiles 32 128 rfl _).trans ?_
    refine Finset.sum_congr rfl fun t _ => Finset.sum_congr rfl fun s _ => ?_
    rw [← dGained_all, ← hat_at]
    rfl

/-- The gradient of the factors' columns. -/
theorem dU_at (t : Fin 32) (s : Fin 128) (j : Fin 1536) :
    val_main_v126 (F := Ideal) Z D G W B (ix2 (row t s) j) = dU (cU Z t) (cV Z t) (cD D t) (aG G) (aW W) (aB B) (group j) s j := by
  obtain ⟨g, l, rfl⟩ := Cert.SguBlock.chan_of j
  unfold dU
  rw [Cert.SguBlock.group_chan]
  pointwise [val_main_v126, val_main_v92, du_at, d_at, mixed_at]

/-- The row's width is positive. -/
theorem width : Cert.NormRow.Positive 0x44C00000#32 :=
  ⟨1536, by norm_num, by simp [Ideal.ofBits, Ideal.ieee, -EReal.coe_mul]; norm_num⟩

/-- A row's gradient, as the norm's rule gives it. -/
theorem dV_row (U V D : Fin 128 → Fin 1536 → EReal) (G : Fin 1536 → EReal) (W : Fin 12 → Fin 128 → Fin 128 → EReal) (s : Fin 128) (j : Fin 1536) :
    (dGained U D W s j * G j * rstd (V s) + gelu (V s j) * Cert.NormRow.dMean 0x44C00000#32 (fun k => gelu (V s k)) G (dGained U D W s)
      + Cert.NormRow.dMean 0x44C00000#32 (fun k => gelu (V s k)) G (dGained U D W s) * gelu (V s j)) * dgelu (V s j) = dV U V D G W s j := by
  unfold dV
  refine congrArg (· * _) ?_
  have h := Cert.NormRow.dRow_eq 0x44C00000#32 (fun k => gelu (V s k)) G (dGained U D W s) width 0 j
  rw [zero_add] at h
  refine Eq.trans h ?_
  exact add_zero _

/-- The gradient of the gated columns. -/
theorem dV_at (t : Fin 32) (s : Fin 128) (j : Fin 1536) :
    val_main_v125 (F := Ideal) Z D G W (ix2 (row t s) j) = dV (cU Z t) (cV Z t) (cD D t) (aG G) (aW W) s j := by
  rw [← dV_row]
  unfold Cert.NormRow.dMean Cert.NormRow.rstd Cert.NormRow.meanSq aG
  pointwise [val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v70, val_main_v69, val_main_v68, val_main_v67, val_main_v72, val_main_v65, val_main_v64, val_main_v63, val_main_v62, val_main_v61, val_main_v60, val_main_v59, val_main_cst_17, val_main_cst_18, val_main_cst_19, val_main_cst_20, val_main_cst_26, val_main_cst_27, val_main_cst_28, v_at, dv_at, rstd_at, dGained_all]
  simp only [Fin.sum_univ_one]
  rfl

/-- THE ROWS' GRADIENT: the factors' columns, the gated columns, and the memory queries' cotangent unchanged. -/
theorem dz_at (r : Fin 4096) (j : Fin 3584) : val_main_v129 (F := Ideal) Z D Q G W B (ix2 r j) = rowsGrad Z D Q G W B r j := by
  obtain ⟨t, s, rfl⟩ : ∃ t s, r = row t s := ⟨chunk r, place r, (row_of r).symm⟩
  rw [rowsGrad_row]
  unfold Cert.SguBlock.dZ
  pointwise [val_main_v129, val_main_v128, val_main_v127, dU_at, dV_at]
  refine dite_congr rfl (fun _ => rfl) fun h => dite_congr (propext ⟨fun _ => by omega, fun _ => by omega⟩) (fun _ => rfl) fun _ => ?_
  exact congrArg (fun q => Q (ix2 (row t s) q)) (Fin.ext (by simp only; omega))

end Cert.SguReference

namespace Cert.Proof

attribute [local instance] Cert.SguKernelIdeal.Gen.facts Cert.SguReferenceIdeal.Gen.facts

/-- The kernel's four gradients of the spatial gate are the plain ones. -/
theorem gate_value : Cert.algebraic_SguKernelIdeal_SguReferenceIdeal := by
  intro m g m' g' hpre hag
  refine ⟨fun c => (Cert.SguKernelIdeal.Gen.dats m 0 c).arrAt 7 Cert.SguKernelIdeal.cfg0.N,
    fun c => (Cert.SguKernelIdeal.Gen.dats m 0 c).arrAt 8 Cert.SguKernelIdeal.cfg0.N,
    fun c => (Cert.SguKernelIdeal.Gen.dats m 0 c).arrAt 9 Cert.SguKernelIdeal.cfg0.N,
    fun c => (Cert.SguKernelIdeal.Gen.dats m 0 c).arrAt 10 Cert.SguKernelIdeal.cfg0.N, Cert.SguKernelIdeal.Value.run_blocks m g,
    (θ_run _ _ _).mono (fun r h c => ?_) (Cert.SguReferenceIdeal.Value.run m' g')⟩
  obtain ⟨h0, h1, h2, h3, h4⟩ := h c
  obtain ⟨e0, e1, e2, e3, e4, e5⟩ := hag c
  refine ⟨h0.trans ((val_main_v129_eq m' c).trans ?_), h1.trans ((val_main_v103_eq _ _ _).trans ?_),
    h2.trans ((val_main_v130_eq _ _).trans ?_), h3.trans ((val_main_v131_eq m' c).trans ?_), h4⟩
  · rw [e0, e1, e2, e3, e4, e5]
    refine Eq.trans ?_ (final7 m c).symm
    funext i
    exact (congrArg _ (eq_ix2 i)).trans (Cert.SguReference.dz_at _ _ _ _ _ _ (i 0) (i 1))
  · rw [e0, e1, e3]
    refine Eq.trans ?_ (final8 m c).symm
    funext i
    exact (congrArg _ (eq_ix3 i)).trans (Cert.SguReference.mat_at _ _ _ (i 0) (i 1) (i 2))
  · rw [e0, e1]
    refine Eq.trans ?_ (final9 m c).symm
    funext i
    exact (congrArg _ (eq_ix2 i)).trans (Cert.SguReference.bias_at _ _ (i 0) (i 1))
  · rw [e0, e1, e4]
    refine Eq.trans ?_ (final10 m c).symm
    funext i
    exact (congrArg _ (eq_ix2 i)).trans (Cert.SguReference.gain_at _ _ _ (i 0) (i 1))

end Cert.Proof
-- ==== Proof.Fsgu.lean ====
module

public import proofs.«01_k».proof.Proof.SguReference
public import proofs.«01_k».proof.Proof.Gen.FsguKernelIdeal.Value
public import proofs.«01_k».proof.Proof.Gen.FsguReferenceIdeal.Read
public import Idealize.ShloMosaic.Lib.Pipeline.ValueKit
public import Idealize.ShloMosaic.Lib.Pipeline.ReadBack

/-!
# The spatial gate

The kernel writes, for each chunk of 128 rows, twelve groups of 128 columns: the activation of the factors times the rows of
the chunk, normed and mixed by the group's lower triangular weights. The plain gate is what its gradient's derivation
computes on the way.
-/

@[expose] public section

set_option maxRecDepth 16384

noncomputable section

open Idealize.ShloMosaic Idealize.ShloMosaic.TcCoe Cert.SguGate Cert.SguArrays

namespace Cert.Fsgu

section Kernel

open Cert.FsguKernelIdeal Cert.FsguKernelIdeal.Gen

attribute [local instance] Cert.FsguKernelIdeal.Gen.facts

/-- A chunk's gated rows. -/
def out (U V : Fin 128 → Fin 1536 → EReal) (G : Fin 1536 → EReal) (W : Fin 12 → Fin 128 → Fin 128 → EReal) (B : Fin 128 → Fin 12 → EReal)
    (g : Fin 12) (s : Fin 128) (j : Fin 1536) : EReal := gelu (U s j) * mixed V G W B g s j

variable (m : (ℓ : Loc nD τ sig) → Buf (Elt Ideal) ℓ)

theorem out_first {U V : Fin 128 → Fin 1536 → EReal} {G : Fin 1536 → EReal} {W : Fin 12 → Fin 128 → Fin 128 → EReal}
    {B : Fin 128 → Fin 12 → EReal} {o : ℕ} {s l : Fin 128} {j : Fin 1536} (h : j.val = o + l.val) (ho : o % 128 = 0 ∧ o / 128 < 12) :
    out U V G W B (group j) s j = out U V G W B ⟨o / 128, ho.2⟩ s (chan ⟨o / 128, ho.2⟩ l) := by
  obtain rfl : j = chan ⟨o / 128, ho.2⟩ l := Fin.ext (by simp only [chan]; omega)
  rw [Cert.SguBlock.group_chan]

/-- What a point writes. -/
theorem out_point (c : Dev nD) (t : Fin cfg0.N) (y : S128x1536.Idx) :
    outsAt0 m c t y = out (fun s j => X0_0 m c t (ix2 s j)) (fun s j => X0_1 m c t (ix2 s j)) (fun j => iblk m c 2 t (ix2 0 j))
      (fun g a s => iblk m c 3 t (ix3 g a s)) (fun a g => iblk m c 4 t (ix2 a g)) (group (y 1)) (y 0) (y 1) := by
  unfold outsAt0
  frame_out
  generalize X0_0 m c t = zu
  generalize X0_1 m c t = zv
  idx_vars y
  canon_tiles x hx using View.cover_of_tiledBy _ ![128, 128] (by sl_kernel_rfl) (ix2 y0 y1)
  all_goals
    idx_vars x
    obtain rfl : y0 = x0 := Fin.ext hx0
    first
      | refine Eq.trans ?_ (out_first hx1 (by decide)).symm; simp only [Nat.reduceDiv]
      | refine Eq.trans ?_ (out_first (o := 0) (hx1.trans (Nat.zero_add _).symm) (by decide)).symm; simp only [Nat.reduceDiv]
    open_payloads
    pointwise [out, mixed, gained, hat, rstd, gelu, lower, chan]
    exact rfl

abbrev vZ (c : Dev nD) : FVec Ideal S4096x3584 .bf16 := m ((c : Thread nD τ).loc main_arg0)
abbrev vG (c : Dev nD) : FVec Ideal S1536 .f32 := m ((c : Thread nD τ).loc main_arg1)
abbrev vW (c : Dev nD) : FVec Ideal S12x128x128 .f32 := m ((c : Thread nD τ).loc main_arg2)
abbrev vB (c : Dev nD) : FVec Ideal S12x128 .f32 := m ((c : Thread nD τ).loc main_arg3)

theorem idx : ∀ t : Fin cfg0.N, win0_0.index t = ![t.val, 0] ∧ win0_1.index t = ![t.val, 1] ∧ win0_2.index t = ![0, 0]
    ∧ win0_3.index t = ![0, 0, 0] ∧ win0_4.index t = ![0, 0] ∧ win0_5.index t = ![t.val, 0] ∧ t.val < 32 :=
  (by decide +kernel : ∀ t : Fin grid0.N, _)

/-- The chunk of a grid point. -/
def point (t : Fin cfg0.N) : Fin 32 := ⟨t.val, (idx t).2.2.2.2.2.2⟩

variable (c : Dev nD)

theorem read_u (t : Fin cfg0.N) : (fun (s : Fin 128) (j : Fin 1536) => X0_0 m c t (ix2 s j)) = cU (vZ m c) (point t) := by
  funext s j
  unfold X0_0 Pipeline.Window.fill
  rw [dif_pos (moved0_0 t _)]
  unfold cU row point
  blk_point [iblk, V, idx t]

theorem read_v (t : Fin cfg0.N) : (fun (s : Fin 128) (j : Fin 1536) => X0_1 m c t (ix2 s j)) = cV (vZ m c) (point t) := by
  funext s j
  unfold X0_1 Pipeline.Window.fill
  rw [dif_pos (moved0_1 t _)]
  unfold cV row point
  blk_point [iblk, V, idx t]

theorem read_w (t : Fin cfg0.N) : (fun (g : Fin 12) (a s : Fin 128) => iblk m c 3 t (ix3 g a s)) = aW (vW m c) := by
  funext g a s
  unfold aW
  blk_point [iblk, V, idx t]

theorem read_g (t : Fin cfg0.N) : (fun (j : Fin 1536) => iblk m c 2 t (ix2 0 j)) = aG (vG m c) := by
  funext j
  unfold aG
  blk_simp [iblk]
  entry_read
  have e : (((cfg0.win 2).blk t).view.emb (ix2 0 j)) = ix2 0 j := by
    blk_ext [idx t]
  refine (congrArg (shapeCast main_v1.ty.shape (m (c, Proc.tc.devRef main_arg1)) shapeCasts_S1536_S1x1536) e).trans ?_
  pointwise

theorem read_b (t : Fin cfg0.N) : (fun (a : Fin 128) (g : Fin 12) => iblk m c 4 t (ix2 a g)) = aB (vB m c) := by
  funext a g
  unfold aB
  blk_simp [iblk]
  entry_read
  have e : (((cfg0.win 4).blk t).view.emb (ix2 a g)) = ix2 a g := by
    blk_ext [idx t]
  refine (congrArg (transpose S128x12 [1, 0] (m (c, Proc.tc.devRef main_arg3)) transposes_S12x128_S128x12_1_0) e).trans ?_
  pointwise

/-- The gated rows. -/
def whole (Z : FVec Ideal S4096x3584 .bf16) (G : FVec Ideal S1536 .f32) (W : FVec Ideal S12x128x128 .f32) (B : FVec Ideal S12x128 .f32)
    (r : Fin 4096) (j : Fin 1536) : EReal :=
  out (cU Z (chunk r)) (cV Z (chunk r)) (aG G) (aW W) (aB B) (group j) (place r) j

theorem whole_row (Z : FVec Ideal S4096x3584 .bf16) (G : FVec Ideal S1536 .f32) (W : FVec Ideal S12x128x128 .f32)
    (B : FVec Ideal S12x128 .f32) (t : Fin 32) (s : Fin 128) (j : Fin 1536) :
    whole Z G W B (row t s) j = out (cU Z t) (cV Z t) (aG G) (aW W) (aB B) (group j) s j := by
  unfold whole
  rw [chunk_row, place_row]

/-- The gate, whole. -/
theorem final5 : (dats m 0 c).arrAt 5 (cfgs 0).N = fun i => whole (vZ m c) (vG m c) (vW m c) (vB m c) (i 0) (i 1) := by
  refine (dats m 0 c).arrAt_eq_of_covers 5 _ (by decide +kernel) fun t _ y => ?_
  blk_simp
  rw [after0_5, out_point m c t y, read_u, read_v, read_g, read_w, read_b]
  have e0 : (((cfg0.win 5).blk t).view.emb y) 0 = row (point t) (y 0) := by
    apply Fin.ext
    blk_simp [idx t, row, point]
  have e1 : (((cfg0.win 5).blk t).view.emb y) 1 = y 1 := by
    apply Fin.ext
    blk_simp [idx t]
  rw [e0, e1]
  exact (whole_row _ _ _ _ (point t) (y 0) (y 1)).symm

end Kernel

section Reference

variable (Z : FVec Ideal Cert.SguReferenceIdeal.S4096x3584 .bf16) (G : FVec Ideal Cert.SguReferenceIdeal.S1536 .f32)
  (W : FVec Ideal Cert.SguReferenceIdeal.S12x128x128 .f32) (B : FVec Ideal Cert.SguReferenceIdeal.S12x128 .f32)

/-- The plain gate's factors and mixed rows are those of its gradient. -/
theorem same_u : Cert.FsguReferenceIdeal.Read.val_main_v11 (F := Ideal) Z = Cert.SguReferenceIdeal.Read.val_main_v11 (F := Ideal) Z := rfl
theorem same_mixed : Cert.FsguReferenceIdeal.Read.val_main_v46 (F := Ideal) Z G W B = Cert.SguReferenceIdeal.Read.val_main_v87 (F := Ideal) Z G W B := rfl

theorem ref_at (r : Fin 4096) (j : Fin 1536) :
    Cert.FsguReferenceIdeal.Read.val_main_v48 (F := Ideal) Z G W B (ix2 r j) = whole Z G W B r j := by
  obtain ⟨t, s, rfl⟩ : ∃ t s, r = row t s := ⟨chunk r, place r, (row_of r).symm⟩
  obtain ⟨g, l, rfl⟩ := Cert.SguBlock.chan_of j
  refine Eq.trans ?_ (whole_row Z G W B t s _).symm
  rw [Cert.SguBlock.group_chan]
  unfold out
  rw [← Cert.SguReference.u_at, ← Cert.SguReference.mixed_at, ← same_u, ← same_mixed]
  pointwise [Cert.FsguReferenceIdeal.Read.val_main_v48, Cert.FsguReferenceIdeal.Read.val_main_v47]

end Reference

end Cert.Fsgu

namespace Cert.Proof

/-- The spatial gate is the plain one. -/
theorem fgate_value : Cert.algebraic_FsguKernelIdeal_FsguReferenceIdeal := by
  intro m g m' g' hpre hag
  refine ⟨fun c => (Cert.FsguKernelIdeal.Gen.dats m 0 c).arrAt 5 Cert.FsguKernelIdeal.cfg0.N, Cert.FsguKernelIdeal.Value.run_blocks m g,
    (θ_run _ _ _).mono (fun r h c => ?_) (Cert.FsguReferenceIdeal.Value.run m' g')⟩
  obtain ⟨h0, h1⟩ := h c
  obtain ⟨e0, e1, e2, e3⟩ := hag c
  refine ⟨h0.trans ((Cert.FsguReferenceIdeal.Read.val_main_v48_eq m' c).trans ?_), h1⟩
  rw [e0, e1, e2, e3]
  refine Eq.trans ?_ (Cert.Fsgu.final5 m c).symm
  funext i
  exact (congrArg _ (eq_ix2 i)).trans (Cert.Fsgu.ref_at _ _ _ _ (i 0) (i 1))

end Cert.Proof
-- ==== Proof.Fmem.lean ====
module

public import proofs.«01_k».proof.Defs
public import proofs.«01_k».proof.Proof.MemRef
public import proofs.«01_k».proof.Proof.Gen.FmemKernelIdeal.Value
public import proofs.«01_k».proof.Proof.Gen.FmemReferenceIdeal.Read
public import Idealize.ShloMosaic.Lib.Pipeline.ValueKit
public import Idealize.ShloMosaic.Lib.Pipeline.ReadBack

/-!
# The memory attention

Each row's four heads read the memory's slots by softmax weights; the rows read stand beside the rows of the other mixer.
-/

@[expose] public section

set_option maxRecDepth 16384

noncomputable section

open Idealize.ShloMosaic Idealize.ShloMosaic.TcCoe Cert.MemHead

namespace Cert.Fmem

/-- What a query reads of the values' channel `d`. -/
def look (q : Fin 128 → EReal) (K V : Fin 256 → Fin 128 → EReal) (d : Fin 128) : EReal := ∑ c, prob q K c * V c d

section Kernel

open Cert.FmemKernelIdeal Cert.FmemKernelIdeal.Gen

attribute [local instance] Cert.FmemKernelIdeal.Gen.facts

/-- A block's row: the other mixer's columns, then the heads'. -/
def line (Q : Fin 4 → Fin 128 → EReal) (K V : Fin 4 → Fin 256 → Fin 128 → EReal) (A : Fin 1536 → EReal) (j : Fin 2048) : EReal :=
  if h : j.val < 1536 then A ⟨j.val, h⟩
  else look (Q ⟨(j.val - 1536) / 128, by omega⟩) (K ⟨(j.val - 1536) / 128, by omega⟩) (V ⟨(j.val - 1536) / 128, by omega⟩)
    ⟨(j.val - 1536) % 128, by omega⟩

theorem line_main {Q : Fin 4 → Fin 128 → EReal} {K V : Fin 4 → Fin 256 → Fin 128 → EReal} {A : Fin 1536 → EReal} {l : Fin 1536} {j : Fin 2048}
    (h : j.val = l.val) : line Q K V A j = A l := by
  unfold line
  rw [dif_pos (by omega)]
  exact congrArg A (Fin.ext h)

theorem line_head {Q : Fin 4 → Fin 128 → EReal} {K V : Fin 4 → Fin 256 → Fin 128 → EReal} {A : Fin 1536 → EReal} {o : ℕ} {l : Fin 128}
    {j : Fin 2048} (h : j.val = o + l.val) (ho : 1536 ≤ o ∧ o % 128 = 0 ∧ (o - 1536) / 128 < 4) :
    line Q K V A j = look (Q ⟨(o - 1536) / 128, ho.2.2⟩) (K ⟨(o - 1536) / 128, ho.2.2⟩) (V ⟨(o - 1536) / 128, ho.2.2⟩) l := by
  unfold line
  have e : (j.val - 1536) / 128 = (o - 1536) / 128 := by omega
  have e' : (j.val - 1536) % 128 = l.val := by omega
  rw [dif_neg (by omega)]
  simp only [e, e']

variable (m : (ℓ : Loc nD τ sig) → Buf (Elt Ideal) ℓ)

section
variable (c : Dev nD) (t : Fin cfg0.N)

/-- A point's queries, keys, values and other columns. -/
abbrev rQ (r : Fin 512) (h : Fin 4) (d : Fin 128) : EReal := iblk m c 0 t (ix2 r ⟨h.val * 128 + d.val, by omega⟩)
abbrev rK (h : Fin 4) (s : Fin 256) (d : Fin 128) : EReal := iblk m c 1 t (ix2 s ⟨h.val * 128 + d.val, by omega⟩)
abbrev rV (h : Fin 4) (s : Fin 256) (d : Fin 128) : EReal := iblk m c 1 t (ix2 s ⟨512 + h.val * 128 + d.val, by omega⟩)
abbrev rA (r : Fin 512) (j : Fin 1536) : EReal := iblk m c 2 t (ix2 r j)
end

/-- What a point writes. -/
theorem out_point (c : Dev nD) (t : Fin cfg0.N) (y : S512x2048.Idx) :
    outsAt0 m c t y = line (rQ m c t (y 0)) (rK m c t) (rV m c t) (rA m c t (y 0)) (y 1) := by
  unfold rQ rK rV rA
  unfold outsAt0
  frame_out
  generalize iblk m c 0 t = z
  generalize iblk m c 1 t = kv
  generalize iblk m c 2 t = main
  idx_vars y
  canon_tiles x hx using View.cover_of_tiledBy _ ![512, 128] (by sl_kernel_rfl) (ix2 y0 y1)
  all_goals
    idx_vars x
    obtain rfl : y0 = x0 := Fin.ext hx0
    first
      | refine Eq.trans ?_ (line_head hx1 (by decide)).symm; simp only [Nat.reduceDiv, Nat.reduceSub]
      | refine Eq.trans ?_ (line_main hx1).symm
    open_payloads
    try pointwise [look, prob, expo, top, score, scale]

abbrev vZ (c : Dev nD) : FVec Ideal S4096x3584 .bf16 := m ((c : Thread nD τ).loc main_arg0)
abbrev vK (c : Dev nD) : FVec Ideal S256x1024 .bf16 := m ((c : Thread nD τ).loc main_arg1)
abbrev vA (c : Dev nD) : FVec Ideal S4096x1536 .bf16 := m ((c : Thread nD τ).loc main_arg2)

theorem idx : ∀ t : Fin cfg0.N, win0_0.index t = ![t.val, 6] ∧ win0_1.index t = ![0, 0] ∧ win0_2.index t = ![t.val, 0]
    ∧ win0_3.index t = ![t.val, 0] ∧ t.val < 8 :=
  (by decide +kernel : ∀ t : Fin grid0.N, _)

/-- The row of the whole array at row `r` of block `t`. -/
def rowAt (t : Fin cfg0.N) (r : Fin 512) : Fin 4096 := ⟨t.val * 512 + r.val, by have := (idx t).2.2.2.2; omega⟩

open Cert.MemReferenceIdeal.Value in
/-- The rows of the result. -/
def whole (Z : FVec Ideal S4096x3584 .bf16) (KV : FVec Ideal S256x1024 .bf16) (A : FVec Ideal S4096x1536 .bf16) (r : Fin 4096) (j : Fin 2048) : EReal :=
  line (fun h => qh Z h r) (kh KV) (vh KV) (fun j => A (ix2 r j)) j

variable (c : Dev nD)

open Cert.MemReferenceIdeal.Value in
theorem read_query (t : Fin cfg0.N) (r : Fin 512) :
    rQ m c t r = fun h => qh (vZ m c) h (rowAt t r) := by
  funext h d
  unfold rQ qh rowAt
  blk_point [iblk, V, idx t]

open Cert.MemReferenceIdeal.Value in
theorem read_keys (t : Fin cfg0.N) : rK m c t = kh (vK m c) := by
  funext h c' d
  unfold rK kh
  blk_point [iblk, V, idx t]

open Cert.MemReferenceIdeal.Value in
theorem read_values (t : Fin cfg0.N) : rV m c t = vh (vK m c) := by
  funext h c' d
  unfold rV vh
  blk_point [iblk, V, idx t]

theorem read_main (t : Fin cfg0.N) (r : Fin 512) : rA m c t r = fun j => vA m c (ix2 (rowAt t r) j) := by
  funext j
  unfold rA rowAt
  blk_point [iblk, V, idx t]

theorem block (t : Fin cfg0.N) (r : Fin 512) (j : Fin 2048) :
    line (rQ m c t r) (rK m c t) (rV m c t) (rA m c t r) j = whole (vZ m c) (vK m c) (vA m c) (rowAt t r) j := by
  rw [read_query, read_keys, read_values, read_main]
  rfl

/-- The result, whole. -/
theorem final3 : (dats m 0 c).arrAt 3 (cfgs 0).N = fun i => whole (vZ m c) (vK m c) (vA m c) (i 0) (i 1) := by
  refine (dats m 0 c).arrAt_eq_of_covers 3 _ (by decide +kernel) fun t _ y => ?_
  blk_simp
  rw [after0_3, out_point m c t y]
  have e0 : (((cfg0.win 3).blk t).view.emb y) 0 = rowAt t (y 0) := by
    apply Fin.ext
    blk_simp [idx t, rowAt]
  have e1 : (((cfg0.win 3).blk t).view.emb y) 1 = y 1 := by
    apply Fin.ext
    blk_simp [idx t]
  rw [e0, e1]
  exact block m c t (y 0) (y 1)

end Kernel

section Reference

open Cert.FmemReferenceIdeal.Read

variable (Z : FVec Ideal Cert.MemReferenceIdeal.S4096x3584 .bf16) (KV : FVec Ideal Cert.MemReferenceIdeal.S256x1024 .bf16)
  (A : FVec Ideal Cert.FmemReferenceIdeal.S4096x1536 .bf16)

/-- The plain weights are those of the gradient. -/
theorem same_prob : Cert.FmemReferenceIdeal.Read.val_main_v21 (F := Ideal) Z KV = Cert.MemReferenceIdeal.Read.val_main_v37 (F := Ideal) Z KV := rfl

/-- The plain rows read. -/
theorem ref_head (r : Fin 4096) (h : Fin 4) (d : Fin 128) : val_main_v23 (F := Ideal) Z KV (ix3 r h d)
    = look (Cert.MemReferenceIdeal.Value.qh Z h r) (Cert.MemReferenceIdeal.Value.kh KV h) (Cert.MemReferenceIdeal.Value.vh KV h) d := by
  pointwise [val_main_v23, val_main_v22, same_prob, Cert.MemReferenceIdeal.Value.ref_prob, val_main_v7, val_main_v6, val_main_v2, look,
    Cert.MemReferenceIdeal.Value.vh]
  exact Finset.sum_congr rfl fun c _ => mul_comm _ _

theorem ref_at (r : Fin 4096) (j : Fin 2048) : val_main_v26 (F := Ideal) Z KV A (ix2 r j) = whole Z KV A r j := by
  pointwise [val_main_v26, val_main_v25, val_main_v24, ref_head, whole, line]

end Reference

end Cert.Fmem

namespace Cert.Proof

/-- The memory attention is the plain one. -/
theorem fmemory_value : Cert.algebraic_FmemKernelIdeal_FmemReferenceIdeal := by
  intro m g m' g' hpre hag
  refine ⟨fun c => (Cert.FmemKernelIdeal.Gen.dats m 0 c).arrAt 3 Cert.FmemKernelIdeal.cfg0.N, Cert.FmemKernelIdeal.Value.run_blocks m g,
    (θ_run _ _ _).mono (fun r h c => ?_) (Cert.FmemReferenceIdeal.Value.run m' g')⟩
  obtain ⟨h0, h1⟩ := h c
  obtain ⟨e0, e1, e2⟩ := hag c
  refine ⟨h0.trans ((Cert.FmemReferenceIdeal.Read.val_main_v26_eq _ _ _).trans ?_), h1⟩
  rw [e0, e1, e2]
  refine Eq.trans ?_ (Cert.Fmem.final3 m c).symm
  funext i
  exact (congrArg _ (eq_ix2 i)).trans (Cert.Fmem.ref_at _ _ _ (i 0) (i 1))

end Cert.Proof
-- ==== Proof.ConvTap.lean ====
module

public import Idealize.ShloMosaic.Lib.Pipeline.ValueKit
public import Idealize.ShloMosaic.Lib.Pointwise

/-!
# The causal convolution of width 3, and its gate

A convolved row adds three rows, its own and the two before it, each times a tap's weights, and a bias. The kernels compute it
tile by tile of 1024 rows, with a halo of the sixteen rows before the tile.
-/

@[expose] public section

set_option maxRecDepth 16384

noncomputable section

open Idealize.ShloMosaic

namespace Cert.ConvTap

/-- The sigmoid, and the gate: the first half times its sigmoid times the second half. -/
def sigm (x : EReal) : EReal := Ideal.div 1 (1 + Ideal.exp (0 - x))
def glu (x y : EReal) : EReal := x * sigm x * y

/-- The row `s` before row `R` of a column, zero before the first. -/
def past (a : Fin 4096 → EReal) (s : ℕ) (R : Fin 4096) : EReal := if s ≤ R.val then a ⟨R.val - s, by omega⟩ else 0

/-- A convolved column at row `R`. -/
def conv (a : Fin 4096 → EReal) (w : Fin 3 → EReal) (b : EReal) (R : Fin 4096) : EReal :=
  past a 2 R * w 0 + past a 1 R * w 1 + a R * w 2 + b

/-- Whether a row of tile `q` has fewer than `s` rows before it in the sequence, as the body compares. -/
def early (q s : ℕ) (r : Fin 1024) : BitVec 1 :=
  IntOp.andi (Scalar.cmpi .eq (BitVec.ofNat 32 q) 0#32) (IntOp.cmpi .slt (BitVec.ofNat 32 r.val) (BitVec.ofNat 32 s))

/-- The row `s` before row `r` of a tile's column: in the tile, or in its halo. -/
def pick (s : ℕ) (x : Fin 1024 → EReal) (p : Fin 16 → EReal) (r : Fin 1024) : EReal :=
  if h : (16 + r.val + 1040 - s) % 1040 < 16 then p ⟨(16 + r.val + 1040 - s) % 1040, h⟩
  else x ⟨(16 + r.val + 1040 - s) % 1040 - 16, by omega⟩

/-- A tile's convolved column. -/
def tile (q : ℕ) (x : Fin 1024 → EReal) (p : Fin 16 → EReal) (w : Fin 3 → EReal) (b : EReal) (r : Fin 1024) : EReal :=
  Scalar.select (early q 2 r) 0 (pick 2 x p r * w 0) + Scalar.select (early q 1 r) 0 (pick 1 x p r * w 1) + x r * w 2 + b

/-- The row of the whole array at row `r` of tile `q`. -/
def rowOf (q : Fin 4) (r : Fin 1024) : Fin 4096 := ⟨q.val * 1024 + r.val, by omega⟩

/-- The halo of tile `q`: the sixteen rows before it, or the first sixteen. -/
def haloOf (q : Fin 4) (k : Fin 16) : Fin 4096 := ⟨(q.val * 64 - 1) * 16 + k.val, by omega⟩

theorem early_eq (q : Fin 4) (s : ℕ) (hs : s = 1 ∨ s = 2) (r : Fin 1024) (a b : EReal) :
    Scalar.select (early q.val s r) a b = if (rowOf q r).val < s then a else b := by
  have h : (early q.val s r) = if q.val = 0 ∧ r.val < s then 1#1 else 0#1 := by
    have hq : ∀ q : Fin 4, Scalar.cmpi .eq (BitVec.ofNat 32 q.val) 0#32 = if q.val = 0 then 1#1 else 0#1 := by decide
    have h1 : ∀ r : Fin 1024, IntOp.cmpi .slt (BitVec.ofNat 32 r.val) 1#32 = if r.val < 1 then 1#1 else 0#1 := by decide +kernel
    have h2 : ∀ r : Fin 1024, IntOp.cmpi .slt (BitVec.ofNat 32 r.val) 2#32 = if r.val < 2 then 1#1 else 0#1 := by decide +kernel
    unfold early
    rw [hq]
    obtain rfl | rfl := hs
    · rw [h1]
      by_cases h : r.val < 1 <;> by_cases h' : q.val = 0 <;> simp only [h, h', if_true, if_false, and_true, and_false] <;> rfl
    · rw [h2]
      by_cases h : r.val < 2 <;> by_cases h' : q.val = 0 <;> simp only [h, h', if_true, if_false, and_true, and_false] <;> rfl
  have e : (q.val = 0 ∧ r.val < s) ↔ (rowOf q r).val < s := by
    simp only [rowOf]
    omega
  rw [h, if_congr e rfl rfl]
  by_cases h' : (rowOf q r).val < s
  · rw [if_pos h', if_pos h']
    rfl
  · rw [if_neg h', if_neg h']
    rfl

theorem pick_eq (a : Fin 4096 → EReal) (q : Fin 4) (s : ℕ) (hs : s = 1 ∨ s = 2) (r : Fin 1024) (h : ¬ (rowOf q r).val < s) :
    pick s (fun r => a (rowOf q r)) (fun k => a (haloOf q k)) r = past a s (rowOf q r) := by
  have hr := r.isLt
  unfold past
  rw [if_pos (not_lt.mp h)]
  unfold pick
  simp only [rowOf] at h ⊢
  split
  · refine congrArg a (Fin.ext ?_)
    simp only [haloOf]
    omega
  · refine congrArg a (Fin.ext ?_)
    simp only
    omega

theorem past_zero (a : Fin 4096 → EReal) (s : ℕ) (R : Fin 4096) (h : R.val < s) : past a s R = 0 := if_neg (not_le.mpr h)

/-- A masked row times a factor, on either side. -/
theorem lag_right (a : Fin 4096 → EReal) (q : Fin 4) (s : ℕ) (hs : s = 1 ∨ s = 2) (r : Fin 1024) (w : EReal) :
    Scalar.select (early q.val s r) 0 (pick s (fun r => a (rowOf q r)) (fun k => a (haloOf q k)) r * w) = past a s (rowOf q r) * w := by
  rw [early_eq q s hs]
  split
  · rw [past_zero a s _ ‹_›, zero_mul]
  · rw [pick_eq a q s hs r ‹_›]

theorem lag_left (a : Fin 4096 → EReal) (q : Fin 4) (s : ℕ) (hs : s = 1 ∨ s = 2) (r : Fin 1024) (w : EReal) :
    Scalar.select (early q.val s r) 0 (w * pick s (fun r => a (rowOf q r)) (fun k => a (haloOf q k)) r) = w * past a s (rowOf q r) := by
  rw [mul_comm, lag_right a q s hs, mul_comm]

/-- A tile's convolved column is the whole one's. -/
theorem tile_eq (a : Fin 4096 → EReal) (q : Fin 4) (w : Fin 3 → EReal) (b : EReal) (r : Fin 1024) :
    tile q.val (fun r => a (rowOf q r)) (fun k => a (haloOf q k)) w b r = conv a w b (rowOf q r) := by
  unfold tile conv
  rw [lag_right a q 2 (by decide), lag_right a q 1 (by decide)]

end Cert.ConvTap
-- ==== Proof.Fconv.lean ====
module

public import proofs.«01_k».proof.Defs
public import proofs.«01_k».proof.Proof.ConvTap
public import proofs.«01_k».proof.Proof.Gen.FconvKernelIdeal.Value
public import proofs.«01_k».proof.Proof.Gen.FconvReferenceIdeal.Read
public import Idealize.ShloMosaic.Lib.Pipeline.ReadBack

/-!
# The gated convolution

The kernel convolves a tile of rows of two channel blocks, four apart, and writes the gated products; six chunks of its columns
are computed the same way.
-/

@[expose] public section

set_option maxRecDepth 16384

noncomputable section

open Idealize.ShloMosaic Idealize.ShloMosaic.TcCoe Cert.ConvTap

namespace Cert.Fconv

section
open Cert.FconvKernelIdeal

/-- A channel's column of a block, its taps and its bias. -/
def col (A : FVec Ideal S8x4096x1408 .bf16) (n : Fin 8) (j : Fin 1408) (R : Fin 4096) : EReal := A (ix3 n R j)
def tap (W : FVec Ideal S8x4x3x1408 .f32) (n : Fin 8) (j : Fin 1408) (k : Fin 3) : EReal := W (ix4 n 0 k j)
def bias (B : FVec Ideal S4x11264 .f32) (n : Fin 8) (j : Fin 1408) : EReal := B (ix2 0 ⟨n.val * 1408 + j.val, by omega⟩)

/-- The convolved channels. -/
def chan (A : FVec Ideal S8x4096x1408 .bf16) (W : FVec Ideal S8x4x3x1408 .f32) (B : FVec Ideal S4x11264 .f32)
    (n : Fin 8) (R : Fin 4096) (j : Fin 1408) : EReal := conv (col A n j) (tap W n j) (bias B n j) R

/-- The gated channels. -/
def gated (A : FVec Ideal S8x4096x1408 .bf16) (W : FVec Ideal S8x4x3x1408 .f32) (B : FVec Ideal S4x11264 .f32)
    (n : Fin 4) (R : Fin 4096) (j : Fin 1408) : EReal := glu (chan A W B ⟨n.val, by omega⟩ R j) (chan A W B ⟨4 + n.val, by omega⟩ R j)

end

section Kernel

open Cert.FconvKernelIdeal Cert.FconvKernelIdeal.Gen

attribute [local instance] Cert.FconvKernelIdeal.Gen.facts

variable (m : (ℓ : Loc nD τ sig) → Buf (Elt Ideal) ℓ)

section
variable (c : Dev nD) (t : Fin cfg0.N)

/-- The two halves' columns of a point's tile. -/
def first (r : Fin 1024) (j : Fin 1408) : EReal :=
  tile (grid0.coords t 0).val (fun r => iblk m c 1 t (ix3 0 r j)) (fun r => iblk m c 0 t (ix3 0 r j)) (fun k => iblk m c 4 t (ix4 0 0 k j))
    (iblk m c 6 t (ix3 0 0 j)) r
def second (r : Fin 1024) (j : Fin 1408) : EReal :=
  tile (grid0.coords t 0).val (fun r => iblk m c 3 t (ix3 0 r j)) (fun r => iblk m c 2 t (ix3 0 r j)) (fun k => iblk m c 5 t (ix4 0 0 k j))
    (iblk m c 7 t (ix3 0 0 j)) r
end

theorem column {o : ℕ} {n : ℕ} {x : Fin n} {y : Fin 1408} (h : y.val = o + x.val) : ∃ hl : o + x.val < 1408, y = ⟨o + x.val, hl⟩ :=
  ⟨h ▸ y.isLt, Fin.ext h⟩

set_option maxHeartbeats 2000000 in
/-- What a point writes. -/
theorem out_point (c : Dev nD) (t : Fin cfg0.N) (y : S1024x1408.Idx) :
    outsAt0 m c t y = glu (first m c t (y 0) (y 1)) (second m c t (y 0) (y 1)) := by
  unfold outsAt0
  frame_out
  unfold first second
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  idx_vars y
  canon_tiles x hx using View.cover_of_tiledBy _ ![1024, 128] (by sl_kernel_rfl) (ix2 y0 y1)
  all_goals
    idx_vars x
    obtain rfl : y0 = x0 := Fin.ext hx0
    first
      | obtain ⟨hl, rfl⟩ := column hx1
      | obtain ⟨hl, rfl⟩ := column (hx1.trans (Nat.zero_add _).symm)
    open_payloads
    pointwise [glu, sigm, tile, early, pick]

theorem idx : ∀ t : Fin cfg0.N, win0_0.index t = ![t.val % 4, t.val / 4 * 64 - 1, 0] ∧ win0_1.index t = ![t.val % 4, t.val / 4, 0]
    ∧ win0_2.index t = ![t.val % 4 + 4, t.val / 4 * 64 - 1, 0] ∧ win0_3.index t = ![t.val % 4 + 4, t.val / 4, 0]
    ∧ win0_4.index t = ![t.val % 4, 0, 0, 0] ∧ win0_5.index t = ![t.val % 4 + 4, 0, 0, 0]
    ∧ win0_6.index t = ![t.val % 4, 0, 0] ∧ win0_7.index t = ![t.val % 4 + 4, 0, 0] ∧ win0_8.index t = ![t.val / 4, t.val % 4]
    ∧ (grid0.coords t 0).val = t.val / 4 ∧ t.val < 16 :=
  (by decide +kernel : ∀ t : Fin grid0.N, _)

/-- The tile of rows and the block of a grid point. -/
def tileOf (t : Fin cfg0.N) : Fin 4 := ⟨t.val / 4, by have := (idx t).2.2.2.2.2.2.2.2.2.2; omega⟩
def blockOf (t : Fin cfg0.N) : Fin 4 := ⟨t.val % 4, by omega⟩

variable (c : Dev nD)

abbrev vA : FVec Ideal S8x4096x1408 .bf16 := m ((c : Thread nD τ).loc main_arg0)
abbrev vW : FVec Ideal S8x4x3x1408 .f32 := m ((c : Thread nD τ).loc main_arg1)
abbrev vB : FVec Ideal S4x11264 .f32 := m ((c : Thread nD τ).loc main_arg2)

theorem bias_at (B : FVec Ideal S4x11264 .f32) (n : Fin 8) (j : Fin 1408) :
    shapeCast S32x1x1408 B shapeCasts_S4x11264_S32x1x1408 (ix3 ⟨n.val, by omega⟩ 0 j) = bias B n j := by
  unfold bias
  pointwise
  exact congrArg B (congrArg₂ ix2 (Fin.ext (by show n.val / 8 = 0; omega)) (Fin.ext (by show n.val % 8 * 1408 + j.val = n.val * 1408 + j.val; omega)))

theorem first_eq (t : Fin cfg0.N) (r : Fin 1024) (j : Fin 1408) :
    first m c t r j = chan (vA m c) (vW m c) (vB m c) ⟨(blockOf t).val, by omega⟩ (rowOf (tileOf t) r) j := by
  have e1 : (fun r : Fin 1024 => iblk m c 1 t (ix3 0 r j)) = fun r => col (vA m c) ⟨(blockOf t).val, by omega⟩ j (rowOf (tileOf t) r) := by
    funext r
    unfold col blockOf rowOf tileOf
    blk_point [iblk, V, idx t]
  have e0 : (fun r : Fin 16 => iblk m c 0 t (ix3 0 r j)) = fun r => col (vA m c) ⟨(blockOf t).val, by omega⟩ j (haloOf (tileOf t) r) := by
    funext r
    unfold col blockOf haloOf tileOf
    blk_point [iblk, V, idx t]
  have e4 : (fun k : Fin 3 => iblk m c 4 t (ix4 0 0 k j)) = tap (vW m c) ⟨(blockOf t).val, by omega⟩ j := by
    funext k
    unfold tap blockOf
    blk_point [iblk, V, idx t]
  have e6 : iblk m c 6 t (ix3 0 0 j) = bias (vB m c) ⟨(blockOf t).val, by omega⟩ j := by
    blk_simp [iblk]
    entry_read
    have e : ((cfg0.win 6).blk t).view.emb (ix3 0 0 j) = ix3 ⟨(blockOf t).val, by omega⟩ 0 j := by
      unfold blockOf
      blk_ext [idx t]
    exact (congrArg (shapeCast S32x1x1408 (vB m c) shapeCasts_S4x11264_S32x1x1408) e).trans (bias_at _ ⟨(blockOf t).val, by omega⟩ j)
  unfold first chan
  rw [e1, e0, e4, e6, (idx t).2.2.2.2.2.2.2.2.2.1]
  exact tile_eq (col (vA m c) ⟨(blockOf t).val, by omega⟩ j) (tileOf t) _ _ r

theorem second_eq (t : Fin cfg0.N) (r : Fin 1024) (j : Fin 1408) :
    second m c t r j = chan (vA m c) (vW m c) (vB m c) ⟨4 + (blockOf t).val, by omega⟩ (rowOf (tileOf t) r) j := by
  have e1 : (fun r : Fin 1024 => iblk m c 3 t (ix3 0 r j)) = fun r => col (vA m c) ⟨4 + (blockOf t).val, by omega⟩ j (rowOf (tileOf t) r) := by
    funext r
    unfold col blockOf rowOf tileOf
    blk_point [iblk, V, idx t]
  have e0 : (fun r : Fin 16 => iblk m c 2 t (ix3 0 r j)) = fun r => col (vA m c) ⟨4 + (blockOf t).val, by omega⟩ j (haloOf (tileOf t) r) := by
    funext r
    unfold col blockOf haloOf tileOf
    blk_point [iblk, V, idx t]
  have e4 : (fun k : Fin 3 => iblk m c 5 t (ix4 0 0 k j)) = tap (vW m c) ⟨4 + (blockOf t).val, by omega⟩ j := by
    funext k
    unfold tap blockOf
    blk_point [iblk, V, idx t]
  have e6 : iblk m c 7 t (ix3 0 0 j) = bias (vB m c) ⟨4 + (blockOf t).val, by omega⟩ j := by
    blk_simp [iblk]
    entry_read
    have e : ((cfg0.win 7).blk t).view.emb (ix3 0 0 j) = ix3 ⟨4 + (blockOf t).val, by omega⟩ 0 j := by
      unfold blockOf
      blk_ext [idx t]
    exact (congrArg (shapeCast S32x1x1408 (vB m c) shapeCasts_S4x11264_S32x1x1408) e).trans (bias_at _ ⟨4 + (blockOf t).val, by omega⟩ j)
  unfold second chan
  rw [e1, e0, e4, e6, (idx t).2.2.2.2.2.2.2.2.2.1]
  exact tile_eq (col (vA m c) ⟨4 + (blockOf t).val, by omega⟩ j) (tileOf t) _ _ r

/-- The gated channels as one array. -/
def gatedAll : FVec Ideal S4096x5632 .bf16 := fun i =>
  gated (vA m c) (vW m c) (vB m c) ⟨(i 1).val / 1408, by have : (i 1).val < 5632 := (i 1).isLt; omega⟩ (i 0)
    ⟨(i 1).val % 1408, by omega⟩

/-- That array at the place of a block's entry. -/
theorem gatedAll_at (i : S4096x5632.Idx) (n : Fin 4) (R : Fin 4096) (j : Fin 1408) (h0 : i 0 = R)
    (h1 : (i 1).val = n.val * 1408 + j.val) : gatedAll m c i = gated (vA m c) (vW m c) (vB m c) n R j := by
  have d : (i 1).val / 1408 = n.val := by omega
  have r : (i 1).val % 1408 = j.val := by omega
  subst h0
  unfold gatedAll
  simp only [d, r]

/-- The gated channels, whole. -/
theorem final8 : (dats m 0 c).arrAt 8 (cfgs 0).N = gatedAll m c := by
  refine (dats m 0 c).arrAt_eq_of_covers 8 _ (by decide +kernel) fun t _ y => ?_
  rw [gatedAll_at m c _ (blockOf t) (rowOf (tileOf t) (y 0)) (y 1) (by apply Fin.ext; blk_simp [idx t, rowOf, tileOf])
    (by blk_simp [idx t, blockOf])]
  blk_simp
  rw [after0_8, out_point m c t y]
  exact congrArg₂ glu (first_eq m c t (y 0) (y 1)) (second_eq m c t (y 0) (y 1))

end Kernel

section Reference

open Cert.FconvReferenceIdeal Cert.FconvReferenceIdeal.Read

variable (A : FVec Ideal S8x4096x1408 .bf16) (W : FVec Ideal S8x4x3x1408 .f32) (B : FVec Ideal S4x11264 .f32)

/-- The padded rows. -/
theorem pad_at (n : Fin 8) (R : Fin 4098) (j : Fin 1408) : val_main_v4 (F := Ideal) A (ix3 n R j)
    = if h : 2 ≤ R.val then A (ix3 n ⟨R.val - 2, by omega⟩ j) else 0 := by
  pointwise [val_main_v4, val_main_v3, val_main_cst, val_main_v0]
  by_cases h : R.val < 2
  · rw [dif_pos h, dif_neg (by omega)]
  · rw [dif_neg h, dif_pos (by omega)]

theorem conv_at (n : Fin 8) (R : Fin 4096) (j : Fin 1408) : val_main_v31 (F := Ideal) A W B (ix3 n R j) = chan A W B n R j := by
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_cst_0, val_main_v10, val_main_v9, val_main_v8, val_main_v7, val_main_v6, val_main_v5, val_main_v2, val_main_v1,
    pad_at, chan, conv, past, col, tap, bias]
  refine congrArg₂ (· + ·) (congrArg₂ (· + ·) (congrArg₂ (· + ·) ?_ (congrArg (· * _) ?_)) rfl) rfl
  · by_cases h : 2 ≤ R.val
    · rw [dif_pos h, if_pos h]
    · rw [dif_neg h, if_neg h]
  · by_cases h : 1 ≤ R.val
    · rw [dif_pos (by omega), if_pos h]
      refine congrArg (fun q : Fin 4096 => A (ix3 n q j)) (Fin.ext ?_)
      change 1 + R.val - 2 = R.val - 1
      omega
    · rw [dif_neg (by omega), if_neg h]

theorem ref_at (R : Fin 4096) (k : Fin 5632) : val_main_v38 (F := Ideal) A W B (ix2 R k)
    = gated A W B ⟨k.val / 1408, by omega⟩ R ⟨k.val % 1408, by omega⟩ := by
  pointwise [val_main_v38, val_main_v37, val_main_v36, val_main_v35, val_main_v34, val_main_v33, val_main_v32, val_main_call0_v0, val_main_call0_v1,
    val_main_call0_v2, val_main_call0_v3, val_main_call0_v4, val_main_call0_v5, val_main_call0_cst, val_main_call0_cst_0, conv_at, gated, glu, sigm]
  rw [zero_sub]

end Reference

end Cert.Fconv

namespace Cert.Proof

/-- The gated convolution is the plain one. -/
theorem fconv_value : Cert.algebraic_FconvKernelIdeal_FconvReferenceIdeal := by
  intro m g m' g' hpre hag
  refine ⟨fun c => (Cert.FconvKernelIdeal.Gen.dats m 0 c).arrAt 8 Cert.FconvKernelIdeal.cfg0.N, Cert.FconvKernelIdeal.Value.run_blocks m g,
    (θ_run _ _ _).mono (fun r h c => ?_) (Cert.FconvReferenceIdeal.Value.run m' g')⟩
  obtain ⟨h0, h1⟩ := h c
  obtain ⟨e0, e1, e2⟩ := hag c
  refine ⟨h0.trans ((Cert.FconvReferenceIdeal.Read.val_main_v38_eq _ _).trans ?_), h1⟩
  rw [e0, e1, e2]
  refine Eq.trans ?_ (Cert.Fconv.final8 m c).symm
  funext i
  exact (congrArg _ (eq_ix2 i)).trans (Cert.Fconv.ref_at _ _ _ (i 0) (i 1))

end Cert.Proof
-- ==== Proof.GateTile.lean ====
module

public import proofs.«01_k».proof.Defs
public import proofs.«01_k».proof.Proof.ConvTap
public import proofs.«01_k».proof.Proof.Gen.GateKernelIdeal.Value

/-!
# What one grid point of the gated convolution's gradient computes

A point has a tile of rows of a gate block and of its value block, and the gradient of their gated products.
-/

@[expose] public section

set_option maxRecDepth 16384

noncomputable section

open Idealize.ShloMosaic Idealize.ShloMosaic.TcCoe Cert.ConvTap

namespace Cert.Gate

/-- The gradients of the gate and of the value, from the gradient of their product. -/
def dGate (d g v : EReal) : EReal := d * v * (sigm g * (1 + g * (1 - sigm g)))
def dValue (d g : EReal) : EReal := d * (g * sigm g)

/-- A tile's part of a tap's gradient: the rows' gradients times the rows before, at, the tap's distance. -/
def tapPart (q : ℕ) (x : Fin 1024 → EReal) (p : Fin 16 → EReal) (d : Fin 1024 → EReal) : Fin 3 → EReal
  | 0 => ∑ r, Scalar.select (early q 2 r) 0 (d r * pick 2 x p r)
  | 1 => ∑ r, Scalar.select (early q 1 r) 0 (d r * pick 1 x p r)
  | 2 => ∑ r, d r * x r

section
variable (q : ℕ) (x : Fin 1024 → EReal) (p : Fin 16 → EReal) (d : Fin 1024 → EReal)

theorem tapPart_two (h : 0 < 3) : tapPart q x p d ⟨0, h⟩ = ∑ r, Scalar.select (early q 2 r) 0 (d r * pick 2 x p r) := rfl
theorem tapPart_one (h : 1 < 3) : tapPart q x p d ⟨1, h⟩ = ∑ r, Scalar.select (early q 1 r) 0 (d r * pick 1 x p r) := rfl
theorem tapPart_own (h : 2 < 3) : tapPart q x p d ⟨2, h⟩ = ∑ r, d r * x r := rfl
end

open Cert.GateKernelIdeal Cert.GateKernelIdeal.Gen

/-- A point's blocks. -/
structure Blocks where
  q : ℕ
  gp : FVec Ideal S1x16x1408 .bf16
  gc : FVec Ideal S1x1024x1408 .bf16
  vp : FVec Ideal S1x16x1408 .bf16
  vc : FVec Ideal S1x1024x1408 .bf16
  gw : FVec Ideal S1x1x3x1408 .f32
  vw : FVec Ideal S1x1x3x1408 .f32
  gb : FVec Ideal S1x1x1408 .f32
  vb : FVec Ideal S1x1x1408 .f32
  da : FVec Ideal S1024x1408 .bf16

namespace Blocks
variable (b : Blocks)

/-- The convolved gate and value. -/
def gate (r : Fin 1024) (j : Fin 1408) : EReal :=
  tile b.q (fun r => b.gc (ix3 0 r j)) (fun r => b.gp (ix3 0 r j)) (fun k => b.gw (ix4 0 0 k j)) (b.gb (ix3 0 0 j)) r
def value (r : Fin 1024) (j : Fin 1408) : EReal :=
  tile b.q (fun r => b.vc (ix3 0 r j)) (fun r => b.vp (ix3 0 r j)) (fun k => b.vw (ix4 0 0 k j)) (b.vb (ix3 0 0 j)) r

/-- The gradient of the convolved rows, of a half. -/
def dc (r : Fin 1024) (j : Fin 1408) : Fin 2 → EReal
  | 0 => dGate (b.da (ix2 r j)) (b.gate r j) (b.value r j)
  | 1 => dValue (b.da (ix2 r j)) (b.gate r j)

/-- The tile's part of the taps' gradient, of a half. -/
def dw (k : Fin 3) (j : Fin 1408) : Fin 2 → EReal
  | 0 => tapPart b.q (fun r => b.gc (ix3 0 r j)) (fun r => b.gp (ix3 0 r j)) (fun r => b.dc r j 0) k
  | 1 => tapPart b.q (fun r => b.vc (ix3 0 r j)) (fun r => b.vp (ix3 0 r j)) (fun r => b.dc r j 1) k

/-- The tile's part of the bias's gradient. -/
def db (h : Fin 2) (j : Fin 1408) : EReal := ∑ r, b.dc r j h

variable (r : Fin 1024) (k : Fin 3) (j : Fin 1408)

theorem dc_gate (h : 0 < 2) : b.dc r j ⟨0, h⟩ = dGate (b.da (ix2 r j)) (b.gate r j) (b.value r j) := rfl
theorem dc_value (h : 1 < 2) : b.dc r j ⟨1, h⟩ = dValue (b.da (ix2 r j)) (b.gate r j) := rfl
theorem dw_gate (h : 0 < 2) : b.dw k j ⟨0, h⟩
    = tapPart b.q (fun r => b.gc (ix3 0 r j)) (fun r => b.gp (ix3 0 r j)) (fun r => dGate (b.da (ix2 r j)) (b.gate r j) (b.value r j)) k := rfl
theorem dw_value (h : 1 < 2) : b.dw k j ⟨1, h⟩
    = tapPart b.q (fun r => b.vc (ix3 0 r j)) (fun r => b.vp (ix3 0 r j)) (fun r => dValue (b.da (ix2 r j)) (b.gate r j)) k := rfl
theorem db_gate (h : 0 < 2) : b.db ⟨0, h⟩ j = ∑ r, dGate (b.da (ix2 r j)) (b.gate r j) (b.value r j) := rfl
theorem db_value (h : 1 < 2) : b.db ⟨1, h⟩ j = ∑ r, dValue (b.da (ix2 r j)) (b.gate r j) := rfl

end Blocks

/-- A point's blocks, taken from its windows. -/
def at_point (m : (ℓ : Loc nD τ sig) → Buf (Elt Ideal) ℓ) (c : Dev nD) (t : Fin cfg0.N) : Blocks where
  q := (grid0.coords t 1).val
  gp := iblk m c 0 t
  gc := iblk m c 1 t
  vp := iblk m c 2 t
  vc := iblk m c 3 t
  gw := iblk m c 4 t
  vw := iblk m c 5 t
  gb := iblk m c 6 t
  vb := iblk m c 7 t
  da := iblk m c 8 t

theorem column {o : ℕ} {n : ℕ} {x : Fin n} {y : Fin 1408} (h : y.val = o + x.val) : ∃ hl : o + x.val < 1408, y = ⟨o + x.val, hl⟩ :=
  ⟨h ▸ y.isLt, Fin.ext h⟩

end Cert.Gate
-- ==== Proof.GateLater.lean ====
module

public import proofs.«01_k».proof.Proof.GateTile
public import proofs.«01_k».proof.Proof.SguBlock

/-!
# The gated convolution's gradient at a later tile of a block

The point writes its rows' gradient, and adds its part to the bias's gradient of the point before.
-/

@[expose] public section

set_option maxRecDepth 16384

noncomputable section

open Idealize.ShloMosaic Idealize.ShloMosaic.TcCoe Cert.ConvTap

namespace Cert.Gate

open Cert.GateKernelIdeal Cert.GateKernelIdeal.Gen Cert.SguBlock

attribute [local instance] Cert.GateKernelIdeal.Gen.facts

variable (m : (ℓ : Loc nD τ sig) → Buf (Elt Ideal) ℓ) (c : Dev nD) (t : Fin cfg0.N) (h0 : ¬ t.val % 4 = 0)

include h0

set_option maxHeartbeats 4000000 in
/-- The rows' gradient. -/
theorem dc_later (y : S2x1x1024x1408.Idx) : (outsAt0 m c t.val t.isLt).1 y = (at_point m c t).dc (y 2) (y 3) (y 0) := by
  rw [outsAt0_B m c t h0]
  frame_out
  unfold at_point
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  generalize iblk m c 8 t = da
  idx_vars y
  canon_tiles x hx using View.cover_of_tiledBy _ ![1, 1, 1024, 128] (by sl_kernel_rfl) (ix4 y0 y1 y2 y3)
  all_goals
    idx_vars x
    obtain rfl : y1 = 0 := Subsingleton.elim _ _
    obtain rfl : y2 = x2 := Fin.ext hx2
    first
      | obtain ⟨hl, rfl⟩ := column hx3
      | obtain ⟨hl, rfl⟩ := column (hx3.trans (Nat.zero_add _).symm)
    first
      | obtain rfl := at_piece hx0 (by decide); refine Eq.trans ?_ (Blocks.dc_value _ _ _ _).symm
      | obtain rfl := at_piece0 hx0 (by decide); refine Eq.trans ?_ (Blocks.dc_gate _ _ _ _).symm
    open_payloads
    pointwise [Blocks.gate, Blocks.value, dGate, dValue, sigm, tile, early, pick]

set_option maxHeartbeats 4000000 in
/-- The bias's gradient. -/
theorem db_later (y : S2x1x1x1408.Idx) : (outsAt0 m c t.val t.isLt).2.2 y
    = (outsAt0 m c (t.val - 1) (Nat.lt_of_le_of_lt (Nat.sub_le _ _) t.isLt)).2.2 y + (at_point m c t).db (y 0) (y 3) := by
  rw [outsAt0_B m c t h0]
  frame_out
  unfold at_point
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  generalize iblk m c 8 t = da
  generalize (outsAt0 m c (t.val - 1) (Nat.lt_of_le_of_lt (Nat.sub_le _ _) t.isLt)).2.2 = old
  idx_vars y
  canon_tiles x hx using View.cover_of_tiledBy _ ![1, 1, 1, 128] (by sl_kernel_rfl) (ix4 y0 y1 y2 y3)
  all_goals
    idx_vars x
    obtain rfl : y1 = 0 := Subsingleton.elim _ _
    obtain rfl : y2 = 0 := Subsingleton.elim _ _
    first
      | obtain ⟨hl, rfl⟩ := column hx3
      | obtain ⟨hl, rfl⟩ := column (hx3.trans (Nat.zero_add _).symm)
    first
      | obtain rfl := at_piece hx0 (by decide); refine Eq.trans ?_ (congrArg _ (Blocks.db_value _ _ _)).symm
      | obtain rfl := at_piece0 hx0 (by decide); refine Eq.trans ?_ (congrArg _ (Blocks.db_gate _ _ _)).symm
    open_payloads
    pointwise [Blocks.gate, Blocks.value, dGate, dValue, sigm, tile, early, pick]

end Cert.Gate
-- ==== Proof.GateLaterTaps.lean ====
module

public import proofs.«01_k».proof.Proof.GateTile
public import proofs.«01_k».proof.Proof.SguBlock

/-!
# The taps' gradient at a later tile of a block

The point adds its part to the taps' gradient of the point before.
-/

@[expose] public section

set_option maxRecDepth 16384

noncomputable section

open Idealize.ShloMosaic Idealize.ShloMosaic.TcCoe Cert.ConvTap

namespace Cert.Gate

open Cert.GateKernelIdeal Cert.GateKernelIdeal.Gen Cert.SguBlock

attribute [local instance] Cert.GateKernelIdeal.Gen.facts

variable (m : (ℓ : Loc nD τ sig) → Buf (Elt Ideal) ℓ) (c : Dev nD) (t : Fin cfg0.N) (h0 : ¬ t.val % 4 = 0)

include h0

set_option maxHeartbeats 8000000 in
/-- The taps' gradient. -/
theorem dw_later (y : S2x1x3x1408.Idx) : (outsAt0 m c t.val t.isLt).2.1 y
    = (outsAt0 m c (t.val - 1) (Nat.lt_of_le_of_lt (Nat.sub_le _ _) t.isLt)).2.1 y + (at_point m c t).dw (y 2) (y 3) (y 0) := by
  rw [outsAt0_B m c t h0]
  frame_out
  unfold at_point
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  generalize iblk m c 8 t = da
  generalize (outsAt0 m c (t.val - 1) (Nat.lt_of_le_of_lt (Nat.sub_le _ _) t.isLt)).2.1 = old
  idx_vars y
  canon_tiles x hx using View.cover_of_tiledBy _ ![1, 1, 1, 128] (by sl_kernel_rfl) (ix4 y0 y1 y2 y3)
  all_goals
    idx_vars x
    obtain rfl : y1 = 0 := Subsingleton.elim _ _
    first
      | obtain ⟨hl, rfl⟩ := column hx3
      | obtain ⟨hl, rfl⟩ := column (hx3.trans (Nat.zero_add _).symm)
    first
      | obtain rfl := at_piece hx0 (by decide); refine Eq.trans ?_ (congrArg _ (Blocks.dw_value _ _ _ _)).symm
      | obtain rfl := at_piece0 hx0 (by decide); refine Eq.trans ?_ (congrArg _ (Blocks.dw_gate _ _ _ _)).symm
    first
      | obtain rfl := at_piece (n := 2) hx2 (by decide); refine Eq.trans ?_ (congrArg _ (tapPart_own _ _ _ _ _)).symm
      | obtain rfl := at_piece (n := 1) hx2 (by decide); refine Eq.trans ?_ (congrArg _ (tapPart_one _ _ _ _ _)).symm
      | obtain rfl := at_piece0 hx2 (by decide); refine Eq.trans ?_ (congrArg _ (tapPart_two _ _ _ _ _)).symm
    open_payloads
    pointwise [Blocks.gate, Blocks.value, dGate, dValue, sigm, tile, early, pick]

end Cert.Gate
-- ==== Proof.GateFirst.lean ====
module

public import proofs.«01_k».proof.Proof.GateTile
public import proofs.«01_k».proof.Proof.SguBlock

/-!
# The gated convolution's gradient at the first tile of a block

The point writes its rows' gradient, clears the sums, and adds its part of the bias's gradient.
-/

@[expose] public section

set_option maxRecDepth 16384

noncomputable section

open Idealize.ShloMosaic Idealize.ShloMosaic.TcCoe Cert.ConvTap

namespace Cert.Gate

open Cert.GateKernelIdeal Cert.GateKernelIdeal.Gen Cert.SguBlock

attribute [local instance] Cert.GateKernelIdeal.Gen.facts

variable (m : (ℓ : Loc nD τ sig) → Buf (Elt Ideal) ℓ) (c : Dev nD) (t : Fin cfg0.N) (h0 : t.val % 4 = 0)

include h0

set_option maxHeartbeats 4000000 in
/-- The rows' gradient. -/
theorem dc_first (y : S2x1x1024x1408.Idx) : (outsAt0 m c t.val t.isLt).1 y = (at_point m c t).dc (y 2) (y 3) (y 0) := by
  rw [outsAt0_A m c t h0]
  frame_open
  simp (disch := decide) only [↓ View.readCov_skip, ↓ View.readCov_cons_toLoadRect, ↓ View.readCov_fill]
  frame_out
  unfold at_point
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  generalize iblk m c 8 t = da
  idx_vars y
  canon_tiles x hx using View.cover_of_tiledBy _ ![1, 1, 1024, 128] (by sl_kernel_rfl) (ix4 y0 y1 y2 y3)
  all_goals
    idx_vars x
    obtain rfl : y1 = 0 := Subsingleton.elim _ _
    obtain rfl : y2 = x2 := Fin.ext hx2
    first
      | obtain ⟨hl, rfl⟩ := column hx3
      | obtain ⟨hl, rfl⟩ := column (hx3.trans (Nat.zero_add _).symm)
    first
      | obtain rfl := at_piece hx0 (by decide); refine Eq.trans ?_ (Blocks.dc_value _ _ _ _).symm
      | obtain rfl := at_piece0 hx0 (by decide); refine Eq.trans ?_ (Blocks.dc_gate _ _ _ _).symm
    open_payloads
    pointwise [Blocks.gate, Blocks.value, dGate, dValue, sigm, tile, early, pick]

set_option maxHeartbeats 4000000 in
/-- The bias's gradient. -/
theorem db_first (y : S2x1x1x1408.Idx) : (outsAt0 m c t.val t.isLt).2.2 y
    = (at_point m c t).db (y 0) (y 3) := by
  rw [outsAt0_A m c t h0]
  frame_open
  simp (disch := decide) only [↓ View.readCov_skip, ↓ View.readCov_cons_toLoadRect, ↓ View.readCov_fill]
  frame_out
  unfold at_point
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  generalize iblk m c 8 t = da
  idx_vars y
  refine (canon_drop [_] [_, _, _, _, _, _, _, _, _, _, _, _, _, _, _, _, _, _, _, _, _, _] (ix4 y0 y1 y2 y3) (View.cover_of_tiledBy _ ![1, 1, 1, 128] (by sl_kernel_rfl) (ix4 y0 y1 y2 y3))).trans ?_
  canon_tiles x hx using View.cover_of_tiledBy _ ![1, 1, 1, 128] (by sl_kernel_rfl) (ix4 y0 y1 y2 y3)
  all_goals
    idx_vars x
    obtain rfl : y1 = 0 := Subsingleton.elim _ _
    obtain rfl : y2 = 0 := Subsingleton.elim _ _
    first
      | obtain ⟨hl, rfl⟩ := column hx3
      | obtain ⟨hl, rfl⟩ := column (hx3.trans (Nat.zero_add _).symm)
    first
      | obtain rfl := at_piece hx0 (by decide); refine Eq.trans ?_ (Blocks.db_value _ _ _).symm
      | obtain rfl := at_piece0 hx0 (by decide); refine Eq.trans ?_ (Blocks.db_gate _ _ _).symm
    open_payloads
    pointwise [Blocks.gate, Blocks.value, dGate, dValue, sigm, tile, early, pick]

end Cert.Gate
-- ==== Proof.GateFirstTaps.lean ====
module

public import proofs.«01_k».proof.Proof.GateTile
public import proofs.«01_k».proof.Proof.SguBlock

/-!
# The taps' gradient at the first tile of a block

The point clears the sum and adds its part.
-/

@[expose] public section

set_option maxRecDepth 16384

noncomputable section

open Idealize.ShloMosaic Idealize.ShloMosaic.TcCoe Cert.ConvTap

namespace Cert.Gate

open Cert.GateKernelIdeal Cert.GateKernelIdeal.Gen Cert.SguBlock

attribute [local instance] Cert.GateKernelIdeal.Gen.facts

variable (m : (ℓ : Loc nD τ sig) → Buf (Elt Ideal) ℓ) (c : Dev nD) (t : Fin cfg0.N) (h0 : t.val % 4 = 0)

include h0

set_option maxHeartbeats 8000000 in
/-- The taps' gradient. -/
theorem dw_first (y : S2x1x3x1408.Idx) : (outsAt0 m c t.val t.isLt).2.1 y
    = (at_point m c t).dw (y 2) (y 3) (y 0) := by
  rw [outsAt0_A m c t h0]
  frame_open
  simp (disch := decide) only [↓ View.readCov_skip, ↓ View.readCov_cons_toLoadRect, ↓ View.readCov_fill]
  frame_out
  unfold at_point
  generalize grid0.coords t = q
  generalize iblk m c 0 t = gp
  generalize iblk m c 1 t = gc
  generalize iblk m c 2 t = vp
  generalize iblk m c 3 t = vc
  generalize iblk m c 4 t = wg
  generalize iblk m c 5 t = wv
  generalize iblk m c 6 t = bg
  generalize iblk m c 7 t = bv
  generalize iblk m c 8 t = da
  idx_vars y
  refine (canon_drop [_] [_, _, _, _, _, _, _, _, _, _, _, _, _, _, _, _, _, _, _, _, _, _,
      _, _, _, _, _, _, _, _, _, _, _, _, _, _, _, _, _, _, _, _, _, _,
      _, _, _, _, _, _, _, _, _, _, _, _, _, _, _, _, _, _, _, _, _, _]
    (ix4 y0 y1 y2 y3) (View.cover_of_tiledBy _ ![1, 1, 1, 128] (by sl_kernel_rfl) (ix4 y0 y1 y2 y3))).trans ?_
  canon_tiles x hx using View.cover_of_tiledBy _ ![1, 1, 1, 128] (by sl_kernel_rfl) (ix4 y0 y1 y2 y3)
  all_goals
    idx_vars x
    obtain rfl : y1 = 0 := Subsingleton.elim _ _
    first
      | obtain ⟨hl, rfl⟩ := column hx3
      | obtain ⟨hl, rfl⟩ := column (hx3.trans (Nat.zero_add _).symm)
    first
      | obtain rfl := at_piece hx0 (by decide); refine Eq.trans ?_ (Blocks.dw_value _ _ _ _).symm
      | obtain rfl := at_piece0 hx0 (by decide); refine Eq.trans ?_ (Blocks.dw_gate _ _ _ _).symm
    first
      | obtain rfl := at_piece (n := 2) hx2 (by decide); refine Eq.trans ?_ (tapPart_own _ _ _ _ _).symm
      | obtain rfl := at_piece (n := 1) hx2 (by decide); refine Eq.trans ?_ (tapPart_one _ _ _ _ _).symm
      | obtain rfl := at_piece0 hx2 (by decide); refine Eq.trans ?_ (tapPart_two _ _ _ _ _).symm
    open_payloads
    pointwise [Blocks.gate, Blocks.value, dGate, dValue, sigm, tile, early, pick]

end Cert.Gate
-- ==== Proof.GateArrays.lean ====
module

public import proofs.«01_k».proof.Proof.GateLater
public import proofs.«01_k».proof.Proof.GateLaterTaps
public import proofs.«01_k».proof.Proof.GateFirst
public import proofs.«01_k».proof.Proof.GateFirstTaps
public import proofs.«01_k».proof.Proof.Fconv
public import Idealize.ShloMosaic.Lib.Pipeline.ReadBack

/-!
# The gated convolution's gradient, whole

The rows' gradient is written tile by tile; a block's four tiles add up to the taps' and the bias's gradients.
-/

@[expose] public section

set_option maxRecDepth 16384

noncomputable section

open Idealize.ShloMosaic Idealize.ShloMosaic.TcCoe Cert.ConvTap

namespace Cert.Gate

open Cert.GateKernelIdeal Cert.GateKernelIdeal.Gen
open Cert.Fconv (col tap bias chan bias_at)

attribute [local instance] Cert.GateKernelIdeal.Gen.facts

section
variable (A : FVec Ideal S8x4096x1408 .bf16) (D : FVec Ideal S4096x5632 .bf16) (W : FVec Ideal S8x4x3x1408 .f32) (B : FVec Ideal S4x11264 .f32)

/-- The gate block, or the value block, of a pair. -/
def blk (h : Fin 2) (n : Fin 4) : Fin 8 := ⟨h.val * 4 + n.val, by omega⟩

/-- The gradient of the convolved rows of a block. -/
def dcOf (n : Fin 4) (R : Fin 4096) (j : Fin 1408) : Fin 2 → EReal
  | 0 => dGate (D (ix2 R ⟨n.val * 1408 + j.val, by omega⟩)) (chan A W B ⟨n.val, by omega⟩ R j) (chan A W B ⟨4 + n.val, by omega⟩ R j)
  | 1 => dValue (D (ix2 R ⟨n.val * 1408 + j.val, by omega⟩)) (chan A W B ⟨n.val, by omega⟩ R j)

/-- The rows a tap multiplies. -/
def lag (a : Fin 4096 → EReal) (k : Fin 3) (R : Fin 4096) : EReal := if k = 0 then past a 2 R else if k = 1 then past a 1 R else a R

/-- The gradient of the taps, and of the bias, of a block. -/
def dwOf (h : Fin 2) (n : Fin 4) (k : Fin 3) (j : Fin 1408) : EReal := ∑ R, lag (col A (blk h n) j) k R * dcOf A D W B n R j h
def dbOf (h : Fin 2) (n : Fin 4) (j : Fin 1408) : EReal := ∑ R, dcOf A D W B n R j h
end

/-- A tile's part of a tap's gradient is that of the whole column's rows in the tile. -/
theorem tapPart_eq (a d : Fin 4096 → EReal) (q : Fin 4) (k : Fin 3) :
    tapPart q.val (fun r => a (rowOf q r)) (fun r => a (haloOf q r)) (fun r => d (rowOf q r)) k
      = ∑ r, lag a k (rowOf q r) * d (rowOf q r) := by
  unfold lag
  match k with
  | 0 => exact Finset.sum_congr rfl fun r _ => (lag_left a q 2 (by decide) r _).trans (mul_comm _ _)
  | 1 => exact Finset.sum_congr rfl fun r _ => (lag_left a q 1 (by decide) r _).trans (mul_comm _ _)
  | 2 => exact Finset.sum_congr rfl fun r _ => mul_comm _ _

/-- Four tiles of rows are all the rows. -/
theorem sum_tiles (f : Fin 4096 → EReal) : ∑ q : Fin 4, ∑ r : Fin 1024, f (rowOf q r) = ∑ R, f R :=
  (Fin.sum_univ_tiles 4 1024 rfl f).symm

theorem sum_block (p : Fin 4 → EReal) (f : Fin 4096 → EReal) (h : ∀ q, p q = ∑ r, f (rowOf q r)) : ∑ q, p q = ∑ R, f R := by
  rw [← sum_tiles]
  exact Finset.sum_congr rfl fun q _ => h q

variable (m : (ℓ : Loc nD τ sig) → Buf (Elt Ideal) ℓ) (c : Dev nD)

abbrev vA : FVec Ideal S8x4096x1408 .bf16 := m ((c : Thread nD τ).loc main_arg0)
abbrev vD : FVec Ideal S4096x5632 .bf16 := m ((c : Thread nD τ).loc main_arg1)
abbrev vW : FVec Ideal S8x4x3x1408 .f32 := m ((c : Thread nD τ).loc main_arg2)
abbrev vB : FVec Ideal S4x11264 .f32 := m ((c : Thread nD τ).loc main_arg3)

theorem idx : ∀ t : Fin cfg0.N, win0_0.index t = ![t.val / 4, t.val % 4 * 64 - 1, 0] ∧ win0_1.index t = ![t.val / 4, t.val % 4, 0]
    ∧ win0_2.index t = ![t.val / 4 + 4, t.val % 4 * 64 - 1, 0] ∧ win0_3.index t = ![t.val / 4 + 4, t.val % 4, 0]
    ∧ win0_4.index t = ![t.val / 4, 0, 0, 0] ∧ win0_5.index t = ![t.val / 4 + 4, 0, 0, 0]
    ∧ win0_6.index t = ![t.val / 4, 0, 0] ∧ win0_7.index t = ![t.val / 4 + 4, 0, 0] ∧ win0_8.index t = ![t.val % 4, t.val / 4]
    ∧ win0_9.index t = ![0, t.val / 4, t.val % 4, 0] ∧ win0_10.index t = ![0, t.val / 4, 0, 0] ∧ win0_11.index t = ![0, t.val / 4, 0, 0]
    ∧ (grid0.coords t 1).val = t.val % 4 ∧ t.val < 16 :=
  (by decide +kernel : ∀ t : Fin grid0.N, _)

/-- The tile of rows and the block of a grid point. -/
def tileOf (t : Fin cfg0.N) : Fin 4 := ⟨t.val % 4, by omega⟩
def blockOf (t : Fin cfg0.N) : Fin 4 := ⟨t.val / 4, by have := (idx t).2.2.2.2.2.2.2.2.2.2.2.2.2; omega⟩

variable (t : Fin cfg0.N) (r : Fin 1024) (j : Fin 1408)

theorem rows_gate : (at_point m c t).gc (ix3 0 r j) = col (vA m c) ⟨(blockOf t).val, by omega⟩ j (rowOf (tileOf t) r) := by
  unfold col blockOf rowOf tileOf at_point
  blk_point [iblk, V, idx t]

theorem halo_gate (r : Fin 16) : (at_point m c t).gp (ix3 0 r j) = col (vA m c) ⟨(blockOf t).val, by omega⟩ j (haloOf (tileOf t) r) := by
  unfold col blockOf haloOf tileOf at_point
  blk_point [iblk, V, idx t]

theorem taps_gate (k : Fin 3) : (at_point m c t).gw (ix4 0 0 k j) = tap (vW m c) ⟨(blockOf t).val, by omega⟩ j k := by
  unfold tap blockOf at_point
  blk_point [iblk, V, idx t]

theorem bias_gate : (at_point m c t).gb (ix3 0 0 j) = bias (vB m c) ⟨(blockOf t).val, by omega⟩ j := by
  unfold at_point
  blk_simp [iblk]
  entry_read
  have e : ((cfg0.win 6).blk t).view.emb (ix3 0 0 j) = ix3 ⟨(blockOf t).val, by omega⟩ 0 j := by
    unfold blockOf
    blk_ext [idx t]
  exact (congrArg (shapeCast S32x1x1408 (vB m c) shapeCasts_S4x11264_S32x1x1408) e).trans (bias_at _ ⟨(blockOf t).val, by omega⟩ j)

theorem rows_value : (at_point m c t).vc (ix3 0 r j) = col (vA m c) ⟨4 + (blockOf t).val, by omega⟩ j (rowOf (tileOf t) r) := by
  unfold col blockOf rowOf tileOf at_point
  blk_point [iblk, V, idx t]

theorem halo_value (r : Fin 16) : (at_point m c t).vp (ix3 0 r j) = col (vA m c) ⟨4 + (blockOf t).val, by omega⟩ j (haloOf (tileOf t) r) := by
  unfold col blockOf haloOf tileOf at_point
  blk_point [iblk, V, idx t]

theorem taps_value (k : Fin 3) : (at_point m c t).vw (ix4 0 0 k j) = tap (vW m c) ⟨4 + (blockOf t).val, by omega⟩ j k := by
  unfold tap blockOf at_point
  blk_point [iblk, V, idx t]

theorem bias_value : (at_point m c t).vb (ix3 0 0 j) = bias (vB m c) ⟨4 + (blockOf t).val, by omega⟩ j := by
  unfold at_point
  blk_simp [iblk]
  entry_read
  have e : ((cfg0.win 7).blk t).view.emb (ix3 0 0 j) = ix3 ⟨4 + (blockOf t).val, by omega⟩ 0 j := by
    unfold blockOf
    blk_ext [idx t]
  exact (congrArg (shapeCast S32x1x1408 (vB m c) shapeCasts_S4x11264_S32x1x1408) e).trans (bias_at _ ⟨4 + (blockOf t).val, by omega⟩ j)

theorem dact_eq : (at_point m c t).da (ix2 r j) = vD m c (ix2 (rowOf (tileOf t) r) ⟨(blockOf t).val * 1408 + j.val, by omega⟩) := by
  unfold blockOf rowOf tileOf at_point
  blk_point [iblk, V, idx t]

theorem tile_at : (at_point m c t).q = (tileOf t).val := (idx t).2.2.2.2.2.2.2.2.2.2.2.2.1

theorem gate_eq : (at_point m c t).gate r j = chan (vA m c) (vW m c) (vB m c) ⟨(blockOf t).val, by omega⟩ (rowOf (tileOf t) r) j := by
  unfold Blocks.gate chan
  simp only [rows_gate, halo_gate, taps_gate, bias_gate, tile_at]
  exact tile_eq (col (vA m c) ⟨(blockOf t).val, by omega⟩ j) (tileOf t) _ _ r

theorem value_eq : (at_point m c t).value r j = chan (vA m c) (vW m c) (vB m c) ⟨4 + (blockOf t).val, by omega⟩ (rowOf (tileOf t) r) j := by
  unfold Blocks.value chan
  simp only [rows_value, halo_value, taps_value, bias_value, tile_at]
  exact tile_eq (col (vA m c) ⟨4 + (blockOf t).val, by omega⟩ j) (tileOf t) _ _ r

theorem dc_eq (h : Fin 2) : (at_point m c t).dc r j h
    = dcOf (vA m c) (vD m c) (vW m c) (vB m c) (blockOf t) (rowOf (tileOf t) r) j h := by
  match h with
  | 0 => exact (congrArg₂ (fun d g => dGate d g _) (dact_eq m c t r j) (gate_eq m c t r j)).trans (congrArg (dGate _ _) (value_eq m c t r j))
  | 1 => exact congrArg₂ dValue (dact_eq m c t r j) (gate_eq m c t r j)

theorem dw_eq (h : Fin 2) (k : Fin 3) : (at_point m c t).dw k j h = ∑ r, lag (col (vA m c) (blk h (blockOf t)) j) k (rowOf (tileOf t) r)
    * dcOf (vA m c) (vD m c) (vW m c) (vB m c) (blockOf t) (rowOf (tileOf t) r) j h := by
  match h with
  | 0 =>
    unfold Blocks.dw
    simp only [rows_gate, halo_gate, dc_eq, tile_at]
    refine (tapPart_eq _ (fun R => dcOf (vA m c) (vD m c) (vW m c) (vB m c) (blockOf t) R j 0) (tileOf t) k).trans ?_
    refine Finset.sum_congr rfl fun r _ => congrArg (fun n => lag (col (vA m c) n j) k _ * _) (Fin.ext ?_)
    change (blockOf t).val = 0 * 4 + (blockOf t).val
    omega
  | 1 =>
    unfold Blocks.dw
    simp only [rows_value, halo_value, dc_eq, tile_at]
    refine (tapPart_eq _ (fun R => dcOf (vA m c) (vD m c) (vW m c) (vB m c) (blockOf t) R j 1) (tileOf t) k).trans ?_
    refine Finset.sum_congr rfl fun r _ => congrArg (fun n => lag (col (vA m c) n j) k _ * _) (Fin.ext ?_)
    change 4 + (blockOf t).val = 1 * 4 + (blockOf t).val
    omega

/-- The grid point of a block's tile. -/
theorem block_point (h : t.val % 4 = 3) (s : Fin 4) (hs : 4 * (t.val / 4) + s.val < cfg0.N) :
    tileOf ⟨4 * (t.val / 4) + s.val, hs⟩ = s ∧ blockOf ⟨4 * (t.val / 4) + s.val, hs⟩ = blockOf t := by
  constructor
  · apply Fin.ext
    change (4 * (t.val / 4) + s.val) % 4 = s.val
    omega
  · apply Fin.ext
    change (4 * (t.val / 4) + s.val) / 4 = t.val / 4
    omega

theorem dw_block (h3 : t.val % 4 = 3) (s : Fin 4) (hs : 4 * (t.val / 4) + s.val < cfg0.N) (h : Fin 2) (k : Fin 3) :
    (at_point m c ⟨4 * (t.val / 4) + s.val, hs⟩).dw k j h = ∑ r, lag (col (vA m c) (blk h (blockOf t)) j) k (rowOf s r)
      * dcOf (vA m c) (vD m c) (vW m c) (vB m c) (blockOf t) (rowOf s r) j h := by
  rw [dw_eq, (block_point t h3 s hs).1, (block_point t h3 s hs).2]

theorem db_block (h3 : t.val % 4 = 3) (s : Fin 4) (hs : 4 * (t.val / 4) + s.val < cfg0.N) (h : Fin 2) :
    (at_point m c ⟨4 * (t.val / 4) + s.val, hs⟩).db h j = ∑ r, dcOf (vA m c) (vD m c) (vW m c) (vB m c) (blockOf t) (rowOf s r) j h := by
  unfold Blocks.db
  simp only [dc_eq]
  rw [(block_point t h3 s hs).1, (block_point t h3 s hs).2]

theorem dc_point (y : S2x1x1024x1408.Idx) : (outsAt0 m c t.val t.isLt).1 y = (at_point m c t).dc (y 2) (y 3) (y 0) := by
  by_cases h : t.val % 4 = 0
  · exact dc_first m c t h y
  · exact dc_later m c t h y

/-- The rows' gradient, whole. -/
theorem final9 : (dats m 0 c).arrAt 9 (cfgs 0).N
    = fun i => dcOf (vA m c) (vD m c) (vW m c) (vB m c) (i 1) (i 2) (i 3) (i 0) := by
  refine (dats m 0 c).arrAt_eq_of_covers 9 _ (by decide +kernel) fun t _ y => ?_
  blk_simp
  have e0 : (((cfg0.win 9).blk t).view.emb y) 0 = y 0 := by apply Fin.ext; blk_simp [idx t]
  have e1 : (((cfg0.win 9).blk t).view.emb y) 1 = blockOf t := by apply Fin.ext; blk_simp [idx t, blockOf]
  have e2 : (((cfg0.win 9).blk t).view.emb y) 2 = rowOf (tileOf t) (y 2) := by apply Fin.ext; blk_simp [idx t, rowOf, tileOf]
  have e3 : (((cfg0.win 9).blk t).view.emb y) 3 = y 3 := by apply Fin.ext; blk_simp [idx t]
  rw [after0_9, dc_point m c t y, e0, e1, e2, e3]
  exact dc_eq m c t (y 2) (y 3) (y 0)

/-- The taps' gradient, whole. -/
theorem final10 : (dats m 0 c).arrAt 10 (cfgs 0).N
    = fun i => dwOf (vA m c) (vD m c) (vW m c) (vB m c) (i 0) (i 1) (i 2) (i 3) := by
  refine (dats m 0 c).arrAt_eq_of_covers 10 _ (by decide +kernel) fun t hf y => ?_
  blk_simp
  have e0 : (((cfg0.win 10).blk t).view.emb y) 0 = y 0 := by apply Fin.ext; blk_simp [idx t]
  have e1 : (((cfg0.win 10).blk t).view.emb y) 1 = blockOf t := by apply Fin.ext; blk_simp [idx t, blockOf]
  have e2 : (((cfg0.win 10).blk t).view.emb y) 2 = y 2 := by apply Fin.ext; blk_simp [idx t]
  have e3 : (((cfg0.win 10).blk t).view.emb y) 3 = y 3 := by apply Fin.ext; blk_simp [idx t]
  rw [after0_10, Pipeline.eq_sum_fin_of_reset_step_apply_of_flush (fun n h => (outsAt0 m c n h).2.1) 4 (fun _ => 0)
    (fun t y => (at_point m c t).dw (y 2) (y 3) (y 0))
    (fun t h y => by rw [zero_add]; exact dw_first m c t h y)
    (fun t h y => dw_later m c t h y) t ((flush0_10 t).mp hf) y, zero_add, e0, e1, e2, e3]
  refine sum_block _ (fun R => lag (col (vA m c) (blk (y 0) (blockOf t)) (y 3)) (y 2) R
    * dcOf (vA m c) (vD m c) (vW m c) (vB m c) (blockOf t) R (y 3) (y 0)) fun s => ?_
  exact dw_block m c t (y 3) ((flush0_10 t).mp hf) s _ (y 0) (y 2)

/-- The bias's gradient, whole. -/
theorem final11 : (dats m 0 c).arrAt 11 (cfgs 0).N
    = fun i => dbOf (vA m c) (vD m c) (vW m c) (vB m c) (i 0) (i 1) (i 3) := by
  refine (dats m 0 c).arrAt_eq_of_covers 11 _ (by decide +kernel) fun t hf y => ?_
  blk_simp
  have e0 : (((cfg0.win 11).blk t).view.emb y) 0 = y 0 := by apply Fin.ext; blk_simp [idx t]
  have e1 : (((cfg0.win 11).blk t).view.emb y) 1 = blockOf t := by apply Fin.ext; blk_simp [idx t, blockOf]
  have e3 : (((cfg0.win 11).blk t).view.emb y) 3 = y 3 := by apply Fin.ext; blk_simp [idx t]
  rw [after0_11, Pipeline.eq_sum_fin_of_reset_step_apply_of_flush (fun n h => (outsAt0 m c n h).2.2) 4 (fun _ => 0)
    (fun t y => (at_point m c t).db (y 0) (y 3))
    (fun t h y => by rw [zero_add]; exact db_first m c t h y)
    (fun t h y => db_later m c t h y) t ((flush0_11 t).mp hf) y, zero_add, e0, e1, e3]
  refine sum_block _ (fun R => dcOf (vA m c) (vD m c) (vW m c) (vB m c) (blockOf t) R (y 3) (y 0)) fun s => ?_
  exact db_block m c t (y 3) ((flush0_11 t).mp hf) s _ (y 0)

end Cert.Gate
-- ==== Proof.GateRef.lean ====
module

public import proofs.«01_k».proof.Defs
public import proofs.«01_k».proof.Proof.Fconv
public import proofs.«01_k».proof.Proof.GateTile
public import proofs.«01_k».proof.Proof.Gen.GateReferenceIdeal.Read

/-!
# The plain gradient of the gated convolution

The gradient of the convolved channels, and its sums over the rows, with each tap's rows.
-/

@[expose] public section

set_option maxRecDepth 16384

noncomputable section

open Idealize.ShloMosaic Idealize.ShloMosaic.TcCoe Cert.ConvTap

namespace Cert.Gate

open Cert.GateReferenceIdeal Cert.GateReferenceIdeal.Read
open Cert.Fconv (col tap bias chan)

/-- The gradient of the gate as the chain rule writes it. -/
def rGate (d g v : EReal) : EReal := d * v * sigm g + g * (d * v) * (sigm g * (1 - sigm g))

variable (A : FVec Ideal S8x4096x1408 .bf16) (D : FVec Ideal S4096x5632 .bf16) (W : FVec Ideal S8x4x3x1408 .f32) (B : FVec Ideal S4x11264 .f32)

/-- The padded rows. -/
theorem pad_at (n : Fin 8) (R : Fin 4098) (j : Fin 1408) : val_main_v7 (F := Ideal) A (ix3 n R j)
    = if h : 2 ≤ R.val then A (ix3 n ⟨R.val - 2, by omega⟩ j) else 0 := by
  pointwise [val_main_v7, val_main_v6, val_main_cst, val_main_v0]
  by_cases h : R.val < 2
  · rw [dif_pos h, dif_neg (by omega)]
  · rw [dif_neg h, dif_pos (by omega)]

/-- The rows of a tap. -/
theorem past_two (n : Fin 8) (R : Fin 4096) (j : Fin 1408) : val_main_v8 (F := Ideal) A (ix3 n R j) = past (col A n j) 2 R := by
  pointwise [val_main_v8, pad_at, past, col]
  by_cases h : 2 ≤ R.val
  · rw [dif_pos h, if_pos h]
  · rw [dif_neg h, if_neg h]

theorem past_one (n : Fin 8) (R : Fin 4096) (j : Fin 1408) : val_main_v16 (F := Ideal) A (ix3 n R j) = past (col A n j) 1 R := by
  pointwise [val_main_v16, pad_at, past, col]
  by_cases h : 1 ≤ R.val
  · rw [dif_pos (by omega), if_pos h]
    refine congrArg (fun q : Fin 4096 => A (ix3 n q j)) (Fin.ext ?_)
    change 1 + R.val - 2 = R.val - 1
    omega
  · rw [dif_neg (by omega), if_neg h]

theorem past_own (n : Fin 8) (R : Fin 4096) (j : Fin 1408) : val_main_v23 (F := Ideal) A (ix3 n R j) = col A n j R := by
  pointwise [val_main_v23, pad_at, col]

/-- The convolved channels. -/
theorem conv_at (n : Fin 8) (R : Fin 4096) (j : Fin 1408) : val_main_v32 (F := Ideal) A W B (ix3 n R j) = chan A W B n R j := by
  pointwise [val_main_v32, val_main_v31, val_main_v30, val_main_v29, val_main_v28, val_main_v27, val_main_v26, val_main_v25, val_main_v24,
    val_main_v22, val_main_v21, val_main_v20, val_main_v19, val_main_v18, val_main_v17, val_main_v15, val_main_v14, val_main_v13,
    val_main_v12, val_main_v11, val_main_cst_0, val_main_v10, val_main_v9, val_main_v5, val_main_v4, val_main_v3, val_main_v2, val_main_v1,
    past_two, past_one, past_own, chan, conv, tap, bias]

/-- The gradient of the gated rows, by block. -/
theorem dact_at (n : Fin 4) (R : Fin 4096) (j : Fin 1408) : val_main_v39 (F := Ideal) D (ix3 n R j)
    = D (ix2 R ⟨n.val * 1408 + j.val, by omega⟩) := by
  pointwise [val_main_v39, val_main_v38, val_main_v37]

/-- The gradient of the gate blocks. -/
theorem low_at (n : Fin 4) (R : Fin 4096) (j : Fin 1408) : val_main_v43 (F := Ideal) A D W B (ix3 n R j)
    = rGate (D (ix2 R ⟨n.val * 1408 + j.val, by omega⟩)) (chan A W B ⟨n.val, by omega⟩ R j) (chan A W B ⟨4 + n.val, by omega⟩ R j) := by
  pointwise [val_main_v43, val_main_call1_v2, val_main_call1_v1, val_main_call1_v0, val_main_v41, val_main_v35, val_main_v34_1, val_main_v34_2,
    val_main_v33, val_main_call0_v0, val_main_call0_v1, val_main_call0_v2, val_main_call0_v3, val_main_call0_v4, val_main_call0_v6,
    val_main_call0_v7, val_main_call0_cst, val_main_call0_cst_0, val_main_call0_cst_1, conv_at, dact_at, rGate, sigm]
  rw [zero_sub]

/-- The gradient of the value blocks. -/
theorem high_at (n : Fin 4) (R : Fin 4096) (j : Fin 1408) : val_main_v40 (F := Ideal) A D W B (ix3 n R j)
    = dValue (D (ix2 R ⟨n.val * 1408 + j.val, by omega⟩)) (chan A W B ⟨n.val, by omega⟩ R j) := by
  pointwise [val_main_v40, val_main_v34_0, val_main_v34_2,
    val_main_v33, val_main_call0_v0, val_main_call0_v1, val_main_call0_v2, val_main_call0_v3, val_main_call0_v4,
    val_main_call0_cst, val_main_call0_cst_0, val_main_call0_cst_1, conv_at, dact_at, dValue, sigm]
  rw [zero_sub]
  exact mul_comm _ _

/-- The gradient of the convolved channels: a gate block. -/
theorem dc_gate (n : Fin 4) (R : Fin 4096) (j : Fin 1408) : val_main_v45 (F := Ideal) A D W B (ix3 ⟨n.val, by omega⟩ R j)
    = rGate (D (ix2 R ⟨n.val * 1408 + j.val, by omega⟩)) (chan A W B ⟨n.val, by omega⟩ R j) (chan A W B ⟨4 + n.val, by omega⟩ R j) := by
  pointwise [val_main_v45, val_main_v42, val_main_v44, val_main_cst_1, val_main_cst_2, low_at, high_at]
  rw [dif_neg (fun h => h.1), zero_add]

/-- … and a value block. -/
theorem dc_value (n : Fin 4) (R : Fin 4096) (j : Fin 1408) : val_main_v45 (F := Ideal) A D W B (ix3 ⟨4 + n.val, by omega⟩ R j)
    = dValue (D (ix2 R ⟨n.val * 1408 + j.val, by omega⟩)) (chan A W B ⟨n.val, by omega⟩ R j) := by
  pointwise [val_main_v45, val_main_v42, val_main_v44, val_main_cst_1, val_main_cst_2, low_at, high_at]

/-- The gradient of the bias. -/
theorem db_at (n : Fin 8) (j : Fin 1408) : val_main_v48 (F := Ideal) A D W B (ix2 n j) = ∑ R, val_main_v45 (F := Ideal) A D W B (ix3 n R j) := by
  pointwise [val_main_v48, val_main_v47, val_main_v46, val_main_cst_3, val_main_cst_4]
  exact Fin.sum_univ_one _

/-- The gradient of the taps. -/
theorem dw_at (n : Fin 8) (k : Fin 3) (j : Fin 1408) : val_main_v68 (F := Ideal) A D W B (ix3 n k j)
    = ∑ R, (if k = 0 then past (col A n j) 2 R else if k = 1 then past (col A n j) 1 R else col A n j R) * val_main_v45 (F := Ideal) A D W B (ix3 n R j) := by
  pointwise [val_main_v68, val_main_v67, val_main_v66, val_main_v65, val_main_v64, val_main_v63, val_main_v62, val_main_v61, val_main_v60,
    val_main_v59, val_main_v58, val_main_v57, val_main_v56, val_main_v55, val_main_v54, val_main_v53, val_main_v52, val_main_v51, val_main_v50,
    val_main_v49, val_main_cst_5, val_main_cst_6, val_main_cst_7, val_main_cst_8, val_main_cst_9, val_main_cst_10, val_main_cst_11,
    val_main_cst_12, val_main_cst_13, past_two, past_one, past_own]
  simp only [Fin.sum_univ_one]
  fin_cases k <;> simp

end Cert.Gate
-- ==== Proof.GateEq.lean ====
module

public import proofs.«01_k».proof.Defs
public import proofs.«01_k».proof.Proof.Softmax
public import proofs.«01_k».proof.Proof.GateRef

/-!
# Two spellings of the gate's gradient

The gradient of x σ(x) is σ(x)(1 + x (1 − σ(x))), or σ(x) + x σ(x)(1 − σ(x)). Times a real number the two agree, also where the
gate is infinite.
-/

@[expose] public section

set_option maxRecDepth 16384

noncomputable section

open Idealize.ShloMosaic Idealize.ShloMosaic.TcCoe Cert.ConvTap Cert.Softmax

namespace Cert.Gate

theorem one_sub_one : (1 : EReal) - 1 = 0 := by
  rw [← EReal.coe_one, ← EReal.coe_sub, sub_self, EReal.coe_zero]

theorem sigm_bot : sigm ⊥ = 0 := by
  have h : Ideal.exp (0 - ⊥) = ⊤ := rfl
  unfold sigm
  have h1 : (1 : EReal) + ⊤ = ⊤ := EReal.coe_add_top 1
  rw [h, h1]
  simp [Ideal.div]

theorem sigm_top : sigm ⊤ = 1 := by
  have h : Ideal.exp (0 - ⊤) = 0 := rfl
  unfold sigm
  rw [h]
  simp [Ideal.div]

theorem sigm_real (x : ℝ) : IsReal (sigm x) := by
  have h : Ideal.exp (0 - (x : EReal)) = ((Real.exp (0 - x) : ℝ) : EReal) := by
    rw [← EReal.coe_zero, ← EReal.coe_sub]
    rfl
  unfold sigm
  rw [h, ← EReal.coe_one, ← EReal.coe_add, div_positive (by positivity), ← EReal.coe_mul]
  exact ⟨_, rfl⟩

theorem gate_grad (d g v : EReal) (hd : IsReal d) (hv : IsReal v) : rGate d g v = dGate d g v := by
  obtain ⟨D, hD⟩ := hd.mul hv
  unfold rGate dGate
  rw [hD]
  induction g with
  | bot => rw [sigm_bot]; simp
  | top => rw [sigm_top, one_sub_one]; simp
  | coe x =>
    obtain ⟨s, hs⟩ := sigm_real x
    rw [hs]
    norm_cast
    ring_nf

/-! ### The precondition, entry by entry -/

theorem facts : Cert.Pre_finite_gate.Facts where
  slices_S8x4096x1408_S4x4096x1408_4_0_0 := by decide
  bitsLt_bf16_f32 := by decide
  bcast_S_S4x4096x1408 := by decide
  bcast_S_S4096x5632 := by decide
  slices_S8x4x3x1408_S4x1x3x1408_4_0_0_0 := by decide
  shapeCasts_S4x1x3x1408_S4x3x1408 := by decide
  bcast_S_S4x3x1408 := by decide
  slices_S4x11264_S1x5632_0_5632 := by decide
  shapeCasts_S1x5632_S5632 := by decide
  bcast_S_S5632 := by decide

open Cert.GateReferenceIdeal Cert.GateReferenceIdeal.Read
open Cert.Fconv (col tap bias chan)

variable (A : FVec Ideal S8x4096x1408 .bf16) (D : FVec Ideal S4096x5632 .bf16) (W : FVec Ideal S8x4x3x1408 .f32) (B : FVec Ideal S4x11264 .f32)

/-- A convolved channel of real rows, taps and bias is real. -/
theorem conv_real (a : Fin 4096 → EReal) (w : Fin 3 → EReal) (b : EReal) (ha : ∀ R, IsReal (a R)) (hw : ∀ k, IsReal (w k)) (hb : IsReal b)
    (R : Fin 4096) : IsReal (conv a w b R) := by
  have hp : ∀ s, IsReal (past a s R) := by
    intro s
    unfold past
    split
    · exact ha _
    · exact finite_zero
  exact ((((hp 2).mul (hw 0)).add ((hp 1).mul (hw 1))).add ((ha R).mul (hw 2))).add hb

section Pre

attribute [local instance] facts

/-- A condition on an array's entries: each is less than infinity in absolute value. -/
abbrev small (x : EReal) : BitVec 1 := Ideal.cmp .olt (max x (-x)) (Ideal.ofBits .f32 0x7F800000#32)

theorem pre_rows (n : Fin 4) (R : Fin 4096) (j : Fin 1408) :
    (Cert.Pre_finite_gate.fn (F := Ideal) A D W B).1 (ix3 n R j) = small (A (ix3 ⟨4 + n.val, by omega⟩ R j)) := by
  pointwise [Cert.Pre_finite_gate.fn]
  rfl

theorem pre_dact (R : Fin 4096) (j : Fin 5632) :
    (Cert.Pre_finite_gate.fn (F := Ideal) A D W B).2.1 (ix2 R j) = small (D (ix2 R j)) := by
  pointwise [Cert.Pre_finite_gate.fn]
  rfl

theorem pre_taps (n : Fin 4) (k : Fin 3) (j : Fin 1408) :
    (Cert.Pre_finite_gate.fn (F := Ideal) A D W B).2.2.1 (ix3 n k j) = small (W (ix4 ⟨4 + n.val, by omega⟩ 0 k j)) := by
  pointwise [Cert.Pre_finite_gate.fn]
  rfl

theorem pre_bias (j : Fin 5632) :
    (Cert.Pre_finite_gate.fn (F := Ideal) A D W B).2.2.2 (ix1 j) = small (B (ix2 0 ⟨5632 + j.val, by omega⟩)) := by
  pointwise [Cert.Pre_finite_gate.fn]
  rfl

variable (h1 : (Cert.Pre_finite_gate.fn (F := Ideal) A D W B).1 = fun _ => 1#1)
  (h2 : (Cert.Pre_finite_gate.fn (F := Ideal) A D W B).2.1 = fun _ => 1#1)
  (h3 : (Cert.Pre_finite_gate.fn (F := Ideal) A D W B).2.2.1 = fun _ => 1#1)
  (h4 : (Cert.Pre_finite_gate.fn (F := Ideal) A D W B).2.2.2 = fun _ => 1#1)

include h2 in
/-- The gradient of the gated rows is real. -/
theorem dact_real (R : Fin 4096) (j : Fin 5632) : IsReal (D (ix2 R j)) :=
  isReal_of_cmp ((pre_dact A D W B R j).symm.trans (congrFun h2 _))

include h1 h3 h4 in
/-- The value channels are real. -/
theorem value_real (n : Fin 4) (R : Fin 4096) (j : Fin 1408) : IsReal (chan A W B ⟨4 + n.val, by omega⟩ R j) := by
  refine conv_real _ _ _ (fun R => ?_) (fun k => ?_) ?_ R
  · exact isReal_of_cmp ((pre_rows A D W B n R j).symm.trans (congrFun h1 _))
  · exact isReal_of_cmp ((pre_taps A D W B n k j).symm.trans (congrFun h3 _))
  · have e : (⟨(4 + n.val) * 1408 + j.val, by omega⟩ : Fin 11264) = ⟨5632 + (n.val * 1408 + j.val), by omega⟩ := Fin.ext (by
      change (4 + n.val) * 1408 + j.val = 5632 + (n.val * 1408 + j.val)
      omega)
    exact (congrArg (fun q => IsReal (B (ix2 0 q))) e).mpr
      (isReal_of_cmp ((pre_bias A D W B ⟨n.val * 1408 + j.val, by omega⟩).symm.trans (congrFun h4 _)))

end Pre

end Cert.Gate
-- ==== Proof.GateClaim.lean ====
module

public import proofs.«01_k».proof.Proof.GateArrays
public import proofs.«01_k».proof.Proof.GateEq
public import proofs.«01_k».proof.Proof.Gen.GateKernelIdeal.Value

/-!
# The value claim of the gated convolution's gradient
-/

@[expose] public section

set_option maxRecDepth 16384

noncomputable section

open Idealize.ShloMosaic Idealize.ShloMosaic.TcCoe Idealize.SL.Sem Cert.ConvTap Cert.Softmax

attribute [local instance] Cert.GateKernelIdeal.Gen.facts Cert.GateReferenceIdeal.Gen.facts Cert.Gate.facts

namespace Cert.Gate

open Cert.GateReferenceIdeal Cert.GateReferenceIdeal.Read
open Cert.Fconv (col tap bias chan)

variable (A : FVec Ideal S8x4096x1408 .bf16) (D : FVec Ideal S4096x5632 .bf16) (W : FVec Ideal S8x4x3x1408 .f32) (B : FVec Ideal S4x11264 .f32)

theorem blk_gate (n : Fin 4) : blk 0 n = ⟨n.val, by omega⟩ := Fin.ext (by change 0 * 4 + n.val = n.val; omega)
theorem blk_value (n : Fin 4) : blk 1 n = ⟨4 + n.val, by omega⟩ := Fin.ext (by change 1 * 4 + n.val = 4 + n.val; omega)

/-! ### The results, cut into pairs of blocks -/

theorem rows_at (h : Fin 2) (n : Fin 4) (R : Fin 4096) (j : Fin 1408) : val_main_v70 (F := Ideal) A D W B (ix4 h n R j)
    = val_main_v45 (F := Ideal) A D W B (ix3 (blk h n) R j) := by
  unfold blk
  pointwise [val_main_v70, val_main_v69]

theorem taps_at (h : Fin 2) (n : Fin 4) (k : Fin 3) (j : Fin 1408) : val_main_v71 (F := Ideal) A D W B (ix4 h n k j)
    = val_main_v68 (F := Ideal) A D W B (ix3 (blk h n) k j) := by
  unfold blk
  pointwise [val_main_v71]

theorem biases_at (h : Fin 2) (n : Fin 4) (o : Fin 1) (j : Fin 1408) : val_main_v72 (F := Ideal) A D W B (ix4 h n o j)
    = val_main_v48 (F := Ideal) A D W B (ix2 (blk h n) j) := by
  unfold blk
  pointwise [val_main_v72]

variable (hd : ∀ R j, IsReal (D (ix2 R j))) (hv : ∀ (n : Fin 4) R j, IsReal (chan A W B ⟨4 + n.val, by omega⟩ R j))

include hd hv

theorem dc_at (h : Fin 2) (n : Fin 4) (R : Fin 4096) (j : Fin 1408) : val_main_v45 (F := Ideal) A D W B (ix3 (blk h n) R j)
    = dcOf A D W B n R j h := by
  match h with
  | 0 =>
    rw [blk_gate]
    exact (dc_gate A D W B n R j).trans (gate_grad _ _ _ (hd _ _) (hv n R j))
  | 1 =>
    rw [blk_value]
    exact dc_value A D W B n R j

theorem reference_dc : val_main_v70 (F := Ideal) A D W B = fun i => dcOf A D W B (i 1) (i 2) (i 3) (i 0) := by
  funext i
  exact ((congrArg _ (eq_ix4 i)).trans (rows_at A D W B (i 0) (i 1) (i 2) (i 3))).trans (dc_at A D W B hd hv (i 0) (i 1) (i 2) (i 3))

theorem dw_whole (h : Fin 2) (n : Fin 4) (k : Fin 3) (j : Fin 1408) : val_main_v68 (F := Ideal) A D W B (ix3 (blk h n) k j)
    = dwOf A D W B h n k j :=
  (dw_at A D W B (blk h n) k j).trans
    (Finset.sum_congr rfl fun R _ => congrArg (lag (col A (blk h n) j) k R * ·) (dc_at A D W B hd hv h n R j))

theorem reference_dw : val_main_v71 (F := Ideal) A D W B = fun i => dwOf A D W B (i 0) (i 1) (i 2) (i 3) := by
  funext i
  exact ((congrArg _ (eq_ix4 i)).trans (taps_at A D W B (i 0) (i 1) (i 2) (i 3))).trans (dw_whole A D W B hd hv (i 0) (i 1) (i 2) (i 3))

theorem db_whole (h : Fin 2) (n : Fin 4) (j : Fin 1408) : val_main_v48 (F := Ideal) A D W B (ix2 (blk h n) j) = dbOf A D W B h n j :=
  (db_at A D W B (blk h n) j).trans (Finset.sum_congr rfl fun R _ => dc_at A D W B hd hv h n R j)

theorem reference_db : val_main_v72 (F := Ideal) A D W B = fun i => dbOf A D W B (i 0) (i 1) (i 3) := by
  funext i
  exact ((congrArg _ (eq_ix4 i)).trans (biases_at A D W B (i 0) (i 1) (i 2) (i 3))).trans (db_whole A D W B hd hv (i 0) (i 1) (i 3))

end Cert.Gate

namespace Cert.Proof

/-- On finite values, taps, biases and gradients of the gated rows the kernel's three results are the plain gradient's. -/
theorem convgate_value : Cert.algebraic_GateKernelIdeal_GateReferenceIdeal_pre_finite_gate := by
  intro m g m' g' hpre hag
  refine ⟨fun c => (Cert.GateKernelIdeal.Gen.dats m 0 c).arrAt 9 Cert.GateKernelIdeal.cfg0.N,
    fun c => (Cert.GateKernelIdeal.Gen.dats m 0 c).arrAt 10 Cert.GateKernelIdeal.cfg0.N,
    fun c => (Cert.GateKernelIdeal.Gen.dats m 0 c).arrAt 11 Cert.GateKernelIdeal.cfg0.N, Cert.GateKernelIdeal.Value.run_blocks m g,
    (θ_run _ _ _).mono (fun r h c => ?_) (Cert.GateReferenceIdeal.Value.run m' g')⟩
  obtain ⟨h0, h1, h2, h3⟩ := h c
  obtain ⟨e0, e1, e2, e3⟩ := hag c
  have hd := Cert.Gate.dact_real _ _ _ _ (hpre c).2.1
  have hv := Cert.Gate.value_real _ _ _ _ (hpre c).1 (hpre c).2.2.1 (hpre c).2.2.2
  refine ⟨h0.trans ((Cert.GateReferenceIdeal.Read.val_main_v70_eq m' c).trans ?_),
    h1.trans ((Cert.GateReferenceIdeal.Read.val_main_v71_eq m' c).trans ?_),
    h2.trans ((Cert.GateReferenceIdeal.Read.val_main_v72_eq m' c).trans ?_), h3⟩
  · rw [e0, e1, e2, e3]
    exact (Cert.Gate.reference_dc _ _ _ _ hd hv).trans (Cert.Gate.final9 m c).symm
  · rw [e0, e1, e2, e3]
    exact (Cert.Gate.reference_dw _ _ _ _ hd hv).trans (Cert.Gate.final10 m c).symm
  · rw [e0, e1, e2, e3]
    exact (Cert.Gate.reference_db _ _ _ _ hd hv).trans (Cert.Gate.final11 m c).symm

end Cert.Proof
-- ==== Proof.Finb.lean ====
module

public import proofs.«01_k».proof.Defs
public import proofs.«01_k».proof.Proof.Gen.FinbKernelIdeal.Value
public import proofs.«01_k».proof.Proof.Gen.FinbReferenceIdeal.Read
public import Idealize.ShloMosaic.Lib.Pipeline.ValueKit
public import Idealize.ShloMosaic.Lib.Pointwise

/-!
# The last two layers' input projection: the normed rows against the projection's columns
-/

@[expose] public section

set_option maxRecDepth 16384

noncomputable section

open Idealize.ShloMosaic Idealize.ShloMosaic.TcCoe Idealize.SL.Sem

namespace Cert.FinbKernelIdeal.Value

open Cert.FinbKernelIdeal Cert.FinbKernelIdeal.Gen

/-- The input projection of row `r` at column `j`. -/
def inOf (H : FVec Ideal S4096x2048 .bf16) (W : FVec Ideal S2048x1024 .bf16) (r : Fin 4096) (j : Fin 1024) : EReal :=
  ∑ k : Fin 2048, H (ix2 r k) * W (ix2 k j)

/-- One tile of the body: rows of the one block against columns of the other. -/
theorem tile_at (x : FVec Ideal S1024x2048 .bf16) (w : FVec Ideal S2048x1024 .bf16) (r : Fin 1024) (j : Fin 1024) :
    k0_pay1 (F := Ideal) x w (ix2 r j) = ∑ k : Fin 2048, x (ix2 r k) * w (ix2 k j) := by
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The row of the whole array at row `r` of point `t`. -/
def rowAt (t : Fin cfg0.N) (r : Fin 1024) : Fin 4096 := ⟨t.val * 1024 + r.val, by have := (idx t).2.2.2; omega⟩

theorem read_rows (H : FVec Ideal S4096x2048 .bf16) (t : Fin cfg0.N) (r : Fin 1024) (k : Fin 2048) :
    ((cfg0.win 0).blk t).view.read (Elt Ideal) H (ix2 r k) = H (ix2 (rowAt t r) k) := by
  unfold rowAt
  blk_point [idx t]

theorem read_weight (W : FVec Ideal S2048x1024 .bf16) (t : Fin cfg0.N) (k : Fin 2048) (j : Fin 1024) :
    ((cfg0.win 1).blk t).view.read (Elt Ideal) W (ix2 k j) = W (ix2 k j) := by
  blk_point [idx t]

/-- The input projection, whole. -/
theorem inArray (c : Dev nD) : (dats m 0 c).arrAt 2 (cfgs 0).N
    = fun i => inOf (m ((c : Thread nD τ).loc main_arg0)) (m ((c : Thread nD τ).loc main_arg1)) (i 0) (i 1) := by
  refine (dats m 0 c).arrAt_eq_of_covers 2 _ (by decide +kernel) fun t _ y => ?_
  blk_simp
  rw [after0_2]
  have hp : out0_2 (iblk m c 0 t) (iblk m c 1 t) y = k0_pay1 (F := Ideal) (iblk m c 0 t) (iblk m c 1 t) y := by
    frame_out
  refine hp.trans ?_
  have e0 : (((cfg0.win 2).blk t).view.emb y) 0 = rowAt t (y 0) := by
    apply Fin.ext
    blk_simp [idx t, rowAt]
  have e1 : (((cfg0.win 2).blk t).view.emb y) 1 = y 1 := by
    apply Fin.ext
    blk_simp [idx t]
  rw [e0, e1]
  refine (congrArg _ (eq_ix2 y)).trans ((tile_at _ _ (y 0) (y 1)).trans ?_)
  refine Finset.sum_congr rfl fun k _ => ?_
  exact congrArg₂ (fun a b : EReal => a * b) (read_rows _ t (y 0) k) (read_weight _ t k (y 1))

end Cert.FinbKernelIdeal.Value

namespace Cert.FinbReferenceIdeal.Value

open Cert.FinbReferenceIdeal Cert.FinbReferenceIdeal.Read

theorem ref_at (H : FVec Ideal S4096x2048 .bf16) (W : FVec Ideal S2048x1024 .bf16) (r : Fin 4096) (j : Fin 1024) :
    val_main_v3 (F := Ideal) H W (ix2 r j) = Cert.FinbKernelIdeal.Value.inOf H W r j := by
  unfold Cert.FinbKernelIdeal.Value.inOf
  pointwise [val_main_v3, val_main_v2, val_main_v1, val_main_v0]

end Cert.FinbReferenceIdeal.Value

namespace Cert.Proof

attribute [local instance] Cert.FinbKernelIdeal.Gen.facts Cert.FinbReferenceIdeal.Gen.facts

/-- The kernel's input projection is the plain one. -/
theorem finb_value : Cert.algebraic_FinbKernelIdeal_FinbReferenceIdeal := by
  intro m g m' g' hpre hag
  refine ⟨fun c => (Cert.FinbKernelIdeal.Gen.dats m 0 c).arrAt 2 Cert.FinbKernelIdeal.cfg0.N, Cert.FinbKernelIdeal.Value.run_blocks m g,
    (θ_run _ _ _).mono (fun r h c => ?_) (Cert.FinbReferenceIdeal.Value.run m' g')⟩
  obtain ⟨h0, h1⟩ := h c
  obtain ⟨e0, e1⟩ := hag c
  refine ⟨h0.trans ((Cert.FinbReferenceIdeal.Read.val_main_v3_eq _ _).trans ?_), h1⟩
  rw [e0, e1]
  refine Eq.trans ?_ (Cert.FinbKernelIdeal.Value.inArray m c).symm
  funext i
  exact (congrArg _ (eq_ix2 i)).trans (Cert.FinbReferenceIdeal.Value.ref_at _ _ (i 0) (i 1))

end Cert.Proof
-- ==== Proof.lean ====
module

public import proofs.«01_k».proof.Defs
public import proofs.«01_k».proof.Proof.Gen.MlaKernel.Frame
public import proofs.«01_k».proof.Proof.Gen.MlaKernelIdeal.Frame
public import proofs.«01_k».proof.Proof.Gen.MlaKernelIdeal.Value
public import proofs.«01_k».proof.Proof.Gen.MlaReferenceIdeal.Read
public import proofs.«01_k».proof.Proof.MlaClaim
public import proofs.«01_k».proof.Proof.Gen.MemKernel.Frame
public import proofs.«01_k».proof.Proof.Gen.MemKernelIdeal.Frame
public import proofs.«01_k».proof.Proof.Gen.MemKernelIdeal.Value
public import proofs.«01_k».proof.Proof.Gen.MemReferenceIdeal.Read
public import proofs.«01_k».proof.Proof.MemClaim
public import proofs.«01_k».proof.Proof.Gen.DactKernel.Frame
public import proofs.«01_k».proof.Proof.Gen.DactKernelIdeal.Frame
public import proofs.«01_k».proof.Proof.Gen.DactKernelIdeal.Value
public import proofs.«01_k».proof.Proof.Gen.DactReferenceIdeal.Read
public import proofs.«01_k».proof.Proof.Dact
public import proofs.«01_k».proof.Proof.Gen.DwdownKernel.Frame
public import proofs.«01_k».proof.Proof.Gen.DwdownKernelIdeal.Frame
public import proofs.«01_k».proof.Proof.Gen.DwdownKernelIdeal.Value
public import proofs.«01_k».proof.Proof.Gen.DwdownReferenceIdeal.Read
public import proofs.«01_k».proof.Proof.Dwdown
public import proofs.«01_k».proof.Proof.Gen.DwupKernel.Frame
public import proofs.«01_k».proof.Proof.Gen.DwupKernelIdeal.Frame
public import proofs.«01_k».proof.Proof.Gen.DwupKernelIdeal.Value
public import proofs.«01_k».proof.Proof.Gen.DwupReferenceIdeal.Read
public import proofs.«01_k».proof.Proof.Dwup
public import proofs.«01_k».proof.Proof.Gen.DhKernel.Frame
public import proofs.«01_k».proof.Proof.Gen.DhKernelIdeal.Frame
public import proofs.«01_k».proof.Proof.Gen.DhKernelIdeal.Value
public import proofs.«01_k».proof.Proof.Gen.DhReferenceIdeal.Read
public import proofs.«01_k».proof.Proof.Dh
public import proofs.«01_k».proof.Proof.Gen.ConvinKernel.Frame
public import proofs.«01_k».proof.Proof.Gen.ConvinKernelIdeal.Frame
public import proofs.«01_k».proof.Proof.Gen.ConvinKernelIdeal.Value
public import proofs.«01_k».proof.Proof.Gen.ConvinReferenceIdeal.Read
public import proofs.«01_k».proof.Proof.Convin
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Read
public import proofs.«01_k».proof.Proof.Norm
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal.Read
public import proofs.«01_k».proof.Proof.Mix
public import proofs.«01_k».proof.Proof.Gen.DwoutKernel.Frame
public import proofs.«01_k».proof.Proof.Gen.DwoutKernelIdeal.Frame
public import proofs.«01_k».proof.Proof.Gen.DwoutKernelIdeal.Value
public import proofs.«01_k».proof.Proof.Gen.DwoutReferenceIdeal.Read
public import proofs.«01_k».proof.Proof.Dwout
public import proofs.«01_k».proof.Proof.Gen.DhaKernel.Frame
public import proofs.«01_k».proof.Proof.Gen.DhaKernelIdeal.Frame
public import proofs.«01_k».proof.Proof.Gen.DhaKernelIdeal.Value
public import proofs.«01_k».proof.Proof.Gen.DhaReferenceIdeal.Read
public import proofs.«01_k».proof.Proof.Dha
public import proofs.«01_k».proof.Proof.Gen.DwinaKernel.Frame
public import proofs.«01_k».proof.Proof.Gen.DwinaKernelIdeal.Frame
public import proofs.«01_k».proof.Proof.Gen.DwinaKernelIdeal.Value
public import proofs.«01_k».proof.Proof.Gen.DwinaReferenceIdeal.Read
public import proofs.«01_k».proof.Proof.Dwina
public import proofs.«01_k».proof.Proof.Gen.FupKernel.Frame
public import proofs.«01_k».proof.Proof.Gen.FupKernelIdeal.Frame
public import proofs.«01_k».proof.Proof.Gen.FupKernelIdeal.Value
public import proofs.«01_k».proof.Proof.Gen.FupReferenceIdeal.Read
public import proofs.«01_k».proof.Proof.Fup
public import proofs.«01_k».proof.Proof.Gen.FdownKernel.Frame
public import proofs.«01_k».proof.Proof.Gen.FdownKernelIdeal.Frame
public import proofs.«01_k».proof.Proof.Gen.FdownKernelIdeal.Value
public import proofs.«01_k».proof.Proof.Gen.FdownReferenceIdeal.Read
public import proofs.«01_k».proof.Proof.Fdown
public import proofs.«01_k».proof.Proof.Gen.FoutKernel.Frame
public import proofs.«01_k».proof.Proof.Gen.FoutKernelIdeal.Frame
public import proofs.«01_k».proof.Proof.Gen.FoutKernelIdeal.Value
public import proofs.«01_k».proof.Proof.Gen.FoutReferenceIdeal.Read
public import proofs.«01_k».proof.Proof.Fout
public import proofs.«01_k».proof.Proof.Gen.FinaKernel.Frame
public import proofs.«01_k».proof.Proof.Gen.FinaKernelIdeal.Frame
public import proofs.«01_k».proof.Proof.Gen.FinaKernelIdeal.Value
public import proofs.«01_k».proof.Proof.Gen.FinaReferenceIdeal.Read
public import proofs.«01_k».proof.Proof.Fina
public import proofs.«01_k».proof.Proof.Gen.DhbKernel.Frame
public import proofs.«01_k».proof.Proof.Gen.DhbKernelIdeal.Frame
public import proofs.«01_k».proof.Proof.Gen.DhbKernelIdeal.Value
public import proofs.«01_k».proof.Proof.Gen.DhbReferenceIdeal.Read
public import proofs.«01_k».proof.Proof.Dhb
public import proofs.«01_k».proof.Proof.Gen.DwinbKernel.Frame
public import proofs.«01_k».proof.Proof.Gen.DwinbKernelIdeal.Frame
public import proofs.«01_k».proof.Proof.Gen.DwinbKernelIdeal.Value
public import proofs.«01_k».proof.Proof.Gen.DwinbReferenceIdeal.Read
public import proofs.«01_k».proof.Proof.Dwinb
public import proofs.«01_k».proof.Proof.Gen.MhafKernel.Frame
public import proofs.«01_k».proof.Proof.Gen.MhafKernelIdeal.Frame
public import proofs.«01_k».proof.Proof.Gen.MhafKernelIdeal.Value
public import proofs.«01_k».proof.Proof.Gen.MhafReferenceIdeal.Read
public import proofs.«01_k».proof.Proof.MhafClaim
public import proofs.«01_k».proof.Proof.Gen.SguKernel.Frame
public import proofs.«01_k».proof.Proof.Gen.SguKernelIdeal.Frame
public import proofs.«01_k».proof.Proof.Gen.SguKernelIdeal.Value
public import proofs.«01_k».proof.Proof.Gen.SguReferenceIdeal.Read
public import proofs.«01_k».proof.Proof.SguReference
public import proofs.«01_k».proof.Proof.Gen.FsguKernel.Frame
public import proofs.«01_k».proof.Proof.Gen.FsguKernelIdeal.Frame
public import proofs.«01_k».proof.Proof.Gen.FsguKernelIdeal.Value
public import proofs.«01_k».proof.Proof.Gen.FsguReferenceIdeal.Read
public import proofs.«01_k».proof.Proof.Fsgu
public import proofs.«01_k».proof.Proof.Gen.FmemKernel.Frame
public import proofs.«01_k».proof.Proof.Gen.FmemKernelIdeal.Frame
public import proofs.«01_k».proof.Proof.Gen.FmemKernelIdeal.Value
public import proofs.«01_k».proof.Proof.Gen.FmemReferenceIdeal.Read
public import proofs.«01_k».proof.Proof.Fmem
public import proofs.«01_k».proof.Proof.Gen.FconvKernel.Frame
public import proofs.«01_k».proof.Proof.Gen.FconvKernelIdeal.Frame
public import proofs.«01_k».proof.Proof.Gen.FconvKernelIdeal.Value
public import proofs.«01_k».proof.Proof.Gen.FconvReferenceIdeal.Read
public import proofs.«01_k».proof.Proof.Fconv
public import proofs.«01_k».proof.Proof.Gen.GateKernel.Frame
public import proofs.«01_k».proof.Proof.Gen.GateKernelIdeal.Frame
public import proofs.«01_k».proof.Proof.Gen.GateKernelIdeal.Value
public import proofs.«01_k».proof.Proof.Gen.GateReferenceIdeal.Read
public import proofs.«01_k».proof.Proof.GateClaim
public import proofs.«01_k».proof.Proof.Gen.FinbKernel.Frame
public import proofs.«01_k».proof.Proof.Gen.FinbKernelIdeal.Frame
public import proofs.«01_k».proof.Proof.Gen.FinbKernelIdeal.Value
public import proofs.«01_k».proof.Proof.Gen.FinbReferenceIdeal.Read
public import proofs.«01_k».proof.Proof.Finb
public import Idealize.ShloMosaic.Lib.Claim
public import Idealize.ShloMosaic.Adequacy
public import Idealize.ShloMosaic.Init

@[expose] public section

noncomputable section

namespace Cert.Proof

open Idealize.ShloMosaic Idealize.SL.Sem

/-- The reference of the causal attention's gradient runs, and leaves its arguments and the counters as they were. -/
theorem frame_mla_reference : Cert.quiescent_MlaReferenceIdeal (hMlaReferenceIdeal := Cert.MlaReferenceIdeal.Gen.facts) := fun m ρ _ =>
  (θ_run _ _ _).mono (fun r h => ⟨fun c => (h c).2.2.2, sem_eq_zero_of_no_sems (by decide) r.2⟩) (Cert.MlaReferenceIdeal.Value.run m ρ)

/-- The reference of the memory attention's gradient runs, and leaves its arguments and the counters as they were. -/
theorem frame_mem_reference : Cert.quiescent_MemReferenceIdeal (hMemReferenceIdeal := Cert.MemReferenceIdeal.Gen.facts) := fun m ρ _ =>
  (θ_run _ _ _).mono (fun r h => ⟨fun c => (h c).2.2, sem_eq_zero_of_no_sems (by decide) r.2⟩) (Cert.MemReferenceIdeal.Value.run m ρ)

/-- The reference of the feed-forward activations' gradient runs, and leaves its arguments and the counters as they were. -/
theorem frame_dact_reference : Cert.quiescent_DactReferenceIdeal (hDactReferenceIdeal := Cert.DactReferenceIdeal.Gen.facts) := fun m ρ _ =>
  (θ_run _ _ _).mono (fun r h => ⟨fun c => (h c).2, sem_eq_zero_of_no_sems (by decide) r.2⟩) (Cert.DactReferenceIdeal.Value.run m ρ)

/-- The reference of the down-projection's gradient runs, and leaves its arguments and the counters as they were. -/
theorem frame_dwdown_reference : Cert.quiescent_DwdownReferenceIdeal (hDwdownReferenceIdeal := Cert.DwdownReferenceIdeal.Gen.facts) := fun m ρ _ =>
  (θ_run _ _ _).mono (fun r h => ⟨fun c => (h c).2, sem_eq_zero_of_no_sems (by decide) r.2⟩) (Cert.DwdownReferenceIdeal.Value.run m ρ)

/-- The reference of the up-projection's gradient runs, and leaves its arguments and the counters as they were. -/
theorem frame_dwup_reference : Cert.quiescent_DwupReferenceIdeal (hDwupReferenceIdeal := Cert.DwupReferenceIdeal.Gen.facts) := fun m ρ _ =>
  (θ_run _ _ _).mono (fun r h => ⟨fun c => (h c).2, sem_eq_zero_of_no_sems (by decide) r.2⟩) (Cert.DwupReferenceIdeal.Value.run m ρ)

/-- The reference of the normed rows' gradient runs, and leaves its arguments and the counters as they were. -/
theorem frame_dh_reference : Cert.quiescent_DhReferenceIdeal (hDhReferenceIdeal := Cert.DhReferenceIdeal.Gen.facts) := fun m ρ _ =>
  (θ_run _ _ _).mono (fun r h => ⟨fun c => (h c).2, sem_eq_zero_of_no_sems (by decide) r.2⟩) (Cert.DhReferenceIdeal.Value.run m ρ)

/-- The reference of the convolution's row gradient runs, and leaves its arguments and the counters as they were. -/
theorem frame_convin_reference : Cert.quiescent_ConvinReferenceIdeal (hConvinReferenceIdeal := Cert.ConvinReferenceIdeal.Gen.facts) := fun m ρ _ =>
  (θ_run _ _ _).mono (fun r h => ⟨fun c => (h c).2, sem_eq_zero_of_no_sems (by decide) r.2⟩) (Cert.ConvinReferenceIdeal.Value.run m ρ)

/-- The reference of the norm's gradient runs, and leaves its arguments and the counters as they were. -/
theorem frame_norm_reference : Cert.quiescent_NormReferenceIdeal (hNormReferenceIdeal := Cert.NormReferenceIdeal.Gen.facts) := fun m ρ _ =>
  (θ_run _ _ _).mono (fun r h => ⟨fun c => (h c).2.2.2, sem_eq_zero_of_no_sems (by decide) r.2⟩) (Cert.NormReferenceIdeal.Value.run m ρ)

/-- The reference of the gradient of the mixed heads runs, and leaves its arguments and the counters as they were. -/
theorem frame_mix_reference : Cert.quiescent_MixReferenceIdeal (hMixReferenceIdeal := Cert.MixReferenceIdeal.Gen.facts) := fun m ρ _ =>
  (θ_run _ _ _).mono (fun r h => ⟨fun c => (h c).2, sem_eq_zero_of_no_sems (by decide) r.2⟩) (Cert.MixReferenceIdeal.Value.run m ρ)

/-- The reference of the output projection's gradient runs, and leaves its arguments and the counters as they were. -/
theorem frame_dwout_reference : Cert.quiescent_DwoutReferenceIdeal (hDwoutReferenceIdeal := Cert.DwoutReferenceIdeal.Gen.facts) := fun m ρ _ =>
  (θ_run _ _ _).mono (fun r h => ⟨fun c => (h c).2, sem_eq_zero_of_no_sems (by decide) r.2⟩) (Cert.DwoutReferenceIdeal.Value.run m ρ)

/-- The reference of the gradient of the input projection's rows runs, and leaves its arguments and the counters as they were. -/
theorem frame_dha_reference : Cert.quiescent_DhaReferenceIdeal (hDhaReferenceIdeal := Cert.DhaReferenceIdeal.Gen.facts) := fun m ρ _ =>
  (θ_run _ _ _).mono (fun r h => ⟨fun c => (h c).2, sem_eq_zero_of_no_sems (by decide) r.2⟩) (Cert.DhaReferenceIdeal.Value.run m ρ)

/-- The reference of the input projection's gradient runs, and leaves its arguments and the counters as they were. -/
theorem frame_dwina_reference : Cert.quiescent_DwinaReferenceIdeal (hDwinaReferenceIdeal := Cert.DwinaReferenceIdeal.Gen.facts) := fun m ρ _ =>
  (θ_run _ _ _).mono (fun r h => ⟨fun c => (h c).2, sem_eq_zero_of_no_sems (by decide) r.2⟩) (Cert.DwinaReferenceIdeal.Value.run m ρ)

/-- The reference of the up-projection runs, and leaves its arguments and the counters as they were. -/
theorem frame_fup_reference : Cert.quiescent_FupReferenceIdeal (hFupReferenceIdeal := Cert.FupReferenceIdeal.Gen.facts) := fun m ρ _ =>
  (θ_run _ _ _).mono (fun r h => ⟨fun c => (h c).2, sem_eq_zero_of_no_sems (by decide) r.2⟩) (Cert.FupReferenceIdeal.Value.run m ρ)

/-- The reference of the down-projection runs, and leaves its arguments and the counters as they were. -/
theorem frame_fdown_reference : Cert.quiescent_FdownReferenceIdeal (hFdownReferenceIdeal := Cert.FdownReferenceIdeal.Gen.facts) := fun m ρ _ =>
  (θ_run _ _ _).mono (fun r h => ⟨fun c => (h c).2, sem_eq_zero_of_no_sems (by decide) r.2⟩) (Cert.FdownReferenceIdeal.Value.run m ρ)

/-- The reference of the output projection runs, and leaves its arguments and the counters as they were. -/
theorem frame_fout_reference : Cert.quiescent_FoutReferenceIdeal (hFoutReferenceIdeal := Cert.FoutReferenceIdeal.Gen.facts) := fun m ρ _ =>
  (θ_run _ _ _).mono (fun r h => ⟨fun c => (h c).2, sem_eq_zero_of_no_sems (by decide) r.2⟩) (Cert.FoutReferenceIdeal.Value.run m ρ)

/-- The reference of the input projection runs, and leaves its arguments and the counters as they were. -/
theorem frame_fina_reference : Cert.quiescent_FinaReferenceIdeal (hFinaReferenceIdeal := Cert.FinaReferenceIdeal.Gen.facts) := fun m ρ _ =>
  (θ_run _ _ _).mono (fun r h => ⟨fun c => (h c).2, sem_eq_zero_of_no_sems (by decide) r.2⟩) (Cert.FinaReferenceIdeal.Value.run m ρ)

/-- The reference of the gradient of the later layers' input projection's rows runs, and leaves its arguments and the counters as they were. -/
theorem frame_dhb_reference : Cert.quiescent_DhbReferenceIdeal (hDhbReferenceIdeal := Cert.DhbReferenceIdeal.Gen.facts) := fun m ρ _ =>
  (θ_run _ _ _).mono (fun r h => ⟨fun c => (h c).2, sem_eq_zero_of_no_sems (by decide) r.2⟩) (Cert.DhbReferenceIdeal.Value.run m ρ)

/-- The reference of the later layers' input projection's gradient runs, and leaves its arguments and the counters as they were. -/
theorem frame_dwinb_reference : Cert.quiescent_DwinbReferenceIdeal (hDwinbReferenceIdeal := Cert.DwinbReferenceIdeal.Gen.facts) := fun m ρ _ =>
  (θ_run _ _ _).mono (fun r h => ⟨fun c => (h c).2, sem_eq_zero_of_no_sems (by decide) r.2⟩) (Cert.DwinbReferenceIdeal.Value.run m ρ)

/-- The reference of the causal attention forward runs, and leaves its arguments and the counters as they were. -/
theorem frame_mhaf_reference : Cert.quiescent_MhafReferenceIdeal (hMhafReferenceIdeal := Cert.MhafReferenceIdeal.Gen.facts) := fun m ρ _ =>
  (θ_run _ _ _).mono (fun r h => ⟨fun c => (h c).2.2, sem_eq_zero_of_no_sems (by decide) r.2⟩) (Cert.MhafReferenceIdeal.Value.run m ρ)

/-- The reference of the spatial gate's gradient runs, and leaves its arguments and the counters as they were. -/
theorem frame_sgu_reference : Cert.quiescent_SguReferenceIdeal (hSguReferenceIdeal := Cert.SguReferenceIdeal.Gen.facts) := fun m ρ _ =>
  (θ_run _ _ _).mono (fun r h => ⟨fun c => (h c).2.2.2.2, sem_eq_zero_of_no_sems (by decide) r.2⟩) (Cert.SguReferenceIdeal.Value.run m ρ)

/-- The reference of the spatial gate runs, and leaves its arguments and the counters as they were. -/
theorem frame_fsgu_reference : Cert.quiescent_FsguReferenceIdeal (hFsguReferenceIdeal := Cert.FsguReferenceIdeal.Gen.facts) := fun m ρ _ =>
  (θ_run _ _ _).mono (fun r h => ⟨fun c => (h c).2, sem_eq_zero_of_no_sems (by decide) r.2⟩) (Cert.FsguReferenceIdeal.Value.run m ρ)

/-- The reference of the memory attention forward runs, and leaves its arguments and the counters as they were. -/
theorem frame_fmem_reference : Cert.quiescent_FmemReferenceIdeal (hFmemReferenceIdeal := Cert.FmemReferenceIdeal.Gen.facts) := fun m ρ _ =>
  (θ_run _ _ _).mono (fun r h => ⟨fun c => (h c).2, sem_eq_zero_of_no_sems (by decide) r.2⟩) (Cert.FmemReferenceIdeal.Value.run m ρ)

/-- The reference of the gated convolution runs, and leaves its arguments and the counters as they were. -/
theorem frame_fconv_reference : Cert.quiescent_FconvReferenceIdeal (hFconvReferenceIdeal := Cert.FconvReferenceIdeal.Gen.facts) := fun m ρ _ =>
  (θ_run _ _ _).mono (fun r h => ⟨fun c => (h c).2, sem_eq_zero_of_no_sems (by decide) r.2⟩) (Cert.FconvReferenceIdeal.Value.run m ρ)

/-- The reference of the gated convolution's gradient runs, and leaves its arguments and the counters as they were. -/
theorem frame_gate_reference : Cert.quiescent_GateReferenceIdeal (hGateReferenceIdeal := Cert.GateReferenceIdeal.Gen.facts) := fun m ρ _ =>
  (θ_run _ _ _).mono (fun r h => ⟨fun c => (h c).2.2.2, sem_eq_zero_of_no_sems (by decide) r.2⟩) (Cert.GateReferenceIdeal.Value.run m ρ)

/-- The reference of the last two layers' input projection runs, and leaves its arguments and the counters as they were. -/
theorem frame_finb_reference : Cert.quiescent_FinbReferenceIdeal (hFinbReferenceIdeal := Cert.FinbReferenceIdeal.Gen.facts) := fun m ρ _ =>
  (θ_run _ _ _).mono (fun r h => ⟨fun c => (h c).2, sem_eq_zero_of_no_sems (by decide) r.2⟩) (Cert.FinbReferenceIdeal.Value.run m ρ)

theorem claim : Cert.Claim := ⟨Cert.MlaKernel.Gen.facts,
  Cert.MlaKernelIdeal.Gen.facts,
  Cert.MlaReferenceIdeal.Gen.facts,
  Cert.MemKernel.Gen.facts,
  Cert.MemKernelIdeal.Gen.facts,
  Cert.MemReferenceIdeal.Gen.facts,
  Cert.DactKernel.Gen.facts,
  Cert.DactKernelIdeal.Gen.facts,
  Cert.DactReferenceIdeal.Gen.facts,
  Cert.DwdownKernel.Gen.facts,
  Cert.DwdownKernelIdeal.Gen.facts,
  Cert.DwdownReferenceIdeal.Gen.facts,
  Cert.DwupKernel.Gen.facts,
  Cert.DwupKernelIdeal.Gen.facts,
  Cert.DwupReferenceIdeal.Gen.facts,
  Cert.DhKernel.Gen.facts,
  Cert.DhKernelIdeal.Gen.facts,
  Cert.DhReferenceIdeal.Gen.facts,
  Cert.ConvinKernel.Gen.facts,
  Cert.ConvinKernelIdeal.Gen.facts,
  Cert.ConvinReferenceIdeal.Gen.facts,
  Cert.NormKernel.Gen.facts,
  Cert.NormKernelIdeal.Gen.facts,
  Cert.NormReferenceIdeal.Gen.facts,
  Cert.MixKernel.Gen.facts,
  Cert.MixKernelIdeal.Gen.facts,
  Cert.MixReferenceIdeal.Gen.facts,
  Cert.DwoutKernel.Gen.facts,
  Cert.DwoutKernelIdeal.Gen.facts,
  Cert.DwoutReferenceIdeal.Gen.facts,
  Cert.DhaKernel.Gen.facts,
  Cert.DhaKernelIdeal.Gen.facts,
  Cert.DhaReferenceIdeal.Gen.facts,
  Cert.DwinaKernel.Gen.facts,
  Cert.DwinaKernelIdeal.Gen.facts,
  Cert.DwinaReferenceIdeal.Gen.facts,
  Cert.FupKernel.Gen.facts,
  Cert.FupKernelIdeal.Gen.facts,
  Cert.FupReferenceIdeal.Gen.facts,
  Cert.FdownKernel.Gen.facts,
  Cert.FdownKernelIdeal.Gen.facts,
  Cert.FdownReferenceIdeal.Gen.facts,
  Cert.FoutKernel.Gen.facts,
  Cert.FoutKernelIdeal.Gen.facts,
  Cert.FoutReferenceIdeal.Gen.facts,
  Cert.FinaKernel.Gen.facts,
  Cert.FinaKernelIdeal.Gen.facts,
  Cert.FinaReferenceIdeal.Gen.facts,
  Cert.DhbKernel.Gen.facts,
  Cert.DhbKernelIdeal.Gen.facts,
  Cert.DhbReferenceIdeal.Gen.facts,
  Cert.DwinbKernel.Gen.facts,
  Cert.DwinbKernelIdeal.Gen.facts,
  Cert.DwinbReferenceIdeal.Gen.facts,
  Cert.MhafKernel.Gen.facts,
  Cert.MhafKernelIdeal.Gen.facts,
  Cert.MhafReferenceIdeal.Gen.facts,
  Cert.SguKernel.Gen.facts,
  Cert.SguKernelIdeal.Gen.facts,
  Cert.SguReferenceIdeal.Gen.facts,
  Cert.FsguKernel.Gen.facts,
  Cert.FsguKernelIdeal.Gen.facts,
  Cert.FsguReferenceIdeal.Gen.facts,
  Cert.FmemKernel.Gen.facts,
  Cert.FmemKernelIdeal.Gen.facts,
  Cert.FmemReferenceIdeal.Gen.facts,
  Cert.FconvKernel.Gen.facts,
  Cert.FconvKernelIdeal.Gen.facts,
  Cert.FconvReferenceIdeal.Gen.facts,
  Cert.GateKernel.Gen.facts,
  Cert.GateKernelIdeal.Gen.facts,
  Cert.GateReferenceIdeal.Gen.facts,
  Cert.FinbKernel.Gen.facts,
  Cert.FinbKernelIdeal.Gen.facts,
  Cert.FinbReferenceIdeal.Gen.facts,
  Cert.MlaEq.facts,
  Cert.MemEq.facts,
  Cert.MhafClaim.facts,
  Cert.Gate.facts,
  fun m ρ _ => Cert.MlaKernel.Gen.frame m ρ,
  fun m ρ _ => Cert.MlaKernelIdeal.Gen.frame m ρ,
  fun m ρ _ => Cert.MlaKernelIdeal.Gen.frame m ρ,
  frame_mla_reference,
  fun m ρ _ => frame_mla_reference m ρ trivial,
  fun m ρ _ => Cert.MemKernel.Gen.frame m ρ,
  fun m ρ _ => Cert.MemKernelIdeal.Gen.frame m ρ,
  fun m ρ _ => Cert.MemKernelIdeal.Gen.frame m ρ,
  frame_mem_reference,
  fun m ρ _ => frame_mem_reference m ρ trivial,
  fun m ρ _ => Cert.DactKernel.Gen.frame m ρ,
  fun m ρ _ => Cert.DactKernelIdeal.Gen.frame m ρ,
  frame_dact_reference,
  fun m ρ _ => Cert.DwdownKernel.Gen.frame m ρ,
  fun m ρ _ => Cert.DwdownKernelIdeal.Gen.frame m ρ,
  frame_dwdown_reference,
  fun m ρ _ => Cert.DwupKernel.Gen.frame m ρ,
  fun m ρ _ => Cert.DwupKernelIdeal.Gen.frame m ρ,
  frame_dwup_reference,
  fun m ρ _ => Cert.DhKernel.Gen.frame m ρ,
  fun m ρ _ => Cert.DhKernelIdeal.Gen.frame m ρ,
  frame_dh_reference,
  fun m ρ _ => Cert.ConvinKernel.Gen.frame m ρ,
  fun m ρ _ => Cert.ConvinKernelIdeal.Gen.frame m ρ,
  frame_convin_reference,
  fun m ρ _ => Cert.NormKernel.Gen.frame m ρ,
  fun m ρ _ => Cert.NormKernelIdeal.Gen.frame m ρ,
  frame_norm_reference,
  fun m ρ _ => Cert.MixKernel.Gen.frame m ρ,
  fun m ρ _ => Cert.MixKernelIdeal.Gen.frame m ρ,
  frame_mix_reference,
  fun m ρ _ => Cert.DwoutKernel.Gen.frame m ρ,
  fun m ρ _ => Cert.DwoutKernelIdeal.Gen.frame m ρ,
  frame_dwout_reference,
  fun m ρ _ => Cert.DhaKernel.Gen.frame m ρ,
  fun m ρ _ => Cert.DhaKernelIdeal.Gen.frame m ρ,
  frame_dha_reference,
  fun m ρ _ => Cert.DwinaKernel.Gen.frame m ρ,
  fun m ρ _ => Cert.DwinaKernelIdeal.Gen.frame m ρ,
  frame_dwina_reference,
  fun m ρ _ => Cert.FupKernel.Gen.frame m ρ,
  fun m ρ _ => Cert.FupKernelIdeal.Gen.frame m ρ,
  frame_fup_reference,
  fun m ρ _ => Cert.FdownKernel.Gen.frame m ρ,
  fun m ρ _ => Cert.FdownKernelIdeal.Gen.frame m ρ,
  frame_fdown_reference,
  fun m ρ _ => Cert.FoutKernel.Gen.frame m ρ,
  fun m ρ _ => Cert.FoutKernelIdeal.Gen.frame m ρ,
  frame_fout_reference,
  fun m ρ _ => Cert.FinaKernel.Gen.frame m ρ,
  fun m ρ _ => Cert.FinaKernelIdeal.Gen.frame m ρ,
  frame_fina_reference,
  fun m ρ _ => Cert.DhbKernel.Gen.frame m ρ,
  fun m ρ _ => Cert.DhbKernelIdeal.Gen.frame m ρ,
  frame_dhb_reference,
  fun m ρ _ => Cert.DwinbKernel.Gen.frame m ρ,
  fun m ρ _ => Cert.DwinbKernelIdeal.Gen.frame m ρ,
  frame_dwinb_reference,
  fun m ρ _ => Cert.MhafKernel.Gen.frame m ρ,
  fun m ρ _ => Cert.MhafKernelIdeal.Gen.frame m ρ,
  fun m ρ _ => Cert.MhafKernelIdeal.Gen.frame m ρ,
  frame_mhaf_reference,
  fun m ρ _ => frame_mhaf_reference m ρ trivial,
  fun m ρ _ => Cert.SguKernel.Gen.frame m ρ,
  fun m ρ _ => Cert.SguKernelIdeal.Gen.frame m ρ,
  frame_sgu_reference,
  fun m ρ _ => Cert.FsguKernel.Gen.frame m ρ,
  fun m ρ _ => Cert.FsguKernelIdeal.Gen.frame m ρ,
  frame_fsgu_reference,
  fun m ρ _ => Cert.FmemKernel.Gen.frame m ρ,
  fun m ρ _ => Cert.FmemKernelIdeal.Gen.frame m ρ,
  frame_fmem_reference,
  fun m ρ _ => Cert.FconvKernel.Gen.frame m ρ,
  fun m ρ _ => Cert.FconvKernelIdeal.Gen.frame m ρ,
  frame_fconv_reference,
  fun m ρ _ => Cert.GateKernel.Gen.frame m ρ,
  fun m ρ _ => Cert.GateKernelIdeal.Gen.frame m ρ,
  fun m ρ _ => Cert.GateKernelIdeal.Gen.frame m ρ,
  frame_gate_reference,
  fun m ρ _ => frame_gate_reference m ρ trivial,
  fun m ρ _ => Cert.FinbKernel.Gen.frame m ρ,
  fun m ρ _ => Cert.FinbKernelIdeal.Gen.frame m ρ,
  frame_finb_reference,
  trivial,
  attention_value,
  trivial,
  memory_value,
  trivial,
  act_value,
  trivial,
  down_value,
  trivial,
  up_value,
  trivial,
  row_value,
  trivial,
  convin_value,
  trivial,
  norm_value,
  trivial,
  mix_value,
  trivial,
  out_value,
  trivial,
  inrow_value,
  trivial,
  in_value,
  trivial,
  fup_value,
  trivial,
  fdown_value,
  trivial,
  fout_value,
  trivial,
  fin_value,
  trivial,
  inrowb_value,
  trivial,
  inb_value,
  IdealRules.named_const.statement Cert.MhafKernelIdeal.κ "mask" .f32 0xF149F2CA#32 ⊥ rfl,
  forward_value,
  ⟨IdealRules.named_const.statement Cert.SguKernelIdeal.κ "half_root" .f32 0x3F3504F3#32 (((Real.sqrt 2)⁻¹ : ℝ) : EReal) rfl,
    IdealRules.named_const.statement Cert.SguKernelIdeal.κ "normal" .f32 0x3ECC422A#32 (((Real.sqrt (2 * Real.pi))⁻¹ : ℝ) : EReal) rfl⟩,
  gate_value,
  IdealRules.named_const.statement Cert.FsguKernelIdeal.κ "half_root" .f32 0x3F3504F3#32 (((Real.sqrt 2)⁻¹ : ℝ) : EReal) rfl,
  fgate_value,
  trivial,
  fmemory_value,
  trivial,
  fconv_value,
  trivial,
  convgate_value,
  trivial,
  finb_value⟩

end Cert.Proof

end
